-- ==== Defs.lean ====
def Pre_Kernel [hPre_routed : Cert.Pre_routed.Facts] (m : (ℓ : Loc Cert.Kernel.nD Cert.Kernel.τ Cert.Kernel.sig) → Buf (Elt Bits) ℓ) : Prop :=
  ∀ c : Dev Cert.Kernel.nD,
    (Cert.Pre_routed.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_Reference (m : (ℓ : Loc Cert.Reference.nD Cert.Reference.τ Cert.Reference.sig) → Buf (Elt Bits) ℓ) : Prop :=
  True

def Pre_Reference_routed [hPre_routed : Cert.Pre_routed.Facts] (m : (ℓ : Loc Cert.Reference.nD Cert.Reference.τ Cert.Reference.sig) → Buf (Elt Bits) ℓ) : Prop :=
  ∀ c : Dev Cert.Reference.nD,
    (Cert.Pre_routed.fn (F := Bits) (m ((c.tc : Thread Cert.Reference.nD Cert.Reference.τ).loc Cert.Reference.main_arg0)) (m ((c.tc : Thread Cert.Reference.nD Cert.Reference.τ).loc Cert.Reference.main_arg1)) (m ((c.tc : Thread Cert.Reference.nD Cert.Reference.τ).loc Cert.Reference.main_arg2)) (m ((c.tc : Thread Cert.Reference.nD Cert.Reference.τ).loc Cert.Reference.main_arg3)) (m ((c.tc : Thread Cert.Reference.nD Cert.Reference.τ).loc Cert.Reference.main_arg4)) (m ((c.tc : Thread Cert.Reference.nD Cert.Reference.τ).loc Cert.Reference.main_arg5)) (m ((c.tc : Thread Cert.Reference.nD Cert.Reference.τ).loc Cert.Reference.main_arg6))) = (fun _ => 1#1)

def Pre_Combine (m : (ℓ : Loc Cert.Combine.nD Cert.Combine.τ Cert.Combine.sig) → Buf (Elt Bits) ℓ) : Prop :=
  True

def Pre_CombineIdeal (m : (ℓ : Loc Cert.CombineIdeal.nD Cert.CombineIdeal.τ Cert.CombineIdeal.sig) → Buf (Elt Ideal) ℓ) : Prop :=
  True

def Pre_CombineReferenceIdeal (m : (ℓ : Loc Cert.CombineReferenceIdeal.nD Cert.CombineReferenceIdeal.τ Cert.CombineReferenceIdeal.sig) → Buf (Elt Ideal) ℓ) : Prop :=
  True

def Pre_Layout (m : (ℓ : Loc Cert.Layout.nD Cert.Layout.τ Cert.Layout.sig) → Buf (Elt Bits) ℓ) : Prop :=
  True

def Pre_Layout_experts [hPre_experts : Cert.Pre_experts.Facts] (m : (ℓ : Loc Cert.Layout.nD Cert.Layout.τ Cert.Layout.sig) → Buf (Elt Bits) ℓ) : Prop :=
  ∀ c : Dev Cert.Layout.nD,
    (Cert.Pre_experts.fn (F := Bits) (m ((c.tc : Thread Cert.Layout.nD Cert.Layout.τ).loc Cert.Layout.main_arg0)) (m ((c.tc : Thread Cert.Layout.nD Cert.Layout.τ).loc Cert.Layout.main_arg1))) = (fun _ => 1#1)

def Pre_LayoutReference (m : (ℓ : Loc Cert.LayoutReference.nD Cert.LayoutReference.τ Cert.LayoutReference.sig) → Buf (Elt Bits) ℓ) : Prop :=
  True

def Pre_LayoutReference_experts [hPre_experts : Cert.Pre_experts.Facts] (m : (ℓ : Loc Cert.LayoutReference.nD Cert.LayoutReference.τ Cert.LayoutReference.sig) → Buf (Elt Bits) ℓ) : Prop :=
  ∀ c : Dev Cert.LayoutReference.nD,
    (Cert.Pre_experts.fn (F := Bits) (m ((c.tc : Thread Cert.LayoutReference.nD Cert.LayoutReference.τ).loc Cert.LayoutReference.main_arg0)) (m ((c.tc : Thread Cert.LayoutReference.nD Cert.LayoutReference.τ).loc Cert.LayoutReference.main_arg1))) = (fun _ => 1#1)

def quiescent_Kernel [hKernel : Cert.Kernel.Facts] [hPre_routed : Cert.Pre_routed.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1)
      ∧ r.2.mem ((c.tc : Thread Cert.Reference.nD Cert.Reference.τ).loc Cert.Reference.main_arg2) = m ((c.tc : Thread Cert.Reference.nD Cert.Reference.τ).loc Cert.Reference.main_arg2)
      ∧ r.2.mem ((c.tc : Thread Cert.Reference.nD Cert.Reference.τ).loc Cert.Reference.main_arg3) = m ((c.tc : Thread Cert.Reference.nD Cert.Reference.τ).loc Cert.Reference.main_arg3)
      ∧ r.2.mem ((c.tc : Thread Cert.Reference.nD Cert.Reference.τ).loc Cert.Reference.main_arg4) = m ((c.tc : Thread Cert.Reference.nD Cert.Reference.τ).loc Cert.Reference.main_arg4)
      ∧ r.2.mem ((c.tc : Thread Cert.Reference.nD Cert.Reference.τ).loc Cert.Reference.main_arg5) = m ((c.tc : Thread Cert.Reference.nD Cert.Reference.τ).loc Cert.Reference.main_arg5)
      ∧ r.2.mem ((c.tc : Thread Cert.Reference.nD Cert.Reference.τ).loc Cert.Reference.main_arg6) = m ((c.tc : Thread Cert.Reference.nD Cert.Reference.τ).loc Cert.Reference.main_arg6))
      ∧ r.2.sem = fun _ => 0)

def quiescent_Reference_pre_routed [hReference : Cert.Reference.Facts] [hPre_routed : Cert.Pre_routed.Facts] : Prop :=
  ∀ (m : (ℓ : Loc Cert.Reference.nD Cert.Reference.τ Cert.Reference.sig) → Buf (Elt Bits) ℓ) (g : Dev Cert.Reference.nD → PrngReg), Pre_Reference_routed m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1)
      ∧ r.2.mem ((c.tc : Thread Cert.Reference.nD Cert.Reference.τ).loc Cert.Reference.main_arg2) = m ((c.tc : Thread Cert.Reference.nD Cert.Reference.τ).loc Cert.Reference.main_arg2)
      ∧ r.2.mem ((c.tc : Thread Cert.Reference.nD Cert.Reference.τ).loc Cert.Reference.main_arg3) = m ((c.tc : Thread Cert.Reference.nD Cert.Reference.τ).loc Cert.Reference.main_arg3)
      ∧ r.2.mem ((c.tc : Thread Cert.Reference.nD Cert.Reference.τ).loc Cert.Reference.main_arg4) = m ((c.tc : Thread Cert.Reference.nD Cert.Reference.τ).loc Cert.Reference.main_arg4)
      ∧ r.2.mem ((c.tc : Thread Cert.Reference.nD Cert.Reference.τ).loc Cert.Reference.main_arg5) = m ((c.tc : Thread Cert.Reference.nD Cert.Reference.τ).loc Cert.Reference.main_arg5)
      ∧ r.2.mem ((c.tc : Thread Cert.Reference.nD Cert.Reference.τ).loc Cert.Reference.main_arg6) = m ((c.tc : Thread Cert.Reference.nD Cert.Reference.τ).loc Cert.Reference.main_arg6))
      ∧ r.2.sem = fun _ => 0)

def quiescent_Combine [hCombine : Cert.Combine.Facts] : Prop :=
  ∀ (m : (ℓ : Loc Cert.Combine.nD Cert.Combine.τ Cert.Combine.sig) → Buf (Elt Bits) ℓ) (g : Dev Cert.Combine.nD → PrngReg), Pre_Combine m →
    θ_run (Cert.Combine.defs (F := Bits)) (onTc (τ := Cert.Combine.τ) (Cert.Combine.main (F := Bits))) ⟨m, fun _ => 0, g⟩ (fun r => (∀ c : Dev Cert.Combine.nD,
      r.2.mem ((c.tc : Thread Cert.Combine.nD Cert.Combine.τ).loc Cert.Combine.main_arg0) = m ((c.tc : Thread Cert.Combine.nD Cert.Combine.τ).loc Cert.Combine.main_arg0)
      ∧ r.2.mem ((c.tc : Thread Cert.Combine.nD Cert.Combine.τ).loc Cert.Combine.main_arg1) = m ((c.tc : Thread Cert.Combine.nD Cert.Combine.τ).loc Cert.Combine.main_arg1)
      ∧ r.2.mem ((c.tc : Thread Cert.Combine.nD Cert.Combine.τ).loc Cert.Combine.main_arg2) = m ((c.tc : Thread Cert.Combine.nD Cert.Combine.τ).loc Cert.Combine.main_arg2)
      ∧ r.2.mem ((c.tc : Thread Cert.Combine.nD Cert.Combine.τ).loc Cert.Combine.main_arg3) = m ((c.tc : Thread Cert.Combine.nD Cert.Combine.τ).loc Cert.Combine.main_arg3)
      ∧ r.2.mem ((c.tc : Thread Cert.Combine.nD Cert.Combine.τ).loc Cert.Combine.main_arg4) = m ((c.tc : Thread Cert.Combine.nD Cert.Combine.τ).loc Cert.Combine.main_arg4)
      ∧ r.2.mem ((c.tc : Thread Cert.Combine.nD Cert.Combine.τ).loc Cert.Combine.main_arg5) = m ((c.tc : Thread Cert.Combine.nD Cert.Combine.τ).loc Cert.Combine.main_arg5))
      ∧ r.2.sem = fun _ => 0)

def quiescent_CombineIdeal [hCombineIdeal : Cert.CombineIdeal.Facts] : Prop :=
  ∀ (m : (ℓ : Loc Cert.CombineIdeal.nD Cert.CombineIdeal.τ Cert.CombineIdeal.sig) → Buf (Elt Ideal) ℓ) (g : Dev Cert.CombineIdeal.nD → PrngReg), Pre_CombineIdeal m →
    θ_run (Cert.CombineIdeal.defs (F := Ideal)) (onTc (τ := Cert.CombineIdeal.τ) (Cert.CombineIdeal.main (F := Ideal))) ⟨m, fun _ => 0, g⟩ (fun r => (∀ c : Dev Cert.CombineIdeal.nD,
      r.2.mem ((c.tc : Thread Cert.CombineIdeal.nD Cert.CombineIdeal.τ).loc Cert.CombineIdeal.main_arg0) = m ((c.tc : Thread Cert.CombineIdeal.nD Cert.CombineIdeal.τ).loc Cert.CombineIdeal.main_arg0)
      ∧ r.2.mem ((c.tc : Thread Cert.CombineIdeal.nD Cert.CombineIdeal.τ).loc Cert.CombineIdeal.main_arg1) = m ((c.tc : Thread Cert.CombineIdeal.nD Cert.CombineIdeal.τ).loc Cert.CombineIdeal.main_arg1)
      ∧ r.2.mem ((c.tc : Thread Cert.CombineIdeal.nD Cert.CombineIdeal.τ).loc Cert.CombineIdeal.main_arg2) = m ((c.tc : Thread Cert.CombineIdeal.nD Cert.CombineIdeal.τ).loc Cert.CombineIdeal.main_arg2)
      ∧ r.2.mem ((c.tc : Thread Cert.CombineIdeal.nD Cert.CombineIdeal.τ).loc Cert.CombineIdeal.main_arg3) = m ((c.tc : Thread Cert.CombineIdeal.nD Cert.CombineIdeal.τ).loc Cert.CombineIdeal.main_arg3)
      ∧ r.2.mem ((c.tc : Thread Cert.CombineIdeal.nD Cert.CombineIdeal.τ).loc Cert.CombineIdeal.main_arg4) = m ((c.tc : Thread Cert.CombineIdeal.nD Cert.CombineIdeal.τ).loc Cert.CombineIdeal.main_arg4)
      ∧ r.2.mem ((c.tc : Thread Cert.CombineIdeal.nD Cert.CombineIdeal.τ).loc Cert.CombineIdeal.main_arg5) = m ((c.tc : Thread Cert.CombineIdeal.nD Cert.CombineIdeal.τ).loc Cert.CombineIdeal.main_arg5))
      ∧ r.2.sem = fun _ => 0)

def quiescent_CombineReferenceIdeal [hCombineReferenceIdeal : Cert.CombineReferenceIdeal.Facts] : Prop :=
  ∀ (m : (ℓ : Loc Cert.CombineReferenceIdeal.nD Cert.CombineReferenceIdeal.τ Cert.CombineReferenceIdeal.sig) → Buf (Elt Ideal) ℓ) (g : Dev Cert.CombineReferenceIdeal.nD → PrngReg), Pre_CombineReferenceIdeal m →
    θ_run (Cert.CombineReferenceIdeal.defs (F := Ideal)) (onTc (τ := Cert.CombineReferenceIdeal.τ) (Cert.CombineReferenceIdeal.main (F := Ideal))) ⟨m, fun _ => 0, g⟩ (fun r => (∀ c : Dev Cert.CombineReferenceIdeal.nD,
      r.2.mem ((c.tc : Thread Cert.CombineReferenceIdeal.nD Cert.CombineReferenceIdeal.τ).loc Cert.CombineReferenceIdeal.main_arg0) = m ((c.tc : Thread Cert.CombineReferenceIdeal.nD Cert.CombineReferenceIdeal.τ).loc Cert.CombineReferenceIdeal.main_arg0)
      ∧ r.2.mem ((c.tc : Thread Cert.CombineReferenceIdeal.nD Cert.CombineReferenceIdeal.τ).loc Cert.CombineReferenceIdeal.main_arg1) = m ((c.tc : Thread Cert.CombineReferenceIdeal.nD Cert.CombineReferenceIdeal.τ).loc Cert.CombineReferenceIdeal.main_arg1)
      ∧ r.2.mem ((c.tc : Thread Cert.CombineReferenceIdeal.nD Cert.CombineReferenceIdeal.τ).loc Cert.CombineReferenceIdeal.main_arg2) = m ((c.tc : Thread Cert.CombineReferenceIdeal.nD Cert.CombineReferenceIdeal.τ).loc Cert.CombineReferenceIdeal.main_arg2)
      ∧ r.2.mem ((c.tc : Thread Cert.CombineReferenceIdeal.nD Cert.CombineReferenceIdeal.τ).loc Cert.CombineReferenceIdeal.main_arg3) = m ((c.tc : Thread Cert.CombineReferenceIdeal.nD Cert.CombineReferenceIdeal.τ).loc Cert.CombineReferenceIdeal.main_arg3)
      ∧ r.2.mem ((c.tc : Thread Cert.CombineReferenceIdeal.nD Cert.CombineReferenceIdeal.τ).loc Cert.CombineReferenceIdeal.main_arg4) = m ((c.tc : Thread Cert.CombineReferenceIdeal.nD Cert.CombineReferenceIdeal.τ).loc Cert.CombineReferenceIdeal.main_arg4)
      ∧ r.2.mem ((c.tc : Thread Cert.CombineReferenceIdeal.nD Cert.CombineReferenceIdeal.τ).loc Cert.CombineReferenceIdeal.main_arg5) = m ((c.tc : Thread Cert.CombineReferenceIdeal.nD Cert.CombineReferenceIdeal.τ).loc Cert.CombineReferenceIdeal.main_arg5))
      ∧ r.2.sem = fun _ => 0)

def quiescent_Layout [hLayout : Cert.Layout.Facts] : Prop :=
  ∀ (m : (ℓ : Loc Cert.Layout.nD Cert.Layout.τ Cert.Layout.sig) → Buf (Elt Bits) ℓ) (g : Dev Cert.Layout.nD → PrngReg), Pre_Layout m →
    θ_run (Cert.Layout.defs (F := Bits)) (onTc (τ := Cert.Layout.τ) (Cert.Layout.main (F := Bits))) ⟨m, fun _ => 0, g⟩ (fun r => (∀ c : Dev Cert.Layout.nD,
      r.2.mem ((c.tc : Thread Cert.Layout.nD Cert.Layout.τ).loc Cert.Layout.main_arg0) = m ((c.tc : Thread Cert.Layout.nD Cert.Layout.τ).loc Cert.Layout.main_arg0)
      ∧ r.2.mem ((c.tc : Thread Cert.Layout.nD Cert.Layout.τ).loc Cert.Layout.main_arg1) = m ((c.tc : Thread Cert.Layout.nD Cert.Layout.τ).loc Cert.Layout.main_arg1))
      ∧ r.2.sem = fun _ => 0)

def quiescent_Layout_pre_experts [hLayout : Cert.Layout.Facts] [hPre_experts : Cert.Pre_experts.Facts] : Prop :=
  ∀ (m : (ℓ : Loc Cert.Layout.nD Cert.Layout.τ Cert.Layout.sig) → Buf (Elt Bits) ℓ) (g : Dev Cert.Layout.nD → PrngReg), Pre_Layout_experts m →
    θ_run (Cert.Layout.defs (F := Bits)) (onTc (τ := Cert.Layout.τ) (Cert.Layout.main (F := Bits))) ⟨m, fun _ => 0, g⟩ (fun r => (∀ c : Dev Cert.Layout.nD,
      r.2.mem ((c.tc : Thread Cert.Layout.nD Cert.Layout.τ).loc Cert.Layout.main_arg0) = m ((c.tc : Thread Cert.Layout.nD Cert.Layout.τ).loc Cert.Layout.main_arg0)
      ∧ r.2.mem ((c.tc : Thread Cert.Layout.nD Cert.Layout.τ).loc Cert.Layout.main_arg1) = m ((c.tc : Thread Cert.Layout.nD Cert.Layout.τ).loc Cert.Layout.main_arg1))
      ∧ r.2.sem = fun _ => 0)

def quiescent_LayoutReference [hLayoutReference : Cert.LayoutReference.Facts] : Prop :=
  ∀ (m : (ℓ : Loc Cert.LayoutReference.nD Cert.LayoutReference.τ Cert.LayoutReference.sig) → Buf (Elt Bits) ℓ) (g : Dev Cert.LayoutReference.nD → PrngReg), Pre_LayoutReference m →
    θ_run (Cert.LayoutReference.defs (F := Bits)) (onTc (τ := Cert.LayoutReference.τ) (Cert.LayoutReference.main (F := Bits))) ⟨m, fun _ => 0, g⟩ (fun r => (∀ c : Dev Cert.LayoutReference.nD,
      r.2.mem ((c.tc : Thread Cert.LayoutReference.nD Cert.LayoutReference.τ).loc Cert.LayoutReference.main_arg0) = m ((c.tc : Thread Cert.LayoutReference.nD Cert.LayoutReference.τ).loc Cert.LayoutReference.main_arg0)
      ∧ r.2.mem ((c.tc : Thread Cert.LayoutReference.nD Cert.LayoutReference.τ).loc Cert.LayoutReference.main_arg1) = m ((c.tc : Thread Cert.LayoutReference.nD Cert.LayoutReference.τ).loc Cert.LayoutReference.main_arg1))
      ∧ r.2.sem = fun _ => 0)

def quiescent_LayoutReference_pre_experts [hLayoutReference : Cert.LayoutReference.Facts] [hPre_experts : Cert.Pre_experts.Facts] : Prop :=
  ∀ (m : (ℓ : Loc Cert.LayoutReference.nD Cert.LayoutReference.τ Cert.LayoutReference.sig) → Buf (Elt Bits) ℓ) (g : Dev Cert.LayoutReference.nD → PrngReg), Pre_LayoutReference_experts m →
    θ_run (Cert.LayoutReference.defs (F := Bits)) (onTc (τ := Cert.LayoutReference.τ) (Cert.LayoutReference.main (F := Bits))) ⟨m, fun _ => 0, g⟩ (fun r => (∀ c : Dev Cert.LayoutReference.nD,
      r.2.mem ((c.tc : Thread Cert.LayoutReference.nD Cert.LayoutReference.τ).loc Cert.LayoutReference.main_arg0) = m ((c.tc : Thread Cert.LayoutReference.nD Cert.LayoutReference.τ).loc Cert.LayoutReference.main_arg0)
      ∧ r.2.mem ((c.tc : Thread Cert.LayoutReference.nD Cert.LayoutReference.τ).loc Cert.LayoutReference.main_arg1) = m ((c.tc : Thread Cert.LayoutReference.nD Cert.LayoutReference.τ).loc Cert.LayoutReference.main_arg1))
      ∧ r.2.sem = fun _ => 0)

def bitexact_Kernel_Reference_on_blocks_in_use [hKernel : Cert.Kernel.Facts] [hReference : Cert.Reference.Facts] [hPre_routed : Cert.Pre_routed.Facts] [hOn_blocks_in_use : Cert.On_blocks_in_use.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)
      ∧ m' ((c.tc : Thread Cert.Reference.nD Cert.Reference.τ).loc Cert.Reference.main_arg1) = m ((c.tc : Thread Cert.Kernel.nD Cert.Kernel.τ).loc Cert.Kernel.main_arg1)
      ∧ m' ((c.tc : Thread Cert.Reference.nD Cert.Reference.τ).loc Cert.Reference.main_arg2) = m ((c.tc : Thread Cert.Kernel.nD Cert.Kernel.τ).loc Cert.Kernel.main_arg2)
      ∧ m' ((c.tc : Thread Cert.Reference.nD Cert.Reference.τ).loc Cert.Reference.main_arg3) = m ((c.tc : Thread Cert.Kernel.nD Cert.Kernel.τ).loc Cert.Kernel.main_arg3)
      ∧ m' ((c.tc : Thread Cert.Reference.nD Cert.Reference.τ).loc Cert.Reference.main_arg4) = m ((c.tc : Thread Cert.Kernel.nD Cert.Kernel.τ).loc Cert.Kernel.main_arg4)
      ∧ m' ((c.tc : Thread Cert.Reference.nD Cert.Reference.τ).loc Cert.Reference.main_arg5) = m ((c.tc : Thread Cert.Kernel.nD Cert.Kernel.τ).loc Cert.Kernel.main_arg5)
      ∧ m' ((c.tc : Thread Cert.Reference.nD Cert.Reference.τ).loc Cert.Reference.main_arg6) = m ((c.tc : Thread Cert.Kernel.nD Cert.Kernel.τ).loc Cert.Kernel.main_arg6)) →
    ∃ (v0 : (c : Dev Cert.Kernel.nD) → Buf (Elt Bits) ((c.tc : Thread Cert.Kernel.nD Cert.Kernel.τ).loc Cert.Kernel.main_v2)),
      θ_run (Cert.Kernel.defs (F := Bits)) (onTc (τ := Cert.Kernel.τ) (Cert.Kernel.main (F := Bits))) ⟨m, fun _ => 0, g⟩ (fun r => ∀ c : Dev Cert.Kernel.nD,
          (∀ i : (⟨3, ![2, 140288, 256]⟩ : Shape).Idx, (Cert.On_blocks_in_use.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) i = 1#1 → r.2.mem ((c.tc : Thread Cert.Kernel.nD Cert.Kernel.τ).loc Cert.Kernel.main_v2) i = v0 c i)
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1)
          ∧ r.2.mem ((c.tc : Thread Cert.Kernel.nD Cert.Kernel.τ).loc Cert.Kernel.main_arg2) = m ((c.tc : Thread Cert.Kernel.nD Cert.Kernel.τ).loc Cert.Kernel.main_arg2)
          ∧ r.2.mem ((c.tc : Thread Cert.Kernel.nD Cert.Kernel.τ).loc Cert.Kernel.main_arg3) = m ((c.tc : Thread Cert.Kernel.nD Cert.Kernel.τ).loc Cert.Kernel.main_arg3)
          ∧ r.2.mem ((c.tc : Thread Cert.Kernel.nD Cert.Kernel.τ).loc Cert.Kernel.main_arg4) = m ((c.tc : Thread Cert.Kernel.nD Cert.Kernel.τ).loc Cert.Kernel.main_arg4)
          ∧ r.2.mem ((c.tc : Thread Cert.Kernel.nD Cert.Kernel.τ).loc Cert.Kernel.main_arg5) = m ((c.tc : Thread Cert.Kernel.nD Cert.Kernel.τ).loc Cert.Kernel.main_arg5)
          ∧ r.2.mem ((c.tc : Thread Cert.Kernel.nD Cert.Kernel.τ).loc Cert.Kernel.main_arg6) = m ((c.tc : Thread Cert.Kernel.nD Cert.Kernel.τ).loc Cert.Kernel.main_arg6))
      ∧ θ_run (Cert.Reference.defs (F := Bits)) (onTc (τ := Cert.Reference.τ) (Cert.Reference.main (F := Bits))) ⟨m', fun _ => 0, g'⟩ (fun r => ∀ c : Dev Cert.Reference.nD,
          (∀ i : (⟨3, ![2, 140288, 256]⟩ : Shape).Idx, (Cert.On_blocks_in_use.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) i = 1#1 → r.2.mem ((c.tc : Thread Cert.Reference.nD Cert.Reference.τ).loc Cert.Reference.main_v11) i = v0 c i)
          ∧ r.2.mem ((c.tc : Thread Cert.Reference.nD Cert.Reference.τ).loc Cert.Reference.main_arg0) = m' ((c.tc : Thread Cert.Reference.nD Cert.Reference.τ).loc Cert.Reference.main_arg0)
          ∧ r.2.mem ((c.tc : Thread Cert.Reference.nD Cert.Reference.τ).loc Cert.Reference.main_arg1) = m' ((c.tc : Thread Cert.Reference.nD Cert.Reference.τ).loc Cert.Reference.main_arg1)
          ∧ r.2.mem ((c.tc : Thread Cert.Reference.nD Cert.Reference.τ).loc Cert.Reference.main_arg2) = m' ((c.tc : Thread Cert.Reference.nD Cert.Reference.τ).loc Cert.Reference.main_arg2)
          ∧ r.2.mem ((c.tc : Thread Cert.Reference.nD Cert.Reference.τ).loc Cert.Reference.main_arg3) = m' ((c.tc : Thread Cert.Reference.nD Cert.Reference.τ).loc Cert.Reference.main_arg3)
          ∧ r.2.mem ((c.tc : Thread Cert.Reference.nD Cert.Reference.τ).loc Cert.Reference.main_arg4) = m' ((c.tc : Thread Cert.Reference.nD Cert.Reference.τ).loc Cert.Reference.main_arg4)
          ∧ r.2.mem ((c.tc : Thread Cert.Reference.nD Cert.Reference.τ).loc Cert.Reference.main_arg5) = m' ((c.tc : Thread Cert.Reference.nD Cert.Reference.τ).loc Cert.Reference.main_arg5)
          ∧ r.2.mem ((c.tc : Thread Cert.Reference.nD Cert.Reference.τ).loc Cert.Reference.main_arg6) = m' ((c.tc : Thread Cert.Reference.nD Cert.Reference.τ).loc Cert.Reference.main_arg6))

def preserves_Combine_CombineIdeal : Prop :=
  True

def algebraic_CombineIdeal_CombineReferenceIdeal [hCombineIdeal : Cert.CombineIdeal.Facts] [hCombineReferenceIdeal : Cert.CombineReferenceIdeal.Facts] : Prop :=
  ∀ (m : (ℓ : Loc Cert.CombineIdeal.nD Cert.CombineIdeal.τ Cert.CombineIdeal.sig) → Buf (Elt Ideal) ℓ) (g : Dev Cert.CombineIdeal.nD → PrngReg)
    (m' : (ℓ : Loc Cert.CombineReferenceIdeal.nD Cert.CombineReferenceIdeal.τ Cert.CombineReferenceIdeal.sig) → Buf (Elt Ideal) ℓ) (g' : Dev Cert.CombineReferenceIdeal.nD → PrngReg), Pre_CombineIdeal m →
    (∀ c : Dev Cert.CombineIdeal.nD,
      m' ((c.tc : Thread Cert.CombineReferenceIdeal.nD Cert.CombineReferenceIdeal.τ).loc Cert.CombineReferenceIdeal.main_arg0) = m ((c.tc : Thread Cert.CombineIdeal.nD Cert.CombineIdeal.τ).loc Cert.CombineIdeal.main_arg0)
      ∧ m' ((c.tc : Thread Cert.CombineReferenceIdeal.nD Cert.CombineReferenceIdeal.τ).loc Cert.CombineReferenceIdeal.main_arg1) = m ((c.tc : Thread Cert.CombineIdeal.nD Cert.CombineIdeal.τ).loc Cert.CombineIdeal.main_arg1)
      ∧ m' ((c.tc : Thread Cert.CombineReferenceIdeal.nD Cert.CombineReferenceIdeal.τ).loc Cert.CombineReferenceIdeal.main_arg2) = m ((c.tc : Thread Cert.CombineIdeal.nD Cert.CombineIdeal.τ).loc Cert.CombineIdeal.main_arg2)
      ∧ m' ((c.tc : Thread Cert.CombineReferenceIdeal.nD Cert.CombineReferenceIdeal.τ).loc Cert.CombineReferenceIdeal.main_arg3) = m ((c.tc : Thread Cert.CombineIdeal.nD Cert.CombineIdeal.τ).loc Cert.CombineIdeal.main_arg3)
      ∧ m' ((c.tc : Thread Cert.CombineReferenceIdeal.nD Cert.CombineReferenceIdeal.τ).loc Cert.CombineReferenceIdeal.main_arg4) = m ((c.tc : Thread Cert.CombineIdeal.nD Cert.CombineIdeal.τ).loc Cert.CombineIdeal.main_arg4)
      ∧ m' ((c.tc : Thread Cert.CombineReferenceIdeal.nD Cert.CombineReferenceIdeal.τ).loc Cert.CombineReferenceIdeal.main_arg5) = m ((c.tc : Thread Cert.CombineIdeal.nD Cert.CombineIdeal.τ).loc Cert.CombineIdeal.main_arg5)) →
    ∃ (v0 : (c : Dev Cert.CombineIdeal.nD) → Buf (Elt Ideal) ((c.tc : Thread Cert.CombineIdeal.nD Cert.CombineIdeal.τ).loc Cert.CombineIdeal.main_v2_0)) (v1 : (c : Dev Cert.CombineIdeal.nD) → Buf (Elt Ideal) ((c.tc : Thread Cert.CombineIdeal.nD Cert.CombineIdeal.τ).loc Cert.CombineIdeal.main_v2_1)),
      θ_run (Cert.CombineIdeal.defs (F := Ideal)) (onTc (τ := Cert.CombineIdeal.τ) (Cert.CombineIdeal.main (F := Ideal))) ⟨m, fun _ => 0, g⟩ (fun r => ∀ c : Dev Cert.CombineIdeal.nD,
          r.2.mem ((c.tc : Thread Cert.CombineIdeal.nD Cert.CombineIdeal.τ).loc Cert.CombineIdeal.main_v2_0) = v0 c
          ∧ r.2.mem ((c.tc : Thread Cert.CombineIdeal.nD Cert.CombineIdeal.τ).loc Cert.CombineIdeal.main_v2_1) = v1 c
          ∧ r.2.mem ((c.tc : Thread Cert.CombineIdeal.nD Cert.CombineIdeal.τ).loc Cert.CombineIdeal.main_arg0) = m ((c.tc : Thread Cert.CombineIdeal.nD Cert.CombineIdeal.τ).loc Cert.CombineIdeal.main_arg0)
          ∧ r.2.mem ((c.tc : Thread Cert.CombineIdeal.nD Cert.CombineIdeal.τ).loc Cert.CombineIdeal.main_arg1) = m ((c.tc : Thread Cert.CombineIdeal.nD Cert.CombineIdeal.τ).loc Cert.CombineIdeal.main_arg1)
          ∧ r.2.mem ((c.tc : Thread Cert.CombineIdeal.nD Cert.CombineIdeal.τ).loc Cert.CombineIdeal.main_arg2) = m ((c.tc : Thread Cert.CombineIdeal.nD Cert.CombineIdeal.τ).loc Cert.CombineIdeal.main_arg2)
          ∧ r.2.mem ((c.tc : Thread Cert.CombineIdeal.nD Cert.CombineIdeal.τ).loc Cert.CombineIdeal.main_arg3) = m ((c.tc : Thread Cert.CombineIdeal.nD Cert.CombineIdeal.τ).loc Cert.CombineIdeal.main_arg3)
          ∧ r.2.mem ((c.tc : Thread Cert.CombineIdeal.nD Cert.CombineIdeal.τ).loc Cert.CombineIdeal.main_arg4) = m ((c.tc : Thread Cert.CombineIdeal.nD Cert.CombineIdeal.τ).loc Cert.CombineIdeal.main_arg4)
          ∧ r.2.mem ((c.tc : Thread Cert.CombineIdeal.nD Cert.CombineIdeal.τ).loc Cert.CombineIdeal.main_arg5) = m ((c.tc : Thread Cert.CombineIdeal.nD Cert.CombineIdeal.τ).loc Cert.CombineIdeal.main_arg5))
      ∧ θ_run (Cert.CombineReferenceIdeal.defs (F := Ideal)) (onTc (τ := Cert.CombineReferenceIdeal.τ) (Cert.CombineReferenceIdeal.main (F := Ideal))) ⟨m', fun _ => 0, g'⟩ (fun r => ∀ c : Dev Cert.CombineReferenceIdeal.nD,
          r.2.mem ((c.tc : Thread Cert.CombineReferenceIdeal.nD Cert.CombineReferenceIdeal.τ).loc Cert.CombineReferenceIdeal.main_v48) = v0 c
          ∧ r.2.mem ((c.tc : Thread Cert.CombineReferenceIdeal.nD Cert.CombineReferenceIdeal.τ).loc Cert.CombineReferenceIdeal.main_v49) = v1 c
          ∧ r.2.mem ((c.tc : Thread Cert.CombineReferenceIdeal.nD Cert.CombineReferenceIdeal.τ).loc Cert.CombineReferenceIdeal.main_arg0) = m' ((c.tc : Thread Cert.CombineReferenceIdeal.nD Cert.CombineReferenceIdeal.τ).loc Cert.CombineReferenceIdeal.main_arg0)
          ∧ r.2.mem ((c.tc : Thread Cert.CombineReferenceIdeal.nD Cert.CombineReferenceIdeal.τ).loc Cert.CombineReferenceIdeal.main_arg1) = m' ((c.tc : Thread Cert.CombineReferenceIdeal.nD Cert.CombineReferenceIdeal.τ).loc Cert.CombineReferenceIdeal.main_arg1)
          ∧ r.2.mem ((c.tc : Thread Cert.CombineReferenceIdeal.nD Cert.CombineReferenceIdeal.τ).loc Cert.CombineReferenceIdeal.main_arg2) = m' ((c.tc : Thread Cert.CombineReferenceIdeal.nD Cert.CombineReferenceIdeal.τ).loc Cert.CombineReferenceIdeal.main_arg2)
          ∧ r.2.mem ((c.tc : Thread Cert.CombineReferenceIdeal.nD Cert.CombineReferenceIdeal.τ).loc Cert.CombineReferenceIdeal.main_arg3) = m' ((c.tc : Thread Cert.CombineReferenceIdeal.nD Cert.CombineReferenceIdeal.τ).loc Cert.CombineReferenceIdeal.main_arg3)
          ∧ r.2.mem ((c.tc : Thread Cert.CombineReferenceIdeal.nD Cert.CombineReferenceIdeal.τ).loc Cert.CombineReferenceIdeal.main_arg4) = m' ((c.tc : Thread Cert.CombineReferenceIdeal.nD Cert.CombineReferenceIdeal.τ).loc Cert.CombineReferenceIdeal.main_arg4)
          ∧ r.2.mem ((c.tc : Thread Cert.CombineReferenceIdeal.nD Cert.CombineReferenceIdeal.τ).loc Cert.CombineReferenceIdeal.main_arg5) = m' ((c.tc : Thread Cert.CombineReferenceIdeal.nD Cert.CombineReferenceIdeal.τ).loc Cert.CombineReferenceIdeal.main_arg5))

def bitexact_Layout_LayoutReference_pre_experts [hLayout : Cert.Layout.Facts] [hLayoutReference : Cert.LayoutReference.Facts] [hPre_experts : Cert.Pre_experts.Facts] : Prop :=
  ∀ (m : (ℓ : Loc Cert.Layout.nD Cert.Layout.τ Cert.Layout.sig) → Buf (Elt Bits) ℓ) (g : Dev Cert.Layout.nD → PrngReg)
    (m' : (ℓ : Loc Cert.LayoutReference.nD Cert.LayoutReference.τ Cert.LayoutReference.sig) → Buf (Elt Bits) ℓ) (g' : Dev Cert.LayoutReference.nD → PrngReg), Pre_Layout_experts m →
    (∀ c : Dev Cert.Layout.nD,
      m' ((c.tc : Thread Cert.LayoutReference.nD Cert.LayoutReference.τ).loc Cert.LayoutReference.main_arg0) = m ((c.tc : Thread Cert.Layout.nD Cert.Layout.τ).loc Cert.Layout.main_arg0)
      ∧ m' ((c.tc : Thread Cert.LayoutReference.nD Cert.LayoutReference.τ).loc Cert.LayoutReference.main_arg1) = m ((c.tc : Thread Cert.Layout.nD Cert.Layout.τ).loc Cert.Layout.main_arg1)) →
    ∃ (v0 : (c : Dev Cert.Layout.nD) → Buf (Elt Bits) ((c.tc : Thread Cert.Layout.nD Cert.Layout.τ).loc Cert.Layout.main_v12)),
      θ_run (Cert.Layout.defs (F := Bits)) (onTc (τ := Cert.Layout.τ) (Cert.Layout.main (F := Bits))) ⟨m, fun _ => 0, g⟩ (fun r => ∀ c : Dev Cert.Layout.nD,
          r.2.mem ((c.tc : Thread Cert.Layout.nD Cert.Layout.τ).loc Cert.Layout.main_v12) = v0 c
          ∧ r.2.mem ((c.tc : Thread Cert.Layout.nD Cert.Layout.τ).loc Cert.Layout.main_arg0) = m ((c.tc : Thread Cert.Layout.nD Cert.Layout.τ).loc Cert.Layout.main_arg0)
          ∧ r.2.mem ((c.tc : Thread Cert.Layout.nD Cert.Layout.τ).loc Cert.Layout.main_arg1) = m ((c.tc : Thread Cert.Layout.nD Cert.Layout.τ).loc Cert.Layout.main_arg1))
      ∧ θ_run (Cert.LayoutReference.defs (F := Bits)) (onTc (τ := Cert.LayoutReference.τ) (Cert.LayoutReference.main (F := Bits))) ⟨m', fun _ => 0, g'⟩ (fun r => ∀ c : Dev Cert.LayoutReference.nD,
          r.2.mem ((c.tc : Thread Cert.LayoutReference.nD Cert.LayoutReference.τ).loc Cert.LayoutReference.main_v24) = v0 c
          ∧ r.2.mem ((c.tc : Thread Cert.LayoutReference.nD Cert.LayoutReference.τ).loc Cert.LayoutReference.main_arg0) = m' ((c.tc : Thread Cert.LayoutReference.nD Cert.LayoutReference.τ).loc Cert.LayoutReference.main_arg0)
          ∧ r.2.mem ((c.tc : Thread Cert.LayoutReference.nD Cert.LayoutReference.τ).loc Cert.LayoutReference.main_arg1) = m' ((c.tc : Thread Cert.LayoutReference.nD Cert.LayoutReference.τ).loc Cert.LayoutReference.main_arg1))

def Claim : Prop :=
  ∃ (hKernel : Cert.Kernel.Facts) (hReference : Cert.Reference.Facts) (hCombine : Cert.Combine.Facts) (hCombineIdeal : Cert.CombineIdeal.Facts) (hCombineReferenceIdeal : Cert.CombineReferenceIdeal.Facts) (hLayout : Cert.Layout.Facts) (hLayoutReference : Cert.LayoutReference.Facts) (hPre_routed : Cert.Pre_routed.Facts) (hPre_experts : Cert.Pre_experts.Facts) (hOn_blocks_in_use : Cert.On_blocks_in_use.Facts),
    quiescent_Kernel (hKernel := hKernel) (hPre_routed := hPre_routed)
    ∧ quiescent_Reference (hReference := hReference)
    ∧ quiescent_Reference_pre_routed (hReference := hReference) (hPre_routed := hPre_routed)
    ∧ quiescent_Combine (hCombine := hCombine)
    ∧ quiescent_CombineIdeal (hCombineIdeal := hCombineIdeal)
    ∧ quiescent_CombineReferenceIdeal (hCombineReferenceIdeal := hCombineReferenceIdeal)
    ∧ quiescent_Layout (hLayout := hLayout)
    ∧ quiescent_Layout_pre_experts (hLayout := hLayout) (hPre_experts := hPre_experts)
    ∧ quiescent_LayoutReference (hLayoutReference := hLayoutReference)
    ∧ quiescent_LayoutReference_pre_experts (hLayoutReference := hLayoutReference) (hPre_experts := hPre_experts)
    ∧ bitexact_Kernel_Reference_on_blocks_in_use (hKernel := hKernel) (hReference := hReference) (hPre_routed := hPre_routed) (hOn_blocks_in_use := hOn_blocks_in_use)
    ∧ preserves_Combine_CombineIdeal
    ∧ algebraic_CombineIdeal_CombineReferenceIdeal (hCombineIdeal := hCombineIdeal) (hCombineReferenceIdeal := hCombineReferenceIdeal)
    ∧ bitexact_Layout_LayoutReference_pre_experts (hLayout := hLayout) (hLayoutReference := hLayoutReference) (hPre_experts := hPre_experts)
-- ==== On_blocks_in_use.lean ====
abbrev S33 : Shape := ⟨1, ![33]⟩
abbrev S1 : Shape := ⟨1, ![1]⟩
abbrev S2x140288x256 : Shape := ⟨3, ![2, 140288, 256]⟩
abbrev S32x1024x2048 : Shape := ⟨3, ![32, 1024, 2048]⟩
abbrev S32x2048 : Shape := ⟨2, ![32, 2048]⟩
abbrev S32x1024x1024 : Shape := ⟨3, ![32, 1024, 1024]⟩
abbrev S32x1024 : Shape := ⟨2, ![32, 1024]⟩
abbrev S1x1x1 : Shape := ⟨3, ![1, 1, 1]⟩
abbrev S_ : Shape := ⟨0, ![]⟩

class Facts : Prop where
  shapeCasts_S1_S1x1x1 : S1.ShapeCasts S1x1x1
  bcast_S_S1x1x1 : S_.BroadcastsInDim S1x1x1 (![] : Fin 0 → Fin S1x1x1.rank)
  bcast_S1x1x1_S2x140288x256_0_1_2 : S1x1x1.BroadcastsInDim S2x140288x256 (![0, 1, 2] : Fin 3 → Fin S2x140288x256.rank)

variable [Facts]

def fn {F : FTy → Type} [FloatOps F] (main_arg0 : IVec S33 32) (main_arg1 : IVec S1 32) (main_arg2 : IVec S2x140288x256 32) (main_arg3 : FVec F S32x1024x2048 .f32) (main_arg4 : FVec F S32x2048 .f32) (main_arg5 : FVec F S32x1024x1024 .f32) (main_arg6 : FVec F S32x1024 .f32) : IVec S2x140288x256 1 :=
  let main_v0 : IVec S2x140288x256 32 := iotaInDim S2x140288x256 32 1
  let main_v1 : IVec S1x1x1 32 := shapeCast S1x1x1 main_arg1 shapeCasts_S1_S1x1x1
  let main_c : IVec S_ 32 := constantI S_ 32 256#32
  let main_v2 : IVec S1x1x1 32 := broadcastInDim S1x1x1 ![] bcast_S_S1x1x1 main_c
  let main_v3 : IVec S1x1x1 32 := muli main_v1 main_v2
  let main_v4 : IVec S2x140288x256 32 := broadcastInDim S2x140288x256 ![0, 1, 2] bcast_S1x1x1_S2x140288x256_0_1_2 main_v3
  let main_v5 : IVec S2x140288x256 1 := cmpi .slt main_v0 main_v4
  main_v5
-- ==== Pre_experts.lean ====
abbrev S8x33024 : Shape := ⟨2, ![8, 33024]⟩
abbrev S32x128 : Shape := ⟨2, ![32, 128]⟩
abbrev S4x33024 : Shape := ⟨2, ![4, 33024]⟩
abbrev S_ : Shape := ⟨0, ![]⟩

class Facts : Prop where
  slices_S8x33024_S4x33024_0_0 : S8x33024.Slices ![0, 0] S4x33024
  bcast_S_S4x33024 : S_.BroadcastsInDim S4x33024 (![] : Fin 0 → Fin S4x33024.rank)

variable [Facts]

def fn {F : FTy → Type} [FloatOps F] (main_arg0 : IVec S8x33024 32) (main_arg1 : FVec F S32x128 .f32) : IVec S4x33024 1 :=
  let main_v0 : IVec S4x33024 32 := (extractStridedSlice S4x33024 ![0, 0] · slices_S8x33024_S4x33024_0_0) main_arg0
  let main_c : IVec S_ 32 := constantI S_ 32 0#32
  let main_v1 : IVec S4x33024 32 := broadcastInDim S4x33024 ![] bcast_S_S4x33024 main_c
  let main_v2 : IVec S4x33024 1 := cmpi .sge main_v0 main_v1
  let main_v3 : IVec S4x33024 32 := (extractStridedSlice S4x33024 ![0, 0] · slices_S8x33024_S4x33024_0_0) main_arg0
  let main_c_0 : IVec S_ 32 := constantI S_ 32 32#32
  let main_v4 : IVec S4x33024 32 := broadcastInDim S4x33024 ![] bcast_S_S4x33024 main_c_0
  let main_v5 : IVec S4x33024 1 := cmpi .slt main_v3 main_v4
  let main_v6 : IVec S4x33024 1 := andi main_v2 main_v5
  main_v6
-- ==== Pre_routed.lean ====
abbrev S33 : Shape := ⟨1, ![33]⟩
abbrev S1 : Shape := ⟨1, ![1]⟩
abbrev S2x140288x256 : Shape := ⟨3, ![2, 140288, 256]⟩
abbrev S32x1024x2048 : Shape := ⟨3, ![32, 1024, 2048]⟩
abbrev S32x2048 : Shape := ⟨2, ![32, 2048]⟩
abbrev S32x1024x1024 : Shape := ⟨3, ![32, 1024, 1024]⟩
abbrev S32x1024 : Shape := ⟨2, ![32, 1024]⟩
abbrev S_ : Shape := ⟨0, ![]⟩
abbrev S32 : Shape := ⟨1, ![32]⟩

class Facts : Prop where
  slices_S33_S1_0 : S33.Slices ![0] S1
  bcast_S_S1 : S_.BroadcastsInDim S1 (![] : Fin 0 → Fin S1.rank)
  slices_S33_S1_32 : S33.Slices ![32] S1
  slices_S33_S32_1 : S33.Slices ![1] S32
  slices_S33_S32_0 : S33.Slices ![0] S32
  bcast_S1_S32_0 : S1.BroadcastsInDim S32 (![0] : Fin 1 → Fin S32.rank)

variable [Facts]

def fn {F : FTy → Type} [FloatOps F] (main_arg0 : IVec S33 32) (main_arg1 : IVec S1 32) (main_arg2 : IVec S2x140288x256 32) (main_arg3 : FVec F S32x1024x2048 .f32) (main_arg4 : FVec F S32x2048 .f32) (main_arg5 : FVec F S32x1024x1024 .f32) (main_arg6 : FVec F S32x1024 .f32) : IVec S32 1 :=
  let main_v0 : IVec S1 32 := (extractStridedSlice S1 ![0] · slices_S33_S1_0) main_arg0
  let main_c : IVec S_ 32 := constantI S_ 32 0#32
  let main_v1 : IVec S1 32 := broadcastInDim S1 ![] bcast_S_S1 main_c
  let main_v2 : IVec S1 1 := cmpi .eq main_v0 main_v1
  let main_v3 : IVec S1 32 := (extractStridedSlice S1 ![32] · slices_S33_S1_32) main_arg0
  let main_v4 : IVec S1 1 := cmpi .eq main_v3 main_arg1
  let main_c_0 : IVec S_ 32 := constantI S_ 32 548#32
  let main_v5 : IVec S1 32 := broadcastInDim S1 ![] bcast_S_S1 main_c_0
  let main_v6 : IVec S1 1 := cmpi .sle main_arg1 main_v5
  let main_v7 : IVec S1 1 := andi main_v4 main_v6
  let main_v8 : IVec S32 32 := (extractStridedSlice S32 ![1] · slices_S33_S32_1) main_arg0
  let main_v9 : IVec S32 32 := (extractStridedSlice S32 ![0] · slices_S33_S32_0) main_arg0
  let main_v10 : IVec S32 1 := cmpi .sge main_v8 main_v9
  let main_v11 : IVec S32 1 := broadcastInDim S32 ![0] bcast_S1_S32_0 main_v2
  let main_v12 : IVec S32 1 := andi main_v10 main_v11
  let main_v13 : IVec S32 1 := broadcastInDim S32 ![0] bcast_S1_S32_0 main_v7
  let main_v14 : IVec S32 1 := andi main_v12 main_v13
  main_v14
-- ==== Kernel.lean ====
abbrev S33 : Shape := ⟨1, ![33]⟩
abbrev S1 : Shape := ⟨1, ![1]⟩
abbrev S2x140288x256 : Shape := ⟨3, ![2, 140288, 256]⟩
abbrev S32x1024x2048 : Shape := ⟨3, ![32, 1024, 2048]⟩
abbrev S32x2048 : Shape := ⟨2, ![32, 2048]⟩
abbrev S32x1024x1024 : Shape := ⟨3, ![32, 1024, 1024]⟩
abbrev S32x1024 : Shape := ⟨2, ![32, 1024]⟩
abbrev S32x1x2048 : Shape := ⟨3, ![32, 1, 2048]⟩
abbrev S32x1x1024 : Shape := ⟨3, ![32, 1, 1024]⟩
abbrev S1x1024x2048 : Shape := ⟨3, ![1, 1024, 2048]⟩
abbrev S1x1x2048 : Shape := ⟨3, ![1, 1, 2048]⟩
abbrev S1x1024x1024 : Shape := ⟨3, ![1, 1024, 1024]⟩
abbrev S1x1x1024 : Shape := ⟨3, ![1, 1, 1024]⟩
abbrev S1024x2048 : Shape := ⟨2, ![1024, 2048]⟩
abbrev S1024x1024 : Shape := ⟨2, ![1024, 1024]⟩
abbrev S8x2x256x256 : Shape := ⟨4, ![8, 2, 256, 256]⟩
abbrev S8 : Shape := ⟨1, ![8]⟩
abbrev S_ : Shape := ⟨0, ![]⟩
abbrev S1x2x256x256 : Shape := ⟨4, ![1, 2, 256, 256]⟩
abbrev S2x256x256 : Shape := ⟨3, ![2, 256, 256]⟩
abbrev S1x1x256x256 : Shape := ⟨4, ![1, 1, 256, 256]⟩
abbrev S256x256 : Shape := ⟨2, ![256, 256]⟩
abbrev S256x512 : Shape := ⟨2, ![256, 512]⟩
abbrev S256x1024 : Shape := ⟨2, ![256, 1024]⟩
abbrev S1x2048 : Shape := ⟨2, ![1, 2048]⟩
abbrev S256x2048 : Shape := ⟨2, ![256, 2048]⟩
abbrev S1x1024 : Shape := ⟨2, ![1, 1024]⟩

abbrev nBuf : Space → Nat
  | .hbm => 8
  | .vmem => 12
  | .smem => 2
  | _ => 0

abbrev bufTy : (tb : Table) → Fin (tcTables nBuf tb) → BufTy
  | .hbm, ⟨0, _⟩ => ⟨S2x140288x256, .i32⟩
  | .hbm, ⟨1, _⟩ => ⟨S32x1024x2048, .f32⟩
  | .hbm, ⟨2, _⟩ => ⟨S32x2048, .f32⟩
  | .hbm, ⟨3, _⟩ => ⟨S32x1024x1024, .f32⟩
  | .hbm, ⟨4, _⟩ => ⟨S32x1024, .f32⟩
  | .hbm, ⟨5, _⟩ => ⟨S32x1x2048, .f32⟩
  | .hbm, ⟨6, _⟩ => ⟨S32x1x1024, .f32⟩
  | .hbm, ⟨7, _⟩ => ⟨S2x140288x256, .i32⟩
  | .local _ .vmem, ⟨0, _⟩ => ⟨S1x1024x2048, .f32⟩
  | .local _ .vmem, ⟨1, _⟩ => ⟨S1x1024x2048, .f32⟩
  | .local _ .vmem, ⟨2, _⟩ => ⟨S1x1x2048, .f32⟩
  | .local _ .vmem, ⟨3, _⟩ => ⟨S1x1x2048, .f32⟩
  | .local _ .vmem, ⟨4, _⟩ => ⟨S1x1024x1024, .f32⟩
  | .local _ .vmem, ⟨5, _⟩ => ⟨S1x1024x1024, .f32⟩
  | .local _ .vmem, ⟨6, _⟩ => ⟨S1x1x1024, .f32⟩
  | .local _ .vmem, ⟨7, _⟩ => ⟨S1x1x1024, .f32⟩
  | .local _ .vmem, ⟨8, _⟩ => ⟨S1024x2048, .bf16⟩
  | .local _ .vmem, ⟨9, _⟩ => ⟨S1024x1024, .bf16⟩
  | .local _ .vmem, ⟨10, _⟩ => ⟨S8x2x256x256, .i32⟩
  | .local _ .vmem, ⟨11, _⟩ => ⟨S8x2x256x256, .i32⟩
  | .local _ .smem, ⟨0, _⟩ => ⟨S33, .i32⟩
  | .local _ .smem, ⟨1, _⟩ => ⟨S1, .i32⟩
  | _, _ => ⟨S2x140288x256, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_arg6 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [BitOps F]

abbrev grid0 : Pipeline.Grid := ⟨1, ![32], ![false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v1 : Index := Scalar.indexCast arg0
  ![v1.toNat]
def k0_off2 (i : grid0.Coords) : Fin 1 → Nat :=
  let arg0 : BitVec 32 := BitVec.ofNat 32 (i 0).val
  let c1_i32 : BitVec 32 := 1#32
  let v3 : BitVec 32 := Scalar.addi arg0 c1_i32
  let v4 : Index := Scalar.indexCast v3
  ![v4.toNat]
def k0_cond1 (i : grid0.Coords) : BitVec 1 :=
  let arg0 : BitVec 32 := BitVec.ofNat 32 (i 0).val
  let c0_i32 : BitVec 32 := 0#32
  let v6 : BitVec 1 := Scalar.cmpi .eq arg0 c0_i32
  let v7 : BitVec 32 := Scalar.extui v6
  let c0_i32_0 : BitVec 32 := 0#32
  let v8 : BitVec 1 := Scalar.cmpi .ne v7 c0_i32_0
  v8

def k0_mult1 : BitVec 32 :=
  let c0_i32_71 : BitVec 32 := 0#32
  c0_i32_71
def k0_mult2 : BitVec 32 :=
  let c256_i32 : BitVec 32 := 256#32
  c256_i32
def k0_mult3 : BitVec 32 :=
  let c512_i32 : BitVec 32 := 512#32
  c512_i32
def k0_mult4 : BitVec 32 :=
  let c768_i32 : BitVec 32 := 768#32
  c768_i32
def k0_mult5 (v2 : BitVec 32) : BitVec 32 :=
  let c0_i32_64 : BitVec 32 := 0#32
  let v134 : BitVec 32 := Scalar.addi v2 c0_i32_64
  let c256_i32 : BitVec 32 := 256#32
  let v145 : BitVec 32 := Scalar.muli v134 c256_i32
  v145
def k0_cond7 (v2 : BitVec 32) (v5 : BitVec 32) : BitVec 1 :=
  let v9 : BitVec 32 := Scalar.subi v5 v2
  let c0_i32_1 : BitVec 32 := 0#32
  let v11 : BitVec 1 := Scalar.cmpi .sgt v9 c0_i32_1
  let v12 : BitVec 32 := Scalar.extui v11
  let c0_i32_2 : BitVec 32 := 0#32
  let v13 : BitVec 1 := Scalar.cmpi .slt v9 c0_i32_2
  let v14 : BitVec 32 := Scalar.extui v13
  let v15 : BitVec 32 := Scalar.subi v12 v14
  let c4_i32 : BitVec 32 := 4#32
  let c0_i32_3 : BitVec 32 := 0#32
  let v16 : BitVec 1 := Scalar.cmpi .sgt c4_i32 c0_i32_3
  let v17 : BitVec 32 := Scalar.extui v16
  let c0_i32_4 : BitVec 32 := 0#32
  let v18 : BitVec 1 := Scalar.cmpi .slt c4_i32 c0_i32_4
  let v19 : BitVec 32 := Scalar.extui v18
  let v20 : BitVec 32 := Scalar.subi v17 v19
  let v21 : BitVec 1 := Scalar.cmpi .ne v15 v20
  let v22 : BitVec 32 := Scalar.remsi v9 c4_i32
  let c0_i32_5 : BitVec 32 := 0#32
  let v23 : BitVec 1 := Scalar.cmpi .ne v22 c0_i32_5
  let v24 : BitVec 1 := Scalar.andi v21 v23
  let v10 : BitVec 32 := Scalar.divsi v9 c4_i32
  let c1_i32_6 : BitVec 32 := 1#32
  let v25 : BitVec 32 := Scalar.subi v10 c1_i32_6
  let v26 : BitVec 32 := Scalar.select v24 v25 v10
  let c1_i32_10 : BitVec 32 := 1#32
  let v32 : BitVec 1 := Scalar.cmpi .sge v26 c1_i32_10
  let v33 : BitVec 32 := Scalar.extui v32
  let c0_i32_11 : BitVec 32 := 0#32
  let v34 : BitVec 1 := Scalar.cmpi .ne v33 c0_i32_11
  v34

def k0_off3 (v2 : BitVec 32) (c0_i32_64 : BitVec 32) : Fin 1 → Nat :=
  let v134 : BitVec 32 := Scalar.addi v2 c0_i32_64
  let c8_i32 : BitVec 32 := 8#32
  let c0_i32_65 : BitVec 32 := 0#32
  let v135 : BitVec 1 := Scalar.cmpi .eq c8_i32 c0_i32_65
  let c1_i32_66 : BitVec 32 := 1#32
  let v136 : BitVec 32 := Scalar.select v135 c1_i32_66 c8_i32
  let v137 : BitVec 32 := Scalar.remsi v134 v136
  let c0_i32_68 : BitVec 32 := 0#32
  let v139 : BitVec 1 := Scalar.cmpi .slt v137 c0_i32_68
  let c0_i32_69 : BitVec 32 := 0#32
  let v140 : BitVec 1 := Scalar.cmpi .slt v136 c0_i32_69
  let v141 : BitVec 1 := Scalar.xori v139 v140
  let c0_i32_67 : BitVec 32 := 0#32
  let v138 : BitVec 1 := Scalar.cmpi .ne v137 c0_i32_67
  let v142 : BitVec 1 := Scalar.andi v141 v138
  let v143 : BitVec 32 := Scalar.addi v137 v136
  let v144 : BitVec 32 := Scalar.select v142 v143 v137
  ![v144.toNat]
def k0_off4 (v2 : BitVec 32) (c0_i32_64 : BitVec 32) : Fin 4 → Nat :=
  let v134 : BitVec 32 := Scalar.addi v2 c0_i32_64
  let c8_i32 : BitVec 32 := 8#32
  let c0_i32_65 : BitVec 32 := 0#32
  let v135 : BitVec 1 := Scalar.cmpi .eq c8_i32 c0_i32_65
  let c1_i32_66 : BitVec 32 := 1#32
  let v136 : BitVec 32 := Scalar.select v135 c1_i32_66 c8_i32
  let v137 : BitVec 32 := Scalar.remsi v134 v136
  let c0_i32_68 : BitVec 32 := 0#32
  let v139 : BitVec 1 := Scalar.cmpi .slt v137 c0_i32_68
  let c0_i32_69 : BitVec 32 := 0#32
  let v140 : BitVec 1 := Scalar.cmpi .slt v136 c0_i32_69
  let v141 : BitVec 1 := Scalar.xori v139 v140
  let c0_i32_67 : BitVec 32 := 0#32
  let v138 : BitVec 1 := Scalar.cmpi .ne v137 c0_i32_67
  let v142 : BitVec 1 := Scalar.andi v141 v138
  let v143 : BitVec 32 := Scalar.addi v137 v136
  let v144 : BitVec 32 := Scalar.select v142 v143 v137
  let c0_i32_70 : BitVec 32 := 0#32
  let c0_i32_71 : BitVec 32 := 0#32
  let c0_i32_72 : BitVec 32 := 0#32
  ![v144.toNat, 0, 0, 0]
def k0_off5 (v2 : BitVec 32) (c0_i32_64 : BitVec 32) : Fin 3 → Nat :=
  let c0_i32_73 : BitVec 32 := 0#32
  let v134 : BitVec 32 := Scalar.addi v2 c0_i32_64
  let c256_i32 : BitVec 32 := 256#32
  let v145 : BitVec 32 := Scalar.muli v134 c256_i32
  let v146 : BitVec 32 := v145
  let c0_i32_74 : BitVec 32 := 0#32
  ![0, v146.toNat, 0]
def k0_mult6 (v2 : BitVec 32) : BitVec 32 :=
  let c1_i32_75 : BitVec 32 := 1#32
  let v152 : BitVec 32 := Scalar.addi v2 c1_i32_75
  let c256_i32_82 : BitVec 32 := 256#32
  let v163 : BitVec 32 := Scalar.muli v152 c256_i32_82
  v163
def k0_mult7 (v2 : BitVec 32) : BitVec 32 :=
  let c2_i32_88 : BitVec 32 := 2#32
  let v170 : BitVec 32 := Scalar.addi v2 c2_i32_88
  let c256_i32_95 : BitVec 32 := 256#32
  let v181 : BitVec 32 := Scalar.muli v170 c256_i32_95
  v181
def k0_mult8 (v2 : BitVec 32) : BitVec 32 :=
  let c3_i32 : BitVec 32 := 3#32
  let v188 : BitVec 32 := Scalar.addi v2 c3_i32
  let c256_i32_107 : BitVec 32 := 256#32
  let v199 : BitVec 32 := Scalar.muli v188 c256_i32_107
  v199
def k0_mult9 (v2 : BitVec 32) : BitVec 32 :=
  let c4_i32_113 : BitVec 32 := 4#32
  let v206 : BitVec 32 := Scalar.addi v2 c4_i32_113
  let c0_i32_114 : BitVec 32 := 0#32
  let v207 : BitVec 32 := Scalar.addi v206 c0_i32_114
  let c256_i32_465 : BitVec 32 := 256#32
  let v812 : BitVec 32 := Scalar.muli v207 c256_i32_465
  v812
def k0_cond8 (v0 : BitVec 32) (v2 : BitVec 32) : BitVec 1 :=
  let c4_i32_113 : BitVec 32 := 4#32
  let v206 : BitVec 32 := Scalar.addi v2 c4_i32_113
  let c0_i32_114 : BitVec 32 := 0#32
  let v207 : BitVec 32 := Scalar.addi v206 c0_i32_114
  let v208 : BitVec 1 := Scalar.cmpi .slt v207 v0
  let v209 : BitVec 32 := Scalar.extui v208
  let c0_i32_115 : BitVec 32 := 0#32
  let v210 : BitVec 1 := Scalar.cmpi .ne v209 c0_i32_115
  v210

def k0_off6 (v2 : BitVec 32) : Fin 1 → Nat :=
  let c4_i32_113 : BitVec 32 := 4#32
  let v206 : BitVec 32 := Scalar.addi v2 c4_i32_113
  let c0_i32_114 : BitVec 32 := 0#32
  let v207 : BitVec 32 := Scalar.addi v206 c0_i32_114
  let c8_i32_459 : BitVec 32 := 8#32
  let c0_i32_460 : BitVec 32 := 0#32
  let v802 : BitVec 1 := Scalar.cmpi .eq c8_i32_459 c0_i32_460
  let c1_i32_461 : BitVec 32 := 1#32
  let v803 : BitVec 32 := Scalar.select v802 c1_i32_461 c8_i32_459
  let v804 : BitVec 32 := Scalar.remsi v207 v803
  let c0_i32_463 : BitVec 32 := 0#32
  let v806 : BitVec 1 := Scalar.cmpi .slt v804 c0_i32_463
  let c0_i32_464 : BitVec 32 := 0#32
  let v807 : BitVec 1 := Scalar.cmpi .slt v803 c0_i32_464
  let v808 : BitVec 1 := Scalar.xori v806 v807
  let c0_i32_462 : BitVec 32 := 0#32
  let v805 : BitVec 1 := Scalar.cmpi .ne v804 c0_i32_462
  let v809 : BitVec 1 := Scalar.andi v808 v805
  let v810 : BitVec 32 := Scalar.addi v804 v803
  let v811 : BitVec 32 := Scalar.select v809 v810 v804
  ![v811.toNat]
def k0_off7 (v2 : BitVec 32) : Fin 4 → Nat :=
  let c4_i32_113 : BitVec 32 := 4#32
  let v206 : BitVec 32 := Scalar.addi v2 c4_i32_113
  let c0_i32_114 : BitVec 32 := 0#32
  let v207 : BitVec 32 := Scalar.addi v206 c0_i32_114
  let c8_i32_459 : BitVec 32 := 8#32
  let c0_i32_460 : BitVec 32 := 0#32
  let v802 : BitVec 1 := Scalar.cmpi .eq c8_i32_459 c0_i32_460
  let c1_i32_461 : BitVec 32 := 1#32
  let v803 : BitVec 32 := Scalar.select v802 c1_i32_461 c8_i32_459
  let v804 : BitVec 32 := Scalar.remsi v207 v803
  let c0_i32_463 : BitVec 32 := 0#32
  let v806 : BitVec 1 := Scalar.cmpi .slt v804 c0_i32_463
  let c0_i32_464 : BitVec 32 := 0#32
  let v807 : BitVec 1 := Scalar.cmpi .slt v803 c0_i32_464
  let v808 : BitVec 1 := Scalar.xori v806 v807
  let c0_i32_462 : BitVec 32 := 0#32
  let v805 : BitVec 1 := Scalar.cmpi .ne v804 c0_i32_462
  let v809 : BitVec 1 := Scalar.andi v808 v805
  let v810 : BitVec 32 := Scalar.addi v804 v803
  let v811 : BitVec 32 := Scalar.select v809 v810 v804
  let c0_i32_466 : BitVec 32 := 0#32
  let c0_i32_467 : BitVec 32 := 0#32
  let c0_i32_468 : BitVec 32 := 0#32
  ![v811.toNat, 0, 0, 0]
def k0_off8 (v2 : BitVec 32) : Fin 3 → Nat :=
  let c0_i32_469 : BitVec 32 := 0#32
  let c4_i32_113 : BitVec 32 := 4#32
  let v206 : BitVec 32 := Scalar.addi v2 c4_i32_113
  let c0_i32_114 : BitVec 32 := 0#32
  let v207 : BitVec 32 := Scalar.addi v206 c0_i32_114
  let c256_i32_465 : BitVec 32 := 256#32
  let v812 : BitVec 32 := Scalar.muli v207 c256_i32_465
  let v813 : BitVec 32 := v812
  let c0_i32_470 : BitVec 32 := 0#32
  ![0, v813.toNat, 0]
def k0_mult10 (v2 : BitVec 32) : BitVec 32 :=
  let c4_i32_116 : BitVec 32 := 4#32
  let v211 : BitVec 32 := Scalar.addi v2 c4_i32_116
  let c1_i32_117 : BitVec 32 := 1#32
  let v212 : BitVec 32 := Scalar.addi v211 c1_i32_117
  let c256_i32_465 : BitVec 32 := 256#32
  let v812 : BitVec 32 := Scalar.muli v212 c256_i32_465
  v812
def k0_cond9 (v0 : BitVec 32) (v2 : BitVec 32) : BitVec 1 :=
  let c4_i32_116 : BitVec 32 := 4#32
  let v211 : BitVec 32 := Scalar.addi v2 c4_i32_116
  let c1_i32_117 : BitVec 32 := 1#32
  let v212 : BitVec 32 := Scalar.addi v211 c1_i32_117
  let v213 : BitVec 1 := Scalar.cmpi .slt v212 v0
  let v214 : BitVec 32 := Scalar.extui v213
  let c0_i32_118 : BitVec 32 := 0#32
  let v215 : BitVec 1 := Scalar.cmpi .ne v214 c0_i32_118
  v215

def k0_off9 (v2 : BitVec 32) : Fin 1 → Nat :=
  let c4_i32_116 : BitVec 32 := 4#32
  let v211 : BitVec 32 := Scalar.addi v2 c4_i32_116
  let c1_i32_117 : BitVec 32 := 1#32
  let v212 : BitVec 32 := Scalar.addi v211 c1_i32_117
  let c8_i32_459 : BitVec 32 := 8#32
  let c0_i32_460 : BitVec 32 := 0#32
  let v802 : BitVec 1 := Scalar.cmpi .eq c8_i32_459 c0_i32_460
  let c1_i32_461 : BitVec 32 := 1#32
  let v803 : BitVec 32 := Scalar.select v802 c1_i32_461 c8_i32_459
  let v804 : BitVec 32 := Scalar.remsi v212 v803
  let c0_i32_463 : BitVec 32 := 0#32
  let v806 : BitVec 1 := Scalar.cmpi .slt v804 c0_i32_463
  let c0_i32_464 : BitVec 32 := 0#32
  let v807 : BitVec 1 := Scalar.cmpi .slt v803 c0_i32_464
  let v808 : BitVec 1 := Scalar.xori v806 v807
  let c0_i32_462 : BitVec 32 := 0#32
  let v805 : BitVec 1 := Scalar.cmpi .ne v804 c0_i32_462
  let v809 : BitVec 1 := Scalar.andi v808 v805
  let v810 : BitVec 32 := Scalar.addi v804 v803
  let v811 : BitVec 32 := Scalar.select v809 v810 v804
  ![v811.toNat]
def k0_off10 (v2 : BitVec 32) : Fin 4 → Nat :=
  let c4_i32_116 : BitVec 32 := 4#32
  let v211 : BitVec 32 := Scalar.addi v2 c4_i32_116
  let c1_i32_117 : BitVec 32 := 1#32
  let v212 : BitVec 32 := Scalar.addi v211 c1_i32_117
  let c8_i32_459 : BitVec 32 := 8#32
  let c0_i32_460 : BitVec 32 := 0#32
  let v802 : BitVec 1 := Scalar.cmpi .eq c8_i32_459 c0_i32_460
  let c1_i32_461 : BitVec 32 := 1#32
  let v803 : BitVec 32 := Scalar.select v802 c1_i32_461 c8_i32_459
  let v804 : BitVec 32 := Scalar.remsi v212 v803
  let c0_i32_463 : BitVec 32 := 0#32
  let v806 : BitVec 1 := Scalar.cmpi .slt v804 c0_i32_463
  let c0_i32_464 : BitVec 32 := 0#32
  let v807 : BitVec 1 := Scalar.cmpi .slt v803 c0_i32_464
  let v808 : BitVec 1 := Scalar.xori v806 v807
  let c0_i32_462 : BitVec 32 := 0#32
  let v805 : BitVec 1 := Scalar.cmpi .ne v804 c0_i32_462
  let v809 : BitVec 1 := Scalar.andi v808 v805
  let v810 : BitVec 32 := Scalar.addi v804 v803
  let v811 : BitVec 32 := Scalar.select v809 v810 v804
  let c0_i32_466 : BitVec 32 := 0#32
  let c0_i32_467 : BitVec 32 := 0#32
  let c0_i32_468 : BitVec 32 := 0#32
  ![v811.toNat, 0, 0, 0]
def k0_off11 (v2 : BitVec 32) : Fin 3 → Nat :=
  let c0_i32_469 : BitVec 32 := 0#32
  let c4_i32_116 : BitVec 32 := 4#32
  let v211 : BitVec 32 := Scalar.addi v2 c4_i32_116
  let c1_i32_117 : BitVec 32 := 1#32
  let v212 : BitVec 32 := Scalar.addi v211 c1_i32_117
  let c256_i32_465 : BitVec 32 := 256#32
  let v812 : BitVec 32 := Scalar.muli v212 c256_i32_465
  let v813 : BitVec 32 := v812
  let c0_i32_470 : BitVec 32 := 0#32
  ![0, v813.toNat, 0]
def k0_mult11 (v2 : BitVec 32) : BitVec 32 :=
  let c4_i32_119 : BitVec 32 := 4#32
  let v216 : BitVec 32 := Scalar.addi v2 c4_i32_119
  let c2_i32_120 : BitVec 32 := 2#32
  let v217 : BitVec 32 := Scalar.addi v216 c2_i32_120
  let c256_i32_465 : BitVec 32 := 256#32
  let v812 : BitVec 32 := Scalar.muli v217 c256_i32_465
  v812
def k0_cond10 (v0 : BitVec 32) (v2 : BitVec 32) : BitVec 1 :=
  let c4_i32_119 : BitVec 32 := 4#32
  let v216 : BitVec 32 := Scalar.addi v2 c4_i32_119
  let c2_i32_120 : BitVec 32 := 2#32
  let v217 : BitVec 32 := Scalar.addi v216 c2_i32_120
  let v218 : BitVec 1 := Scalar.cmpi .slt v217 v0
  let v219 : BitVec 32 := Scalar.extui v218
  let c0_i32_121 : BitVec 32 := 0#32
  let v220 : BitVec 1 := Scalar.cmpi .ne v219 c0_i32_121
  v220

def k0_off12 (v2 : BitVec 32) : Fin 1 → Nat :=
  let c4_i32_119 : BitVec 32 := 4#32
  let v216 : BitVec 32 := Scalar.addi v2 c4_i32_119
  let c2_i32_120 : BitVec 32 := 2#32
  let v217 : BitVec 32 := Scalar.addi v216 c2_i32_120
  let c8_i32_459 : BitVec 32 := 8#32
  let c0_i32_460 : BitVec 32 := 0#32
  let v802 : BitVec 1 := Scalar.cmpi .eq c8_i32_459 c0_i32_460
  let c1_i32_461 : BitVec 32 := 1#32
  let v803 : BitVec 32 := Scalar.select v802 c1_i32_461 c8_i32_459
  let v804 : BitVec 32 := Scalar.remsi v217 v803
  let c0_i32_463 : BitVec 32 := 0#32
  let v806 : BitVec 1 := Scalar.cmpi .slt v804 c0_i32_463
  let c0_i32_464 : BitVec 32 := 0#32
  let v807 : BitVec 1 := Scalar.cmpi .slt v803 c0_i32_464
  let v808 : BitVec 1 := Scalar.xori v806 v807
  let c0_i32_462 : BitVec 32 := 0#32
  let v805 : BitVec 1 := Scalar.cmpi .ne v804 c0_i32_462
  let v809 : BitVec 1 := Scalar.andi v808 v805
  let v810 : BitVec 32 := Scalar.addi v804 v803
  let v811 : BitVec 32 := Scalar.select v809 v810 v804
  ![v811.toNat]
def k0_off13 (v2 : BitVec 32) : Fin 4 → Nat :=
  let c4_i32_119 : BitVec 32 := 4#32
  let v216 : BitVec 32 := Scalar.addi v2 c4_i32_119
  let c2_i32_120 : BitVec 32 := 2#32
  let v217 : BitVec 32 := Scalar.addi v216 c2_i32_120
  let c8_i32_459 : BitVec 32 := 8#32
  let c0_i32_460 : BitVec 32 := 0#32
  let v802 : BitVec 1 := Scalar.cmpi .eq c8_i32_459 c0_i32_460
  let c1_i32_461 : BitVec 32 := 1#32
  let v803 : BitVec 32 := Scalar.select v802 c1_i32_461 c8_i32_459
  let v804 : BitVec 32 := Scalar.remsi v217 v803
  let c0_i32_463 : BitVec 32 := 0#32
  let v806 : BitVec 1 := Scalar.cmpi .slt v804 c0_i32_463
  let c0_i32_464 : BitVec 32 := 0#32
  let v807 : BitVec 1 := Scalar.cmpi .slt v803 c0_i32_464
  let v808 : BitVec 1 := Scalar.xori v806 v807
  let c0_i32_462 : BitVec 32 := 0#32
  let v805 : BitVec 1 := Scalar.cmpi .ne v804 c0_i32_462
  let v809 : BitVec 1 := Scalar.andi v808 v805
  let v810 : BitVec 32 := Scalar.addi v804 v803
  let v811 : BitVec 32 := Scalar.select v809 v810 v804
  let c0_i32_466 : BitVec 32 := 0#32
  let c0_i32_467 : BitVec 32 := 0#32
  let c0_i32_468 : BitVec 32 := 0#32
  ![v811.toNat, 0, 0, 0]
def k0_off14 (v2 : BitVec 32) : Fin 3 → Nat :=
  let c0_i32_469 : BitVec 32 := 0#32
  let c4_i32_119 : BitVec 32 := 4#32
  let v216 : BitVec 32 := Scalar.addi v2 c4_i32_119
  let c2_i32_120 : BitVec 32 := 2#32
  let v217 : BitVec 32 := Scalar.addi v216 c2_i32_120
  let c256_i32_465 : BitVec 32 := 256#32
  let v812 : BitVec 32 := Scalar.muli v217 c256_i32_465
  let v813 : BitVec 32 := v812
  let c0_i32_470 : BitVec 32 := 0#32
  ![0, v813.toNat, 0]
def k0_mult12 (v2 : BitVec 32) : BitVec 32 :=
  let c4_i32_122 : BitVec 32 := 4#32
  let v221 : BitVec 32 := Scalar.addi v2 c4_i32_122
  let c3_i32_123 : BitVec 32 := 3#32
  let v222 : BitVec 32 := Scalar.addi v221 c3_i32_123
  let c256_i32_465 : BitVec 32 := 256#32
  let v812 : BitVec 32 := Scalar.muli v222 c256_i32_465
  v812
def k0_cond11 (v0 : BitVec 32) (v2 : BitVec 32) : BitVec 1 :=
  let c4_i32_122 : BitVec 32 := 4#32
  let v221 : BitVec 32 := Scalar.addi v2 c4_i32_122
  let c3_i32_123 : BitVec 32 := 3#32
  let v222 : BitVec 32 := Scalar.addi v221 c3_i32_123
  let v223 : BitVec 1 := Scalar.cmpi .slt v222 v0
  let v224 : BitVec 32 := Scalar.extui v223
  let c0_i32_124 : BitVec 32 := 0#32
  let v225 : BitVec 1 := Scalar.cmpi .ne v224 c0_i32_124
  v225

def k0_off15 (v2 : BitVec 32) : Fin 1 → Nat :=
  let c4_i32_122 : BitVec 32 := 4#32
  let v221 : BitVec 32 := Scalar.addi v2 c4_i32_122
  let c3_i32_123 : BitVec 32 := 3#32
  let v222 : BitVec 32 := Scalar.addi v221 c3_i32_123
  let c8_i32_459 : BitVec 32 := 8#32
  let c0_i32_460 : BitVec 32 := 0#32
  let v802 : BitVec 1 := Scalar.cmpi .eq c8_i32_459 c0_i32_460
  let c1_i32_461 : BitVec 32 := 1#32
  let v803 : BitVec 32 := Scalar.select v802 c1_i32_461 c8_i32_459
  let v804 : BitVec 32 := Scalar.remsi v222 v803
  let c0_i32_463 : BitVec 32 := 0#32
  let v806 : BitVec 1 := Scalar.cmpi .slt v804 c0_i32_463
  let c0_i32_464 : BitVec 32 := 0#32
  let v807 : BitVec 1 := Scalar.cmpi .slt v803 c0_i32_464
  let v808 : BitVec 1 := Scalar.xori v806 v807
  let c0_i32_462 : BitVec 32 := 0#32
  let v805 : BitVec 1 := Scalar.cmpi .ne v804 c0_i32_462
  let v809 : BitVec 1 := Scalar.andi v808 v805
  let v810 : BitVec 32 := Scalar.addi v804 v803
  let v811 : BitVec 32 := Scalar.select v809 v810 v804
  ![v811.toNat]
def k0_off16 (v2 : BitVec 32) : Fin 4 → Nat :=
  let c4_i32_122 : BitVec 32 := 4#32
  let v221 : BitVec 32 := Scalar.addi v2 c4_i32_122
  let c3_i32_123 : BitVec 32 := 3#32
  let v222 : BitVec 32 := Scalar.addi v221 c3_i32_123
  let c8_i32_459 : BitVec 32 := 8#32
  let c0_i32_460 : BitVec 32 := 0#32
  let v802 : BitVec 1 := Scalar.cmpi .eq c8_i32_459 c0_i32_460
  let c1_i32_461 : BitVec 32 := 1#32
  let v803 : BitVec 32 := Scalar.select v802 c1_i32_461 c8_i32_459
  let v804 : BitVec 32 := Scalar.remsi v222 v803
  let c0_i32_463 : BitVec 32 := 0#32
  let v806 : BitVec 1 := Scalar.cmpi .slt v804 c0_i32_463
  let c0_i32_464 : BitVec 32 := 0#32
  let v807 : BitVec 1 := Scalar.cmpi .slt v803 c0_i32_464
  let v808 : BitVec 1 := Scalar.xori v806 v807
  let c0_i32_462 : BitVec 32 := 0#32
  let v805 : BitVec 1 := Scalar.cmpi .ne v804 c0_i32_462
  let v809 : BitVec 1 := Scalar.andi v808 v805
  let v810 : BitVec 32 := Scalar.addi v804 v803
  let v811 : BitVec 32 := Scalar.select v809 v810 v804
  let c0_i32_466 : BitVec 32 := 0#32
  let c0_i32_467 : BitVec 32 := 0#32
  let c0_i32_468 : BitVec 32 := 0#32
  ![v811.toNat, 0, 0, 0]
def k0_off17 (v2 : BitVec 32) : Fin 3 → Nat :=
  let c0_i32_469 : BitVec 32 := 0#32
  let c4_i32_122 : BitVec 32 := 4#32
  let v221 : BitVec 32 := Scalar.addi v2 c4_i32_122
  let c3_i32_123 : BitVec 32 := 3#32
  let v222 : BitVec 32 := Scalar.addi v221 c3_i32_123
  let c256_i32_465 : BitVec 32 := 256#32
  let v812 : BitVec 32 := Scalar.muli v222 c256_i32_465
  let v813 : BitVec 32 := v812
  let c0_i32_470 : BitVec 32 := 0#32
  ![0, v813.toNat, 0]
def k0_mult13 (v2 : BitVec 32) : BitVec 32 :=
  let c0_i32_125 : BitVec 32 := 0#32
  let v226 : BitVec 32 := Scalar.addi v2 c0_i32_125
  let c8_i32_459 : BitVec 32 := 8#32
  let v802 : BitVec 32 := Scalar.subi v226 c8_i32_459
  let c256_i32_466 : BitVec 32 := 256#32
  let v813 : BitVec 32 := Scalar.muli v802 c256_i32_466
  v813
def k0_cond12 (v2 : BitVec 32) : BitVec 1 :=
  let c0_i32_125 : BitVec 32 := 0#32
  let v226 : BitVec 32 := Scalar.addi v2 c0_i32_125
  let c8_i32_126 : BitVec 32 := 8#32
  let v227 : BitVec 1 := Scalar.cmpi .sge v226 c8_i32_126
  let v228 : BitVec 32 := Scalar.extui v227
  let c0_i32_127 : BitVec 32 := 0#32
  let v229 : BitVec 1 := Scalar.cmpi .ne v228 c0_i32_127
  v229

def k0_off18 (v2 : BitVec 32) : Fin 1 → Nat :=
  let c0_i32_125 : BitVec 32 := 0#32
  let v226 : BitVec 32 := Scalar.addi v2 c0_i32_125
  let c8_i32_460 : BitVec 32 := 8#32
  let c0_i32_461 : BitVec 32 := 0#32
  let v803 : BitVec 1 := Scalar.cmpi .eq c8_i32_460 c0_i32_461
  let c1_i32_462 : BitVec 32 := 1#32
  let v804 : BitVec 32 := Scalar.select v803 c1_i32_462 c8_i32_460
  let v805 : BitVec 32 := Scalar.remsi v226 v804
  let c0_i32_464 : BitVec 32 := 0#32
  let v807 : BitVec 1 := Scalar.cmpi .slt v805 c0_i32_464
  let c0_i32_465 : BitVec 32 := 0#32
  let v808 : BitVec 1 := Scalar.cmpi .slt v804 c0_i32_465
  let v809 : BitVec 1 := Scalar.xori v807 v808
  let c0_i32_463 : BitVec 32 := 0#32
  let v806 : BitVec 1 := Scalar.cmpi .ne v805 c0_i32_463
  let v810 : BitVec 1 := Scalar.andi v809 v806
  let v811 : BitVec 32 := Scalar.addi v805 v804
  let v812 : BitVec 32 := Scalar.select v810 v811 v805
  ![v812.toNat]
def k0_off19 (v2 : BitVec 32) : Fin 3 → Nat :=
  let c0_i32_467 : BitVec 32 := 0#32
  let c0_i32_125 : BitVec 32 := 0#32
  let v226 : BitVec 32 := Scalar.addi v2 c0_i32_125
  let c8_i32_459 : BitVec 32 := 8#32
  let v802 : BitVec 32 := Scalar.subi v226 c8_i32_459
  let c256_i32_466 : BitVec 32 := 256#32
  let v813 : BitVec 32 := Scalar.muli v802 c256_i32_466
  let v814 : BitVec 32 := v813
  let c0_i32_468 : BitVec 32 := 0#32
  ![0, v814.toNat, 0]
def k0_off20 (v2 : BitVec 32) : Fin 4 → Nat :=
  let c0_i32_125 : BitVec 32 := 0#32
  let v226 : BitVec 32 := Scalar.addi v2 c0_i32_125
  let c8_i32_460 : BitVec 32 := 8#32
  let c0_i32_461 : BitVec 32 := 0#32
  let v803 : BitVec 1 := Scalar.cmpi .eq c8_i32_460 c0_i32_461
  let c1_i32_462 : BitVec 32 := 1#32
  let v804 : BitVec 32 := Scalar.select v803 c1_i32_462 c8_i32_460
  let v805 : BitVec 32 := Scalar.remsi v226 v804
  let c0_i32_464 : BitVec 32 := 0#32
  let v807 : BitVec 1 := Scalar.cmpi .slt v805 c0_i32_464
  let c0_i32_465 : BitVec 32 := 0#32
  let v808 : BitVec 1 := Scalar.cmpi .slt v804 c0_i32_465
  let v809 : BitVec 1 := Scalar.xori v807 v808
  let c0_i32_463 : BitVec 32 := 0#32
  let v806 : BitVec 1 := Scalar.cmpi .ne v805 c0_i32_463
  let v810 : BitVec 1 := Scalar.andi v809 v806
  let v811 : BitVec 32 := Scalar.addi v805 v804
  let v812 : BitVec 32 := Scalar.select v810 v811 v805
  let c0_i32_469 : BitVec 32 := 0#32
  let c0_i32_470 : BitVec 32 := 0#32
  let c0_i32_471 : BitVec 32 := 0#32
  ![v812.toNat, 0, 0, 0]
def k0_mult14 (v2 : BitVec 32) : BitVec 32 :=
  let c1_i32_128 : BitVec 32 := 1#32
  let v230 : BitVec 32 := Scalar.addi v2 c1_i32_128
  let c8_i32_459 : BitVec 32 := 8#32
  let v802 : BitVec 32 := Scalar.subi v230 c8_i32_459
  let c256_i32_466 : BitVec 32 := 256#32
  let v813 : BitVec 32 := Scalar.muli v802 c256_i32_466
  v813
def k0_cond13 (v2 : BitVec 32) : BitVec 1 :=
  let c1_i32_128 : BitVec 32 := 1#32
  let v230 : BitVec 32 := Scalar.addi v2 c1_i32_128
  let c8_i32_129 : BitVec 32 := 8#32
  let v231 : BitVec 1 := Scalar.cmpi .sge v230 c8_i32_129
  let v232 : BitVec 32 := Scalar.extui v231
  let c0_i32_130 : BitVec 32 := 0#32
  let v233 : BitVec 1 := Scalar.cmpi .ne v232 c0_i32_130
  v233

def k0_off21 (v2 : BitVec 32) : Fin 1 → Nat :=
  let c1_i32_128 : BitVec 32 := 1#32
  let v230 : BitVec 32 := Scalar.addi v2 c1_i32_128
  let c8_i32_460 : BitVec 32 := 8#32
  let c0_i32_461 : BitVec 32 := 0#32
  let v803 : BitVec 1 := Scalar.cmpi .eq c8_i32_460 c0_i32_461
  let c1_i32_462 : BitVec 32 := 1#32
  let v804 : BitVec 32 := Scalar.select v803 c1_i32_462 c8_i32_460
  let v805 : BitVec 32 := Scalar.remsi v230 v804
  let c0_i32_464 : BitVec 32 := 0#32
  let v807 : BitVec 1 := Scalar.cmpi .slt v805 c0_i32_464
  let c0_i32_465 : BitVec 32 := 0#32
  let v808 : BitVec 1 := Scalar.cmpi .slt v804 c0_i32_465
  let v809 : BitVec 1 := Scalar.xori v807 v808
  let c0_i32_463 : BitVec 32 := 0#32
  let v806 : BitVec 1 := Scalar.cmpi .ne v805 c0_i32_463
  let v810 : BitVec 1 := Scalar.andi v809 v806
  let v811 : BitVec 32 := Scalar.addi v805 v804
  let v812 : BitVec 32 := Scalar.select v810 v811 v805
  ![v812.toNat]
def k0_off22 (v2 : BitVec 32) : Fin 3 → Nat :=
  let c0_i32_467 : BitVec 32 := 0#32
  let c1_i32_128 : BitVec 32 := 1#32
  let v230 : BitVec 32 := Scalar.addi v2 c1_i32_128
  let c8_i32_459 : BitVec 32 := 8#32
  let v802 : BitVec 32 := Scalar.subi v230 c8_i32_459
  let c256_i32_466 : BitVec 32 := 256#32
  let v813 : BitVec 32 := Scalar.muli v802 c256_i32_466
  let v814 : BitVec 32 := v813
  let c0_i32_468 : BitVec 32 := 0#32
  ![0, v814.toNat, 0]
def k0_off23 (v2 : BitVec 32) : Fin 4 → Nat :=
  let c1_i32_128 : BitVec 32 := 1#32
  let v230 : BitVec 32 := Scalar.addi v2 c1_i32_128
  let c8_i32_460 : BitVec 32 := 8#32
  let c0_i32_461 : BitVec 32 := 0#32
  let v803 : BitVec 1 := Scalar.cmpi .eq c8_i32_460 c0_i32_461
  let c1_i32_462 : BitVec 32 := 1#32
  let v804 : BitVec 32 := Scalar.select v803 c1_i32_462 c8_i32_460
  let v805 : BitVec 32 := Scalar.remsi v230 v804
  let c0_i32_464 : BitVec 32 := 0#32
  let v807 : BitVec 1 := Scalar.cmpi .slt v805 c0_i32_464
  let c0_i32_465 : BitVec 32 := 0#32
  let v808 : BitVec 1 := Scalar.cmpi .slt v804 c0_i32_465
  let v809 : BitVec 1 := Scalar.xori v807 v808
  let c0_i32_463 : BitVec 32 := 0#32
  let v806 : BitVec 1 := Scalar.cmpi .ne v805 c0_i32_463
  let v810 : BitVec 1 := Scalar.andi v809 v806
  let v811 : BitVec 32 := Scalar.addi v805 v804
  let v812 : BitVec 32 := Scalar.select v810 v811 v805
  let c0_i32_469 : BitVec 32 := 0#32
  let c0_i32_470 : BitVec 32 := 0#32
  let c0_i32_471 : BitVec 32 := 0#32
  ![v812.toNat, 0, 0, 0]
def k0_mult15 (v2 : BitVec 32) : BitVec 32 :=
  let c2_i32_131 : BitVec 32 := 2#32
  let v234 : BitVec 32 := Scalar.addi v2 c2_i32_131
  let c8_i32_459 : BitVec 32 := 8#32
  let v802 : BitVec 32 := Scalar.subi v234 c8_i32_459
  let c256_i32_466 : BitVec 32 := 256#32
  let v813 : BitVec 32 := Scalar.muli v802 c256_i32_466
  v813
def k0_cond14 (v2 : BitVec 32) : BitVec 1 :=
  let c2_i32_131 : BitVec 32 := 2#32
  let v234 : BitVec 32 := Scalar.addi v2 c2_i32_131
  let c8_i32_132 : BitVec 32 := 8#32
  let v235 : BitVec 1 := Scalar.cmpi .sge v234 c8_i32_132
  let v236 : BitVec 32 := Scalar.extui v235
  let c0_i32_133 : BitVec 32 := 0#32
  let v237 : BitVec 1 := Scalar.cmpi .ne v236 c0_i32_133
  v237

def k0_off24 (v2 : BitVec 32) : Fin 1 → Nat :=
  let c2_i32_131 : BitVec 32 := 2#32
  let v234 : BitVec 32 := Scalar.addi v2 c2_i32_131
  let c8_i32_460 : BitVec 32 := 8#32
  let c0_i32_461 : BitVec 32 := 0#32
  let v803 : BitVec 1 := Scalar.cmpi .eq c8_i32_460 c0_i32_461
  let c1_i32_462 : BitVec 32 := 1#32
  let v804 : BitVec 32 := Scalar.select v803 c1_i32_462 c8_i32_460
  let v805 : BitVec 32 := Scalar.remsi v234 v804
  let c0_i32_464 : BitVec 32 := 0#32
  let v807 : BitVec 1 := Scalar.cmpi .slt v805 c0_i32_464
  let c0_i32_465 : BitVec 32 := 0#32
  let v808 : BitVec 1 := Scalar.cmpi .slt v804 c0_i32_465
  let v809 : BitVec 1 := Scalar.xori v807 v808
  let c0_i32_463 : BitVec 32 := 0#32
  let v806 : BitVec 1 := Scalar.cmpi .ne v805 c0_i32_463
  let v810 : BitVec 1 := Scalar.andi v809 v806
  let v811 : BitVec 32 := Scalar.addi v805 v804
  let v812 : BitVec 32 := Scalar.select v810 v811 v805
  ![v812.toNat]
def k0_off25 (v2 : BitVec 32) : Fin 3 → Nat :=
  let c0_i32_467 : BitVec 32 := 0#32
  let c2_i32_131 : BitVec 32 := 2#32
  let v234 : BitVec 32 := Scalar.addi v2 c2_i32_131
  let c8_i32_459 : BitVec 32 := 8#32
  let v802 : BitVec 32 := Scalar.subi v234 c8_i32_459
  let c256_i32_466 : BitVec 32 := 256#32
  let v813 : BitVec 32 := Scalar.muli v802 c256_i32_466
  let v814 : BitVec 32 := v813
  let c0_i32_468 : BitVec 32 := 0#32
  ![0, v814.toNat, 0]
def k0_off26 (v2 : BitVec 32) : Fin 4 → Nat :=
  let c2_i32_131 : BitVec 32 := 2#32
  let v234 : BitVec 32 := Scalar.addi v2 c2_i32_131
  let c8_i32_460 : BitVec 32 := 8#32
  let c0_i32_461 : BitVec 32 := 0#32
  let v803 : BitVec 1 := Scalar.cmpi .eq c8_i32_460 c0_i32_461
  let c1_i32_462 : BitVec 32 := 1#32
  let v804 : BitVec 32 := Scalar.select v803 c1_i32_462 c8_i32_460
  let v805 : BitVec 32 := Scalar.remsi v234 v804
  let c0_i32_464 : BitVec 32 := 0#32
  let v807 : BitVec 1 := Scalar.cmpi .slt v805 c0_i32_464
  let c0_i32_465 : BitVec 32 := 0#32
  let v808 : BitVec 1 := Scalar.cmpi .slt v804 c0_i32_465
  let v809 : BitVec 1 := Scalar.xori v807 v808
  let c0_i32_463 : BitVec 32 := 0#32
  let v806 : BitVec 1 := Scalar.cmpi .ne v805 c0_i32_463
  let v810 : BitVec 1 := Scalar.andi v809 v806
  let v811 : BitVec 32 := Scalar.addi v805 v804
  let v812 : BitVec 32 := Scalar.select v810 v811 v805
  let c0_i32_469 : BitVec 32 := 0#32
  let c0_i32_470 : BitVec 32 := 0#32
  let c0_i32_471 : BitVec 32 := 0#32
  ![v812.toNat, 0, 0, 0]
def k0_mult16 (v2 : BitVec 32) : BitVec 32 :=
  let c3_i32_134 : BitVec 32 := 3#32
  let v238 : BitVec 32 := Scalar.addi v2 c3_i32_134
  let c8_i32_459 : BitVec 32 := 8#32
  let v802 : BitVec 32 := Scalar.subi v238 c8_i32_459
  let c256_i32_466 : BitVec 32 := 256#32
  let v813 : BitVec 32 := Scalar.muli v802 c256_i32_466
  v813
def k0_cond15 (v2 : BitVec 32) : BitVec 1 :=
  let c3_i32_134 : BitVec 32 := 3#32
  let v238 : BitVec 32 := Scalar.addi v2 c3_i32_134
  let c8_i32_135 : BitVec 32 := 8#32
  let v239 : BitVec 1 := Scalar.cmpi .sge v238 c8_i32_135
  let v240 : BitVec 32 := Scalar.extui v239
  let c0_i32_136 : BitVec 32 := 0#32
  let v241 : BitVec 1 := Scalar.cmpi .ne v240 c0_i32_136
  v241

def k0_off27 (v2 : BitVec 32) : Fin 1 → Nat :=
  let c3_i32_134 : BitVec 32 := 3#32
  let v238 : BitVec 32 := Scalar.addi v2 c3_i32_134
  let c8_i32_460 : BitVec 32 := 8#32
  let c0_i32_461 : BitVec 32 := 0#32
  let v803 : BitVec 1 := Scalar.cmpi .eq c8_i32_460 c0_i32_461
  let c1_i32_462 : BitVec 32 := 1#32
  let v804 : BitVec 32 := Scalar.select v803 c1_i32_462 c8_i32_460
  let v805 : BitVec 32 := Scalar.remsi v238 v804
  let c0_i32_464 : BitVec 32 := 0#32
  let v807 : BitVec 1 := Scalar.cmpi .slt v805 c0_i32_464
  let c0_i32_465 : BitVec 32 := 0#32
  let v808 : BitVec 1 := Scalar.cmpi .slt v804 c0_i32_465
  let v809 : BitVec 1 := Scalar.xori v807 v808
  let c0_i32_463 : BitVec 32 := 0#32
  let v806 : BitVec 1 := Scalar.cmpi .ne v805 c0_i32_463
  let v810 : BitVec 1 := Scalar.andi v809 v806
  let v811 : BitVec 32 := Scalar.addi v805 v804
  let v812 : BitVec 32 := Scalar.select v810 v811 v805
  ![v812.toNat]
def k0_off28 (v2 : BitVec 32) : Fin 3 → Nat :=
  let c0_i32_467 : BitVec 32 := 0#32
  let c3_i32_134 : BitVec 32 := 3#32
  let v238 : BitVec 32 := Scalar.addi v2 c3_i32_134
  let c8_i32_459 : BitVec 32 := 8#32
  let v802 : BitVec 32 := Scalar.subi v238 c8_i32_459
  let c256_i32_466 : BitVec 32 := 256#32
  let v813 : BitVec 32 := Scalar.muli v802 c256_i32_466
  let v814 : BitVec 32 := v813
  let c0_i32_468 : BitVec 32 := 0#32
  ![0, v814.toNat, 0]
def k0_off29 (v2 : BitVec 32) : Fin 4 → Nat :=
  let c3_i32_134 : BitVec 32 := 3#32
  let v238 : BitVec 32 := Scalar.addi v2 c3_i32_134
  let c8_i32_460 : BitVec 32 := 8#32
  let c0_i32_461 : BitVec 32 := 0#32
  let v803 : BitVec 1 := Scalar.cmpi .eq c8_i32_460 c0_i32_461
  let c1_i32_462 : BitVec 32 := 1#32
  let v804 : BitVec 32 := Scalar.select v803 c1_i32_462 c8_i32_460
  let v805 : BitVec 32 := Scalar.remsi v238 v804
  let c0_i32_464 : BitVec 32 := 0#32
  let v807 : BitVec 1 := Scalar.cmpi .slt v805 c0_i32_464
  let c0_i32_465 : BitVec 32 := 0#32
  let v808 : BitVec 1 := Scalar.cmpi .slt v804 c0_i32_465
  let v809 : BitVec 1 := Scalar.xori v807 v808
  let c0_i32_463 : BitVec 32 := 0#32
  let v806 : BitVec 1 := Scalar.cmpi .ne v805 c0_i32_463
  let v810 : BitVec 1 := Scalar.andi v809 v806
  let v811 : BitVec 32 := Scalar.addi v805 v804
  let v812 : BitVec 32 := Scalar.select v810 v811 v805
  let c0_i32_469 : BitVec 32 := 0#32
  let c0_i32_470 : BitVec 32 := 0#32
  let c0_i32_471 : BitVec 32 := 0#32
  ![v812.toNat, 0, 0, 0]
def k0_off30 (v2 : BitVec 32) (c0_i32_147 : BitVec 32) : Fin 4 → Nat :=
  let v254 : BitVec 32 := Scalar.addi v2 c0_i32_147
  let c8_i32_148 : BitVec 32 := 8#32
  let c0_i32_149 : BitVec 32 := 0#32
  let v255 : BitVec 1 := Scalar.cmpi .eq c8_i32_148 c0_i32_149
  let c1_i32_150 : BitVec 32 := 1#32
  let v256 : BitVec 32 := Scalar.select v255 c1_i32_150 c8_i32_148
  let v257 : BitVec 32 := Scalar.remsi v254 v256
  let c0_i32_152 : BitVec 32 := 0#32
  let v259 : BitVec 1 := Scalar.cmpi .slt v257 c0_i32_152
  let c0_i32_153 : BitVec 32 := 0#32
  let v260 : BitVec 1 := Scalar.cmpi .slt v256 c0_i32_153
  let v261 : BitVec 1 := Scalar.xori v259 v260
  let c0_i32_151 : BitVec 32 := 0#32
  let v258 : BitVec 1 := Scalar.cmpi .ne v257 c0_i32_151
  let v262 : BitVec 1 := Scalar.andi v261 v258
  let v263 : BitVec 32 := Scalar.addi v257 v256
  let v264 : BitVec 32 := Scalar.select v262 v263 v257
  let v265 : Index := Scalar.indexCast v264
  let c0_154 : Index := 0#32
  let c0_155 : Index := 0#32
  let c0_156 : Index := 0#32
  ![v265.toNat, 0, 0, 0]
def k0_off31 (v2 : BitVec 32) (c0_i32_147 : BitVec 32) : Fin 4 → Nat :=
  let v254 : BitVec 32 := Scalar.addi v2 c0_i32_147
  let c8_i32_157 : BitVec 32 := 8#32
  let c0_i32_158 : BitVec 32 := 0#32
  let v268 : BitVec 1 := Scalar.cmpi .eq c8_i32_157 c0_i32_158
  let c1_i32_159 : BitVec 32 := 1#32
  let v269 : BitVec 32 := Scalar.select v268 c1_i32_159 c8_i32_157
  let v270 : BitVec 32 := Scalar.remsi v254 v269
  let c0_i32_161 : BitVec 32 := 0#32
  let v272 : BitVec 1 := Scalar.cmpi .slt v270 c0_i32_161
  let c0_i32_162 : BitVec 32 := 0#32
  let v273 : BitVec 1 := Scalar.cmpi .slt v269 c0_i32_162
  let v274 : BitVec 1 := Scalar.xori v272 v273
  let c0_i32_160 : BitVec 32 := 0#32
  let v271 : BitVec 1 := Scalar.cmpi .ne v270 c0_i32_160
  let v275 : BitVec 1 := Scalar.andi v274 v271
  let v276 : BitVec 32 := Scalar.addi v270 v269
  let v277 : BitVec 32 := Scalar.select v275 v276 v270
  let v278 : Index := Scalar.indexCast v277
  let c1 : Index := 1#32
  let c0_163 : Index := 0#32
  let c0_164 : Index := 0#32
  ![v278.toNat, 1, 0, 0]
def k0_mult17 (v2 : BitVec 32) : BitVec 32 :=
  let c0_i32_383 : BitVec 32 := 0#32
  let v690 : BitVec 32 := Scalar.addi v2 c0_i32_383
  let c256_i32_384 : BitVec 32 := 256#32
  let v691 : BitVec 32 := Scalar.muli v690 c256_i32_384
  v691
def k0_mult18 (v2 : BitVec 32) : BitVec 32 :=
  let c1_i32_402 : BitVec 32 := 1#32
  let v718 : BitVec 32 := Scalar.addi v2 c1_i32_402
  let c256_i32_403 : BitVec 32 := 256#32
  let v719 : BitVec 32 := Scalar.muli v718 c256_i32_403
  v719
def k0_mult19 (v2 : BitVec 32) : BitVec 32 :=
  let c2_i32_421 : BitVec 32 := 2#32
  let v746 : BitVec 32 := Scalar.addi v2 c2_i32_421
  let c256_i32_422 : BitVec 32 := 256#32
  let v747 : BitVec 32 := Scalar.muli v746 c256_i32_422
  v747
def k0_mult20 (v2 : BitVec 32) : BitVec 32 :=
  let c3_i32_440 : BitVec 32 := 3#32
  let v774 : BitVec 32 := Scalar.addi v2 c3_i32_440
  let c256_i32_441 : BitVec 32 := 256#32
  let v775 : BitVec 32 := Scalar.muli v774 c256_i32_441
  v775
@[reducible] def k0_t1_loop (v2 : BitVec 32) (v5 : BitVec 32) : Scf.Loop 32 :=
  let c1_i32_13 : BitVec 32 := 1#32
  let v9 : BitVec 32 := Scalar.subi v5 v2
  let c0_i32_1 : BitVec 32 := 0#32
  let v11 : BitVec 1 := Scalar.cmpi .sgt v9 c0_i32_1
  let v12 : BitVec 32 := Scalar.extui v11
  let c0_i32_2 : BitVec 32 := 0#32
  let v13 : BitVec 1 := Scalar.cmpi .slt v9 c0_i32_2
  let v14 : BitVec 32 := Scalar.extui v13
  let v15 : BitVec 32 := Scalar.subi v12 v14
  let c4_i32 : BitVec 32 := 4#32
  let c0_i32_3 : BitVec 32 := 0#32
  let v16 : BitVec 1 := Scalar.cmpi .sgt c4_i32 c0_i32_3
  let v17 : BitVec 32 := Scalar.extui v16
  let c0_i32_4 : BitVec 32 := 0#32
  let v18 : BitVec 1 := Scalar.cmpi .slt c4_i32 c0_i32_4
  let v19 : BitVec 32 := Scalar.extui v18
  let v20 : BitVec 32 := Scalar.subi v17 v19
  let v21 : BitVec 1 := Scalar.cmpi .ne v15 v20
  let v22 : BitVec 32 := Scalar.remsi v9 c4_i32
  let c0_i32_5 : BitVec 32 := 0#32
  let v23 : BitVec 1 := Scalar.cmpi .ne v22 c0_i32_5
  let v24 : BitVec 1 := Scalar.andi v21 v23
  let v10 : BitVec 32 := Scalar.divsi v9 c4_i32
  let c1_i32_6 : BitVec 32 := 1#32
  let v25 : BitVec 32 := Scalar.subi v10 c1_i32_6
  let v26 : BitVec 32 := Scalar.select v24 v25 v10
  let v35 : BitVec 32 := Scalar.subi v26 c1_i32_13
  let c1_i32_14 : BitVec 32 := 1#32
  let v37 : BitVec 32 := Scalar.divsi v35 c1_i32_14
  let v38 : BitVec 32 := Scalar.muli v37 c1_i32_14
  let v39 : BitVec 32 := Scalar.addi c1_i32_13 v38
  let c1_i32_15 : BitVec 32 := 1#32
  ⟨c1_i32_13, v39, c1_i32_15⟩
def k0_mult21 (v2 : BitVec 32) (v5 : BitVec 32) (k0_t1 : Fin (k0_t1_loop v2 v5).trips) : BitVec 32 :=
  let c4_i32_64 : BitVec 32 := 4#32
  let c1_i32_13 : BitVec 32 := 1#32
  let c1_i32_15 : BitVec 32 := 1#32
  let arg15 : BitVec 32 := Scf.iv c1_i32_13 c1_i32_15 k0_t1
  let v134 : BitVec 32 := Scalar.muli c4_i32_64 arg15
  let v135 : BitVec 32 := Scalar.addi v2 v134
  let c0_i32_65 : BitVec 32 := 0#32
  let v136 : BitVec 32 := Scalar.addi v135 c0_i32_65
  let c256_i32 : BitVec 32 := 256#32
  let v147 : BitVec 32 := Scalar.muli v136 c256_i32
  v147
def k0_off32 (v2 : BitVec 32) (v5 : BitVec 32) (k0_t1 : Fin (k0_t1_loop v2 v5).trips) (c0_i32_65 : BitVec 32) : Fin 1 → Nat :=
  let c4_i32_64 : BitVec 32 := 4#32
  let c1_i32_13 : BitVec 32 := 1#32
  let c1_i32_15 : BitVec 32 := 1#32
  let arg15 : BitVec 32 := Scf.iv c1_i32_13 c1_i32_15 k0_t1
  let v134 : BitVec 32 := Scalar.muli c4_i32_64 arg15
  let v135 : BitVec 32 := Scalar.addi v2 v134
  let v136 : BitVec 32 := Scalar.addi v135 c0_i32_65
  let c8_i32 : BitVec 32 := 8#32
  let c0_i32_66 : BitVec 32 := 0#32
  let v137 : BitVec 1 := Scalar.cmpi .eq c8_i32 c0_i32_66
  let c1_i32_67 : BitVec 32 := 1#32
  let v138 : BitVec 32 := Scalar.select v137 c1_i32_67 c8_i32
  let v139 : BitVec 32 := Scalar.remsi v136 v138
  let c0_i32_69 : BitVec 32 := 0#32
  let v141 : BitVec 1 := Scalar.cmpi .slt v139 c0_i32_69
  let c0_i32_70 : BitVec 32 := 0#32
  let v142 : BitVec 1 := Scalar.cmpi .slt v138 c0_i32_70
  let v143 : BitVec 1 := Scalar.xori v141 v142
  let c0_i32_68 : BitVec 32 := 0#32
  let v140 : BitVec 1 := Scalar.cmpi .ne v139 c0_i32_68
  let v144 : BitVec 1 := Scalar.andi v143 v140
  let v145 : BitVec 32 := Scalar.addi v139 v138
  let v146 : BitVec 32 := Scalar.select v144 v145 v139
  ![v146.toNat]
def k0_off33 (v2 : BitVec 32) (v5 : BitVec 32) (k0_t1 : Fin (k0_t1_loop v2 v5).trips) (c0_i32_65 : BitVec 32) : Fin 4 → Nat :=
  let c4_i32_64 : BitVec 32 := 4#32
  let c1_i32_13 : BitVec 32 := 1#32
  let c1_i32_15 : BitVec 32 := 1#32
  let arg15 : BitVec 32 := Scf.iv c1_i32_13 c1_i32_15 k0_t1
  let v134 : BitVec 32 := Scalar.muli c4_i32_64 arg15
  let v135 : BitVec 32 := Scalar.addi v2 v134
  let v136 : BitVec 32 := Scalar.addi v135 c0_i32_65
  let c8_i32 : BitVec 32 := 8#32
  let c0_i32_66 : BitVec 32 := 0#32
  let v137 : BitVec 1 := Scalar.cmpi .eq c8_i32 c0_i32_66
  let c1_i32_67 : BitVec 32 := 1#32
  let v138 : BitVec 32 := Scalar.select v137 c1_i32_67 c8_i32
  let v139 : BitVec 32 := Scalar.remsi v136 v138
  let c0_i32_69 : BitVec 32 := 0#32
  let v141 : BitVec 1 := Scalar.cmpi .slt v139 c0_i32_69
  let c0_i32_70 : BitVec 32 := 0#32
  let v142 : BitVec 1 := Scalar.cmpi .slt v138 c0_i32_70
  let v143 : BitVec 1 := Scalar.xori v141 v142
  let c0_i32_68 : BitVec 32 := 0#32
  let v140 : BitVec 1 := Scalar.cmpi .ne v139 c0_i32_68
  let v144 : BitVec 1 := Scalar.andi v143 v140
  let v145 : BitVec 32 := Scalar.addi v139 v138
  let v146 : BitVec 32 := Scalar.select v144 v145 v139
  let c0_i32_71 : BitVec 32 := 0#32
  let c0_i32_72 : BitVec 32 := 0#32
  let c0_i32_73 : BitVec 32 := 0#32
  ![v146.toNat, 0, 0, 0]
def k0_off34 (v2 : BitVec 32) (v5 : BitVec 32) (k0_t1 : Fin (k0_t1_loop v2 v5).trips) (c0_i32_65 : BitVec 32) : Fin 3 → Nat :=
  let c0_i32_74 : BitVec 32 := 0#32
  let c4_i32_64 : BitVec 32 := 4#32
  let c1_i32_13 : BitVec 32 := 1#32
  let c1_i32_15 : BitVec 32 := 1#32
  let arg15 : BitVec 32 := Scf.iv c1_i32_13 c1_i32_15 k0_t1
  let v134 : BitVec 32 := Scalar.muli c4_i32_64 arg15
  let v135 : BitVec 32 := Scalar.addi v2 v134
  let v136 : BitVec 32 := Scalar.addi v135 c0_i32_65
  let c256_i32 : BitVec 32 := 256#32
  let v147 : BitVec 32 := Scalar.muli v136 c256_i32
  let v148 : BitVec 32 := v147
  let c0_i32_75 : BitVec 32 := 0#32
  ![0, v148.toNat, 0]
def k0_mult22 (v2 : BitVec 32) (v5 : BitVec 32) (k0_t1 : Fin (k0_t1_loop v2 v5).trips) : BitVec 32 :=
  let c4_i32_64 : BitVec 32 := 4#32
  let c1_i32_13 : BitVec 32 := 1#32
  let c1_i32_15 : BitVec 32 := 1#32
  let arg15 : BitVec 32 := Scf.iv c1_i32_13 c1_i32_15 k0_t1
  let v134 : BitVec 32 := Scalar.muli c4_i32_64 arg15
  let v135 : BitVec 32 := Scalar.addi v2 v134
  let c1_i32_76 : BitVec 32 := 1#32
  let v154 : BitVec 32 := Scalar.addi v135 c1_i32_76
  let c256_i32_83 : BitVec 32 := 256#32
  let v165 : BitVec 32 := Scalar.muli v154 c256_i32_83
  v165
def k0_mult23 (v2 : BitVec 32) (v5 : BitVec 32) (k0_t1 : Fin (k0_t1_loop v2 v5).trips) : BitVec 32 :=
  let c4_i32_64 : BitVec 32 := 4#32
  let c1_i32_13 : BitVec 32 := 1#32
  let c1_i32_15 : BitVec 32 := 1#32
  let arg15 : BitVec 32 := Scf.iv c1_i32_13 c1_i32_15 k0_t1
  let v134 : BitVec 32 := Scalar.muli c4_i32_64 arg15
  let v135 : BitVec 32 := Scalar.addi v2 v134
  let c2_i32_89 : BitVec 32 := 2#32
  let v172 : BitVec 32 := Scalar.addi v135 c2_i32_89
  let c256_i32_96 : BitVec 32 := 256#32
  let v183 : BitVec 32 := Scalar.muli v172 c256_i32_96
  v183
def k0_mult24 (v2 : BitVec 32) (v5 : BitVec 32) (k0_t1 : Fin (k0_t1_loop v2 v5).trips) : BitVec 32 :=
  let c4_i32_64 : BitVec 32 := 4#32
  let c1_i32_13 : BitVec 32 := 1#32
  let c1_i32_15 : BitVec 32 := 1#32
  let arg15 : BitVec 32 := Scf.iv c1_i32_13 c1_i32_15 k0_t1
  let v134 : BitVec 32 := Scalar.muli c4_i32_64 arg15
  let v135 : BitVec 32 := Scalar.addi v2 v134
  let c3_i32 : BitVec 32 := 3#32
  let v190 : BitVec 32 := Scalar.addi v135 c3_i32
  let c256_i32_108 : BitVec 32 := 256#32
  let v201 : BitVec 32 := Scalar.muli v190 c256_i32_108
  v201
def k0_mult25 (v2 : BitVec 32) (v5 : BitVec 32) (k0_t1 : Fin (k0_t1_loop v2 v5).trips) : BitVec 32 :=
  let c4_i32_64 : BitVec 32 := 4#32
  let c1_i32_13 : BitVec 32 := 1#32
  let c1_i32_15 : BitVec 32 := 1#32
  let arg15 : BitVec 32 := Scf.iv c1_i32_13 c1_i32_15 k0_t1
  let v134 : BitVec 32 := Scalar.muli c4_i32_64 arg15
  let v135 : BitVec 32 := Scalar.addi v2 v134
  let c4_i32_114 : BitVec 32 := 4#32
  let v208 : BitVec 32 := Scalar.addi v135 c4_i32_114
  let c0_i32_115 : BitVec 32 := 0#32
  let v209 : BitVec 32 := Scalar.addi v208 c0_i32_115
  let c256_i32_456 : BitVec 32 := 256#32
  let v802 : BitVec 32 := Scalar.muli v209 c256_i32_456
  v802
def k0_cond16 (v0 : BitVec 32) (v2 : BitVec 32) (v5 : BitVec 32) (k0_t1 : Fin (k0_t1_loop v2 v5).trips) : BitVec 1 :=
  let c4_i32_64 : BitVec 32 := 4#32
  let c1_i32_13 : BitVec 32 := 1#32
  let c1_i32_15 : BitVec 32 := 1#32
  let arg15 : BitVec 32 := Scf.iv c1_i32_13 c1_i32_15 k0_t1
  let v134 : BitVec 32 := Scalar.muli c4_i32_64 arg15
  let v135 : BitVec 32 := Scalar.addi v2 v134
  let c4_i32_114 : BitVec 32 := 4#32
  let v208 : BitVec 32 := Scalar.addi v135 c4_i32_114
  let c0_i32_115 : BitVec 32 := 0#32
  let v209 : BitVec 32 := Scalar.addi v208 c0_i32_115
  let v210 : BitVec 1 := Scalar.cmpi .slt v209 v0
  let v211 : BitVec 32 := Scalar.extui v210
  let c0_i32_116 : BitVec 32 := 0#32
  let v212 : BitVec 1 := Scalar.cmpi .ne v211 c0_i32_116
  v212

def k0_off35 (v2 : BitVec 32) (v5 : BitVec 32) (k0_t1 : Fin (k0_t1_loop v2 v5).trips) : Fin 1 → Nat :=
  let c4_i32_64 : BitVec 32 := 4#32
  let c1_i32_13 : BitVec 32 := 1#32
  let c1_i32_15 : BitVec 32 := 1#32
  let arg15 : BitVec 32 := Scf.iv c1_i32_13 c1_i32_15 k0_t1
  let v134 : BitVec 32 := Scalar.muli c4_i32_64 arg15
  let v135 : BitVec 32 := Scalar.addi v2 v134
  let c4_i32_114 : BitVec 32 := 4#32
  let v208 : BitVec 32 := Scalar.addi v135 c4_i32_114
  let c0_i32_115 : BitVec 32 := 0#32
  let v209 : BitVec 32 := Scalar.addi v208 c0_i32_115
  let c8_i32_450 : BitVec 32 := 8#32
  let c0_i32_451 : BitVec 32 := 0#32
  let v792 : BitVec 1 := Scalar.cmpi .eq c8_i32_450 c0_i32_451
  let c1_i32_452 : BitVec 32 := 1#32
  let v793 : BitVec 32 := Scalar.select v792 c1_i32_452 c8_i32_450
  let v794 : BitVec 32 := Scalar.remsi v209 v793
  let c0_i32_454 : BitVec 32 := 0#32
  let v796 : BitVec 1 := Scalar.cmpi .slt v794 c0_i32_454
  let c0_i32_455 : BitVec 32 := 0#32
  let v797 : BitVec 1 := Scalar.cmpi .slt v793 c0_i32_455
  let v798 : BitVec 1 := Scalar.xori v796 v797
  let c0_i32_453 : BitVec 32 := 0#32
  let v795 : BitVec 1 := Scalar.cmpi .ne v794 c0_i32_453
  let v799 : BitVec 1 := Scalar.andi v798 v795
  let v800 : BitVec 32 := Scalar.addi v794 v793
  let v801 : BitVec 32 := Scalar.select v799 v800 v794
  ![v801.toNat]
def k0_off36 (v2 : BitVec 32) (v5 : BitVec 32) (k0_t1 : Fin (k0_t1_loop v2 v5).trips) : Fin 4 → Nat :=
  let c4_i32_64 : BitVec 32 := 4#32
  let c1_i32_13 : BitVec 32 := 1#32
  let c1_i32_15 : BitVec 32 := 1#32
  let arg15 : BitVec 32 := Scf.iv c1_i32_13 c1_i32_15 k0_t1
  let v134 : BitVec 32 := Scalar.muli c4_i32_64 arg15
  let v135 : BitVec 32 := Scalar.addi v2 v134
  let c4_i32_114 : BitVec 32 := 4#32
  let v208 : BitVec 32 := Scalar.addi v135 c4_i32_114
  let c0_i32_115 : BitVec 32 := 0#32
  let v209 : BitVec 32 := Scalar.addi v208 c0_i32_115
  let c8_i32_450 : BitVec 32 := 8#32
  let c0_i32_451 : BitVec 32 := 0#32
  let v792 : BitVec 1 := Scalar.cmpi .eq c8_i32_450 c0_i32_451
  let c1_i32_452 : BitVec 32 := 1#32
  let v793 : BitVec 32 := Scalar.select v792 c1_i32_452 c8_i32_450
  let v794 : BitVec 32 := Scalar.remsi v209 v793
  let c0_i32_454 : BitVec 32 := 0#32
  let v796 : BitVec 1 := Scalar.cmpi .slt v794 c0_i32_454
  let c0_i32_455 : BitVec 32 := 0#32
  let v797 : BitVec 1 := Scalar.cmpi .slt v793 c0_i32_455
  let v798 : BitVec 1 := Scalar.xori v796 v797
  let c0_i32_453 : BitVec 32 := 0#32
  let v795 : BitVec 1 := Scalar.cmpi .ne v794 c0_i32_453
  let v799 : BitVec 1 := Scalar.andi v798 v795
  let v800 : BitVec 32 := Scalar.addi v794 v793
  let v801 : BitVec 32 := Scalar.select v799 v800 v794
  let c0_i32_457 : BitVec 32 := 0#32
  let c0_i32_458 : BitVec 32 := 0#32
  let c0_i32_459 : BitVec 32 := 0#32
  ![v801.toNat, 0, 0, 0]
def k0_off37 (v2 : BitVec 32) (v5 : BitVec 32) (k0_t1 : Fin (k0_t1_loop v2 v5).trips) : Fin 3 → Nat :=
  let c0_i32_460 : BitVec 32 := 0#32
  let c4_i32_64 : BitVec 32 := 4#32
  let c1_i32_13 : BitVec 32 := 1#32
  let c1_i32_15 : BitVec 32 := 1#32
  let arg15 : BitVec 32 := Scf.iv c1_i32_13 c1_i32_15 k0_t1
  let v134 : BitVec 32 := Scalar.muli c4_i32_64 arg15
  let v135 : BitVec 32 := Scalar.addi v2 v134
  let c4_i32_114 : BitVec 32 := 4#32
  let v208 : BitVec 32 := Scalar.addi v135 c4_i32_114
  let c0_i32_115 : BitVec 32 := 0#32
  let v209 : BitVec 32 := Scalar.addi v208 c0_i32_115
  let c256_i32_456 : BitVec 32 := 256#32
  let v802 : BitVec 32 := Scalar.muli v209 c256_i32_456
  let v803 : BitVec 32 := v802
  let c0_i32_461 : BitVec 32 := 0#32
  ![0, v803.toNat, 0]
def k0_mult26 (v2 : BitVec 32) (v5 : BitVec 32) (k0_t1 : Fin (k0_t1_loop v2 v5).trips) : BitVec 32 :=
  let c4_i32_64 : BitVec 32 := 4#32
  let c1_i32_13 : BitVec 32 := 1#32
  let c1_i32_15 : BitVec 32 := 1#32
  let arg15 : BitVec 32 := Scf.iv c1_i32_13 c1_i32_15 k0_t1
  let v134 : BitVec 32 := Scalar.muli c4_i32_64 arg15
  let v135 : BitVec 32 := Scalar.addi v2 v134
  let c4_i32_117 : BitVec 32 := 4#32
  let v213 : BitVec 32 := Scalar.addi v135 c4_i32_117
  let c1_i32_118 : BitVec 32 := 1#32
  let v214 : BitVec 32 := Scalar.addi v213 c1_i32_118
  let c256_i32_456 : BitVec 32 := 256#32
  let v802 : BitVec 32 := Scalar.muli v214 c256_i32_456
  v802
def k0_cond17 (v0 : BitVec 32) (v2 : BitVec 32) (v5 : BitVec 32) (k0_t1 : Fin (k0_t1_loop v2 v5).trips) : BitVec 1 :=
  let c4_i32_64 : BitVec 32 := 4#32
  let c1_i32_13 : BitVec 32 := 1#32
  let c1_i32_15 : BitVec 32 := 1#32
  let arg15 : BitVec 32 := Scf.iv c1_i32_13 c1_i32_15 k0_t1
  let v134 : BitVec 32 := Scalar.muli c4_i32_64 arg15
  let v135 : BitVec 32 := Scalar.addi v2 v134
  let c4_i32_117 : BitVec 32 := 4#32
  let v213 : BitVec 32 := Scalar.addi v135 c4_i32_117
  let c1_i32_118 : BitVec 32 := 1#32
  let v214 : BitVec 32 := Scalar.addi v213 c1_i32_118
  let v215 : BitVec 1 := Scalar.cmpi .slt v214 v0
  let v216 : BitVec 32 := Scalar.extui v215
  let c0_i32_119 : BitVec 32 := 0#32
  let v217 : BitVec 1 := Scalar.cmpi .ne v216 c0_i32_119
  v217

def k0_off38 (v2 : BitVec 32) (v5 : BitVec 32) (k0_t1 : Fin (k0_t1_loop v2 v5).trips) : Fin 1 → Nat :=
  let c4_i32_64 : BitVec 32 := 4#32
  let c1_i32_13 : BitVec 32 := 1#32
  let c1_i32_15 : BitVec 32 := 1#32
  let arg15 : BitVec 32 := Scf.iv c1_i32_13 c1_i32_15 k0_t1
  let v134 : BitVec 32 := Scalar.muli c4_i32_64 arg15
  let v135 : BitVec 32 := Scalar.addi v2 v134
  let c4_i32_117 : BitVec 32 := 4#32
  let v213 : BitVec 32 := Scalar.addi v135 c4_i32_117
  let c1_i32_118 : BitVec 32 := 1#32
  let v214 : BitVec 32 := Scalar.addi v213 c1_i32_118
  let c8_i32_450 : BitVec 32 := 8#32
  let c0_i32_451 : BitVec 32 := 0#32
  let v792 : BitVec 1 := Scalar.cmpi .eq c8_i32_450 c0_i32_451
  let c1_i32_452 : BitVec 32 := 1#32
  let v793 : BitVec 32 := Scalar.select v792 c1_i32_452 c8_i32_450
  let v794 : BitVec 32 := Scalar.remsi v214 v793
  let c0_i32_454 : BitVec 32 := 0#32
  let v796 : BitVec 1 := Scalar.cmpi .slt v794 c0_i32_454
  let c0_i32_455 : BitVec 32 := 0#32
  let v797 : BitVec 1 := Scalar.cmpi .slt v793 c0_i32_455
  let v798 : BitVec 1 := Scalar.xori v796 v797
  let c0_i32_453 : BitVec 32 := 0#32
  let v795 : BitVec 1 := Scalar.cmpi .ne v794 c0_i32_453
  let v799 : BitVec 1 := Scalar.andi v798 v795
  let v800 : BitVec 32 := Scalar.addi v794 v793
  let v801 : BitVec 32 := Scalar.select v799 v800 v794
  ![v801.toNat]
def k0_off39 (v2 : BitVec 32) (v5 : BitVec 32) (k0_t1 : Fin (k0_t1_loop v2 v5).trips) : Fin 4 → Nat :=
  let c4_i32_64 : BitVec 32 := 4#32
  let c1_i32_13 : BitVec 32 := 1#32
  let c1_i32_15 : BitVec 32 := 1#32
  let arg15 : BitVec 32 := Scf.iv c1_i32_13 c1_i32_15 k0_t1
  let v134 : BitVec 32 := Scalar.muli c4_i32_64 arg15
  let v135 : BitVec 32 := Scalar.addi v2 v134
  let c4_i32_117 : BitVec 32 := 4#32
  let v213 : BitVec 32 := Scalar.addi v135 c4_i32_117
  let c1_i32_118 : BitVec 32 := 1#32
  let v214 : BitVec 32 := Scalar.addi v213 c1_i32_118
  let c8_i32_450 : BitVec 32 := 8#32
  let c0_i32_451 : BitVec 32 := 0#32
  let v792 : BitVec 1 := Scalar.cmpi .eq c8_i32_450 c0_i32_451
  let c1_i32_452 : BitVec 32 := 1#32
  let v793 : BitVec 32 := Scalar.select v792 c1_i32_452 c8_i32_450
  let v794 : BitVec 32 := Scalar.remsi v214 v793
  let c0_i32_454 : BitVec 32 := 0#32
  let v796 : BitVec 1 := Scalar.cmpi .slt v794 c0_i32_454
  let c0_i32_455 : BitVec 32 := 0#32
  let v797 : BitVec 1 := Scalar.cmpi .slt v793 c0_i32_455
  let v798 : BitVec 1 := Scalar.xori v796 v797
  let c0_i32_453 : BitVec 32 := 0#32
  let v795 : BitVec 1 := Scalar.cmpi .ne v794 c0_i32_453
  let v799 : BitVec 1 := Scalar.andi v798 v795
  let v800 : BitVec 32 := Scalar.addi v794 v793
  let v801 : BitVec 32 := Scalar.select v799 v800 v794
  let c0_i32_457 : BitVec 32 := 0#32
  let c0_i32_458 : BitVec 32 := 0#32
  let c0_i32_459 : BitVec 32 := 0#32
  ![v801.toNat, 0, 0, 0]
def k0_off40 (v2 : BitVec 32) (v5 : BitVec 32) (k0_t1 : Fin (k0_t1_loop v2 v5).trips) : Fin 3 → Nat :=
  let c0_i32_460 : BitVec 32 := 0#32
  let c4_i32_64 : BitVec 32 := 4#32
  let c1_i32_13 : BitVec 32 := 1#32
  let c1_i32_15 : BitVec 32 := 1#32
  let arg15 : BitVec 32 := Scf.iv c1_i32_13 c1_i32_15 k0_t1
  let v134 : BitVec 32 := Scalar.muli c4_i32_64 arg15
  let v135 : BitVec 32 := Scalar.addi v2 v134
  let c4_i32_117 : BitVec 32 := 4#32
  let v213 : BitVec 32 := Scalar.addi v135 c4_i32_117
  let c1_i32_118 : BitVec 32 := 1#32
  let v214 : BitVec 32 := Scalar.addi v213 c1_i32_118
  let c256_i32_456 : BitVec 32 := 256#32
  let v802 : BitVec 32 := Scalar.muli v214 c256_i32_456
  let v803 : BitVec 32 := v802
  let c0_i32_461 : BitVec 32 := 0#32
  ![0, v803.toNat, 0]
def k0_mult27 (v2 : BitVec 32) (v5 : BitVec 32) (k0_t1 : Fin (k0_t1_loop v2 v5).trips) : BitVec 32 :=
  let c4_i32_64 : BitVec 32 := 4#32
  let c1_i32_13 : BitVec 32 := 1#32
  let c1_i32_15 : BitVec 32 := 1#32
  let arg15 : BitVec 32 := Scf.iv c1_i32_13 c1_i32_15 k0_t1
  let v134 : BitVec 32 := Scalar.muli c4_i32_64 arg15
  let v135 : BitVec 32 := Scalar.addi v2 v134
  let c4_i32_120 : BitVec 32 := 4#32
  let v218 : BitVec 32 := Scalar.addi v135 c4_i32_120
  let c2_i32_121 : BitVec 32 := 2#32
  let v219 : BitVec 32 := Scalar.addi v218 c2_i32_121
  let c256_i32_456 : BitVec 32 := 256#32
  let v802 : BitVec 32 := Scalar.muli v219 c256_i32_456
  v802
def k0_cond18 (v0 : BitVec 32) (v2 : BitVec 32) (v5 : BitVec 32) (k0_t1 : Fin (k0_t1_loop v2 v5).trips) : BitVec 1 :=
  let c4_i32_64 : BitVec 32 := 4#32
  let c1_i32_13 : BitVec 32 := 1#32
  let c1_i32_15 : BitVec 32 := 1#32
  let arg15 : BitVec 32 := Scf.iv c1_i32_13 c1_i32_15 k0_t1
  let v134 : BitVec 32 := Scalar.muli c4_i32_64 arg15
  let v135 : BitVec 32 := Scalar.addi v2 v134
  let c4_i32_120 : BitVec 32 := 4#32
  let v218 : BitVec 32 := Scalar.addi v135 c4_i32_120
  let c2_i32_121 : BitVec 32 := 2#32
  let v219 : BitVec 32 := Scalar.addi v218 c2_i32_121
  let v220 : BitVec 1 := Scalar.cmpi .slt v219 v0
  let v221 : BitVec 32 := Scalar.extui v220
  let c0_i32_122 : BitVec 32 := 0#32
  let v222 : BitVec 1 := Scalar.cmpi .ne v221 c0_i32_122
  v222

def k0_off41 (v2 : BitVec 32) (v5 : BitVec 32) (k0_t1 : Fin (k0_t1_loop v2 v5).trips) : Fin 1 → Nat :=
  let c4_i32_64 : BitVec 32 := 4#32
  let c1_i32_13 : BitVec 32 := 1#32
  let c1_i32_15 : BitVec 32 := 1#32
  let arg15 : BitVec 32 := Scf.iv c1_i32_13 c1_i32_15 k0_t1
  let v134 : BitVec 32 := Scalar.muli c4_i32_64 arg15
  let v135 : BitVec 32 := Scalar.addi v2 v134
  let c4_i32_120 : BitVec 32 := 4#32
  let v218 : BitVec 32 := Scalar.addi v135 c4_i32_120
  let c2_i32_121 : BitVec 32 := 2#32
  let v219 : BitVec 32 := Scalar.addi v218 c2_i32_121
  let c8_i32_450 : BitVec 32 := 8#32
  let c0_i32_451 : BitVec 32 := 0#32
  let v792 : BitVec 1 := Scalar.cmpi .eq c8_i32_450 c0_i32_451
  let c1_i32_452 : BitVec 32 := 1#32
  let v793 : BitVec 32 := Scalar.select v792 c1_i32_452 c8_i32_450
  let v794 : BitVec 32 := Scalar.remsi v219 v793
  let c0_i32_454 : BitVec 32 := 0#32
  let v796 : BitVec 1 := Scalar.cmpi .slt v794 c0_i32_454
  let c0_i32_455 : BitVec 32 := 0#32
  let v797 : BitVec 1 := Scalar.cmpi .slt v793 c0_i32_455
  let v798 : BitVec 1 := Scalar.xori v796 v797
  let c0_i32_453 : BitVec 32 := 0#32
  let v795 : BitVec 1 := Scalar.cmpi .ne v794 c0_i32_453
  let v799 : BitVec 1 := Scalar.andi v798 v795
  let v800 : BitVec 32 := Scalar.addi v794 v793
  let v801 : BitVec 32 := Scalar.select v799 v800 v794
  ![v801.toNat]
def k0_off42 (v2 : BitVec 32) (v5 : BitVec 32) (k0_t1 : Fin (k0_t1_loop v2 v5).trips) : Fin 4 → Nat :=
  let c4_i32_64 : BitVec 32 := 4#32
  let c1_i32_13 : BitVec 32 := 1#32
  let c1_i32_15 : BitVec 32 := 1#32
  let arg15 : BitVec 32 := Scf.iv c1_i32_13 c1_i32_15 k0_t1
  let v134 : BitVec 32 := Scalar.muli c4_i32_64 arg15
  let v135 : BitVec 32 := Scalar.addi v2 v134
  let c4_i32_120 : BitVec 32 := 4#32
  let v218 : BitVec 32 := Scalar.addi v135 c4_i32_120
  let c2_i32_121 : BitVec 32 := 2#32
  let v219 : BitVec 32 := Scalar.addi v218 c2_i32_121
  let c8_i32_450 : BitVec 32 := 8#32
  let c0_i32_451 : BitVec 32 := 0#32
  let v792 : BitVec 1 := Scalar.cmpi .eq c8_i32_450 c0_i32_451
  let c1_i32_452 : BitVec 32 := 1#32
  let v793 : BitVec 32 := Scalar.select v792 c1_i32_452 c8_i32_450
  let v794 : BitVec 32 := Scalar.remsi v219 v793
  let c0_i32_454 : BitVec 32 := 0#32
  let v796 : BitVec 1 := Scalar.cmpi .slt v794 c0_i32_454
  let c0_i32_455 : BitVec 32 := 0#32
  let v797 : BitVec 1 := Scalar.cmpi .slt v793 c0_i32_455
  let v798 : BitVec 1 := Scalar.xori v796 v797
  let c0_i32_453 : BitVec 32 := 0#32
  let v795 : BitVec 1 := Scalar.cmpi .ne v794 c0_i32_453
  let v799 : BitVec 1 := Scalar.andi v798 v795
  let v800 : BitVec 32 := Scalar.addi v794 v793
  let v801 : BitVec 32 := Scalar.select v799 v800 v794
  let c0_i32_457 : BitVec 32 := 0#32
  let c0_i32_458 : BitVec 32 := 0#32
  let c0_i32_459 : BitVec 32 := 0#32
  ![v801.toNat, 0, 0, 0]
def k0_off43 (v2 : BitVec 32) (v5 : BitVec 32) (k0_t1 : Fin (k0_t1_loop v2 v5).trips) : Fin 3 → Nat :=
  let c0_i32_460 : BitVec 32 := 0#32
  let c4_i32_64 : BitVec 32 := 4#32
  let c1_i32_13 : BitVec 32 := 1#32
  let c1_i32_15 : BitVec 32 := 1#32
  let arg15 : BitVec 32 := Scf.iv c1_i32_13 c1_i32_15 k0_t1
  let v134 : BitVec 32 := Scalar.muli c4_i32_64 arg15
  let v135 : BitVec 32 := Scalar.addi v2 v134
  let c4_i32_120 : BitVec 32 := 4#32
  let v218 : BitVec 32 := Scalar.addi v135 c4_i32_120
  let c2_i32_121 : BitVec 32 := 2#32
  let v219 : BitVec 32 := Scalar.addi v218 c2_i32_121
  let c256_i32_456 : BitVec 32 := 256#32
  let v802 : BitVec 32 := Scalar.muli v219 c256_i32_456
  let v803 : BitVec 32 := v802
  let c0_i32_461 : BitVec 32 := 0#32
  ![0, v803.toNat, 0]
def k0_mult28 (v2 : BitVec 32) (v5 : BitVec 32) (k0_t1 : Fin (k0_t1_loop v2 v5).trips) : BitVec 32 :=
  let c4_i32_64 : BitVec 32 := 4#32
  let c1_i32_13 : BitVec 32 := 1#32
  let c1_i32_15 : BitVec 32 := 1#32
  let arg15 : BitVec 32 := Scf.iv c1_i32_13 c1_i32_15 k0_t1
  let v134 : BitVec 32 := Scalar.muli c4_i32_64 arg15
  let v135 : BitVec 32 := Scalar.addi v2 v134
  let c4_i32_123 : BitVec 32 := 4#32
  let v223 : BitVec 32 := Scalar.addi v135 c4_i32_123
  let c3_i32_124 : BitVec 32 := 3#32
  let v224 : BitVec 32 := Scalar.addi v223 c3_i32_124
  let c256_i32_456 : BitVec 32 := 256#32
  let v802 : BitVec 32 := Scalar.muli v224 c256_i32_456
  v802
def k0_cond19 (v0 : BitVec 32) (v2 : BitVec 32) (v5 : BitVec 32) (k0_t1 : Fin (k0_t1_loop v2 v5).trips) : BitVec 1 :=
  let c4_i32_64 : BitVec 32 := 4#32
  let c1_i32_13 : BitVec 32 := 1#32
  let c1_i32_15 : BitVec 32 := 1#32
  let arg15 : BitVec 32 := Scf.iv c1_i32_13 c1_i32_15 k0_t1
  let v134 : BitVec 32 := Scalar.muli c4_i32_64 arg15
  let v135 : BitVec 32 := Scalar.addi v2 v134
  let c4_i32_123 : BitVec 32 := 4#32
  let v223 : BitVec 32 := Scalar.addi v135 c4_i32_123
  let c3_i32_124 : BitVec 32 := 3#32
  let v224 : BitVec 32 := Scalar.addi v223 c3_i32_124
  let v225 : BitVec 1 := Scalar.cmpi .slt v224 v0
  let v226 : BitVec 32 := Scalar.extui v225
  let c0_i32_125 : BitVec 32 := 0#32
  let v227 : BitVec 1 := Scalar.cmpi .ne v226 c0_i32_125
  v227

def k0_off44 (v2 : BitVec 32) (v5 : BitVec 32) (k0_t1 : Fin (k0_t1_loop v2 v5).trips) : Fin 1 → Nat :=
  let c4_i32_64 : BitVec 32 := 4#32
  let c1_i32_13 : BitVec 32 := 1#32
  let c1_i32_15 : BitVec 32 := 1#32
  let arg15 : BitVec 32 := Scf.iv c1_i32_13 c1_i32_15 k0_t1
  let v134 : BitVec 32 := Scalar.muli c4_i32_64 arg15
  let v135 : BitVec 32 := Scalar.addi v2 v134
  let c4_i32_123 : BitVec 32 := 4#32
  let v223 : BitVec 32 := Scalar.addi v135 c4_i32_123
  let c3_i32_124 : BitVec 32 := 3#32
  let v224 : BitVec 32 := Scalar.addi v223 c3_i32_124
  let c8_i32_450 : BitVec 32 := 8#32
  let c0_i32_451 : BitVec 32 := 0#32
  let v792 : BitVec 1 := Scalar.cmpi .eq c8_i32_450 c0_i32_451
  let c1_i32_452 : BitVec 32 := 1#32
  let v793 : BitVec 32 := Scalar.select v792 c1_i32_452 c8_i32_450
  let v794 : BitVec 32 := Scalar.remsi v224 v793
  let c0_i32_454 : BitVec 32 := 0#32
  let v796 : BitVec 1 := Scalar.cmpi .slt v794 c0_i32_454
  let c0_i32_455 : BitVec 32 := 0#32
  let v797 : BitVec 1 := Scalar.cmpi .slt v793 c0_i32_455
  let v798 : BitVec 1 := Scalar.xori v796 v797
  let c0_i32_453 : BitVec 32 := 0#32
  let v795 : BitVec 1 := Scalar.cmpi .ne v794 c0_i32_453
  let v799 : BitVec 1 := Scalar.andi v798 v795
  let v800 : BitVec 32 := Scalar.addi v794 v793
  let v801 : BitVec 32 := Scalar.select v799 v800 v794
  ![v801.toNat]
def k0_off45 (v2 : BitVec 32) (v5 : BitVec 32) (k0_t1 : Fin (k0_t1_loop v2 v5).trips) : Fin 4 → Nat :=
  let c4_i32_64 : BitVec 32 := 4#32
  let c1_i32_13 : BitVec 32 := 1#32
  let c1_i32_15 : BitVec 32 := 1#32
  let arg15 : BitVec 32 := Scf.iv c1_i32_13 c1_i32_15 k0_t1
  let v134 : BitVec 32 := Scalar.muli c4_i32_64 arg15
  let v135 : BitVec 32 := Scalar.addi v2 v134
  let c4_i32_123 : BitVec 32 := 4#32
  let v223 : BitVec 32 := Scalar.addi v135 c4_i32_123
  let c3_i32_124 : BitVec 32 := 3#32
  let v224 : BitVec 32 := Scalar.addi v223 c3_i32_124
  let c8_i32_450 : BitVec 32 := 8#32
  let c0_i32_451 : BitVec 32 := 0#32
  let v792 : BitVec 1 := Scalar.cmpi .eq c8_i32_450 c0_i32_451
  let c1_i32_452 : BitVec 32 := 1#32
  let v793 : BitVec 32 := Scalar.select v792 c1_i32_452 c8_i32_450
  let v794 : BitVec 32 := Scalar.remsi v224 v793
  let c0_i32_454 : BitVec 32 := 0#32
  let v796 : BitVec 1 := Scalar.cmpi .slt v794 c0_i32_454
  let c0_i32_455 : BitVec 32 := 0#32
  let v797 : BitVec 1 := Scalar.cmpi .slt v793 c0_i32_455
  let v798 : BitVec 1 := Scalar.xori v796 v797
  let c0_i32_453 : BitVec 32 := 0#32
  let v795 : BitVec 1 := Scalar.cmpi .ne v794 c0_i32_453
  let v799 : BitVec 1 := Scalar.andi v798 v795
  let v800 : BitVec 32 := Scalar.addi v794 v793
  let v801 : BitVec 32 := Scalar.select v799 v800 v794
  let c0_i32_457 : BitVec 32 := 0#32
  let c0_i32_458 : BitVec 32 := 0#32
  let c0_i32_459 : BitVec 32 := 0#32
  ![v801.toNat, 0, 0, 0]
def k0_off46 (v2 : BitVec 32) (v5 : BitVec 32) (k0_t1 : Fin (k0_t1_loop v2 v5).trips) : Fin 3 → Nat :=
  let c0_i32_460 : BitVec 32 := 0#32
  let c4_i32_64 : BitVec 32 := 4#32
  let c1_i32_13 : BitVec 32 := 1#32
  let c1_i32_15 : BitVec 32 := 1#32
  let arg15 : BitVec 32 := Scf.iv c1_i32_13 c1_i32_15 k0_t1
  let v134 : BitVec 32 := Scalar.muli c4_i32_64 arg15
  let v135 : BitVec 32 := Scalar.addi v2 v134
  let c4_i32_123 : BitVec 32 := 4#32
  let v223 : BitVec 32 := Scalar.addi v135 c4_i32_123
  let c3_i32_124 : BitVec 32 := 3#32
  let v224 : BitVec 32 := Scalar.addi v223 c3_i32_124
  let c256_i32_456 : BitVec 32 := 256#32
  let v802 : BitVec 32 := Scalar.muli v224 c256_i32_456
  let v803 : BitVec 32 := v802
  let c0_i32_461 : BitVec 32 := 0#32
  ![0, v803.toNat, 0]
def k0_mult29 (v2 : BitVec 32) (v5 : BitVec 32) (k0_t1 : Fin (k0_t1_loop v2 v5).trips) : BitVec 32 :=
  let c4_i32_64 : BitVec 32 := 4#32
  let c1_i32_13 : BitVec 32 := 1#32
  let c1_i32_15 : BitVec 32 := 1#32
  let arg15 : BitVec 32 := Scf.iv c1_i32_13 c1_i32_15 k0_t1
  let v134 : BitVec 32 := Scalar.muli c4_i32_64 arg15
  let v135 : BitVec 32 := Scalar.addi v2 v134
  let c0_i32_126 : BitVec 32 := 0#32
  let v228 : BitVec 32 := Scalar.addi v135 c0_i32_126
  let c8_i32_450 : BitVec 32 := 8#32
  let v792 : BitVec 32 := Scalar.subi v228 c8_i32_450
  let c256_i32_457 : BitVec 32 := 256#32
  let v803 : BitVec 32 := Scalar.muli v792 c256_i32_457
  v803
def k0_cond20 (v2 : BitVec 32) (v5 : BitVec 32) (k0_t1 : Fin (k0_t1_loop v2 v5).trips) : BitVec 1 :=
  let c4_i32_64 : BitVec 32 := 4#32
  let c1_i32_13 : BitVec 32 := 1#32
  let c1_i32_15 : BitVec 32 := 1#32
  let arg15 : BitVec 32 := Scf.iv c1_i32_13 c1_i32_15 k0_t1
  let v134 : BitVec 32 := Scalar.muli c4_i32_64 arg15
  let v135 : BitVec 32 := Scalar.addi v2 v134
  let c0_i32_126 : BitVec 32 := 0#32
  let v228 : BitVec 32 := Scalar.addi v135 c0_i32_126
  let c8_i32_127 : BitVec 32 := 8#32
  let v229 : BitVec 1 := Scalar.cmpi .sge v228 c8_i32_127
  let v230 : BitVec 32 := Scalar.extui v229
  let c0_i32_128 : BitVec 32 := 0#32
  let v231 : BitVec 1 := Scalar.cmpi .ne v230 c0_i32_128
  v231

def k0_off47 (v2 : BitVec 32) (v5 : BitVec 32) (k0_t1 : Fin (k0_t1_loop v2 v5).trips) : Fin 1 → Nat :=
  let c4_i32_64 : BitVec 32 := 4#32
  let c1_i32_13 : BitVec 32 := 1#32
  let c1_i32_15 : BitVec 32 := 1#32
  let arg15 : BitVec 32 := Scf.iv c1_i32_13 c1_i32_15 k0_t1
  let v134 : BitVec 32 := Scalar.muli c4_i32_64 arg15
  let v135 : BitVec 32 := Scalar.addi v2 v134
  let c0_i32_126 : BitVec 32 := 0#32
  let v228 : BitVec 32 := Scalar.addi v135 c0_i32_126
  let c8_i32_451 : BitVec 32 := 8#32
  let c0_i32_452 : BitVec 32 := 0#32
  let v793 : BitVec 1 := Scalar.cmpi .eq c8_i32_451 c0_i32_452
  let c1_i32_453 : BitVec 32 := 1#32
  let v794 : BitVec 32 := Scalar.select v793 c1_i32_453 c8_i32_451
  let v795 : BitVec 32 := Scalar.remsi v228 v794
  let c0_i32_455 : BitVec 32 := 0#32
  let v797 : BitVec 1 := Scalar.cmpi .slt v795 c0_i32_455
  let c0_i32_456 : BitVec 32 := 0#32
  let v798 : BitVec 1 := Scalar.cmpi .slt v794 c0_i32_456
  let v799 : BitVec 1 := Scalar.xori v797 v798
  let c0_i32_454 : BitVec 32 := 0#32
  let v796 : BitVec 1 := Scalar.cmpi .ne v795 c0_i32_454
  let v800 : BitVec 1 := Scalar.andi v799 v796
  let v801 : BitVec 32 := Scalar.addi v795 v794
  let v802 : BitVec 32 := Scalar.select v800 v801 v795
  ![v802.toNat]
def k0_off48 (v2 : BitVec 32) (v5 : BitVec 32) (k0_t1 : Fin (k0_t1_loop v2 v5).trips) : Fin 3 → Nat :=
  let c0_i32_458 : BitVec 32 := 0#32
  let c4_i32_64 : BitVec 32 := 4#32
  let c1_i32_13 : BitVec 32 := 1#32
  let c1_i32_15 : BitVec 32 := 1#32
  let arg15 : BitVec 32 := Scf.iv c1_i32_13 c1_i32_15 k0_t1
  let v134 : BitVec 32 := Scalar.muli c4_i32_64 arg15
  let v135 : BitVec 32 := Scalar.addi v2 v134
  let c0_i32_126 : BitVec 32 := 0#32
  let v228 : BitVec 32 := Scalar.addi v135 c0_i32_126
  let c8_i32_450 : BitVec 32 := 8#32
  let v792 : BitVec 32 := Scalar.subi v228 c8_i32_450
  let c256_i32_457 : BitVec 32 := 256#32
  let v803 : BitVec 32 := Scalar.muli v792 c256_i32_457
  let v804 : BitVec 32 := v803
  let c0_i32_459 : BitVec 32 := 0#32
  ![0, v804.toNat, 0]
def k0_off49 (v2 : BitVec 32) (v5 : BitVec 32) (k0_t1 : Fin (k0_t1_loop v2 v5).trips) : Fin 4 → Nat :=
  let c4_i32_64 : BitVec 32 := 4#32
  let c1_i32_13 : BitVec 32 := 1#32
  let c1_i32_15 : BitVec 32 := 1#32
  let arg15 : BitVec 32 := Scf.iv c1_i32_13 c1_i32_15 k0_t1
  let v134 : BitVec 32 := Scalar.muli c4_i32_64 arg15
  let v135 : BitVec 32 := Scalar.addi v2 v134
  let c0_i32_126 : BitVec 32 := 0#32
  let v228 : BitVec 32 := Scalar.addi v135 c0_i32_126
  let c8_i32_451 : BitVec 32 := 8#32
  let c0_i32_452 : BitVec 32 := 0#32
  let v793 : BitVec 1 := Scalar.cmpi .eq c8_i32_451 c0_i32_452
  let c1_i32_453 : BitVec 32 := 1#32
  let v794 : BitVec 32 := Scalar.select v793 c1_i32_453 c8_i32_451
  let v795 : BitVec 32 := Scalar.remsi v228 v794
  let c0_i32_455 : BitVec 32 := 0#32
  let v797 : BitVec 1 := Scalar.cmpi .slt v795 c0_i32_455
  let c0_i32_456 : BitVec 32 := 0#32
  let v798 : BitVec 1 := Scalar.cmpi .slt v794 c0_i32_456
  let v799 : BitVec 1 := Scalar.xori v797 v798
  let c0_i32_454 : BitVec 32 := 0#32
  let v796 : BitVec 1 := Scalar.cmpi .ne v795 c0_i32_454
  let v800 : BitVec 1 := Scalar.andi v799 v796
  let v801 : BitVec 32 := Scalar.addi v795 v794
  let v802 : BitVec 32 := Scalar.select v800 v801 v795
  let c0_i32_460 : BitVec 32 := 0#32
  let c0_i32_461 : BitVec 32 := 0#32
  let c0_i32_462 : BitVec 32 := 0#32
  ![v802.toNat, 0, 0, 0]
def k0_mult30 (v2 : BitVec 32) (v5 : BitVec 32) (k0_t1 : Fin (k0_t1_loop v2 v5).trips) : BitVec 32 :=
  let c4_i32_64 : BitVec 32 := 4#32
  let c1_i32_13 : BitVec 32 := 1#32
  let c1_i32_15 : BitVec 32 := 1#32
  let arg15 : BitVec 32 := Scf.iv c1_i32_13 c1_i32_15 k0_t1
  let v134 : BitVec 32 := Scalar.muli c4_i32_64 arg15
  let v135 : BitVec 32 := Scalar.addi v2 v134
  let c1_i32_129 : BitVec 32 := 1#32
  let v232 : BitVec 32 := Scalar.addi v135 c1_i32_129
  let c8_i32_450 : BitVec 32 := 8#32
  let v792 : BitVec 32 := Scalar.subi v232 c8_i32_450
  let c256_i32_457 : BitVec 32 := 256#32
  let v803 : BitVec 32 := Scalar.muli v792 c256_i32_457
  v803
def k0_cond21 (v2 : BitVec 32) (v5 : BitVec 32) (k0_t1 : Fin (k0_t1_loop v2 v5).trips) : BitVec 1 :=
  let c4_i32_64 : BitVec 32 := 4#32
  let c1_i32_13 : BitVec 32 := 1#32
  let c1_i32_15 : BitVec 32 := 1#32
  let arg15 : BitVec 32 := Scf.iv c1_i32_13 c1_i32_15 k0_t1
  let v134 : BitVec 32 := Scalar.muli c4_i32_64 arg15
  let v135 : BitVec 32 := Scalar.addi v2 v134
  let c1_i32_129 : BitVec 32 := 1#32
  let v232 : BitVec 32 := Scalar.addi v135 c1_i32_129
  let c8_i32_130 : BitVec 32 := 8#32
  let v233 : BitVec 1 := Scalar.cmpi .sge v232 c8_i32_130
  let v234 : BitVec 32 := Scalar.extui v233
  let c0_i32_131 : BitVec 32 := 0#32
  let v235 : BitVec 1 := Scalar.cmpi .ne v234 c0_i32_131
  v235

def k0_off50 (v2 : BitVec 32) (v5 : BitVec 32) (k0_t1 : Fin (k0_t1_loop v2 v5).trips) : Fin 1 → Nat :=
  let c4_i32_64 : BitVec 32 := 4#32
  let c1_i32_13 : BitVec 32 := 1#32
  let c1_i32_15 : BitVec 32 := 1#32
  let arg15 : BitVec 32 := Scf.iv c1_i32_13 c1_i32_15 k0_t1
  let v134 : BitVec 32 := Scalar.muli c4_i32_64 arg15
  let v135 : BitVec 32 := Scalar.addi v2 v134
  let c1_i32_129 : BitVec 32 := 1#32
  let v232 : BitVec 32 := Scalar.addi v135 c1_i32_129
  let c8_i32_451 : BitVec 32 := 8#32
  let c0_i32_452 : BitVec 32 := 0#32
  let v793 : BitVec 1 := Scalar.cmpi .eq c8_i32_451 c0_i32_452
  let c1_i32_453 : BitVec 32 := 1#32
  let v794 : BitVec 32 := Scalar.select v793 c1_i32_453 c8_i32_451
  let v795 : BitVec 32 := Scalar.remsi v232 v794
  let c0_i32_455 : BitVec 32 := 0#32
  let v797 : BitVec 1 := Scalar.cmpi .slt v795 c0_i32_455
  let c0_i32_456 : BitVec 32 := 0#32
  let v798 : BitVec 1 := Scalar.cmpi .slt v794 c0_i32_456
  let v799 : BitVec 1 := Scalar.xori v797 v798
  let c0_i32_454 : BitVec 32 := 0#32
  let v796 : BitVec 1 := Scalar.cmpi .ne v795 c0_i32_454
  let v800 : BitVec 1 := Scalar.andi v799 v796
  let v801 : BitVec 32 := Scalar.addi v795 v794
  let v802 : BitVec 32 := Scalar.select v800 v801 v795
  ![v802.toNat]
def k0_off51 (v2 : BitVec 32) (v5 : BitVec 32) (k0_t1 : Fin (k0_t1_loop v2 v5).trips) : Fin 3 → Nat :=
  let c0_i32_458 : BitVec 32 := 0#32
  let c4_i32_64 : BitVec 32 := 4#32
  let c1_i32_13 : BitVec 32 := 1#32
  let c1_i32_15 : BitVec 32 := 1#32
  let arg15 : BitVec 32 := Scf.iv c1_i32_13 c1_i32_15 k0_t1
  let v134 : BitVec 32 := Scalar.muli c4_i32_64 arg15
  let v135 : BitVec 32 := Scalar.addi v2 v134
  let c1_i32_129 : BitVec 32 := 1#32
  let v232 : BitVec 32 := Scalar.addi v135 c1_i32_129
  let c8_i32_450 : BitVec 32 := 8#32
  let v792 : BitVec 32 := Scalar.subi v232 c8_i32_450
  let c256_i32_457 : BitVec 32 := 256#32
  let v803 : BitVec 32 := Scalar.muli v792 c256_i32_457
  let v804 : BitVec 32 := v803
  let c0_i32_459 : BitVec 32 := 0#32
  ![0, v804.toNat, 0]
def k0_off52 (v2 : BitVec 32) (v5 : BitVec 32) (k0_t1 : Fin (k0_t1_loop v2 v5).trips) : Fin 4 → Nat :=
  let c4_i32_64 : BitVec 32 := 4#32
  let c1_i32_13 : BitVec 32 := 1#32
  let c1_i32_15 : BitVec 32 := 1#32
  let arg15 : BitVec 32 := Scf.iv c1_i32_13 c1_i32_15 k0_t1
  let v134 : BitVec 32 := Scalar.muli c4_i32_64 arg15
  let v135 : BitVec 32 := Scalar.addi v2 v134
  let c1_i32_129 : BitVec 32 := 1#32
  let v232 : BitVec 32 := Scalar.addi v135 c1_i32_129
  let c8_i32_451 : BitVec 32 := 8#32
  let c0_i32_452 : BitVec 32 := 0#32
  let v793 : BitVec 1 := Scalar.cmpi .eq c8_i32_451 c0_i32_452
  let c1_i32_453 : BitVec 32 := 1#32
  let v794 : BitVec 32 := Scalar.select v793 c1_i32_453 c8_i32_451
  let v795 : BitVec 32 := Scalar.remsi v232 v794
  let c0_i32_455 : BitVec 32 := 0#32
  let v797 : BitVec 1 := Scalar.cmpi .slt v795 c0_i32_455
  let c0_i32_456 : BitVec 32 := 0#32
  let v798 : BitVec 1 := Scalar.cmpi .slt v794 c0_i32_456
  let v799 : BitVec 1 := Scalar.xori v797 v798
  let c0_i32_454 : BitVec 32 := 0#32
  let v796 : BitVec 1 := Scalar.cmpi .ne v795 c0_i32_454
  let v800 : BitVec 1 := Scalar.andi v799 v796
  let v801 : BitVec 32 := Scalar.addi v795 v794
  let v802 : BitVec 32 := Scalar.select v800 v801 v795
  let c0_i32_460 : BitVec 32 := 0#32
  let c0_i32_461 : BitVec 32 := 0#32
  let c0_i32_462 : BitVec 32 := 0#32
  ![v802.toNat, 0, 0, 0]
def k0_mult31 (v2 : BitVec 32) (v5 : BitVec 32) (k0_t1 : Fin (k0_t1_loop v2 v5).trips) : BitVec 32 :=
  let c4_i32_64 : BitVec 32 := 4#32
  let c1_i32_13 : BitVec 32 := 1#32
  let c1_i32_15 : BitVec 32 := 1#32
  let arg15 : BitVec 32 := Scf.iv c1_i32_13 c1_i32_15 k0_t1
  let v134 : BitVec 32 := Scalar.muli c4_i32_64 arg15
  let v135 : BitVec 32 := Scalar.addi v2 v134
  let c2_i32_132 : BitVec 32 := 2#32
  let v236 : BitVec 32 := Scalar.addi v135 c2_i32_132
  let c8_i32_450 : BitVec 32 := 8#32
  let v792 : BitVec 32 := Scalar.subi v236 c8_i32_450
  let c256_i32_457 : BitVec 32 := 256#32
  let v803 : BitVec 32 := Scalar.muli v792 c256_i32_457
  v803
def k0_cond22 (v2 : BitVec 32) (v5 : BitVec 32) (k0_t1 : Fin (k0_t1_loop v2 v5).trips) : BitVec 1 :=
  let c4_i32_64 : BitVec 32 := 4#32
  let c1_i32_13 : BitVec 32 := 1#32
  let c1_i32_15 : BitVec 32 := 1#32
  let arg15 : BitVec 32 := Scf.iv c1_i32_13 c1_i32_15 k0_t1
  let v134 : BitVec 32 := Scalar.muli c4_i32_64 arg15
  let v135 : BitVec 32 := Scalar.addi v2 v134
  let c2_i32_132 : BitVec 32 := 2#32
  let v236 : BitVec 32 := Scalar.addi v135 c2_i32_132
  let c8_i32_133 : BitVec 32 := 8#32
  let v237 : BitVec 1 := Scalar.cmpi .sge v236 c8_i32_133
  let v238 : BitVec 32 := Scalar.extui v237
  let c0_i32_134 : BitVec 32 := 0#32
  let v239 : BitVec 1 := Scalar.cmpi .ne v238 c0_i32_134
  v239

def k0_off53 (v2 : BitVec 32) (v5 : BitVec 32) (k0_t1 : Fin (k0_t1_loop v2 v5).trips) : Fin 1 → Nat :=
  let c4_i32_64 : BitVec 32 := 4#32
  let c1_i32_13 : BitVec 32 := 1#32
  let c1_i32_15 : BitVec 32 := 1#32
  let arg15 : BitVec 32 := Scf.iv c1_i32_13 c1_i32_15 k0_t1
  let v134 : BitVec 32 := Scalar.muli c4_i32_64 arg15
  let v135 : BitVec 32 := Scalar.addi v2 v134
  let c2_i32_132 : BitVec 32 := 2#32
  let v236 : BitVec 32 := Scalar.addi v135 c2_i32_132
  let c8_i32_451 : BitVec 32 := 8#32
  let c0_i32_452 : BitVec 32 := 0#32
  let v793 : BitVec 1 := Scalar.cmpi .eq c8_i32_451 c0_i32_452
  let c1_i32_453 : BitVec 32 := 1#32
  let v794 : BitVec 32 := Scalar.select v793 c1_i32_453 c8_i32_451
  let v795 : BitVec 32 := Scalar.remsi v236 v794
  let c0_i32_455 : BitVec 32 := 0#32
  let v797 : BitVec 1 := Scalar.cmpi .slt v795 c0_i32_455
  let c0_i32_456 : BitVec 32 := 0#32
  let v798 : BitVec 1 := Scalar.cmpi .slt v794 c0_i32_456
  let v799 : BitVec 1 := Scalar.xori v797 v798
  let c0_i32_454 : BitVec 32 := 0#32
  let v796 : BitVec 1 := Scalar.cmpi .ne v795 c0_i32_454
  let v800 : BitVec 1 := Scalar.andi v799 v796
  let v801 : BitVec 32 := Scalar.addi v795 v794
  let v802 : BitVec 32 := Scalar.select v800 v801 v795
  ![v802.toNat]
def k0_off54 (v2 : BitVec 32) (v5 : BitVec 32) (k0_t1 : Fin (k0_t1_loop v2 v5).trips) : Fin 3 → Nat :=
  let c0_i32_458 : BitVec 32 := 0#32
  let c4_i32_64 : BitVec 32 := 4#32
  let c1_i32_13 : BitVec 32 := 1#32
  let c1_i32_15 : BitVec 32 := 1#32
  let arg15 : BitVec 32 := Scf.iv c1_i32_13 c1_i32_15 k0_t1
  let v134 : BitVec 32 := Scalar.muli c4_i32_64 arg15
  let v135 : BitVec 32 := Scalar.addi v2 v134
  let c2_i32_132 : BitVec 32 := 2#32
  let v236 : BitVec 32 := Scalar.addi v135 c2_i32_132
  let c8_i32_450 : BitVec 32 := 8#32
  let v792 : BitVec 32 := Scalar.subi v236 c8_i32_450
  let c256_i32_457 : BitVec 32 := 256#32
  let v803 : BitVec 32 := Scalar.muli v792 c256_i32_457
  let v804 : BitVec 32 := v803
  let c0_i32_459 : BitVec 32 := 0#32
  ![0, v804.toNat, 0]
def k0_off55 (v2 : BitVec 32) (v5 : BitVec 32) (k0_t1 : Fin (k0_t1_loop v2 v5).trips) : Fin 4 → Nat :=
  let c4_i32_64 : BitVec 32 := 4#32
  let c1_i32_13 : BitVec 32 := 1#32
  let c1_i32_15 : BitVec 32 := 1#32
  let arg15 : BitVec 32 := Scf.iv c1_i32_13 c1_i32_15 k0_t1
  let v134 : BitVec 32 := Scalar.muli c4_i32_64 arg15
  let v135 : BitVec 32 := Scalar.addi v2 v134
  let c2_i32_132 : BitVec 32 := 2#32
  let v236 : BitVec 32 := Scalar.addi v135 c2_i32_132
  let c8_i32_451 : BitVec 32 := 8#32
  let c0_i32_452 : BitVec 32 := 0#32
  let v793 : BitVec 1 := Scalar.cmpi .eq c8_i32_451 c0_i32_452
  let c1_i32_453 : BitVec 32 := 1#32
  let v794 : BitVec 32 := Scalar.select v793 c1_i32_453 c8_i32_451
  let v795 : BitVec 32 := Scalar.remsi v236 v794
  let c0_i32_455 : BitVec 32 := 0#32
  let v797 : BitVec 1 := Scalar.cmpi .slt v795 c0_i32_455
  let c0_i32_456 : BitVec 32 := 0#32
  let v798 : BitVec 1 := Scalar.cmpi .slt v794 c0_i32_456
  let v799 : BitVec 1 := Scalar.xori v797 v798
  let c0_i32_454 : BitVec 32 := 0#32
  let v796 : BitVec 1 := Scalar.cmpi .ne v795 c0_i32_454
  let v800 : BitVec 1 := Scalar.andi v799 v796
  let v801 : BitVec 32 := Scalar.addi v795 v794
  let v802 : BitVec 32 := Scalar.select v800 v801 v795
  let c0_i32_460 : BitVec 32 := 0#32
  let c0_i32_461 : BitVec 32 := 0#32
  let c0_i32_462 : BitVec 32 := 0#32
  ![v802.toNat, 0, 0, 0]
def k0_mult32 (v2 : BitVec 32) (v5 : BitVec 32) (k0_t1 : Fin (k0_t1_loop v2 v5).trips) : BitVec 32 :=
  let c4_i32_64 : BitVec 32 := 4#32
  let c1_i32_13 : BitVec 32 := 1#32
  let c1_i32_15 : BitVec 32 := 1#32
  let arg15 : BitVec 32 := Scf.iv c1_i32_13 c1_i32_15 k0_t1
  let v134 : BitVec 32 := Scalar.muli c4_i32_64 arg15
  let v135 : BitVec 32 := Scalar.addi v2 v134
  let c3_i32_135 : BitVec 32 := 3#32
  let v240 : BitVec 32 := Scalar.addi v135 c3_i32_135
  let c8_i32_450 : BitVec 32 := 8#32
  let v792 : BitVec 32 := Scalar.subi v240 c8_i32_450
  let c256_i32_457 : BitVec 32 := 256#32
  let v803 : BitVec 32 := Scalar.muli v792 c256_i32_457
  v803
def k0_cond23 (v2 : BitVec 32) (v5 : BitVec 32) (k0_t1 : Fin (k0_t1_loop v2 v5).trips) : BitVec 1 :=
  let c4_i32_64 : BitVec 32 := 4#32
  let c1_i32_13 : BitVec 32 := 1#32
  let c1_i32_15 : BitVec 32 := 1#32
  let arg15 : BitVec 32 := Scf.iv c1_i32_13 c1_i32_15 k0_t1
  let v134 : BitVec 32 := Scalar.muli c4_i32_64 arg15
  let v135 : BitVec 32 := Scalar.addi v2 v134
  let c3_i32_135 : BitVec 32 := 3#32
  let v240 : BitVec 32 := Scalar.addi v135 c3_i32_135
  let c8_i32_136 : BitVec 32 := 8#32
  let v241 : BitVec 1 := Scalar.cmpi .sge v240 c8_i32_136
  let v242 : BitVec 32 := Scalar.extui v241
  let c0_i32_137 : BitVec 32 := 0#32
  let v243 : BitVec 1 := Scalar.cmpi .ne v242 c0_i32_137
  v243

def k0_off56 (v2 : BitVec 32) (v5 : BitVec 32) (k0_t1 : Fin (k0_t1_loop v2 v5).trips) : Fin 1 → Nat :=
  let c4_i32_64 : BitVec 32 := 4#32
  let c1_i32_13 : BitVec 32 := 1#32
  let c1_i32_15 : BitVec 32 := 1#32
  let arg15 : BitVec 32 := Scf.iv c1_i32_13 c1_i32_15 k0_t1
  let v134 : BitVec 32 := Scalar.muli c4_i32_64 arg15
  let v135 : BitVec 32 := Scalar.addi v2 v134
  let c3_i32_135 : BitVec 32 := 3#32
  let v240 : BitVec 32 := Scalar.addi v135 c3_i32_135
  let c8_i32_451 : BitVec 32 := 8#32
  let c0_i32_452 : BitVec 32 := 0#32
  let v793 : BitVec 1 := Scalar.cmpi .eq c8_i32_451 c0_i32_452
  let c1_i32_453 : BitVec 32 := 1#32
  let v794 : BitVec 32 := Scalar.select v793 c1_i32_453 c8_i32_451
  let v795 : BitVec 32 := Scalar.remsi v240 v794
  let c0_i32_455 : BitVec 32 := 0#32
  let v797 : BitVec 1 := Scalar.cmpi .slt v795 c0_i32_455
  let c0_i32_456 : BitVec 32 := 0#32
  let v798 : BitVec 1 := Scalar.cmpi .slt v794 c0_i32_456
  let v799 : BitVec 1 := Scalar.xori v797 v798
  let c0_i32_454 : BitVec 32 := 0#32
  let v796 : BitVec 1 := Scalar.cmpi .ne v795 c0_i32_454
  let v800 : BitVec 1 := Scalar.andi v799 v796
  let v801 : BitVec 32 := Scalar.addi v795 v794
  let v802 : BitVec 32 := Scalar.select v800 v801 v795
  ![v802.toNat]
def k0_off57 (v2 : BitVec 32) (v5 : BitVec 32) (k0_t1 : Fin (k0_t1_loop v2 v5).trips) : Fin 3 → Nat :=
  let c0_i32_458 : BitVec 32 := 0#32
  let c4_i32_64 : BitVec 32 := 4#32
  let c1_i32_13 : BitVec 32 := 1#32
  let c1_i32_15 : BitVec 32 := 1#32
  let arg15 : BitVec 32 := Scf.iv c1_i32_13 c1_i32_15 k0_t1
  let v134 : BitVec 32 := Scalar.muli c4_i32_64 arg15
  let v135 : BitVec 32 := Scalar.addi v2 v134
  let c3_i32_135 : BitVec 32 := 3#32
  let v240 : BitVec 32 := Scalar.addi v135 c3_i32_135
  let c8_i32_450 : BitVec 32 := 8#32
  let v792 : BitVec 32 := Scalar.subi v240 c8_i32_450
  let c256_i32_457 : BitVec 32 := 256#32
  let v803 : BitVec 32 := Scalar.muli v792 c256_i32_457
  let v804 : BitVec 32 := v803
  let c0_i32_459 : BitVec 32 := 0#32
  ![0, v804.toNat, 0]
def k0_off58 (v2 : BitVec 32) (v5 : BitVec 32) (k0_t1 : Fin (k0_t1_loop v2 v5).trips) : Fin 4 → Nat :=
  let c4_i32_64 : BitVec 32 := 4#32
  let c1_i32_13 : BitVec 32 := 1#32
  let c1_i32_15 : BitVec 32 := 1#32
  let arg15 : BitVec 32 := Scf.iv c1_i32_13 c1_i32_15 k0_t1
  let v134 : BitVec 32 := Scalar.muli c4_i32_64 arg15
  let v135 : BitVec 32 := Scalar.addi v2 v134
  let c3_i32_135 : BitVec 32 := 3#32
  let v240 : BitVec 32 := Scalar.addi v135 c3_i32_135
  let c8_i32_451 : BitVec 32 := 8#32
  let c0_i32_452 : BitVec 32 := 0#32
  let v793 : BitVec 1 := Scalar.cmpi .eq c8_i32_451 c0_i32_452
  let c1_i32_453 : BitVec 32 := 1#32
  let v794 : BitVec 32 := Scalar.select v793 c1_i32_453 c8_i32_451
  let v795 : BitVec 32 := Scalar.remsi v240 v794
  let c0_i32_455 : BitVec 32 := 0#32
  let v797 : BitVec 1 := Scalar.cmpi .slt v795 c0_i32_455
  let c0_i32_456 : BitVec 32 := 0#32
  let v798 : BitVec 1 := Scalar.cmpi .slt v794 c0_i32_456
  let v799 : BitVec 1 := Scalar.xori v797 v798
  let c0_i32_454 : BitVec 32 := 0#32
  let v796 : BitVec 1 := Scalar.cmpi .ne v795 c0_i32_454
  let v800 : BitVec 1 := Scalar.andi v799 v796
  let v801 : BitVec 32 := Scalar.addi v795 v794
  let v802 : BitVec 32 := Scalar.select v800 v801 v795
  let c0_i32_460 : BitVec 32 := 0#32
  let c0_i32_461 : BitVec 32 := 0#32
  let c0_i32_462 : BitVec 32 := 0#32
  ![v802.toNat, 0, 0, 0]
def k0_off59 (v2 : BitVec 32) (v5 : BitVec 32) (k0_t1 : Fin (k0_t1_loop v2 v5).trips) (c0_i32_138 : BitVec 32) : Fin 4 → Nat :=
  let c4_i32_64 : BitVec 32 := 4#32
  let c1_i32_13 : BitVec 32 := 1#32
  let c1_i32_15 : BitVec 32 := 1#32
  let arg15 : BitVec 32 := Scf.iv c1_i32_13 c1_i32_15 k0_t1
  let v134 : BitVec 32 := Scalar.muli c4_i32_64 arg15
  let v135 : BitVec 32 := Scalar.addi v2 v134
  let v244 : BitVec 32 := Scalar.addi v135 c0_i32_138
  let c8_i32_139 : BitVec 32 := 8#32
  let c0_i32_140 : BitVec 32 := 0#32
  let v245 : BitVec 1 := Scalar.cmpi .eq c8_i32_139 c0_i32_140
  let c1_i32_141 : BitVec 32 := 1#32
  let v246 : BitVec 32 := Scalar.select v245 c1_i32_141 c8_i32_139
  let v247 : BitVec 32 := Scalar.remsi v244 v246
  let c0_i32_143 : BitVec 32 := 0#32
  let v249 : BitVec 1 := Scalar.cmpi .slt v247 c0_i32_143
  let c0_i32_144 : BitVec 32 := 0#32
  let v250 : BitVec 1 := Scalar.cmpi .slt v246 c0_i32_144
  let v251 : BitVec 1 := Scalar.xori v249 v250
  let c0_i32_142 : BitVec 32 := 0#32
  let v248 : BitVec 1 := Scalar.cmpi .ne v247 c0_i32_142
  let v252 : BitVec 1 := Scalar.andi v251 v248
  let v253 : BitVec 32 := Scalar.addi v247 v246
  let v254 : BitVec 32 := Scalar.select v252 v253 v247
  let v255 : Index := Scalar.indexCast v254
  let c0_145 : Index := 0#32
  let c0_146 : Index := 0#32
  let c0_147 : Index := 0#32
  ![v255.toNat, 0, 0, 0]
def k0_off60 (v2 : BitVec 32) (v5 : BitVec 32) (k0_t1 : Fin (k0_t1_loop v2 v5).trips) (c0_i32_138 : BitVec 32) : Fin 4 → Nat :=
  let c4_i32_64 : BitVec 32 := 4#32
  let c1_i32_13 : BitVec 32 := 1#32
  let c1_i32_15 : BitVec 32 := 1#32
  let arg15 : BitVec 32 := Scf.iv c1_i32_13 c1_i32_15 k0_t1
  let v134 : BitVec 32 := Scalar.muli c4_i32_64 arg15
  let v135 : BitVec 32 := Scalar.addi v2 v134
  let v244 : BitVec 32 := Scalar.addi v135 c0_i32_138
  let c8_i32_148 : BitVec 32 := 8#32
  let c0_i32_149 : BitVec 32 := 0#32
  let v258 : BitVec 1 := Scalar.cmpi .eq c8_i32_148 c0_i32_149
  let c1_i32_150 : BitVec 32 := 1#32
  let v259 : BitVec 32 := Scalar.select v258 c1_i32_150 c8_i32_148
  let v260 : BitVec 32 := Scalar.remsi v244 v259
  let c0_i32_152 : BitVec 32 := 0#32
  let v262 : BitVec 1 := Scalar.cmpi .slt v260 c0_i32_152
  let c0_i32_153 : BitVec 32 := 0#32
  let v263 : BitVec 1 := Scalar.cmpi .slt v259 c0_i32_153
  let v264 : BitVec 1 := Scalar.xori v262 v263
  let c0_i32_151 : BitVec 32 := 0#32
  let v261 : BitVec 1 := Scalar.cmpi .ne v260 c0_i32_151
  let v265 : BitVec 1 := Scalar.andi v264 v261
  let v266 : BitVec 32 := Scalar.addi v260 v259
  let v267 : BitVec 32 := Scalar.select v265 v266 v260
  let v268 : Index := Scalar.indexCast v267
  let c1 : Index := 1#32
  let c0_154 : Index := 0#32
  let c0_155 : Index := 0#32
  ![v268.toNat, 1, 0, 0]
def k0_mult33 (v2 : BitVec 32) (v5 : BitVec 32) (k0_t1 : Fin (k0_t1_loop v2 v5).trips) : BitVec 32 :=
  let c4_i32_64 : BitVec 32 := 4#32
  let c1_i32_13 : BitVec 32 := 1#32
  let c1_i32_15 : BitVec 32 := 1#32
  let arg15 : BitVec 32 := Scf.iv c1_i32_13 c1_i32_15 k0_t1
  let v134 : BitVec 32 := Scalar.muli c4_i32_64 arg15
  let v135 : BitVec 32 := Scalar.addi v2 v134
  let c0_i32_374 : BitVec 32 := 0#32
  let v680 : BitVec 32 := Scalar.addi v135 c0_i32_374
  let c256_i32_375 : BitVec 32 := 256#32
  let v681 : BitVec 32 := Scalar.muli v680 c256_i32_375
  v681
def k0_mult34 (v2 : BitVec 32) (v5 : BitVec 32) (k0_t1 : Fin (k0_t1_loop v2 v5).trips) : BitVec 32 :=
  let c4_i32_64 : BitVec 32 := 4#32
  let c1_i32_13 : BitVec 32 := 1#32
  let c1_i32_15 : BitVec 32 := 1#32
  let arg15 : BitVec 32 := Scf.iv c1_i32_13 c1_i32_15 k0_t1
  let v134 : BitVec 32 := Scalar.muli c4_i32_64 arg15
  let v135 : BitVec 32 := Scalar.addi v2 v134
  let c1_i32_393 : BitVec 32 := 1#32
  let v708 : BitVec 32 := Scalar.addi v135 c1_i32_393
  let c256_i32_394 : BitVec 32 := 256#32
  let v709 : BitVec 32 := Scalar.muli v708 c256_i32_394
  v709
def k0_mult35 (v2 : BitVec 32) (v5 : BitVec 32) (k0_t1 : Fin (k0_t1_loop v2 v5).trips) : BitVec 32 :=
  let c4_i32_64 : BitVec 32 := 4#32
  let c1_i32_13 : BitVec 32 := 1#32
  let c1_i32_15 : BitVec 32 := 1#32
  let arg15 : BitVec 32 := Scf.iv c1_i32_13 c1_i32_15 k0_t1
  let v134 : BitVec 32 := Scalar.muli c4_i32_64 arg15
  let v135 : BitVec 32 := Scalar.addi v2 v134
  let c2_i32_412 : BitVec 32 := 2#32
  let v736 : BitVec 32 := Scalar.addi v135 c2_i32_412
  let c256_i32_413 : BitVec 32 := 256#32
  let v737 : BitVec 32 := Scalar.muli v736 c256_i32_413
  v737
def k0_mult36 (v2 : BitVec 32) (v5 : BitVec 32) (k0_t1 : Fin (k0_t1_loop v2 v5).trips) : BitVec 32 :=
  let c4_i32_64 : BitVec 32 := 4#32
  let c1_i32_13 : BitVec 32 := 1#32
  let c1_i32_15 : BitVec 32 := 1#32
  let arg15 : BitVec 32 := Scf.iv c1_i32_13 c1_i32_15 k0_t1
  let v134 : BitVec 32 := Scalar.muli c4_i32_64 arg15
  let v135 : BitVec 32 := Scalar.addi v2 v134
  let c3_i32_431 : BitVec 32 := 3#32
  let v764 : BitVec 32 := Scalar.addi v135 c3_i32_431
  let c256_i32_432 : BitVec 32 := 256#32
  let v765 : BitVec 32 := Scalar.muli v764 c256_i32_432
  v765
@[reducible] def k0_t2_loop (v2 : BitVec 32) (v5 : BitVec 32) : Scf.Loop 32 :=
  let c1_i32_13 : BitVec 32 := 1#32
  let v9 : BitVec 32 := Scalar.subi v5 v2
  let c0_i32_1 : BitVec 32 := 0#32
  let v11 : BitVec 1 := Scalar.cmpi .sgt v9 c0_i32_1
  let v12 : BitVec 32 := Scalar.extui v11
  let c0_i32_2 : BitVec 32 := 0#32
  let v13 : BitVec 1 := Scalar.cmpi .slt v9 c0_i32_2
  let v14 : BitVec 32 := Scalar.extui v13
  let v15 : BitVec 32 := Scalar.subi v12 v14
  let c4_i32 : BitVec 32 := 4#32
  let c0_i32_3 : BitVec 32 := 0#32
  let v16 : BitVec 1 := Scalar.cmpi .sgt c4_i32 c0_i32_3
  let v17 : BitVec 32 := Scalar.extui v16
  let c0_i32_4 : BitVec 32 := 0#32
  let v18 : BitVec 1 := Scalar.cmpi .slt c4_i32 c0_i32_4
  let v19 : BitVec 32 := Scalar.extui v18
  let v20 : BitVec 32 := Scalar.subi v17 v19
  let v21 : BitVec 1 := Scalar.cmpi .ne v15 v20
  let v22 : BitVec 32 := Scalar.remsi v9 c4_i32
  let c0_i32_5 : BitVec 32 := 0#32
  let v23 : BitVec 1 := Scalar.cmpi .ne v22 c0_i32_5
  let v24 : BitVec 1 := Scalar.andi v21 v23
  let v10 : BitVec 32 := Scalar.divsi v9 c4_i32
  let c1_i32_6 : BitVec 32 := 1#32
  let v25 : BitVec 32 := Scalar.subi v10 c1_i32_6
  let v26 : BitVec 32 := Scalar.select v24 v25 v10
  let v35 : BitVec 32 := Scalar.subi v26 c1_i32_13
  let c1_i32_14 : BitVec 32 := 1#32
  let v37 : BitVec 32 := Scalar.divsi v35 c1_i32_14
  let v38 : BitVec 32 := Scalar.muli v37 c1_i32_14
  let v39 : BitVec 32 := Scalar.addi c1_i32_13 v38
  let v36 : BitVec 32 := Scalar.addi c1_i32_13 v35
  let c1_i32_16 : BitVec 32 := 1#32
  ⟨v39, v36, c1_i32_16⟩
def k0_mult37 (v2 : BitVec 32) (v5 : BitVec 32) (k0_t2 : Fin (k0_t2_loop v2 v5).trips) : BitVec 32 :=
  let c4_i32_64 : BitVec 32 := 4#32
  let c1_i32_13 : BitVec 32 := 1#32
  let v9 : BitVec 32 := Scalar.subi v5 v2
  let c0_i32_1 : BitVec 32 := 0#32
  let v11 : BitVec 1 := Scalar.cmpi .sgt v9 c0_i32_1
  let v12 : BitVec 32 := Scalar.extui v11
  let c0_i32_2 : BitVec 32 := 0#32
  let v13 : BitVec 1 := Scalar.cmpi .slt v9 c0_i32_2
  let v14 : BitVec 32 := Scalar.extui v13
  let v15 : BitVec 32 := Scalar.subi v12 v14
  let c4_i32 : BitVec 32 := 4#32
  let c0_i32_3 : BitVec 32 := 0#32
  let v16 : BitVec 1 := Scalar.cmpi .sgt c4_i32 c0_i32_3
  let v17 : BitVec 32 := Scalar.extui v16
  let c0_i32_4 : BitVec 32 := 0#32
  let v18 : BitVec 1 := Scalar.cmpi .slt c4_i32 c0_i32_4
  let v19 : BitVec 32 := Scalar.extui v18
  let v20 : BitVec 32 := Scalar.subi v17 v19
  let v21 : BitVec 1 := Scalar.cmpi .ne v15 v20
  let v22 : BitVec 32 := Scalar.remsi v9 c4_i32
  let c0_i32_5 : BitVec 32 := 0#32
  let v23 : BitVec 1 := Scalar.cmpi .ne v22 c0_i32_5
  let v24 : BitVec 1 := Scalar.andi v21 v23
  let v10 : BitVec 32 := Scalar.divsi v9 c4_i32
  let c1_i32_6 : BitVec 32 := 1#32
  let v25 : BitVec 32 := Scalar.subi v10 c1_i32_6
  let v26 : BitVec 32 := Scalar.select v24 v25 v10
  let v35 : BitVec 32 := Scalar.subi v26 c1_i32_13
  let c1_i32_14 : BitVec 32 := 1#32
  let v37 : BitVec 32 := Scalar.divsi v35 c1_i32_14
  let v38 : BitVec 32 := Scalar.muli v37 c1_i32_14
  let v39 : BitVec 32 := Scalar.addi c1_i32_13 v38
  let c1_i32_16 : BitVec 32 := 1#32
  let arg15 : BitVec 32 := Scf.iv v39 c1_i32_16 k0_t2
  let v134 : BitVec 32 := Scalar.muli c4_i32_64 arg15
  let v135 : BitVec 32 := Scalar.addi v2 v134
  let c0_i32_65 : BitVec 32 := 0#32
  let v136 : BitVec 32 := Scalar.addi v135 c0_i32_65
  let c256_i32 : BitVec 32 := 256#32
  let v147 : BitVec 32 := Scalar.muli v136 c256_i32
  v147
def k0_off61 (v2 : BitVec 32) (v5 : BitVec 32) (k0_t2 : Fin (k0_t2_loop v2 v5).trips) (c0_i32_65 : BitVec 32) : Fin 1 → Nat :=
  let c4_i32_64 : BitVec 32 := 4#32
  let c1_i32_13 : BitVec 32 := 1#32
  let v9 : BitVec 32 := Scalar.subi v5 v2
  let c0_i32_1 : BitVec 32 := 0#32
  let v11 : BitVec 1 := Scalar.cmpi .sgt v9 c0_i32_1
  let v12 : BitVec 32 := Scalar.extui v11
  let c0_i32_2 : BitVec 32 := 0#32
  let v13 : BitVec 1 := Scalar.cmpi .slt v9 c0_i32_2
  let v14 : BitVec 32 := Scalar.extui v13
  let v15 : BitVec 32 := Scalar.subi v12 v14
  let c4_i32 : BitVec 32 := 4#32
  let c0_i32_3 : BitVec 32 := 0#32
  let v16 : BitVec 1 := Scalar.cmpi .sgt c4_i32 c0_i32_3
  let v17 : BitVec 32 := Scalar.extui v16
  let c0_i32_4 : BitVec 32 := 0#32
  let v18 : BitVec 1 := Scalar.cmpi .slt c4_i32 c0_i32_4
  let v19 : BitVec 32 := Scalar.extui v18
  let v20 : BitVec 32 := Scalar.subi v17 v19
  let v21 : BitVec 1 := Scalar.cmpi .ne v15 v20
  let v22 : BitVec 32 := Scalar.remsi v9 c4_i32
  let c0_i32_5 : BitVec 32 := 0#32
  let v23 : BitVec 1 := Scalar.cmpi .ne v22 c0_i32_5
  let v24 : BitVec 1 := Scalar.andi v21 v23
  let v10 : BitVec 32 := Scalar.divsi v9 c4_i32
  let c1_i32_6 : BitVec 32 := 1#32
  let v25 : BitVec 32 := Scalar.subi v10 c1_i32_6
  let v26 : BitVec 32 := Scalar.select v24 v25 v10
  let v35 : BitVec 32 := Scalar.subi v26 c1_i32_13
  let c1_i32_14 : BitVec 32 := 1#32
  let v37 : BitVec 32 := Scalar.divsi v35 c1_i32_14
  let v38 : BitVec 32 := Scalar.muli v37 c1_i32_14
  let v39 : BitVec 32 := Scalar.addi c1_i32_13 v38
  let c1_i32_16 : BitVec 32 := 1#32
  let arg15 : BitVec 32 := Scf.iv v39 c1_i32_16 k0_t2
  let v134 : BitVec 32 := Scalar.muli c4_i32_64 arg15
  let v135 : BitVec 32 := Scalar.addi v2 v134
  let v136 : BitVec 32 := Scalar.addi v135 c0_i32_65
  let c8_i32 : BitVec 32 := 8#32
  let c0_i32_66 : BitVec 32 := 0#32
  let v137 : BitVec 1 := Scalar.cmpi .eq c8_i32 c0_i32_66
  let c1_i32_67 : BitVec 32 := 1#32
  let v138 : BitVec 32 := Scalar.select v137 c1_i32_67 c8_i32
  let v139 : BitVec 32 := Scalar.remsi v136 v138
  let c0_i32_69 : BitVec 32 := 0#32
  let v141 : BitVec 1 := Scalar.cmpi .slt v139 c0_i32_69
  let c0_i32_70 : BitVec 32 := 0#32
  let v142 : BitVec 1 := Scalar.cmpi .slt v138 c0_i32_70
  let v143 : BitVec 1 := Scalar.xori v141 v142
  let c0_i32_68 : BitVec 32 := 0#32
  let v140 : BitVec 1 := Scalar.cmpi .ne v139 c0_i32_68
  let v144 : BitVec 1 := Scalar.andi v143 v140
  let v145 : BitVec 32 := Scalar.addi v139 v138
  let v146 : BitVec 32 := Scalar.select v144 v145 v139
  ![v146.toNat]
def k0_off62 (v2 : BitVec 32) (v5 : BitVec 32) (k0_t2 : Fin (k0_t2_loop v2 v5).trips) (c0_i32_65 : BitVec 32) : Fin 4 → Nat :=
  let c4_i32_64 : BitVec 32 := 4#32
  let c1_i32_13 : BitVec 32 := 1#32
  let v9 : BitVec 32 := Scalar.subi v5 v2
  let c0_i32_1 : BitVec 32 := 0#32
  let v11 : BitVec 1 := Scalar.cmpi .sgt v9 c0_i32_1
  let v12 : BitVec 32 := Scalar.extui v11
  let c0_i32_2 : BitVec 32 := 0#32
  let v13 : BitVec 1 := Scalar.cmpi .slt v9 c0_i32_2
  let v14 : BitVec 32 := Scalar.extui v13
  let v15 : BitVec 32 := Scalar.subi v12 v14
  let c4_i32 : BitVec 32 := 4#32
  let c0_i32_3 : BitVec 32 := 0#32
  let v16 : BitVec 1 := Scalar.cmpi .sgt c4_i32 c0_i32_3
  let v17 : BitVec 32 := Scalar.extui v16
  let c0_i32_4 : BitVec 32 := 0#32
  let v18 : BitVec 1 := Scalar.cmpi .slt c4_i32 c0_i32_4
  let v19 : BitVec 32 := Scalar.extui v18
  let v20 : BitVec 32 := Scalar.subi v17 v19
  let v21 : BitVec 1 := Scalar.cmpi .ne v15 v20
  let v22 : BitVec 32 := Scalar.remsi v9 c4_i32
  let c0_i32_5 : BitVec 32 := 0#32
  let v23 : BitVec 1 := Scalar.cmpi .ne v22 c0_i32_5
  let v24 : BitVec 1 := Scalar.andi v21 v23
  let v10 : BitVec 32 := Scalar.divsi v9 c4_i32
  let c1_i32_6 : BitVec 32 := 1#32
  let v25 : BitVec 32 := Scalar.subi v10 c1_i32_6
  let v26 : BitVec 32 := Scalar.select v24 v25 v10
  let v35 : BitVec 32 := Scalar.subi v26 c1_i32_13
  let c1_i32_14 : BitVec 32 := 1#32
  let v37 : BitVec 32 := Scalar.divsi v35 c1_i32_14
  let v38 : BitVec 32 := Scalar.muli v37 c1_i32_14
  let v39 : BitVec 32 := Scalar.addi c1_i32_13 v38
  let c1_i32_16 : BitVec 32 := 1#32
  let arg15 : BitVec 32 := Scf.iv v39 c1_i32_16 k0_t2
  let v134 : BitVec 32 := Scalar.muli c4_i32_64 arg15
  let v135 : BitVec 32 := Scalar.addi v2 v134
  let v136 : BitVec 32 := Scalar.addi v135 c0_i32_65
  let c8_i32 : BitVec 32 := 8#32
  let c0_i32_66 : BitVec 32 := 0#32
  let v137 : BitVec 1 := Scalar.cmpi .eq c8_i32 c0_i32_66
  let c1_i32_67 : BitVec 32 := 1#32
  let v138 : BitVec 32 := Scalar.select v137 c1_i32_67 c8_i32
  let v139 : BitVec 32 := Scalar.remsi v136 v138
  let c0_i32_69 : BitVec 32 := 0#32
  let v141 : BitVec 1 := Scalar.cmpi .slt v139 c0_i32_69
  let c0_i32_70 : BitVec 32 := 0#32
  let v142 : BitVec 1 := Scalar.cmpi .slt v138 c0_i32_70
  let v143 : BitVec 1 := Scalar.xori v141 v142
  let c0_i32_68 : BitVec 32 := 0#32
  let v140 : BitVec 1 := Scalar.cmpi .ne v139 c0_i32_68
  let v144 : BitVec 1 := Scalar.andi v143 v140
  let v145 : BitVec 32 := Scalar.addi v139 v138
  let v146 : BitVec 32 := Scalar.select v144 v145 v139
  let c0_i32_71 : BitVec 32 := 0#32
  let c0_i32_72 : BitVec 32 := 0#32
  let c0_i32_73 : BitVec 32 := 0#32
  ![v146.toNat, 0, 0, 0]
def k0_off63 (v2 : BitVec 32) (v5 : BitVec 32) (k0_t2 : Fin (k0_t2_loop v2 v5).trips) (c0_i32_65 : BitVec 32) : Fin 3 → Nat :=
  let c0_i32_74 : BitVec 32 := 0#32
  let c4_i32_64 : BitVec 32 := 4#32
  let c1_i32_13 : BitVec 32 := 1#32
  let v9 : BitVec 32 := Scalar.subi v5 v2
  let c0_i32_1 : BitVec 32 := 0#32
  let v11 : BitVec 1 := Scalar.cmpi .sgt v9 c0_i32_1
  let v12 : BitVec 32 := Scalar.extui v11
  let c0_i32_2 : BitVec 32 := 0#32
  let v13 : BitVec 1 := Scalar.cmpi .slt v9 c0_i32_2
  let v14 : BitVec 32 := Scalar.extui v13
  let v15 : BitVec 32 := Scalar.subi v12 v14
  let c4_i32 : BitVec 32 := 4#32
  let c0_i32_3 : BitVec 32 := 0#32
  let v16 : BitVec 1 := Scalar.cmpi .sgt c4_i32 c0_i32_3
  let v17 : BitVec 32 := Scalar.extui v16
  let c0_i32_4 : BitVec 32 := 0#32
  let v18 : BitVec 1 := Scalar.cmpi .slt c4_i32 c0_i32_4
  let v19 : BitVec 32 := Scalar.extui v18
  let v20 : BitVec 32 := Scalar.subi v17 v19
  let v21 : BitVec 1 := Scalar.cmpi .ne v15 v20
  let v22 : BitVec 32 := Scalar.remsi v9 c4_i32
  let c0_i32_5 : BitVec 32 := 0#32
  let v23 : BitVec 1 := Scalar.cmpi .ne v22 c0_i32_5
  let v24 : BitVec 1 := Scalar.andi v21 v23
  let v10 : BitVec 32 := Scalar.divsi v9 c4_i32
  let c1_i32_6 : BitVec 32 := 1#32
  let v25 : BitVec 32 := Scalar.subi v10 c1_i32_6
  let v26 : BitVec 32 := Scalar.select v24 v25 v10
  let v35 : BitVec 32 := Scalar.subi v26 c1_i32_13
  let c1_i32_14 : BitVec 32 := 1#32
  let v37 : BitVec 32 := Scalar.divsi v35 c1_i32_14
  let v38 : BitVec 32 := Scalar.muli v37 c1_i32_14
  let v39 : BitVec 32 := Scalar.addi c1_i32_13 v38
  let c1_i32_16 : BitVec 32 := 1#32
  let arg15 : BitVec 32 := Scf.iv v39 c1_i32_16 k0_t2
  let v134 : BitVec 32 := Scalar.muli c4_i32_64 arg15
  let v135 : BitVec 32 := Scalar.addi v2 v134
  let v136 : BitVec 32 := Scalar.addi v135 c0_i32_65
  let c256_i32 : BitVec 32 := 256#32
  let v147 : BitVec 32 := Scalar.muli v136 c256_i32
  let v148 : BitVec 32 := v147
  let c0_i32_75 : BitVec 32 := 0#32
  ![0, v148.toNat, 0]
def k0_mult38 (v2 : BitVec 32) (v5 : BitVec 32) (k0_t2 : Fin (k0_t2_loop v2 v5).trips) : BitVec 32 :=
  let c4_i32_64 : BitVec 32 := 4#32
  let c1_i32_13 : BitVec 32 := 1#32
  let v9 : BitVec 32 := Scalar.subi v5 v2
  let c0_i32_1 : BitVec 32 := 0#32
  let v11 : BitVec 1 := Scalar.cmpi .sgt v9 c0_i32_1
  let v12 : BitVec 32 := Scalar.extui v11
  let c0_i32_2 : BitVec 32 := 0#32
  let v13 : BitVec 1 := Scalar.cmpi .slt v9 c0_i32_2
  let v14 : BitVec 32 := Scalar.extui v13
  let v15 : BitVec 32 := Scalar.subi v12 v14
  let c4_i32 : BitVec 32 := 4#32
  let c0_i32_3 : BitVec 32 := 0#32
  let v16 : BitVec 1 := Scalar.cmpi .sgt c4_i32 c0_i32_3
  let v17 : BitVec 32 := Scalar.extui v16
  let c0_i32_4 : BitVec 32 := 0#32
  let v18 : BitVec 1 := Scalar.cmpi .slt c4_i32 c0_i32_4
  let v19 : BitVec 32 := Scalar.extui v18
  let v20 : BitVec 32 := Scalar.subi v17 v19
  let v21 : BitVec 1 := Scalar.cmpi .ne v15 v20
  let v22 : BitVec 32 := Scalar.remsi v9 c4_i32
  let c0_i32_5 : BitVec 32 := 0#32
  let v23 : BitVec 1 := Scalar.cmpi .ne v22 c0_i32_5
  let v24 : BitVec 1 := Scalar.andi v21 v23
  let v10 : BitVec 32 := Scalar.divsi v9 c4_i32
  let c1_i32_6 : BitVec 32 := 1#32
  let v25 : BitVec 32 := Scalar.subi v10 c1_i32_6
  let v26 : BitVec 32 := Scalar.select v24 v25 v10
  let v35 : BitVec 32 := Scalar.subi v26 c1_i32_13
  let c1_i32_14 : BitVec 32 := 1#32
  let v37 : BitVec 32 := Scalar.divsi v35 c1_i32_14
  let v38 : BitVec 32 := Scalar.muli v37 c1_i32_14
  let v39 : BitVec 32 := Scalar.addi c1_i32_13 v38
  let c1_i32_16 : BitVec 32 := 1#32
  let arg15 : BitVec 32 := Scf.iv v39 c1_i32_16 k0_t2
  let v134 : BitVec 32 := Scalar.muli c4_i32_64 arg15
  let v135 : BitVec 32 := Scalar.addi v2 v134
  let c1_i32_76 : BitVec 32 := 1#32
  let v154 : BitVec 32 := Scalar.addi v135 c1_i32_76
  let c256_i32_83 : BitVec 32 := 256#32
  let v165 : BitVec 32 := Scalar.muli v154 c256_i32_83
  v165
def k0_mult39 (v2 : BitVec 32) (v5 : BitVec 32) (k0_t2 : Fin (k0_t2_loop v2 v5).trips) : BitVec 32 :=
  let c4_i32_64 : BitVec 32 := 4#32
  let c1_i32_13 : BitVec 32 := 1#32
  let v9 : BitVec 32 := Scalar.subi v5 v2
  let c0_i32_1 : BitVec 32 := 0#32
  let v11 : BitVec 1 := Scalar.cmpi .sgt v9 c0_i32_1
  let v12 : BitVec 32 := Scalar.extui v11
  let c0_i32_2 : BitVec 32 := 0#32
  let v13 : BitVec 1 := Scalar.cmpi .slt v9 c0_i32_2
  let v14 : BitVec 32 := Scalar.extui v13
  let v15 : BitVec 32 := Scalar.subi v12 v14
  let c4_i32 : BitVec 32 := 4#32
  let c0_i32_3 : BitVec 32 := 0#32
  let v16 : BitVec 1 := Scalar.cmpi .sgt c4_i32 c0_i32_3
  let v17 : BitVec 32 := Scalar.extui v16
  let c0_i32_4 : BitVec 32 := 0#32
  let v18 : BitVec 1 := Scalar.cmpi .slt c4_i32 c0_i32_4
  let v19 : BitVec 32 := Scalar.extui v18
  let v20 : BitVec 32 := Scalar.subi v17 v19
  let v21 : BitVec 1 := Scalar.cmpi .ne v15 v20
  let v22 : BitVec 32 := Scalar.remsi v9 c4_i32
  let c0_i32_5 : BitVec 32 := 0#32
  let v23 : BitVec 1 := Scalar.cmpi .ne v22 c0_i32_5
  let v24 : BitVec 1 := Scalar.andi v21 v23
  let v10 : BitVec 32 := Scalar.divsi v9 c4_i32
  let c1_i32_6 : BitVec 32 := 1#32
  let v25 : BitVec 32 := Scalar.subi v10 c1_i32_6
  let v26 : BitVec 32 := Scalar.select v24 v25 v10
  let v35 : BitVec 32 := Scalar.subi v26 c1_i32_13
  let c1_i32_14 : BitVec 32 := 1#32
  let v37 : BitVec 32 := Scalar.divsi v35 c1_i32_14
  let v38 : BitVec 32 := Scalar.muli v37 c1_i32_14
  let v39 : BitVec 32 := Scalar.addi c1_i32_13 v38
  let c1_i32_16 : BitVec 32 := 1#32
  let arg15 : BitVec 32 := Scf.iv v39 c1_i32_16 k0_t2
  let v134 : BitVec 32 := Scalar.muli c4_i32_64 arg15
  let v135 : BitVec 32 := Scalar.addi v2 v134
  let c2_i32_89 : BitVec 32 := 2#32
  let v172 : BitVec 32 := Scalar.addi v135 c2_i32_89
  let c256_i32_96 : BitVec 32 := 256#32
  let v183 : BitVec 32 := Scalar.muli v172 c256_i32_96
  v183
def k0_mult40 (v2 : BitVec 32) (v5 : BitVec 32) (k0_t2 : Fin (k0_t2_loop v2 v5).trips) : BitVec 32 :=
  let c4_i32_64 : BitVec 32 := 4#32
  let c1_i32_13 : BitVec 32 := 1#32
  let v9 : BitVec 32 := Scalar.subi v5 v2
  let c0_i32_1 : BitVec 32 := 0#32
  let v11 : BitVec 1 := Scalar.cmpi .sgt v9 c0_i32_1
  let v12 : BitVec 32 := Scalar.extui v11
  let c0_i32_2 : BitVec 32 := 0#32
  let v13 : BitVec 1 := Scalar.cmpi .slt v9 c0_i32_2
  let v14 : BitVec 32 := Scalar.extui v13
  let v15 : BitVec 32 := Scalar.subi v12 v14
  let c4_i32 : BitVec 32 := 4#32
  let c0_i32_3 : BitVec 32 := 0#32
  let v16 : BitVec 1 := Scalar.cmpi .sgt c4_i32 c0_i32_3
  let v17 : BitVec 32 := Scalar.extui v16
  let c0_i32_4 : BitVec 32 := 0#32
  let v18 : BitVec 1 := Scalar.cmpi .slt c4_i32 c0_i32_4
  let v19 : BitVec 32 := Scalar.extui v18
  let v20 : BitVec 32 := Scalar.subi v17 v19
  let v21 : BitVec 1 := Scalar.cmpi .ne v15 v20
  let v22 : BitVec 32 := Scalar.remsi v9 c4_i32
  let c0_i32_5 : BitVec 32 := 0#32
  let v23 : BitVec 1 := Scalar.cmpi .ne v22 c0_i32_5
  let v24 : BitVec 1 := Scalar.andi v21 v23
  let v10 : BitVec 32 := Scalar.divsi v9 c4_i32
  let c1_i32_6 : BitVec 32 := 1#32
  let v25 : BitVec 32 := Scalar.subi v10 c1_i32_6
  let v26 : BitVec 32 := Scalar.select v24 v25 v10
  let v35 : BitVec 32 := Scalar.subi v26 c1_i32_13
  let c1_i32_14 : BitVec 32 := 1#32
  let v37 : BitVec 32 := Scalar.divsi v35 c1_i32_14
  let v38 : BitVec 32 := Scalar.muli v37 c1_i32_14
  let v39 : BitVec 32 := Scalar.addi c1_i32_13 v38
  let c1_i32_16 : BitVec 32 := 1#32
  let arg15 : BitVec 32 := Scf.iv v39 c1_i32_16 k0_t2
  let v134 : BitVec 32 := Scalar.muli c4_i32_64 arg15
  let v135 : BitVec 32 := Scalar.addi v2 v134
  let c3_i32 : BitVec 32 := 3#32
  let v190 : BitVec 32 := Scalar.addi v135 c3_i32
  let c256_i32_108 : BitVec 32 := 256#32
  let v201 : BitVec 32 := Scalar.muli v190 c256_i32_108
  v201
def k0_mult41 (v2 : BitVec 32) (v5 : BitVec 32) (k0_t2 : Fin (k0_t2_loop v2 v5).trips) : BitVec 32 :=
  let c4_i32_64 : BitVec 32 := 4#32
  let c1_i32_13 : BitVec 32 := 1#32
  let v9 : BitVec 32 := Scalar.subi v5 v2
  let c0_i32_1 : BitVec 32 := 0#32
  let v11 : BitVec 1 := Scalar.cmpi .sgt v9 c0_i32_1
  let v12 : BitVec 32 := Scalar.extui v11
  let c0_i32_2 : BitVec 32 := 0#32
  let v13 : BitVec 1 := Scalar.cmpi .slt v9 c0_i32_2
  let v14 : BitVec 32 := Scalar.extui v13
  let v15 : BitVec 32 := Scalar.subi v12 v14
  let c4_i32 : BitVec 32 := 4#32
  let c0_i32_3 : BitVec 32 := 0#32
  let v16 : BitVec 1 := Scalar.cmpi .sgt c4_i32 c0_i32_3
  let v17 : BitVec 32 := Scalar.extui v16
  let c0_i32_4 : BitVec 32 := 0#32
  let v18 : BitVec 1 := Scalar.cmpi .slt c4_i32 c0_i32_4
  let v19 : BitVec 32 := Scalar.extui v18
  let v20 : BitVec 32 := Scalar.subi v17 v19
  let v21 : BitVec 1 := Scalar.cmpi .ne v15 v20
  let v22 : BitVec 32 := Scalar.remsi v9 c4_i32
  let c0_i32_5 : BitVec 32 := 0#32
  let v23 : BitVec 1 := Scalar.cmpi .ne v22 c0_i32_5
  let v24 : BitVec 1 := Scalar.andi v21 v23
  let v10 : BitVec 32 := Scalar.divsi v9 c4_i32
  let c1_i32_6 : BitVec 32 := 1#32
  let v25 : BitVec 32 := Scalar.subi v10 c1_i32_6
  let v26 : BitVec 32 := Scalar.select v24 v25 v10
  let v35 : BitVec 32 := Scalar.subi v26 c1_i32_13
  let c1_i32_14 : BitVec 32 := 1#32
  let v37 : BitVec 32 := Scalar.divsi v35 c1_i32_14
  let v38 : BitVec 32 := Scalar.muli v37 c1_i32_14
  let v39 : BitVec 32 := Scalar.addi c1_i32_13 v38
  let c1_i32_16 : BitVec 32 := 1#32
  let arg15 : BitVec 32 := Scf.iv v39 c1_i32_16 k0_t2
  let v134 : BitVec 32 := Scalar.muli c4_i32_64 arg15
  let v135 : BitVec 32 := Scalar.addi v2 v134
  let c4_i32_114 : BitVec 32 := 4#32
  let v208 : BitVec 32 := Scalar.addi v135 c4_i32_114
  let c0_i32_115 : BitVec 32 := 0#32
  let v209 : BitVec 32 := Scalar.addi v208 c0_i32_115
  let c256_i32_456 : BitVec 32 := 256#32
  let v802 : BitVec 32 := Scalar.muli v209 c256_i32_456
  v802
def k0_cond24 (v0 : BitVec 32) (v2 : BitVec 32) (v5 : BitVec 32) (k0_t2 : Fin (k0_t2_loop v2 v5).trips) : BitVec 1 :=
  let c4_i32_64 : BitVec 32 := 4#32
  let c1_i32_13 : BitVec 32 := 1#32
  let v9 : BitVec 32 := Scalar.subi v5 v2
  let c0_i32_1 : BitVec 32 := 0#32
  let v11 : BitVec 1 := Scalar.cmpi .sgt v9 c0_i32_1
  let v12 : BitVec 32 := Scalar.extui v11
  let c0_i32_2 : BitVec 32 := 0#32
  let v13 : BitVec 1 := Scalar.cmpi .slt v9 c0_i32_2
  let v14 : BitVec 32 := Scalar.extui v13
  let v15 : BitVec 32 := Scalar.subi v12 v14
  let c4_i32 : BitVec 32 := 4#32
  let c0_i32_3 : BitVec 32 := 0#32
  let v16 : BitVec 1 := Scalar.cmpi .sgt c4_i32 c0_i32_3
  let v17 : BitVec 32 := Scalar.extui v16
  let c0_i32_4 : BitVec 32 := 0#32
  let v18 : BitVec 1 := Scalar.cmpi .slt c4_i32 c0_i32_4
  let v19 : BitVec 32 := Scalar.extui v18
  let v20 : BitVec 32 := Scalar.subi v17 v19
  let v21 : BitVec 1 := Scalar.cmpi .ne v15 v20
  let v22 : BitVec 32 := Scalar.remsi v9 c4_i32
  let c0_i32_5 : BitVec 32 := 0#32
  let v23 : BitVec 1 := Scalar.cmpi .ne v22 c0_i32_5
  let v24 : BitVec 1 := Scalar.andi v21 v23
  let v10 : BitVec 32 := Scalar.divsi v9 c4_i32
  let c1_i32_6 : BitVec 32 := 1#32
  let v25 : BitVec 32 := Scalar.subi v10 c1_i32_6
  let v26 : BitVec 32 := Scalar.select v24 v25 v10
  let v35 : BitVec 32 := Scalar.subi v26 c1_i32_13
  let c1_i32_14 : BitVec 32 := 1#32
  let v37 : BitVec 32 := Scalar.divsi v35 c1_i32_14
  let v38 : BitVec 32 := Scalar.muli v37 c1_i32_14
  let v39 : BitVec 32 := Scalar.addi c1_i32_13 v38
  let c1_i32_16 : BitVec 32 := 1#32
  let arg15 : BitVec 32 := Scf.iv v39 c1_i32_16 k0_t2
  let v134 : BitVec 32 := Scalar.muli c4_i32_64 arg15
  let v135 : BitVec 32 := Scalar.addi v2 v134
  let c4_i32_114 : BitVec 32 := 4#32
  let v208 : BitVec 32 := Scalar.addi v135 c4_i32_114
  let c0_i32_115 : BitVec 32 := 0#32
  let v209 : BitVec 32 := Scalar.addi v208 c0_i32_115
  let v210 : BitVec 1 := Scalar.cmpi .slt v209 v0
  let v211 : BitVec 32 := Scalar.extui v210
  let c0_i32_116 : BitVec 32 := 0#32
  let v212 : BitVec 1 := Scalar.cmpi .ne v211 c0_i32_116
  v212

def k0_off64 (v2 : BitVec 32) (v5 : BitVec 32) (k0_t2 : Fin (k0_t2_loop v2 v5).trips) : Fin 1 → Nat :=
  let c4_i32_64 : BitVec 32 := 4#32
  let c1_i32_13 : BitVec 32 := 1#32
  let v9 : BitVec 32 := Scalar.subi v5 v2
  let c0_i32_1 : BitVec 32 := 0#32
  let v11 : BitVec 1 := Scalar.cmpi .sgt v9 c0_i32_1
  let v12 : BitVec 32 := Scalar.extui v11
  let c0_i32_2 : BitVec 32 := 0#32
  let v13 : BitVec 1 := Scalar.cmpi .slt v9 c0_i32_2
  let v14 : BitVec 32 := Scalar.extui v13
  let v15 : BitVec 32 := Scalar.subi v12 v14
  let c4_i32 : BitVec 32 := 4#32
  let c0_i32_3 : BitVec 32 := 0#32
  let v16 : BitVec 1 := Scalar.cmpi .sgt c4_i32 c0_i32_3
  let v17 : BitVec 32 := Scalar.extui v16
  let c0_i32_4 : BitVec 32 := 0#32
  let v18 : BitVec 1 := Scalar.cmpi .slt c4_i32 c0_i32_4
  let v19 : BitVec 32 := Scalar.extui v18
  let v20 : BitVec 32 := Scalar.subi v17 v19
  let v21 : BitVec 1 := Scalar.cmpi .ne v15 v20
  let v22 : BitVec 32 := Scalar.remsi v9 c4_i32
  let c0_i32_5 : BitVec 32 := 0#32
  let v23 : BitVec 1 := Scalar.cmpi .ne v22 c0_i32_5
  let v24 : BitVec 1 := Scalar.andi v21 v23
  let v10 : BitVec 32 := Scalar.divsi v9 c4_i32
  let c1_i32_6 : BitVec 32 := 1#32
  let v25 : BitVec 32 := Scalar.subi v10 c1_i32_6
  let v26 : BitVec 32 := Scalar.select v24 v25 v10
  let v35 : BitVec 32 := Scalar.subi v26 c1_i32_13
  let c1_i32_14 : BitVec 32 := 1#32
  let v37 : BitVec 32 := Scalar.divsi v35 c1_i32_14
  let v38 : BitVec 32 := Scalar.muli v37 c1_i32_14
  let v39 : BitVec 32 := Scalar.addi c1_i32_13 v38
  let c1_i32_16 : BitVec 32 := 1#32
  let arg15 : BitVec 32 := Scf.iv v39 c1_i32_16 k0_t2
  let v134 : BitVec 32 := Scalar.muli c4_i32_64 arg15
  let v135 : BitVec 32 := Scalar.addi v2 v134
  let c4_i32_114 : BitVec 32 := 4#32
  let v208 : BitVec 32 := Scalar.addi v135 c4_i32_114
  let c0_i32_115 : BitVec 32 := 0#32
  let v209 : BitVec 32 := Scalar.addi v208 c0_i32_115
  let c8_i32_450 : BitVec 32 := 8#32
  let c0_i32_451 : BitVec 32 := 0#32
  let v792 : BitVec 1 := Scalar.cmpi .eq c8_i32_450 c0_i32_451
  let c1_i32_452 : BitVec 32 := 1#32
  let v793 : BitVec 32 := Scalar.select v792 c1_i32_452 c8_i32_450
  let v794 : BitVec 32 := Scalar.remsi v209 v793
  let c0_i32_454 : BitVec 32 := 0#32
  let v796 : BitVec 1 := Scalar.cmpi .slt v794 c0_i32_454
  let c0_i32_455 : BitVec 32 := 0#32
  let v797 : BitVec 1 := Scalar.cmpi .slt v793 c0_i32_455
  let v798 : BitVec 1 := Scalar.xori v796 v797
  let c0_i32_453 : BitVec 32 := 0#32
  let v795 : BitVec 1 := Scalar.cmpi .ne v794 c0_i32_453
  let v799 : BitVec 1 := Scalar.andi v798 v795
  let v800 : BitVec 32 := Scalar.addi v794 v793
  let v801 : BitVec 32 := Scalar.select v799 v800 v794
  ![v801.toNat]
def k0_off65 (v2 : BitVec 32) (v5 : BitVec 32) (k0_t2 : Fin (k0_t2_loop v2 v5).trips) : Fin 4 → Nat :=
  let c4_i32_64 : BitVec 32 := 4#32
  let c1_i32_13 : BitVec 32 := 1#32
  let v9 : BitVec 32 := Scalar.subi v5 v2
  let c0_i32_1 : BitVec 32 := 0#32
  let v11 : BitVec 1 := Scalar.cmpi .sgt v9 c0_i32_1
  let v12 : BitVec 32 := Scalar.extui v11
  let c0_i32_2 : BitVec 32 := 0#32
  let v13 : BitVec 1 := Scalar.cmpi .slt v9 c0_i32_2
  let v14 : BitVec 32 := Scalar.extui v13
  let v15 : BitVec 32 := Scalar.subi v12 v14
  let c4_i32 : BitVec 32 := 4#32
  let c0_i32_3 : BitVec 32 := 0#32
  let v16 : BitVec 1 := Scalar.cmpi .sgt c4_i32 c0_i32_3
  let v17 : BitVec 32 := Scalar.extui v16
  let c0_i32_4 : BitVec 32 := 0#32
  let v18 : BitVec 1 := Scalar.cmpi .slt c4_i32 c0_i32_4
  let v19 : BitVec 32 := Scalar.extui v18
  let v20 : BitVec 32 := Scalar.subi v17 v19
  let v21 : BitVec 1 := Scalar.cmpi .ne v15 v20
  let v22 : BitVec 32 := Scalar.remsi v9 c4_i32
  let c0_i32_5 : BitVec 32 := 0#32
  let v23 : BitVec 1 := Scalar.cmpi .ne v22 c0_i32_5
  let v24 : BitVec 1 := Scalar.andi v21 v23
  let v10 : BitVec 32 := Scalar.divsi v9 c4_i32
  let c1_i32_6 : BitVec 32 := 1#32
  let v25 : BitVec 32 := Scalar.subi v10 c1_i32_6
  let v26 : BitVec 32 := Scalar.select v24 v25 v10
  let v35 : BitVec 32 := Scalar.subi v26 c1_i32_13
  let c1_i32_14 : BitVec 32 := 1#32
  let v37 : BitVec 32 := Scalar.divsi v35 c1_i32_14
  let v38 : BitVec 32 := Scalar.muli v37 c1_i32_14
  let v39 : BitVec 32 := Scalar.addi c1_i32_13 v38
  let c1_i32_16 : BitVec 32 := 1#32
  let arg15 : BitVec 32 := Scf.iv v39 c1_i32_16 k0_t2
  let v134 : BitVec 32 := Scalar.muli c4_i32_64 arg15
  let v135 : BitVec 32 := Scalar.addi v2 v134
  let c4_i32_114 : BitVec 32 := 4#32
  let v208 : BitVec 32 := Scalar.addi v135 c4_i32_114
  let c0_i32_115 : BitVec 32 := 0#32
  let v209 : BitVec 32 := Scalar.addi v208 c0_i32_115
  let c8_i32_450 : BitVec 32 := 8#32
  let c0_i32_451 : BitVec 32 := 0#32
  let v792 : BitVec 1 := Scalar.cmpi .eq c8_i32_450 c0_i32_451
  let c1_i32_452 : BitVec 32 := 1#32
  let v793 : BitVec 32 := Scalar.select v792 c1_i32_452 c8_i32_450
  let v794 : BitVec 32 := Scalar.remsi v209 v793
  let c0_i32_454 : BitVec 32 := 0#32
  let v796 : BitVec 1 := Scalar.cmpi .slt v794 c0_i32_454
  let c0_i32_455 : BitVec 32 := 0#32
  let v797 : BitVec 1 := Scalar.cmpi .slt v793 c0_i32_455
  let v798 : BitVec 1 := Scalar.xori v796 v797
  let c0_i32_453 : BitVec 32 := 0#32
  let v795 : BitVec 1 := Scalar.cmpi .ne v794 c0_i32_453
  let v799 : BitVec 1 := Scalar.andi v798 v795
  let v800 : BitVec 32 := Scalar.addi v794 v793
  let v801 : BitVec 32 := Scalar.select v799 v800 v794
  let c0_i32_457 : BitVec 32 := 0#32
  let c0_i32_458 : BitVec 32 := 0#32
  let c0_i32_459 : BitVec 32 := 0#32
  ![v801.toNat, 0, 0, 0]
def k0_off66 (v2 : BitVec 32) (v5 : BitVec 32) (k0_t2 : Fin (k0_t2_loop v2 v5).trips) : Fin 3 → Nat :=
  let c0_i32_460 : BitVec 32 := 0#32
  let c4_i32_64 : BitVec 32 := 4#32
  let c1_i32_13 : BitVec 32 := 1#32
  let v9 : BitVec 32 := Scalar.subi v5 v2
  let c0_i32_1 : BitVec 32 := 0#32
  let v11 : BitVec 1 := Scalar.cmpi .sgt v9 c0_i32_1
  let v12 : BitVec 32 := Scalar.extui v11
  let c0_i32_2 : BitVec 32 := 0#32
  let v13 : BitVec 1 := Scalar.cmpi .slt v9 c0_i32_2
  let v14 : BitVec 32 := Scalar.extui v13
  let v15 : BitVec 32 := Scalar.subi v12 v14
  let c4_i32 : BitVec 32 := 4#32
  let c0_i32_3 : BitVec 32 := 0#32
  let v16 : BitVec 1 := Scalar.cmpi .sgt c4_i32 c0_i32_3
  let v17 : BitVec 32 := Scalar.extui v16
  let c0_i32_4 : BitVec 32 := 0#32
  let v18 : BitVec 1 := Scalar.cmpi .slt c4_i32 c0_i32_4
  let v19 : BitVec 32 := Scalar.extui v18
  let v20 : BitVec 32 := Scalar.subi v17 v19
  let v21 : BitVec 1 := Scalar.cmpi .ne v15 v20
  let v22 : BitVec 32 := Scalar.remsi v9 c4_i32
  let c0_i32_5 : BitVec 32 := 0#32
  let v23 : BitVec 1 := Scalar.cmpi .ne v22 c0_i32_5
  let v24 : BitVec 1 := Scalar.andi v21 v23
  let v10 : BitVec 32 := Scalar.divsi v9 c4_i32
  let c1_i32_6 : BitVec 32 := 1#32
  let v25 : BitVec 32 := Scalar.subi v10 c1_i32_6
  let v26 : BitVec 32 := Scalar.select v24 v25 v10
  let v35 : BitVec 32 := Scalar.subi v26 c1_i32_13
  let c1_i32_14 : BitVec 32 := 1#32
  let v37 : BitVec 32 := Scalar.divsi v35 c1_i32_14
  let v38 : BitVec 32 := Scalar.muli v37 c1_i32_14
  let v39 : BitVec 32 := Scalar.addi c1_i32_13 v38
  let c1_i32_16 : BitVec 32 := 1#32
  let arg15 : BitVec 32 := Scf.iv v39 c1_i32_16 k0_t2
  let v134 : BitVec 32 := Scalar.muli c4_i32_64 arg15
  let v135 : BitVec 32 := Scalar.addi v2 v134
  let c4_i32_114 : BitVec 32 := 4#32
  let v208 : BitVec 32 := Scalar.addi v135 c4_i32_114
  let c0_i32_115 : BitVec 32 := 0#32
  let v209 : BitVec 32 := Scalar.addi v208 c0_i32_115
  let c256_i32_456 : BitVec 32 := 256#32
  let v802 : BitVec 32 := Scalar.muli v209 c256_i32_456
  let v803 : BitVec 32 := v802
  let c0_i32_461 : BitVec 32 := 0#32
  ![0, v803.toNat, 0]
def k0_mult42 (v2 : BitVec 32) (v5 : BitVec 32) (k0_t2 : Fin (k0_t2_loop v2 v5).trips) : BitVec 32 :=
  let c4_i32_64 : BitVec 32 := 4#32
  let c1_i32_13 : BitVec 32 := 1#32
  let v9 : BitVec 32 := Scalar.subi v5 v2
  let c0_i32_1 : BitVec 32 := 0#32
  let v11 : BitVec 1 := Scalar.cmpi .sgt v9 c0_i32_1
  let v12 : BitVec 32 := Scalar.extui v11
  let c0_i32_2 : BitVec 32 := 0#32
  let v13 : BitVec 1 := Scalar.cmpi .slt v9 c0_i32_2
  let v14 : BitVec 32 := Scalar.extui v13
  let v15 : BitVec 32 := Scalar.subi v12 v14
  let c4_i32 : BitVec 32 := 4#32
  let c0_i32_3 : BitVec 32 := 0#32
  let v16 : BitVec 1 := Scalar.cmpi .sgt c4_i32 c0_i32_3
  let v17 : BitVec 32 := Scalar.extui v16
  let c0_i32_4 : BitVec 32 := 0#32
  let v18 : BitVec 1 := Scalar.cmpi .slt c4_i32 c0_i32_4
  let v19 : BitVec 32 := Scalar.extui v18
  let v20 : BitVec 32 := Scalar.subi v17 v19
  let v21 : BitVec 1 := Scalar.cmpi .ne v15 v20
  let v22 : BitVec 32 := Scalar.remsi v9 c4_i32
  let c0_i32_5 : BitVec 32 := 0#32
  let v23 : BitVec 1 := Scalar.cmpi .ne v22 c0_i32_5
  let v24 : BitVec 1 := Scalar.andi v21 v23
  let v10 : BitVec 32 := Scalar.divsi v9 c4_i32
  let c1_i32_6 : BitVec 32 := 1#32
  let v25 : BitVec 32 := Scalar.subi v10 c1_i32_6
  let v26 : BitVec 32 := Scalar.select v24 v25 v10
  let v35 : BitVec 32 := Scalar.subi v26 c1_i32_13
  let c1_i32_14 : BitVec 32 := 1#32
  let v37 : BitVec 32 := Scalar.divsi v35 c1_i32_14
  let v38 : BitVec 32 := Scalar.muli v37 c1_i32_14
  let v39 : BitVec 32 := Scalar.addi c1_i32_13 v38
  let c1_i32_16 : BitVec 32 := 1#32
  let arg15 : BitVec 32 := Scf.iv v39 c1_i32_16 k0_t2
  let v134 : BitVec 32 := Scalar.muli c4_i32_64 arg15
  let v135 : BitVec 32 := Scalar.addi v2 v134
  let c4_i32_117 : BitVec 32 := 4#32
  let v213 : BitVec 32 := Scalar.addi v135 c4_i32_117
  let c1_i32_118 : BitVec 32 := 1#32
  let v214 : BitVec 32 := Scalar.addi v213 c1_i32_118
  let c256_i32_456 : BitVec 32 := 256#32
  let v802 : BitVec 32 := Scalar.muli v214 c256_i32_456
  v802
def k0_cond25 (v0 : BitVec 32) (v2 : BitVec 32) (v5 : BitVec 32) (k0_t2 : Fin (k0_t2_loop v2 v5).trips) : BitVec 1 :=
  let c4_i32_64 : BitVec 32 := 4#32
  let c1_i32_13 : BitVec 32 := 1#32
  let v9 : BitVec 32 := Scalar.subi v5 v2
  let c0_i32_1 : BitVec 32 := 0#32
  let v11 : BitVec 1 := Scalar.cmpi .sgt v9 c0_i32_1
  let v12 : BitVec 32 := Scalar.extui v11
  let c0_i32_2 : BitVec 32 := 0#32
  let v13 : BitVec 1 := Scalar.cmpi .slt v9 c0_i32_2
  let v14 : BitVec 32 := Scalar.extui v13
  let v15 : BitVec 32 := Scalar.subi v12 v14
  let c4_i32 : BitVec 32 := 4#32
  let c0_i32_3 : BitVec 32 := 0#32
  let v16 : BitVec 1 := Scalar.cmpi .sgt c4_i32 c0_i32_3
  let v17 : BitVec 32 := Scalar.extui v16
  let c0_i32_4 : BitVec 32 := 0#32
  let v18 : BitVec 1 := Scalar.cmpi .slt c4_i32 c0_i32_4
  let v19 : BitVec 32 := Scalar.extui v18
  let v20 : BitVec 32 := Scalar.subi v17 v19
  let v21 : BitVec 1 := Scalar.cmpi .ne v15 v20
  let v22 : BitVec 32 := Scalar.remsi v9 c4_i32
  let c0_i32_5 : BitVec 32 := 0#32
  let v23 : BitVec 1 := Scalar.cmpi .ne v22 c0_i32_5
  let v24 : BitVec 1 := Scalar.andi v21 v23
  let v10 : BitVec 32 := Scalar.divsi v9 c4_i32
  let c1_i32_6 : BitVec 32 := 1#32
  let v25 : BitVec 32 := Scalar.subi v10 c1_i32_6
  let v26 : BitVec 32 := Scalar.select v24 v25 v10
  let v35 : BitVec 32 := Scalar.subi v26 c1_i32_13
  let c1_i32_14 : BitVec 32 := 1#32
  let v37 : BitVec 32 := Scalar.divsi v35 c1_i32_14
  let v38 : BitVec 32 := Scalar.muli v37 c1_i32_14
  let v39 : BitVec 32 := Scalar.addi c1_i32_13 v38
  let c1_i32_16 : BitVec 32 := 1#32
  let arg15 : BitVec 32 := Scf.iv v39 c1_i32_16 k0_t2
  let v134 : BitVec 32 := Scalar.muli c4_i32_64 arg15
  let v135 : BitVec 32 := Scalar.addi v2 v134
  let c4_i32_117 : BitVec 32 := 4#32
  let v213 : BitVec 32 := Scalar.addi v135 c4_i32_117
  let c1_i32_118 : BitVec 32 := 1#32
  let v214 : BitVec 32 := Scalar.addi v213 c1_i32_118
  let v215 : BitVec 1 := Scalar.cmpi .slt v214 v0
  let v216 : BitVec 32 := Scalar.extui v215
  let c0_i32_119 : BitVec 32 := 0#32
  let v217 : BitVec 1 := Scalar.cmpi .ne v216 c0_i32_119
  v217

def k0_off67 (v2 : BitVec 32) (v5 : BitVec 32) (k0_t2 : Fin (k0_t2_loop v2 v5).trips) : Fin 1 → Nat :=
  let c4_i32_64 : BitVec 32 := 4#32
  let c1_i32_13 : BitVec 32 := 1#32
  let v9 : BitVec 32 := Scalar.subi v5 v2
  let c0_i32_1 : BitVec 32 := 0#32
  let v11 : BitVec 1 := Scalar.cmpi .sgt v9 c0_i32_1
  let v12 : BitVec 32 := Scalar.extui v11
  let c0_i32_2 : BitVec 32 := 0#32
  let v13 : BitVec 1 := Scalar.cmpi .slt v9 c0_i32_2
  let v14 : BitVec 32 := Scalar.extui v13
  let v15 : BitVec 32 := Scalar.subi v12 v14
  let c4_i32 : BitVec 32 := 4#32
  let c0_i32_3 : BitVec 32 := 0#32
  let v16 : BitVec 1 := Scalar.cmpi .sgt c4_i32 c0_i32_3
  let v17 : BitVec 32 := Scalar.extui v16
  let c0_i32_4 : BitVec 32 := 0#32
  let v18 : BitVec 1 := Scalar.cmpi .slt c4_i32 c0_i32_4
  let v19 : BitVec 32 := Scalar.extui v18
  let v20 : BitVec 32 := Scalar.subi v17 v19
  let v21 : BitVec 1 := Scalar.cmpi .ne v15 v20
  let v22 : BitVec 32 := Scalar.remsi v9 c4_i32
  let c0_i32_5 : BitVec 32 := 0#32
  let v23 : BitVec 1 := Scalar.cmpi .ne v22 c0_i32_5
  let v24 : BitVec 1 := Scalar.andi v21 v23
  let v10 : BitVec 32 := Scalar.divsi v9 c4_i32
  let c1_i32_6 : BitVec 32 := 1#32
  let v25 : BitVec 32 := Scalar.subi v10 c1_i32_6
  let v26 : BitVec 32 := Scalar.select v24 v25 v10
  let v35 : BitVec 32 := Scalar.subi v26 c1_i32_13
  let c1_i32_14 : BitVec 32 := 1#32
  let v37 : BitVec 32 := Scalar.divsi v35 c1_i32_14
  let v38 : BitVec 32 := Scalar.muli v37 c1_i32_14
  let v39 : BitVec 32 := Scalar.addi c1_i32_13 v38
  let c1_i32_16 : BitVec 32 := 1#32
  let arg15 : BitVec 32 := Scf.iv v39 c1_i32_16 k0_t2
  let v134 : BitVec 32 := Scalar.muli c4_i32_64 arg15
  let v135 : BitVec 32 := Scalar.addi v2 v134
  let c4_i32_117 : BitVec 32 := 4#32
  let v213 : BitVec 32 := Scalar.addi v135 c4_i32_117
  let c1_i32_118 : BitVec 32 := 1#32
  let v214 : BitVec 32 := Scalar.addi v213 c1_i32_118
  let c8_i32_450 : BitVec 32 := 8#32
  let c0_i32_451 : BitVec 32 := 0#32
  let v792 : BitVec 1 := Scalar.cmpi .eq c8_i32_450 c0_i32_451
  let c1_i32_452 : BitVec 32 := 1#32
  let v793 : BitVec 32 := Scalar.select v792 c1_i32_452 c8_i32_450
  let v794 : BitVec 32 := Scalar.remsi v214 v793
  let c0_i32_454 : BitVec 32 := 0#32
  let v796 : BitVec 1 := Scalar.cmpi .slt v794 c0_i32_454
  let c0_i32_455 : BitVec 32 := 0#32
  let v797 : BitVec 1 := Scalar.cmpi .slt v793 c0_i32_455
  let v798 : BitVec 1 := Scalar.xori v796 v797
  let c0_i32_453 : BitVec 32 := 0#32
  let v795 : BitVec 1 := Scalar.cmpi .ne v794 c0_i32_453
  let v799 : BitVec 1 := Scalar.andi v798 v795
  let v800 : BitVec 32 := Scalar.addi v794 v793
  let v801 : BitVec 32 := Scalar.select v799 v800 v794
  ![v801.toNat]
def k0_off68 (v2 : BitVec 32) (v5 : BitVec 32) (k0_t2 : Fin (k0_t2_loop v2 v5).trips) : Fin 4 → Nat :=
  let c4_i32_64 : BitVec 32 := 4#32
  let c1_i32_13 : BitVec 32 := 1#32
  let v9 : BitVec 32 := Scalar.subi v5 v2
  let c0_i32_1 : BitVec 32 := 0#32
  let v11 : BitVec 1 := Scalar.cmpi .sgt v9 c0_i32_1
  let v12 : BitVec 32 := Scalar.extui v11
  let c0_i32_2 : BitVec 32 := 0#32
  let v13 : BitVec 1 := Scalar.cmpi .slt v9 c0_i32_2
  let v14 : BitVec 32 := Scalar.extui v13
  let v15 : BitVec 32 := Scalar.subi v12 v14
  let c4_i32 : BitVec 32 := 4#32
  let c0_i32_3 : BitVec 32 := 0#32
  let v16 : BitVec 1 := Scalar.cmpi .sgt c4_i32 c0_i32_3
  let v17 : BitVec 32 := Scalar.extui v16
  let c0_i32_4 : BitVec 32 := 0#32
  let v18 : BitVec 1 := Scalar.cmpi .slt c4_i32 c0_i32_4
  let v19 : BitVec 32 := Scalar.extui v18
  let v20 : BitVec 32 := Scalar.subi v17 v19
  let v21 : BitVec 1 := Scalar.cmpi .ne v15 v20
  let v22 : BitVec 32 := Scalar.remsi v9 c4_i32
  let c0_i32_5 : BitVec 32 := 0#32
  let v23 : BitVec 1 := Scalar.cmpi .ne v22 c0_i32_5
  let v24 : BitVec 1 := Scalar.andi v21 v23
  let v10 : BitVec 32 := Scalar.divsi v9 c4_i32
  let c1_i32_6 : BitVec 32 := 1#32
  let v25 : BitVec 32 := Scalar.subi v10 c1_i32_6
  let v26 : BitVec 32 := Scalar.select v24 v25 v10
  let v35 : BitVec 32 := Scalar.subi v26 c1_i32_13
  let c1_i32_14 : BitVec 32 := 1#32
  let v37 : BitVec 32 := Scalar.divsi v35 c1_i32_14
  let v38 : BitVec 32 := Scalar.muli v37 c1_i32_14
  let v39 : BitVec 32 := Scalar.addi c1_i32_13 v38
  let c1_i32_16 : BitVec 32 := 1#32
  let arg15 : BitVec 32 := Scf.iv v39 c1_i32_16 k0_t2
  let v134 : BitVec 32 := Scalar.muli c4_i32_64 arg15
  let v135 : BitVec 32 := Scalar.addi v2 v134
  let c4_i32_117 : BitVec 32 := 4#32
  let v213 : BitVec 32 := Scalar.addi v135 c4_i32_117
  let c1_i32_118 : BitVec 32 := 1#32
  let v214 : BitVec 32 := Scalar.addi v213 c1_i32_118
  let c8_i32_450 : BitVec 32 := 8#32
  let c0_i32_451 : BitVec 32 := 0#32
  let v792 : BitVec 1 := Scalar.cmpi .eq c8_i32_450 c0_i32_451
  let c1_i32_452 : BitVec 32 := 1#32
  let v793 : BitVec 32 := Scalar.select v792 c1_i32_452 c8_i32_450
  let v794 : BitVec 32 := Scalar.remsi v214 v793
  let c0_i32_454 : BitVec 32 := 0#32
  let v796 : BitVec 1 := Scalar.cmpi .slt v794 c0_i32_454
  let c0_i32_455 : BitVec 32 := 0#32
  let v797 : BitVec 1 := Scalar.cmpi .slt v793 c0_i32_455
  let v798 : BitVec 1 := Scalar.xori v796 v797
  let c0_i32_453 : BitVec 32 := 0#32
  let v795 : BitVec 1 := Scalar.cmpi .ne v794 c0_i32_453
  let v799 : BitVec 1 := Scalar.andi v798 v795
  let v800 : BitVec 32 := Scalar.addi v794 v793
  let v801 : BitVec 32 := Scalar.select v799 v800 v794
  let c0_i32_457 : BitVec 32 := 0#32
  let c0_i32_458 : BitVec 32 := 0#32
  let c0_i32_459 : BitVec 32 := 0#32
  ![v801.toNat, 0, 0, 0]
def k0_off69 (v2 : BitVec 32) (v5 : BitVec 32) (k0_t2 : Fin (k0_t2_loop v2 v5).trips) : Fin 3 → Nat :=
  let c0_i32_460 : BitVec 32 := 0#32
  let c4_i32_64 : BitVec 32 := 4#32
  let c1_i32_13 : BitVec 32 := 1#32
  let v9 : BitVec 32 := Scalar.subi v5 v2
  let c0_i32_1 : BitVec 32 := 0#32
  let v11 : BitVec 1 := Scalar.cmpi .sgt v9 c0_i32_1
  let v12 : BitVec 32 := Scalar.extui v11
  let c0_i32_2 : BitVec 32 := 0#32
  let v13 : BitVec 1 := Scalar.cmpi .slt v9 c0_i32_2
  let v14 : BitVec 32 := Scalar.extui v13
  let v15 : BitVec 32 := Scalar.subi v12 v14
  let c4_i32 : BitVec 32 := 4#32
  let c0_i32_3 : BitVec 32 := 0#32
  let v16 : BitVec 1 := Scalar.cmpi .sgt c4_i32 c0_i32_3
  let v17 : BitVec 32 := Scalar.extui v16
  let c0_i32_4 : BitVec 32 := 0#32
  let v18 : BitVec 1 := Scalar.cmpi .slt c4_i32 c0_i32_4
  let v19 : BitVec 32 := Scalar.extui v18
  let v20 : BitVec 32 := Scalar.subi v17 v19
  let v21 : BitVec 1 := Scalar.cmpi .ne v15 v20
  let v22 : BitVec 32 := Scalar.remsi v9 c4_i32
  let c0_i32_5 : BitVec 32 := 0#32
  let v23 : BitVec 1 := Scalar.cmpi .ne v22 c0_i32_5
  let v24 : BitVec 1 := Scalar.andi v21 v23
  let v10 : BitVec 32 := Scalar.divsi v9 c4_i32
  let c1_i32_6 : BitVec 32 := 1#32
  let v25 : BitVec 32 := Scalar.subi v10 c1_i32_6
  let v26 : BitVec 32 := Scalar.select v24 v25 v10
  let v35 : BitVec 32 := Scalar.subi v26 c1_i32_13
  let c1_i32_14 : BitVec 32 := 1#32
  let v37 : BitVec 32 := Scalar.divsi v35 c1_i32_14
  let v38 : BitVec 32 := Scalar.muli v37 c1_i32_14
  let v39 : BitVec 32 := Scalar.addi c1_i32_13 v38
  let c1_i32_16 : BitVec 32 := 1#32
  let arg15 : BitVec 32 := Scf.iv v39 c1_i32_16 k0_t2
  let v134 : BitVec 32 := Scalar.muli c4_i32_64 arg15
  let v135 : BitVec 32 := Scalar.addi v2 v134
  let c4_i32_117 : BitVec 32 := 4#32
  let v213 : BitVec 32 := Scalar.addi v135 c4_i32_117
  let c1_i32_118 : BitVec 32 := 1#32
  let v214 : BitVec 32 := Scalar.addi v213 c1_i32_118
  let c256_i32_456 : BitVec 32 := 256#32
  let v802 : BitVec 32 := Scalar.muli v214 c256_i32_456
  let v803 : BitVec 32 := v802
  let c0_i32_461 : BitVec 32 := 0#32
  ![0, v803.toNat, 0]
def k0_mult43 (v2 : BitVec 32) (v5 : BitVec 32) (k0_t2 : Fin (k0_t2_loop v2 v5).trips) : BitVec 32 :=
  let c4_i32_64 : BitVec 32 := 4#32
  let c1_i32_13 : BitVec 32 := 1#32
  let v9 : BitVec 32 := Scalar.subi v5 v2
  let c0_i32_1 : BitVec 32 := 0#32
  let v11 : BitVec 1 := Scalar.cmpi .sgt v9 c0_i32_1
  let v12 : BitVec 32 := Scalar.extui v11
  let c0_i32_2 : BitVec 32 := 0#32
  let v13 : BitVec 1 := Scalar.cmpi .slt v9 c0_i32_2
  let v14 : BitVec 32 := Scalar.extui v13
  let v15 : BitVec 32 := Scalar.subi v12 v14
  let c4_i32 : BitVec 32 := 4#32
  let c0_i32_3 : BitVec 32 := 0#32
  let v16 : BitVec 1 := Scalar.cmpi .sgt c4_i32 c0_i32_3
  let v17 : BitVec 32 := Scalar.extui v16
  let c0_i32_4 : BitVec 32 := 0#32
  let v18 : BitVec 1 := Scalar.cmpi .slt c4_i32 c0_i32_4
  let v19 : BitVec 32 := Scalar.extui v18
  let v20 : BitVec 32 := Scalar.subi v17 v19
  let v21 : BitVec 1 := Scalar.cmpi .ne v15 v20
  let v22 : BitVec 32 := Scalar.remsi v9 c4_i32
  let c0_i32_5 : BitVec 32 := 0#32
  let v23 : BitVec 1 := Scalar.cmpi .ne v22 c0_i32_5
  let v24 : BitVec 1 := Scalar.andi v21 v23
  let v10 : BitVec 32 := Scalar.divsi v9 c4_i32
  let c1_i32_6 : BitVec 32 := 1#32
  let v25 : BitVec 32 := Scalar.subi v10 c1_i32_6
  let v26 : BitVec 32 := Scalar.select v24 v25 v10
  let v35 : BitVec 32 := Scalar.subi v26 c1_i32_13
  let c1_i32_14 : BitVec 32 := 1#32
  let v37 : BitVec 32 := Scalar.divsi v35 c1_i32_14
  let v38 : BitVec 32 := Scalar.muli v37 c1_i32_14
  let v39 : BitVec 32 := Scalar.addi c1_i32_13 v38
  let c1_i32_16 : BitVec 32 := 1#32
  let arg15 : BitVec 32 := Scf.iv v39 c1_i32_16 k0_t2
  let v134 : BitVec 32 := Scalar.muli c4_i32_64 arg15
  let v135 : BitVec 32 := Scalar.addi v2 v134
  let c4_i32_120 : BitVec 32 := 4#32
  let v218 : BitVec 32 := Scalar.addi v135 c4_i32_120
  let c2_i32_121 : BitVec 32 := 2#32
  let v219 : BitVec 32 := Scalar.addi v218 c2_i32_121
  let c256_i32_456 : BitVec 32 := 256#32
  let v802 : BitVec 32 := Scalar.muli v219 c256_i32_456
  v802
def k0_cond26 (v0 : BitVec 32) (v2 : BitVec 32) (v5 : BitVec 32) (k0_t2 : Fin (k0_t2_loop v2 v5).trips) : BitVec 1 :=
  let c4_i32_64 : BitVec 32 := 4#32
  let c1_i32_13 : BitVec 32 := 1#32
  let v9 : BitVec 32 := Scalar.subi v5 v2
  let c0_i32_1 : BitVec 32 := 0#32
  let v11 : BitVec 1 := Scalar.cmpi .sgt v9 c0_i32_1
  let v12 : BitVec 32 := Scalar.extui v11
  let c0_i32_2 : BitVec 32 := 0#32
  let v13 : BitVec 1 := Scalar.cmpi .slt v9 c0_i32_2
  let v14 : BitVec 32 := Scalar.extui v13
  let v15 : BitVec 32 := Scalar.subi v12 v14
  let c4_i32 : BitVec 32 := 4#32
  let c0_i32_3 : BitVec 32 := 0#32
  let v16 : BitVec 1 := Scalar.cmpi .sgt c4_i32 c0_i32_3
  let v17 : BitVec 32 := Scalar.extui v16
  let c0_i32_4 : BitVec 32 := 0#32
  let v18 : BitVec 1 := Scalar.cmpi .slt c4_i32 c0_i32_4
  let v19 : BitVec 32 := Scalar.extui v18
  let v20 : BitVec 32 := Scalar.subi v17 v19
  let v21 : BitVec 1 := Scalar.cmpi .ne v15 v20
  let v22 : BitVec 32 := Scalar.remsi v9 c4_i32
  let c0_i32_5 : BitVec 32 := 0#32
  let v23 : BitVec 1 := Scalar.cmpi .ne v22 c0_i32_5
  let v24 : BitVec 1 := Scalar.andi v21 v23
  let v10 : BitVec 32 := Scalar.divsi v9 c4_i32
  let c1_i32_6 : BitVec 32 := 1#32
  let v25 : BitVec 32 := Scalar.subi v10 c1_i32_6
  let v26 : BitVec 32 := Scalar.select v24 v25 v10
  let v35 : BitVec 32 := Scalar.subi v26 c1_i32_13
  let c1_i32_14 : BitVec 32 := 1#32
  let v37 : BitVec 32 := Scalar.divsi v35 c1_i32_14
  let v38 : BitVec 32 := Scalar.muli v37 c1_i32_14
  let v39 : BitVec 32 := Scalar.addi c1_i32_13 v38
  let c1_i32_16 : BitVec 32 := 1#32
  let arg15 : BitVec 32 := Scf.iv v39 c1_i32_16 k0_t2
  let v134 : BitVec 32 := Scalar.muli c4_i32_64 arg15
  let v135 : BitVec 32 := Scalar.addi v2 v134
  let c4_i32_120 : BitVec 32 := 4#32
  let v218 : BitVec 32 := Scalar.addi v135 c4_i32_120
  let c2_i32_121 : BitVec 32 := 2#32
  let v219 : BitVec 32 := Scalar.addi v218 c2_i32_121
  let v220 : BitVec 1 := Scalar.cmpi .slt v219 v0
  let v221 : BitVec 32 := Scalar.extui v220
  let c0_i32_122 : BitVec 32 := 0#32
  let v222 : BitVec 1 := Scalar.cmpi .ne v221 c0_i32_122
  v222

def k0_off70 (v2 : BitVec 32) (v5 : BitVec 32) (k0_t2 : Fin (k0_t2_loop v2 v5).trips) : Fin 1 → Nat :=
  let c4_i32_64 : BitVec 32 := 4#32
  let c1_i32_13 : BitVec 32 := 1#32
  let v9 : BitVec 32 := Scalar.subi v5 v2
  let c0_i32_1 : BitVec 32 := 0#32
  let v11 : BitVec 1 := Scalar.cmpi .sgt v9 c0_i32_1
  let v12 : BitVec 32 := Scalar.extui v11
  let c0_i32_2 : BitVec 32 := 0#32
  let v13 : BitVec 1 := Scalar.cmpi .slt v9 c0_i32_2
  let v14 : BitVec 32 := Scalar.extui v13
  let v15 : BitVec 32 := Scalar.subi v12 v14
  let c4_i32 : BitVec 32 := 4#32
  let c0_i32_3 : BitVec 32 := 0#32
  let v16 : BitVec 1 := Scalar.cmpi .sgt c4_i32 c0_i32_3
  let v17 : BitVec 32 := Scalar.extui v16
  let c0_i32_4 : BitVec 32 := 0#32
  let v18 : BitVec 1 := Scalar.cmpi .slt c4_i32 c0_i32_4
  let v19 : BitVec 32 := Scalar.extui v18
  let v20 : BitVec 32 := Scalar.subi v17 v19
  let v21 : BitVec 1 := Scalar.cmpi .ne v15 v20
  let v22 : BitVec 32 := Scalar.remsi v9 c4_i32
  let c0_i32_5 : BitVec 32 := 0#32
  let v23 : BitVec 1 := Scalar.cmpi .ne v22 c0_i32_5
  let v24 : BitVec 1 := Scalar.andi v21 v23
  let v10 : BitVec 32 := Scalar.divsi v9 c4_i32
  let c1_i32_6 : BitVec 32 := 1#32
  let v25 : BitVec 32 := Scalar.subi v10 c1_i32_6
  let v26 : BitVec 32 := Scalar.select v24 v25 v10
  let v35 : BitVec 32 := Scalar.subi v26 c1_i32_13
  let c1_i32_14 : BitVec 32 := 1#32
  let v37 : BitVec 32 := Scalar.divsi v35 c1_i32_14
  let v38 : BitVec 32 := Scalar.muli v37 c1_i32_14
  let v39 : BitVec 32 := Scalar.addi c1_i32_13 v38
  let c1_i32_16 : BitVec 32 := 1#32
  let arg15 : BitVec 32 := Scf.iv v39 c1_i32_16 k0_t2
  let v134 : BitVec 32 := Scalar.muli c4_i32_64 arg15
  let v135 : BitVec 32 := Scalar.addi v2 v134
  let c4_i32_120 : BitVec 32 := 4#32
  let v218 : BitVec 32 := Scalar.addi v135 c4_i32_120
  let c2_i32_121 : BitVec 32 := 2#32
  let v219 : BitVec 32 := Scalar.addi v218 c2_i32_121
  let c8_i32_450 : BitVec 32 := 8#32
  let c0_i32_451 : BitVec 32 := 0#32
  let v792 : BitVec 1 := Scalar.cmpi .eq c8_i32_450 c0_i32_451
  let c1_i32_452 : BitVec 32 := 1#32
  let v793 : BitVec 32 := Scalar.select v792 c1_i32_452 c8_i32_450
  let v794 : BitVec 32 := Scalar.remsi v219 v793
  let c0_i32_454 : BitVec 32 := 0#32
  let v796 : BitVec 1 := Scalar.cmpi .slt v794 c0_i32_454
  let c0_i32_455 : BitVec 32 := 0#32
  let v797 : BitVec 1 := Scalar.cmpi .slt v793 c0_i32_455
  let v798 : BitVec 1 := Scalar.xori v796 v797
  let c0_i32_453 : BitVec 32 := 0#32
  let v795 : BitVec 1 := Scalar.cmpi .ne v794 c0_i32_453
  let v799 : BitVec 1 := Scalar.andi v798 v795
  let v800 : BitVec 32 := Scalar.addi v794 v793
  let v801 : BitVec 32 := Scalar.select v799 v800 v794
  ![v801.toNat]
def k0_off71 (v2 : BitVec 32) (v5 : BitVec 32) (k0_t2 : Fin (k0_t2_loop v2 v5).trips) : Fin 4 → Nat :=
  let c4_i32_64 : BitVec 32 := 4#32
  let c1_i32_13 : BitVec 32 := 1#32
  let v9 : BitVec 32 := Scalar.subi v5 v2
  let c0_i32_1 : BitVec 32 := 0#32
  let v11 : BitVec 1 := Scalar.cmpi .sgt v9 c0_i32_1
  let v12 : BitVec 32 := Scalar.extui v11
  let c0_i32_2 : BitVec 32 := 0#32
  let v13 : BitVec 1 := Scalar.cmpi .slt v9 c0_i32_2
  let v14 : BitVec 32 := Scalar.extui v13
  let v15 : BitVec 32 := Scalar.subi v12 v14
  let c4_i32 : BitVec 32 := 4#32
  let c0_i32_3 : BitVec 32 := 0#32
  let v16 : BitVec 1 := Scalar.cmpi .sgt c4_i32 c0_i32_3
  let v17 : BitVec 32 := Scalar.extui v16
  let c0_i32_4 : BitVec 32 := 0#32
  let v18 : BitVec 1 := Scalar.cmpi .slt c4_i32 c0_i32_4
  let v19 : BitVec 32 := Scalar.extui v18
  let v20 : BitVec 32 := Scalar.subi v17 v19
  let v21 : BitVec 1 := Scalar.cmpi .ne v15 v20
  let v22 : BitVec 32 := Scalar.remsi v9 c4_i32
  let c0_i32_5 : BitVec 32 := 0#32
  let v23 : BitVec 1 := Scalar.cmpi .ne v22 c0_i32_5
  let v24 : BitVec 1 := Scalar.andi v21 v23
  let v10 : BitVec 32 := Scalar.divsi v9 c4_i32
  let c1_i32_6 : BitVec 32 := 1#32
  let v25 : BitVec 32 := Scalar.subi v10 c1_i32_6
  let v26 : BitVec 32 := Scalar.select v24 v25 v10
  let v35 : BitVec 32 := Scalar.subi v26 c1_i32_13
  let c1_i32_14 : BitVec 32 := 1#32
  let v37 : BitVec 32 := Scalar.divsi v35 c1_i32_14
  let v38 : BitVec 32 := Scalar.muli v37 c1_i32_14
  let v39 : BitVec 32 := Scalar.addi c1_i32_13 v38
  let c1_i32_16 : BitVec 32 := 1#32
  let arg15 : BitVec 32 := Scf.iv v39 c1_i32_16 k0_t2
  let v134 : BitVec 32 := Scalar.muli c4_i32_64 arg15
  let v135 : BitVec 32 := Scalar.addi v2 v134
  let c4_i32_120 : BitVec 32 := 4#32
  let v218 : BitVec 32 := Scalar.addi v135 c4_i32_120
  let c2_i32_121 : BitVec 32 := 2#32
  let v219 : BitVec 32 := Scalar.addi v218 c2_i32_121
  let c8_i32_450 : BitVec 32 := 8#32
  let c0_i32_451 : BitVec 32 := 0#32
  let v792 : BitVec 1 := Scalar.cmpi .eq c8_i32_450 c0_i32_451
  let c1_i32_452 : BitVec 32 := 1#32
  let v793 : BitVec 32 := Scalar.select v792 c1_i32_452 c8_i32_450
  let v794 : BitVec 32 := Scalar.remsi v219 v793
  let c0_i32_454 : BitVec 32 := 0#32
  let v796 : BitVec 1 := Scalar.cmpi .slt v794 c0_i32_454
  let c0_i32_455 : BitVec 32 := 0#32
  let v797 : BitVec 1 := Scalar.cmpi .slt v793 c0_i32_455
  let v798 : BitVec 1 := Scalar.xori v796 v797
  let c0_i32_453 : BitVec 32 := 0#32
  let v795 : BitVec 1 := Scalar.cmpi .ne v794 c0_i32_453
  let v799 : BitVec 1 := Scalar.andi v798 v795
  let v800 : BitVec 32 := Scalar.addi v794 v793
  let v801 : BitVec 32 := Scalar.select v799 v800 v794
  let c0_i32_457 : BitVec 32 := 0#32
  let c0_i32_458 : BitVec 32 := 0#32
  let c0_i32_459 : BitVec 32 := 0#32
  ![v801.toNat, 0, 0, 0]
def k0_off72 (v2 : BitVec 32) (v5 : BitVec 32) (k0_t2 : Fin (k0_t2_loop v2 v5).trips) : Fin 3 → Nat :=
  let c0_i32_460 : BitVec 32 := 0#32
  let c4_i32_64 : BitVec 32 := 4#32
  let c1_i32_13 : BitVec 32 := 1#32
  let v9 : BitVec 32 := Scalar.subi v5 v2
  let c0_i32_1 : BitVec 32 := 0#32
  let v11 : BitVec 1 := Scalar.cmpi .sgt v9 c0_i32_1
  let v12 : BitVec 32 := Scalar.extui v11
  let c0_i32_2 : BitVec 32 := 0#32
  let v13 : BitVec 1 := Scalar.cmpi .slt v9 c0_i32_2
  let v14 : BitVec 32 := Scalar.extui v13
  let v15 : BitVec 32 := Scalar.subi v12 v14
  let c4_i32 : BitVec 32 := 4#32
  let c0_i32_3 : BitVec 32 := 0#32
  let v16 : BitVec 1 := Scalar.cmpi .sgt c4_i32 c0_i32_3
  let v17 : BitVec 32 := Scalar.extui v16
  let c0_i32_4 : BitVec 32 := 0#32
  let v18 : BitVec 1 := Scalar.cmpi .slt c4_i32 c0_i32_4
  let v19 : BitVec 32 := Scalar.extui v18
  let v20 : BitVec 32 := Scalar.subi v17 v19
  let v21 : BitVec 1 := Scalar.cmpi .ne v15 v20
  let v22 : BitVec 32 := Scalar.remsi v9 c4_i32
  let c0_i32_5 : BitVec 32 := 0#32
  let v23 : BitVec 1 := Scalar.cmpi .ne v22 c0_i32_5
  let v24 : BitVec 1 := Scalar.andi v21 v23
  let v10 : BitVec 32 := Scalar.divsi v9 c4_i32
  let c1_i32_6 : BitVec 32 := 1#32
  let v25 : BitVec 32 := Scalar.subi v10 c1_i32_6
  let v26 : BitVec 32 := Scalar.select v24 v25 v10
  let v35 : BitVec 32 := Scalar.subi v26 c1_i32_13
  let c1_i32_14 : BitVec 32 := 1#32
  let v37 : BitVec 32 := Scalar.divsi v35 c1_i32_14
  let v38 : BitVec 32 := Scalar.muli v37 c1_i32_14
  let v39 : BitVec 32 := Scalar.addi c1_i32_13 v38
  let c1_i32_16 : BitVec 32 := 1#32
  let arg15 : BitVec 32 := Scf.iv v39 c1_i32_16 k0_t2
  let v134 : BitVec 32 := Scalar.muli c4_i32_64 arg15
  let v135 : BitVec 32 := Scalar.addi v2 v134
  let c4_i32_120 : BitVec 32 := 4#32
  let v218 : BitVec 32 := Scalar.addi v135 c4_i32_120
  let c2_i32_121 : BitVec 32 := 2#32
  let v219 : BitVec 32 := Scalar.addi v218 c2_i32_121
  let c256_i32_456 : BitVec 32 := 256#32
  let v802 : BitVec 32 := Scalar.muli v219 c256_i32_456
  let v803 : BitVec 32 := v802
  let c0_i32_461 : BitVec 32 := 0#32
  ![0, v803.toNat, 0]
def k0_mult44 (v2 : BitVec 32) (v5 : BitVec 32) (k0_t2 : Fin (k0_t2_loop v2 v5).trips) : BitVec 32 :=
  let c4_i32_64 : BitVec 32 := 4#32
  let c1_i32_13 : BitVec 32 := 1#32
  let v9 : BitVec 32 := Scalar.subi v5 v2
  let c0_i32_1 : BitVec 32 := 0#32
  let v11 : BitVec 1 := Scalar.cmpi .sgt v9 c0_i32_1
  let v12 : BitVec 32 := Scalar.extui v11
  let c0_i32_2 : BitVec 32 := 0#32
  let v13 : BitVec 1 := Scalar.cmpi .slt v9 c0_i32_2
  let v14 : BitVec 32 := Scalar.extui v13
  let v15 : BitVec 32 := Scalar.subi v12 v14
  let c4_i32 : BitVec 32 := 4#32
  let c0_i32_3 : BitVec 32 := 0#32
  let v16 : BitVec 1 := Scalar.cmpi .sgt c4_i32 c0_i32_3
  let v17 : BitVec 32 := Scalar.extui v16
  let c0_i32_4 : BitVec 32 := 0#32
  let v18 : BitVec 1 := Scalar.cmpi .slt c4_i32 c0_i32_4
  let v19 : BitVec 32 := Scalar.extui v18
  let v20 : BitVec 32 := Scalar.subi v17 v19
  let v21 : BitVec 1 := Scalar.cmpi .ne v15 v20
  let v22 : BitVec 32 := Scalar.remsi v9 c4_i32
  let c0_i32_5 : BitVec 32 := 0#32
  let v23 : BitVec 1 := Scalar.cmpi .ne v22 c0_i32_5
  let v24 : BitVec 1 := Scalar.andi v21 v23
  let v10 : BitVec 32 := Scalar.divsi v9 c4_i32
  let c1_i32_6 : BitVec 32 := 1#32
  let v25 : BitVec 32 := Scalar.subi v10 c1_i32_6
  let v26 : BitVec 32 := Scalar.select v24 v25 v10
  let v35 : BitVec 32 := Scalar.subi v26 c1_i32_13
  let c1_i32_14 : BitVec 32 := 1#32
  let v37 : BitVec 32 := Scalar.divsi v35 c1_i32_14
  let v38 : BitVec 32 := Scalar.muli v37 c1_i32_14
  let v39 : BitVec 32 := Scalar.addi c1_i32_13 v38
  let c1_i32_16 : BitVec 32 := 1#32
  let arg15 : BitVec 32 := Scf.iv v39 c1_i32_16 k0_t2
  let v134 : BitVec 32 := Scalar.muli c4_i32_64 arg15
  let v135 : BitVec 32 := Scalar.addi v2 v134
  let c4_i32_123 : BitVec 32 := 4#32
  let v223 : BitVec 32 := Scalar.addi v135 c4_i32_123
  let c3_i32_124 : BitVec 32 := 3#32
  let v224 : BitVec 32 := Scalar.addi v223 c3_i32_124
  let c256_i32_456 : BitVec 32 := 256#32
  let v802 : BitVec 32 := Scalar.muli v224 c256_i32_456
  v802
def k0_cond27 (v0 : BitVec 32) (v2 : BitVec 32) (v5 : BitVec 32) (k0_t2 : Fin (k0_t2_loop v2 v5).trips) : BitVec 1 :=
  let c4_i32_64 : BitVec 32 := 4#32
  let c1_i32_13 : BitVec 32 := 1#32
  let v9 : BitVec 32 := Scalar.subi v5 v2
  let c0_i32_1 : BitVec 32 := 0#32
  let v11 : BitVec 1 := Scalar.cmpi .sgt v9 c0_i32_1
  let v12 : BitVec 32 := Scalar.extui v11
  let c0_i32_2 : BitVec 32 := 0#32
  let v13 : BitVec 1 := Scalar.cmpi .slt v9 c0_i32_2
  let v14 : BitVec 32 := Scalar.extui v13
  let v15 : BitVec 32 := Scalar.subi v12 v14
  let c4_i32 : BitVec 32 := 4#32
  let c0_i32_3 : BitVec 32 := 0#32
  let v16 : BitVec 1 := Scalar.cmpi .sgt c4_i32 c0_i32_3
  let v17 : BitVec 32 := Scalar.extui v16
  let c0_i32_4 : BitVec 32 := 0#32
  let v18 : BitVec 1 := Scalar.cmpi .slt c4_i32 c0_i32_4
  let v19 : BitVec 32 := Scalar.extui v18
  let v20 : BitVec 32 := Scalar.subi v17 v19
  let v21 : BitVec 1 := Scalar.cmpi .ne v15 v20
  let v22 : BitVec 32 := Scalar.remsi v9 c4_i32
  let c0_i32_5 : BitVec 32 := 0#32
  let v23 : BitVec 1 := Scalar.cmpi .ne v22 c0_i32_5
  let v24 : BitVec 1 := Scalar.andi v21 v23
  let v10 : BitVec 32 := Scalar.divsi v9 c4_i32
  let c1_i32_6 : BitVec 32 := 1#32
  let v25 : BitVec 32 := Scalar.subi v10 c1_i32_6
  let v26 : BitVec 32 := Scalar.select v24 v25 v10
  let v35 : BitVec 32 := Scalar.subi v26 c1_i32_13
  let c1_i32_14 : BitVec 32 := 1#32
  let v37 : BitVec 32 := Scalar.divsi v35 c1_i32_14
  let v38 : BitVec 32 := Scalar.muli v37 c1_i32_14
  let v39 : BitVec 32 := Scalar.addi c1_i32_13 v38
  let c1_i32_16 : BitVec 32 := 1#32
  let arg15 : BitVec 32 := Scf.iv v39 c1_i32_16 k0_t2
  let v134 : BitVec 32 := Scalar.muli c4_i32_64 arg15
  let v135 : BitVec 32 := Scalar.addi v2 v134
  let c4_i32_123 : BitVec 32 := 4#32
  let v223 : BitVec 32 := Scalar.addi v135 c4_i32_123
  let c3_i32_124 : BitVec 32 := 3#32
  let v224 : BitVec 32 := Scalar.addi v223 c3_i32_124
  let v225 : BitVec 1 := Scalar.cmpi .slt v224 v0
  let v226 : BitVec 32 := Scalar.extui v225
  let c0_i32_125 : BitVec 32 := 0#32
  let v227 : BitVec 1 := Scalar.cmpi .ne v226 c0_i32_125
  v227

def k0_off73 (v2 : BitVec 32) (v5 : BitVec 32) (k0_t2 : Fin (k0_t2_loop v2 v5).trips) : Fin 1 → Nat :=
  let c4_i32_64 : BitVec 32 := 4#32
  let c1_i32_13 : BitVec 32 := 1#32
  let v9 : BitVec 32 := Scalar.subi v5 v2
  let c0_i32_1 : BitVec 32 := 0#32
  let v11 : BitVec 1 := Scalar.cmpi .sgt v9 c0_i32_1
  let v12 : BitVec 32 := Scalar.extui v11
  let c0_i32_2 : BitVec 32 := 0#32
  let v13 : BitVec 1 := Scalar.cmpi .slt v9 c0_i32_2
  let v14 : BitVec 32 := Scalar.extui v13
  let v15 : BitVec 32 := Scalar.subi v12 v14
  let c4_i32 : BitVec 32 := 4#32
  let c0_i32_3 : BitVec 32 := 0#32
  let v16 : BitVec 1 := Scalar.cmpi .sgt c4_i32 c0_i32_3
  let v17 : BitVec 32 := Scalar.extui v16
  let c0_i32_4 : BitVec 32 := 0#32
  let v18 : BitVec 1 := Scalar.cmpi .slt c4_i32 c0_i32_4
  let v19 : BitVec 32 := Scalar.extui v18
  let v20 : BitVec 32 := Scalar.subi v17 v19
  let v21 : BitVec 1 := Scalar.cmpi .ne v15 v20
  let v22 : BitVec 32 := Scalar.remsi v9 c4_i32
  let c0_i32_5 : BitVec 32 := 0#32
  let v23 : BitVec 1 := Scalar.cmpi .ne v22 c0_i32_5
  let v24 : BitVec 1 := Scalar.andi v21 v23
  let v10 : BitVec 32 := Scalar.divsi v9 c4_i32
  let c1_i32_6 : BitVec 32 := 1#32
  let v25 : BitVec 32 := Scalar.subi v10 c1_i32_6
  let v26 : BitVec 32 := Scalar.select v24 v25 v10
  let v35 : BitVec 32 := Scalar.subi v26 c1_i32_13
  let c1_i32_14 : BitVec 32 := 1#32
  let v37 : BitVec 32 := Scalar.divsi v35 c1_i32_14
  let v38 : BitVec 32 := Scalar.muli v37 c1_i32_14
  let v39 : BitVec 32 := Scalar.addi c1_i32_13 v38
  let c1_i32_16 : BitVec 32 := 1#32
  let arg15 : BitVec 32 := Scf.iv v39 c1_i32_16 k0_t2
  let v134 : BitVec 32 := Scalar.muli c4_i32_64 arg15
  let v135 : BitVec 32 := Scalar.addi v2 v134
  let c4_i32_123 : BitVec 32 := 4#32
  let v223 : BitVec 32 := Scalar.addi v135 c4_i32_123
  let c3_i32_124 : BitVec 32 := 3#32
  let v224 : BitVec 32 := Scalar.addi v223 c3_i32_124
  let c8_i32_450 : BitVec 32 := 8#32
  let c0_i32_451 : BitVec 32 := 0#32
  let v792 : BitVec 1 := Scalar.cmpi .eq c8_i32_450 c0_i32_451
  let c1_i32_452 : BitVec 32 := 1#32
  let v793 : BitVec 32 := Scalar.select v792 c1_i32_452 c8_i32_450
  let v794 : BitVec 32 := Scalar.remsi v224 v793
  let c0_i32_454 : BitVec 32 := 0#32
  let v796 : BitVec 1 := Scalar.cmpi .slt v794 c0_i32_454
  let c0_i32_455 : BitVec 32 := 0#32
  let v797 : BitVec 1 := Scalar.cmpi .slt v793 c0_i32_455
  let v798 : BitVec 1 := Scalar.xori v796 v797
  let c0_i32_453 : BitVec 32 := 0#32
  let v795 : BitVec 1 := Scalar.cmpi .ne v794 c0_i32_453
  let v799 : BitVec 1 := Scalar.andi v798 v795
  let v800 : BitVec 32 := Scalar.addi v794 v793
  let v801 : BitVec 32 := Scalar.select v799 v800 v794
  ![v801.toNat]
def k0_off74 (v2 : BitVec 32) (v5 : BitVec 32) (k0_t2 : Fin (k0_t2_loop v2 v5).trips) : Fin 4 → Nat :=
  let c4_i32_64 : BitVec 32 := 4#32
  let c1_i32_13 : BitVec 32 := 1#32
  let v9 : BitVec 32 := Scalar.subi v5 v2
  let c0_i32_1 : BitVec 32 := 0#32
  let v11 : BitVec 1 := Scalar.cmpi .sgt v9 c0_i32_1
  let v12 : BitVec 32 := Scalar.extui v11
  let c0_i32_2 : BitVec 32 := 0#32
  let v13 : BitVec 1 := Scalar.cmpi .slt v9 c0_i32_2
  let v14 : BitVec 32 := Scalar.extui v13
  let v15 : BitVec 32 := Scalar.subi v12 v14
  let c4_i32 : BitVec 32 := 4#32
  let c0_i32_3 : BitVec 32 := 0#32
  let v16 : BitVec 1 := Scalar.cmpi .sgt c4_i32 c0_i32_3
  let v17 : BitVec 32 := Scalar.extui v16
  let c0_i32_4 : BitVec 32 := 0#32
  let v18 : BitVec 1 := Scalar.cmpi .slt c4_i32 c0_i32_4
  let v19 : BitVec 32 := Scalar.extui v18
  let v20 : BitVec 32 := Scalar.subi v17 v19
  let v21 : BitVec 1 := Scalar.cmpi .ne v15 v20
  let v22 : BitVec 32 := Scalar.remsi v9 c4_i32
  let c0_i32_5 : BitVec 32 := 0#32
  let v23 : BitVec 1 := Scalar.cmpi .ne v22 c0_i32_5
  let v24 : BitVec 1 := Scalar.andi v21 v23
  let v10 : BitVec 32 := Scalar.divsi v9 c4_i32
  let c1_i32_6 : BitVec 32 := 1#32
  let v25 : BitVec 32 := Scalar.subi v10 c1_i32_6
  let v26 : BitVec 32 := Scalar.select v24 v25 v10
  let v35 : BitVec 32 := Scalar.subi v26 c1_i32_13
  let c1_i32_14 : BitVec 32 := 1#32
  let v37 : BitVec 32 := Scalar.divsi v35 c1_i32_14
  let v38 : BitVec 32 := Scalar.muli v37 c1_i32_14
  let v39 : BitVec 32 := Scalar.addi c1_i32_13 v38
  let c1_i32_16 : BitVec 32 := 1#32
  let arg15 : BitVec 32 := Scf.iv v39 c1_i32_16 k0_t2
  let v134 : BitVec 32 := Scalar.muli c4_i32_64 arg15
  let v135 : BitVec 32 := Scalar.addi v2 v134
  let c4_i32_123 : BitVec 32 := 4#32
  let v223 : BitVec 32 := Scalar.addi v135 c4_i32_123
  let c3_i32_124 : BitVec 32 := 3#32
  let v224 : BitVec 32 := Scalar.addi v223 c3_i32_124
  let c8_i32_450 : BitVec 32 := 8#32
  let c0_i32_451 : BitVec 32 := 0#32
  let v792 : BitVec 1 := Scalar.cmpi .eq c8_i32_450 c0_i32_451
  let c1_i32_452 : BitVec 32 := 1#32
  let v793 : BitVec 32 := Scalar.select v792 c1_i32_452 c8_i32_450
  let v794 : BitVec 32 := Scalar.remsi v224 v793
  let c0_i32_454 : BitVec 32 := 0#32
  let v796 : BitVec 1 := Scalar.cmpi .slt v794 c0_i32_454
  let c0_i32_455 : BitVec 32 := 0#32
  let v797 : BitVec 1 := Scalar.cmpi .slt v793 c0_i32_455
  let v798 : BitVec 1 := Scalar.xori v796 v797
  let c0_i32_453 : BitVec 32 := 0#32
  let v795 : BitVec 1 := Scalar.cmpi .ne v794 c0_i32_453
  let v799 : BitVec 1 := Scalar.andi v798 v795
  let v800 : BitVec 32 := Scalar.addi v794 v793
  let v801 : BitVec 32 := Scalar.select v799 v800 v794
  let c0_i32_457 : BitVec 32 := 0#32
  let c0_i32_458 : BitVec 32 := 0#32
  let c0_i32_459 : BitVec 32 := 0#32
  ![v801.toNat, 0, 0, 0]
def k0_off75 (v2 : BitVec 32) (v5 : BitVec 32) (k0_t2 : Fin (k0_t2_loop v2 v5).trips) : Fin 3 → Nat :=
  let c0_i32_460 : BitVec 32 := 0#32
  let c4_i32_64 : BitVec 32 := 4#32
  let c1_i32_13 : BitVec 32 := 1#32
  let v9 : BitVec 32 := Scalar.subi v5 v2
  let c0_i32_1 : BitVec 32 := 0#32
  let v11 : BitVec 1 := Scalar.cmpi .sgt v9 c0_i32_1
  let v12 : BitVec 32 := Scalar.extui v11
  let c0_i32_2 : BitVec 32 := 0#32
  let v13 : BitVec 1 := Scalar.cmpi .slt v9 c0_i32_2
  let v14 : BitVec 32 := Scalar.extui v13
  let v15 : BitVec 32 := Scalar.subi v12 v14
  let c4_i32 : BitVec 32 := 4#32
  let c0_i32_3 : BitVec 32 := 0#32
  let v16 : BitVec 1 := Scalar.cmpi .sgt c4_i32 c0_i32_3
  let v17 : BitVec 32 := Scalar.extui v16
  let c0_i32_4 : BitVec 32 := 0#32
  let v18 : BitVec 1 := Scalar.cmpi .slt c4_i32 c0_i32_4
  let v19 : BitVec 32 := Scalar.extui v18
  let v20 : BitVec 32 := Scalar.subi v17 v19
  let v21 : BitVec 1 := Scalar.cmpi .ne v15 v20
  let v22 : BitVec 32 := Scalar.remsi v9 c4_i32
  let c0_i32_5 : BitVec 32 := 0#32
  let v23 : BitVec 1 := Scalar.cmpi .ne v22 c0_i32_5
  let v24 : BitVec 1 := Scalar.andi v21 v23
  let v10 : BitVec 32 := Scalar.divsi v9 c4_i32
  let c1_i32_6 : BitVec 32 := 1#32
  let v25 : BitVec 32 := Scalar.subi v10 c1_i32_6
  let v26 : BitVec 32 := Scalar.select v24 v25 v10
  let v35 : BitVec 32 := Scalar.subi v26 c1_i32_13
  let c1_i32_14 : BitVec 32 := 1#32
  let v37 : BitVec 32 := Scalar.divsi v35 c1_i32_14
  let v38 : BitVec 32 := Scalar.muli v37 c1_i32_14
  let v39 : BitVec 32 := Scalar.addi c1_i32_13 v38
  let c1_i32_16 : BitVec 32 := 1#32
  let arg15 : BitVec 32 := Scf.iv v39 c1_i32_16 k0_t2
  let v134 : BitVec 32 := Scalar.muli c4_i32_64 arg15
  let v135 : BitVec 32 := Scalar.addi v2 v134
  let c4_i32_123 : BitVec 32 := 4#32
  let v223 : BitVec 32 := Scalar.addi v135 c4_i32_123
  let c3_i32_124 : BitVec 32 := 3#32
  let v224 : BitVec 32 := Scalar.addi v223 c3_i32_124
  let c256_i32_456 : BitVec 32 := 256#32
  let v802 : BitVec 32 := Scalar.muli v224 c256_i32_456
  let v803 : BitVec 32 := v802
  let c0_i32_461 : BitVec 32 := 0#32
  ![0, v803.toNat, 0]
def k0_mult45 (v2 : BitVec 32) (v5 : BitVec 32) (k0_t2 : Fin (k0_t2_loop v2 v5).trips) : BitVec 32 :=
  let c4_i32_64 : BitVec 32 := 4#32
  let c1_i32_13 : BitVec 32 := 1#32
  let v9 : BitVec 32 := Scalar.subi v5 v2
  let c0_i32_1 : BitVec 32 := 0#32
  let v11 : BitVec 1 := Scalar.cmpi .sgt v9 c0_i32_1
  let v12 : BitVec 32 := Scalar.extui v11
  let c0_i32_2 : BitVec 32 := 0#32
  let v13 : BitVec 1 := Scalar.cmpi .slt v9 c0_i32_2
  let v14 : BitVec 32 := Scalar.extui v13
  let v15 : BitVec 32 := Scalar.subi v12 v14
  let c4_i32 : BitVec 32 := 4#32
  let c0_i32_3 : BitVec 32 := 0#32
  let v16 : BitVec 1 := Scalar.cmpi .sgt c4_i32 c0_i32_3
  let v17 : BitVec 32 := Scalar.extui v16
  let c0_i32_4 : BitVec 32 := 0#32
  let v18 : BitVec 1 := Scalar.cmpi .slt c4_i32 c0_i32_4
  let v19 : BitVec 32 := Scalar.extui v18
  let v20 : BitVec 32 := Scalar.subi v17 v19
  let v21 : BitVec 1 := Scalar.cmpi .ne v15 v20
  let v22 : BitVec 32 := Scalar.remsi v9 c4_i32
  let c0_i32_5 : BitVec 32 := 0#32
  let v23 : BitVec 1 := Scalar.cmpi .ne v22 c0_i32_5
  let v24 : BitVec 1 := Scalar.andi v21 v23
  let v10 : BitVec 32 := Scalar.divsi v9 c4_i32
  let c1_i32_6 : BitVec 32 := 1#32
  let v25 : BitVec 32 := Scalar.subi v10 c1_i32_6
  let v26 : BitVec 32 := Scalar.select v24 v25 v10
  let v35 : BitVec 32 := Scalar.subi v26 c1_i32_13
  let c1_i32_14 : BitVec 32 := 1#32
  let v37 : BitVec 32 := Scalar.divsi v35 c1_i32_14
  let v38 : BitVec 32 := Scalar.muli v37 c1_i32_14
  let v39 : BitVec 32 := Scalar.addi c1_i32_13 v38
  let c1_i32_16 : BitVec 32 := 1#32
  let arg15 : BitVec 32 := Scf.iv v39 c1_i32_16 k0_t2
  let v134 : BitVec 32 := Scalar.muli c4_i32_64 arg15
  let v135 : BitVec 32 := Scalar.addi v2 v134
  let c0_i32_126 : BitVec 32 := 0#32
  let v228 : BitVec 32 := Scalar.addi v135 c0_i32_126
  let c8_i32_450 : BitVec 32 := 8#32
  let v792 : BitVec 32 := Scalar.subi v228 c8_i32_450
  let c256_i32_457 : BitVec 32 := 256#32
  let v803 : BitVec 32 := Scalar.muli v792 c256_i32_457
  v803
def k0_cond28 (v2 : BitVec 32) (v5 : BitVec 32) (k0_t2 : Fin (k0_t2_loop v2 v5).trips) : BitVec 1 :=
  let c4_i32_64 : BitVec 32 := 4#32
  let c1_i32_13 : BitVec 32 := 1#32
  let v9 : BitVec 32 := Scalar.subi v5 v2
  let c0_i32_1 : BitVec 32 := 0#32
  let v11 : BitVec 1 := Scalar.cmpi .sgt v9 c0_i32_1
  let v12 : BitVec 32 := Scalar.extui v11
  let c0_i32_2 : BitVec 32 := 0#32
  let v13 : BitVec 1 := Scalar.cmpi .slt v9 c0_i32_2
  let v14 : BitVec 32 := Scalar.extui v13
  let v15 : BitVec 32 := Scalar.subi v12 v14
  let c4_i32 : BitVec 32 := 4#32
  let c0_i32_3 : BitVec 32 := 0#32
  let v16 : BitVec 1 := Scalar.cmpi .sgt c4_i32 c0_i32_3
  let v17 : BitVec 32 := Scalar.extui v16
  let c0_i32_4 : BitVec 32 := 0#32
  let v18 : BitVec 1 := Scalar.cmpi .slt c4_i32 c0_i32_4
  let v19 : BitVec 32 := Scalar.extui v18
  let v20 : BitVec 32 := Scalar.subi v17 v19
  let v21 : BitVec 1 := Scalar.cmpi .ne v15 v20
  let v22 : BitVec 32 := Scalar.remsi v9 c4_i32
  let c0_i32_5 : BitVec 32 := 0#32
  let v23 : BitVec 1 := Scalar.cmpi .ne v22 c0_i32_5
  let v24 : BitVec 1 := Scalar.andi v21 v23
  let v10 : BitVec 32 := Scalar.divsi v9 c4_i32
  let c1_i32_6 : BitVec 32 := 1#32
  let v25 : BitVec 32 := Scalar.subi v10 c1_i32_6
  let v26 : BitVec 32 := Scalar.select v24 v25 v10
  let v35 : BitVec 32 := Scalar.subi v26 c1_i32_13
  let c1_i32_14 : BitVec 32 := 1#32
  let v37 : BitVec 32 := Scalar.divsi v35 c1_i32_14
  let v38 : BitVec 32 := Scalar.muli v37 c1_i32_14
  let v39 : BitVec 32 := Scalar.addi c1_i32_13 v38
  let c1_i32_16 : BitVec 32 := 1#32
  let arg15 : BitVec 32 := Scf.iv v39 c1_i32_16 k0_t2
  let v134 : BitVec 32 := Scalar.muli c4_i32_64 arg15
  let v135 : BitVec 32 := Scalar.addi v2 v134
  let c0_i32_126 : BitVec 32 := 0#32
  let v228 : BitVec 32 := Scalar.addi v135 c0_i32_126
  let c8_i32_127 : BitVec 32 := 8#32
  let v229 : BitVec 1 := Scalar.cmpi .sge v228 c8_i32_127
  let v230 : BitVec 32 := Scalar.extui v229
  let c0_i32_128 : BitVec 32 := 0#32
  let v231 : BitVec 1 := Scalar.cmpi .ne v230 c0_i32_128
  v231

def k0_off76 (v2 : BitVec 32) (v5 : BitVec 32) (k0_t2 : Fin (k0_t2_loop v2 v5).trips) : Fin 1 → Nat :=
  let c4_i32_64 : BitVec 32 := 4#32
  let c1_i32_13 : BitVec 32 := 1#32
  let v9 : BitVec 32 := Scalar.subi v5 v2
  let c0_i32_1 : BitVec 32 := 0#32
  let v11 : BitVec 1 := Scalar.cmpi .sgt v9 c0_i32_1
  let v12 : BitVec 32 := Scalar.extui v11
  let c0_i32_2 : BitVec 32 := 0#32
  let v13 : BitVec 1 := Scalar.cmpi .slt v9 c0_i32_2
  let v14 : BitVec 32 := Scalar.extui v13
  let v15 : BitVec 32 := Scalar.subi v12 v14
  let c4_i32 : BitVec 32 := 4#32
  let c0_i32_3 : BitVec 32 := 0#32
  let v16 : BitVec 1 := Scalar.cmpi .sgt c4_i32 c0_i32_3
  let v17 : BitVec 32 := Scalar.extui v16
  let c0_i32_4 : BitVec 32 := 0#32
  let v18 : BitVec 1 := Scalar.cmpi .slt c4_i32 c0_i32_4
  let v19 : BitVec 32 := Scalar.extui v18
  let v20 : BitVec 32 := Scalar.subi v17 v19
  let v21 : BitVec 1 := Scalar.cmpi .ne v15 v20
  let v22 : BitVec 32 := Scalar.remsi v9 c4_i32
  let c0_i32_5 : BitVec 32 := 0#32
  let v23 : BitVec 1 := Scalar.cmpi .ne v22 c0_i32_5
  let v24 : BitVec 1 := Scalar.andi v21 v23
  let v10 : BitVec 32 := Scalar.divsi v9 c4_i32
  let c1_i32_6 : BitVec 32 := 1#32
  let v25 : BitVec 32 := Scalar.subi v10 c1_i32_6
  let v26 : BitVec 32 := Scalar.select v24 v25 v10
  let v35 : BitVec 32 := Scalar.subi v26 c1_i32_13
  let c1_i32_14 : BitVec 32 := 1#32
  let v37 : BitVec 32 := Scalar.divsi v35 c1_i32_14
  let v38 : BitVec 32 := Scalar.muli v37 c1_i32_14
  let v39 : BitVec 32 := Scalar.addi c1_i32_13 v38
  let c1_i32_16 : BitVec 32 := 1#32
  let arg15 : BitVec 32 := Scf.iv v39 c1_i32_16 k0_t2
  let v134 : BitVec 32 := Scalar.muli c4_i32_64 arg15
  let v135 : BitVec 32 := Scalar.addi v2 v134
  let c0_i32_126 : BitVec 32 := 0#32
  let v228 : BitVec 32 := Scalar.addi v135 c0_i32_126
  let c8_i32_451 : BitVec 32 := 8#32
  let c0_i32_452 : BitVec 32 := 0#32
  let v793 : BitVec 1 := Scalar.cmpi .eq c8_i32_451 c0_i32_452
  let c1_i32_453 : BitVec 32 := 1#32
  let v794 : BitVec 32 := Scalar.select v793 c1_i32_453 c8_i32_451
  let v795 : BitVec 32 := Scalar.remsi v228 v794
  let c0_i32_455 : BitVec 32 := 0#32
  let v797 : BitVec 1 := Scalar.cmpi .slt v795 c0_i32_455
  let c0_i32_456 : BitVec 32 := 0#32
  let v798 : BitVec 1 := Scalar.cmpi .slt v794 c0_i32_456
  let v799 : BitVec 1 := Scalar.xori v797 v798
  let c0_i32_454 : BitVec 32 := 0#32
  let v796 : BitVec 1 := Scalar.cmpi .ne v795 c0_i32_454
  let v800 : BitVec 1 := Scalar.andi v799 v796
  let v801 : BitVec 32 := Scalar.addi v795 v794
  let v802 : BitVec 32 := Scalar.select v800 v801 v795
  ![v802.toNat]
def k0_off77 (v2 : BitVec 32) (v5 : BitVec 32) (k0_t2 : Fin (k0_t2_loop v2 v5).trips) : Fin 3 → Nat :=
  let c0_i32_458 : BitVec 32 := 0#32
  let c4_i32_64 : BitVec 32 := 4#32
  let c1_i32_13 : BitVec 32 := 1#32
  let v9 : BitVec 32 := Scalar.subi v5 v2
  let c0_i32_1 : BitVec 32 := 0#32
  let v11 : BitVec 1 := Scalar.cmpi .sgt v9 c0_i32_1
  let v12 : BitVec 32 := Scalar.extui v11
  let c0_i32_2 : BitVec 32 := 0#32
  let v13 : BitVec 1 := Scalar.cmpi .slt v9 c0_i32_2
  let v14 : BitVec 32 := Scalar.extui v13
  let v15 : BitVec 32 := Scalar.subi v12 v14
  let c4_i32 : BitVec 32 := 4#32
  let c0_i32_3 : BitVec 32 := 0#32
  let v16 : BitVec 1 := Scalar.cmpi .sgt c4_i32 c0_i32_3
  let v17 : BitVec 32 := Scalar.extui v16
  let c0_i32_4 : BitVec 32 := 0#32
  let v18 : BitVec 1 := Scalar.cmpi .slt c4_i32 c0_i32_4
  let v19 : BitVec 32 := Scalar.extui v18
  let v20 : BitVec 32 := Scalar.subi v17 v19
  let v21 : BitVec 1 := Scalar.cmpi .ne v15 v20
  let v22 : BitVec 32 := Scalar.remsi v9 c4_i32
  let c0_i32_5 : BitVec 32 := 0#32
  let v23 : BitVec 1 := Scalar.cmpi .ne v22 c0_i32_5
  let v24 : BitVec 1 := Scalar.andi v21 v23
  let v10 : BitVec 32 := Scalar.divsi v9 c4_i32
  let c1_i32_6 : BitVec 32 := 1#32
  let v25 : BitVec 32 := Scalar.subi v10 c1_i32_6
  let v26 : BitVec 32 := Scalar.select v24 v25 v10
  let v35 : BitVec 32 := Scalar.subi v26 c1_i32_13
  let c1_i32_14 : BitVec 32 := 1#32
  let v37 : BitVec 32 := Scalar.divsi v35 c1_i32_14
  let v38 : BitVec 32 := Scalar.muli v37 c1_i32_14
  let v39 : BitVec 32 := Scalar.addi c1_i32_13 v38
  let c1_i32_16 : BitVec 32 := 1#32
  let arg15 : BitVec 32 := Scf.iv v39 c1_i32_16 k0_t2
  let v134 : BitVec 32 := Scalar.muli c4_i32_64 arg15
  let v135 : BitVec 32 := Scalar.addi v2 v134
  let c0_i32_126 : BitVec 32 := 0#32
  let v228 : BitVec 32 := Scalar.addi v135 c0_i32_126
  let c8_i32_450 : BitVec 32 := 8#32
  let v792 : BitVec 32 := Scalar.subi v228 c8_i32_450
  let c256_i32_457 : BitVec 32 := 256#32
  let v803 : BitVec 32 := Scalar.muli v792 c256_i32_457
  let v804 : BitVec 32 := v803
  let c0_i32_459 : BitVec 32 := 0#32
  ![0, v804.toNat, 0]
def k0_off78 (v2 : BitVec 32) (v5 : BitVec 32) (k0_t2 : Fin (k0_t2_loop v2 v5).trips) : Fin 4 → Nat :=
  let c4_i32_64 : BitVec 32 := 4#32
  let c1_i32_13 : BitVec 32 := 1#32
  let v9 : BitVec 32 := Scalar.subi v5 v2
  let c0_i32_1 : BitVec 32 := 0#32
  let v11 : BitVec 1 := Scalar.cmpi .sgt v9 c0_i32_1
  let v12 : BitVec 32 := Scalar.extui v11
  let c0_i32_2 : BitVec 32 := 0#32
  let v13 : BitVec 1 := Scalar.cmpi .slt v9 c0_i32_2
  let v14 : BitVec 32 := Scalar.extui v13
  let v15 : BitVec 32 := Scalar.subi v12 v14
  let c4_i32 : BitVec 32 := 4#32
  let c0_i32_3 : BitVec 32 := 0#32
  let v16 : BitVec 1 := Scalar.cmpi .sgt c4_i32 c0_i32_3
  let v17 : BitVec 32 := Scalar.extui v16
  let c0_i32_4 : BitVec 32 := 0#32
  let v18 : BitVec 1 := Scalar.cmpi .slt c4_i32 c0_i32_4
  let v19 : BitVec 32 := Scalar.extui v18
  let v20 : BitVec 32 := Scalar.subi v17 v19
  let v21 : BitVec 1 := Scalar.cmpi .ne v15 v20
  let v22 : BitVec 32 := Scalar.remsi v9 c4_i32
  let c0_i32_5 : BitVec 32 := 0#32
  let v23 : BitVec 1 := Scalar.cmpi .ne v22 c0_i32_5
  let v24 : BitVec 1 := Scalar.andi v21 v23
  let v10 : BitVec 32 := Scalar.divsi v9 c4_i32
  let c1_i32_6 : BitVec 32 := 1#32
  let v25 : BitVec 32 := Scalar.subi v10 c1_i32_6
  let v26 : BitVec 32 := Scalar.select v24 v25 v10
  let v35 : BitVec 32 := Scalar.subi v26 c1_i32_13
  let c1_i32_14 : BitVec 32 := 1#32
  let v37 : BitVec 32 := Scalar.divsi v35 c1_i32_14
  let v38 : BitVec 32 := Scalar.muli v37 c1_i32_14
  let v39 : BitVec 32 := Scalar.addi c1_i32_13 v38
  let c1_i32_16 : BitVec 32 := 1#32
  let arg15 : BitVec 32 := Scf.iv v39 c1_i32_16 k0_t2
  let v134 : BitVec 32 := Scalar.muli c4_i32_64 arg15
  let v135 : BitVec 32 := Scalar.addi v2 v134
  let c0_i32_126 : BitVec 32 := 0#32
  let v228 : BitVec 32 := Scalar.addi v135 c0_i32_126
  let c8_i32_451 : BitVec 32 := 8#32
  let c0_i32_452 : BitVec 32 := 0#32
  let v793 : BitVec 1 := Scalar.cmpi .eq c8_i32_451 c0_i32_452
  let c1_i32_453 : BitVec 32 := 1#32
  let v794 : BitVec 32 := Scalar.select v793 c1_i32_453 c8_i32_451
  let v795 : BitVec 32 := Scalar.remsi v228 v794
  let c0_i32_455 : BitVec 32 := 0#32
  let v797 : BitVec 1 := Scalar.cmpi .slt v795 c0_i32_455
  let c0_i32_456 : BitVec 32 := 0#32
  let v798 : BitVec 1 := Scalar.cmpi .slt v794 c0_i32_456
  let v799 : BitVec 1 := Scalar.xori v797 v798
  let c0_i32_454 : BitVec 32 := 0#32
  let v796 : BitVec 1 := Scalar.cmpi .ne v795 c0_i32_454
  let v800 : BitVec 1 := Scalar.andi v799 v796
  let v801 : BitVec 32 := Scalar.addi v795 v794
  let v802 : BitVec 32 := Scalar.select v800 v801 v795
  let c0_i32_460 : BitVec 32 := 0#32
  let c0_i32_461 : BitVec 32 := 0#32
  let c0_i32_462 : BitVec 32 := 0#32
  ![v802.toNat, 0, 0, 0]
def k0_mult46 (v2 : BitVec 32) (v5 : BitVec 32) (k0_t2 : Fin (k0_t2_loop v2 v5).trips) : BitVec 32 :=
  let c4_i32_64 : BitVec 32 := 4#32
  let c1_i32_13 : BitVec 32 := 1#32
  let v9 : BitVec 32 := Scalar.subi v5 v2
  let c0_i32_1 : BitVec 32 := 0#32
  let v11 : BitVec 1 := Scalar.cmpi .sgt v9 c0_i32_1
  let v12 : BitVec 32 := Scalar.extui v11
  let c0_i32_2 : BitVec 32 := 0#32
  let v13 : BitVec 1 := Scalar.cmpi .slt v9 c0_i32_2
  let v14 : BitVec 32 := Scalar.extui v13
  let v15 : BitVec 32 := Scalar.subi v12 v14
  let c4_i32 : BitVec 32 := 4#32
  let c0_i32_3 : BitVec 32 := 0#32
  let v16 : BitVec 1 := Scalar.cmpi .sgt c4_i32 c0_i32_3
  let v17 : BitVec 32 := Scalar.extui v16
  let c0_i32_4 : BitVec 32 := 0#32
  let v18 : BitVec 1 := Scalar.cmpi .slt c4_i32 c0_i32_4
  let v19 : BitVec 32 := Scalar.extui v18
  let v20 : BitVec 32 := Scalar.subi v17 v19
  let v21 : BitVec 1 := Scalar.cmpi .ne v15 v20
  let v22 : BitVec 32 := Scalar.remsi v9 c4_i32
  let c0_i32_5 : BitVec 32 := 0#32
  let v23 : BitVec 1 := Scalar.cmpi .ne v22 c0_i32_5
  let v24 : BitVec 1 := Scalar.andi v21 v23
  let v10 : BitVec 32 := Scalar.divsi v9 c4_i32
  let c1_i32_6 : BitVec 32 := 1#32
  let v25 : BitVec 32 := Scalar.subi v10 c1_i32_6
  let v26 : BitVec 32 := Scalar.select v24 v25 v10
  let v35 : BitVec 32 := Scalar.subi v26 c1_i32_13
  let c1_i32_14 : BitVec 32 := 1#32
  let v37 : BitVec 32 := Scalar.divsi v35 c1_i32_14
  let v38 : BitVec 32 := Scalar.muli v37 c1_i32_14
  let v39 : BitVec 32 := Scalar.addi c1_i32_13 v38
  let c1_i32_16 : BitVec 32 := 1#32
  let arg15 : BitVec 32 := Scf.iv v39 c1_i32_16 k0_t2
  let v134 : BitVec 32 := Scalar.muli c4_i32_64 arg15
  let v135 : BitVec 32 := Scalar.addi v2 v134
  let c1_i32_129 : BitVec 32 := 1#32
  let v232 : BitVec 32 := Scalar.addi v135 c1_i32_129
  let c8_i32_450 : BitVec 32 := 8#32
  let v792 : BitVec 32 := Scalar.subi v232 c8_i32_450
  let c256_i32_457 : BitVec 32 := 256#32
  let v803 : BitVec 32 := Scalar.muli v792 c256_i32_457
  v803
def k0_cond29 (v2 : BitVec 32) (v5 : BitVec 32) (k0_t2 : Fin (k0_t2_loop v2 v5).trips) : BitVec 1 :=
  let c4_i32_64 : BitVec 32 := 4#32
  let c1_i32_13 : BitVec 32 := 1#32
  let v9 : BitVec 32 := Scalar.subi v5 v2
  let c0_i32_1 : BitVec 32 := 0#32
  let v11 : BitVec 1 := Scalar.cmpi .sgt v9 c0_i32_1
  let v12 : BitVec 32 := Scalar.extui v11
  let c0_i32_2 : BitVec 32 := 0#32
  let v13 : BitVec 1 := Scalar.cmpi .slt v9 c0_i32_2
  let v14 : BitVec 32 := Scalar.extui v13
  let v15 : BitVec 32 := Scalar.subi v12 v14
  let c4_i32 : BitVec 32 := 4#32
  let c0_i32_3 : BitVec 32 := 0#32
  let v16 : BitVec 1 := Scalar.cmpi .sgt c4_i32 c0_i32_3
  let v17 : BitVec 32 := Scalar.extui v16
  let c0_i32_4 : BitVec 32 := 0#32
  let v18 : BitVec 1 := Scalar.cmpi .slt c4_i32 c0_i32_4
  let v19 : BitVec 32 := Scalar.extui v18
  let v20 : BitVec 32 := Scalar.subi v17 v19
  let v21 : BitVec 1 := Scalar.cmpi .ne v15 v20
  let v22 : BitVec 32 := Scalar.remsi v9 c4_i32
  let c0_i32_5 : BitVec 32 := 0#32
  let v23 : BitVec 1 := Scalar.cmpi .ne v22 c0_i32_5
  let v24 : BitVec 1 := Scalar.andi v21 v23
  let v10 : BitVec 32 := Scalar.divsi v9 c4_i32
  let c1_i32_6 : BitVec 32 := 1#32
  let v25 : BitVec 32 := Scalar.subi v10 c1_i32_6
  let v26 : BitVec 32 := Scalar.select v24 v25 v10
  let v35 : BitVec 32 := Scalar.subi v26 c1_i32_13
  let c1_i32_14 : BitVec 32 := 1#32
  let v37 : BitVec 32 := Scalar.divsi v35 c1_i32_14
  let v38 : BitVec 32 := Scalar.muli v37 c1_i32_14
  let v39 : BitVec 32 := Scalar.addi c1_i32_13 v38
  let c1_i32_16 : BitVec 32 := 1#32
  let arg15 : BitVec 32 := Scf.iv v39 c1_i32_16 k0_t2
  let v134 : BitVec 32 := Scalar.muli c4_i32_64 arg15
  let v135 : BitVec 32 := Scalar.addi v2 v134
  let c1_i32_129 : BitVec 32 := 1#32
  let v232 : BitVec 32 := Scalar.addi v135 c1_i32_129
  let c8_i32_130 : BitVec 32 := 8#32
  let v233 : BitVec 1 := Scalar.cmpi .sge v232 c8_i32_130
  let v234 : BitVec 32 := Scalar.extui v233
  let c0_i32_131 : BitVec 32 := 0#32
  let v235 : BitVec 1 := Scalar.cmpi .ne v234 c0_i32_131
  v235

def k0_off79 (v2 : BitVec 32) (v5 : BitVec 32) (k0_t2 : Fin (k0_t2_loop v2 v5).trips) : Fin 1 → Nat :=
  let c4_i32_64 : BitVec 32 := 4#32
  let c1_i32_13 : BitVec 32 := 1#32
  let v9 : BitVec 32 := Scalar.subi v5 v2
  let c0_i32_1 : BitVec 32 := 0#32
  let v11 : BitVec 1 := Scalar.cmpi .sgt v9 c0_i32_1
  let v12 : BitVec 32 := Scalar.extui v11
  let c0_i32_2 : BitVec 32 := 0#32
  let v13 : BitVec 1 := Scalar.cmpi .slt v9 c0_i32_2
  let v14 : BitVec 32 := Scalar.extui v13
  let v15 : BitVec 32 := Scalar.subi v12 v14
  let c4_i32 : BitVec 32 := 4#32
  let c0_i32_3 : BitVec 32 := 0#32
  let v16 : BitVec 1 := Scalar.cmpi .sgt c4_i32 c0_i32_3
  let v17 : BitVec 32 := Scalar.extui v16
  let c0_i32_4 : BitVec 32 := 0#32
  let v18 : BitVec 1 := Scalar.cmpi .slt c4_i32 c0_i32_4
  let v19 : BitVec 32 := Scalar.extui v18
  let v20 : BitVec 32 := Scalar.subi v17 v19
  let v21 : BitVec 1 := Scalar.cmpi .ne v15 v20
  let v22 : BitVec 32 := Scalar.remsi v9 c4_i32
  let c0_i32_5 : BitVec 32 := 0#32
  let v23 : BitVec 1 := Scalar.cmpi .ne v22 c0_i32_5
  let v24 : BitVec 1 := Scalar.andi v21 v23
  let v10 : BitVec 32 := Scalar.divsi v9 c4_i32
  let c1_i32_6 : BitVec 32 := 1#32
  let v25 : BitVec 32 := Scalar.subi v10 c1_i32_6
  let v26 : BitVec 32 := Scalar.select v24 v25 v10
  let v35 : BitVec 32 := Scalar.subi v26 c1_i32_13
  let c1_i32_14 : BitVec 32 := 1#32
  let v37 : BitVec 32 := Scalar.divsi v35 c1_i32_14
  let v38 : BitVec 32 := Scalar.muli v37 c1_i32_14
  let v39 : BitVec 32 := Scalar.addi c1_i32_13 v38
  let c1_i32_16 : BitVec 32 := 1#32
  let arg15 : BitVec 32 := Scf.iv v39 c1_i32_16 k0_t2
  let v134 : BitVec 32 := Scalar.muli c4_i32_64 arg15
  let v135 : BitVec 32 := Scalar.addi v2 v134
  let c1_i32_129 : BitVec 32 := 1#32
  let v232 : BitVec 32 := Scalar.addi v135 c1_i32_129
  let c8_i32_451 : BitVec 32 := 8#32
  let c0_i32_452 : BitVec 32 := 0#32
  let v793 : BitVec 1 := Scalar.cmpi .eq c8_i32_451 c0_i32_452
  let c1_i32_453 : BitVec 32 := 1#32
  let v794 : BitVec 32 := Scalar.select v793 c1_i32_453 c8_i32_451
  let v795 : BitVec 32 := Scalar.remsi v232 v794
  let c0_i32_455 : BitVec 32 := 0#32
  let v797 : BitVec 1 := Scalar.cmpi .slt v795 c0_i32_455
  let c0_i32_456 : BitVec 32 := 0#32
  let v798 : BitVec 1 := Scalar.cmpi .slt v794 c0_i32_456
  let v799 : BitVec 1 := Scalar.xori v797 v798
  let c0_i32_454 : BitVec 32 := 0#32
  let v796 : BitVec 1 := Scalar.cmpi .ne v795 c0_i32_454
  let v800 : BitVec 1 := Scalar.andi v799 v796
  let v801 : BitVec 32 := Scalar.addi v795 v794
  let v802 : BitVec 32 := Scalar.select v800 v801 v795
  ![v802.toNat]
def k0_off80 (v2 : BitVec 32) (v5 : BitVec 32) (k0_t2 : Fin (k0_t2_loop v2 v5).trips) : Fin 3 → Nat :=
  let c0_i32_458 : BitVec 32 := 0#32
  let c4_i32_64 : BitVec 32 := 4#32
  let c1_i32_13 : BitVec 32 := 1#32
  let v9 : BitVec 32 := Scalar.subi v5 v2
  let c0_i32_1 : BitVec 32 := 0#32
  let v11 : BitVec 1 := Scalar.cmpi .sgt v9 c0_i32_1
  let v12 : BitVec 32 := Scalar.extui v11
  let c0_i32_2 : BitVec 32 := 0#32
  let v13 : BitVec 1 := Scalar.cmpi .slt v9 c0_i32_2
  let v14 : BitVec 32 := Scalar.extui v13
  let v15 : BitVec 32 := Scalar.subi v12 v14
  let c4_i32 : BitVec 32 := 4#32
  let c0_i32_3 : BitVec 32 := 0#32
  let v16 : BitVec 1 := Scalar.cmpi .sgt c4_i32 c0_i32_3
  let v17 : BitVec 32 := Scalar.extui v16
  let c0_i32_4 : BitVec 32 := 0#32
  let v18 : BitVec 1 := Scalar.cmpi .slt c4_i32 c0_i32_4
  let v19 : BitVec 32 := Scalar.extui v18
  let v20 : BitVec 32 := Scalar.subi v17 v19
  let v21 : BitVec 1 := Scalar.cmpi .ne v15 v20
  let v22 : BitVec 32 := Scalar.remsi v9 c4_i32
  let c0_i32_5 : BitVec 32 := 0#32
  let v23 : BitVec 1 := Scalar.cmpi .ne v22 c0_i32_5
  let v24 : BitVec 1 := Scalar.andi v21 v23
  let v10 : BitVec 32 := Scalar.divsi v9 c4_i32
  let c1_i32_6 : BitVec 32 := 1#32
  let v25 : BitVec 32 := Scalar.subi v10 c1_i32_6
  let v26 : BitVec 32 := Scalar.select v24 v25 v10
  let v35 : BitVec 32 := Scalar.subi v26 c1_i32_13
  let c1_i32_14 : BitVec 32 := 1#32
  let v37 : BitVec 32 := Scalar.divsi v35 c1_i32_14
  let v38 : BitVec 32 := Scalar.muli v37 c1_i32_14
  let v39 : BitVec 32 := Scalar.addi c1_i32_13 v38
  let c1_i32_16 : BitVec 32 := 1#32
  let arg15 : BitVec 32 := Scf.iv v39 c1_i32_16 k0_t2
  let v134 : BitVec 32 := Scalar.muli c4_i32_64 arg15
  let v135 : BitVec 32 := Scalar.addi v2 v134
  let c1_i32_129 : BitVec 32 := 1#32
  let v232 : BitVec 32 := Scalar.addi v135 c1_i32_129
  let c8_i32_450 : BitVec 32 := 8#32
  let v792 : BitVec 32 := Scalar.subi v232 c8_i32_450
  let c256_i32_457 : BitVec 32 := 256#32
  let v803 : BitVec 32 := Scalar.muli v792 c256_i32_457
  let v804 : BitVec 32 := v803
  let c0_i32_459 : BitVec 32 := 0#32
  ![0, v804.toNat, 0]
def k0_off81 (v2 : BitVec 32) (v5 : BitVec 32) (k0_t2 : Fin (k0_t2_loop v2 v5).trips) : Fin 4 → Nat :=
  let c4_i32_64 : BitVec 32 := 4#32
  let c1_i32_13 : BitVec 32 := 1#32
  let v9 : BitVec 32 := Scalar.subi v5 v2
  let c0_i32_1 : BitVec 32 := 0#32
  let v11 : BitVec 1 := Scalar.cmpi .sgt v9 c0_i32_1
  let v12 : BitVec 32 := Scalar.extui v11
  let c0_i32_2 : BitVec 32 := 0#32
  let v13 : BitVec 1 := Scalar.cmpi .slt v9 c0_i32_2
  let v14 : BitVec 32 := Scalar.extui v13
  let v15 : BitVec 32 := Scalar.subi v12 v14
  let c4_i32 : BitVec 32 := 4#32
  let c0_i32_3 : BitVec 32 := 0#32
  let v16 : BitVec 1 := Scalar.cmpi .sgt c4_i32 c0_i32_3
  let v17 : BitVec 32 := Scalar.extui v16
  let c0_i32_4 : BitVec 32 := 0#32
  let v18 : BitVec 1 := Scalar.cmpi .slt c4_i32 c0_i32_4
  let v19 : BitVec 32 := Scalar.extui v18
  let v20 : BitVec 32 := Scalar.subi v17 v19
  let v21 : BitVec 1 := Scalar.cmpi .ne v15 v20
  let v22 : BitVec 32 := Scalar.remsi v9 c4_i32
  let c0_i32_5 : BitVec 32 := 0#32
  let v23 : BitVec 1 := Scalar.cmpi .ne v22 c0_i32_5
  let v24 : BitVec 1 := Scalar.andi v21 v23
  let v10 : BitVec 32 := Scalar.divsi v9 c4_i32
  let c1_i32_6 : BitVec 32 := 1#32
  let v25 : BitVec 32 := Scalar.subi v10 c1_i32_6
  let v26 : BitVec 32 := Scalar.select v24 v25 v10
  let v35 : BitVec 32 := Scalar.subi v26 c1_i32_13
  let c1_i32_14 : BitVec 32 := 1#32
  let v37 : BitVec 32 := Scalar.divsi v35 c1_i32_14
  let v38 : BitVec 32 := Scalar.muli v37 c1_i32_14
  let v39 : BitVec 32 := Scalar.addi c1_i32_13 v38
  let c1_i32_16 : BitVec 32 := 1#32
  let arg15 : BitVec 32 := Scf.iv v39 c1_i32_16 k0_t2
  let v134 : BitVec 32 := Scalar.muli c4_i32_64 arg15
  let v135 : BitVec 32 := Scalar.addi v2 v134
  let c1_i32_129 : BitVec 32 := 1#32
  let v232 : BitVec 32 := Scalar.addi v135 c1_i32_129
  let c8_i32_451 : BitVec 32 := 8#32
  let c0_i32_452 : BitVec 32 := 0#32
  let v793 : BitVec 1 := Scalar.cmpi .eq c8_i32_451 c0_i32_452
  let c1_i32_453 : BitVec 32 := 1#32
  let v794 : BitVec 32 := Scalar.select v793 c1_i32_453 c8_i32_451
  let v795 : BitVec 32 := Scalar.remsi v232 v794
  let c0_i32_455 : BitVec 32 := 0#32
  let v797 : BitVec 1 := Scalar.cmpi .slt v795 c0_i32_455
  let c0_i32_456 : BitVec 32 := 0#32
  let v798 : BitVec 1 := Scalar.cmpi .slt v794 c0_i32_456
  let v799 : BitVec 1 := Scalar.xori v797 v798
  let c0_i32_454 : BitVec 32 := 0#32
  let v796 : BitVec 1 := Scalar.cmpi .ne v795 c0_i32_454
  let v800 : BitVec 1 := Scalar.andi v799 v796
  let v801 : BitVec 32 := Scalar.addi v795 v794
  let v802 : BitVec 32 := Scalar.select v800 v801 v795
  let c0_i32_460 : BitVec 32 := 0#32
  let c0_i32_461 : BitVec 32 := 0#32
  let c0_i32_462 : BitVec 32 := 0#32
  ![v802.toNat, 0, 0, 0]
def k0_mult47 (v2 : BitVec 32) (v5 : BitVec 32) (k0_t2 : Fin (k0_t2_loop v2 v5).trips) : BitVec 32 :=
  let c4_i32_64 : BitVec 32 := 4#32
  let c1_i32_13 : BitVec 32 := 1#32
  let v9 : BitVec 32 := Scalar.subi v5 v2
  let c0_i32_1 : BitVec 32 := 0#32
  let v11 : BitVec 1 := Scalar.cmpi .sgt v9 c0_i32_1
  let v12 : BitVec 32 := Scalar.extui v11
  let c0_i32_2 : BitVec 32 := 0#32
  let v13 : BitVec 1 := Scalar.cmpi .slt v9 c0_i32_2
  let v14 : BitVec 32 := Scalar.extui v13
  let v15 : BitVec 32 := Scalar.subi v12 v14
  let c4_i32 : BitVec 32 := 4#32
  let c0_i32_3 : BitVec 32 := 0#32
  let v16 : BitVec 1 := Scalar.cmpi .sgt c4_i32 c0_i32_3
  let v17 : BitVec 32 := Scalar.extui v16
  let c0_i32_4 : BitVec 32 := 0#32
  let v18 : BitVec 1 := Scalar.cmpi .slt c4_i32 c0_i32_4
  let v19 : BitVec 32 := Scalar.extui v18
  let v20 : BitVec 32 := Scalar.subi v17 v19
  let v21 : BitVec 1 := Scalar.cmpi .ne v15 v20
  let v22 : BitVec 32 := Scalar.remsi v9 c4_i32
  let c0_i32_5 : BitVec 32 := 0#32
  let v23 : BitVec 1 := Scalar.cmpi .ne v22 c0_i32_5
  let v24 : BitVec 1 := Scalar.andi v21 v23
  let v10 : BitVec 32 := Scalar.divsi v9 c4_i32
  let c1_i32_6 : BitVec 32 := 1#32
  let v25 : BitVec 32 := Scalar.subi v10 c1_i32_6
  let v26 : BitVec 32 := Scalar.select v24 v25 v10
  let v35 : BitVec 32 := Scalar.subi v26 c1_i32_13
  let c1_i32_14 : BitVec 32 := 1#32
  let v37 : BitVec 32 := Scalar.divsi v35 c1_i32_14
  let v38 : BitVec 32 := Scalar.muli v37 c1_i32_14
  let v39 : BitVec 32 := Scalar.addi c1_i32_13 v38
  let c1_i32_16 : BitVec 32 := 1#32
  let arg15 : BitVec 32 := Scf.iv v39 c1_i32_16 k0_t2
  let v134 : BitVec 32 := Scalar.muli c4_i32_64 arg15
  let v135 : BitVec 32 := Scalar.addi v2 v134
  let c2_i32_132 : BitVec 32 := 2#32
  let v236 : BitVec 32 := Scalar.addi v135 c2_i32_132
  let c8_i32_450 : BitVec 32 := 8#32
  let v792 : BitVec 32 := Scalar.subi v236 c8_i32_450
  let c256_i32_457 : BitVec 32 := 256#32
  let v803 : BitVec 32 := Scalar.muli v792 c256_i32_457
  v803
def k0_cond30 (v2 : BitVec 32) (v5 : BitVec 32) (k0_t2 : Fin (k0_t2_loop v2 v5).trips) : BitVec 1 :=
  let c4_i32_64 : BitVec 32 := 4#32
  let c1_i32_13 : BitVec 32 := 1#32
  let v9 : BitVec 32 := Scalar.subi v5 v2
  let c0_i32_1 : BitVec 32 := 0#32
  let v11 : BitVec 1 := Scalar.cmpi .sgt v9 c0_i32_1
  let v12 : BitVec 32 := Scalar.extui v11
  let c0_i32_2 : BitVec 32 := 0#32
  let v13 : BitVec 1 := Scalar.cmpi .slt v9 c0_i32_2
  let v14 : BitVec 32 := Scalar.extui v13
  let v15 : BitVec 32 := Scalar.subi v12 v14
  let c4_i32 : BitVec 32 := 4#32
  let c0_i32_3 : BitVec 32 := 0#32
  let v16 : BitVec 1 := Scalar.cmpi .sgt c4_i32 c0_i32_3
  let v17 : BitVec 32 := Scalar.extui v16
  let c0_i32_4 : BitVec 32 := 0#32
  let v18 : BitVec 1 := Scalar.cmpi .slt c4_i32 c0_i32_4
  let v19 : BitVec 32 := Scalar.extui v18
  let v20 : BitVec 32 := Scalar.subi v17 v19
  let v21 : BitVec 1 := Scalar.cmpi .ne v15 v20
  let v22 : BitVec 32 := Scalar.remsi v9 c4_i32
  let c0_i32_5 : BitVec 32 := 0#32
  let v23 : BitVec 1 := Scalar.cmpi .ne v22 c0_i32_5
  let v24 : BitVec 1 := Scalar.andi v21 v23
  let v10 : BitVec 32 := Scalar.divsi v9 c4_i32
  let c1_i32_6 : BitVec 32 := 1#32
  let v25 : BitVec 32 := Scalar.subi v10 c1_i32_6
  let v26 : BitVec 32 := Scalar.select v24 v25 v10
  let v35 : BitVec 32 := Scalar.subi v26 c1_i32_13
  let c1_i32_14 : BitVec 32 := 1#32
  let v37 : BitVec 32 := Scalar.divsi v35 c1_i32_14
  let v38 : BitVec 32 := Scalar.muli v37 c1_i32_14
  let v39 : BitVec 32 := Scalar.addi c1_i32_13 v38
  let c1_i32_16 : BitVec 32 := 1#32
  let arg15 : BitVec 32 := Scf.iv v39 c1_i32_16 k0_t2
  let v134 : BitVec 32 := Scalar.muli c4_i32_64 arg15
  let v135 : BitVec 32 := Scalar.addi v2 v134
  let c2_i32_132 : BitVec 32 := 2#32
  let v236 : BitVec 32 := Scalar.addi v135 c2_i32_132
  let c8_i32_133 : BitVec 32 := 8#32
  let v237 : BitVec 1 := Scalar.cmpi .sge v236 c8_i32_133
  let v238 : BitVec 32 := Scalar.extui v237
  let c0_i32_134 : BitVec 32 := 0#32
  let v239 : BitVec 1 := Scalar.cmpi .ne v238 c0_i32_134
  v239

def k0_off82 (v2 : BitVec 32) (v5 : BitVec 32) (k0_t2 : Fin (k0_t2_loop v2 v5).trips) : Fin 1 → Nat :=
  let c4_i32_64 : BitVec 32 := 4#32
  let c1_i32_13 : BitVec 32 := 1#32
  let v9 : BitVec 32 := Scalar.subi v5 v2
  let c0_i32_1 : BitVec 32 := 0#32
  let v11 : BitVec 1 := Scalar.cmpi .sgt v9 c0_i32_1
  let v12 : BitVec 32 := Scalar.extui v11
  let c0_i32_2 : BitVec 32 := 0#32
  let v13 : BitVec 1 := Scalar.cmpi .slt v9 c0_i32_2
  let v14 : BitVec 32 := Scalar.extui v13
  let v15 : BitVec 32 := Scalar.subi v12 v14
  let c4_i32 : BitVec 32 := 4#32
  let c0_i32_3 : BitVec 32 := 0#32
  let v16 : BitVec 1 := Scalar.cmpi .sgt c4_i32 c0_i32_3
  let v17 : BitVec 32 := Scalar.extui v16
  let c0_i32_4 : BitVec 32 := 0#32
  let v18 : BitVec 1 := Scalar.cmpi .slt c4_i32 c0_i32_4
  let v19 : BitVec 32 := Scalar.extui v18
  let v20 : BitVec 32 := Scalar.subi v17 v19
  let v21 : BitVec 1 := Scalar.cmpi .ne v15 v20
  let v22 : BitVec 32 := Scalar.remsi v9 c4_i32
  let c0_i32_5 : BitVec 32 := 0#32
  let v23 : BitVec 1 := Scalar.cmpi .ne v22 c0_i32_5
  let v24 : BitVec 1 := Scalar.andi v21 v23
  let v10 : BitVec 32 := Scalar.divsi v9 c4_i32
  let c1_i32_6 : BitVec 32 := 1#32
  let v25 : BitVec 32 := Scalar.subi v10 c1_i32_6
  let v26 : BitVec 32 := Scalar.select v24 v25 v10
  let v35 : BitVec 32 := Scalar.subi v26 c1_i32_13
  let c1_i32_14 : BitVec 32 := 1#32
  let v37 : BitVec 32 := Scalar.divsi v35 c1_i32_14
  let v38 : BitVec 32 := Scalar.muli v37 c1_i32_14
  let v39 : BitVec 32 := Scalar.addi c1_i32_13 v38
  let c1_i32_16 : BitVec 32 := 1#32
  let arg15 : BitVec 32 := Scf.iv v39 c1_i32_16 k0_t2
  let v134 : BitVec 32 := Scalar.muli c4_i32_64 arg15
  let v135 : BitVec 32 := Scalar.addi v2 v134
  let c2_i32_132 : BitVec 32 := 2#32
  let v236 : BitVec 32 := Scalar.addi v135 c2_i32_132
  let c8_i32_451 : BitVec 32 := 8#32
  let c0_i32_452 : BitVec 32 := 0#32
  let v793 : BitVec 1 := Scalar.cmpi .eq c8_i32_451 c0_i32_452
  let c1_i32_453 : BitVec 32 := 1#32
  let v794 : BitVec 32 := Scalar.select v793 c1_i32_453 c8_i32_451
  let v795 : BitVec 32 := Scalar.remsi v236 v794
  let c0_i32_455 : BitVec 32 := 0#32
  let v797 : BitVec 1 := Scalar.cmpi .slt v795 c0_i32_455
  let c0_i32_456 : BitVec 32 := 0#32
  let v798 : BitVec 1 := Scalar.cmpi .slt v794 c0_i32_456
  let v799 : BitVec 1 := Scalar.xori v797 v798
  let c0_i32_454 : BitVec 32 := 0#32
  let v796 : BitVec 1 := Scalar.cmpi .ne v795 c0_i32_454
  let v800 : BitVec 1 := Scalar.andi v799 v796
  let v801 : BitVec 32 := Scalar.addi v795 v794
  let v802 : BitVec 32 := Scalar.select v800 v801 v795
  ![v802.toNat]
def k0_off83 (v2 : BitVec 32) (v5 : BitVec 32) (k0_t2 : Fin (k0_t2_loop v2 v5).trips) : Fin 3 → Nat :=
  let c0_i32_458 : BitVec 32 := 0#32
  let c4_i32_64 : BitVec 32 := 4#32
  let c1_i32_13 : BitVec 32 := 1#32
  let v9 : BitVec 32 := Scalar.subi v5 v2
  let c0_i32_1 : BitVec 32 := 0#32
  let v11 : BitVec 1 := Scalar.cmpi .sgt v9 c0_i32_1
  let v12 : BitVec 32 := Scalar.extui v11
  let c0_i32_2 : BitVec 32 := 0#32
  let v13 : BitVec 1 := Scalar.cmpi .slt v9 c0_i32_2
  let v14 : BitVec 32 := Scalar.extui v13
  let v15 : BitVec 32 := Scalar.subi v12 v14
  let c4_i32 : BitVec 32 := 4#32
  let c0_i32_3 : BitVec 32 := 0#32
  let v16 : BitVec 1 := Scalar.cmpi .sgt c4_i32 c0_i32_3
  let v17 : BitVec 32 := Scalar.extui v16
  let c0_i32_4 : BitVec 32 := 0#32
  let v18 : BitVec 1 := Scalar.cmpi .slt c4_i32 c0_i32_4
  let v19 : BitVec 32 := Scalar.extui v18
  let v20 : BitVec 32 := Scalar.subi v17 v19
  let v21 : BitVec 1 := Scalar.cmpi .ne v15 v20
  let v22 : BitVec 32 := Scalar.remsi v9 c4_i32
  let c0_i32_5 : BitVec 32 := 0#32
  let v23 : BitVec 1 := Scalar.cmpi .ne v22 c0_i32_5
  let v24 : BitVec 1 := Scalar.andi v21 v23
  let v10 : BitVec 32 := Scalar.divsi v9 c4_i32
  let c1_i32_6 : BitVec 32 := 1#32
  let v25 : BitVec 32 := Scalar.subi v10 c1_i32_6
  let v26 : BitVec 32 := Scalar.select v24 v25 v10
  let v35 : BitVec 32 := Scalar.subi v26 c1_i32_13
  let c1_i32_14 : BitVec 32 := 1#32
  let v37 : BitVec 32 := Scalar.divsi v35 c1_i32_14
  let v38 : BitVec 32 := Scalar.muli v37 c1_i32_14
  let v39 : BitVec 32 := Scalar.addi c1_i32_13 v38
  let c1_i32_16 : BitVec 32 := 1#32
  let arg15 : BitVec 32 := Scf.iv v39 c1_i32_16 k0_t2
  let v134 : BitVec 32 := Scalar.muli c4_i32_64 arg15
  let v135 : BitVec 32 := Scalar.addi v2 v134
  let c2_i32_132 : BitVec 32 := 2#32
  let v236 : BitVec 32 := Scalar.addi v135 c2_i32_132
  let c8_i32_450 : BitVec 32 := 8#32
  let v792 : BitVec 32 := Scalar.subi v236 c8_i32_450
  let c256_i32_457 : BitVec 32 := 256#32
  let v803 : BitVec 32 := Scalar.muli v792 c256_i32_457
  let v804 : BitVec 32 := v803
  let c0_i32_459 : BitVec 32 := 0#32
  ![0, v804.toNat, 0]
def k0_off84 (v2 : BitVec 32) (v5 : BitVec 32) (k0_t2 : Fin (k0_t2_loop v2 v5).trips) : Fin 4 → Nat :=
  let c4_i32_64 : BitVec 32 := 4#32
  let c1_i32_13 : BitVec 32 := 1#32
  let v9 : BitVec 32 := Scalar.subi v5 v2
  let c0_i32_1 : BitVec 32 := 0#32
  let v11 : BitVec 1 := Scalar.cmpi .sgt v9 c0_i32_1
  let v12 : BitVec 32 := Scalar.extui v11
  let c0_i32_2 : BitVec 32 := 0#32
  let v13 : BitVec 1 := Scalar.cmpi .slt v9 c0_i32_2
  let v14 : BitVec 32 := Scalar.extui v13
  let v15 : BitVec 32 := Scalar.subi v12 v14
  let c4_i32 : BitVec 32 := 4#32
  let c0_i32_3 : BitVec 32 := 0#32
  let v16 : BitVec 1 := Scalar.cmpi .sgt c4_i32 c0_i32_3
  let v17 : BitVec 32 := Scalar.extui v16
  let c0_i32_4 : BitVec 32 := 0#32
  let v18 : BitVec 1 := Scalar.cmpi .slt c4_i32 c0_i32_4
  let v19 : BitVec 32 := Scalar.extui v18
  let v20 : BitVec 32 := Scalar.subi v17 v19
  let v21 : BitVec 1 := Scalar.cmpi .ne v15 v20
  let v22 : BitVec 32 := Scalar.remsi v9 c4_i32
  let c0_i32_5 : BitVec 32 := 0#32
  let v23 : BitVec 1 := Scalar.cmpi .ne v22 c0_i32_5
  let v24 : BitVec 1 := Scalar.andi v21 v23
  let v10 : BitVec 32 := Scalar.divsi v9 c4_i32
  let c1_i32_6 : BitVec 32 := 1#32
  let v25 : BitVec 32 := Scalar.subi v10 c1_i32_6
  let v26 : BitVec 32 := Scalar.select v24 v25 v10
  let v35 : BitVec 32 := Scalar.subi v26 c1_i32_13
  let c1_i32_14 : BitVec 32 := 1#32
  let v37 : BitVec 32 := Scalar.divsi v35 c1_i32_14
  let v38 : BitVec 32 := Scalar.muli v37 c1_i32_14
  let v39 : BitVec 32 := Scalar.addi c1_i32_13 v38
  let c1_i32_16 : BitVec 32 := 1#32
  let arg15 : BitVec 32 := Scf.iv v39 c1_i32_16 k0_t2
  let v134 : BitVec 32 := Scalar.muli c4_i32_64 arg15
  let v135 : BitVec 32 := Scalar.addi v2 v134
  let c2_i32_132 : BitVec 32 := 2#32
  let v236 : BitVec 32 := Scalar.addi v135 c2_i32_132
  let c8_i32_451 : BitVec 32 := 8#32
  let c0_i32_452 : BitVec 32 := 0#32
  let v793 : BitVec 1 := Scalar.cmpi .eq c8_i32_451 c0_i32_452
  let c1_i32_453 : BitVec 32 := 1#32
  let v794 : BitVec 32 := Scalar.select v793 c1_i32_453 c8_i32_451
  let v795 : BitVec 32 := Scalar.remsi v236 v794
  let c0_i32_455 : BitVec 32 := 0#32
  let v797 : BitVec 1 := Scalar.cmpi .slt v795 c0_i32_455
  let c0_i32_456 : BitVec 32 := 0#32
  let v798 : BitVec 1 := Scalar.cmpi .slt v794 c0_i32_456
  let v799 : BitVec 1 := Scalar.xori v797 v798
  let c0_i32_454 : BitVec 32 := 0#32
  let v796 : BitVec 1 := Scalar.cmpi .ne v795 c0_i32_454
  let v800 : BitVec 1 := Scalar.andi v799 v796
  let v801 : BitVec 32 := Scalar.addi v795 v794
  let v802 : BitVec 32 := Scalar.select v800 v801 v795
  let c0_i32_460 : BitVec 32 := 0#32
  let c0_i32_461 : BitVec 32 := 0#32
  let c0_i32_462 : BitVec 32 := 0#32
  ![v802.toNat, 0, 0, 0]
def k0_mult48 (v2 : BitVec 32) (v5 : BitVec 32) (k0_t2 : Fin (k0_t2_loop v2 v5).trips) : BitVec 32 :=
  let c4_i32_64 : BitVec 32 := 4#32
  let c1_i32_13 : BitVec 32 := 1#32
  let v9 : BitVec 32 := Scalar.subi v5 v2
  let c0_i32_1 : BitVec 32 := 0#32
  let v11 : BitVec 1 := Scalar.cmpi .sgt v9 c0_i32_1
  let v12 : BitVec 32 := Scalar.extui v11
  let c0_i32_2 : BitVec 32 := 0#32
  let v13 : BitVec 1 := Scalar.cmpi .slt v9 c0_i32_2
  let v14 : BitVec 32 := Scalar.extui v13
  let v15 : BitVec 32 := Scalar.subi v12 v14
  let c4_i32 : BitVec 32 := 4#32
  let c0_i32_3 : BitVec 32 := 0#32
  let v16 : BitVec 1 := Scalar.cmpi .sgt c4_i32 c0_i32_3
  let v17 : BitVec 32 := Scalar.extui v16
  let c0_i32_4 : BitVec 32 := 0#32
  let v18 : BitVec 1 := Scalar.cmpi .slt c4_i32 c0_i32_4
  let v19 : BitVec 32 := Scalar.extui v18
  let v20 : BitVec 32 := Scalar.subi v17 v19
  let v21 : BitVec 1 := Scalar.cmpi .ne v15 v20
  let v22 : BitVec 32 := Scalar.remsi v9 c4_i32
  let c0_i32_5 : BitVec 32 := 0#32
  let v23 : BitVec 1 := Scalar.cmpi .ne v22 c0_i32_5
  let v24 : BitVec 1 := Scalar.andi v21 v23
  let v10 : BitVec 32 := Scalar.divsi v9 c4_i32
  let c1_i32_6 : BitVec 32 := 1#32
  let v25 : BitVec 32 := Scalar.subi v10 c1_i32_6
  let v26 : BitVec 32 := Scalar.select v24 v25 v10
  let v35 : BitVec 32 := Scalar.subi v26 c1_i32_13
  let c1_i32_14 : BitVec 32 := 1#32
  let v37 : BitVec 32 := Scalar.divsi v35 c1_i32_14
  let v38 : BitVec 32 := Scalar.muli v37 c1_i32_14
  let v39 : BitVec 32 := Scalar.addi c1_i32_13 v38
  let c1_i32_16 : BitVec 32 := 1#32
  let arg15 : BitVec 32 := Scf.iv v39 c1_i32_16 k0_t2
  let v134 : BitVec 32 := Scalar.muli c4_i32_64 arg15
  let v135 : BitVec 32 := Scalar.addi v2 v134
  let c3_i32_135 : BitVec 32 := 3#32
  let v240 : BitVec 32 := Scalar.addi v135 c3_i32_135
  let c8_i32_450 : BitVec 32 := 8#32
  let v792 : BitVec 32 := Scalar.subi v240 c8_i32_450
  let c256_i32_457 : BitVec 32 := 256#32
  let v803 : BitVec 32 := Scalar.muli v792 c256_i32_457
  v803
def k0_cond31 (v2 : BitVec 32) (v5 : BitVec 32) (k0_t2 : Fin (k0_t2_loop v2 v5).trips) : BitVec 1 :=
  let c4_i32_64 : BitVec 32 := 4#32
  let c1_i32_13 : BitVec 32 := 1#32
  let v9 : BitVec 32 := Scalar.subi v5 v2
  let c0_i32_1 : BitVec 32 := 0#32
  let v11 : BitVec 1 := Scalar.cmpi .sgt v9 c0_i32_1
  let v12 : BitVec 32 := Scalar.extui v11
  let c0_i32_2 : BitVec 32 := 0#32
  let v13 : BitVec 1 := Scalar.cmpi .slt v9 c0_i32_2
  let v14 : BitVec 32 := Scalar.extui v13
  let v15 : BitVec 32 := Scalar.subi v12 v14
  let c4_i32 : BitVec 32 := 4#32
  let c0_i32_3 : BitVec 32 := 0#32
  let v16 : BitVec 1 := Scalar.cmpi .sgt c4_i32 c0_i32_3
  let v17 : BitVec 32 := Scalar.extui v16
  let c0_i32_4 : BitVec 32 := 0#32
  let v18 : BitVec 1 := Scalar.cmpi .slt c4_i32 c0_i32_4
  let v19 : BitVec 32 := Scalar.extui v18
  let v20 : BitVec 32 := Scalar.subi v17 v19
  let v21 : BitVec 1 := Scalar.cmpi .ne v15 v20
  let v22 : BitVec 32 := Scalar.remsi v9 c4_i32
  let c0_i32_5 : BitVec 32 := 0#32
  let v23 : BitVec 1 := Scalar.cmpi .ne v22 c0_i32_5
  let v24 : BitVec 1 := Scalar.andi v21 v23
  let v10 : BitVec 32 := Scalar.divsi v9 c4_i32
  let c1_i32_6 : BitVec 32 := 1#32
  let v25 : BitVec 32 := Scalar.subi v10 c1_i32_6
  let v26 : BitVec 32 := Scalar.select v24 v25 v10
  let v35 : BitVec 32 := Scalar.subi v26 c1_i32_13
  let c1_i32_14 : BitVec 32 := 1#32
  let v37 : BitVec 32 := Scalar.divsi v35 c1_i32_14
  let v38 : BitVec 32 := Scalar.muli v37 c1_i32_14
  let v39 : BitVec 32 := Scalar.addi c1_i32_13 v38
  let c1_i32_16 : BitVec 32 := 1#32
  let arg15 : BitVec 32 := Scf.iv v39 c1_i32_16 k0_t2
  let v134 : BitVec 32 := Scalar.muli c4_i32_64 arg15
  let v135 : BitVec 32 := Scalar.addi v2 v134
  let c3_i32_135 : BitVec 32 := 3#32
  let v240 : BitVec 32 := Scalar.addi v135 c3_i32_135
  let c8_i32_136 : BitVec 32 := 8#32
  let v241 : BitVec 1 := Scalar.cmpi .sge v240 c8_i32_136
  let v242 : BitVec 32 := Scalar.extui v241
  let c0_i32_137 : BitVec 32 := 0#32
  let v243 : BitVec 1 := Scalar.cmpi .ne v242 c0_i32_137
  v243

def k0_off85 (v2 : BitVec 32) (v5 : BitVec 32) (k0_t2 : Fin (k0_t2_loop v2 v5).trips) : Fin 1 → Nat :=
  let c4_i32_64 : BitVec 32 := 4#32
  let c1_i32_13 : BitVec 32 := 1#32
  let v9 : BitVec 32 := Scalar.subi v5 v2
  let c0_i32_1 : BitVec 32 := 0#32
  let v11 : BitVec 1 := Scalar.cmpi .sgt v9 c0_i32_1
  let v12 : BitVec 32 := Scalar.extui v11
  let c0_i32_2 : BitVec 32 := 0#32
  let v13 : BitVec 1 := Scalar.cmpi .slt v9 c0_i32_2
  let v14 : BitVec 32 := Scalar.extui v13
  let v15 : BitVec 32 := Scalar.subi v12 v14
  let c4_i32 : BitVec 32 := 4#32
  let c0_i32_3 : BitVec 32 := 0#32
  let v16 : BitVec 1 := Scalar.cmpi .sgt c4_i32 c0_i32_3
  let v17 : BitVec 32 := Scalar.extui v16
  let c0_i32_4 : BitVec 32 := 0#32
  let v18 : BitVec 1 := Scalar.cmpi .slt c4_i32 c0_i32_4
  let v19 : BitVec 32 := Scalar.extui v18
  let v20 : BitVec 32 := Scalar.subi v17 v19
  let v21 : BitVec 1 := Scalar.cmpi .ne v15 v20
  let v22 : BitVec 32 := Scalar.remsi v9 c4_i32
  let c0_i32_5 : BitVec 32 := 0#32
  let v23 : BitVec 1 := Scalar.cmpi .ne v22 c0_i32_5
  let v24 : BitVec 1 := Scalar.andi v21 v23
  let v10 : BitVec 32 := Scalar.divsi v9 c4_i32
  let c1_i32_6 : BitVec 32 := 1#32
  let v25 : BitVec 32 := Scalar.subi v10 c1_i32_6
  let v26 : BitVec 32 := Scalar.select v24 v25 v10
  let v35 : BitVec 32 := Scalar.subi v26 c1_i32_13
  let c1_i32_14 : BitVec 32 := 1#32
  let v37 : BitVec 32 := Scalar.divsi v35 c1_i32_14
  let v38 : BitVec 32 := Scalar.muli v37 c1_i32_14
  let v39 : BitVec 32 := Scalar.addi c1_i32_13 v38
  let c1_i32_16 : BitVec 32 := 1#32
  let arg15 : BitVec 32 := Scf.iv v39 c1_i32_16 k0_t2
  let v134 : BitVec 32 := Scalar.muli c4_i32_64 arg15
  let v135 : BitVec 32 := Scalar.addi v2 v134
  let c3_i32_135 : BitVec 32 := 3#32
  let v240 : BitVec 32 := Scalar.addi v135 c3_i32_135
  let c8_i32_451 : BitVec 32 := 8#32
  let c0_i32_452 : BitVec 32 := 0#32
  let v793 : BitVec 1 := Scalar.cmpi .eq c8_i32_451 c0_i32_452
  let c1_i32_453 : BitVec 32 := 1#32
  let v794 : BitVec 32 := Scalar.select v793 c1_i32_453 c8_i32_451
  let v795 : BitVec 32 := Scalar.remsi v240 v794
  let c0_i32_455 : BitVec 32 := 0#32
  let v797 : BitVec 1 := Scalar.cmpi .slt v795 c0_i32_455
  let c0_i32_456 : BitVec 32 := 0#32
  let v798 : BitVec 1 := Scalar.cmpi .slt v794 c0_i32_456
  let v799 : BitVec 1 := Scalar.xori v797 v798
  let c0_i32_454 : BitVec 32 := 0#32
  let v796 : BitVec 1 := Scalar.cmpi .ne v795 c0_i32_454
  let v800 : BitVec 1 := Scalar.andi v799 v796
  let v801 : BitVec 32 := Scalar.addi v795 v794
  let v802 : BitVec 32 := Scalar.select v800 v801 v795
  ![v802.toNat]
def k0_off86 (v2 : BitVec 32) (v5 : BitVec 32) (k0_t2 : Fin (k0_t2_loop v2 v5).trips) : Fin 3 → Nat :=
  let c0_i32_458 : BitVec 32 := 0#32
  let c4_i32_64 : BitVec 32 := 4#32
  let c1_i32_13 : BitVec 32 := 1#32
  let v9 : BitVec 32 := Scalar.subi v5 v2
  let c0_i32_1 : BitVec 32 := 0#32
  let v11 : BitVec 1 := Scalar.cmpi .sgt v9 c0_i32_1
  let v12 : BitVec 32 := Scalar.extui v11
  let c0_i32_2 : BitVec 32 := 0#32
  let v13 : BitVec 1 := Scalar.cmpi .slt v9 c0_i32_2
  let v14 : BitVec 32 := Scalar.extui v13
  let v15 : BitVec 32 := Scalar.subi v12 v14
  let c4_i32 : BitVec 32 := 4#32
  let c0_i32_3 : BitVec 32 := 0#32
  let v16 : BitVec 1 := Scalar.cmpi .sgt c4_i32 c0_i32_3
  let v17 : BitVec 32 := Scalar.extui v16
  let c0_i32_4 : BitVec 32 := 0#32
  let v18 : BitVec 1 := Scalar.cmpi .slt c4_i32 c0_i32_4
  let v19 : BitVec 32 := Scalar.extui v18
  let v20 : BitVec 32 := Scalar.subi v17 v19
  let v21 : BitVec 1 := Scalar.cmpi .ne v15 v20
  let v22 : BitVec 32 := Scalar.remsi v9 c4_i32
  let c0_i32_5 : BitVec 32 := 0#32
  let v23 : BitVec 1 := Scalar.cmpi .ne v22 c0_i32_5
  let v24 : BitVec 1 := Scalar.andi v21 v23
  let v10 : BitVec 32 := Scalar.divsi v9 c4_i32
  let c1_i32_6 : BitVec 32 := 1#32
  let v25 : BitVec 32 := Scalar.subi v10 c1_i32_6
  let v26 : BitVec 32 := Scalar.select v24 v25 v10
  let v35 : BitVec 32 := Scalar.subi v26 c1_i32_13
  let c1_i32_14 : BitVec 32 := 1#32
  let v37 : BitVec 32 := Scalar.divsi v35 c1_i32_14
  let v38 : BitVec 32 := Scalar.muli v37 c1_i32_14
  let v39 : BitVec 32 := Scalar.addi c1_i32_13 v38
  let c1_i32_16 : BitVec 32 := 1#32
  let arg15 : BitVec 32 := Scf.iv v39 c1_i32_16 k0_t2
  let v134 : BitVec 32 := Scalar.muli c4_i32_64 arg15
  let v135 : BitVec 32 := Scalar.addi v2 v134
  let c3_i32_135 : BitVec 32 := 3#32
  let v240 : BitVec 32 := Scalar.addi v135 c3_i32_135
  let c8_i32_450 : BitVec 32 := 8#32
  let v792 : BitVec 32 := Scalar.subi v240 c8_i32_450
  let c256_i32_457 : BitVec 32 := 256#32
  let v803 : BitVec 32 := Scalar.muli v792 c256_i32_457
  let v804 : BitVec 32 := v803
  let c0_i32_459 : BitVec 32 := 0#32
  ![0, v804.toNat, 0]
def k0_off87 (v2 : BitVec 32) (v5 : BitVec 32) (k0_t2 : Fin (k0_t2_loop v2 v5).trips) : Fin 4 → Nat :=
  let c4_i32_64 : BitVec 32 := 4#32
  let c1_i32_13 : BitVec 32 := 1#32
  let v9 : BitVec 32 := Scalar.subi v5 v2
  let c0_i32_1 : BitVec 32 := 0#32
  let v11 : BitVec 1 := Scalar.cmpi .sgt v9 c0_i32_1
  let v12 : BitVec 32 := Scalar.extui v11
  let c0_i32_2 : BitVec 32 := 0#32
  let v13 : BitVec 1 := Scalar.cmpi .slt v9 c0_i32_2
  let v14 : BitVec 32 := Scalar.extui v13
  let v15 : BitVec 32 := Scalar.subi v12 v14
  let c4_i32 : BitVec 32 := 4#32
  let c0_i32_3 : BitVec 32 := 0#32
  let v16 : BitVec 1 := Scalar.cmpi .sgt c4_i32 c0_i32_3
  let v17 : BitVec 32 := Scalar.extui v16
  let c0_i32_4 : BitVec 32 := 0#32
  let v18 : BitVec 1 := Scalar.cmpi .slt c4_i32 c0_i32_4
  let v19 : BitVec 32 := Scalar.extui v18
  let v20 : BitVec 32 := Scalar.subi v17 v19
  let v21 : BitVec 1 := Scalar.cmpi .ne v15 v20
  let v22 : BitVec 32 := Scalar.remsi v9 c4_i32
  let c0_i32_5 : BitVec 32 := 0#32
  let v23 : BitVec 1 := Scalar.cmpi .ne v22 c0_i32_5
  let v24 : BitVec 1 := Scalar.andi v21 v23
  let v10 : BitVec 32 := Scalar.divsi v9 c4_i32
  let c1_i32_6 : BitVec 32 := 1#32
  let v25 : BitVec 32 := Scalar.subi v10 c1_i32_6
  let v26 : BitVec 32 := Scalar.select v24 v25 v10
  let v35 : BitVec 32 := Scalar.subi v26 c1_i32_13
  let c1_i32_14 : BitVec 32 := 1#32
  let v37 : BitVec 32 := Scalar.divsi v35 c1_i32_14
  let v38 : BitVec 32 := Scalar.muli v37 c1_i32_14
  let v39 : BitVec 32 := Scalar.addi c1_i32_13 v38
  let c1_i32_16 : BitVec 32 := 1#32
  let arg15 : BitVec 32 := Scf.iv v39 c1_i32_16 k0_t2
  let v134 : BitVec 32 := Scalar.muli c4_i32_64 arg15
  let v135 : BitVec 32 := Scalar.addi v2 v134
  let c3_i32_135 : BitVec 32 := 3#32
  let v240 : BitVec 32 := Scalar.addi v135 c3_i32_135
  let c8_i32_451 : BitVec 32 := 8#32
  let c0_i32_452 : BitVec 32 := 0#32
  let v793 : BitVec 1 := Scalar.cmpi .eq c8_i32_451 c0_i32_452
  let c1_i32_453 : BitVec 32 := 1#32
  let v794 : BitVec 32 := Scalar.select v793 c1_i32_453 c8_i32_451
  let v795 : BitVec 32 := Scalar.remsi v240 v794
  let c0_i32_455 : BitVec 32 := 0#32
  let v797 : BitVec 1 := Scalar.cmpi .slt v795 c0_i32_455
  let c0_i32_456 : BitVec 32 := 0#32
  let v798 : BitVec 1 := Scalar.cmpi .slt v794 c0_i32_456
  let v799 : BitVec 1 := Scalar.xori v797 v798
  let c0_i32_454 : BitVec 32 := 0#32
  let v796 : BitVec 1 := Scalar.cmpi .ne v795 c0_i32_454
  let v800 : BitVec 1 := Scalar.andi v799 v796
  let v801 : BitVec 32 := Scalar.addi v795 v794
  let v802 : BitVec 32 := Scalar.select v800 v801 v795
  let c0_i32_460 : BitVec 32 := 0#32
  let c0_i32_461 : BitVec 32 := 0#32
  let c0_i32_462 : BitVec 32 := 0#32
  ![v802.toNat, 0, 0, 0]
def k0_off88 (v2 : BitVec 32) (v5 : BitVec 32) (k0_t2 : Fin (k0_t2_loop v2 v5).trips) (c0_i32_138 : BitVec 32) : Fin 4 → Nat :=
  let c4_i32_64 : BitVec 32 := 4#32
  let c1_i32_13 : BitVec 32 := 1#32
  let v9 : BitVec 32 := Scalar.subi v5 v2
  let c0_i32_1 : BitVec 32 := 0#32
  let v11 : BitVec 1 := Scalar.cmpi .sgt v9 c0_i32_1
  let v12 : BitVec 32 := Scalar.extui v11
  let c0_i32_2 : BitVec 32 := 0#32
  let v13 : BitVec 1 := Scalar.cmpi .slt v9 c0_i32_2
  let v14 : BitVec 32 := Scalar.extui v13
  let v15 : BitVec 32 := Scalar.subi v12 v14
  let c4_i32 : BitVec 32 := 4#32
  let c0_i32_3 : BitVec 32 := 0#32
  let v16 : BitVec 1 := Scalar.cmpi .sgt c4_i32 c0_i32_3
  let v17 : BitVec 32 := Scalar.extui v16
  let c0_i32_4 : BitVec 32 := 0#32
  let v18 : BitVec 1 := Scalar.cmpi .slt c4_i32 c0_i32_4
  let v19 : BitVec 32 := Scalar.extui v18
  let v20 : BitVec 32 := Scalar.subi v17 v19
  let v21 : BitVec 1 := Scalar.cmpi .ne v15 v20
  let v22 : BitVec 32 := Scalar.remsi v9 c4_i32
  let c0_i32_5 : BitVec 32 := 0#32
  let v23 : BitVec 1 := Scalar.cmpi .ne v22 c0_i32_5
  let v24 : BitVec 1 := Scalar.andi v21 v23
  let v10 : BitVec 32 := Scalar.divsi v9 c4_i32
  let c1_i32_6 : BitVec 32 := 1#32
  let v25 : BitVec 32 := Scalar.subi v10 c1_i32_6
  let v26 : BitVec 32 := Scalar.select v24 v25 v10
  let v35 : BitVec 32 := Scalar.subi v26 c1_i32_13
  let c1_i32_14 : BitVec 32 := 1#32
  let v37 : BitVec 32 := Scalar.divsi v35 c1_i32_14
  let v38 : BitVec 32 := Scalar.muli v37 c1_i32_14
  let v39 : BitVec 32 := Scalar.addi c1_i32_13 v38
  let c1_i32_16 : BitVec 32 := 1#32
  let arg15 : BitVec 32 := Scf.iv v39 c1_i32_16 k0_t2
  let v134 : BitVec 32 := Scalar.muli c4_i32_64 arg15
  let v135 : BitVec 32 := Scalar.addi v2 v134
  let v244 : BitVec 32 := Scalar.addi v135 c0_i32_138
  let c8_i32_139 : BitVec 32 := 8#32
  let c0_i32_140 : BitVec 32 := 0#32
  let v245 : BitVec 1 := Scalar.cmpi .eq c8_i32_139 c0_i32_140
  let c1_i32_141 : BitVec 32 := 1#32
  let v246 : BitVec 32 := Scalar.select v245 c1_i32_141 c8_i32_139
  let v247 : BitVec 32 := Scalar.remsi v244 v246
  let c0_i32_143 : BitVec 32 := 0#32
  let v249 : BitVec 1 := Scalar.cmpi .slt v247 c0_i32_143
  let c0_i32_144 : BitVec 32 := 0#32
  let v250 : BitVec 1 := Scalar.cmpi .slt v246 c0_i32_144
  let v251 : BitVec 1 := Scalar.xori v249 v250
  let c0_i32_142 : BitVec 32 := 0#32
  let v248 : BitVec 1 := Scalar.cmpi .ne v247 c0_i32_142
  let v252 : BitVec 1 := Scalar.andi v251 v248
  let v253 : BitVec 32 := Scalar.addi v247 v246
  let v254 : BitVec 32 := Scalar.select v252 v253 v247
  let v255 : Index := Scalar.indexCast v254
  let c0_145 : Index := 0#32
  let c0_146 : Index := 0#32
  let c0_147 : Index := 0#32
  ![v255.toNat, 0, 0, 0]
def k0_off89 (v2 : BitVec 32) (v5 : BitVec 32) (k0_t2 : Fin (k0_t2_loop v2 v5).trips) (c0_i32_138 : BitVec 32) : Fin 4 → Nat :=
  let c4_i32_64 : BitVec 32 := 4#32
  let c1_i32_13 : BitVec 32 := 1#32
  let v9 : BitVec 32 := Scalar.subi v5 v2
  let c0_i32_1 : BitVec 32 := 0#32
  let v11 : BitVec 1 := Scalar.cmpi .sgt v9 c0_i32_1
  let v12 : BitVec 32 := Scalar.extui v11
  let c0_i32_2 : BitVec 32 := 0#32
  let v13 : BitVec 1 := Scalar.cmpi .slt v9 c0_i32_2
  let v14 : BitVec 32 := Scalar.extui v13
  let v15 : BitVec 32 := Scalar.subi v12 v14
  let c4_i32 : BitVec 32 := 4#32
  let c0_i32_3 : BitVec 32 := 0#32
  let v16 : BitVec 1 := Scalar.cmpi .sgt c4_i32 c0_i32_3
  let v17 : BitVec 32 := Scalar.extui v16
  let c0_i32_4 : BitVec 32 := 0#32
  let v18 : BitVec 1 := Scalar.cmpi .slt c4_i32 c0_i32_4
  let v19 : BitVec 32 := Scalar.extui v18
  let v20 : BitVec 32 := Scalar.subi v17 v19
  let v21 : BitVec 1 := Scalar.cmpi .ne v15 v20
  let v22 : BitVec 32 := Scalar.remsi v9 c4_i32
  let c0_i32_5 : BitVec 32 := 0#32
  let v23 : BitVec 1 := Scalar.cmpi .ne v22 c0_i32_5
  let v24 : BitVec 1 := Scalar.andi v21 v23
  let v10 : BitVec 32 := Scalar.divsi v9 c4_i32
  let c1_i32_6 : BitVec 32 := 1#32
  let v25 : BitVec 32 := Scalar.subi v10 c1_i32_6
  let v26 : BitVec 32 := Scalar.select v24 v25 v10
  let v35 : BitVec 32 := Scalar.subi v26 c1_i32_13
  let c1_i32_14 : BitVec 32 := 1#32
  let v37 : BitVec 32 := Scalar.divsi v35 c1_i32_14
  let v38 : BitVec 32 := Scalar.muli v37 c1_i32_14
  let v39 : BitVec 32 := Scalar.addi c1_i32_13 v38
  let c1_i32_16 : BitVec 32 := 1#32
  let arg15 : BitVec 32 := Scf.iv v39 c1_i32_16 k0_t2
  let v134 : BitVec 32 := Scalar.muli c4_i32_64 arg15
  let v135 : BitVec 32 := Scalar.addi v2 v134
  let v244 : BitVec 32 := Scalar.addi v135 c0_i32_138
  let c8_i32_148 : BitVec 32 := 8#32
  let c0_i32_149 : BitVec 32 := 0#32
  let v258 : BitVec 1 := Scalar.cmpi .eq c8_i32_148 c0_i32_149
  let c1_i32_150 : BitVec 32 := 1#32
  let v259 : BitVec 32 := Scalar.select v258 c1_i32_150 c8_i32_148
  let v260 : BitVec 32 := Scalar.remsi v244 v259
  let c0_i32_152 : BitVec 32 := 0#32
  let v262 : BitVec 1 := Scalar.cmpi .slt v260 c0_i32_152
  let c0_i32_153 : BitVec 32 := 0#32
  let v263 : BitVec 1 := Scalar.cmpi .slt v259 c0_i32_153
  let v264 : BitVec 1 := Scalar.xori v262 v263
  let c0_i32_151 : BitVec 32 := 0#32
  let v261 : BitVec 1 := Scalar.cmpi .ne v260 c0_i32_151
  let v265 : BitVec 1 := Scalar.andi v264 v261
  let v266 : BitVec 32 := Scalar.addi v260 v259
  let v267 : BitVec 32 := Scalar.select v265 v266 v260
  let v268 : Index := Scalar.indexCast v267
  let c1 : Index := 1#32
  let c0_154 : Index := 0#32
  let c0_155 : Index := 0#32
  ![v268.toNat, 1, 0, 0]
def k0_mult49 (v2 : BitVec 32) (v5 : BitVec 32) (k0_t2 : Fin (k0_t2_loop v2 v5).trips) : BitVec 32 :=
  let c4_i32_64 : BitVec 32 := 4#32
  let c1_i32_13 : BitVec 32 := 1#32
  let v9 : BitVec 32 := Scalar.subi v5 v2
  let c0_i32_1 : BitVec 32 := 0#32
  let v11 : BitVec 1 := Scalar.cmpi .sgt v9 c0_i32_1
  let v12 : BitVec 32 := Scalar.extui v11
  let c0_i32_2 : BitVec 32 := 0#32
  let v13 : BitVec 1 := Scalar.cmpi .slt v9 c0_i32_2
  let v14 : BitVec 32 := Scalar.extui v13
  let v15 : BitVec 32 := Scalar.subi v12 v14
  let c4_i32 : BitVec 32 := 4#32
  let c0_i32_3 : BitVec 32 := 0#32
  let v16 : BitVec 1 := Scalar.cmpi .sgt c4_i32 c0_i32_3
  let v17 : BitVec 32 := Scalar.extui v16
  let c0_i32_4 : BitVec 32 := 0#32
  let v18 : BitVec 1 := Scalar.cmpi .slt c4_i32 c0_i32_4
  let v19 : BitVec 32 := Scalar.extui v18
  let v20 : BitVec 32 := Scalar.subi v17 v19
  let v21 : BitVec 1 := Scalar.cmpi .ne v15 v20
  let v22 : BitVec 32 := Scalar.remsi v9 c4_i32
  let c0_i32_5 : BitVec 32 := 0#32
  let v23 : BitVec 1 := Scalar.cmpi .ne v22 c0_i32_5
  let v24 : BitVec 1 := Scalar.andi v21 v23
  let v10 : BitVec 32 := Scalar.divsi v9 c4_i32
  let c1_i32_6 : BitVec 32 := 1#32
  let v25 : BitVec 32 := Scalar.subi v10 c1_i32_6
  let v26 : BitVec 32 := Scalar.select v24 v25 v10
  let v35 : BitVec 32 := Scalar.subi v26 c1_i32_13
  let c1_i32_14 : BitVec 32 := 1#32
  let v37 : BitVec 32 := Scalar.divsi v35 c1_i32_14
  let v38 : BitVec 32 := Scalar.muli v37 c1_i32_14
  let v39 : BitVec 32 := Scalar.addi c1_i32_13 v38
  let c1_i32_16 : BitVec 32 := 1#32
  let arg15 : BitVec 32 := Scf.iv v39 c1_i32_16 k0_t2
  let v134 : BitVec 32 := Scalar.muli c4_i32_64 arg15
  let v135 : BitVec 32 := Scalar.addi v2 v134
  let c0_i32_374 : BitVec 32 := 0#32
  let v680 : BitVec 32 := Scalar.addi v135 c0_i32_374
  let c256_i32_375 : BitVec 32 := 256#32
  let v681 : BitVec 32 := Scalar.muli v680 c256_i32_375
  v681
def k0_mult50 (v2 : BitVec 32) (v5 : BitVec 32) (k0_t2 : Fin (k0_t2_loop v2 v5).trips) : BitVec 32 :=
  let c4_i32_64 : BitVec 32 := 4#32
  let c1_i32_13 : BitVec 32 := 1#32
  let v9 : BitVec 32 := Scalar.subi v5 v2
  let c0_i32_1 : BitVec 32 := 0#32
  let v11 : BitVec 1 := Scalar.cmpi .sgt v9 c0_i32_1
  let v12 : BitVec 32 := Scalar.extui v11
  let c0_i32_2 : BitVec 32 := 0#32
  let v13 : BitVec 1 := Scalar.cmpi .slt v9 c0_i32_2
  let v14 : BitVec 32 := Scalar.extui v13
  let v15 : BitVec 32 := Scalar.subi v12 v14
  let c4_i32 : BitVec 32 := 4#32
  let c0_i32_3 : BitVec 32 := 0#32
  let v16 : BitVec 1 := Scalar.cmpi .sgt c4_i32 c0_i32_3
  let v17 : BitVec 32 := Scalar.extui v16
  let c0_i32_4 : BitVec 32 := 0#32
  let v18 : BitVec 1 := Scalar.cmpi .slt c4_i32 c0_i32_4
  let v19 : BitVec 32 := Scalar.extui v18
  let v20 : BitVec 32 := Scalar.subi v17 v19
  let v21 : BitVec 1 := Scalar.cmpi .ne v15 v20
  let v22 : BitVec 32 := Scalar.remsi v9 c4_i32
  let c0_i32_5 : BitVec 32 := 0#32
  let v23 : BitVec 1 := Scalar.cmpi .ne v22 c0_i32_5
  let v24 : BitVec 1 := Scalar.andi v21 v23
  let v10 : BitVec 32 := Scalar.divsi v9 c4_i32
  let c1_i32_6 : BitVec 32 := 1#32
  let v25 : BitVec 32 := Scalar.subi v10 c1_i32_6
  let v26 : BitVec 32 := Scalar.select v24 v25 v10
  let v35 : BitVec 32 := Scalar.subi v26 c1_i32_13
  let c1_i32_14 : BitVec 32 := 1#32
  let v37 : BitVec 32 := Scalar.divsi v35 c1_i32_14
  let v38 : BitVec 32 := Scalar.muli v37 c1_i32_14
  let v39 : BitVec 32 := Scalar.addi c1_i32_13 v38
  let c1_i32_16 : BitVec 32 := 1#32
  let arg15 : BitVec 32 := Scf.iv v39 c1_i32_16 k0_t2
  let v134 : BitVec 32 := Scalar.muli c4_i32_64 arg15
  let v135 : BitVec 32 := Scalar.addi v2 v134
  let c1_i32_393 : BitVec 32 := 1#32
  let v708 : BitVec 32 := Scalar.addi v135 c1_i32_393
  let c256_i32_394 : BitVec 32 := 256#32
  let v709 : BitVec 32 := Scalar.muli v708 c256_i32_394
  v709
def k0_mult51 (v2 : BitVec 32) (v5 : BitVec 32) (k0_t2 : Fin (k0_t2_loop v2 v5).trips) : BitVec 32 :=
  let c4_i32_64 : BitVec 32 := 4#32
  let c1_i32_13 : BitVec 32 := 1#32
  let v9 : BitVec 32 := Scalar.subi v5 v2
  let c0_i32_1 : BitVec 32 := 0#32
  let v11 : BitVec 1 := Scalar.cmpi .sgt v9 c0_i32_1
  let v12 : BitVec 32 := Scalar.extui v11
  let c0_i32_2 : BitVec 32 := 0#32
  let v13 : BitVec 1 := Scalar.cmpi .slt v9 c0_i32_2
  let v14 : BitVec 32 := Scalar.extui v13
  let v15 : BitVec 32 := Scalar.subi v12 v14
  let c4_i32 : BitVec 32 := 4#32
  let c0_i32_3 : BitVec 32 := 0#32
  let v16 : BitVec 1 := Scalar.cmpi .sgt c4_i32 c0_i32_3
  let v17 : BitVec 32 := Scalar.extui v16
  let c0_i32_4 : BitVec 32 := 0#32
  let v18 : BitVec 1 := Scalar.cmpi .slt c4_i32 c0_i32_4
  let v19 : BitVec 32 := Scalar.extui v18
  let v20 : BitVec 32 := Scalar.subi v17 v19
  let v21 : BitVec 1 := Scalar.cmpi .ne v15 v20
  let v22 : BitVec 32 := Scalar.remsi v9 c4_i32
  let c0_i32_5 : BitVec 32 := 0#32
  let v23 : BitVec 1 := Scalar.cmpi .ne v22 c0_i32_5
  let v24 : BitVec 1 := Scalar.andi v21 v23
  let v10 : BitVec 32 := Scalar.divsi v9 c4_i32
  let c1_i32_6 : BitVec 32 := 1#32
  let v25 : BitVec 32 := Scalar.subi v10 c1_i32_6
  let v26 : BitVec 32 := Scalar.select v24 v25 v10
  let v35 : BitVec 32 := Scalar.subi v26 c1_i32_13
  let c1_i32_14 : BitVec 32 := 1#32
  let v37 : BitVec 32 := Scalar.divsi v35 c1_i32_14
  let v38 : BitVec 32 := Scalar.muli v37 c1_i32_14
  let v39 : BitVec 32 := Scalar.addi c1_i32_13 v38
  let c1_i32_16 : BitVec 32 := 1#32
  let arg15 : BitVec 32 := Scf.iv v39 c1_i32_16 k0_t2
  let v134 : BitVec 32 := Scalar.muli c4_i32_64 arg15
  let v135 : BitVec 32 := Scalar.addi v2 v134
  let c2_i32_412 : BitVec 32 := 2#32
  let v736 : BitVec 32 := Scalar.addi v135 c2_i32_412
  let c256_i32_413 : BitVec 32 := 256#32
  let v737 : BitVec 32 := Scalar.muli v736 c256_i32_413
  v737
def k0_mult52 (v2 : BitVec 32) (v5 : BitVec 32) (k0_t2 : Fin (k0_t2_loop v2 v5).trips) : BitVec 32 :=
  let c4_i32_64 : BitVec 32 := 4#32
  let c1_i32_13 : BitVec 32 := 1#32
  let v9 : BitVec 32 := Scalar.subi v5 v2
  let c0_i32_1 : BitVec 32 := 0#32
  let v11 : BitVec 1 := Scalar.cmpi .sgt v9 c0_i32_1
  let v12 : BitVec 32 := Scalar.extui v11
  let c0_i32_2 : BitVec 32 := 0#32
  let v13 : BitVec 1 := Scalar.cmpi .slt v9 c0_i32_2
  let v14 : BitVec 32 := Scalar.extui v13
  let v15 : BitVec 32 := Scalar.subi v12 v14
  let c4_i32 : BitVec 32 := 4#32
  let c0_i32_3 : BitVec 32 := 0#32
  let v16 : BitVec 1 := Scalar.cmpi .sgt c4_i32 c0_i32_3
  let v17 : BitVec 32 := Scalar.extui v16
  let c0_i32_4 : BitVec 32 := 0#32
  let v18 : BitVec 1 := Scalar.cmpi .slt c4_i32 c0_i32_4
  let v19 : BitVec 32 := Scalar.extui v18
  let v20 : BitVec 32 := Scalar.subi v17 v19
  let v21 : BitVec 1 := Scalar.cmpi .ne v15 v20
  let v22 : BitVec 32 := Scalar.remsi v9 c4_i32
  let c0_i32_5 : BitVec 32 := 0#32
  let v23 : BitVec 1 := Scalar.cmpi .ne v22 c0_i32_5
  let v24 : BitVec 1 := Scalar.andi v21 v23
  let v10 : BitVec 32 := Scalar.divsi v9 c4_i32
  let c1_i32_6 : BitVec 32 := 1#32
  let v25 : BitVec 32 := Scalar.subi v10 c1_i32_6
  let v26 : BitVec 32 := Scalar.select v24 v25 v10
  let v35 : BitVec 32 := Scalar.subi v26 c1_i32_13
  let c1_i32_14 : BitVec 32 := 1#32
  let v37 : BitVec 32 := Scalar.divsi v35 c1_i32_14
  let v38 : BitVec 32 := Scalar.muli v37 c1_i32_14
  let v39 : BitVec 32 := Scalar.addi c1_i32_13 v38
  let c1_i32_16 : BitVec 32 := 1#32
  let arg15 : BitVec 32 := Scf.iv v39 c1_i32_16 k0_t2
  let v134 : BitVec 32 := Scalar.muli c4_i32_64 arg15
  let v135 : BitVec 32 := Scalar.addi v2 v134
  let c3_i32_431 : BitVec 32 := 3#32
  let v764 : BitVec 32 := Scalar.addi v135 c3_i32_431
  let c256_i32_432 : BitVec 32 := 256#32
  let v765 : BitVec 32 := Scalar.muli v764 c256_i32_432
  v765
def k0_mult53 (v2 : BitVec 32) (v5 : BitVec 32) : BitVec 32 :=
  let v9 : BitVec 32 := Scalar.subi v5 v2
  let c0_i32_1 : BitVec 32 := 0#32
  let v11 : BitVec 1 := Scalar.cmpi .sgt v9 c0_i32_1
  let v12 : BitVec 32 := Scalar.extui v11
  let c0_i32_2 : BitVec 32 := 0#32
  let v13 : BitVec 1 := Scalar.cmpi .slt v9 c0_i32_2
  let v14 : BitVec 32 := Scalar.extui v13
  let v15 : BitVec 32 := Scalar.subi v12 v14
  let c4_i32 : BitVec 32 := 4#32
  let c0_i32_3 : BitVec 32 := 0#32
  let v16 : BitVec 1 := Scalar.cmpi .sgt c4_i32 c0_i32_3
  let v17 : BitVec 32 := Scalar.extui v16
  let c0_i32_4 : BitVec 32 := 0#32
  let v18 : BitVec 1 := Scalar.cmpi .slt c4_i32 c0_i32_4
  let v19 : BitVec 32 := Scalar.extui v18
  let v20 : BitVec 32 := Scalar.subi v17 v19
  let v21 : BitVec 1 := Scalar.cmpi .ne v15 v20
  let v22 : BitVec 32 := Scalar.remsi v9 c4_i32
  let c0_i32_5 : BitVec 32 := 0#32
  let v23 : BitVec 1 := Scalar.cmpi .ne v22 c0_i32_5
  let v24 : BitVec 1 := Scalar.andi v21 v23
  let v10 : BitVec 32 := Scalar.divsi v9 c4_i32
  let c1_i32_6 : BitVec 32 := 1#32
  let v25 : BitVec 32 := Scalar.subi v10 c1_i32_6
  let v26 : BitVec 32 := Scalar.select v24 v25 v10
  let c4_i32_17 : BitVec 32 := 4#32
  let v40 : BitVec 32 := Scalar.muli v26 c4_i32_17
  let v134 : BitVec 32 := Scalar.addi v2 v40
  let c0_i32_64 : BitVec 32 := 0#32
  let v135 : BitVec 32 := Scalar.addi v134 c0_i32_64
  let c256_i32 : BitVec 32 := 256#32
  let v146 : BitVec 32 := Scalar.muli v135 c256_i32
  v146
def k0_cond32 (v2 : BitVec 32) (v5 : BitVec 32) : BitVec 1 :=
  let v9 : BitVec 32 := Scalar.subi v5 v2
  let c0_i32_18 : BitVec 32 := 0#32
  let v42 : BitVec 1 := Scalar.cmpi .sgt v9 c0_i32_18
  let v43 : BitVec 32 := Scalar.extui v42
  let c0_i32_19 : BitVec 32 := 0#32
  let v44 : BitVec 1 := Scalar.cmpi .slt v9 c0_i32_19
  let v45 : BitVec 32 := Scalar.extui v44
  let v46 : BitVec 32 := Scalar.subi v43 v45
  let c2_i32 : BitVec 32 := 2#32
  let c0_i32_20 : BitVec 32 := 0#32
  let v47 : BitVec 1 := Scalar.cmpi .sgt c2_i32 c0_i32_20
  let v48 : BitVec 32 := Scalar.extui v47
  let c0_i32_21 : BitVec 32 := 0#32
  let v49 : BitVec 1 := Scalar.cmpi .slt c2_i32 c0_i32_21
  let v50 : BitVec 32 := Scalar.extui v49
  let v51 : BitVec 32 := Scalar.subi v48 v50
  let v52 : BitVec 1 := Scalar.cmpi .ne v46 v51
  let v53 : BitVec 32 := Scalar.remsi v9 c2_i32
  let c0_i32_22 : BitVec 32 := 0#32
  let v54 : BitVec 1 := Scalar.cmpi .ne v53 c0_i32_22
  let v55 : BitVec 1 := Scalar.andi v52 v54
  let v41 : BitVec 32 := Scalar.divsi v9 c2_i32
  let c1_i32_23 : BitVec 32 := 1#32
  let v56 : BitVec 32 := Scalar.subi v41 c1_i32_23
  let v57 : BitVec 32 := Scalar.select v55 v56 v41
  let c2_i32_24 : BitVec 32 := 2#32
  let c0_i32_25 : BitVec 32 := 0#32
  let v58 : BitVec 1 := Scalar.cmpi .eq c2_i32_24 c0_i32_25
  let c1_i32_26 : BitVec 32 := 1#32
  let v59 : BitVec 32 := Scalar.select v58 c1_i32_26 c2_i32_24
  let v60 : BitVec 32 := Scalar.remsi v57 v59
  let c0_i32_28 : BitVec 32 := 0#32
  let v62 : BitVec 1 := Scalar.cmpi .slt v60 c0_i32_28
  let c0_i32_29 : BitVec 32 := 0#32
  let v63 : BitVec 1 := Scalar.cmpi .slt v59 c0_i32_29
  let v64 : BitVec 1 := Scalar.xori v62 v63
  let c0_i32_27 : BitVec 32 := 0#32
  let v61 : BitVec 1 := Scalar.cmpi .ne v60 c0_i32_27
  let v65 : BitVec 1 := Scalar.andi v64 v61
  let v66 : BitVec 32 := Scalar.addi v60 v59
  let v67 : BitVec 32 := Scalar.select v65 v66 v60
  let c1_i32_30 : BitVec 32 := 1#32
  let v68 : BitVec 1 := Scalar.cmpi .eq v67 c1_i32_30
  let v69 : BitVec 32 := Scalar.extui v68
  let c0_i32_31 : BitVec 32 := 0#32
  let v70 : BitVec 1 := Scalar.cmpi .ne v69 c0_i32_31
  v70

def k0_off90 (v2 : BitVec 32) (v5 : BitVec 32) (c0_i32_64 : BitVec 32) : Fin 1 → Nat :=
  let v9 : BitVec 32 := Scalar.subi v5 v2
  let c0_i32_1 : BitVec 32 := 0#32
  let v11 : BitVec 1 := Scalar.cmpi .sgt v9 c0_i32_1
  let v12 : BitVec 32 := Scalar.extui v11
  let c0_i32_2 : BitVec 32 := 0#32
  let v13 : BitVec 1 := Scalar.cmpi .slt v9 c0_i32_2
  let v14 : BitVec 32 := Scalar.extui v13
  let v15 : BitVec 32 := Scalar.subi v12 v14
  let c4_i32 : BitVec 32 := 4#32
  let c0_i32_3 : BitVec 32 := 0#32
  let v16 : BitVec 1 := Scalar.cmpi .sgt c4_i32 c0_i32_3
  let v17 : BitVec 32 := Scalar.extui v16
  let c0_i32_4 : BitVec 32 := 0#32
  let v18 : BitVec 1 := Scalar.cmpi .slt c4_i32 c0_i32_4
  let v19 : BitVec 32 := Scalar.extui v18
  let v20 : BitVec 32 := Scalar.subi v17 v19
  let v21 : BitVec 1 := Scalar.cmpi .ne v15 v20
  let v22 : BitVec 32 := Scalar.remsi v9 c4_i32
  let c0_i32_5 : BitVec 32 := 0#32
  let v23 : BitVec 1 := Scalar.cmpi .ne v22 c0_i32_5
  let v24 : BitVec 1 := Scalar.andi v21 v23
  let v10 : BitVec 32 := Scalar.divsi v9 c4_i32
  let c1_i32_6 : BitVec 32 := 1#32
  let v25 : BitVec 32 := Scalar.subi v10 c1_i32_6
  let v26 : BitVec 32 := Scalar.select v24 v25 v10
  let c4_i32_17 : BitVec 32 := 4#32
  let v40 : BitVec 32 := Scalar.muli v26 c4_i32_17
  let v134 : BitVec 32 := Scalar.addi v2 v40
  let v135 : BitVec 32 := Scalar.addi v134 c0_i32_64
  let c8_i32 : BitVec 32 := 8#32
  let c0_i32_65 : BitVec 32 := 0#32
  let v136 : BitVec 1 := Scalar.cmpi .eq c8_i32 c0_i32_65
  let c1_i32_66 : BitVec 32 := 1#32
  let v137 : BitVec 32 := Scalar.select v136 c1_i32_66 c8_i32
  let v138 : BitVec 32 := Scalar.remsi v135 v137
  let c0_i32_68 : BitVec 32 := 0#32
  let v140 : BitVec 1 := Scalar.cmpi .slt v138 c0_i32_68
  let c0_i32_69 : BitVec 32 := 0#32
  let v141 : BitVec 1 := Scalar.cmpi .slt v137 c0_i32_69
  let v142 : BitVec 1 := Scalar.xori v140 v141
  let c0_i32_67 : BitVec 32 := 0#32
  let v139 : BitVec 1 := Scalar.cmpi .ne v138 c0_i32_67
  let v143 : BitVec 1 := Scalar.andi v142 v139
  let v144 : BitVec 32 := Scalar.addi v138 v137
  let v145 : BitVec 32 := Scalar.select v143 v144 v138
  ![v145.toNat]
def k0_off91 (v2 : BitVec 32) (v5 : BitVec 32) (c0_i32_64 : BitVec 32) : Fin 4 → Nat :=
  let v9 : BitVec 32 := Scalar.subi v5 v2
  let c0_i32_1 : BitVec 32 := 0#32
  let v11 : BitVec 1 := Scalar.cmpi .sgt v9 c0_i32_1
  let v12 : BitVec 32 := Scalar.extui v11
  let c0_i32_2 : BitVec 32 := 0#32
  let v13 : BitVec 1 := Scalar.cmpi .slt v9 c0_i32_2
  let v14 : BitVec 32 := Scalar.extui v13
  let v15 : BitVec 32 := Scalar.subi v12 v14
  let c4_i32 : BitVec 32 := 4#32
  let c0_i32_3 : BitVec 32 := 0#32
  let v16 : BitVec 1 := Scalar.cmpi .sgt c4_i32 c0_i32_3
  let v17 : BitVec 32 := Scalar.extui v16
  let c0_i32_4 : BitVec 32 := 0#32
  let v18 : BitVec 1 := Scalar.cmpi .slt c4_i32 c0_i32_4
  let v19 : BitVec 32 := Scalar.extui v18
  let v20 : BitVec 32 := Scalar.subi v17 v19
  let v21 : BitVec 1 := Scalar.cmpi .ne v15 v20
  let v22 : BitVec 32 := Scalar.remsi v9 c4_i32
  let c0_i32_5 : BitVec 32 := 0#32
  let v23 : BitVec 1 := Scalar.cmpi .ne v22 c0_i32_5
  let v24 : BitVec 1 := Scalar.andi v21 v23
  let v10 : BitVec 32 := Scalar.divsi v9 c4_i32
  let c1_i32_6 : BitVec 32 := 1#32
  let v25 : BitVec 32 := Scalar.subi v10 c1_i32_6
  let v26 : BitVec 32 := Scalar.select v24 v25 v10
  let c4_i32_17 : BitVec 32 := 4#32
  let v40 : BitVec 32 := Scalar.muli v26 c4_i32_17
  let v134 : BitVec 32 := Scalar.addi v2 v40
  let v135 : BitVec 32 := Scalar.addi v134 c0_i32_64
  let c8_i32 : BitVec 32 := 8#32
  let c0_i32_65 : BitVec 32 := 0#32
  let v136 : BitVec 1 := Scalar.cmpi .eq c8_i32 c0_i32_65
  let c1_i32_66 : BitVec 32 := 1#32
  let v137 : BitVec 32 := Scalar.select v136 c1_i32_66 c8_i32
  let v138 : BitVec 32 := Scalar.remsi v135 v137
  let c0_i32_68 : BitVec 32 := 0#32
  let v140 : BitVec 1 := Scalar.cmpi .slt v138 c0_i32_68
  let c0_i32_69 : BitVec 32 := 0#32
  let v141 : BitVec 1 := Scalar.cmpi .slt v137 c0_i32_69
  let v142 : BitVec 1 := Scalar.xori v140 v141
  let c0_i32_67 : BitVec 32 := 0#32
  let v139 : BitVec 1 := Scalar.cmpi .ne v138 c0_i32_67
  let v143 : BitVec 1 := Scalar.andi v142 v139
  let v144 : BitVec 32 := Scalar.addi v138 v137
  let v145 : BitVec 32 := Scalar.select v143 v144 v138
  let c0_i32_70 : BitVec 32 := 0#32
  let c0_i32_71 : BitVec 32 := 0#32
  let c0_i32_72 : BitVec 32 := 0#32
  ![v145.toNat, 0, 0, 0]
def k0_off92 (v2 : BitVec 32) (v5 : BitVec 32) (c0_i32_64 : BitVec 32) : Fin 3 → Nat :=
  let c0_i32_73 : BitVec 32 := 0#32
  let v9 : BitVec 32 := Scalar.subi v5 v2
  let c0_i32_1 : BitVec 32 := 0#32
  let v11 : BitVec 1 := Scalar.cmpi .sgt v9 c0_i32_1
  let v12 : BitVec 32 := Scalar.extui v11
  let c0_i32_2 : BitVec 32 := 0#32
  let v13 : BitVec 1 := Scalar.cmpi .slt v9 c0_i32_2
  let v14 : BitVec 32 := Scalar.extui v13
  let v15 : BitVec 32 := Scalar.subi v12 v14
  let c4_i32 : BitVec 32 := 4#32
  let c0_i32_3 : BitVec 32 := 0#32
  let v16 : BitVec 1 := Scalar.cmpi .sgt c4_i32 c0_i32_3
  let v17 : BitVec 32 := Scalar.extui v16
  let c0_i32_4 : BitVec 32 := 0#32
  let v18 : BitVec 1 := Scalar.cmpi .slt c4_i32 c0_i32_4
  let v19 : BitVec 32 := Scalar.extui v18
  let v20 : BitVec 32 := Scalar.subi v17 v19
  let v21 : BitVec 1 := Scalar.cmpi .ne v15 v20
  let v22 : BitVec 32 := Scalar.remsi v9 c4_i32
  let c0_i32_5 : BitVec 32 := 0#32
  let v23 : BitVec 1 := Scalar.cmpi .ne v22 c0_i32_5
  let v24 : BitVec 1 := Scalar.andi v21 v23
  let v10 : BitVec 32 := Scalar.divsi v9 c4_i32
  let c1_i32_6 : BitVec 32 := 1#32
  let v25 : BitVec 32 := Scalar.subi v10 c1_i32_6
  let v26 : BitVec 32 := Scalar.select v24 v25 v10
  let c4_i32_17 : BitVec 32 := 4#32
  let v40 : BitVec 32 := Scalar.muli v26 c4_i32_17
  let v134 : BitVec 32 := Scalar.addi v2 v40
  let v135 : BitVec 32 := Scalar.addi v134 c0_i32_64
  let c256_i32 : BitVec 32 := 256#32
  let v146 : BitVec 32 := Scalar.muli v135 c256_i32
  let v147 : BitVec 32 := v146
  let c0_i32_74 : BitVec 32 := 0#32
  ![0, v147.toNat, 0]
def k0_mult54 (v2 : BitVec 32) (v5 : BitVec 32) : BitVec 32 :=
  let v9 : BitVec 32 := Scalar.subi v5 v2
  let c0_i32_1 : BitVec 32 := 0#32
  let v11 : BitVec 1 := Scalar.cmpi .sgt v9 c0_i32_1
  let v12 : BitVec 32 := Scalar.extui v11
  let c0_i32_2 : BitVec 32 := 0#32
  let v13 : BitVec 1 := Scalar.cmpi .slt v9 c0_i32_2
  let v14 : BitVec 32 := Scalar.extui v13
  let v15 : BitVec 32 := Scalar.subi v12 v14
  let c4_i32 : BitVec 32 := 4#32
  let c0_i32_3 : BitVec 32 := 0#32
  let v16 : BitVec 1 := Scalar.cmpi .sgt c4_i32 c0_i32_3
  let v17 : BitVec 32 := Scalar.extui v16
  let c0_i32_4 : BitVec 32 := 0#32
  let v18 : BitVec 1 := Scalar.cmpi .slt c4_i32 c0_i32_4
  let v19 : BitVec 32 := Scalar.extui v18
  let v20 : BitVec 32 := Scalar.subi v17 v19
  let v21 : BitVec 1 := Scalar.cmpi .ne v15 v20
  let v22 : BitVec 32 := Scalar.remsi v9 c4_i32
  let c0_i32_5 : BitVec 32 := 0#32
  let v23 : BitVec 1 := Scalar.cmpi .ne v22 c0_i32_5
  let v24 : BitVec 1 := Scalar.andi v21 v23
  let v10 : BitVec 32 := Scalar.divsi v9 c4_i32
  let c1_i32_6 : BitVec 32 := 1#32
  let v25 : BitVec 32 := Scalar.subi v10 c1_i32_6
  let v26 : BitVec 32 := Scalar.select v24 v25 v10
  let c4_i32_17 : BitVec 32 := 4#32
  let v40 : BitVec 32 := Scalar.muli v26 c4_i32_17
  let v134 : BitVec 32 := Scalar.addi v2 v40
  let c1_i32_75 : BitVec 32 := 1#32
  let v153 : BitVec 32 := Scalar.addi v134 c1_i32_75
  let c256_i32_82 : BitVec 32 := 256#32
  let v164 : BitVec 32 := Scalar.muli v153 c256_i32_82
  v164
def k0_mult55 (v2 : BitVec 32) (v5 : BitVec 32) : BitVec 32 :=
  let v9 : BitVec 32 := Scalar.subi v5 v2
  let c0_i32_1 : BitVec 32 := 0#32
  let v11 : BitVec 1 := Scalar.cmpi .sgt v9 c0_i32_1
  let v12 : BitVec 32 := Scalar.extui v11
  let c0_i32_2 : BitVec 32 := 0#32
  let v13 : BitVec 1 := Scalar.cmpi .slt v9 c0_i32_2
  let v14 : BitVec 32 := Scalar.extui v13
  let v15 : BitVec 32 := Scalar.subi v12 v14
  let c4_i32 : BitVec 32 := 4#32
  let c0_i32_3 : BitVec 32 := 0#32
  let v16 : BitVec 1 := Scalar.cmpi .sgt c4_i32 c0_i32_3
  let v17 : BitVec 32 := Scalar.extui v16
  let c0_i32_4 : BitVec 32 := 0#32
  let v18 : BitVec 1 := Scalar.cmpi .slt c4_i32 c0_i32_4
  let v19 : BitVec 32 := Scalar.extui v18
  let v20 : BitVec 32 := Scalar.subi v17 v19
  let v21 : BitVec 1 := Scalar.cmpi .ne v15 v20
  let v22 : BitVec 32 := Scalar.remsi v9 c4_i32
  let c0_i32_5 : BitVec 32 := 0#32
  let v23 : BitVec 1 := Scalar.cmpi .ne v22 c0_i32_5
  let v24 : BitVec 1 := Scalar.andi v21 v23
  let v10 : BitVec 32 := Scalar.divsi v9 c4_i32
  let c1_i32_6 : BitVec 32 := 1#32
  let v25 : BitVec 32 := Scalar.subi v10 c1_i32_6
  let v26 : BitVec 32 := Scalar.select v24 v25 v10
  let c4_i32_17 : BitVec 32 := 4#32
  let v40 : BitVec 32 := Scalar.muli v26 c4_i32_17
  let v134 : BitVec 32 := Scalar.addi v2 v40
  let c4_i32_88 : BitVec 32 := 4#32
  let v171 : BitVec 32 := Scalar.addi v134 c4_i32_88
  let c0_i32_89 : BitVec 32 := 0#32
  let v172 : BitVec 32 := Scalar.addi v171 c0_i32_89
  let c256_i32_260 : BitVec 32 := 256#32
  let v473 : BitVec 32 := Scalar.muli v172 c256_i32_260
  v473
def k0_cond33 (v0 : BitVec 32) (v2 : BitVec 32) (v5 : BitVec 32) : BitVec 1 :=
  let v9 : BitVec 32 := Scalar.subi v5 v2
  let c0_i32_1 : BitVec 32 := 0#32
  let v11 : BitVec 1 := Scalar.cmpi .sgt v9 c0_i32_1
  let v12 : BitVec 32 := Scalar.extui v11
  let c0_i32_2 : BitVec 32 := 0#32
  let v13 : BitVec 1 := Scalar.cmpi .slt v9 c0_i32_2
  let v14 : BitVec 32 := Scalar.extui v13
  let v15 : BitVec 32 := Scalar.subi v12 v14
  let c4_i32 : BitVec 32 := 4#32
  let c0_i32_3 : BitVec 32 := 0#32
  let v16 : BitVec 1 := Scalar.cmpi .sgt c4_i32 c0_i32_3
  let v17 : BitVec 32 := Scalar.extui v16
  let c0_i32_4 : BitVec 32 := 0#32
  let v18 : BitVec 1 := Scalar.cmpi .slt c4_i32 c0_i32_4
  let v19 : BitVec 32 := Scalar.extui v18
  let v20 : BitVec 32 := Scalar.subi v17 v19
  let v21 : BitVec 1 := Scalar.cmpi .ne v15 v20
  let v22 : BitVec 32 := Scalar.remsi v9 c4_i32
  let c0_i32_5 : BitVec 32 := 0#32
  let v23 : BitVec 1 := Scalar.cmpi .ne v22 c0_i32_5
  let v24 : BitVec 1 := Scalar.andi v21 v23
  let v10 : BitVec 32 := Scalar.divsi v9 c4_i32
  let c1_i32_6 : BitVec 32 := 1#32
  let v25 : BitVec 32 := Scalar.subi v10 c1_i32_6
  let v26 : BitVec 32 := Scalar.select v24 v25 v10
  let c4_i32_17 : BitVec 32 := 4#32
  let v40 : BitVec 32 := Scalar.muli v26 c4_i32_17
  let v134 : BitVec 32 := Scalar.addi v2 v40
  let c4_i32_88 : BitVec 32 := 4#32
  let v171 : BitVec 32 := Scalar.addi v134 c4_i32_88
  let c0_i32_89 : BitVec 32 := 0#32
  let v172 : BitVec 32 := Scalar.addi v171 c0_i32_89
  let v173 : BitVec 1 := Scalar.cmpi .slt v172 v0
  let v174 : BitVec 32 := Scalar.extui v173
  let c0_i32_90 : BitVec 32 := 0#32
  let v175 : BitVec 1 := Scalar.cmpi .ne v174 c0_i32_90
  v175

def k0_off93 (v2 : BitVec 32) (v5 : BitVec 32) : Fin 1 → Nat :=
  let v9 : BitVec 32 := Scalar.subi v5 v2
  let c0_i32_1 : BitVec 32 := 0#32
  let v11 : BitVec 1 := Scalar.cmpi .sgt v9 c0_i32_1
  let v12 : BitVec 32 := Scalar.extui v11
  let c0_i32_2 : BitVec 32 := 0#32
  let v13 : BitVec 1 := Scalar.cmpi .slt v9 c0_i32_2
  let v14 : BitVec 32 := Scalar.extui v13
  let v15 : BitVec 32 := Scalar.subi v12 v14
  let c4_i32 : BitVec 32 := 4#32
  let c0_i32_3 : BitVec 32 := 0#32
  let v16 : BitVec 1 := Scalar.cmpi .sgt c4_i32 c0_i32_3
  let v17 : BitVec 32 := Scalar.extui v16
  let c0_i32_4 : BitVec 32 := 0#32
  let v18 : BitVec 1 := Scalar.cmpi .slt c4_i32 c0_i32_4
  let v19 : BitVec 32 := Scalar.extui v18
  let v20 : BitVec 32 := Scalar.subi v17 v19
  let v21 : BitVec 1 := Scalar.cmpi .ne v15 v20
  let v22 : BitVec 32 := Scalar.remsi v9 c4_i32
  let c0_i32_5 : BitVec 32 := 0#32
  let v23 : BitVec 1 := Scalar.cmpi .ne v22 c0_i32_5
  let v24 : BitVec 1 := Scalar.andi v21 v23
  let v10 : BitVec 32 := Scalar.divsi v9 c4_i32
  let c1_i32_6 : BitVec 32 := 1#32
  let v25 : BitVec 32 := Scalar.subi v10 c1_i32_6
  let v26 : BitVec 32 := Scalar.select v24 v25 v10
  let c4_i32_17 : BitVec 32 := 4#32
  let v40 : BitVec 32 := Scalar.muli v26 c4_i32_17
  let v134 : BitVec 32 := Scalar.addi v2 v40
  let c4_i32_88 : BitVec 32 := 4#32
  let v171 : BitVec 32 := Scalar.addi v134 c4_i32_88
  let c0_i32_89 : BitVec 32 := 0#32
  let v172 : BitVec 32 := Scalar.addi v171 c0_i32_89
  let c8_i32_254 : BitVec 32 := 8#32
  let c0_i32_255 : BitVec 32 := 0#32
  let v463 : BitVec 1 := Scalar.cmpi .eq c8_i32_254 c0_i32_255
  let c1_i32_256 : BitVec 32 := 1#32
  let v464 : BitVec 32 := Scalar.select v463 c1_i32_256 c8_i32_254
  let v465 : BitVec 32 := Scalar.remsi v172 v464
  let c0_i32_258 : BitVec 32 := 0#32
  let v467 : BitVec 1 := Scalar.cmpi .slt v465 c0_i32_258
  let c0_i32_259 : BitVec 32 := 0#32
  let v468 : BitVec 1 := Scalar.cmpi .slt v464 c0_i32_259
  let v469 : BitVec 1 := Scalar.xori v467 v468
  let c0_i32_257 : BitVec 32 := 0#32
  let v466 : BitVec 1 := Scalar.cmpi .ne v465 c0_i32_257
  let v470 : BitVec 1 := Scalar.andi v469 v466
  let v471 : BitVec 32 := Scalar.addi v465 v464
  let v472 : BitVec 32 := Scalar.select v470 v471 v465
  ![v472.toNat]
def k0_off94 (v2 : BitVec 32) (v5 : BitVec 32) : Fin 4 → Nat :=
  let v9 : BitVec 32 := Scalar.subi v5 v2
  let c0_i32_1 : BitVec 32 := 0#32
  let v11 : BitVec 1 := Scalar.cmpi .sgt v9 c0_i32_1
  let v12 : BitVec 32 := Scalar.extui v11
  let c0_i32_2 : BitVec 32 := 0#32
  let v13 : BitVec 1 := Scalar.cmpi .slt v9 c0_i32_2
  let v14 : BitVec 32 := Scalar.extui v13
  let v15 : BitVec 32 := Scalar.subi v12 v14
  let c4_i32 : BitVec 32 := 4#32
  let c0_i32_3 : BitVec 32 := 0#32
  let v16 : BitVec 1 := Scalar.cmpi .sgt c4_i32 c0_i32_3
  let v17 : BitVec 32 := Scalar.extui v16
  let c0_i32_4 : BitVec 32 := 0#32
  let v18 : BitVec 1 := Scalar.cmpi .slt c4_i32 c0_i32_4
  let v19 : BitVec 32 := Scalar.extui v18
  let v20 : BitVec 32 := Scalar.subi v17 v19
  let v21 : BitVec 1 := Scalar.cmpi .ne v15 v20
  let v22 : BitVec 32 := Scalar.remsi v9 c4_i32
  let c0_i32_5 : BitVec 32 := 0#32
  let v23 : BitVec 1 := Scalar.cmpi .ne v22 c0_i32_5
  let v24 : BitVec 1 := Scalar.andi v21 v23
  let v10 : BitVec 32 := Scalar.divsi v9 c4_i32
  let c1_i32_6 : BitVec 32 := 1#32
  let v25 : BitVec 32 := Scalar.subi v10 c1_i32_6
  let v26 : BitVec 32 := Scalar.select v24 v25 v10
  let c4_i32_17 : BitVec 32 := 4#32
  let v40 : BitVec 32 := Scalar.muli v26 c4_i32_17
  let v134 : BitVec 32 := Scalar.addi v2 v40
  let c4_i32_88 : BitVec 32 := 4#32
  let v171 : BitVec 32 := Scalar.addi v134 c4_i32_88
  let c0_i32_89 : BitVec 32 := 0#32
  let v172 : BitVec 32 := Scalar.addi v171 c0_i32_89
  let c8_i32_254 : BitVec 32 := 8#32
  let c0_i32_255 : BitVec 32 := 0#32
  let v463 : BitVec 1 := Scalar.cmpi .eq c8_i32_254 c0_i32_255
  let c1_i32_256 : BitVec 32 := 1#32
  let v464 : BitVec 32 := Scalar.select v463 c1_i32_256 c8_i32_254
  let v465 : BitVec 32 := Scalar.remsi v172 v464
  let c0_i32_258 : BitVec 32 := 0#32
  let v467 : BitVec 1 := Scalar.cmpi .slt v465 c0_i32_258
  let c0_i32_259 : BitVec 32 := 0#32
  let v468 : BitVec 1 := Scalar.cmpi .slt v464 c0_i32_259
  let v469 : BitVec 1 := Scalar.xori v467 v468
  let c0_i32_257 : BitVec 32 := 0#32
  let v466 : BitVec 1 := Scalar.cmpi .ne v465 c0_i32_257
  let v470 : BitVec 1 := Scalar.andi v469 v466
  let v471 : BitVec 32 := Scalar.addi v465 v464
  let v472 : BitVec 32 := Scalar.select v470 v471 v465
  let c0_i32_261 : BitVec 32 := 0#32
  let c0_i32_262 : BitVec 32 := 0#32
  let c0_i32_263 : BitVec 32 := 0#32
  ![v472.toNat, 0, 0, 0]
def k0_off95 (v2 : BitVec 32) (v5 : BitVec 32) : Fin 3 → Nat :=
  let c0_i32_264 : BitVec 32 := 0#32
  let v9 : BitVec 32 := Scalar.subi v5 v2
  let c0_i32_1 : BitVec 32 := 0#32
  let v11 : BitVec 1 := Scalar.cmpi .sgt v9 c0_i32_1
  let v12 : BitVec 32 := Scalar.extui v11
  let c0_i32_2 : BitVec 32 := 0#32
  let v13 : BitVec 1 := Scalar.cmpi .slt v9 c0_i32_2
  let v14 : BitVec 32 := Scalar.extui v13
  let v15 : BitVec 32 := Scalar.subi v12 v14
  let c4_i32 : BitVec 32 := 4#32
  let c0_i32_3 : BitVec 32 := 0#32
  let v16 : BitVec 1 := Scalar.cmpi .sgt c4_i32 c0_i32_3
  let v17 : BitVec 32 := Scalar.extui v16
  let c0_i32_4 : BitVec 32 := 0#32
  let v18 : BitVec 1 := Scalar.cmpi .slt c4_i32 c0_i32_4
  let v19 : BitVec 32 := Scalar.extui v18
  let v20 : BitVec 32 := Scalar.subi v17 v19
  let v21 : BitVec 1 := Scalar.cmpi .ne v15 v20
  let v22 : BitVec 32 := Scalar.remsi v9 c4_i32
  let c0_i32_5 : BitVec 32 := 0#32
  let v23 : BitVec 1 := Scalar.cmpi .ne v22 c0_i32_5
  let v24 : BitVec 1 := Scalar.andi v21 v23
  let v10 : BitVec 32 := Scalar.divsi v9 c4_i32
  let c1_i32_6 : BitVec 32 := 1#32
  let v25 : BitVec 32 := Scalar.subi v10 c1_i32_6
  let v26 : BitVec 32 := Scalar.select v24 v25 v10
  let c4_i32_17 : BitVec 32 := 4#32
  let v40 : BitVec 32 := Scalar.muli v26 c4_i32_17
  let v134 : BitVec 32 := Scalar.addi v2 v40
  let c4_i32_88 : BitVec 32 := 4#32
  let v171 : BitVec 32 := Scalar.addi v134 c4_i32_88
  let c0_i32_89 : BitVec 32 := 0#32
  let v172 : BitVec 32 := Scalar.addi v171 c0_i32_89
  let c256_i32_260 : BitVec 32 := 256#32
  let v473 : BitVec 32 := Scalar.muli v172 c256_i32_260
  let v474 : BitVec 32 := v473
  let c0_i32_265 : BitVec 32 := 0#32
  ![0, v474.toNat, 0]
def k0_mult56 (v2 : BitVec 32) (v5 : BitVec 32) : BitVec 32 :=
  let v9 : BitVec 32 := Scalar.subi v5 v2
  let c0_i32_1 : BitVec 32 := 0#32
  let v11 : BitVec 1 := Scalar.cmpi .sgt v9 c0_i32_1
  let v12 : BitVec 32 := Scalar.extui v11
  let c0_i32_2 : BitVec 32 := 0#32
  let v13 : BitVec 1 := Scalar.cmpi .slt v9 c0_i32_2
  let v14 : BitVec 32 := Scalar.extui v13
  let v15 : BitVec 32 := Scalar.subi v12 v14
  let c4_i32 : BitVec 32 := 4#32
  let c0_i32_3 : BitVec 32 := 0#32
  let v16 : BitVec 1 := Scalar.cmpi .sgt c4_i32 c0_i32_3
  let v17 : BitVec 32 := Scalar.extui v16
  let c0_i32_4 : BitVec 32 := 0#32
  let v18 : BitVec 1 := Scalar.cmpi .slt c4_i32 c0_i32_4
  let v19 : BitVec 32 := Scalar.extui v18
  let v20 : BitVec 32 := Scalar.subi v17 v19
  let v21 : BitVec 1 := Scalar.cmpi .ne v15 v20
  let v22 : BitVec 32 := Scalar.remsi v9 c4_i32
  let c0_i32_5 : BitVec 32 := 0#32
  let v23 : BitVec 1 := Scalar.cmpi .ne v22 c0_i32_5
  let v24 : BitVec 1 := Scalar.andi v21 v23
  let v10 : BitVec 32 := Scalar.divsi v9 c4_i32
  let c1_i32_6 : BitVec 32 := 1#32
  let v25 : BitVec 32 := Scalar.subi v10 c1_i32_6
  let v26 : BitVec 32 := Scalar.select v24 v25 v10
  let c4_i32_17 : BitVec 32 := 4#32
  let v40 : BitVec 32 := Scalar.muli v26 c4_i32_17
  let v134 : BitVec 32 := Scalar.addi v2 v40
  let c4_i32_91 : BitVec 32 := 4#32
  let v176 : BitVec 32 := Scalar.addi v134 c4_i32_91
  let c1_i32_92 : BitVec 32 := 1#32
  let v177 : BitVec 32 := Scalar.addi v176 c1_i32_92
  let c256_i32_260 : BitVec 32 := 256#32
  let v473 : BitVec 32 := Scalar.muli v177 c256_i32_260
  v473
def k0_cond34 (v0 : BitVec 32) (v2 : BitVec 32) (v5 : BitVec 32) : BitVec 1 :=
  let v9 : BitVec 32 := Scalar.subi v5 v2
  let c0_i32_1 : BitVec 32 := 0#32
  let v11 : BitVec 1 := Scalar.cmpi .sgt v9 c0_i32_1
  let v12 : BitVec 32 := Scalar.extui v11
  let c0_i32_2 : BitVec 32 := 0#32
  let v13 : BitVec 1 := Scalar.cmpi .slt v9 c0_i32_2
  let v14 : BitVec 32 := Scalar.extui v13
  let v15 : BitVec 32 := Scalar.subi v12 v14
  let c4_i32 : BitVec 32 := 4#32
  let c0_i32_3 : BitVec 32 := 0#32
  let v16 : BitVec 1 := Scalar.cmpi .sgt c4_i32 c0_i32_3
  let v17 : BitVec 32 := Scalar.extui v16
  let c0_i32_4 : BitVec 32 := 0#32
  let v18 : BitVec 1 := Scalar.cmpi .slt c4_i32 c0_i32_4
  let v19 : BitVec 32 := Scalar.extui v18
  let v20 : BitVec 32 := Scalar.subi v17 v19
  let v21 : BitVec 1 := Scalar.cmpi .ne v15 v20
  let v22 : BitVec 32 := Scalar.remsi v9 c4_i32
  let c0_i32_5 : BitVec 32 := 0#32
  let v23 : BitVec 1 := Scalar.cmpi .ne v22 c0_i32_5
  let v24 : BitVec 1 := Scalar.andi v21 v23
  let v10 : BitVec 32 := Scalar.divsi v9 c4_i32
  let c1_i32_6 : BitVec 32 := 1#32
  let v25 : BitVec 32 := Scalar.subi v10 c1_i32_6
  let v26 : BitVec 32 := Scalar.select v24 v25 v10
  let c4_i32_17 : BitVec 32 := 4#32
  let v40 : BitVec 32 := Scalar.muli v26 c4_i32_17
  let v134 : BitVec 32 := Scalar.addi v2 v40
  let c4_i32_91 : BitVec 32 := 4#32
  let v176 : BitVec 32 := Scalar.addi v134 c4_i32_91
  let c1_i32_92 : BitVec 32 := 1#32
  let v177 : BitVec 32 := Scalar.addi v176 c1_i32_92
  let v178 : BitVec 1 := Scalar.cmpi .slt v177 v0
  let v179 : BitVec 32 := Scalar.extui v178
  let c0_i32_93 : BitVec 32 := 0#32
  let v180 : BitVec 1 := Scalar.cmpi .ne v179 c0_i32_93
  v180

def k0_off96 (v2 : BitVec 32) (v5 : BitVec 32) : Fin 1 → Nat :=
  let v9 : BitVec 32 := Scalar.subi v5 v2
  let c0_i32_1 : BitVec 32 := 0#32
  let v11 : BitVec 1 := Scalar.cmpi .sgt v9 c0_i32_1
  let v12 : BitVec 32 := Scalar.extui v11
  let c0_i32_2 : BitVec 32 := 0#32
  let v13 : BitVec 1 := Scalar.cmpi .slt v9 c0_i32_2
  let v14 : BitVec 32 := Scalar.extui v13
  let v15 : BitVec 32 := Scalar.subi v12 v14
  let c4_i32 : BitVec 32 := 4#32
  let c0_i32_3 : BitVec 32 := 0#32
  let v16 : BitVec 1 := Scalar.cmpi .sgt c4_i32 c0_i32_3
  let v17 : BitVec 32 := Scalar.extui v16
  let c0_i32_4 : BitVec 32 := 0#32
  let v18 : BitVec 1 := Scalar.cmpi .slt c4_i32 c0_i32_4
  let v19 : BitVec 32 := Scalar.extui v18
  let v20 : BitVec 32 := Scalar.subi v17 v19
  let v21 : BitVec 1 := Scalar.cmpi .ne v15 v20
  let v22 : BitVec 32 := Scalar.remsi v9 c4_i32
  let c0_i32_5 : BitVec 32 := 0#32
  let v23 : BitVec 1 := Scalar.cmpi .ne v22 c0_i32_5
  let v24 : BitVec 1 := Scalar.andi v21 v23
  let v10 : BitVec 32 := Scalar.divsi v9 c4_i32
  let c1_i32_6 : BitVec 32 := 1#32
  let v25 : BitVec 32 := Scalar.subi v10 c1_i32_6
  let v26 : BitVec 32 := Scalar.select v24 v25 v10
  let c4_i32_17 : BitVec 32 := 4#32
  let v40 : BitVec 32 := Scalar.muli v26 c4_i32_17
  let v134 : BitVec 32 := Scalar.addi v2 v40
  let c4_i32_91 : BitVec 32 := 4#32
  let v176 : BitVec 32 := Scalar.addi v134 c4_i32_91
  let c1_i32_92 : BitVec 32 := 1#32
  let v177 : BitVec 32 := Scalar.addi v176 c1_i32_92
  let c8_i32_254 : BitVec 32 := 8#32
  let c0_i32_255 : BitVec 32 := 0#32
  let v463 : BitVec 1 := Scalar.cmpi .eq c8_i32_254 c0_i32_255
  let c1_i32_256 : BitVec 32 := 1#32
  let v464 : BitVec 32 := Scalar.select v463 c1_i32_256 c8_i32_254
  let v465 : BitVec 32 := Scalar.remsi v177 v464
  let c0_i32_258 : BitVec 32 := 0#32
  let v467 : BitVec 1 := Scalar.cmpi .slt v465 c0_i32_258
  let c0_i32_259 : BitVec 32 := 0#32
  let v468 : BitVec 1 := Scalar.cmpi .slt v464 c0_i32_259
  let v469 : BitVec 1 := Scalar.xori v467 v468
  let c0_i32_257 : BitVec 32 := 0#32
  let v466 : BitVec 1 := Scalar.cmpi .ne v465 c0_i32_257
  let v470 : BitVec 1 := Scalar.andi v469 v466
  let v471 : BitVec 32 := Scalar.addi v465 v464
  let v472 : BitVec 32 := Scalar.select v470 v471 v465
  ![v472.toNat]
def k0_off97 (v2 : BitVec 32) (v5 : BitVec 32) : Fin 4 → Nat :=
  let v9 : BitVec 32 := Scalar.subi v5 v2
  let c0_i32_1 : BitVec 32 := 0#32
  let v11 : BitVec 1 := Scalar.cmpi .sgt v9 c0_i32_1
  let v12 : BitVec 32 := Scalar.extui v11
  let c0_i32_2 : BitVec 32 := 0#32
  let v13 : BitVec 1 := Scalar.cmpi .slt v9 c0_i32_2
  let v14 : BitVec 32 := Scalar.extui v13
  let v15 : BitVec 32 := Scalar.subi v12 v14
  let c4_i32 : BitVec 32 := 4#32
  let c0_i32_3 : BitVec 32 := 0#32
  let v16 : BitVec 1 := Scalar.cmpi .sgt c4_i32 c0_i32_3
  let v17 : BitVec 32 := Scalar.extui v16
  let c0_i32_4 : BitVec 32 := 0#32
  let v18 : BitVec 1 := Scalar.cmpi .slt c4_i32 c0_i32_4
  let v19 : BitVec 32 := Scalar.extui v18
  let v20 : BitVec 32 := Scalar.subi v17 v19
  let v21 : BitVec 1 := Scalar.cmpi .ne v15 v20
  let v22 : BitVec 32 := Scalar.remsi v9 c4_i32
  let c0_i32_5 : BitVec 32 := 0#32
  let v23 : BitVec 1 := Scalar.cmpi .ne v22 c0_i32_5
  let v24 : BitVec 1 := Scalar.andi v21 v23
  let v10 : BitVec 32 := Scalar.divsi v9 c4_i32
  let c1_i32_6 : BitVec 32 := 1#32
  let v25 : BitVec 32 := Scalar.subi v10 c1_i32_6
  let v26 : BitVec 32 := Scalar.select v24 v25 v10
  let c4_i32_17 : BitVec 32 := 4#32
  let v40 : BitVec 32 := Scalar.muli v26 c4_i32_17
  let v134 : BitVec 32 := Scalar.addi v2 v40
  let c4_i32_91 : BitVec 32 := 4#32
  let v176 : BitVec 32 := Scalar.addi v134 c4_i32_91
  let c1_i32_92 : BitVec 32 := 1#32
  let v177 : BitVec 32 := Scalar.addi v176 c1_i32_92
  let c8_i32_254 : BitVec 32 := 8#32
  let c0_i32_255 : BitVec 32 := 0#32
  let v463 : BitVec 1 := Scalar.cmpi .eq c8_i32_254 c0_i32_255
  let c1_i32_256 : BitVec 32 := 1#32
  let v464 : BitVec 32 := Scalar.select v463 c1_i32_256 c8_i32_254
  let v465 : BitVec 32 := Scalar.remsi v177 v464
  let c0_i32_258 : BitVec 32 := 0#32
  let v467 : BitVec 1 := Scalar.cmpi .slt v465 c0_i32_258
  let c0_i32_259 : BitVec 32 := 0#32
  let v468 : BitVec 1 := Scalar.cmpi .slt v464 c0_i32_259
  let v469 : BitVec 1 := Scalar.xori v467 v468
  let c0_i32_257 : BitVec 32 := 0#32
  let v466 : BitVec 1 := Scalar.cmpi .ne v465 c0_i32_257
  let v470 : BitVec 1 := Scalar.andi v469 v466
  let v471 : BitVec 32 := Scalar.addi v465 v464
  let v472 : BitVec 32 := Scalar.select v470 v471 v465
  let c0_i32_261 : BitVec 32 := 0#32
  let c0_i32_262 : BitVec 32 := 0#32
  let c0_i32_263 : BitVec 32 := 0#32
  ![v472.toNat, 0, 0, 0]
def k0_off98 (v2 : BitVec 32) (v5 : BitVec 32) : Fin 3 → Nat :=
  let c0_i32_264 : BitVec 32 := 0#32
  let v9 : BitVec 32 := Scalar.subi v5 v2
  let c0_i32_1 : BitVec 32 := 0#32
  let v11 : BitVec 1 := Scalar.cmpi .sgt v9 c0_i32_1
  let v12 : BitVec 32 := Scalar.extui v11
  let c0_i32_2 : BitVec 32 := 0#32
  let v13 : BitVec 1 := Scalar.cmpi .slt v9 c0_i32_2
  let v14 : BitVec 32 := Scalar.extui v13
  let v15 : BitVec 32 := Scalar.subi v12 v14
  let c4_i32 : BitVec 32 := 4#32
  let c0_i32_3 : BitVec 32 := 0#32
  let v16 : BitVec 1 := Scalar.cmpi .sgt c4_i32 c0_i32_3
  let v17 : BitVec 32 := Scalar.extui v16
  let c0_i32_4 : BitVec 32 := 0#32
  let v18 : BitVec 1 := Scalar.cmpi .slt c4_i32 c0_i32_4
  let v19 : BitVec 32 := Scalar.extui v18
  let v20 : BitVec 32 := Scalar.subi v17 v19
  let v21 : BitVec 1 := Scalar.cmpi .ne v15 v20
  let v22 : BitVec 32 := Scalar.remsi v9 c4_i32
  let c0_i32_5 : BitVec 32 := 0#32
  let v23 : BitVec 1 := Scalar.cmpi .ne v22 c0_i32_5
  let v24 : BitVec 1 := Scalar.andi v21 v23
  let v10 : BitVec 32 := Scalar.divsi v9 c4_i32
  let c1_i32_6 : BitVec 32 := 1#32
  let v25 : BitVec 32 := Scalar.subi v10 c1_i32_6
  let v26 : BitVec 32 := Scalar.select v24 v25 v10
  let c4_i32_17 : BitVec 32 := 4#32
  let v40 : BitVec 32 := Scalar.muli v26 c4_i32_17
  let v134 : BitVec 32 := Scalar.addi v2 v40
  let c4_i32_91 : BitVec 32 := 4#32
  let v176 : BitVec 32 := Scalar.addi v134 c4_i32_91
  let c1_i32_92 : BitVec 32 := 1#32
  let v177 : BitVec 32 := Scalar.addi v176 c1_i32_92
  let c256_i32_260 : BitVec 32 := 256#32
  let v473 : BitVec 32 := Scalar.muli v177 c256_i32_260
  let v474 : BitVec 32 := v473
  let c0_i32_265 : BitVec 32 := 0#32
  ![0, v474.toNat, 0]
def k0_mult57 (v2 : BitVec 32) (v5 : BitVec 32) : BitVec 32 :=
  let v9 : BitVec 32 := Scalar.subi v5 v2
  let c0_i32_1 : BitVec 32 := 0#32
  let v11 : BitVec 1 := Scalar.cmpi .sgt v9 c0_i32_1
  let v12 : BitVec 32 := Scalar.extui v11
  let c0_i32_2 : BitVec 32 := 0#32
  let v13 : BitVec 1 := Scalar.cmpi .slt v9 c0_i32_2
  let v14 : BitVec 32 := Scalar.extui v13
  let v15 : BitVec 32 := Scalar.subi v12 v14
  let c4_i32 : BitVec 32 := 4#32
  let c0_i32_3 : BitVec 32 := 0#32
  let v16 : BitVec 1 := Scalar.cmpi .sgt c4_i32 c0_i32_3
  let v17 : BitVec 32 := Scalar.extui v16
  let c0_i32_4 : BitVec 32 := 0#32
  let v18 : BitVec 1 := Scalar.cmpi .slt c4_i32 c0_i32_4
  let v19 : BitVec 32 := Scalar.extui v18
  let v20 : BitVec 32 := Scalar.subi v17 v19
  let v21 : BitVec 1 := Scalar.cmpi .ne v15 v20
  let v22 : BitVec 32 := Scalar.remsi v9 c4_i32
  let c0_i32_5 : BitVec 32 := 0#32
  let v23 : BitVec 1 := Scalar.cmpi .ne v22 c0_i32_5
  let v24 : BitVec 1 := Scalar.andi v21 v23
  let v10 : BitVec 32 := Scalar.divsi v9 c4_i32
  let c1_i32_6 : BitVec 32 := 1#32
  let v25 : BitVec 32 := Scalar.subi v10 c1_i32_6
  let v26 : BitVec 32 := Scalar.select v24 v25 v10
  let c4_i32_17 : BitVec 32 := 4#32
  let v40 : BitVec 32 := Scalar.muli v26 c4_i32_17
  let v134 : BitVec 32 := Scalar.addi v2 v40
  let c0_i32_94 : BitVec 32 := 0#32
  let v181 : BitVec 32 := Scalar.addi v134 c0_i32_94
  let c8_i32_254 : BitVec 32 := 8#32
  let v463 : BitVec 32 := Scalar.subi v181 c8_i32_254
  let c256_i32_261 : BitVec 32 := 256#32
  let v474 : BitVec 32 := Scalar.muli v463 c256_i32_261
  v474
def k0_cond35 (v2 : BitVec 32) (v5 : BitVec 32) : BitVec 1 :=
  let v9 : BitVec 32 := Scalar.subi v5 v2
  let c0_i32_1 : BitVec 32 := 0#32
  let v11 : BitVec 1 := Scalar.cmpi .sgt v9 c0_i32_1
  let v12 : BitVec 32 := Scalar.extui v11
  let c0_i32_2 : BitVec 32 := 0#32
  let v13 : BitVec 1 := Scalar.cmpi .slt v9 c0_i32_2
  let v14 : BitVec 32 := Scalar.extui v13
  let v15 : BitVec 32 := Scalar.subi v12 v14
  let c4_i32 : BitVec 32 := 4#32
  let c0_i32_3 : BitVec 32 := 0#32
  let v16 : BitVec 1 := Scalar.cmpi .sgt c4_i32 c0_i32_3
  let v17 : BitVec 32 := Scalar.extui v16
  let c0_i32_4 : BitVec 32 := 0#32
  let v18 : BitVec 1 := Scalar.cmpi .slt c4_i32 c0_i32_4
  let v19 : BitVec 32 := Scalar.extui v18
  let v20 : BitVec 32 := Scalar.subi v17 v19
  let v21 : BitVec 1 := Scalar.cmpi .ne v15 v20
  let v22 : BitVec 32 := Scalar.remsi v9 c4_i32
  let c0_i32_5 : BitVec 32 := 0#32
  let v23 : BitVec 1 := Scalar.cmpi .ne v22 c0_i32_5
  let v24 : BitVec 1 := Scalar.andi v21 v23
  let v10 : BitVec 32 := Scalar.divsi v9 c4_i32
  let c1_i32_6 : BitVec 32 := 1#32
  let v25 : BitVec 32 := Scalar.subi v10 c1_i32_6
  let v26 : BitVec 32 := Scalar.select v24 v25 v10
  let c4_i32_17 : BitVec 32 := 4#32
  let v40 : BitVec 32 := Scalar.muli v26 c4_i32_17
  let v134 : BitVec 32 := Scalar.addi v2 v40
  let c0_i32_94 : BitVec 32 := 0#32
  let v181 : BitVec 32 := Scalar.addi v134 c0_i32_94
  let c8_i32_95 : BitVec 32 := 8#32
  let v182 : BitVec 1 := Scalar.cmpi .sge v181 c8_i32_95
  let v183 : BitVec 32 := Scalar.extui v182
  let c0_i32_96 : BitVec 32 := 0#32
  let v184 : BitVec 1 := Scalar.cmpi .ne v183 c0_i32_96
  v184

def k0_off99 (v2 : BitVec 32) (v5 : BitVec 32) : Fin 1 → Nat :=
  let v9 : BitVec 32 := Scalar.subi v5 v2
  let c0_i32_1 : BitVec 32 := 0#32
  let v11 : BitVec 1 := Scalar.cmpi .sgt v9 c0_i32_1
  let v12 : BitVec 32 := Scalar.extui v11
  let c0_i32_2 : BitVec 32 := 0#32
  let v13 : BitVec 1 := Scalar.cmpi .slt v9 c0_i32_2
  let v14 : BitVec 32 := Scalar.extui v13
  let v15 : BitVec 32 := Scalar.subi v12 v14
  let c4_i32 : BitVec 32 := 4#32
  let c0_i32_3 : BitVec 32 := 0#32
  let v16 : BitVec 1 := Scalar.cmpi .sgt c4_i32 c0_i32_3
  let v17 : BitVec 32 := Scalar.extui v16
  let c0_i32_4 : BitVec 32 := 0#32
  let v18 : BitVec 1 := Scalar.cmpi .slt c4_i32 c0_i32_4
  let v19 : BitVec 32 := Scalar.extui v18
  let v20 : BitVec 32 := Scalar.subi v17 v19
  let v21 : BitVec 1 := Scalar.cmpi .ne v15 v20
  let v22 : BitVec 32 := Scalar.remsi v9 c4_i32
  let c0_i32_5 : BitVec 32 := 0#32
  let v23 : BitVec 1 := Scalar.cmpi .ne v22 c0_i32_5
  let v24 : BitVec 1 := Scalar.andi v21 v23
  let v10 : BitVec 32 := Scalar.divsi v9 c4_i32
  let c1_i32_6 : BitVec 32 := 1#32
  let v25 : BitVec 32 := Scalar.subi v10 c1_i32_6
  let v26 : BitVec 32 := Scalar.select v24 v25 v10
  let c4_i32_17 : BitVec 32 := 4#32
  let v40 : BitVec 32 := Scalar.muli v26 c4_i32_17
  let v134 : BitVec 32 := Scalar.addi v2 v40
  let c0_i32_94 : BitVec 32 := 0#32
  let v181 : BitVec 32 := Scalar.addi v134 c0_i32_94
  let c8_i32_255 : BitVec 32 := 8#32
  let c0_i32_256 : BitVec 32 := 0#32
  let v464 : BitVec 1 := Scalar.cmpi .eq c8_i32_255 c0_i32_256
  let c1_i32_257 : BitVec 32 := 1#32
  let v465 : BitVec 32 := Scalar.select v464 c1_i32_257 c8_i32_255
  let v466 : BitVec 32 := Scalar.remsi v181 v465
  let c0_i32_259 : BitVec 32 := 0#32
  let v468 : BitVec 1 := Scalar.cmpi .slt v466 c0_i32_259
  let c0_i32_260 : BitVec 32 := 0#32
  let v469 : BitVec 1 := Scalar.cmpi .slt v465 c0_i32_260
  let v470 : BitVec 1 := Scalar.xori v468 v469
  let c0_i32_258 : BitVec 32 := 0#32
  let v467 : BitVec 1 := Scalar.cmpi .ne v466 c0_i32_258
  let v471 : BitVec 1 := Scalar.andi v470 v467
  let v472 : BitVec 32 := Scalar.addi v466 v465
  let v473 : BitVec 32 := Scalar.select v471 v472 v466
  ![v473.toNat]
def k0_off100 (v2 : BitVec 32) (v5 : BitVec 32) : Fin 3 → Nat :=
  let c0_i32_262 : BitVec 32 := 0#32
  let v9 : BitVec 32 := Scalar.subi v5 v2
  let c0_i32_1 : BitVec 32 := 0#32
  let v11 : BitVec 1 := Scalar.cmpi .sgt v9 c0_i32_1
  let v12 : BitVec 32 := Scalar.extui v11
  let c0_i32_2 : BitVec 32 := 0#32
  let v13 : BitVec 1 := Scalar.cmpi .slt v9 c0_i32_2
  let v14 : BitVec 32 := Scalar.extui v13
  let v15 : BitVec 32 := Scalar.subi v12 v14
  let c4_i32 : BitVec 32 := 4#32
  let c0_i32_3 : BitVec 32 := 0#32
  let v16 : BitVec 1 := Scalar.cmpi .sgt c4_i32 c0_i32_3
  let v17 : BitVec 32 := Scalar.extui v16
  let c0_i32_4 : BitVec 32 := 0#32
  let v18 : BitVec 1 := Scalar.cmpi .slt c4_i32 c0_i32_4
  let v19 : BitVec 32 := Scalar.extui v18
  let v20 : BitVec 32 := Scalar.subi v17 v19
  let v21 : BitVec 1 := Scalar.cmpi .ne v15 v20
  let v22 : BitVec 32 := Scalar.remsi v9 c4_i32
  let c0_i32_5 : BitVec 32 := 0#32
  let v23 : BitVec 1 := Scalar.cmpi .ne v22 c0_i32_5
  let v24 : BitVec 1 := Scalar.andi v21 v23
  let v10 : BitVec 32 := Scalar.divsi v9 c4_i32
  let c1_i32_6 : BitVec 32 := 1#32
  let v25 : BitVec 32 := Scalar.subi v10 c1_i32_6
  let v26 : BitVec 32 := Scalar.select v24 v25 v10
  let c4_i32_17 : BitVec 32 := 4#32
  let v40 : BitVec 32 := Scalar.muli v26 c4_i32_17
  let v134 : BitVec 32 := Scalar.addi v2 v40
  let c0_i32_94 : BitVec 32 := 0#32
  let v181 : BitVec 32 := Scalar.addi v134 c0_i32_94
  let c8_i32_254 : BitVec 32 := 8#32
  let v463 : BitVec 32 := Scalar.subi v181 c8_i32_254
  let c256_i32_261 : BitVec 32 := 256#32
  let v474 : BitVec 32 := Scalar.muli v463 c256_i32_261
  let v475 : BitVec 32 := v474
  let c0_i32_263 : BitVec 32 := 0#32
  ![0, v475.toNat, 0]
def k0_off101 (v2 : BitVec 32) (v5 : BitVec 32) : Fin 4 → Nat :=
  let v9 : BitVec 32 := Scalar.subi v5 v2
  let c0_i32_1 : BitVec 32 := 0#32
  let v11 : BitVec 1 := Scalar.cmpi .sgt v9 c0_i32_1
  let v12 : BitVec 32 := Scalar.extui v11
  let c0_i32_2 : BitVec 32 := 0#32
  let v13 : BitVec 1 := Scalar.cmpi .slt v9 c0_i32_2
  let v14 : BitVec 32 := Scalar.extui v13
  let v15 : BitVec 32 := Scalar.subi v12 v14
  let c4_i32 : BitVec 32 := 4#32
  let c0_i32_3 : BitVec 32 := 0#32
  let v16 : BitVec 1 := Scalar.cmpi .sgt c4_i32 c0_i32_3
  let v17 : BitVec 32 := Scalar.extui v16
  let c0_i32_4 : BitVec 32 := 0#32
  let v18 : BitVec 1 := Scalar.cmpi .slt c4_i32 c0_i32_4
  let v19 : BitVec 32 := Scalar.extui v18
  let v20 : BitVec 32 := Scalar.subi v17 v19
  let v21 : BitVec 1 := Scalar.cmpi .ne v15 v20
  let v22 : BitVec 32 := Scalar.remsi v9 c4_i32
  let c0_i32_5 : BitVec 32 := 0#32
  let v23 : BitVec 1 := Scalar.cmpi .ne v22 c0_i32_5
  let v24 : BitVec 1 := Scalar.andi v21 v23
  let v10 : BitVec 32 := Scalar.divsi v9 c4_i32
  let c1_i32_6 : BitVec 32 := 1#32
  let v25 : BitVec 32 := Scalar.subi v10 c1_i32_6
  let v26 : BitVec 32 := Scalar.select v24 v25 v10
  let c4_i32_17 : BitVec 32 := 4#32
  let v40 : BitVec 32 := Scalar.muli v26 c4_i32_17
  let v134 : BitVec 32 := Scalar.addi v2 v40
  let c0_i32_94 : BitVec 32 := 0#32
  let v181 : BitVec 32 := Scalar.addi v134 c0_i32_94
  let c8_i32_255 : BitVec 32 := 8#32
  let c0_i32_256 : BitVec 32 := 0#32
  let v464 : BitVec 1 := Scalar.cmpi .eq c8_i32_255 c0_i32_256
  let c1_i32_257 : BitVec 32 := 1#32
  let v465 : BitVec 32 := Scalar.select v464 c1_i32_257 c8_i32_255
  let v466 : BitVec 32 := Scalar.remsi v181 v465
  let c0_i32_259 : BitVec 32 := 0#32
  let v468 : BitVec 1 := Scalar.cmpi .slt v466 c0_i32_259
  let c0_i32_260 : BitVec 32 := 0#32
  let v469 : BitVec 1 := Scalar.cmpi .slt v465 c0_i32_260
  let v470 : BitVec 1 := Scalar.xori v468 v469
  let c0_i32_258 : BitVec 32 := 0#32
  let v467 : BitVec 1 := Scalar.cmpi .ne v466 c0_i32_258
  let v471 : BitVec 1 := Scalar.andi v470 v467
  let v472 : BitVec 32 := Scalar.addi v466 v465
  let v473 : BitVec 32 := Scalar.select v471 v472 v466
  let c0_i32_264 : BitVec 32 := 0#32
  let c0_i32_265 : BitVec 32 := 0#32
  let c0_i32_266 : BitVec 32 := 0#32
  ![v473.toNat, 0, 0, 0]
def k0_mult58 (v2 : BitVec 32) (v5 : BitVec 32) : BitVec 32 :=
  let v9 : BitVec 32 := Scalar.subi v5 v2
  let c0_i32_1 : BitVec 32 := 0#32
  let v11 : BitVec 1 := Scalar.cmpi .sgt v9 c0_i32_1
  let v12 : BitVec 32 := Scalar.extui v11
  let c0_i32_2 : BitVec 32 := 0#32
  let v13 : BitVec 1 := Scalar.cmpi .slt v9 c0_i32_2
  let v14 : BitVec 32 := Scalar.extui v13
  let v15 : BitVec 32 := Scalar.subi v12 v14
  let c4_i32 : BitVec 32 := 4#32
  let c0_i32_3 : BitVec 32 := 0#32
  let v16 : BitVec 1 := Scalar.cmpi .sgt c4_i32 c0_i32_3
  let v17 : BitVec 32 := Scalar.extui v16
  let c0_i32_4 : BitVec 32 := 0#32
  let v18 : BitVec 1 := Scalar.cmpi .slt c4_i32 c0_i32_4
  let v19 : BitVec 32 := Scalar.extui v18
  let v20 : BitVec 32 := Scalar.subi v17 v19
  let v21 : BitVec 1 := Scalar.cmpi .ne v15 v20
  let v22 : BitVec 32 := Scalar.remsi v9 c4_i32
  let c0_i32_5 : BitVec 32 := 0#32
  let v23 : BitVec 1 := Scalar.cmpi .ne v22 c0_i32_5
  let v24 : BitVec 1 := Scalar.andi v21 v23
  let v10 : BitVec 32 := Scalar.divsi v9 c4_i32
  let c1_i32_6 : BitVec 32 := 1#32
  let v25 : BitVec 32 := Scalar.subi v10 c1_i32_6
  let v26 : BitVec 32 := Scalar.select v24 v25 v10
  let c4_i32_17 : BitVec 32 := 4#32
  let v40 : BitVec 32 := Scalar.muli v26 c4_i32_17
  let v134 : BitVec 32 := Scalar.addi v2 v40
  let c1_i32_97 : BitVec 32 := 1#32
  let v185 : BitVec 32 := Scalar.addi v134 c1_i32_97
  let c8_i32_254 : BitVec 32 := 8#32
  let v463 : BitVec 32 := Scalar.subi v185 c8_i32_254
  let c256_i32_261 : BitVec 32 := 256#32
  let v474 : BitVec 32 := Scalar.muli v463 c256_i32_261
  v474
def k0_cond36 (v2 : BitVec 32) (v5 : BitVec 32) : BitVec 1 :=
  let v9 : BitVec 32 := Scalar.subi v5 v2
  let c0_i32_1 : BitVec 32 := 0#32
  let v11 : BitVec 1 := Scalar.cmpi .sgt v9 c0_i32_1
  let v12 : BitVec 32 := Scalar.extui v11
  let c0_i32_2 : BitVec 32 := 0#32
  let v13 : BitVec 1 := Scalar.cmpi .slt v9 c0_i32_2
  let v14 : BitVec 32 := Scalar.extui v13
  let v15 : BitVec 32 := Scalar.subi v12 v14
  let c4_i32 : BitVec 32 := 4#32
  let c0_i32_3 : BitVec 32 := 0#32
  let v16 : BitVec 1 := Scalar.cmpi .sgt c4_i32 c0_i32_3
  let v17 : BitVec 32 := Scalar.extui v16
  let c0_i32_4 : BitVec 32 := 0#32
  let v18 : BitVec 1 := Scalar.cmpi .slt c4_i32 c0_i32_4
  let v19 : BitVec 32 := Scalar.extui v18
  let v20 : BitVec 32 := Scalar.subi v17 v19
  let v21 : BitVec 1 := Scalar.cmpi .ne v15 v20
  let v22 : BitVec 32 := Scalar.remsi v9 c4_i32
  let c0_i32_5 : BitVec 32 := 0#32
  let v23 : BitVec 1 := Scalar.cmpi .ne v22 c0_i32_5
  let v24 : BitVec 1 := Scalar.andi v21 v23
  let v10 : BitVec 32 := Scalar.divsi v9 c4_i32
  let c1_i32_6 : BitVec 32 := 1#32
  let v25 : BitVec 32 := Scalar.subi v10 c1_i32_6
  let v26 : BitVec 32 := Scalar.select v24 v25 v10
  let c4_i32_17 : BitVec 32 := 4#32
  let v40 : BitVec 32 := Scalar.muli v26 c4_i32_17
  let v134 : BitVec 32 := Scalar.addi v2 v40
  let c1_i32_97 : BitVec 32 := 1#32
  let v185 : BitVec 32 := Scalar.addi v134 c1_i32_97
  let c8_i32_98 : BitVec 32 := 8#32
  let v186 : BitVec 1 := Scalar.cmpi .sge v185 c8_i32_98
  let v187 : BitVec 32 := Scalar.extui v186
  let c0_i32_99 : BitVec 32 := 0#32
  let v188 : BitVec 1 := Scalar.cmpi .ne v187 c0_i32_99
  v188

def k0_off102 (v2 : BitVec 32) (v5 : BitVec 32) : Fin 1 → Nat :=
  let v9 : BitVec 32 := Scalar.subi v5 v2
  let c0_i32_1 : BitVec 32 := 0#32
  let v11 : BitVec 1 := Scalar.cmpi .sgt v9 c0_i32_1
  let v12 : BitVec 32 := Scalar.extui v11
  let c0_i32_2 : BitVec 32 := 0#32
  let v13 : BitVec 1 := Scalar.cmpi .slt v9 c0_i32_2
  let v14 : BitVec 32 := Scalar.extui v13
  let v15 : BitVec 32 := Scalar.subi v12 v14
  let c4_i32 : BitVec 32 := 4#32
  let c0_i32_3 : BitVec 32 := 0#32
  let v16 : BitVec 1 := Scalar.cmpi .sgt c4_i32 c0_i32_3
  let v17 : BitVec 32 := Scalar.extui v16
  let c0_i32_4 : BitVec 32 := 0#32
  let v18 : BitVec 1 := Scalar.cmpi .slt c4_i32 c0_i32_4
  let v19 : BitVec 32 := Scalar.extui v18
  let v20 : BitVec 32 := Scalar.subi v17 v19
  let v21 : BitVec 1 := Scalar.cmpi .ne v15 v20
  let v22 : BitVec 32 := Scalar.remsi v9 c4_i32
  let c0_i32_5 : BitVec 32 := 0#32
  let v23 : BitVec 1 := Scalar.cmpi .ne v22 c0_i32_5
  let v24 : BitVec 1 := Scalar.andi v21 v23
  let v10 : BitVec 32 := Scalar.divsi v9 c4_i32
  let c1_i32_6 : BitVec 32 := 1#32
  let v25 : BitVec 32 := Scalar.subi v10 c1_i32_6
  let v26 : BitVec 32 := Scalar.select v24 v25 v10
  let c4_i32_17 : BitVec 32 := 4#32
  let v40 : BitVec 32 := Scalar.muli v26 c4_i32_17
  let v134 : BitVec 32 := Scalar.addi v2 v40
  let c1_i32_97 : BitVec 32 := 1#32
  let v185 : BitVec 32 := Scalar.addi v134 c1_i32_97
  let c8_i32_255 : BitVec 32 := 8#32
  let c0_i32_256 : BitVec 32 := 0#32
  let v464 : BitVec 1 := Scalar.cmpi .eq c8_i32_255 c0_i32_256
  let c1_i32_257 : BitVec 32 := 1#32
  let v465 : BitVec 32 := Scalar.select v464 c1_i32_257 c8_i32_255
  let v466 : BitVec 32 := Scalar.remsi v185 v465
  let c0_i32_259 : BitVec 32 := 0#32
  let v468 : BitVec 1 := Scalar.cmpi .slt v466 c0_i32_259
  let c0_i32_260 : BitVec 32 := 0#32
  let v469 : BitVec 1 := Scalar.cmpi .slt v465 c0_i32_260
  let v470 : BitVec 1 := Scalar.xori v468 v469
  let c0_i32_258 : BitVec 32 := 0#32
  let v467 : BitVec 1 := Scalar.cmpi .ne v466 c0_i32_258
  let v471 : BitVec 1 := Scalar.andi v470 v467
  let v472 : BitVec 32 := Scalar.addi v466 v465
  let v473 : BitVec 32 := Scalar.select v471 v472 v466
  ![v473.toNat]
def k0_off103 (v2 : BitVec 32) (v5 : BitVec 32) : Fin 3 → Nat :=
  let c0_i32_262 : BitVec 32 := 0#32
  let v9 : BitVec 32 := Scalar.subi v5 v2
  let c0_i32_1 : BitVec 32 := 0#32
  let v11 : BitVec 1 := Scalar.cmpi .sgt v9 c0_i32_1
  let v12 : BitVec 32 := Scalar.extui v11
  let c0_i32_2 : BitVec 32 := 0#32
  let v13 : BitVec 1 := Scalar.cmpi .slt v9 c0_i32_2
  let v14 : BitVec 32 := Scalar.extui v13
  let v15 : BitVec 32 := Scalar.subi v12 v14
  let c4_i32 : BitVec 32 := 4#32
  let c0_i32_3 : BitVec 32 := 0#32
  let v16 : BitVec 1 := Scalar.cmpi .sgt c4_i32 c0_i32_3
  let v17 : BitVec 32 := Scalar.extui v16
  let c0_i32_4 : BitVec 32 := 0#32
  let v18 : BitVec 1 := Scalar.cmpi .slt c4_i32 c0_i32_4
  let v19 : BitVec 32 := Scalar.extui v18
  let v20 : BitVec 32 := Scalar.subi v17 v19
  let v21 : BitVec 1 := Scalar.cmpi .ne v15 v20
  let v22 : BitVec 32 := Scalar.remsi v9 c4_i32
  let c0_i32_5 : BitVec 32 := 0#32
  let v23 : BitVec 1 := Scalar.cmpi .ne v22 c0_i32_5
  let v24 : BitVec 1 := Scalar.andi v21 v23
  let v10 : BitVec 32 := Scalar.divsi v9 c4_i32
  let c1_i32_6 : BitVec 32 := 1#32
  let v25 : BitVec 32 := Scalar.subi v10 c1_i32_6
  let v26 : BitVec 32 := Scalar.select v24 v25 v10
  let c4_i32_17 : BitVec 32 := 4#32
  let v40 : BitVec 32 := Scalar.muli v26 c4_i32_17
  let v134 : BitVec 32 := Scalar.addi v2 v40
  let c1_i32_97 : BitVec 32 := 1#32
  let v185 : BitVec 32 := Scalar.addi v134 c1_i32_97
  let c8_i32_254 : BitVec 32 := 8#32
  let v463 : BitVec 32 := Scalar.subi v185 c8_i32_254
  let c256_i32_261 : BitVec 32 := 256#32
  let v474 : BitVec 32 := Scalar.muli v463 c256_i32_261
  let v475 : BitVec 32 := v474
  let c0_i32_263 : BitVec 32 := 0#32
  ![0, v475.toNat, 0]
def k0_off104 (v2 : BitVec 32) (v5 : BitVec 32) : Fin 4 → Nat :=
  let v9 : BitVec 32 := Scalar.subi v5 v2
  let c0_i32_1 : BitVec 32 := 0#32
  let v11 : BitVec 1 := Scalar.cmpi .sgt v9 c0_i32_1
  let v12 : BitVec 32 := Scalar.extui v11
  let c0_i32_2 : BitVec 32 := 0#32
  let v13 : BitVec 1 := Scalar.cmpi .slt v9 c0_i32_2
  let v14 : BitVec 32 := Scalar.extui v13
  let v15 : BitVec 32 := Scalar.subi v12 v14
  let c4_i32 : BitVec 32 := 4#32
  let c0_i32_3 : BitVec 32 := 0#32
  let v16 : BitVec 1 := Scalar.cmpi .sgt c4_i32 c0_i32_3
  let v17 : BitVec 32 := Scalar.extui v16
  let c0_i32_4 : BitVec 32 := 0#32
  let v18 : BitVec 1 := Scalar.cmpi .slt c4_i32 c0_i32_4
  let v19 : BitVec 32 := Scalar.extui v18
  let v20 : BitVec 32 := Scalar.subi v17 v19
  let v21 : BitVec 1 := Scalar.cmpi .ne v15 v20
  let v22 : BitVec 32 := Scalar.remsi v9 c4_i32
  let c0_i32_5 : BitVec 32 := 0#32
  let v23 : BitVec 1 := Scalar.cmpi .ne v22 c0_i32_5
  let v24 : BitVec 1 := Scalar.andi v21 v23
  let v10 : BitVec 32 := Scalar.divsi v9 c4_i32
  let c1_i32_6 : BitVec 32 := 1#32
  let v25 : BitVec 32 := Scalar.subi v10 c1_i32_6
  let v26 : BitVec 32 := Scalar.select v24 v25 v10
  let c4_i32_17 : BitVec 32 := 4#32
  let v40 : BitVec 32 := Scalar.muli v26 c4_i32_17
  let v134 : BitVec 32 := Scalar.addi v2 v40
  let c1_i32_97 : BitVec 32 := 1#32
  let v185 : BitVec 32 := Scalar.addi v134 c1_i32_97
  let c8_i32_255 : BitVec 32 := 8#32
  let c0_i32_256 : BitVec 32 := 0#32
  let v464 : BitVec 1 := Scalar.cmpi .eq c8_i32_255 c0_i32_256
  let c1_i32_257 : BitVec 32 := 1#32
  let v465 : BitVec 32 := Scalar.select v464 c1_i32_257 c8_i32_255
  let v466 : BitVec 32 := Scalar.remsi v185 v465
  let c0_i32_259 : BitVec 32 := 0#32
  let v468 : BitVec 1 := Scalar.cmpi .slt v466 c0_i32_259
  let c0_i32_260 : BitVec 32 := 0#32
  let v469 : BitVec 1 := Scalar.cmpi .slt v465 c0_i32_260
  let v470 : BitVec 1 := Scalar.xori v468 v469
  let c0_i32_258 : BitVec 32 := 0#32
  let v467 : BitVec 1 := Scalar.cmpi .ne v466 c0_i32_258
  let v471 : BitVec 1 := Scalar.andi v470 v467
  let v472 : BitVec 32 := Scalar.addi v466 v465
  let v473 : BitVec 32 := Scalar.select v471 v472 v466
  let c0_i32_264 : BitVec 32 := 0#32
  let c0_i32_265 : BitVec 32 := 0#32
  let c0_i32_266 : BitVec 32 := 0#32
  ![v473.toNat, 0, 0, 0]
def k0_off105 (v2 : BitVec 32) (v5 : BitVec 32) (c0_i32_100 : BitVec 32) : Fin 4 → Nat :=
  let v9 : BitVec 32 := Scalar.subi v5 v2
  let c0_i32_1 : BitVec 32 := 0#32
  let v11 : BitVec 1 := Scalar.cmpi .sgt v9 c0_i32_1
  let v12 : BitVec 32 := Scalar.extui v11
  let c0_i32_2 : BitVec 32 := 0#32
  let v13 : BitVec 1 := Scalar.cmpi .slt v9 c0_i32_2
  let v14 : BitVec 32 := Scalar.extui v13
  let v15 : BitVec 32 := Scalar.subi v12 v14
  let c4_i32 : BitVec 32 := 4#32
  let c0_i32_3 : BitVec 32 := 0#32
  let v16 : BitVec 1 := Scalar.cmpi .sgt c4_i32 c0_i32_3
  let v17 : BitVec 32 := Scalar.extui v16
  let c0_i32_4 : BitVec 32 := 0#32
  let v18 : BitVec 1 := Scalar.cmpi .slt c4_i32 c0_i32_4
  let v19 : BitVec 32 := Scalar.extui v18
  let v20 : BitVec 32 := Scalar.subi v17 v19
  let v21 : BitVec 1 := Scalar.cmpi .ne v15 v20
  let v22 : BitVec 32 := Scalar.remsi v9 c4_i32
  let c0_i32_5 : BitVec 32 := 0#32
  let v23 : BitVec 1 := Scalar.cmpi .ne v22 c0_i32_5
  let v24 : BitVec 1 := Scalar.andi v21 v23
  let v10 : BitVec 32 := Scalar.divsi v9 c4_i32
  let c1_i32_6 : BitVec 32 := 1#32
  let v25 : BitVec 32 := Scalar.subi v10 c1_i32_6
  let v26 : BitVec 32 := Scalar.select v24 v25 v10
  let c4_i32_17 : BitVec 32 := 4#32
  let v40 : BitVec 32 := Scalar.muli v26 c4_i32_17
  let v134 : BitVec 32 := Scalar.addi v2 v40
  let v189 : BitVec 32 := Scalar.addi v134 c0_i32_100
  let c8_i32_101 : BitVec 32 := 8#32
  let c0_i32_102 : BitVec 32 := 0#32
  let v190 : BitVec 1 := Scalar.cmpi .eq c8_i32_101 c0_i32_102
  let c1_i32_103 : BitVec 32 := 1#32
  let v191 : BitVec 32 := Scalar.select v190 c1_i32_103 c8_i32_101
  let v192 : BitVec 32 := Scalar.remsi v189 v191
  let c0_i32_105 : BitVec 32 := 0#32
  let v194 : BitVec 1 := Scalar.cmpi .slt v192 c0_i32_105
  let c0_i32_106 : BitVec 32 := 0#32
  let v195 : BitVec 1 := Scalar.cmpi .slt v191 c0_i32_106
  let v196 : BitVec 1 := Scalar.xori v194 v195
  let c0_i32_104 : BitVec 32 := 0#32
  let v193 : BitVec 1 := Scalar.cmpi .ne v192 c0_i32_104
  let v197 : BitVec 1 := Scalar.andi v196 v193
  let v198 : BitVec 32 := Scalar.addi v192 v191
  let v199 : BitVec 32 := Scalar.select v197 v198 v192
  let v200 : Index := Scalar.indexCast v199
  let c0_107 : Index := 0#32
  let c0_108 : Index := 0#32
  let c0_109 : Index := 0#32
  ![v200.toNat, 0, 0, 0]
def k0_off106 (v2 : BitVec 32) (v5 : BitVec 32) (c0_i32_100 : BitVec 32) : Fin 4 → Nat :=
  let v9 : BitVec 32 := Scalar.subi v5 v2
  let c0_i32_1 : BitVec 32 := 0#32
  let v11 : BitVec 1 := Scalar.cmpi .sgt v9 c0_i32_1
  let v12 : BitVec 32 := Scalar.extui v11
  let c0_i32_2 : BitVec 32 := 0#32
  let v13 : BitVec 1 := Scalar.cmpi .slt v9 c0_i32_2
  let v14 : BitVec 32 := Scalar.extui v13
  let v15 : BitVec 32 := Scalar.subi v12 v14
  let c4_i32 : BitVec 32 := 4#32
  let c0_i32_3 : BitVec 32 := 0#32
  let v16 : BitVec 1 := Scalar.cmpi .sgt c4_i32 c0_i32_3
  let v17 : BitVec 32 := Scalar.extui v16
  let c0_i32_4 : BitVec 32 := 0#32
  let v18 : BitVec 1 := Scalar.cmpi .slt c4_i32 c0_i32_4
  let v19 : BitVec 32 := Scalar.extui v18
  let v20 : BitVec 32 := Scalar.subi v17 v19
  let v21 : BitVec 1 := Scalar.cmpi .ne v15 v20
  let v22 : BitVec 32 := Scalar.remsi v9 c4_i32
  let c0_i32_5 : BitVec 32 := 0#32
  let v23 : BitVec 1 := Scalar.cmpi .ne v22 c0_i32_5
  let v24 : BitVec 1 := Scalar.andi v21 v23
  let v10 : BitVec 32 := Scalar.divsi v9 c4_i32
  let c1_i32_6 : BitVec 32 := 1#32
  let v25 : BitVec 32 := Scalar.subi v10 c1_i32_6
  let v26 : BitVec 32 := Scalar.select v24 v25 v10
  let c4_i32_17 : BitVec 32 := 4#32
  let v40 : BitVec 32 := Scalar.muli v26 c4_i32_17
  let v134 : BitVec 32 := Scalar.addi v2 v40
  let v189 : BitVec 32 := Scalar.addi v134 c0_i32_100
  let c8_i32_110 : BitVec 32 := 8#32
  let c0_i32_111 : BitVec 32 := 0#32
  let v203 : BitVec 1 := Scalar.cmpi .eq c8_i32_110 c0_i32_111
  let c1_i32_112 : BitVec 32 := 1#32
  let v204 : BitVec 32 := Scalar.select v203 c1_i32_112 c8_i32_110
  let v205 : BitVec 32 := Scalar.remsi v189 v204
  let c0_i32_114 : BitVec 32 := 0#32
  let v207 : BitVec 1 := Scalar.cmpi .slt v205 c0_i32_114
  let c0_i32_115 : BitVec 32 := 0#32
  let v208 : BitVec 1 := Scalar.cmpi .slt v204 c0_i32_115
  let v209 : BitVec 1 := Scalar.xori v207 v208
  let c0_i32_113 : BitVec 32 := 0#32
  let v206 : BitVec 1 := Scalar.cmpi .ne v205 c0_i32_113
  let v210 : BitVec 1 := Scalar.andi v209 v206
  let v211 : BitVec 32 := Scalar.addi v205 v204
  let v212 : BitVec 32 := Scalar.select v210 v211 v205
  let v213 : Index := Scalar.indexCast v212
  let c1 : Index := 1#32
  let c0_116 : Index := 0#32
  let c0_117 : Index := 0#32
  ![v213.toNat, 1, 0, 0]
def k0_mult59 (v2 : BitVec 32) (v5 : BitVec 32) : BitVec 32 :=
  let v9 : BitVec 32 := Scalar.subi v5 v2
  let c0_i32_1 : BitVec 32 := 0#32
  let v11 : BitVec 1 := Scalar.cmpi .sgt v9 c0_i32_1
  let v12 : BitVec 32 := Scalar.extui v11
  let c0_i32_2 : BitVec 32 := 0#32
  let v13 : BitVec 1 := Scalar.cmpi .slt v9 c0_i32_2
  let v14 : BitVec 32 := Scalar.extui v13
  let v15 : BitVec 32 := Scalar.subi v12 v14
  let c4_i32 : BitVec 32 := 4#32
  let c0_i32_3 : BitVec 32 := 0#32
  let v16 : BitVec 1 := Scalar.cmpi .sgt c4_i32 c0_i32_3
  let v17 : BitVec 32 := Scalar.extui v16
  let c0_i32_4 : BitVec 32 := 0#32
  let v18 : BitVec 1 := Scalar.cmpi .slt c4_i32 c0_i32_4
  let v19 : BitVec 32 := Scalar.extui v18
  let v20 : BitVec 32 := Scalar.subi v17 v19
  let v21 : BitVec 1 := Scalar.cmpi .ne v15 v20
  let v22 : BitVec 32 := Scalar.remsi v9 c4_i32
  let c0_i32_5 : BitVec 32 := 0#32
  let v23 : BitVec 1 := Scalar.cmpi .ne v22 c0_i32_5
  let v24 : BitVec 1 := Scalar.andi v21 v23
  let v10 : BitVec 32 := Scalar.divsi v9 c4_i32
  let c1_i32_6 : BitVec 32 := 1#32
  let v25 : BitVec 32 := Scalar.subi v10 c1_i32_6
  let v26 : BitVec 32 := Scalar.select v24 v25 v10
  let c4_i32_17 : BitVec 32 := 4#32
  let v40 : BitVec 32 := Scalar.muli v26 c4_i32_17
  let v134 : BitVec 32 := Scalar.addi v2 v40
  let c0_i32_216 : BitVec 32 := 0#32
  let v407 : BitVec 32 := Scalar.addi v134 c0_i32_216
  let c256_i32_217 : BitVec 32 := 256#32
  let v408 : BitVec 32 := Scalar.muli v407 c256_i32_217
  v408
def k0_mult60 (v2 : BitVec 32) (v5 : BitVec 32) : BitVec 32 :=
  let v9 : BitVec 32 := Scalar.subi v5 v2
  let c0_i32_1 : BitVec 32 := 0#32
  let v11 : BitVec 1 := Scalar.cmpi .sgt v9 c0_i32_1
  let v12 : BitVec 32 := Scalar.extui v11
  let c0_i32_2 : BitVec 32 := 0#32
  let v13 : BitVec 1 := Scalar.cmpi .slt v9 c0_i32_2
  let v14 : BitVec 32 := Scalar.extui v13
  let v15 : BitVec 32 := Scalar.subi v12 v14
  let c4_i32 : BitVec 32 := 4#32
  let c0_i32_3 : BitVec 32 := 0#32
  let v16 : BitVec 1 := Scalar.cmpi .sgt c4_i32 c0_i32_3
  let v17 : BitVec 32 := Scalar.extui v16
  let c0_i32_4 : BitVec 32 := 0#32
  let v18 : BitVec 1 := Scalar.cmpi .slt c4_i32 c0_i32_4
  let v19 : BitVec 32 := Scalar.extui v18
  let v20 : BitVec 32 := Scalar.subi v17 v19
  let v21 : BitVec 1 := Scalar.cmpi .ne v15 v20
  let v22 : BitVec 32 := Scalar.remsi v9 c4_i32
  let c0_i32_5 : BitVec 32 := 0#32
  let v23 : BitVec 1 := Scalar.cmpi .ne v22 c0_i32_5
  let v24 : BitVec 1 := Scalar.andi v21 v23
  let v10 : BitVec 32 := Scalar.divsi v9 c4_i32
  let c1_i32_6 : BitVec 32 := 1#32
  let v25 : BitVec 32 := Scalar.subi v10 c1_i32_6
  let v26 : BitVec 32 := Scalar.select v24 v25 v10
  let c4_i32_17 : BitVec 32 := 4#32
  let v40 : BitVec 32 := Scalar.muli v26 c4_i32_17
  let v134 : BitVec 32 := Scalar.addi v2 v40
  let c1_i32_235 : BitVec 32 := 1#32
  let v435 : BitVec 32 := Scalar.addi v134 c1_i32_235
  let c256_i32_236 : BitVec 32 := 256#32
  let v436 : BitVec 32 := Scalar.muli v435 c256_i32_236
  v436
def k0_mult61 (v2 : BitVec 32) (v5 : BitVec 32) : BitVec 32 :=
  let v9 : BitVec 32 := Scalar.subi v5 v2
  let c0_i32_1 : BitVec 32 := 0#32
  let v11 : BitVec 1 := Scalar.cmpi .sgt v9 c0_i32_1
  let v12 : BitVec 32 := Scalar.extui v11
  let c0_i32_2 : BitVec 32 := 0#32
  let v13 : BitVec 1 := Scalar.cmpi .slt v9 c0_i32_2
  let v14 : BitVec 32 := Scalar.extui v13
  let v15 : BitVec 32 := Scalar.subi v12 v14
  let c4_i32 : BitVec 32 := 4#32
  let c0_i32_3 : BitVec 32 := 0#32
  let v16 : BitVec 1 := Scalar.cmpi .sgt c4_i32 c0_i32_3
  let v17 : BitVec 32 := Scalar.extui v16
  let c0_i32_4 : BitVec 32 := 0#32
  let v18 : BitVec 1 := Scalar.cmpi .slt c4_i32 c0_i32_4
  let v19 : BitVec 32 := Scalar.extui v18
  let v20 : BitVec 32 := Scalar.subi v17 v19
  let v21 : BitVec 1 := Scalar.cmpi .ne v15 v20
  let v22 : BitVec 32 := Scalar.remsi v9 c4_i32
  let c0_i32_5 : BitVec 32 := 0#32
  let v23 : BitVec 1 := Scalar.cmpi .ne v22 c0_i32_5
  let v24 : BitVec 1 := Scalar.andi v21 v23
  let v10 : BitVec 32 := Scalar.divsi v9 c4_i32
  let c1_i32_6 : BitVec 32 := 1#32
  let v25 : BitVec 32 := Scalar.subi v10 c1_i32_6
  let v26 : BitVec 32 := Scalar.select v24 v25 v10
  let c4_i32_17 : BitVec 32 := 4#32
  let v40 : BitVec 32 := Scalar.muli v26 c4_i32_17
  let c0_i32_33 : BitVec 32 := 0#32
  let v72 : BitVec 1 := Scalar.cmpi .sgt v9 c0_i32_33
  let v73 : BitVec 32 := Scalar.extui v72
  let c0_i32_34 : BitVec 32 := 0#32
  let v74 : BitVec 1 := Scalar.cmpi .slt v9 c0_i32_34
  let v75 : BitVec 32 := Scalar.extui v74
  let v76 : BitVec 32 := Scalar.subi v73 v75
  let c2_i32_32 : BitVec 32 := 2#32
  let c0_i32_35 : BitVec 32 := 0#32
  let v77 : BitVec 1 := Scalar.cmpi .sgt c2_i32_32 c0_i32_35
  let v78 : BitVec 32 := Scalar.extui v77
  let c0_i32_36 : BitVec 32 := 0#32
  let v79 : BitVec 1 := Scalar.cmpi .slt c2_i32_32 c0_i32_36
  let v80 : BitVec 32 := Scalar.extui v79
  let v81 : BitVec 32 := Scalar.subi v78 v80
  let v82 : BitVec 1 := Scalar.cmpi .ne v76 v81
  let v83 : BitVec 32 := Scalar.remsi v9 c2_i32_32
  let c0_i32_37 : BitVec 32 := 0#32
  let v84 : BitVec 1 := Scalar.cmpi .ne v83 c0_i32_37
  let v85 : BitVec 1 := Scalar.andi v82 v84
  let v71 : BitVec 32 := Scalar.divsi v9 c2_i32_32
  let c1_i32_38 : BitVec 32 := 1#32
  let v86 : BitVec 32 := Scalar.subi v71 c1_i32_38
  let v87 : BitVec 32 := Scalar.select v85 v86 v71
  let c2_i32_39 : BitVec 32 := 2#32
  let c0_i32_40 : BitVec 32 := 0#32
  let v88 : BitVec 1 := Scalar.cmpi .eq c2_i32_39 c0_i32_40
  let c1_i32_41 : BitVec 32 := 1#32
  let v89 : BitVec 32 := Scalar.select v88 c1_i32_41 c2_i32_39
  let v90 : BitVec 32 := Scalar.remsi v87 v89
  let c0_i32_43 : BitVec 32 := 0#32
  let v92 : BitVec 1 := Scalar.cmpi .slt v90 c0_i32_43
  let c0_i32_44 : BitVec 32 := 0#32
  let v93 : BitVec 1 := Scalar.cmpi .slt v89 c0_i32_44
  let v94 : BitVec 1 := Scalar.xori v92 v93
  let c0_i32_42 : BitVec 32 := 0#32
  let v91 : BitVec 1 := Scalar.cmpi .ne v90 c0_i32_42
  let v95 : BitVec 1 := Scalar.andi v94 v91
  let v96 : BitVec 32 := Scalar.addi v90 v89
  let v97 : BitVec 32 := Scalar.select v95 v96 v90
  let c1_i32_45 : BitVec 32 := 1#32
  let v98 : BitVec 1 := Scalar.cmpi .eq v97 c1_i32_45
  let c2_i32_46 : BitVec 32 := 2#32
  let c0_i32_47 : BitVec 32 := 0#32
  let v99 : BitVec 32 := Scalar.select v98 c2_i32_46 c0_i32_47
  let v100 : BitVec 32 := Scalar.addi v40 v99
  let v134 : BitVec 32 := Scalar.addi v2 v100
  let c0_i32_64 : BitVec 32 := 0#32
  let v135 : BitVec 32 := Scalar.addi v134 c0_i32_64
  let c256_i32 : BitVec 32 := 256#32
  let v146 : BitVec 32 := Scalar.muli v135 c256_i32
  v146
def k0_cond37 (v2 : BitVec 32) (v5 : BitVec 32) : BitVec 1 :=
  let v9 : BitVec 32 := Scalar.subi v5 v2
  let c0_i32_49 : BitVec 32 := 0#32
  let v102 : BitVec 1 := Scalar.cmpi .sgt v9 c0_i32_49
  let v103 : BitVec 32 := Scalar.extui v102
  let c0_i32_50 : BitVec 32 := 0#32
  let v104 : BitVec 1 := Scalar.cmpi .slt v9 c0_i32_50
  let v105 : BitVec 32 := Scalar.extui v104
  let v106 : BitVec 32 := Scalar.subi v103 v105
  let c1_i32_48 : BitVec 32 := 1#32
  let c0_i32_51 : BitVec 32 := 0#32
  let v107 : BitVec 1 := Scalar.cmpi .sgt c1_i32_48 c0_i32_51
  let v108 : BitVec 32 := Scalar.extui v107
  let c0_i32_52 : BitVec 32 := 0#32
  let v109 : BitVec 1 := Scalar.cmpi .slt c1_i32_48 c0_i32_52
  let v110 : BitVec 32 := Scalar.extui v109
  let v111 : BitVec 32 := Scalar.subi v108 v110
  let v112 : BitVec 1 := Scalar.cmpi .ne v106 v111
  let v113 : BitVec 32 := Scalar.remsi v9 c1_i32_48
  let c0_i32_53 : BitVec 32 := 0#32
  let v114 : BitVec 1 := Scalar.cmpi .ne v113 c0_i32_53
  let v115 : BitVec 1 := Scalar.andi v112 v114
  let v101 : BitVec 32 := Scalar.divsi v9 c1_i32_48
  let c1_i32_54 : BitVec 32 := 1#32
  let v116 : BitVec 32 := Scalar.subi v101 c1_i32_54
  let v117 : BitVec 32 := Scalar.select v115 v116 v101
  let c2_i32_55 : BitVec 32 := 2#32
  let c0_i32_56 : BitVec 32 := 0#32
  let v118 : BitVec 1 := Scalar.cmpi .eq c2_i32_55 c0_i32_56
  let c1_i32_57 : BitVec 32 := 1#32
  let v119 : BitVec 32 := Scalar.select v118 c1_i32_57 c2_i32_55
  let v120 : BitVec 32 := Scalar.remsi v117 v119
  let c0_i32_59 : BitVec 32 := 0#32
  let v122 : BitVec 1 := Scalar.cmpi .slt v120 c0_i32_59
  let c0_i32_60 : BitVec 32 := 0#32
  let v123 : BitVec 1 := Scalar.cmpi .slt v119 c0_i32_60
  let v124 : BitVec 1 := Scalar.xori v122 v123
  let c0_i32_58 : BitVec 32 := 0#32
  let v121 : BitVec 1 := Scalar.cmpi .ne v120 c0_i32_58
  let v125 : BitVec 1 := Scalar.andi v124 v121
  let v126 : BitVec 32 := Scalar.addi v120 v119
  let v127 : BitVec 32 := Scalar.select v125 v126 v120
  let c1_i32_61 : BitVec 32 := 1#32
  let v128 : BitVec 1 := Scalar.cmpi .eq v127 c1_i32_61
  let v129 : BitVec 32 := Scalar.extui v128
  let c0_i32_62 : BitVec 32 := 0#32
  let v130 : BitVec 1 := Scalar.cmpi .ne v129 c0_i32_62
  v130

def k0_off107 (v2 : BitVec 32) (v5 : BitVec 32) : Fin 1 → Nat :=
  let v9 : BitVec 32 := Scalar.subi v5 v2
  let c0_i32_1 : BitVec 32 := 0#32
  let v11 : BitVec 1 := Scalar.cmpi .sgt v9 c0_i32_1
  let v12 : BitVec 32 := Scalar.extui v11
  let c0_i32_2 : BitVec 32 := 0#32
  let v13 : BitVec 1 := Scalar.cmpi .slt v9 c0_i32_2
  let v14 : BitVec 32 := Scalar.extui v13
  let v15 : BitVec 32 := Scalar.subi v12 v14
  let c4_i32 : BitVec 32 := 4#32
  let c0_i32_3 : BitVec 32 := 0#32
  let v16 : BitVec 1 := Scalar.cmpi .sgt c4_i32 c0_i32_3
  let v17 : BitVec 32 := Scalar.extui v16
  let c0_i32_4 : BitVec 32 := 0#32
  let v18 : BitVec 1 := Scalar.cmpi .slt c4_i32 c0_i32_4
  let v19 : BitVec 32 := Scalar.extui v18
  let v20 : BitVec 32 := Scalar.subi v17 v19
  let v21 : BitVec 1 := Scalar.cmpi .ne v15 v20
  let v22 : BitVec 32 := Scalar.remsi v9 c4_i32
  let c0_i32_5 : BitVec 32 := 0#32
  let v23 : BitVec 1 := Scalar.cmpi .ne v22 c0_i32_5
  let v24 : BitVec 1 := Scalar.andi v21 v23
  let v10 : BitVec 32 := Scalar.divsi v9 c4_i32
  let c1_i32_6 : BitVec 32 := 1#32
  let v25 : BitVec 32 := Scalar.subi v10 c1_i32_6
  let v26 : BitVec 32 := Scalar.select v24 v25 v10
  let c4_i32_17 : BitVec 32 := 4#32
  let v40 : BitVec 32 := Scalar.muli v26 c4_i32_17
  let c0_i32_33 : BitVec 32 := 0#32
  let v72 : BitVec 1 := Scalar.cmpi .sgt v9 c0_i32_33
  let v73 : BitVec 32 := Scalar.extui v72
  let c0_i32_34 : BitVec 32 := 0#32
  let v74 : BitVec 1 := Scalar.cmpi .slt v9 c0_i32_34
  let v75 : BitVec 32 := Scalar.extui v74
  let v76 : BitVec 32 := Scalar.subi v73 v75
  let c2_i32_32 : BitVec 32 := 2#32
  let c0_i32_35 : BitVec 32 := 0#32
  let v77 : BitVec 1 := Scalar.cmpi .sgt c2_i32_32 c0_i32_35
  let v78 : BitVec 32 := Scalar.extui v77
  let c0_i32_36 : BitVec 32 := 0#32
  let v79 : BitVec 1 := Scalar.cmpi .slt c2_i32_32 c0_i32_36
  let v80 : BitVec 32 := Scalar.extui v79
  let v81 : BitVec 32 := Scalar.subi v78 v80
  let v82 : BitVec 1 := Scalar.cmpi .ne v76 v81
  let v83 : BitVec 32 := Scalar.remsi v9 c2_i32_32
  let c0_i32_37 : BitVec 32 := 0#32
  let v84 : BitVec 1 := Scalar.cmpi .ne v83 c0_i32_37
  let v85 : BitVec 1 := Scalar.andi v82 v84
  let v71 : BitVec 32 := Scalar.divsi v9 c2_i32_32
  let c1_i32_38 : BitVec 32 := 1#32
  let v86 : BitVec 32 := Scalar.subi v71 c1_i32_38
  let v87 : BitVec 32 := Scalar.select v85 v86 v71
  let c2_i32_39 : BitVec 32 := 2#32
  let c0_i32_40 : BitVec 32 := 0#32
  let v88 : BitVec 1 := Scalar.cmpi .eq c2_i32_39 c0_i32_40
  let c1_i32_41 : BitVec 32 := 1#32
  let v89 : BitVec 32 := Scalar.select v88 c1_i32_41 c2_i32_39
  let v90 : BitVec 32 := Scalar.remsi v87 v89
  let c0_i32_43 : BitVec 32 := 0#32
  let v92 : BitVec 1 := Scalar.cmpi .slt v90 c0_i32_43
  let c0_i32_44 : BitVec 32 := 0#32
  let v93 : BitVec 1 := Scalar.cmpi .slt v89 c0_i32_44
  let v94 : BitVec 1 := Scalar.xori v92 v93
  let c0_i32_42 : BitVec 32 := 0#32
  let v91 : BitVec 1 := Scalar.cmpi .ne v90 c0_i32_42
  let v95 : BitVec 1 := Scalar.andi v94 v91
  let v96 : BitVec 32 := Scalar.addi v90 v89
  let v97 : BitVec 32 := Scalar.select v95 v96 v90
  let c1_i32_45 : BitVec 32 := 1#32
  let v98 : BitVec 1 := Scalar.cmpi .eq v97 c1_i32_45
  let c2_i32_46 : BitVec 32 := 2#32
  let c0_i32_47 : BitVec 32 := 0#32
  let v99 : BitVec 32 := Scalar.select v98 c2_i32_46 c0_i32_47
  let v100 : BitVec 32 := Scalar.addi v40 v99
  let v134 : BitVec 32 := Scalar.addi v2 v100
  let c0_i32_64 : BitVec 32 := 0#32
  let v135 : BitVec 32 := Scalar.addi v134 c0_i32_64
  let c8_i32 : BitVec 32 := 8#32
  let c0_i32_65 : BitVec 32 := 0#32
  let v136 : BitVec 1 := Scalar.cmpi .eq c8_i32 c0_i32_65
  let c1_i32_66 : BitVec 32 := 1#32
  let v137 : BitVec 32 := Scalar.select v136 c1_i32_66 c8_i32
  let v138 : BitVec 32 := Scalar.remsi v135 v137
  let c0_i32_68 : BitVec 32 := 0#32
  let v140 : BitVec 1 := Scalar.cmpi .slt v138 c0_i32_68
  let c0_i32_69 : BitVec 32 := 0#32
  let v141 : BitVec 1 := Scalar.cmpi .slt v137 c0_i32_69
  let v142 : BitVec 1 := Scalar.xori v140 v141
  let c0_i32_67 : BitVec 32 := 0#32
  let v139 : BitVec 1 := Scalar.cmpi .ne v138 c0_i32_67
  let v143 : BitVec 1 := Scalar.andi v142 v139
  let v144 : BitVec 32 := Scalar.addi v138 v137
  let v145 : BitVec 32 := Scalar.select v143 v144 v138
  ![v145.toNat]
def k0_off108 (v2 : BitVec 32) (v5 : BitVec 32) : Fin 4 → Nat :=
  let v9 : BitVec 32 := Scalar.subi v5 v2
  let c0_i32_1 : BitVec 32 := 0#32
  let v11 : BitVec 1 := Scalar.cmpi .sgt v9 c0_i32_1
  let v12 : BitVec 32 := Scalar.extui v11
  let c0_i32_2 : BitVec 32 := 0#32
  let v13 : BitVec 1 := Scalar.cmpi .slt v9 c0_i32_2
  let v14 : BitVec 32 := Scalar.extui v13
  let v15 : BitVec 32 := Scalar.subi v12 v14
  let c4_i32 : BitVec 32 := 4#32
  let c0_i32_3 : BitVec 32 := 0#32
  let v16 : BitVec 1 := Scalar.cmpi .sgt c4_i32 c0_i32_3
  let v17 : BitVec 32 := Scalar.extui v16
  let c0_i32_4 : BitVec 32 := 0#32
  let v18 : BitVec 1 := Scalar.cmpi .slt c4_i32 c0_i32_4
  let v19 : BitVec 32 := Scalar.extui v18
  let v20 : BitVec 32 := Scalar.subi v17 v19
  let v21 : BitVec 1 := Scalar.cmpi .ne v15 v20
  let v22 : BitVec 32 := Scalar.remsi v9 c4_i32
  let c0_i32_5 : BitVec 32 := 0#32
  let v23 : BitVec 1 := Scalar.cmpi .ne v22 c0_i32_5
  let v24 : BitVec 1 := Scalar.andi v21 v23
  let v10 : BitVec 32 := Scalar.divsi v9 c4_i32
  let c1_i32_6 : BitVec 32 := 1#32
  let v25 : BitVec 32 := Scalar.subi v10 c1_i32_6
  let v26 : BitVec 32 := Scalar.select v24 v25 v10
  let c4_i32_17 : BitVec 32 := 4#32
  let v40 : BitVec 32 := Scalar.muli v26 c4_i32_17
  let c0_i32_33 : BitVec 32 := 0#32
  let v72 : BitVec 1 := Scalar.cmpi .sgt v9 c0_i32_33
  let v73 : BitVec 32 := Scalar.extui v72
  let c0_i32_34 : BitVec 32 := 0#32
  let v74 : BitVec 1 := Scalar.cmpi .slt v9 c0_i32_34
  let v75 : BitVec 32 := Scalar.extui v74
  let v76 : BitVec 32 := Scalar.subi v73 v75
  let c2_i32_32 : BitVec 32 := 2#32
  let c0_i32_35 : BitVec 32 := 0#32
  let v77 : BitVec 1 := Scalar.cmpi .sgt c2_i32_32 c0_i32_35
  let v78 : BitVec 32 := Scalar.extui v77
  let c0_i32_36 : BitVec 32 := 0#32
  let v79 : BitVec 1 := Scalar.cmpi .slt c2_i32_32 c0_i32_36
  let v80 : BitVec 32 := Scalar.extui v79
  let v81 : BitVec 32 := Scalar.subi v78 v80
  let v82 : BitVec 1 := Scalar.cmpi .ne v76 v81
  let v83 : BitVec 32 := Scalar.remsi v9 c2_i32_32
  let c0_i32_37 : BitVec 32 := 0#32
  let v84 : BitVec 1 := Scalar.cmpi .ne v83 c0_i32_37
  let v85 : BitVec 1 := Scalar.andi v82 v84
  let v71 : BitVec 32 := Scalar.divsi v9 c2_i32_32
  let c1_i32_38 : BitVec 32 := 1#32
  let v86 : BitVec 32 := Scalar.subi v71 c1_i32_38
  let v87 : BitVec 32 := Scalar.select v85 v86 v71
  let c2_i32_39 : BitVec 32 := 2#32
  let c0_i32_40 : BitVec 32 := 0#32
  let v88 : BitVec 1 := Scalar.cmpi .eq c2_i32_39 c0_i32_40
  let c1_i32_41 : BitVec 32 := 1#32
  let v89 : BitVec 32 := Scalar.select v88 c1_i32_41 c2_i32_39
  let v90 : BitVec 32 := Scalar.remsi v87 v89
  let c0_i32_43 : BitVec 32 := 0#32
  let v92 : BitVec 1 := Scalar.cmpi .slt v90 c0_i32_43
  let c0_i32_44 : BitVec 32 := 0#32
  let v93 : BitVec 1 := Scalar.cmpi .slt v89 c0_i32_44
  let v94 : BitVec 1 := Scalar.xori v92 v93
  let c0_i32_42 : BitVec 32 := 0#32
  let v91 : BitVec 1 := Scalar.cmpi .ne v90 c0_i32_42
  let v95 : BitVec 1 := Scalar.andi v94 v91
  let v96 : BitVec 32 := Scalar.addi v90 v89
  let v97 : BitVec 32 := Scalar.select v95 v96 v90
  let c1_i32_45 : BitVec 32 := 1#32
  let v98 : BitVec 1 := Scalar.cmpi .eq v97 c1_i32_45
  let c2_i32_46 : BitVec 32 := 2#32
  let c0_i32_47 : BitVec 32 := 0#32
  let v99 : BitVec 32 := Scalar.select v98 c2_i32_46 c0_i32_47
  let v100 : BitVec 32 := Scalar.addi v40 v99
  let v134 : BitVec 32 := Scalar.addi v2 v100
  let c0_i32_64 : BitVec 32 := 0#32
  let v135 : BitVec 32 := Scalar.addi v134 c0_i32_64
  let c8_i32 : BitVec 32 := 8#32
  let c0_i32_65 : BitVec 32 := 0#32
  let v136 : BitVec 1 := Scalar.cmpi .eq c8_i32 c0_i32_65
  let c1_i32_66 : BitVec 32 := 1#32
  let v137 : BitVec 32 := Scalar.select v136 c1_i32_66 c8_i32
  let v138 : BitVec 32 := Scalar.remsi v135 v137
  let c0_i32_68 : BitVec 32 := 0#32
  let v140 : BitVec 1 := Scalar.cmpi .slt v138 c0_i32_68
  let c0_i32_69 : BitVec 32 := 0#32
  let v141 : BitVec 1 := Scalar.cmpi .slt v137 c0_i32_69
  let v142 : BitVec 1 := Scalar.xori v140 v141
  let c0_i32_67 : BitVec 32 := 0#32
  let v139 : BitVec 1 := Scalar.cmpi .ne v138 c0_i32_67
  let v143 : BitVec 1 := Scalar.andi v142 v139
  let v144 : BitVec 32 := Scalar.addi v138 v137
  let v145 : BitVec 32 := Scalar.select v143 v144 v138
  let c0_i32_70 : BitVec 32 := 0#32
  let c0_i32_71 : BitVec 32 := 0#32
  let c0_i32_72 : BitVec 32 := 0#32
  ![v145.toNat, 0, 0, 0]
def k0_off109 (v2 : BitVec 32) (v5 : BitVec 32) : Fin 3 → Nat :=
  let c0_i32_73 : BitVec 32 := 0#32
  let v9 : BitVec 32 := Scalar.subi v5 v2
  let c0_i32_1 : BitVec 32 := 0#32
  let v11 : BitVec 1 := Scalar.cmpi .sgt v9 c0_i32_1
  let v12 : BitVec 32 := Scalar.extui v11
  let c0_i32_2 : BitVec 32 := 0#32
  let v13 : BitVec 1 := Scalar.cmpi .slt v9 c0_i32_2
  let v14 : BitVec 32 := Scalar.extui v13
  let v15 : BitVec 32 := Scalar.subi v12 v14
  let c4_i32 : BitVec 32 := 4#32
  let c0_i32_3 : BitVec 32 := 0#32
  let v16 : BitVec 1 := Scalar.cmpi .sgt c4_i32 c0_i32_3
  let v17 : BitVec 32 := Scalar.extui v16
  let c0_i32_4 : BitVec 32 := 0#32
  let v18 : BitVec 1 := Scalar.cmpi .slt c4_i32 c0_i32_4
  let v19 : BitVec 32 := Scalar.extui v18
  let v20 : BitVec 32 := Scalar.subi v17 v19
  let v21 : BitVec 1 := Scalar.cmpi .ne v15 v20
  let v22 : BitVec 32 := Scalar.remsi v9 c4_i32
  let c0_i32_5 : BitVec 32 := 0#32
  let v23 : BitVec 1 := Scalar.cmpi .ne v22 c0_i32_5
  let v24 : BitVec 1 := Scalar.andi v21 v23
  let v10 : BitVec 32 := Scalar.divsi v9 c4_i32
  let c1_i32_6 : BitVec 32 := 1#32
  let v25 : BitVec 32 := Scalar.subi v10 c1_i32_6
  let v26 : BitVec 32 := Scalar.select v24 v25 v10
  let c4_i32_17 : BitVec 32 := 4#32
  let v40 : BitVec 32 := Scalar.muli v26 c4_i32_17
  let c0_i32_33 : BitVec 32 := 0#32
  let v72 : BitVec 1 := Scalar.cmpi .sgt v9 c0_i32_33
  let v73 : BitVec 32 := Scalar.extui v72
  let c0_i32_34 : BitVec 32 := 0#32
  let v74 : BitVec 1 := Scalar.cmpi .slt v9 c0_i32_34
  let v75 : BitVec 32 := Scalar.extui v74
  let v76 : BitVec 32 := Scalar.subi v73 v75
  let c2_i32_32 : BitVec 32 := 2#32
  let c0_i32_35 : BitVec 32 := 0#32
  let v77 : BitVec 1 := Scalar.cmpi .sgt c2_i32_32 c0_i32_35
  let v78 : BitVec 32 := Scalar.extui v77
  let c0_i32_36 : BitVec 32 := 0#32
  let v79 : BitVec 1 := Scalar.cmpi .slt c2_i32_32 c0_i32_36
  let v80 : BitVec 32 := Scalar.extui v79
  let v81 : BitVec 32 := Scalar.subi v78 v80
  let v82 : BitVec 1 := Scalar.cmpi .ne v76 v81
  let v83 : BitVec 32 := Scalar.remsi v9 c2_i32_32
  let c0_i32_37 : BitVec 32 := 0#32
  let v84 : BitVec 1 := Scalar.cmpi .ne v83 c0_i32_37
  let v85 : BitVec 1 := Scalar.andi v82 v84
  let v71 : BitVec 32 := Scalar.divsi v9 c2_i32_32
  let c1_i32_38 : BitVec 32 := 1#32
  let v86 : BitVec 32 := Scalar.subi v71 c1_i32_38
  let v87 : BitVec 32 := Scalar.select v85 v86 v71
  let c2_i32_39 : BitVec 32 := 2#32
  let c0_i32_40 : BitVec 32 := 0#32
  let v88 : BitVec 1 := Scalar.cmpi .eq c2_i32_39 c0_i32_40
  let c1_i32_41 : BitVec 32 := 1#32
  let v89 : BitVec 32 := Scalar.select v88 c1_i32_41 c2_i32_39
  let v90 : BitVec 32 := Scalar.remsi v87 v89
  let c0_i32_43 : BitVec 32 := 0#32
  let v92 : BitVec 1 := Scalar.cmpi .slt v90 c0_i32_43
  let c0_i32_44 : BitVec 32 := 0#32
  let v93 : BitVec 1 := Scalar.cmpi .slt v89 c0_i32_44
  let v94 : BitVec 1 := Scalar.xori v92 v93
  let c0_i32_42 : BitVec 32 := 0#32
  let v91 : BitVec 1 := Scalar.cmpi .ne v90 c0_i32_42
  let v95 : BitVec 1 := Scalar.andi v94 v91
  let v96 : BitVec 32 := Scalar.addi v90 v89
  let v97 : BitVec 32 := Scalar.select v95 v96 v90
  let c1_i32_45 : BitVec 32 := 1#32
  let v98 : BitVec 1 := Scalar.cmpi .eq v97 c1_i32_45
  let c2_i32_46 : BitVec 32 := 2#32
  let c0_i32_47 : BitVec 32 := 0#32
  let v99 : BitVec 32 := Scalar.select v98 c2_i32_46 c0_i32_47
  let v100 : BitVec 32 := Scalar.addi v40 v99
  let v134 : BitVec 32 := Scalar.addi v2 v100
  let c0_i32_64 : BitVec 32 := 0#32
  let v135 : BitVec 32 := Scalar.addi v134 c0_i32_64
  let c256_i32 : BitVec 32 := 256#32
  let v146 : BitVec 32 := Scalar.muli v135 c256_i32
  let v147 : BitVec 32 := v146
  let c0_i32_74 : BitVec 32 := 0#32
  ![0, v147.toNat, 0]
def k0_mult62 (v2 : BitVec 32) (v5 : BitVec 32) : BitVec 32 :=
  let v9 : BitVec 32 := Scalar.subi v5 v2
  let c0_i32_1 : BitVec 32 := 0#32
  let v11 : BitVec 1 := Scalar.cmpi .sgt v9 c0_i32_1
  let v12 : BitVec 32 := Scalar.extui v11
  let c0_i32_2 : BitVec 32 := 0#32
  let v13 : BitVec 1 := Scalar.cmpi .slt v9 c0_i32_2
  let v14 : BitVec 32 := Scalar.extui v13
  let v15 : BitVec 32 := Scalar.subi v12 v14
  let c4_i32 : BitVec 32 := 4#32
  let c0_i32_3 : BitVec 32 := 0#32
  let v16 : BitVec 1 := Scalar.cmpi .sgt c4_i32 c0_i32_3
  let v17 : BitVec 32 := Scalar.extui v16
  let c0_i32_4 : BitVec 32 := 0#32
  let v18 : BitVec 1 := Scalar.cmpi .slt c4_i32 c0_i32_4
  let v19 : BitVec 32 := Scalar.extui v18
  let v20 : BitVec 32 := Scalar.subi v17 v19
  let v21 : BitVec 1 := Scalar.cmpi .ne v15 v20
  let v22 : BitVec 32 := Scalar.remsi v9 c4_i32
  let c0_i32_5 : BitVec 32 := 0#32
  let v23 : BitVec 1 := Scalar.cmpi .ne v22 c0_i32_5
  let v24 : BitVec 1 := Scalar.andi v21 v23
  let v10 : BitVec 32 := Scalar.divsi v9 c4_i32
  let c1_i32_6 : BitVec 32 := 1#32
  let v25 : BitVec 32 := Scalar.subi v10 c1_i32_6
  let v26 : BitVec 32 := Scalar.select v24 v25 v10
  let c4_i32_17 : BitVec 32 := 4#32
  let v40 : BitVec 32 := Scalar.muli v26 c4_i32_17
  let c0_i32_33 : BitVec 32 := 0#32
  let v72 : BitVec 1 := Scalar.cmpi .sgt v9 c0_i32_33
  let v73 : BitVec 32 := Scalar.extui v72
  let c0_i32_34 : BitVec 32 := 0#32
  let v74 : BitVec 1 := Scalar.cmpi .slt v9 c0_i32_34
  let v75 : BitVec 32 := Scalar.extui v74
  let v76 : BitVec 32 := Scalar.subi v73 v75
  let c2_i32_32 : BitVec 32 := 2#32
  let c0_i32_35 : BitVec 32 := 0#32
  let v77 : BitVec 1 := Scalar.cmpi .sgt c2_i32_32 c0_i32_35
  let v78 : BitVec 32 := Scalar.extui v77
  let c0_i32_36 : BitVec 32 := 0#32
  let v79 : BitVec 1 := Scalar.cmpi .slt c2_i32_32 c0_i32_36
  let v80 : BitVec 32 := Scalar.extui v79
  let v81 : BitVec 32 := Scalar.subi v78 v80
  let v82 : BitVec 1 := Scalar.cmpi .ne v76 v81
  let v83 : BitVec 32 := Scalar.remsi v9 c2_i32_32
  let c0_i32_37 : BitVec 32 := 0#32
  let v84 : BitVec 1 := Scalar.cmpi .ne v83 c0_i32_37
  let v85 : BitVec 1 := Scalar.andi v82 v84
  let v71 : BitVec 32 := Scalar.divsi v9 c2_i32_32
  let c1_i32_38 : BitVec 32 := 1#32
  let v86 : BitVec 32 := Scalar.subi v71 c1_i32_38
  let v87 : BitVec 32 := Scalar.select v85 v86 v71
  let c2_i32_39 : BitVec 32 := 2#32
  let c0_i32_40 : BitVec 32 := 0#32
  let v88 : BitVec 1 := Scalar.cmpi .eq c2_i32_39 c0_i32_40
  let c1_i32_41 : BitVec 32 := 1#32
  let v89 : BitVec 32 := Scalar.select v88 c1_i32_41 c2_i32_39
  let v90 : BitVec 32 := Scalar.remsi v87 v89
  let c0_i32_43 : BitVec 32 := 0#32
  let v92 : BitVec 1 := Scalar.cmpi .slt v90 c0_i32_43
  let c0_i32_44 : BitVec 32 := 0#32
  let v93 : BitVec 1 := Scalar.cmpi .slt v89 c0_i32_44
  let v94 : BitVec 1 := Scalar.xori v92 v93
  let c0_i32_42 : BitVec 32 := 0#32
  let v91 : BitVec 1 := Scalar.cmpi .ne v90 c0_i32_42
  let v95 : BitVec 1 := Scalar.andi v94 v91
  let v96 : BitVec 32 := Scalar.addi v90 v89
  let v97 : BitVec 32 := Scalar.select v95 v96 v90
  let c1_i32_45 : BitVec 32 := 1#32
  let v98 : BitVec 1 := Scalar.cmpi .eq v97 c1_i32_45
  let c2_i32_46 : BitVec 32 := 2#32
  let c0_i32_47 : BitVec 32 := 0#32
  let v99 : BitVec 32 := Scalar.select v98 c2_i32_46 c0_i32_47
  let v100 : BitVec 32 := Scalar.addi v40 v99
  let v134 : BitVec 32 := Scalar.addi v2 v100
  let c4_i32_75 : BitVec 32 := 4#32
  let v153 : BitVec 32 := Scalar.addi v134 c4_i32_75
  let c0_i32_76 : BitVec 32 := 0#32
  let v154 : BitVec 32 := Scalar.addi v153 c0_i32_76
  let c256_i32_162 : BitVec 32 := 256#32
  let v309 : BitVec 32 := Scalar.muli v154 c256_i32_162
  v309
def k0_cond38 (v0 : BitVec 32) (v2 : BitVec 32) (v5 : BitVec 32) : BitVec 1 :=
  let v9 : BitVec 32 := Scalar.subi v5 v2
  let c0_i32_1 : BitVec 32 := 0#32
  let v11 : BitVec 1 := Scalar.cmpi .sgt v9 c0_i32_1
  let v12 : BitVec 32 := Scalar.extui v11
  let c0_i32_2 : BitVec 32 := 0#32
  let v13 : BitVec 1 := Scalar.cmpi .slt v9 c0_i32_2
  let v14 : BitVec 32 := Scalar.extui v13
  let v15 : BitVec 32 := Scalar.subi v12 v14
  let c4_i32 : BitVec 32 := 4#32
  let c0_i32_3 : BitVec 32 := 0#32
  let v16 : BitVec 1 := Scalar.cmpi .sgt c4_i32 c0_i32_3
  let v17 : BitVec 32 := Scalar.extui v16
  let c0_i32_4 : BitVec 32 := 0#32
  let v18 : BitVec 1 := Scalar.cmpi .slt c4_i32 c0_i32_4
  let v19 : BitVec 32 := Scalar.extui v18
  let v20 : BitVec 32 := Scalar.subi v17 v19
  let v21 : BitVec 1 := Scalar.cmpi .ne v15 v20
  let v22 : BitVec 32 := Scalar.remsi v9 c4_i32
  let c0_i32_5 : BitVec 32 := 0#32
  let v23 : BitVec 1 := Scalar.cmpi .ne v22 c0_i32_5
  let v24 : BitVec 1 := Scalar.andi v21 v23
  let v10 : BitVec 32 := Scalar.divsi v9 c4_i32
  let c1_i32_6 : BitVec 32 := 1#32
  let v25 : BitVec 32 := Scalar.subi v10 c1_i32_6
  let v26 : BitVec 32 := Scalar.select v24 v25 v10
  let c4_i32_17 : BitVec 32 := 4#32
  let v40 : BitVec 32 := Scalar.muli v26 c4_i32_17
  let c0_i32_33 : BitVec 32 := 0#32
  let v72 : BitVec 1 := Scalar.cmpi .sgt v9 c0_i32_33
  let v73 : BitVec 32 := Scalar.extui v72
  let c0_i32_34 : BitVec 32 := 0#32
  let v74 : BitVec 1 := Scalar.cmpi .slt v9 c0_i32_34
  let v75 : BitVec 32 := Scalar.extui v74
  let v76 : BitVec 32 := Scalar.subi v73 v75
  let c2_i32_32 : BitVec 32 := 2#32
  let c0_i32_35 : BitVec 32 := 0#32
  let v77 : BitVec 1 := Scalar.cmpi .sgt c2_i32_32 c0_i32_35
  let v78 : BitVec 32 := Scalar.extui v77
  let c0_i32_36 : BitVec 32 := 0#32
  let v79 : BitVec 1 := Scalar.cmpi .slt c2_i32_32 c0_i32_36
  let v80 : BitVec 32 := Scalar.extui v79
  let v81 : BitVec 32 := Scalar.subi v78 v80
  let v82 : BitVec 1 := Scalar.cmpi .ne v76 v81
  let v83 : BitVec 32 := Scalar.remsi v9 c2_i32_32
  let c0_i32_37 : BitVec 32 := 0#32
  let v84 : BitVec 1 := Scalar.cmpi .ne v83 c0_i32_37
  let v85 : BitVec 1 := Scalar.andi v82 v84
  let v71 : BitVec 32 := Scalar.divsi v9 c2_i32_32
  let c1_i32_38 : BitVec 32 := 1#32
  let v86 : BitVec 32 := Scalar.subi v71 c1_i32_38
  let v87 : BitVec 32 := Scalar.select v85 v86 v71
  let c2_i32_39 : BitVec 32 := 2#32
  let c0_i32_40 : BitVec 32 := 0#32
  let v88 : BitVec 1 := Scalar.cmpi .eq c2_i32_39 c0_i32_40
  let c1_i32_41 : BitVec 32 := 1#32
  let v89 : BitVec 32 := Scalar.select v88 c1_i32_41 c2_i32_39
  let v90 : BitVec 32 := Scalar.remsi v87 v89
  let c0_i32_43 : BitVec 32 := 0#32
  let v92 : BitVec 1 := Scalar.cmpi .slt v90 c0_i32_43
  let c0_i32_44 : BitVec 32 := 0#32
  let v93 : BitVec 1 := Scalar.cmpi .slt v89 c0_i32_44
  let v94 : BitVec 1 := Scalar.xori v92 v93
  let c0_i32_42 : BitVec 32 := 0#32
  let v91 : BitVec 1 := Scalar.cmpi .ne v90 c0_i32_42
  let v95 : BitVec 1 := Scalar.andi v94 v91
  let v96 : BitVec 32 := Scalar.addi v90 v89
  let v97 : BitVec 32 := Scalar.select v95 v96 v90
  let c1_i32_45 : BitVec 32 := 1#32
  let v98 : BitVec 1 := Scalar.cmpi .eq v97 c1_i32_45
  let c2_i32_46 : BitVec 32 := 2#32
  let c0_i32_47 : BitVec 32 := 0#32
  let v99 : BitVec 32 := Scalar.select v98 c2_i32_46 c0_i32_47
  let v100 : BitVec 32 := Scalar.addi v40 v99
  let v134 : BitVec 32 := Scalar.addi v2 v100
  let c4_i32_75 : BitVec 32 := 4#32
  let v153 : BitVec 32 := Scalar.addi v134 c4_i32_75
  let c0_i32_76 : BitVec 32 := 0#32
  let v154 : BitVec 32 := Scalar.addi v153 c0_i32_76
  let v155 : BitVec 1 := Scalar.cmpi .slt v154 v0
  let v156 : BitVec 32 := Scalar.extui v155
  let c0_i32_77 : BitVec 32 := 0#32
  let v157 : BitVec 1 := Scalar.cmpi .ne v156 c0_i32_77
  v157

def k0_off110 (v2 : BitVec 32) (v5 : BitVec 32) : Fin 1 → Nat :=
  let v9 : BitVec 32 := Scalar.subi v5 v2
  let c0_i32_1 : BitVec 32 := 0#32
  let v11 : BitVec 1 := Scalar.cmpi .sgt v9 c0_i32_1
  let v12 : BitVec 32 := Scalar.extui v11
  let c0_i32_2 : BitVec 32 := 0#32
  let v13 : BitVec 1 := Scalar.cmpi .slt v9 c0_i32_2
  let v14 : BitVec 32 := Scalar.extui v13
  let v15 : BitVec 32 := Scalar.subi v12 v14
  let c4_i32 : BitVec 32 := 4#32
  let c0_i32_3 : BitVec 32 := 0#32
  let v16 : BitVec 1 := Scalar.cmpi .sgt c4_i32 c0_i32_3
  let v17 : BitVec 32 := Scalar.extui v16
  let c0_i32_4 : BitVec 32 := 0#32
  let v18 : BitVec 1 := Scalar.cmpi .slt c4_i32 c0_i32_4
  let v19 : BitVec 32 := Scalar.extui v18
  let v20 : BitVec 32 := Scalar.subi v17 v19
  let v21 : BitVec 1 := Scalar.cmpi .ne v15 v20
  let v22 : BitVec 32 := Scalar.remsi v9 c4_i32
  let c0_i32_5 : BitVec 32 := 0#32
  let v23 : BitVec 1 := Scalar.cmpi .ne v22 c0_i32_5
  let v24 : BitVec 1 := Scalar.andi v21 v23
  let v10 : BitVec 32 := Scalar.divsi v9 c4_i32
  let c1_i32_6 : BitVec 32 := 1#32
  let v25 : BitVec 32 := Scalar.subi v10 c1_i32_6
  let v26 : BitVec 32 := Scalar.select v24 v25 v10
  let c4_i32_17 : BitVec 32 := 4#32
  let v40 : BitVec 32 := Scalar.muli v26 c4_i32_17
  let c0_i32_33 : BitVec 32 := 0#32
  let v72 : BitVec 1 := Scalar.cmpi .sgt v9 c0_i32_33
  let v73 : BitVec 32 := Scalar.extui v72
  let c0_i32_34 : BitVec 32 := 0#32
  let v74 : BitVec 1 := Scalar.cmpi .slt v9 c0_i32_34
  let v75 : BitVec 32 := Scalar.extui v74
  let v76 : BitVec 32 := Scalar.subi v73 v75
  let c2_i32_32 : BitVec 32 := 2#32
  let c0_i32_35 : BitVec 32 := 0#32
  let v77 : BitVec 1 := Scalar.cmpi .sgt c2_i32_32 c0_i32_35
  let v78 : BitVec 32 := Scalar.extui v77
  let c0_i32_36 : BitVec 32 := 0#32
  let v79 : BitVec 1 := Scalar.cmpi .slt c2_i32_32 c0_i32_36
  let v80 : BitVec 32 := Scalar.extui v79
  let v81 : BitVec 32 := Scalar.subi v78 v80
  let v82 : BitVec 1 := Scalar.cmpi .ne v76 v81
  let v83 : BitVec 32 := Scalar.remsi v9 c2_i32_32
  let c0_i32_37 : BitVec 32 := 0#32
  let v84 : BitVec 1 := Scalar.cmpi .ne v83 c0_i32_37
  let v85 : BitVec 1 := Scalar.andi v82 v84
  let v71 : BitVec 32 := Scalar.divsi v9 c2_i32_32
  let c1_i32_38 : BitVec 32 := 1#32
  let v86 : BitVec 32 := Scalar.subi v71 c1_i32_38
  let v87 : BitVec 32 := Scalar.select v85 v86 v71
  let c2_i32_39 : BitVec 32 := 2#32
  let c0_i32_40 : BitVec 32 := 0#32
  let v88 : BitVec 1 := Scalar.cmpi .eq c2_i32_39 c0_i32_40
  let c1_i32_41 : BitVec 32 := 1#32
  let v89 : BitVec 32 := Scalar.select v88 c1_i32_41 c2_i32_39
  let v90 : BitVec 32 := Scalar.remsi v87 v89
  let c0_i32_43 : BitVec 32 := 0#32
  let v92 : BitVec 1 := Scalar.cmpi .slt v90 c0_i32_43
  let c0_i32_44 : BitVec 32 := 0#32
  let v93 : BitVec 1 := Scalar.cmpi .slt v89 c0_i32_44
  let v94 : BitVec 1 := Scalar.xori v92 v93
  let c0_i32_42 : BitVec 32 := 0#32
  let v91 : BitVec 1 := Scalar.cmpi .ne v90 c0_i32_42
  let v95 : BitVec 1 := Scalar.andi v94 v91
  let v96 : BitVec 32 := Scalar.addi v90 v89
  let v97 : BitVec 32 := Scalar.select v95 v96 v90
  let c1_i32_45 : BitVec 32 := 1#32
  let v98 : BitVec 1 := Scalar.cmpi .eq v97 c1_i32_45
  let c2_i32_46 : BitVec 32 := 2#32
  let c0_i32_47 : BitVec 32 := 0#32
  let v99 : BitVec 32 := Scalar.select v98 c2_i32_46 c0_i32_47
  let v100 : BitVec 32 := Scalar.addi v40 v99
  let v134 : BitVec 32 := Scalar.addi v2 v100
  let c4_i32_75 : BitVec 32 := 4#32
  let v153 : BitVec 32 := Scalar.addi v134 c4_i32_75
  let c0_i32_76 : BitVec 32 := 0#32
  let v154 : BitVec 32 := Scalar.addi v153 c0_i32_76
  let c8_i32_156 : BitVec 32 := 8#32
  let c0_i32_157 : BitVec 32 := 0#32
  let v299 : BitVec 1 := Scalar.cmpi .eq c8_i32_156 c0_i32_157
  let c1_i32_158 : BitVec 32 := 1#32
  let v300 : BitVec 32 := Scalar.select v299 c1_i32_158 c8_i32_156
  let v301 : BitVec 32 := Scalar.remsi v154 v300
  let c0_i32_160 : BitVec 32 := 0#32
  let v303 : BitVec 1 := Scalar.cmpi .slt v301 c0_i32_160
  let c0_i32_161 : BitVec 32 := 0#32
  let v304 : BitVec 1 := Scalar.cmpi .slt v300 c0_i32_161
  let v305 : BitVec 1 := Scalar.xori v303 v304
  let c0_i32_159 : BitVec 32 := 0#32
  let v302 : BitVec 1 := Scalar.cmpi .ne v301 c0_i32_159
  let v306 : BitVec 1 := Scalar.andi v305 v302
  let v307 : BitVec 32 := Scalar.addi v301 v300
  let v308 : BitVec 32 := Scalar.select v306 v307 v301
  ![v308.toNat]
def k0_off111 (v2 : BitVec 32) (v5 : BitVec 32) : Fin 4 → Nat :=
  let v9 : BitVec 32 := Scalar.subi v5 v2
  let c0_i32_1 : BitVec 32 := 0#32
  let v11 : BitVec 1 := Scalar.cmpi .sgt v9 c0_i32_1
  let v12 : BitVec 32 := Scalar.extui v11
  let c0_i32_2 : BitVec 32 := 0#32
  let v13 : BitVec 1 := Scalar.cmpi .slt v9 c0_i32_2
  let v14 : BitVec 32 := Scalar.extui v13
  let v15 : BitVec 32 := Scalar.subi v12 v14
  let c4_i32 : BitVec 32 := 4#32
  let c0_i32_3 : BitVec 32 := 0#32
  let v16 : BitVec 1 := Scalar.cmpi .sgt c4_i32 c0_i32_3
  let v17 : BitVec 32 := Scalar.extui v16
  let c0_i32_4 : BitVec 32 := 0#32
  let v18 : BitVec 1 := Scalar.cmpi .slt c4_i32 c0_i32_4
  let v19 : BitVec 32 := Scalar.extui v18
  let v20 : BitVec 32 := Scalar.subi v17 v19
  let v21 : BitVec 1 := Scalar.cmpi .ne v15 v20
  let v22 : BitVec 32 := Scalar.remsi v9 c4_i32
  let c0_i32_5 : BitVec 32 := 0#32
  let v23 : BitVec 1 := Scalar.cmpi .ne v22 c0_i32_5
  let v24 : BitVec 1 := Scalar.andi v21 v23
  let v10 : BitVec 32 := Scalar.divsi v9 c4_i32
  let c1_i32_6 : BitVec 32 := 1#32
  let v25 : BitVec 32 := Scalar.subi v10 c1_i32_6
  let v26 : BitVec 32 := Scalar.select v24 v25 v10
  let c4_i32_17 : BitVec 32 := 4#32
  let v40 : BitVec 32 := Scalar.muli v26 c4_i32_17
  let c0_i32_33 : BitVec 32 := 0#32
  let v72 : BitVec 1 := Scalar.cmpi .sgt v9 c0_i32_33
  let v73 : BitVec 32 := Scalar.extui v72
  let c0_i32_34 : BitVec 32 := 0#32
  let v74 : BitVec 1 := Scalar.cmpi .slt v9 c0_i32_34
  let v75 : BitVec 32 := Scalar.extui v74
  let v76 : BitVec 32 := Scalar.subi v73 v75
  let c2_i32_32 : BitVec 32 := 2#32
  let c0_i32_35 : BitVec 32 := 0#32
  let v77 : BitVec 1 := Scalar.cmpi .sgt c2_i32_32 c0_i32_35
  let v78 : BitVec 32 := Scalar.extui v77
  let c0_i32_36 : BitVec 32 := 0#32
  let v79 : BitVec 1 := Scalar.cmpi .slt c2_i32_32 c0_i32_36
  let v80 : BitVec 32 := Scalar.extui v79
  let v81 : BitVec 32 := Scalar.subi v78 v80
  let v82 : BitVec 1 := Scalar.cmpi .ne v76 v81
  let v83 : BitVec 32 := Scalar.remsi v9 c2_i32_32
  let c0_i32_37 : BitVec 32 := 0#32
  let v84 : BitVec 1 := Scalar.cmpi .ne v83 c0_i32_37
  let v85 : BitVec 1 := Scalar.andi v82 v84
  let v71 : BitVec 32 := Scalar.divsi v9 c2_i32_32
  let c1_i32_38 : BitVec 32 := 1#32
  let v86 : BitVec 32 := Scalar.subi v71 c1_i32_38
  let v87 : BitVec 32 := Scalar.select v85 v86 v71
  let c2_i32_39 : BitVec 32 := 2#32
  let c0_i32_40 : BitVec 32 := 0#32
  let v88 : BitVec 1 := Scalar.cmpi .eq c2_i32_39 c0_i32_40
  let c1_i32_41 : BitVec 32 := 1#32
  let v89 : BitVec 32 := Scalar.select v88 c1_i32_41 c2_i32_39
  let v90 : BitVec 32 := Scalar.remsi v87 v89
  let c0_i32_43 : BitVec 32 := 0#32
  let v92 : BitVec 1 := Scalar.cmpi .slt v90 c0_i32_43
  let c0_i32_44 : BitVec 32 := 0#32
  let v93 : BitVec 1 := Scalar.cmpi .slt v89 c0_i32_44
  let v94 : BitVec 1 := Scalar.xori v92 v93
  let c0_i32_42 : BitVec 32 := 0#32
  let v91 : BitVec 1 := Scalar.cmpi .ne v90 c0_i32_42
  let v95 : BitVec 1 := Scalar.andi v94 v91
  let v96 : BitVec 32 := Scalar.addi v90 v89
  let v97 : BitVec 32 := Scalar.select v95 v96 v90
  let c1_i32_45 : BitVec 32 := 1#32
  let v98 : BitVec 1 := Scalar.cmpi .eq v97 c1_i32_45
  let c2_i32_46 : BitVec 32 := 2#32
  let c0_i32_47 : BitVec 32 := 0#32
  let v99 : BitVec 32 := Scalar.select v98 c2_i32_46 c0_i32_47
  let v100 : BitVec 32 := Scalar.addi v40 v99
  let v134 : BitVec 32 := Scalar.addi v2 v100
  let c4_i32_75 : BitVec 32 := 4#32
  let v153 : BitVec 32 := Scalar.addi v134 c4_i32_75
  let c0_i32_76 : BitVec 32 := 0#32
  let v154 : BitVec 32 := Scalar.addi v153 c0_i32_76
  let c8_i32_156 : BitVec 32 := 8#32
  let c0_i32_157 : BitVec 32 := 0#32
  let v299 : BitVec 1 := Scalar.cmpi .eq c8_i32_156 c0_i32_157
  let c1_i32_158 : BitVec 32 := 1#32
  let v300 : BitVec 32 := Scalar.select v299 c1_i32_158 c8_i32_156
  let v301 : BitVec 32 := Scalar.remsi v154 v300
  let c0_i32_160 : BitVec 32 := 0#32
  let v303 : BitVec 1 := Scalar.cmpi .slt v301 c0_i32_160
  let c0_i32_161 : BitVec 32 := 0#32
  let v304 : BitVec 1 := Scalar.cmpi .slt v300 c0_i32_161
  let v305 : BitVec 1 := Scalar.xori v303 v304
  let c0_i32_159 : BitVec 32 := 0#32
  let v302 : BitVec 1 := Scalar.cmpi .ne v301 c0_i32_159
  let v306 : BitVec 1 := Scalar.andi v305 v302
  let v307 : BitVec 32 := Scalar.addi v301 v300
  let v308 : BitVec 32 := Scalar.select v306 v307 v301
  let c0_i32_163 : BitVec 32 := 0#32
  let c0_i32_164 : BitVec 32 := 0#32
  let c0_i32_165 : BitVec 32 := 0#32
  ![v308.toNat, 0, 0, 0]
def k0_off112 (v2 : BitVec 32) (v5 : BitVec 32) : Fin 3 → Nat :=
  let c0_i32_166 : BitVec 32 := 0#32
  let v9 : BitVec 32 := Scalar.subi v5 v2
  let c0_i32_1 : BitVec 32 := 0#32
  let v11 : BitVec 1 := Scalar.cmpi .sgt v9 c0_i32_1
  let v12 : BitVec 32 := Scalar.extui v11
  let c0_i32_2 : BitVec 32 := 0#32
  let v13 : BitVec 1 := Scalar.cmpi .slt v9 c0_i32_2
  let v14 : BitVec 32 := Scalar.extui v13
  let v15 : BitVec 32 := Scalar.subi v12 v14
  let c4_i32 : BitVec 32 := 4#32
  let c0_i32_3 : BitVec 32 := 0#32
  let v16 : BitVec 1 := Scalar.cmpi .sgt c4_i32 c0_i32_3
  let v17 : BitVec 32 := Scalar.extui v16
  let c0_i32_4 : BitVec 32 := 0#32
  let v18 : BitVec 1 := Scalar.cmpi .slt c4_i32 c0_i32_4
  let v19 : BitVec 32 := Scalar.extui v18
  let v20 : BitVec 32 := Scalar.subi v17 v19
  let v21 : BitVec 1 := Scalar.cmpi .ne v15 v20
  let v22 : BitVec 32 := Scalar.remsi v9 c4_i32
  let c0_i32_5 : BitVec 32 := 0#32
  let v23 : BitVec 1 := Scalar.cmpi .ne v22 c0_i32_5
  let v24 : BitVec 1 := Scalar.andi v21 v23
  let v10 : BitVec 32 := Scalar.divsi v9 c4_i32
  let c1_i32_6 : BitVec 32 := 1#32
  let v25 : BitVec 32 := Scalar.subi v10 c1_i32_6
  let v26 : BitVec 32 := Scalar.select v24 v25 v10
  let c4_i32_17 : BitVec 32 := 4#32
  let v40 : BitVec 32 := Scalar.muli v26 c4_i32_17
  let c0_i32_33 : BitVec 32 := 0#32
  let v72 : BitVec 1 := Scalar.cmpi .sgt v9 c0_i32_33
  let v73 : BitVec 32 := Scalar.extui v72
  let c0_i32_34 : BitVec 32 := 0#32
  let v74 : BitVec 1 := Scalar.cmpi .slt v9 c0_i32_34
  let v75 : BitVec 32 := Scalar.extui v74
  let v76 : BitVec 32 := Scalar.subi v73 v75
  let c2_i32_32 : BitVec 32 := 2#32
  let c0_i32_35 : BitVec 32 := 0#32
  let v77 : BitVec 1 := Scalar.cmpi .sgt c2_i32_32 c0_i32_35
  let v78 : BitVec 32 := Scalar.extui v77
  let c0_i32_36 : BitVec 32 := 0#32
  let v79 : BitVec 1 := Scalar.cmpi .slt c2_i32_32 c0_i32_36
  let v80 : BitVec 32 := Scalar.extui v79
  let v81 : BitVec 32 := Scalar.subi v78 v80
  let v82 : BitVec 1 := Scalar.cmpi .ne v76 v81
  let v83 : BitVec 32 := Scalar.remsi v9 c2_i32_32
  let c0_i32_37 : BitVec 32 := 0#32
  let v84 : BitVec 1 := Scalar.cmpi .ne v83 c0_i32_37
  let v85 : BitVec 1 := Scalar.andi v82 v84
  let v71 : BitVec 32 := Scalar.divsi v9 c2_i32_32
  let c1_i32_38 : BitVec 32 := 1#32
  let v86 : BitVec 32 := Scalar.subi v71 c1_i32_38
  let v87 : BitVec 32 := Scalar.select v85 v86 v71
  let c2_i32_39 : BitVec 32 := 2#32
  let c0_i32_40 : BitVec 32 := 0#32
  let v88 : BitVec 1 := Scalar.cmpi .eq c2_i32_39 c0_i32_40
  let c1_i32_41 : BitVec 32 := 1#32
  let v89 : BitVec 32 := Scalar.select v88 c1_i32_41 c2_i32_39
  let v90 : BitVec 32 := Scalar.remsi v87 v89
  let c0_i32_43 : BitVec 32 := 0#32
  let v92 : BitVec 1 := Scalar.cmpi .slt v90 c0_i32_43
  let c0_i32_44 : BitVec 32 := 0#32
  let v93 : BitVec 1 := Scalar.cmpi .slt v89 c0_i32_44
  let v94 : BitVec 1 := Scalar.xori v92 v93
  let c0_i32_42 : BitVec 32 := 0#32
  let v91 : BitVec 1 := Scalar.cmpi .ne v90 c0_i32_42
  let v95 : BitVec 1 := Scalar.andi v94 v91
  let v96 : BitVec 32 := Scalar.addi v90 v89
  let v97 : BitVec 32 := Scalar.select v95 v96 v90
  let c1_i32_45 : BitVec 32 := 1#32
  let v98 : BitVec 1 := Scalar.cmpi .eq v97 c1_i32_45
  let c2_i32_46 : BitVec 32 := 2#32
  let c0_i32_47 : BitVec 32 := 0#32
  let v99 : BitVec 32 := Scalar.select v98 c2_i32_46 c0_i32_47
  let v100 : BitVec 32 := Scalar.addi v40 v99
  let v134 : BitVec 32 := Scalar.addi v2 v100
  let c4_i32_75 : BitVec 32 := 4#32
  let v153 : BitVec 32 := Scalar.addi v134 c4_i32_75
  let c0_i32_76 : BitVec 32 := 0#32
  let v154 : BitVec 32 := Scalar.addi v153 c0_i32_76
  let c256_i32_162 : BitVec 32 := 256#32
  let v309 : BitVec 32 := Scalar.muli v154 c256_i32_162
  let v310 : BitVec 32 := v309
  let c0_i32_167 : BitVec 32 := 0#32
  ![0, v310.toNat, 0]
def k0_mult63 (v2 : BitVec 32) (v5 : BitVec 32) : BitVec 32 :=
  let v9 : BitVec 32 := Scalar.subi v5 v2
  let c0_i32_1 : BitVec 32 := 0#32
  let v11 : BitVec 1 := Scalar.cmpi .sgt v9 c0_i32_1
  let v12 : BitVec 32 := Scalar.extui v11
  let c0_i32_2 : BitVec 32 := 0#32
  let v13 : BitVec 1 := Scalar.cmpi .slt v9 c0_i32_2
  let v14 : BitVec 32 := Scalar.extui v13
  let v15 : BitVec 32 := Scalar.subi v12 v14
  let c4_i32 : BitVec 32 := 4#32
  let c0_i32_3 : BitVec 32 := 0#32
  let v16 : BitVec 1 := Scalar.cmpi .sgt c4_i32 c0_i32_3
  let v17 : BitVec 32 := Scalar.extui v16
  let c0_i32_4 : BitVec 32 := 0#32
  let v18 : BitVec 1 := Scalar.cmpi .slt c4_i32 c0_i32_4
  let v19 : BitVec 32 := Scalar.extui v18
  let v20 : BitVec 32 := Scalar.subi v17 v19
  let v21 : BitVec 1 := Scalar.cmpi .ne v15 v20
  let v22 : BitVec 32 := Scalar.remsi v9 c4_i32
  let c0_i32_5 : BitVec 32 := 0#32
  let v23 : BitVec 1 := Scalar.cmpi .ne v22 c0_i32_5
  let v24 : BitVec 1 := Scalar.andi v21 v23
  let v10 : BitVec 32 := Scalar.divsi v9 c4_i32
  let c1_i32_6 : BitVec 32 := 1#32
  let v25 : BitVec 32 := Scalar.subi v10 c1_i32_6
  let v26 : BitVec 32 := Scalar.select v24 v25 v10
  let c4_i32_17 : BitVec 32 := 4#32
  let v40 : BitVec 32 := Scalar.muli v26 c4_i32_17
  let c0_i32_33 : BitVec 32 := 0#32
  let v72 : BitVec 1 := Scalar.cmpi .sgt v9 c0_i32_33
  let v73 : BitVec 32 := Scalar.extui v72
  let c0_i32_34 : BitVec 32 := 0#32
  let v74 : BitVec 1 := Scalar.cmpi .slt v9 c0_i32_34
  let v75 : BitVec 32 := Scalar.extui v74
  let v76 : BitVec 32 := Scalar.subi v73 v75
  let c2_i32_32 : BitVec 32 := 2#32
  let c0_i32_35 : BitVec 32 := 0#32
  let v77 : BitVec 1 := Scalar.cmpi .sgt c2_i32_32 c0_i32_35
  let v78 : BitVec 32 := Scalar.extui v77
  let c0_i32_36 : BitVec 32 := 0#32
  let v79 : BitVec 1 := Scalar.cmpi .slt c2_i32_32 c0_i32_36
  let v80 : BitVec 32 := Scalar.extui v79
  let v81 : BitVec 32 := Scalar.subi v78 v80
  let v82 : BitVec 1 := Scalar.cmpi .ne v76 v81
  let v83 : BitVec 32 := Scalar.remsi v9 c2_i32_32
  let c0_i32_37 : BitVec 32 := 0#32
  let v84 : BitVec 1 := Scalar.cmpi .ne v83 c0_i32_37
  let v85 : BitVec 1 := Scalar.andi v82 v84
  let v71 : BitVec 32 := Scalar.divsi v9 c2_i32_32
  let c1_i32_38 : BitVec 32 := 1#32
  let v86 : BitVec 32 := Scalar.subi v71 c1_i32_38
  let v87 : BitVec 32 := Scalar.select v85 v86 v71
  let c2_i32_39 : BitVec 32 := 2#32
  let c0_i32_40 : BitVec 32 := 0#32
  let v88 : BitVec 1 := Scalar.cmpi .eq c2_i32_39 c0_i32_40
  let c1_i32_41 : BitVec 32 := 1#32
  let v89 : BitVec 32 := Scalar.select v88 c1_i32_41 c2_i32_39
  let v90 : BitVec 32 := Scalar.remsi v87 v89
  let c0_i32_43 : BitVec 32 := 0#32
  let v92 : BitVec 1 := Scalar.cmpi .slt v90 c0_i32_43
  let c0_i32_44 : BitVec 32 := 0#32
  let v93 : BitVec 1 := Scalar.cmpi .slt v89 c0_i32_44
  let v94 : BitVec 1 := Scalar.xori v92 v93
  let c0_i32_42 : BitVec 32 := 0#32
  let v91 : BitVec 1 := Scalar.cmpi .ne v90 c0_i32_42
  let v95 : BitVec 1 := Scalar.andi v94 v91
  let v96 : BitVec 32 := Scalar.addi v90 v89
  let v97 : BitVec 32 := Scalar.select v95 v96 v90
  let c1_i32_45 : BitVec 32 := 1#32
  let v98 : BitVec 1 := Scalar.cmpi .eq v97 c1_i32_45
  let c2_i32_46 : BitVec 32 := 2#32
  let c0_i32_47 : BitVec 32 := 0#32
  let v99 : BitVec 32 := Scalar.select v98 c2_i32_46 c0_i32_47
  let v100 : BitVec 32 := Scalar.addi v40 v99
  let v134 : BitVec 32 := Scalar.addi v2 v100
  let c0_i32_78 : BitVec 32 := 0#32
  let v158 : BitVec 32 := Scalar.addi v134 c0_i32_78
  let c8_i32_156 : BitVec 32 := 8#32
  let v299 : BitVec 32 := Scalar.subi v158 c8_i32_156
  let c256_i32_163 : BitVec 32 := 256#32
  let v310 : BitVec 32 := Scalar.muli v299 c256_i32_163
  v310
def k0_cond39 (v2 : BitVec 32) (v5 : BitVec 32) : BitVec 1 :=
  let v9 : BitVec 32 := Scalar.subi v5 v2
  let c0_i32_1 : BitVec 32 := 0#32
  let v11 : BitVec 1 := Scalar.cmpi .sgt v9 c0_i32_1
  let v12 : BitVec 32 := Scalar.extui v11
  let c0_i32_2 : BitVec 32 := 0#32
  let v13 : BitVec 1 := Scalar.cmpi .slt v9 c0_i32_2
  let v14 : BitVec 32 := Scalar.extui v13
  let v15 : BitVec 32 := Scalar.subi v12 v14
  let c4_i32 : BitVec 32 := 4#32
  let c0_i32_3 : BitVec 32 := 0#32
  let v16 : BitVec 1 := Scalar.cmpi .sgt c4_i32 c0_i32_3
  let v17 : BitVec 32 := Scalar.extui v16
  let c0_i32_4 : BitVec 32 := 0#32
  let v18 : BitVec 1 := Scalar.cmpi .slt c4_i32 c0_i32_4
  let v19 : BitVec 32 := Scalar.extui v18
  let v20 : BitVec 32 := Scalar.subi v17 v19
  let v21 : BitVec 1 := Scalar.cmpi .ne v15 v20
  let v22 : BitVec 32 := Scalar.remsi v9 c4_i32
  let c0_i32_5 : BitVec 32 := 0#32
  let v23 : BitVec 1 := Scalar.cmpi .ne v22 c0_i32_5
  let v24 : BitVec 1 := Scalar.andi v21 v23
  let v10 : BitVec 32 := Scalar.divsi v9 c4_i32
  let c1_i32_6 : BitVec 32 := 1#32
  let v25 : BitVec 32 := Scalar.subi v10 c1_i32_6
  let v26 : BitVec 32 := Scalar.select v24 v25 v10
  let c4_i32_17 : BitVec 32 := 4#32
  let v40 : BitVec 32 := Scalar.muli v26 c4_i32_17
  let c0_i32_33 : BitVec 32 := 0#32
  let v72 : BitVec 1 := Scalar.cmpi .sgt v9 c0_i32_33
  let v73 : BitVec 32 := Scalar.extui v72
  let c0_i32_34 : BitVec 32 := 0#32
  let v74 : BitVec 1 := Scalar.cmpi .slt v9 c0_i32_34
  let v75 : BitVec 32 := Scalar.extui v74
  let v76 : BitVec 32 := Scalar.subi v73 v75
  let c2_i32_32 : BitVec 32 := 2#32
  let c0_i32_35 : BitVec 32 := 0#32
  let v77 : BitVec 1 := Scalar.cmpi .sgt c2_i32_32 c0_i32_35
  let v78 : BitVec 32 := Scalar.extui v77
  let c0_i32_36 : BitVec 32 := 0#32
  let v79 : BitVec 1 := Scalar.cmpi .slt c2_i32_32 c0_i32_36
  let v80 : BitVec 32 := Scalar.extui v79
  let v81 : BitVec 32 := Scalar.subi v78 v80
  let v82 : BitVec 1 := Scalar.cmpi .ne v76 v81
  let v83 : BitVec 32 := Scalar.remsi v9 c2_i32_32
  let c0_i32_37 : BitVec 32 := 0#32
  let v84 : BitVec 1 := Scalar.cmpi .ne v83 c0_i32_37
  let v85 : BitVec 1 := Scalar.andi v82 v84
  let v71 : BitVec 32 := Scalar.divsi v9 c2_i32_32
  let c1_i32_38 : BitVec 32 := 1#32
  let v86 : BitVec 32 := Scalar.subi v71 c1_i32_38
  let v87 : BitVec 32 := Scalar.select v85 v86 v71
  let c2_i32_39 : BitVec 32 := 2#32
  let c0_i32_40 : BitVec 32 := 0#32
  let v88 : BitVec 1 := Scalar.cmpi .eq c2_i32_39 c0_i32_40
  let c1_i32_41 : BitVec 32 := 1#32
  let v89 : BitVec 32 := Scalar.select v88 c1_i32_41 c2_i32_39
  let v90 : BitVec 32 := Scalar.remsi v87 v89
  let c0_i32_43 : BitVec 32 := 0#32
  let v92 : BitVec 1 := Scalar.cmpi .slt v90 c0_i32_43
  let c0_i32_44 : BitVec 32 := 0#32
  let v93 : BitVec 1 := Scalar.cmpi .slt v89 c0_i32_44
  let v94 : BitVec 1 := Scalar.xori v92 v93
  let c0_i32_42 : BitVec 32 := 0#32
  let v91 : BitVec 1 := Scalar.cmpi .ne v90 c0_i32_42
  let v95 : BitVec 1 := Scalar.andi v94 v91
  let v96 : BitVec 32 := Scalar.addi v90 v89
  let v97 : BitVec 32 := Scalar.select v95 v96 v90
  let c1_i32_45 : BitVec 32 := 1#32
  let v98 : BitVec 1 := Scalar.cmpi .eq v97 c1_i32_45
  let c2_i32_46 : BitVec 32 := 2#32
  let c0_i32_47 : BitVec 32 := 0#32
  let v99 : BitVec 32 := Scalar.select v98 c2_i32_46 c0_i32_47
  let v100 : BitVec 32 := Scalar.addi v40 v99
  let v134 : BitVec 32 := Scalar.addi v2 v100
  let c0_i32_78 : BitVec 32 := 0#32
  let v158 : BitVec 32 := Scalar.addi v134 c0_i32_78
  let c8_i32_79 : BitVec 32 := 8#32
  let v159 : BitVec 1 := Scalar.cmpi .sge v158 c8_i32_79
  let v160 : BitVec 32 := Scalar.extui v159
  let c0_i32_80 : BitVec 32 := 0#32
  let v161 : BitVec 1 := Scalar.cmpi .ne v160 c0_i32_80
  v161

def k0_off113 (v2 : BitVec 32) (v5 : BitVec 32) : Fin 1 → Nat :=
  let v9 : BitVec 32 := Scalar.subi v5 v2
  let c0_i32_1 : BitVec 32 := 0#32
  let v11 : BitVec 1 := Scalar.cmpi .sgt v9 c0_i32_1
  let v12 : BitVec 32 := Scalar.extui v11
  let c0_i32_2 : BitVec 32 := 0#32
  let v13 : BitVec 1 := Scalar.cmpi .slt v9 c0_i32_2
  let v14 : BitVec 32 := Scalar.extui v13
  let v15 : BitVec 32 := Scalar.subi v12 v14
  let c4_i32 : BitVec 32 := 4#32
  let c0_i32_3 : BitVec 32 := 0#32
  let v16 : BitVec 1 := Scalar.cmpi .sgt c4_i32 c0_i32_3
  let v17 : BitVec 32 := Scalar.extui v16
  let c0_i32_4 : BitVec 32 := 0#32
  let v18 : BitVec 1 := Scalar.cmpi .slt c4_i32 c0_i32_4
  let v19 : BitVec 32 := Scalar.extui v18
  let v20 : BitVec 32 := Scalar.subi v17 v19
  let v21 : BitVec 1 := Scalar.cmpi .ne v15 v20
  let v22 : BitVec 32 := Scalar.remsi v9 c4_i32
  let c0_i32_5 : BitVec 32 := 0#32
  let v23 : BitVec 1 := Scalar.cmpi .ne v22 c0_i32_5
  let v24 : BitVec 1 := Scalar.andi v21 v23
  let v10 : BitVec 32 := Scalar.divsi v9 c4_i32
  let c1_i32_6 : BitVec 32 := 1#32
  let v25 : BitVec 32 := Scalar.subi v10 c1_i32_6
  let v26 : BitVec 32 := Scalar.select v24 v25 v10
  let c4_i32_17 : BitVec 32 := 4#32
  let v40 : BitVec 32 := Scalar.muli v26 c4_i32_17
  let c0_i32_33 : BitVec 32 := 0#32
  let v72 : BitVec 1 := Scalar.cmpi .sgt v9 c0_i32_33
  let v73 : BitVec 32 := Scalar.extui v72
  let c0_i32_34 : BitVec 32 := 0#32
  let v74 : BitVec 1 := Scalar.cmpi .slt v9 c0_i32_34
  let v75 : BitVec 32 := Scalar.extui v74
  let v76 : BitVec 32 := Scalar.subi v73 v75
  let c2_i32_32 : BitVec 32 := 2#32
  let c0_i32_35 : BitVec 32 := 0#32
  let v77 : BitVec 1 := Scalar.cmpi .sgt c2_i32_32 c0_i32_35
  let v78 : BitVec 32 := Scalar.extui v77
  let c0_i32_36 : BitVec 32 := 0#32
  let v79 : BitVec 1 := Scalar.cmpi .slt c2_i32_32 c0_i32_36
  let v80 : BitVec 32 := Scalar.extui v79
  let v81 : BitVec 32 := Scalar.subi v78 v80
  let v82 : BitVec 1 := Scalar.cmpi .ne v76 v81
  let v83 : BitVec 32 := Scalar.remsi v9 c2_i32_32
  let c0_i32_37 : BitVec 32 := 0#32
  let v84 : BitVec 1 := Scalar.cmpi .ne v83 c0_i32_37
  let v85 : BitVec 1 := Scalar.andi v82 v84
  let v71 : BitVec 32 := Scalar.divsi v9 c2_i32_32
  let c1_i32_38 : BitVec 32 := 1#32
  let v86 : BitVec 32 := Scalar.subi v71 c1_i32_38
  let v87 : BitVec 32 := Scalar.select v85 v86 v71
  let c2_i32_39 : BitVec 32 := 2#32
  let c0_i32_40 : BitVec 32 := 0#32
  let v88 : BitVec 1 := Scalar.cmpi .eq c2_i32_39 c0_i32_40
  let c1_i32_41 : BitVec 32 := 1#32
  let v89 : BitVec 32 := Scalar.select v88 c1_i32_41 c2_i32_39
  let v90 : BitVec 32 := Scalar.remsi v87 v89
  let c0_i32_43 : BitVec 32 := 0#32
  let v92 : BitVec 1 := Scalar.cmpi .slt v90 c0_i32_43
  let c0_i32_44 : BitVec 32 := 0#32
  let v93 : BitVec 1 := Scalar.cmpi .slt v89 c0_i32_44
  let v94 : BitVec 1 := Scalar.xori v92 v93
  let c0_i32_42 : BitVec 32 := 0#32
  let v91 : BitVec 1 := Scalar.cmpi .ne v90 c0_i32_42
  let v95 : BitVec 1 := Scalar.andi v94 v91
  let v96 : BitVec 32 := Scalar.addi v90 v89
  let v97 : BitVec 32 := Scalar.select v95 v96 v90
  let c1_i32_45 : BitVec 32 := 1#32
  let v98 : BitVec 1 := Scalar.cmpi .eq v97 c1_i32_45
  let c2_i32_46 : BitVec 32 := 2#32
  let c0_i32_47 : BitVec 32 := 0#32
  let v99 : BitVec 32 := Scalar.select v98 c2_i32_46 c0_i32_47
  let v100 : BitVec 32 := Scalar.addi v40 v99
  let v134 : BitVec 32 := Scalar.addi v2 v100
  let c0_i32_78 : BitVec 32 := 0#32
  let v158 : BitVec 32 := Scalar.addi v134 c0_i32_78
  let c8_i32_157 : BitVec 32 := 8#32
  let c0_i32_158 : BitVec 32 := 0#32
  let v300 : BitVec 1 := Scalar.cmpi .eq c8_i32_157 c0_i32_158
  let c1_i32_159 : BitVec 32 := 1#32
  let v301 : BitVec 32 := Scalar.select v300 c1_i32_159 c8_i32_157
  let v302 : BitVec 32 := Scalar.remsi v158 v301
  let c0_i32_161 : BitVec 32 := 0#32
  let v304 : BitVec 1 := Scalar.cmpi .slt v302 c0_i32_161
  let c0_i32_162 : BitVec 32 := 0#32
  let v305 : BitVec 1 := Scalar.cmpi .slt v301 c0_i32_162
  let v306 : BitVec 1 := Scalar.xori v304 v305
  let c0_i32_160 : BitVec 32 := 0#32
  let v303 : BitVec 1 := Scalar.cmpi .ne v302 c0_i32_160
  let v307 : BitVec 1 := Scalar.andi v306 v303
  let v308 : BitVec 32 := Scalar.addi v302 v301
  let v309 : BitVec 32 := Scalar.select v307 v308 v302
  ![v309.toNat]
def k0_off114 (v2 : BitVec 32) (v5 : BitVec 32) : Fin 3 → Nat :=
  let c0_i32_164 : BitVec 32 := 0#32
  let v9 : BitVec 32 := Scalar.subi v5 v2
  let c0_i32_1 : BitVec 32 := 0#32
  let v11 : BitVec 1 := Scalar.cmpi .sgt v9 c0_i32_1
  let v12 : BitVec 32 := Scalar.extui v11
  let c0_i32_2 : BitVec 32 := 0#32
  let v13 : BitVec 1 := Scalar.cmpi .slt v9 c0_i32_2
  let v14 : BitVec 32 := Scalar.extui v13
  let v15 : BitVec 32 := Scalar.subi v12 v14
  let c4_i32 : BitVec 32 := 4#32
  let c0_i32_3 : BitVec 32 := 0#32
  let v16 : BitVec 1 := Scalar.cmpi .sgt c4_i32 c0_i32_3
  let v17 : BitVec 32 := Scalar.extui v16
  let c0_i32_4 : BitVec 32 := 0#32
  let v18 : BitVec 1 := Scalar.cmpi .slt c4_i32 c0_i32_4
  let v19 : BitVec 32 := Scalar.extui v18
  let v20 : BitVec 32 := Scalar.subi v17 v19
  let v21 : BitVec 1 := Scalar.cmpi .ne v15 v20
  let v22 : BitVec 32 := Scalar.remsi v9 c4_i32
  let c0_i32_5 : BitVec 32 := 0#32
  let v23 : BitVec 1 := Scalar.cmpi .ne v22 c0_i32_5
  let v24 : BitVec 1 := Scalar.andi v21 v23
  let v10 : BitVec 32 := Scalar.divsi v9 c4_i32
  let c1_i32_6 : BitVec 32 := 1#32
  let v25 : BitVec 32 := Scalar.subi v10 c1_i32_6
  let v26 : BitVec 32 := Scalar.select v24 v25 v10
  let c4_i32_17 : BitVec 32 := 4#32
  let v40 : BitVec 32 := Scalar.muli v26 c4_i32_17
  let c0_i32_33 : BitVec 32 := 0#32
  let v72 : BitVec 1 := Scalar.cmpi .sgt v9 c0_i32_33
  let v73 : BitVec 32 := Scalar.extui v72
  let c0_i32_34 : BitVec 32 := 0#32
  let v74 : BitVec 1 := Scalar.cmpi .slt v9 c0_i32_34
  let v75 : BitVec 32 := Scalar.extui v74
  let v76 : BitVec 32 := Scalar.subi v73 v75
  let c2_i32_32 : BitVec 32 := 2#32
  let c0_i32_35 : BitVec 32 := 0#32
  let v77 : BitVec 1 := Scalar.cmpi .sgt c2_i32_32 c0_i32_35
  let v78 : BitVec 32 := Scalar.extui v77
  let c0_i32_36 : BitVec 32 := 0#32
  let v79 : BitVec 1 := Scalar.cmpi .slt c2_i32_32 c0_i32_36
  let v80 : BitVec 32 := Scalar.extui v79
  let v81 : BitVec 32 := Scalar.subi v78 v80
  let v82 : BitVec 1 := Scalar.cmpi .ne v76 v81
  let v83 : BitVec 32 := Scalar.remsi v9 c2_i32_32
  let c0_i32_37 : BitVec 32 := 0#32
  let v84 : BitVec 1 := Scalar.cmpi .ne v83 c0_i32_37
  let v85 : BitVec 1 := Scalar.andi v82 v84
  let v71 : BitVec 32 := Scalar.divsi v9 c2_i32_32
  let c1_i32_38 : BitVec 32 := 1#32
  let v86 : BitVec 32 := Scalar.subi v71 c1_i32_38
  let v87 : BitVec 32 := Scalar.select v85 v86 v71
  let c2_i32_39 : BitVec 32 := 2#32
  let c0_i32_40 : BitVec 32 := 0#32
  let v88 : BitVec 1 := Scalar.cmpi .eq c2_i32_39 c0_i32_40
  let c1_i32_41 : BitVec 32 := 1#32
  let v89 : BitVec 32 := Scalar.select v88 c1_i32_41 c2_i32_39
  let v90 : BitVec 32 := Scalar.remsi v87 v89
  let c0_i32_43 : BitVec 32 := 0#32
  let v92 : BitVec 1 := Scalar.cmpi .slt v90 c0_i32_43
  let c0_i32_44 : BitVec 32 := 0#32
  let v93 : BitVec 1 := Scalar.cmpi .slt v89 c0_i32_44
  let v94 : BitVec 1 := Scalar.xori v92 v93
  let c0_i32_42 : BitVec 32 := 0#32
  let v91 : BitVec 1 := Scalar.cmpi .ne v90 c0_i32_42
  let v95 : BitVec 1 := Scalar.andi v94 v91
  let v96 : BitVec 32 := Scalar.addi v90 v89
  let v97 : BitVec 32 := Scalar.select v95 v96 v90
  let c1_i32_45 : BitVec 32 := 1#32
  let v98 : BitVec 1 := Scalar.cmpi .eq v97 c1_i32_45
  let c2_i32_46 : BitVec 32 := 2#32
  let c0_i32_47 : BitVec 32 := 0#32
  let v99 : BitVec 32 := Scalar.select v98 c2_i32_46 c0_i32_47
  let v100 : BitVec 32 := Scalar.addi v40 v99
  let v134 : BitVec 32 := Scalar.addi v2 v100
  let c0_i32_78 : BitVec 32 := 0#32
  let v158 : BitVec 32 := Scalar.addi v134 c0_i32_78
  let c8_i32_156 : BitVec 32 := 8#32
  let v299 : BitVec 32 := Scalar.subi v158 c8_i32_156
  let c256_i32_163 : BitVec 32 := 256#32
  let v310 : BitVec 32 := Scalar.muli v299 c256_i32_163
  let v311 : BitVec 32 := v310
  let c0_i32_165 : BitVec 32 := 0#32
  ![0, v311.toNat, 0]
def k0_off115 (v2 : BitVec 32) (v5 : BitVec 32) : Fin 4 → Nat :=
  let v9 : BitVec 32 := Scalar.subi v5 v2
  let c0_i32_1 : BitVec 32 := 0#32
  let v11 : BitVec 1 := Scalar.cmpi .sgt v9 c0_i32_1
  let v12 : BitVec 32 := Scalar.extui v11
  let c0_i32_2 : BitVec 32 := 0#32
  let v13 : BitVec 1 := Scalar.cmpi .slt v9 c0_i32_2
  let v14 : BitVec 32 := Scalar.extui v13
  let v15 : BitVec 32 := Scalar.subi v12 v14
  let c4_i32 : BitVec 32 := 4#32
  let c0_i32_3 : BitVec 32 := 0#32
  let v16 : BitVec 1 := Scalar.cmpi .sgt c4_i32 c0_i32_3
  let v17 : BitVec 32 := Scalar.extui v16
  let c0_i32_4 : BitVec 32 := 0#32
  let v18 : BitVec 1 := Scalar.cmpi .slt c4_i32 c0_i32_4
  let v19 : BitVec 32 := Scalar.extui v18
  let v20 : BitVec 32 := Scalar.subi v17 v19
  let v21 : BitVec 1 := Scalar.cmpi .ne v15 v20
  let v22 : BitVec 32 := Scalar.remsi v9 c4_i32
  let c0_i32_5 : BitVec 32 := 0#32
  let v23 : BitVec 1 := Scalar.cmpi .ne v22 c0_i32_5
  let v24 : BitVec 1 := Scalar.andi v21 v23
  let v10 : BitVec 32 := Scalar.divsi v9 c4_i32
  let c1_i32_6 : BitVec 32 := 1#32
  let v25 : BitVec 32 := Scalar.subi v10 c1_i32_6
  let v26 : BitVec 32 := Scalar.select v24 v25 v10
  let c4_i32_17 : BitVec 32 := 4#32
  let v40 : BitVec 32 := Scalar.muli v26 c4_i32_17
  let c0_i32_33 : BitVec 32 := 0#32
  let v72 : BitVec 1 := Scalar.cmpi .sgt v9 c0_i32_33
  let v73 : BitVec 32 := Scalar.extui v72
  let c0_i32_34 : BitVec 32 := 0#32
  let v74 : BitVec 1 := Scalar.cmpi .slt v9 c0_i32_34
  let v75 : BitVec 32 := Scalar.extui v74
  let v76 : BitVec 32 := Scalar.subi v73 v75
  let c2_i32_32 : BitVec 32 := 2#32
  let c0_i32_35 : BitVec 32 := 0#32
  let v77 : BitVec 1 := Scalar.cmpi .sgt c2_i32_32 c0_i32_35
  let v78 : BitVec 32 := Scalar.extui v77
  let c0_i32_36 : BitVec 32 := 0#32
  let v79 : BitVec 1 := Scalar.cmpi .slt c2_i32_32 c0_i32_36
  let v80 : BitVec 32 := Scalar.extui v79
  let v81 : BitVec 32 := Scalar.subi v78 v80
  let v82 : BitVec 1 := Scalar.cmpi .ne v76 v81
  let v83 : BitVec 32 := Scalar.remsi v9 c2_i32_32
  let c0_i32_37 : BitVec 32 := 0#32
  let v84 : BitVec 1 := Scalar.cmpi .ne v83 c0_i32_37
  let v85 : BitVec 1 := Scalar.andi v82 v84
  let v71 : BitVec 32 := Scalar.divsi v9 c2_i32_32
  let c1_i32_38 : BitVec 32 := 1#32
  let v86 : BitVec 32 := Scalar.subi v71 c1_i32_38
  let v87 : BitVec 32 := Scalar.select v85 v86 v71
  let c2_i32_39 : BitVec 32 := 2#32
  let c0_i32_40 : BitVec 32 := 0#32
  let v88 : BitVec 1 := Scalar.cmpi .eq c2_i32_39 c0_i32_40
  let c1_i32_41 : BitVec 32 := 1#32
  let v89 : BitVec 32 := Scalar.select v88 c1_i32_41 c2_i32_39
  let v90 : BitVec 32 := Scalar.remsi v87 v89
  let c0_i32_43 : BitVec 32 := 0#32
  let v92 : BitVec 1 := Scalar.cmpi .slt v90 c0_i32_43
  let c0_i32_44 : BitVec 32 := 0#32
  let v93 : BitVec 1 := Scalar.cmpi .slt v89 c0_i32_44
  let v94 : BitVec 1 := Scalar.xori v92 v93
  let c0_i32_42 : BitVec 32 := 0#32
  let v91 : BitVec 1 := Scalar.cmpi .ne v90 c0_i32_42
  let v95 : BitVec 1 := Scalar.andi v94 v91
  let v96 : BitVec 32 := Scalar.addi v90 v89
  let v97 : BitVec 32 := Scalar.select v95 v96 v90
  let c1_i32_45 : BitVec 32 := 1#32
  let v98 : BitVec 1 := Scalar.cmpi .eq v97 c1_i32_45
  let c2_i32_46 : BitVec 32 := 2#32
  let c0_i32_47 : BitVec 32 := 0#32
  let v99 : BitVec 32 := Scalar.select v98 c2_i32_46 c0_i32_47
  let v100 : BitVec 32 := Scalar.addi v40 v99
  let v134 : BitVec 32 := Scalar.addi v2 v100
  let c0_i32_78 : BitVec 32 := 0#32
  let v158 : BitVec 32 := Scalar.addi v134 c0_i32_78
  let c8_i32_157 : BitVec 32 := 8#32
  let c0_i32_158 : BitVec 32 := 0#32
  let v300 : BitVec 1 := Scalar.cmpi .eq c8_i32_157 c0_i32_158
  let c1_i32_159 : BitVec 32 := 1#32
  let v301 : BitVec 32 := Scalar.select v300 c1_i32_159 c8_i32_157
  let v302 : BitVec 32 := Scalar.remsi v158 v301
  let c0_i32_161 : BitVec 32 := 0#32
  let v304 : BitVec 1 := Scalar.cmpi .slt v302 c0_i32_161
  let c0_i32_162 : BitVec 32 := 0#32
  let v305 : BitVec 1 := Scalar.cmpi .slt v301 c0_i32_162
  let v306 : BitVec 1 := Scalar.xori v304 v305
  let c0_i32_160 : BitVec 32 := 0#32
  let v303 : BitVec 1 := Scalar.cmpi .ne v302 c0_i32_160
  let v307 : BitVec 1 := Scalar.andi v306 v303
  let v308 : BitVec 32 := Scalar.addi v302 v301
  let v309 : BitVec 32 := Scalar.select v307 v308 v302
  let c0_i32_166 : BitVec 32 := 0#32
  let c0_i32_167 : BitVec 32 := 0#32
  let c0_i32_168 : BitVec 32 := 0#32
  ![v309.toNat, 0, 0, 0]
def k0_off116 (v2 : BitVec 32) (v5 : BitVec 32) : Fin 4 → Nat :=
  let v9 : BitVec 32 := Scalar.subi v5 v2
  let c0_i32_1 : BitVec 32 := 0#32
  let v11 : BitVec 1 := Scalar.cmpi .sgt v9 c0_i32_1
  let v12 : BitVec 32 := Scalar.extui v11
  let c0_i32_2 : BitVec 32 := 0#32
  let v13 : BitVec 1 := Scalar.cmpi .slt v9 c0_i32_2
  let v14 : BitVec 32 := Scalar.extui v13
  let v15 : BitVec 32 := Scalar.subi v12 v14
  let c4_i32 : BitVec 32 := 4#32
  let c0_i32_3 : BitVec 32 := 0#32
  let v16 : BitVec 1 := Scalar.cmpi .sgt c4_i32 c0_i32_3
  let v17 : BitVec 32 := Scalar.extui v16
  let c0_i32_4 : BitVec 32 := 0#32
  let v18 : BitVec 1 := Scalar.cmpi .slt c4_i32 c0_i32_4
  let v19 : BitVec 32 := Scalar.extui v18
  let v20 : BitVec 32 := Scalar.subi v17 v19
  let v21 : BitVec 1 := Scalar.cmpi .ne v15 v20
  let v22 : BitVec 32 := Scalar.remsi v9 c4_i32
  let c0_i32_5 : BitVec 32 := 0#32
  let v23 : BitVec 1 := Scalar.cmpi .ne v22 c0_i32_5
  let v24 : BitVec 1 := Scalar.andi v21 v23
  let v10 : BitVec 32 := Scalar.divsi v9 c4_i32
  let c1_i32_6 : BitVec 32 := 1#32
  let v25 : BitVec 32 := Scalar.subi v10 c1_i32_6
  let v26 : BitVec 32 := Scalar.select v24 v25 v10
  let c4_i32_17 : BitVec 32 := 4#32
  let v40 : BitVec 32 := Scalar.muli v26 c4_i32_17
  let c0_i32_33 : BitVec 32 := 0#32
  let v72 : BitVec 1 := Scalar.cmpi .sgt v9 c0_i32_33
  let v73 : BitVec 32 := Scalar.extui v72
  let c0_i32_34 : BitVec 32 := 0#32
  let v74 : BitVec 1 := Scalar.cmpi .slt v9 c0_i32_34
  let v75 : BitVec 32 := Scalar.extui v74
  let v76 : BitVec 32 := Scalar.subi v73 v75
  let c2_i32_32 : BitVec 32 := 2#32
  let c0_i32_35 : BitVec 32 := 0#32
  let v77 : BitVec 1 := Scalar.cmpi .sgt c2_i32_32 c0_i32_35
  let v78 : BitVec 32 := Scalar.extui v77
  let c0_i32_36 : BitVec 32 := 0#32
  let v79 : BitVec 1 := Scalar.cmpi .slt c2_i32_32 c0_i32_36
  let v80 : BitVec 32 := Scalar.extui v79
  let v81 : BitVec 32 := Scalar.subi v78 v80
  let v82 : BitVec 1 := Scalar.cmpi .ne v76 v81
  let v83 : BitVec 32 := Scalar.remsi v9 c2_i32_32
  let c0_i32_37 : BitVec 32 := 0#32
  let v84 : BitVec 1 := Scalar.cmpi .ne v83 c0_i32_37
  let v85 : BitVec 1 := Scalar.andi v82 v84
  let v71 : BitVec 32 := Scalar.divsi v9 c2_i32_32
  let c1_i32_38 : BitVec 32 := 1#32
  let v86 : BitVec 32 := Scalar.subi v71 c1_i32_38
  let v87 : BitVec 32 := Scalar.select v85 v86 v71
  let c2_i32_39 : BitVec 32 := 2#32
  let c0_i32_40 : BitVec 32 := 0#32
  let v88 : BitVec 1 := Scalar.cmpi .eq c2_i32_39 c0_i32_40
  let c1_i32_41 : BitVec 32 := 1#32
  let v89 : BitVec 32 := Scalar.select v88 c1_i32_41 c2_i32_39
  let v90 : BitVec 32 := Scalar.remsi v87 v89
  let c0_i32_43 : BitVec 32 := 0#32
  let v92 : BitVec 1 := Scalar.cmpi .slt v90 c0_i32_43
  let c0_i32_44 : BitVec 32 := 0#32
  let v93 : BitVec 1 := Scalar.cmpi .slt v89 c0_i32_44
  let v94 : BitVec 1 := Scalar.xori v92 v93
  let c0_i32_42 : BitVec 32 := 0#32
  let v91 : BitVec 1 := Scalar.cmpi .ne v90 c0_i32_42
  let v95 : BitVec 1 := Scalar.andi v94 v91
  let v96 : BitVec 32 := Scalar.addi v90 v89
  let v97 : BitVec 32 := Scalar.select v95 v96 v90
  let c1_i32_45 : BitVec 32 := 1#32
  let v98 : BitVec 1 := Scalar.cmpi .eq v97 c1_i32_45
  let c2_i32_46 : BitVec 32 := 2#32
  let c0_i32_47 : BitVec 32 := 0#32
  let v99 : BitVec 32 := Scalar.select v98 c2_i32_46 c0_i32_47
  let v100 : BitVec 32 := Scalar.addi v40 v99
  let v134 : BitVec 32 := Scalar.addi v2 v100
  let c0_i32_81 : BitVec 32 := 0#32
  let v162 : BitVec 32 := Scalar.addi v134 c0_i32_81
  let c8_i32_82 : BitVec 32 := 8#32
  let c0_i32_83 : BitVec 32 := 0#32
  let v163 : BitVec 1 := Scalar.cmpi .eq c8_i32_82 c0_i32_83
  let c1_i32_84 : BitVec 32 := 1#32
  let v164 : BitVec 32 := Scalar.select v163 c1_i32_84 c8_i32_82
  let v165 : BitVec 32 := Scalar.remsi v162 v164
  let c0_i32_86 : BitVec 32 := 0#32
  let v167 : BitVec 1 := Scalar.cmpi .slt v165 c0_i32_86
  let c0_i32_87 : BitVec 32 := 0#32
  let v168 : BitVec 1 := Scalar.cmpi .slt v164 c0_i32_87
  let v169 : BitVec 1 := Scalar.xori v167 v168
  let c0_i32_85 : BitVec 32 := 0#32
  let v166 : BitVec 1 := Scalar.cmpi .ne v165 c0_i32_85
  let v170 : BitVec 1 := Scalar.andi v169 v166
  let v171 : BitVec 32 := Scalar.addi v165 v164
  let v172 : BitVec 32 := Scalar.select v170 v171 v165
  let v173 : Index := Scalar.indexCast v172
  let c0_88 : Index := 0#32
  let c0_89 : Index := 0#32
  let c0_90 : Index := 0#32
  ![v173.toNat, 0, 0, 0]
def k0_off117 (v2 : BitVec 32) (v5 : BitVec 32) : Fin 4 → Nat :=
  let v9 : BitVec 32 := Scalar.subi v5 v2
  let c0_i32_1 : BitVec 32 := 0#32
  let v11 : BitVec 1 := Scalar.cmpi .sgt v9 c0_i32_1
  let v12 : BitVec 32 := Scalar.extui v11
  let c0_i32_2 : BitVec 32 := 0#32
  let v13 : BitVec 1 := Scalar.cmpi .slt v9 c0_i32_2
  let v14 : BitVec 32 := Scalar.extui v13
  let v15 : BitVec 32 := Scalar.subi v12 v14
  let c4_i32 : BitVec 32 := 4#32
  let c0_i32_3 : BitVec 32 := 0#32
  let v16 : BitVec 1 := Scalar.cmpi .sgt c4_i32 c0_i32_3
  let v17 : BitVec 32 := Scalar.extui v16
  let c0_i32_4 : BitVec 32 := 0#32
  let v18 : BitVec 1 := Scalar.cmpi .slt c4_i32 c0_i32_4
  let v19 : BitVec 32 := Scalar.extui v18
  let v20 : BitVec 32 := Scalar.subi v17 v19
  let v21 : BitVec 1 := Scalar.cmpi .ne v15 v20
  let v22 : BitVec 32 := Scalar.remsi v9 c4_i32
  let c0_i32_5 : BitVec 32 := 0#32
  let v23 : BitVec 1 := Scalar.cmpi .ne v22 c0_i32_5
  let v24 : BitVec 1 := Scalar.andi v21 v23
  let v10 : BitVec 32 := Scalar.divsi v9 c4_i32
  let c1_i32_6 : BitVec 32 := 1#32
  let v25 : BitVec 32 := Scalar.subi v10 c1_i32_6
  let v26 : BitVec 32 := Scalar.select v24 v25 v10
  let c4_i32_17 : BitVec 32 := 4#32
  let v40 : BitVec 32 := Scalar.muli v26 c4_i32_17
  let c0_i32_33 : BitVec 32 := 0#32
  let v72 : BitVec 1 := Scalar.cmpi .sgt v9 c0_i32_33
  let v73 : BitVec 32 := Scalar.extui v72
  let c0_i32_34 : BitVec 32 := 0#32
  let v74 : BitVec 1 := Scalar.cmpi .slt v9 c0_i32_34
  let v75 : BitVec 32 := Scalar.extui v74
  let v76 : BitVec 32 := Scalar.subi v73 v75
  let c2_i32_32 : BitVec 32 := 2#32
  let c0_i32_35 : BitVec 32 := 0#32
  let v77 : BitVec 1 := Scalar.cmpi .sgt c2_i32_32 c0_i32_35
  let v78 : BitVec 32 := Scalar.extui v77
  let c0_i32_36 : BitVec 32 := 0#32
  let v79 : BitVec 1 := Scalar.cmpi .slt c2_i32_32 c0_i32_36
  let v80 : BitVec 32 := Scalar.extui v79
  let v81 : BitVec 32 := Scalar.subi v78 v80
  let v82 : BitVec 1 := Scalar.cmpi .ne v76 v81
  let v83 : BitVec 32 := Scalar.remsi v9 c2_i32_32
  let c0_i32_37 : BitVec 32 := 0#32
  let v84 : BitVec 1 := Scalar.cmpi .ne v83 c0_i32_37
  let v85 : BitVec 1 := Scalar.andi v82 v84
  let v71 : BitVec 32 := Scalar.divsi v9 c2_i32_32
  let c1_i32_38 : BitVec 32 := 1#32
  let v86 : BitVec 32 := Scalar.subi v71 c1_i32_38
  let v87 : BitVec 32 := Scalar.select v85 v86 v71
  let c2_i32_39 : BitVec 32 := 2#32
  let c0_i32_40 : BitVec 32 := 0#32
  let v88 : BitVec 1 := Scalar.cmpi .eq c2_i32_39 c0_i32_40
  let c1_i32_41 : BitVec 32 := 1#32
  let v89 : BitVec 32 := Scalar.select v88 c1_i32_41 c2_i32_39
  let v90 : BitVec 32 := Scalar.remsi v87 v89
  let c0_i32_43 : BitVec 32 := 0#32
  let v92 : BitVec 1 := Scalar.cmpi .slt v90 c0_i32_43
  let c0_i32_44 : BitVec 32 := 0#32
  let v93 : BitVec 1 := Scalar.cmpi .slt v89 c0_i32_44
  let v94 : BitVec 1 := Scalar.xori v92 v93
  let c0_i32_42 : BitVec 32 := 0#32
  let v91 : BitVec 1 := Scalar.cmpi .ne v90 c0_i32_42
  let v95 : BitVec 1 := Scalar.andi v94 v91
  let v96 : BitVec 32 := Scalar.addi v90 v89
  let v97 : BitVec 32 := Scalar.select v95 v96 v90
  let c1_i32_45 : BitVec 32 := 1#32
  let v98 : BitVec 1 := Scalar.cmpi .eq v97 c1_i32_45
  let c2_i32_46 : BitVec 32 := 2#32
  let c0_i32_47 : BitVec 32 := 0#32
  let v99 : BitVec 32 := Scalar.select v98 c2_i32_46 c0_i32_47
  let v100 : BitVec 32 := Scalar.addi v40 v99
  let v134 : BitVec 32 := Scalar.addi v2 v100
  let c0_i32_81 : BitVec 32 := 0#32
  let v162 : BitVec 32 := Scalar.addi v134 c0_i32_81
  let c8_i32_91 : BitVec 32 := 8#32
  let c0_i32_92 : BitVec 32 := 0#32
  let v176 : BitVec 1 := Scalar.cmpi .eq c8_i32_91 c0_i32_92
  let c1_i32_93 : BitVec 32 := 1#32
  let v177 : BitVec 32 := Scalar.select v176 c1_i32_93 c8_i32_91
  let v178 : BitVec 32 := Scalar.remsi v162 v177
  let c0_i32_95 : BitVec 32 := 0#32
  let v180 : BitVec 1 := Scalar.cmpi .slt v178 c0_i32_95
  let c0_i32_96 : BitVec 32 := 0#32
  let v181 : BitVec 1 := Scalar.cmpi .slt v177 c0_i32_96
  let v182 : BitVec 1 := Scalar.xori v180 v181
  let c0_i32_94 : BitVec 32 := 0#32
  let v179 : BitVec 1 := Scalar.cmpi .ne v178 c0_i32_94
  let v183 : BitVec 1 := Scalar.andi v182 v179
  let v184 : BitVec 32 := Scalar.addi v178 v177
  let v185 : BitVec 32 := Scalar.select v183 v184 v178
  let v186 : Index := Scalar.indexCast v185
  let c1 : Index := 1#32
  let c0_97 : Index := 0#32
  let c0_98 : Index := 0#32
  ![v186.toNat, 1, 0, 0]
def k0_mult64 (v2 : BitVec 32) (v5 : BitVec 32) : BitVec 32 :=
  let v9 : BitVec 32 := Scalar.subi v5 v2
  let c0_i32_1 : BitVec 32 := 0#32
  let v11 : BitVec 1 := Scalar.cmpi .sgt v9 c0_i32_1
  let v12 : BitVec 32 := Scalar.extui v11
  let c0_i32_2 : BitVec 32 := 0#32
  let v13 : BitVec 1 := Scalar.cmpi .slt v9 c0_i32_2
  let v14 : BitVec 32 := Scalar.extui v13
  let v15 : BitVec 32 := Scalar.subi v12 v14
  let c4_i32 : BitVec 32 := 4#32
  let c0_i32_3 : BitVec 32 := 0#32
  let v16 : BitVec 1 := Scalar.cmpi .sgt c4_i32 c0_i32_3
  let v17 : BitVec 32 := Scalar.extui v16
  let c0_i32_4 : BitVec 32 := 0#32
  let v18 : BitVec 1 := Scalar.cmpi .slt c4_i32 c0_i32_4
  let v19 : BitVec 32 := Scalar.extui v18
  let v20 : BitVec 32 := Scalar.subi v17 v19
  let v21 : BitVec 1 := Scalar.cmpi .ne v15 v20
  let v22 : BitVec 32 := Scalar.remsi v9 c4_i32
  let c0_i32_5 : BitVec 32 := 0#32
  let v23 : BitVec 1 := Scalar.cmpi .ne v22 c0_i32_5
  let v24 : BitVec 1 := Scalar.andi v21 v23
  let v10 : BitVec 32 := Scalar.divsi v9 c4_i32
  let c1_i32_6 : BitVec 32 := 1#32
  let v25 : BitVec 32 := Scalar.subi v10 c1_i32_6
  let v26 : BitVec 32 := Scalar.select v24 v25 v10
  let c4_i32_17 : BitVec 32 := 4#32
  let v40 : BitVec 32 := Scalar.muli v26 c4_i32_17
  let c0_i32_33 : BitVec 32 := 0#32
  let v72 : BitVec 1 := Scalar.cmpi .sgt v9 c0_i32_33
  let v73 : BitVec 32 := Scalar.extui v72
  let c0_i32_34 : BitVec 32 := 0#32
  let v74 : BitVec 1 := Scalar.cmpi .slt v9 c0_i32_34
  let v75 : BitVec 32 := Scalar.extui v74
  let v76 : BitVec 32 := Scalar.subi v73 v75
  let c2_i32_32 : BitVec 32 := 2#32
  let c0_i32_35 : BitVec 32 := 0#32
  let v77 : BitVec 1 := Scalar.cmpi .sgt c2_i32_32 c0_i32_35
  let v78 : BitVec 32 := Scalar.extui v77
  let c0_i32_36 : BitVec 32 := 0#32
  let v79 : BitVec 1 := Scalar.cmpi .slt c2_i32_32 c0_i32_36
  let v80 : BitVec 32 := Scalar.extui v79
  let v81 : BitVec 32 := Scalar.subi v78 v80
  let v82 : BitVec 1 := Scalar.cmpi .ne v76 v81
  let v83 : BitVec 32 := Scalar.remsi v9 c2_i32_32
  let c0_i32_37 : BitVec 32 := 0#32
  let v84 : BitVec 1 := Scalar.cmpi .ne v83 c0_i32_37
  let v85 : BitVec 1 := Scalar.andi v82 v84
  let v71 : BitVec 32 := Scalar.divsi v9 c2_i32_32
  let c1_i32_38 : BitVec 32 := 1#32
  let v86 : BitVec 32 := Scalar.subi v71 c1_i32_38
  let v87 : BitVec 32 := Scalar.select v85 v86 v71
  let c2_i32_39 : BitVec 32 := 2#32
  let c0_i32_40 : BitVec 32 := 0#32
  let v88 : BitVec 1 := Scalar.cmpi .eq c2_i32_39 c0_i32_40
  let c1_i32_41 : BitVec 32 := 1#32
  let v89 : BitVec 32 := Scalar.select v88 c1_i32_41 c2_i32_39
  let v90 : BitVec 32 := Scalar.remsi v87 v89
  let c0_i32_43 : BitVec 32 := 0#32
  let v92 : BitVec 1 := Scalar.cmpi .slt v90 c0_i32_43
  let c0_i32_44 : BitVec 32 := 0#32
  let v93 : BitVec 1 := Scalar.cmpi .slt v89 c0_i32_44
  let v94 : BitVec 1 := Scalar.xori v92 v93
  let c0_i32_42 : BitVec 32 := 0#32
  let v91 : BitVec 1 := Scalar.cmpi .ne v90 c0_i32_42
  let v95 : BitVec 1 := Scalar.andi v94 v91
  let v96 : BitVec 32 := Scalar.addi v90 v89
  let v97 : BitVec 32 := Scalar.select v95 v96 v90
  let c1_i32_45 : BitVec 32 := 1#32
  let v98 : BitVec 1 := Scalar.cmpi .eq v97 c1_i32_45
  let c2_i32_46 : BitVec 32 := 2#32
  let c0_i32_47 : BitVec 32 := 0#32
  let v99 : BitVec 32 := Scalar.select v98 c2_i32_46 c0_i32_47
  let v100 : BitVec 32 := Scalar.addi v40 v99
  let v134 : BitVec 32 := Scalar.addi v2 v100
  let c0_i32_137 : BitVec 32 := 0#32
  let v271 : BitVec 32 := Scalar.addi v134 c0_i32_137
  let c256_i32_138 : BitVec 32 := 256#32
  let v272 : BitVec 32 := Scalar.muli v271 c256_i32_138
  v272

def k0_chk1_0 (v0 : BitVec 32) (v2 : BitVec 32) (v5 : BitVec 32) : Prop :=
  (∀ (k0_h7 : k0_cond7 v2 v5 = 1#1), 256 ∣ (k0_mult5 v2).toNat) ∧
  (∀ (k0_h7 : k0_cond7 v2 v5 = 1#1), ∀ (r : Fin 4), ∀ a, (k0_off3 v2 (BitVec.ofNat 32 r.val)) a + S1.size a ≤ S8.size a) ∧
  (∀ (k0_h7 : k0_cond7 v2 v5 = 1#1), ∀ (r : Fin 4), ∀ a, (k0_off4 v2 (BitVec.ofNat 32 r.val)) a + S1x2x256x256.size a ≤ S8x2x256x256.size a) ∧
  (∀ (k0_h7 : k0_cond7 v2 v5 = 1#1), ∀ (r : Fin 4), ∀ a, (k0_off5 v2 (BitVec.ofNat 32 r.val)) a + S2x256x256.size a ≤ S2x140288x256.size a) ∧
  (∀ (k0_h7 : k0_cond7 v2 v5 = 1#1), 256 ∣ (k0_mult6 v2).toNat) ∧
  (∀ (k0_h7 : k0_cond7 v2 v5 = 1#1), 256 ∣ (k0_mult7 v2).toNat) ∧
  (∀ (k0_h7 : k0_cond7 v2 v5 = 1#1), 256 ∣ (k0_mult8 v2).toNat) ∧
  (∀ (k0_h7 : k0_cond7 v2 v5 = 1#1), ∀ (k0_h8 : k0_cond8 v0 v2 = 1#1), 256 ∣ (k0_mult9 v2).toNat) ∧
  (∀ (k0_h7 : k0_cond7 v2 v5 = 1#1), ∀ (k0_h8 : k0_cond8 v0 v2 = 1#1), ∀ a, (k0_off6 v2) a + S1.size a ≤ S8.size a) ∧
  (∀ (k0_h7 : k0_cond7 v2 v5 = 1#1), ∀ (k0_h8 : k0_cond8 v0 v2 = 1#1), ∀ a, (k0_off7 v2) a + S1x2x256x256.size a ≤ S8x2x256x256.size a) ∧
  (∀ (k0_h7 : k0_cond7 v2 v5 = 1#1), ∀ (k0_h8 : k0_cond8 v0 v2 = 1#1), ∀ a, (k0_off8 v2) a + S2x256x256.size a ≤ S2x140288x256.size a) ∧
  (∀ (k0_h7 : k0_cond7 v2 v5 = 1#1), ∀ (k0_h9 : k0_cond9 v0 v2 = 1#1), 256 ∣ (k0_mult10 v2).toNat) ∧
  (∀ (k0_h7 : k0_cond7 v2 v5 = 1#1), ∀ (k0_h9 : k0_cond9 v0 v2 = 1#1), ∀ a, (k0_off9 v2) a + S1.size a ≤ S8.size a) ∧
  (∀ (k0_h7 : k0_cond7 v2 v5 = 1#1), ∀ (k0_h9 : k0_cond9 v0 v2 = 1#1), ∀ a, (k0_off10 v2) a + S1x2x256x256.size a ≤ S8x2x256x256.size a) ∧
  (∀ (k0_h7 : k0_cond7 v2 v5 = 1#1), ∀ (k0_h9 : k0_cond9 v0 v2 = 1#1), ∀ a, (k0_off11 v2) a + S2x256x256.size a ≤ S2x140288x256.size a) ∧
  (∀ (k0_h7 : k0_cond7 v2 v5 = 1#1), ∀ (k0_h10 : k0_cond10 v0 v2 = 1#1), 256 ∣ (k0_mult11 v2).toNat) ∧
  (∀ (k0_h7 : k0_cond7 v2 v5 = 1#1), ∀ (k0_h10 : k0_cond10 v0 v2 = 1#1), ∀ a, (k0_off12 v2) a + S1.size a ≤ S8.size a) ∧
  (∀ (k0_h7 : k0_cond7 v2 v5 = 1#1), ∀ (k0_h10 : k0_cond10 v0 v2 = 1#1), ∀ a, (k0_off13 v2) a + S1x2x256x256.size a ≤ S8x2x256x256.size a) ∧
  (∀ (k0_h7 : k0_cond7 v2 v5 = 1#1), ∀ (k0_h10 : k0_cond10 v0 v2 = 1#1), ∀ a, (k0_off14 v2) a + S2x256x256.size a ≤ S2x140288x256.size a) ∧
  (∀ (k0_h7 : k0_cond7 v2 v5 = 1#1), ∀ (k0_h11 : k0_cond11 v0 v2 = 1#1), 256 ∣ (k0_mult12 v2).toNat) ∧
  (∀ (k0_h7 : k0_cond7 v2 v5 = 1#1), ∀ (k0_h11 : k0_cond11 v0 v2 = 1#1), ∀ a, (k0_off15 v2) a + S1.size a ≤ S8.size a) ∧
  (∀ (k0_h7 : k0_cond7 v2 v5 = 1#1), ∀ (k0_h11 : k0_cond11 v0 v2 = 1#1), ∀ a, (k0_off16 v2) a + S1x2x256x256.size a ≤ S8x2x256x256.size a) ∧
  (∀ (k0_h7 : k0_cond7 v2 v5 = 1#1), ∀ (k0_h11 : k0_cond11 v0 v2 = 1#1), ∀ a, (k0_off17 v2) a + S2x256x256.size a ≤ S2x140288x256.size a) ∧
  (∀ (k0_h7 : k0_cond7 v2 v5 = 1#1), ∀ (k0_h12 : k0_cond12 v2 = 1#1), 256 ∣ (k0_mult13 v2).toNat) ∧
  (∀ (k0_h7 : k0_cond7 v2 v5 = 1#1), ∀ (k0_h12 : k0_cond12 v2 = 1#1), ∀ a, (k0_off18 v2) a + S1.size a ≤ S8.size a) ∧
  (∀ (k0_h7 : k0_cond7 v2 v5 = 1#1), ∀ (k0_h12 : k0_cond12 v2 = 1#1), ∀ a, (k0_off19 v2) a + S2x256x256.size a ≤ S2x140288x256.size a) ∧
  (∀ (k0_h7 : k0_cond7 v2 v5 = 1#1), ∀ (k0_h12 : k0_cond12 v2 = 1#1), ∀ a, (k0_off20 v2) a + S1x2x256x256.size a ≤ S8x2x256x256.size a) ∧
  (∀ (k0_h7 : k0_cond7 v2 v5 = 1#1), ∀ (k0_h13 : k0_cond13 v2 = 1#1), 256 ∣ (k0_mult14 v2).toNat) ∧
  (∀ (k0_h7 : k0_cond7 v2 v5 = 1#1), ∀ (k0_h13 : k0_cond13 v2 = 1#1), ∀ a, (k0_off21 v2) a + S1.size a ≤ S8.size a) ∧
  (∀ (k0_h7 : k0_cond7 v2 v5 = 1#1), ∀ (k0_h13 : k0_cond13 v2 = 1#1), ∀ a, (k0_off22 v2) a + S2x256x256.size a ≤ S2x140288x256.size a) ∧
  (∀ (k0_h7 : k0_cond7 v2 v5 = 1#1), ∀ (k0_h13 : k0_cond13 v2 = 1#1), ∀ a, (k0_off23 v2) a + S1x2x256x256.size a ≤ S8x2x256x256.size a) ∧
  (∀ (k0_h7 : k0_cond7 v2 v5 = 1#1), ∀ (k0_h14 : k0_cond14 v2 = 1#1), 256 ∣ (k0_mult15 v2).toNat)
def k0_chk1_1 (v0 : BitVec 32) (v2 : BitVec 32) (v5 : BitVec 32) : Prop :=
  (∀ (k0_h7 : k0_cond7 v2 v5 = 1#1), ∀ (k0_h14 : k0_cond14 v2 = 1#1), ∀ a, (k0_off24 v2) a + S1.size a ≤ S8.size a) ∧
  (∀ (k0_h7 : k0_cond7 v2 v5 = 1#1), ∀ (k0_h14 : k0_cond14 v2 = 1#1), ∀ a, (k0_off25 v2) a + S2x256x256.size a ≤ S2x140288x256.size a) ∧
  (∀ (k0_h7 : k0_cond7 v2 v5 = 1#1), ∀ (k0_h14 : k0_cond14 v2 = 1#1), ∀ a, (k0_off26 v2) a + S1x2x256x256.size a ≤ S8x2x256x256.size a) ∧
  (∀ (k0_h7 : k0_cond7 v2 v5 = 1#1), ∀ (k0_h15 : k0_cond15 v2 = 1#1), 256 ∣ (k0_mult16 v2).toNat) ∧
  (∀ (k0_h7 : k0_cond7 v2 v5 = 1#1), ∀ (k0_h15 : k0_cond15 v2 = 1#1), ∀ a, (k0_off27 v2) a + S1.size a ≤ S8.size a) ∧
  (∀ (k0_h7 : k0_cond7 v2 v5 = 1#1), ∀ (k0_h15 : k0_cond15 v2 = 1#1), ∀ a, (k0_off28 v2) a + S2x256x256.size a ≤ S2x140288x256.size a) ∧
  (∀ (k0_h7 : k0_cond7 v2 v5 = 1#1), ∀ (k0_h15 : k0_cond15 v2 = 1#1), ∀ a, (k0_off29 v2) a + S1x2x256x256.size a ≤ S8x2x256x256.size a) ∧
  (∀ (k0_h7 : k0_cond7 v2 v5 = 1#1), ∀ (r : Fin 4), ∀ a, (k0_off30 v2 (BitVec.ofNat 32 r.val)) a + S1x1x256x256.size a ≤ S8x2x256x256.size a) ∧
  (∀ (k0_h7 : k0_cond7 v2 v5 = 1#1), ∀ (r : Fin 4), ∀ a, (k0_off31 v2 (BitVec.ofNat 32 r.val)) a + S1x1x256x256.size a ≤ S8x2x256x256.size a) ∧
  (∀ (k0_h7 : k0_cond7 v2 v5 = 1#1), 256 ∣ (k0_mult17 v2).toNat) ∧
  (∀ (k0_h7 : k0_cond7 v2 v5 = 1#1), 256 ∣ (k0_mult18 v2).toNat) ∧
  (∀ (k0_h7 : k0_cond7 v2 v5 = 1#1), 256 ∣ (k0_mult19 v2).toNat) ∧
  (∀ (k0_h7 : k0_cond7 v2 v5 = 1#1), 256 ∣ (k0_mult20 v2).toNat) ∧
  ((k0_t1_loop v2 v5).OK) ∧
  (∀ k0_t1 : Fin (k0_t1_loop v2 v5).trips, 256 ∣ (k0_mult21 v2 v5 k0_t1).toNat) ∧
  (∀ k0_t1 : Fin (k0_t1_loop v2 v5).trips, ∀ (r : Fin 4), ∀ a, (k0_off32 v2 v5 k0_t1 (BitVec.ofNat 32 r.val)) a + S1.size a ≤ S8.size a) ∧
  (∀ k0_t1 : Fin (k0_t1_loop v2 v5).trips, ∀ (r : Fin 4), ∀ a, (k0_off33 v2 v5 k0_t1 (BitVec.ofNat 32 r.val)) a + S1x2x256x256.size a ≤ S8x2x256x256.size a) ∧
  (∀ k0_t1 : Fin (k0_t1_loop v2 v5).trips, ∀ (r : Fin 4), ∀ a, (k0_off34 v2 v5 k0_t1 (BitVec.ofNat 32 r.val)) a + S2x256x256.size a ≤ S2x140288x256.size a) ∧
  (∀ k0_t1 : Fin (k0_t1_loop v2 v5).trips, 256 ∣ (k0_mult22 v2 v5 k0_t1).toNat) ∧
  (∀ k0_t1 : Fin (k0_t1_loop v2 v5).trips, 256 ∣ (k0_mult23 v2 v5 k0_t1).toNat) ∧
  (∀ k0_t1 : Fin (k0_t1_loop v2 v5).trips, 256 ∣ (k0_mult24 v2 v5 k0_t1).toNat) ∧
  (∀ k0_t1 : Fin (k0_t1_loop v2 v5).trips, ∀ (k0_h16 : k0_cond16 v0 v2 v5 k0_t1 = 1#1), 256 ∣ (k0_mult25 v2 v5 k0_t1).toNat) ∧
  (∀ k0_t1 : Fin (k0_t1_loop v2 v5).trips, ∀ (k0_h16 : k0_cond16 v0 v2 v5 k0_t1 = 1#1), ∀ a, (k0_off35 v2 v5 k0_t1) a + S1.size a ≤ S8.size a) ∧
  (∀ k0_t1 : Fin (k0_t1_loop v2 v5).trips, ∀ (k0_h16 : k0_cond16 v0 v2 v5 k0_t1 = 1#1), ∀ a, (k0_off36 v2 v5 k0_t1) a + S1x2x256x256.size a ≤ S8x2x256x256.size a) ∧
  (∀ k0_t1 : Fin (k0_t1_loop v2 v5).trips, ∀ (k0_h16 : k0_cond16 v0 v2 v5 k0_t1 = 1#1), ∀ a, (k0_off37 v2 v5 k0_t1) a + S2x256x256.size a ≤ S2x140288x256.size a) ∧
  (∀ k0_t1 : Fin (k0_t1_loop v2 v5).trips, ∀ (k0_h17 : k0_cond17 v0 v2 v5 k0_t1 = 1#1), 256 ∣ (k0_mult26 v2 v5 k0_t1).toNat) ∧
  (∀ k0_t1 : Fin (k0_t1_loop v2 v5).trips, ∀ (k0_h17 : k0_cond17 v0 v2 v5 k0_t1 = 1#1), ∀ a, (k0_off38 v2 v5 k0_t1) a + S1.size a ≤ S8.size a) ∧
  (∀ k0_t1 : Fin (k0_t1_loop v2 v5).trips, ∀ (k0_h17 : k0_cond17 v0 v2 v5 k0_t1 = 1#1), ∀ a, (k0_off39 v2 v5 k0_t1) a + S1x2x256x256.size a ≤ S8x2x256x256.size a) ∧
  (∀ k0_t1 : Fin (k0_t1_loop v2 v5).trips, ∀ (k0_h17 : k0_cond17 v0 v2 v5 k0_t1 = 1#1), ∀ a, (k0_off40 v2 v5 k0_t1) a + S2x256x256.size a ≤ S2x140288x256.size a) ∧
  (∀ k0_t1 : Fin (k0_t1_loop v2 v5).trips, ∀ (k0_h18 : k0_cond18 v0 v2 v5 k0_t1 = 1#1), 256 ∣ (k0_mult27 v2 v5 k0_t1).toNat) ∧
  (∀ k0_t1 : Fin (k0_t1_loop v2 v5).trips, ∀ (k0_h18 : k0_cond18 v0 v2 v5 k0_t1 = 1#1), ∀ a, (k0_off41 v2 v5 k0_t1) a + S1.size a ≤ S8.size a) ∧
  (∀ k0_t1 : Fin (k0_t1_loop v2 v5).trips, ∀ (k0_h18 : k0_cond18 v0 v2 v5 k0_t1 = 1#1), ∀ a, (k0_off42 v2 v5 k0_t1) a + S1x2x256x256.size a ≤ S8x2x256x256.size a)
def k0_chk1_2 (v0 : BitVec 32) (v2 : BitVec 32) (v5 : BitVec 32) : Prop :=
  (∀ k0_t1 : Fin (k0_t1_loop v2 v5).trips, ∀ (k0_h18 : k0_cond18 v0 v2 v5 k0_t1 = 1#1), ∀ a, (k0_off43 v2 v5 k0_t1) a + S2x256x256.size a ≤ S2x140288x256.size a) ∧
  (∀ k0_t1 : Fin (k0_t1_loop v2 v5).trips, ∀ (k0_h19 : k0_cond19 v0 v2 v5 k0_t1 = 1#1), 256 ∣ (k0_mult28 v2 v5 k0_t1).toNat) ∧
  (∀ k0_t1 : Fin (k0_t1_loop v2 v5).trips, ∀ (k0_h19 : k0_cond19 v0 v2 v5 k0_t1 = 1#1), ∀ a, (k0_off44 v2 v5 k0_t1) a + S1.size a ≤ S8.size a) ∧
  (∀ k0_t1 : Fin (k0_t1_loop v2 v5).trips, ∀ (k0_h19 : k0_cond19 v0 v2 v5 k0_t1 = 1#1), ∀ a, (k0_off45 v2 v5 k0_t1) a + S1x2x256x256.size a ≤ S8x2x256x256.size a) ∧
  (∀ k0_t1 : Fin (k0_t1_loop v2 v5).trips, ∀ (k0_h19 : k0_cond19 v0 v2 v5 k0_t1 = 1#1), ∀ a, (k0_off46 v2 v5 k0_t1) a + S2x256x256.size a ≤ S2x140288x256.size a) ∧
  (∀ k0_t1 : Fin (k0_t1_loop v2 v5).trips, ∀ (k0_h20 : k0_cond20 v2 v5 k0_t1 = 1#1), 256 ∣ (k0_mult29 v2 v5 k0_t1).toNat) ∧
  (∀ k0_t1 : Fin (k0_t1_loop v2 v5).trips, ∀ (k0_h20 : k0_cond20 v2 v5 k0_t1 = 1#1), ∀ a, (k0_off47 v2 v5 k0_t1) a + S1.size a ≤ S8.size a) ∧
  (∀ k0_t1 : Fin (k0_t1_loop v2 v5).trips, ∀ (k0_h20 : k0_cond20 v2 v5 k0_t1 = 1#1), ∀ a, (k0_off48 v2 v5 k0_t1) a + S2x256x256.size a ≤ S2x140288x256.size a) ∧
  (∀ k0_t1 : Fin (k0_t1_loop v2 v5).trips, ∀ (k0_h20 : k0_cond20 v2 v5 k0_t1 = 1#1), ∀ a, (k0_off49 v2 v5 k0_t1) a + S1x2x256x256.size a ≤ S8x2x256x256.size a) ∧
  (∀ k0_t1 : Fin (k0_t1_loop v2 v5).trips, ∀ (k0_h21 : k0_cond21 v2 v5 k0_t1 = 1#1), 256 ∣ (k0_mult30 v2 v5 k0_t1).toNat) ∧
  (∀ k0_t1 : Fin (k0_t1_loop v2 v5).trips, ∀ (k0_h21 : k0_cond21 v2 v5 k0_t1 = 1#1), ∀ a, (k0_off50 v2 v5 k0_t1) a + S1.size a ≤ S8.size a) ∧
  (∀ k0_t1 : Fin (k0_t1_loop v2 v5).trips, ∀ (k0_h21 : k0_cond21 v2 v5 k0_t1 = 1#1), ∀ a, (k0_off51 v2 v5 k0_t1) a + S2x256x256.size a ≤ S2x140288x256.size a) ∧
  (∀ k0_t1 : Fin (k0_t1_loop v2 v5).trips, ∀ (k0_h21 : k0_cond21 v2 v5 k0_t1 = 1#1), ∀ a, (k0_off52 v2 v5 k0_t1) a + S1x2x256x256.size a ≤ S8x2x256x256.size a) ∧
  (∀ k0_t1 : Fin (k0_t1_loop v2 v5).trips, ∀ (k0_h22 : k0_cond22 v2 v5 k0_t1 = 1#1), 256 ∣ (k0_mult31 v2 v5 k0_t1).toNat) ∧
  (∀ k0_t1 : Fin (k0_t1_loop v2 v5).trips, ∀ (k0_h22 : k0_cond22 v2 v5 k0_t1 = 1#1), ∀ a, (k0_off53 v2 v5 k0_t1) a + S1.size a ≤ S8.size a) ∧
  (∀ k0_t1 : Fin (k0_t1_loop v2 v5).trips, ∀ (k0_h22 : k0_cond22 v2 v5 k0_t1 = 1#1), ∀ a, (k0_off54 v2 v5 k0_t1) a + S2x256x256.size a ≤ S2x140288x256.size a) ∧
  (∀ k0_t1 : Fin (k0_t1_loop v2 v5).trips, ∀ (k0_h22 : k0_cond22 v2 v5 k0_t1 = 1#1), ∀ a, (k0_off55 v2 v5 k0_t1) a + S1x2x256x256.size a ≤ S8x2x256x256.size a) ∧
  (∀ k0_t1 : Fin (k0_t1_loop v2 v5).trips, ∀ (k0_h23 : k0_cond23 v2 v5 k0_t1 = 1#1), 256 ∣ (k0_mult32 v2 v5 k0_t1).toNat) ∧
  (∀ k0_t1 : Fin (k0_t1_loop v2 v5).trips, ∀ (k0_h23 : k0_cond23 v2 v5 k0_t1 = 1#1), ∀ a, (k0_off56 v2 v5 k0_t1) a + S1.size a ≤ S8.size a) ∧
  (∀ k0_t1 : Fin (k0_t1_loop v2 v5).trips, ∀ (k0_h23 : k0_cond23 v2 v5 k0_t1 = 1#1), ∀ a, (k0_off57 v2 v5 k0_t1) a + S2x256x256.size a ≤ S2x140288x256.size a) ∧
  (∀ k0_t1 : Fin (k0_t1_loop v2 v5).trips, ∀ (k0_h23 : k0_cond23 v2 v5 k0_t1 = 1#1), ∀ a, (k0_off58 v2 v5 k0_t1) a + S1x2x256x256.size a ≤ S8x2x256x256.size a) ∧
  (∀ k0_t1 : Fin (k0_t1_loop v2 v5).trips, ∀ (r : Fin 4), ∀ a, (k0_off59 v2 v5 k0_t1 (BitVec.ofNat 32 r.val)) a + S1x1x256x256.size a ≤ S8x2x256x256.size a) ∧
  (∀ k0_t1 : Fin (k0_t1_loop v2 v5).trips, ∀ (r : Fin 4), ∀ a, (k0_off60 v2 v5 k0_t1 (BitVec.ofNat 32 r.val)) a + S1x1x256x256.size a ≤ S8x2x256x256.size a) ∧
  (∀ k0_t1 : Fin (k0_t1_loop v2 v5).trips, 256 ∣ (k0_mult33 v2 v5 k0_t1).toNat) ∧
  (∀ k0_t1 : Fin (k0_t1_loop v2 v5).trips, 256 ∣ (k0_mult34 v2 v5 k0_t1).toNat) ∧
  (∀ k0_t1 : Fin (k0_t1_loop v2 v5).trips, 256 ∣ (k0_mult35 v2 v5 k0_t1).toNat) ∧
  (∀ k0_t1 : Fin (k0_t1_loop v2 v5).trips, 256 ∣ (k0_mult36 v2 v5 k0_t1).toNat) ∧
  ((k0_t2_loop v2 v5).OK) ∧
  (∀ k0_t2 : Fin (k0_t2_loop v2 v5).trips, 256 ∣ (k0_mult37 v2 v5 k0_t2).toNat) ∧
  (∀ k0_t2 : Fin (k0_t2_loop v2 v5).trips, ∀ (r : Fin 4), ∀ a, (k0_off61 v2 v5 k0_t2 (BitVec.ofNat 32 r.val)) a + S1.size a ≤ S8.size a) ∧
  (∀ k0_t2 : Fin (k0_t2_loop v2 v5).trips, ∀ (r : Fin 4), ∀ a, (k0_off62 v2 v5 k0_t2 (BitVec.ofNat 32 r.val)) a + S1x2x256x256.size a ≤ S8x2x256x256.size a) ∧
  (∀ k0_t2 : Fin (k0_t2_loop v2 v5).trips, ∀ (r : Fin 4), ∀ a, (k0_off63 v2 v5 k0_t2 (BitVec.ofNat 32 r.val)) a + S2x256x256.size a ≤ S2x140288x256.size a)
def k0_chk1_3 (v0 : BitVec 32) (v2 : BitVec 32) (v5 : BitVec 32) : Prop :=
  (∀ k0_t2 : Fin (k0_t2_loop v2 v5).trips, 256 ∣ (k0_mult38 v2 v5 k0_t2).toNat) ∧
  (∀ k0_t2 : Fin (k0_t2_loop v2 v5).trips, 256 ∣ (k0_mult39 v2 v5 k0_t2).toNat) ∧
  (∀ k0_t2 : Fin (k0_t2_loop v2 v5).trips, 256 ∣ (k0_mult40 v2 v5 k0_t2).toNat) ∧
  (∀ k0_t2 : Fin (k0_t2_loop v2 v5).trips, ∀ (k0_h24 : k0_cond24 v0 v2 v5 k0_t2 = 1#1), 256 ∣ (k0_mult41 v2 v5 k0_t2).toNat) ∧
  (∀ k0_t2 : Fin (k0_t2_loop v2 v5).trips, ∀ (k0_h24 : k0_cond24 v0 v2 v5 k0_t2 = 1#1), ∀ a, (k0_off64 v2 v5 k0_t2) a + S1.size a ≤ S8.size a) ∧
  (∀ k0_t2 : Fin (k0_t2_loop v2 v5).trips, ∀ (k0_h24 : k0_cond24 v0 v2 v5 k0_t2 = 1#1), ∀ a, (k0_off65 v2 v5 k0_t2) a + S1x2x256x256.size a ≤ S8x2x256x256.size a) ∧
  (∀ k0_t2 : Fin (k0_t2_loop v2 v5).trips, ∀ (k0_h24 : k0_cond24 v0 v2 v5 k0_t2 = 1#1), ∀ a, (k0_off66 v2 v5 k0_t2) a + S2x256x256.size a ≤ S2x140288x256.size a) ∧
  (∀ k0_t2 : Fin (k0_t2_loop v2 v5).trips, ∀ (k0_h25 : k0_cond25 v0 v2 v5 k0_t2 = 1#1), 256 ∣ (k0_mult42 v2 v5 k0_t2).toNat) ∧
  (∀ k0_t2 : Fin (k0_t2_loop v2 v5).trips, ∀ (k0_h25 : k0_cond25 v0 v2 v5 k0_t2 = 1#1), ∀ a, (k0_off67 v2 v5 k0_t2) a + S1.size a ≤ S8.size a) ∧
  (∀ k0_t2 : Fin (k0_t2_loop v2 v5).trips, ∀ (k0_h25 : k0_cond25 v0 v2 v5 k0_t2 = 1#1), ∀ a, (k0_off68 v2 v5 k0_t2) a + S1x2x256x256.size a ≤ S8x2x256x256.size a) ∧
  (∀ k0_t2 : Fin (k0_t2_loop v2 v5).trips, ∀ (k0_h25 : k0_cond25 v0 v2 v5 k0_t2 = 1#1), ∀ a, (k0_off69 v2 v5 k0_t2) a + S2x256x256.size a ≤ S2x140288x256.size a) ∧
  (∀ k0_t2 : Fin (k0_t2_loop v2 v5).trips, ∀ (k0_h26 : k0_cond26 v0 v2 v5 k0_t2 = 1#1), 256 ∣ (k0_mult43 v2 v5 k0_t2).toNat) ∧
  (∀ k0_t2 : Fin (k0_t2_loop v2 v5).trips, ∀ (k0_h26 : k0_cond26 v0 v2 v5 k0_t2 = 1#1), ∀ a, (k0_off70 v2 v5 k0_t2) a + S1.size a ≤ S8.size a) ∧
  (∀ k0_t2 : Fin (k0_t2_loop v2 v5).trips, ∀ (k0_h26 : k0_cond26 v0 v2 v5 k0_t2 = 1#1), ∀ a, (k0_off71 v2 v5 k0_t2) a + S1x2x256x256.size a ≤ S8x2x256x256.size a) ∧
  (∀ k0_t2 : Fin (k0_t2_loop v2 v5).trips, ∀ (k0_h26 : k0_cond26 v0 v2 v5 k0_t2 = 1#1), ∀ a, (k0_off72 v2 v5 k0_t2) a + S2x256x256.size a ≤ S2x140288x256.size a) ∧
  (∀ k0_t2 : Fin (k0_t2_loop v2 v5).trips, ∀ (k0_h27 : k0_cond27 v0 v2 v5 k0_t2 = 1#1), 256 ∣ (k0_mult44 v2 v5 k0_t2).toNat) ∧
  (∀ k0_t2 : Fin (k0_t2_loop v2 v5).trips, ∀ (k0_h27 : k0_cond27 v0 v2 v5 k0_t2 = 1#1), ∀ a, (k0_off73 v2 v5 k0_t2) a + S1.size a ≤ S8.size a) ∧
  (∀ k0_t2 : Fin (k0_t2_loop v2 v5).trips, ∀ (k0_h27 : k0_cond27 v0 v2 v5 k0_t2 = 1#1), ∀ a, (k0_off74 v2 v5 k0_t2) a + S1x2x256x256.size a ≤ S8x2x256x256.size a) ∧
  (∀ k0_t2 : Fin (k0_t2_loop v2 v5).trips, ∀ (k0_h27 : k0_cond27 v0 v2 v5 k0_t2 = 1#1), ∀ a, (k0_off75 v2 v5 k0_t2) a + S2x256x256.size a ≤ S2x140288x256.size a) ∧
  (∀ k0_t2 : Fin (k0_t2_loop v2 v5).trips, ∀ (k0_h28 : k0_cond28 v2 v5 k0_t2 = 1#1), 256 ∣ (k0_mult45 v2 v5 k0_t2).toNat) ∧
  (∀ k0_t2 : Fin (k0_t2_loop v2 v5).trips, ∀ (k0_h28 : k0_cond28 v2 v5 k0_t2 = 1#1), ∀ a, (k0_off76 v2 v5 k0_t2) a + S1.size a ≤ S8.size a) ∧
  (∀ k0_t2 : Fin (k0_t2_loop v2 v5).trips, ∀ (k0_h28 : k0_cond28 v2 v5 k0_t2 = 1#1), ∀ a, (k0_off77 v2 v5 k0_t2) a + S2x256x256.size a ≤ S2x140288x256.size a) ∧
  (∀ k0_t2 : Fin (k0_t2_loop v2 v5).trips, ∀ (k0_h28 : k0_cond28 v2 v5 k0_t2 = 1#1), ∀ a, (k0_off78 v2 v5 k0_t2) a + S1x2x256x256.size a ≤ S8x2x256x256.size a) ∧
  (∀ k0_t2 : Fin (k0_t2_loop v2 v5).trips, ∀ (k0_h29 : k0_cond29 v2 v5 k0_t2 = 1#1), 256 ∣ (k0_mult46 v2 v5 k0_t2).toNat) ∧
  (∀ k0_t2 : Fin (k0_t2_loop v2 v5).trips, ∀ (k0_h29 : k0_cond29 v2 v5 k0_t2 = 1#1), ∀ a, (k0_off79 v2 v5 k0_t2) a + S1.size a ≤ S8.size a) ∧
  (∀ k0_t2 : Fin (k0_t2_loop v2 v5).trips, ∀ (k0_h29 : k0_cond29 v2 v5 k0_t2 = 1#1), ∀ a, (k0_off80 v2 v5 k0_t2) a + S2x256x256.size a ≤ S2x140288x256.size a) ∧
  (∀ k0_t2 : Fin (k0_t2_loop v2 v5).trips, ∀ (k0_h29 : k0_cond29 v2 v5 k0_t2 = 1#1), ∀ a, (k0_off81 v2 v5 k0_t2) a + S1x2x256x256.size a ≤ S8x2x256x256.size a) ∧
  (∀ k0_t2 : Fin (k0_t2_loop v2 v5).trips, ∀ (k0_h30 : k0_cond30 v2 v5 k0_t2 = 1#1), 256 ∣ (k0_mult47 v2 v5 k0_t2).toNat) ∧
  (∀ k0_t2 : Fin (k0_t2_loop v2 v5).trips, ∀ (k0_h30 : k0_cond30 v2 v5 k0_t2 = 1#1), ∀ a, (k0_off82 v2 v5 k0_t2) a + S1.size a ≤ S8.size a) ∧
  (∀ k0_t2 : Fin (k0_t2_loop v2 v5).trips, ∀ (k0_h30 : k0_cond30 v2 v5 k0_t2 = 1#1), ∀ a, (k0_off83 v2 v5 k0_t2) a + S2x256x256.size a ≤ S2x140288x256.size a) ∧
  (∀ k0_t2 : Fin (k0_t2_loop v2 v5).trips, ∀ (k0_h30 : k0_cond30 v2 v5 k0_t2 = 1#1), ∀ a, (k0_off84 v2 v5 k0_t2) a + S1x2x256x256.size a ≤ S8x2x256x256.size a) ∧
  (∀ k0_t2 : Fin (k0_t2_loop v2 v5).trips, ∀ (k0_h31 : k0_cond31 v2 v5 k0_t2 = 1#1), 256 ∣ (k0_mult48 v2 v5 k0_t2).toNat)
def k0_chk1_4 (v0 : BitVec 32) (v2 : BitVec 32) (v5 : BitVec 32) : Prop :=
  (∀ k0_t2 : Fin (k0_t2_loop v2 v5).trips, ∀ (k0_h31 : k0_cond31 v2 v5 k0_t2 = 1#1), ∀ a, (k0_off85 v2 v5 k0_t2) a + S1.size a ≤ S8.size a) ∧
  (∀ k0_t2 : Fin (k0_t2_loop v2 v5).trips, ∀ (k0_h31 : k0_cond31 v2 v5 k0_t2 = 1#1), ∀ a, (k0_off86 v2 v5 k0_t2) a + S2x256x256.size a ≤ S2x140288x256.size a) ∧
  (∀ k0_t2 : Fin (k0_t2_loop v2 v5).trips, ∀ (k0_h31 : k0_cond31 v2 v5 k0_t2 = 1#1), ∀ a, (k0_off87 v2 v5 k0_t2) a + S1x2x256x256.size a ≤ S8x2x256x256.size a) ∧
  (∀ k0_t2 : Fin (k0_t2_loop v2 v5).trips, ∀ (r : Fin 4), ∀ a, (k0_off88 v2 v5 k0_t2 (BitVec.ofNat 32 r.val)) a + S1x1x256x256.size a ≤ S8x2x256x256.size a) ∧
  (∀ k0_t2 : Fin (k0_t2_loop v2 v5).trips, ∀ (r : Fin 4), ∀ a, (k0_off89 v2 v5 k0_t2 (BitVec.ofNat 32 r.val)) a + S1x1x256x256.size a ≤ S8x2x256x256.size a) ∧
  (∀ k0_t2 : Fin (k0_t2_loop v2 v5).trips, 256 ∣ (k0_mult49 v2 v5 k0_t2).toNat) ∧
  (∀ k0_t2 : Fin (k0_t2_loop v2 v5).trips, 256 ∣ (k0_mult50 v2 v5 k0_t2).toNat) ∧
  (∀ k0_t2 : Fin (k0_t2_loop v2 v5).trips, 256 ∣ (k0_mult51 v2 v5 k0_t2).toNat) ∧
  (∀ k0_t2 : Fin (k0_t2_loop v2 v5).trips, 256 ∣ (k0_mult52 v2 v5 k0_t2).toNat) ∧
  (∀ (k0_h32 : k0_cond32 v2 v5 = 1#1), 256 ∣ (k0_mult53 v2 v5).toNat) ∧
  (∀ (k0_h32 : k0_cond32 v2 v5 = 1#1), ∀ (r : Fin 2), ∀ a, (k0_off90 v2 v5 (BitVec.ofNat 32 r.val)) a + S1.size a ≤ S8.size a) ∧
  (∀ (k0_h32 : k0_cond32 v2 v5 = 1#1), ∀ (r : Fin 2), ∀ a, (k0_off91 v2 v5 (BitVec.ofNat 32 r.val)) a + S1x2x256x256.size a ≤ S8x2x256x256.size a) ∧
  (∀ (k0_h32 : k0_cond32 v2 v5 = 1#1), ∀ (r : Fin 2), ∀ a, (k0_off92 v2 v5 (BitVec.ofNat 32 r.val)) a + S2x256x256.size a ≤ S2x140288x256.size a) ∧
  (∀ (k0_h32 : k0_cond32 v2 v5 = 1#1), 256 ∣ (k0_mult54 v2 v5).toNat) ∧
  (∀ (k0_h32 : k0_cond32 v2 v5 = 1#1), ∀ (k0_h33 : k0_cond33 v0 v2 v5 = 1#1), 256 ∣ (k0_mult55 v2 v5).toNat) ∧
  (∀ (k0_h32 : k0_cond32 v2 v5 = 1#1), ∀ (k0_h33 : k0_cond33 v0 v2 v5 = 1#1), ∀ a, (k0_off93 v2 v5) a + S1.size a ≤ S8.size a) ∧
  (∀ (k0_h32 : k0_cond32 v2 v5 = 1#1), ∀ (k0_h33 : k0_cond33 v0 v2 v5 = 1#1), ∀ a, (k0_off94 v2 v5) a + S1x2x256x256.size a ≤ S8x2x256x256.size a) ∧
  (∀ (k0_h32 : k0_cond32 v2 v5 = 1#1), ∀ (k0_h33 : k0_cond33 v0 v2 v5 = 1#1), ∀ a, (k0_off95 v2 v5) a + S2x256x256.size a ≤ S2x140288x256.size a) ∧
  (∀ (k0_h32 : k0_cond32 v2 v5 = 1#1), ∀ (k0_h34 : k0_cond34 v0 v2 v5 = 1#1), 256 ∣ (k0_mult56 v2 v5).toNat) ∧
  (∀ (k0_h32 : k0_cond32 v2 v5 = 1#1), ∀ (k0_h34 : k0_cond34 v0 v2 v5 = 1#1), ∀ a, (k0_off96 v2 v5) a + S1.size a ≤ S8.size a) ∧
  (∀ (k0_h32 : k0_cond32 v2 v5 = 1#1), ∀ (k0_h34 : k0_cond34 v0 v2 v5 = 1#1), ∀ a, (k0_off97 v2 v5) a + S1x2x256x256.size a ≤ S8x2x256x256.size a) ∧
  (∀ (k0_h32 : k0_cond32 v2 v5 = 1#1), ∀ (k0_h34 : k0_cond34 v0 v2 v5 = 1#1), ∀ a, (k0_off98 v2 v5) a + S2x256x256.size a ≤ S2x140288x256.size a) ∧
  (∀ (k0_h32 : k0_cond32 v2 v5 = 1#1), ∀ (k0_h35 : k0_cond35 v2 v5 = 1#1), 256 ∣ (k0_mult57 v2 v5).toNat) ∧
  (∀ (k0_h32 : k0_cond32 v2 v5 = 1#1), ∀ (k0_h35 : k0_cond35 v2 v5 = 1#1), ∀ a, (k0_off99 v2 v5) a + S1.size a ≤ S8.size a) ∧
  (∀ (k0_h32 : k0_cond32 v2 v5 = 1#1), ∀ (k0_h35 : k0_cond35 v2 v5 = 1#1), ∀ a, (k0_off100 v2 v5) a + S2x256x256.size a ≤ S2x140288x256.size a) ∧
  (∀ (k0_h32 : k0_cond32 v2 v5 = 1#1), ∀ (k0_h35 : k0_cond35 v2 v5 = 1#1), ∀ a, (k0_off101 v2 v5) a + S1x2x256x256.size a ≤ S8x2x256x256.size a) ∧
  (∀ (k0_h32 : k0_cond32 v2 v5 = 1#1), ∀ (k0_h36 : k0_cond36 v2 v5 = 1#1), 256 ∣ (k0_mult58 v2 v5).toNat) ∧
  (∀ (k0_h32 : k0_cond32 v2 v5 = 1#1), ∀ (k0_h36 : k0_cond36 v2 v5 = 1#1), ∀ a, (k0_off102 v2 v5) a + S1.size a ≤ S8.size a) ∧
  (∀ (k0_h32 : k0_cond32 v2 v5 = 1#1), ∀ (k0_h36 : k0_cond36 v2 v5 = 1#1), ∀ a, (k0_off103 v2 v5) a + S2x256x256.size a ≤ S2x140288x256.size a) ∧
  (∀ (k0_h32 : k0_cond32 v2 v5 = 1#1), ∀ (k0_h36 : k0_cond36 v2 v5 = 1#1), ∀ a, (k0_off104 v2 v5) a + S1x2x256x256.size a ≤ S8x2x256x256.size a) ∧
  (∀ (k0_h32 : k0_cond32 v2 v5 = 1#1), ∀ (r : Fin 2), ∀ a, (k0_off105 v2 v5 (BitVec.ofNat 32 r.val)) a + S1x1x256x256.size a ≤ S8x2x256x256.size a) ∧
  (∀ (k0_h32 : k0_cond32 v2 v5 = 1#1), ∀ (r : Fin 2), ∀ a, (k0_off106 v2 v5 (BitVec.ofNat 32 r.val)) a + S1x1x256x256.size a ≤ S8x2x256x256.size a)
def k0_chk1_5 (v0 : BitVec 32) (v2 : BitVec 32) (v5 : BitVec 32) : Prop :=
  (∀ (k0_h32 : k0_cond32 v2 v5 = 1#1), 256 ∣ (k0_mult59 v2 v5).toNat) ∧
  (∀ (k0_h32 : k0_cond32 v2 v5 = 1#1), 256 ∣ (k0_mult60 v2 v5).toNat) ∧
  (∀ (k0_h37 : k0_cond37 v2 v5 = 1#1), 256 ∣ (k0_mult61 v2 v5).toNat) ∧
  (∀ (k0_h37 : k0_cond37 v2 v5 = 1#1), ∀ a, (k0_off107 v2 v5) a + S1.size a ≤ S8.size a) ∧
  (∀ (k0_h37 : k0_cond37 v2 v5 = 1#1), ∀ a, (k0_off108 v2 v5) a + S1x2x256x256.size a ≤ S8x2x256x256.size a) ∧
  (∀ (k0_h37 : k0_cond37 v2 v5 = 1#1), ∀ a, (k0_off109 v2 v5) a + S2x256x256.size a ≤ S2x140288x256.size a) ∧
  (∀ (k0_h37 : k0_cond37 v2 v5 = 1#1), ∀ (k0_h38 : k0_cond38 v0 v2 v5 = 1#1), 256 ∣ (k0_mult62 v2 v5).toNat) ∧
  (∀ (k0_h37 : k0_cond37 v2 v5 = 1#1), ∀ (k0_h38 : k0_cond38 v0 v2 v5 = 1#1), ∀ a, (k0_off110 v2 v5) a + S1.size a ≤ S8.size a) ∧
  (∀ (k0_h37 : k0_cond37 v2 v5 = 1#1), ∀ (k0_h38 : k0_cond38 v0 v2 v5 = 1#1), ∀ a, (k0_off111 v2 v5) a + S1x2x256x256.size a ≤ S8x2x256x256.size a) ∧
  (∀ (k0_h37 : k0_cond37 v2 v5 = 1#1), ∀ (k0_h38 : k0_cond38 v0 v2 v5 = 1#1), ∀ a, (k0_off112 v2 v5) a + S2x256x256.size a ≤ S2x140288x256.size a) ∧
  (∀ (k0_h37 : k0_cond37 v2 v5 = 1#1), ∀ (k0_h39 : k0_cond39 v2 v5 = 1#1), 256 ∣ (k0_mult63 v2 v5).toNat) ∧
  (∀ (k0_h37 : k0_cond37 v2 v5 = 1#1), ∀ (k0_h39 : k0_cond39 v2 v5 = 1#1), ∀ a, (k0_off113 v2 v5) a + S1.size a ≤ S8.size a) ∧
  (∀ (k0_h37 : k0_cond37 v2 v5 = 1#1), ∀ (k0_h39 : k0_cond39 v2 v5 = 1#1), ∀ a, (k0_off114 v2 v5) a + S2x256x256.size a ≤ S2x140288x256.size a) ∧
  (∀ (k0_h37 : k0_cond37 v2 v5 = 1#1), ∀ (k0_h39 : k0_cond39 v2 v5 = 1#1), ∀ a, (k0_off115 v2 v5) a + S1x2x256x256.size a ≤ S8x2x256x256.size a) ∧
  (∀ (k0_h37 : k0_cond37 v2 v5 = 1#1), ∀ a, (k0_off116 v2 v5) a + S1x1x256x256.size a ≤ S8x2x256x256.size a) ∧
  (∀ (k0_h37 : k0_cond37 v2 v5 = 1#1), ∀ a, (k0_off117 v2 v5) a + S1x1x256x256.size a ≤ S8x2x256x256.size a) ∧
  (∀ (k0_h37 : k0_cond37 v2 v5 = 1#1), 256 ∣ (k0_mult64 v2 v5).toNat)
def k0_chk1 (v0 : BitVec 32) (v2 : BitVec 32) (v5 : BitVec 32) : Prop :=
  k0_chk1_0 v0 v2 v5 ∧
  k0_chk1_1 v0 v2 v5 ∧
  k0_chk1_2 v0 v2 v5 ∧
  k0_chk1_3 v0 v2 v5 ∧
  k0_chk1_4 v0 v2 v5 ∧
  k0_chk1_5 v0 v2 v5
theorem k0_mult5_dvd : ∀ (v0 : BitVec 32) (v2 : BitVec 32) (v5 : BitVec 32) (k0_hw1 : k0_chk1 v0 v2 v5), ∀ (k0_h7 : k0_cond7 v2 v5 = 1#1), 256 ∣ (k0_mult5 v2).toNat := fun v0 v2 v5 k0_hw1 k0_h7 => k0_hw1.1.1 k0_h7
theorem k0_off3_inb : ∀ (v0 : BitVec 32) (v2 : BitVec 32) (v5 : BitVec 32) (k0_hw1 : k0_chk1 v0 v2 v5), ∀ (k0_h7 : k0_cond7 v2 v5 = 1#1), ∀ (r : Fin 4), ∀ a, (k0_off3 v2 (BitVec.ofNat 32 r.val)) a + S1.size a ≤ S8.size a := fun v0 v2 v5 k0_hw1 k0_h7 r => k0_hw1.1.2.1 k0_h7 r
theorem k0_off4_inb : ∀ (v0 : BitVec 32) (v2 : BitVec 32) (v5 : BitVec 32) (k0_hw1 : k0_chk1 v0 v2 v5), ∀ (k0_h7 : k0_cond7 v2 v5 = 1#1), ∀ (r : Fin 4), ∀ a, (k0_off4 v2 (BitVec.ofNat 32 r.val)) a + S1x2x256x256.size a ≤ S8x2x256x256.size a := fun v0 v2 v5 k0_hw1 k0_h7 r => k0_hw1.1.2.2.1 k0_h7 r
theorem k0_off5_inb : ∀ (v0 : BitVec 32) (v2 : BitVec 32) (v5 : BitVec 32) (k0_hw1 : k0_chk1 v0 v2 v5), ∀ (k0_h7 : k0_cond7 v2 v5 = 1#1), ∀ (r : Fin 4), ∀ a, (k0_off5 v2 (BitVec.ofNat 32 r.val)) a + S2x256x256.size a ≤ S2x140288x256.size a := fun v0 v2 v5 k0_hw1 k0_h7 r => k0_hw1.1.2.2.2.1 k0_h7 r
theorem k0_mult6_dvd : ∀ (v0 : BitVec 32) (v2 : BitVec 32) (v5 : BitVec 32) (k0_hw1 : k0_chk1 v0 v2 v5), ∀ (k0_h7 : k0_cond7 v2 v5 = 1#1), 256 ∣ (k0_mult6 v2).toNat := fun v0 v2 v5 k0_hw1 k0_h7 => k0_hw1.1.2.2.2.2.1 k0_h7
theorem k0_mult7_dvd : ∀ (v0 : BitVec 32) (v2 : BitVec 32) (v5 : BitVec 32) (k0_hw1 : k0_chk1 v0 v2 v5), ∀ (k0_h7 : k0_cond7 v2 v5 = 1#1), 256 ∣ (k0_mult7 v2).toNat := fun v0 v2 v5 k0_hw1 k0_h7 => k0_hw1.1.2.2.2.2.2.1 k0_h7
theorem k0_mult8_dvd : ∀ (v0 : BitVec 32) (v2 : BitVec 32) (v5 : BitVec 32) (k0_hw1 : k0_chk1 v0 v2 v5), ∀ (k0_h7 : k0_cond7 v2 v5 = 1#1), 256 ∣ (k0_mult8 v2).toNat := fun v0 v2 v5 k0_hw1 k0_h7 => k0_hw1.1.2.2.2.2.2.2.1 k0_h7
theorem k0_mult9_dvd : ∀ (v0 : BitVec 32) (v2 : BitVec 32) (v5 : BitVec 32) (k0_hw1 : k0_chk1 v0 v2 v5), ∀ (k0_h7 : k0_cond7 v2 v5 = 1#1), ∀ (k0_h8 : k0_cond8 v0 v2 = 1#1), 256 ∣ (k0_mult9 v2).toNat := fun v0 v2 v5 k0_hw1 k0_h7 k0_h8 => k0_hw1.1.2.2.2.2.2.2.2.1 k0_h7 k0_h8
theorem k0_off6_inb : ∀ (v0 : BitVec 32) (v2 : BitVec 32) (v5 : BitVec 32) (k0_hw1 : k0_chk1 v0 v2 v5), ∀ (k0_h7 : k0_cond7 v2 v5 = 1#1), ∀ (k0_h8 : k0_cond8 v0 v2 = 1#1), ∀ a, (k0_off6 v2) a + S1.size a ≤ S8.size a := fun v0 v2 v5 k0_hw1 k0_h7 k0_h8 => k0_hw1.1.2.2.2.2.2.2.2.2.1 k0_h7 k0_h8
theorem k0_off7_inb : ∀ (v0 : BitVec 32) (v2 : BitVec 32) (v5 : BitVec 32) (k0_hw1 : k0_chk1 v0 v2 v5), ∀ (k0_h7 : k0_cond7 v2 v5 = 1#1), ∀ (k0_h8 : k0_cond8 v0 v2 = 1#1), ∀ a, (k0_off7 v2) a + S1x2x256x256.size a ≤ S8x2x256x256.size a := fun v0 v2 v5 k0_hw1 k0_h7 k0_h8 => k0_hw1.1.2.2.2.2.2.2.2.2.2.1 k0_h7 k0_h8
theorem k0_off8_inb : ∀ (v0 : BitVec 32) (v2 : BitVec 32) (v5 : BitVec 32) (k0_hw1 : k0_chk1 v0 v2 v5), ∀ (k0_h7 : k0_cond7 v2 v5 = 1#1), ∀ (k0_h8 : k0_cond8 v0 v2 = 1#1), ∀ a, (k0_off8 v2) a + S2x256x256.size a ≤ S2x140288x256.size a := fun v0 v2 v5 k0_hw1 k0_h7 k0_h8 => k0_hw1.1.2.2.2.2.2.2.2.2.2.2.1 k0_h7 k0_h8
theorem k0_mult10_dvd : ∀ (v0 : BitVec 32) (v2 : BitVec 32) (v5 : BitVec 32) (k0_hw1 : k0_chk1 v0 v2 v5), ∀ (k0_h7 : k0_cond7 v2 v5 = 1#1), ∀ (k0_h9 : k0_cond9 v0 v2 = 1#1), 256 ∣ (k0_mult10 v2).toNat := fun v0 v2 v5 k0_hw1 k0_h7 k0_h9 => k0_hw1.1.2.2.2.2.2.2.2.2.2.2.2.1 k0_h7 k0_h9
theorem k0_off9_inb : ∀ (v0 : BitVec 32) (v2 : BitVec 32) (v5 : BitVec 32) (k0_hw1 : k0_chk1 v0 v2 v5), ∀ (k0_h7 : k0_cond7 v2 v5 = 1#1), ∀ (k0_h9 : k0_cond9 v0 v2 = 1#1), ∀ a, (k0_off9 v2) a + S1.size a ≤ S8.size a := fun v0 v2 v5 k0_hw1 k0_h7 k0_h9 => k0_hw1.1.2.2.2.2.2.2.2.2.2.2.2.2.1 k0_h7 k0_h9
theorem k0_off10_inb : ∀ (v0 : BitVec 32) (v2 : BitVec 32) (v5 : BitVec 32) (k0_hw1 : k0_chk1 v0 v2 v5), ∀ (k0_h7 : k0_cond7 v2 v5 = 1#1), ∀ (k0_h9 : k0_cond9 v0 v2 = 1#1), ∀ a, (k0_off10 v2) a + S1x2x256x256.size a ≤ S8x2x256x256.size a := fun v0 v2 v5 k0_hw1 k0_h7 k0_h9 => k0_hw1.1.2.2.2.2.2.2.2.2.2.2.2.2.2.1 k0_h7 k0_h9
theorem k0_off11_inb : ∀ (v0 : BitVec 32) (v2 : BitVec 32) (v5 : BitVec 32) (k0_hw1 : k0_chk1 v0 v2 v5), ∀ (k0_h7 : k0_cond7 v2 v5 = 1#1), ∀ (k0_h9 : k0_cond9 v0 v2 = 1#1), ∀ a, (k0_off11 v2) a + S2x256x256.size a ≤ S2x140288x256.size a := fun v0 v2 v5 k0_hw1 k0_h7 k0_h9 => k0_hw1.1.2.2.2.2.2.2.2.2.2.2.2.2.2.2.1 k0_h7 k0_h9
theorem k0_mult11_dvd : ∀ (v0 : BitVec 32) (v2 : BitVec 32) (v5 : BitVec 32) (k0_hw1 : k0_chk1 v0 v2 v5), ∀ (k0_h7 : k0_cond7 v2 v5 = 1#1), ∀ (k0_h10 : k0_cond10 v0 v2 = 1#1), 256 ∣ (k0_mult11 v2).toNat := fun v0 v2 v5 k0_hw1 k0_h7 k0_h10 => k0_hw1.1.2.2.2.2.2.2.2.2.2.2.2.2.2.2.2.1 k0_h7 k0_h10
theorem k0_off12_inb : ∀ (v0 : BitVec 32) (v2 : BitVec 32) (v5 : BitVec 32) (k0_hw1 : k0_chk1 v0 v2 v5), ∀ (k0_h7 : k0_cond7 v2 v5 = 1#1), ∀ (k0_h10 : k0_cond10 v0 v2 = 1#1), ∀ a, (k0_off12 v2) a + S1.size a ≤ S8.size a := fun v0 v2 v5 k0_hw1 k0_h7 k0_h10 => k0_hw1.1.2.2.2.2.2.2.2.2.2.2.2.2.2.2.2.2.1 k0_h7 k0_h10
theorem k0_off13_inb : ∀ (v0 : BitVec 32) (v2 : BitVec 32) (v5 : BitVec 32) (k0_hw1 : k0_chk1 v0 v2 v5), ∀ (k0_h7 : k0_cond7 v2 v5 = 1#1), ∀ (k0_h10 : k0_cond10 v0 v2 = 1#1), ∀ a, (k0_off13 v2) a + S1x2x256x256.size a ≤ S8x2x256x256.size a := fun v0 v2 v5 k0_hw1 k0_h7 k0_h10 => k0_hw1.1.2.2.2.2.2.2.2.2.2.2.2.2.2.2.2.2.2.1 k0_h7 k0_h10
theorem k0_off14_inb : ∀ (v0 : BitVec 32) (v2 : BitVec 32) (v5 : BitVec 32) (k0_hw1 : k0_chk1 v0 v2 v5), ∀ (k0_h7 : k0_cond7 v2 v5 = 1#1), ∀ (k0_h10 : k0_cond10 v0 v2 = 1#1), ∀ a, (k0_off14 v2) a + S2x256x256.size a ≤ S2x140288x256.size a := fun v0 v2 v5 k0_hw1 k0_h7 k0_h10 => k0_hw1.1.2.2.2.2.2.2.2.2.2.2.2.2.2.2.2.2.2.2.1 k0_h7 k0_h10
theorem k0_mult12_dvd : ∀ (v0 : BitVec 32) (v2 : BitVec 32) (v5 : BitVec 32) (k0_hw1 : k0_chk1 v0 v2 v5), ∀ (k0_h7 : k0_cond7 v2 v5 = 1#1), ∀ (k0_h11 : k0_cond11 v0 v2 = 1#1), 256 ∣ (k0_mult12 v2).toNat := fun v0 v2 v5 k0_hw1 k0_h7 k0_h11 => k0_hw1.1.2.2.2.2.2.2.2.2.2.2.2.2.2.2.2.2.2.2.2.1 k0_h7 k0_h11
theorem k0_off15_inb : ∀ (v0 : BitVec 32) (v2 : BitVec 32) (v5 : BitVec 32) (k0_hw1 : k0_chk1 v0 v2 v5), ∀ (k0_h7 : k0_cond7 v2 v5 = 1#1), ∀ (k0_h11 : k0_cond11 v0 v2 = 1#1), ∀ a, (k0_off15 v2) a + S1.size a ≤ S8.size a := fun v0 v2 v5 k0_hw1 k0_h7 k0_h11 => k0_hw1.1.2.2.2.2.2.2.2.2.2.2.2.2.2.2.2.2.2.2.2.2.1 k0_h7 k0_h11
theorem k0_off16_inb : ∀ (v0 : BitVec 32) (v2 : BitVec 32) (v5 : BitVec 32) (k0_hw1 : k0_chk1 v0 v2 v5), ∀ (k0_h7 : k0_cond7 v2 v5 = 1#1), ∀ (k0_h11 : k0_cond11 v0 v2 = 1#1), ∀ a, (k0_off16 v2) a + S1x2x256x256.size a ≤ S8x2x256x256.size a := fun v0 v2 v5 k0_hw1 k0_h7 k0_h11 => k0_hw1.1.2.2.2.2.2.2.2.2.2.2.2.2.2.2.2.2.2.2.2.2.2.1 k0_h7 k0_h11
theorem k0_off17_inb : ∀ (v0 : BitVec 32) (v2 : BitVec 32) (v5 : BitVec 32) (k0_hw1 : k0_chk1 v0 v2 v5), ∀ (k0_h7 : k0_cond7 v2 v5 = 1#1), ∀ (k0_h11 : k0_cond11 v0 v2 = 1#1), ∀ a, (k0_off17 v2) a + S2x256x256.size a ≤ S2x140288x256.size a := fun v0 v2 v5 k0_hw1 k0_h7 k0_h11 => k0_hw1.1.2.2.2.2.2.2.2.2.2.2.2.2.2.2.2.2.2.2.2.2.2.2.1 k0_h7 k0_h11
theorem k0_mult13_dvd : ∀ (v0 : BitVec 32) (v2 : BitVec 32) (v5 : BitVec 32) (k0_hw1 : k0_chk1 v0 v2 v5), ∀ (k0_h7 : k0_cond7 v2 v5 = 1#1), ∀ (k0_h12 : k0_cond12 v2 = 1#1), 256 ∣ (k0_mult13 v2).toNat := fun v0 v2 v5 k0_hw1 k0_h7 k0_h12 => k0_hw1.1.2.2.2.2.2.2.2.2.2.2.2.2.2.2.2.2.2.2.2.2.2.2.2.1 k0_h7 k0_h12
theorem k0_off18_inb : ∀ (v0 : BitVec 32) (v2 : BitVec 32) (v5 : BitVec 32) (k0_hw1 : k0_chk1 v0 v2 v5), ∀ (k0_h7 : k0_cond7 v2 v5 = 1#1), ∀ (k0_h12 : k0_cond12 v2 = 1#1), ∀ a, (k0_off18 v2) a + S1.size a ≤ S8.size a := fun v0 v2 v5 k0_hw1 k0_h7 k0_h12 => k0_hw1.1.2.2.2.2.2.2.2.2.2.2.2.2.2.2.2.2.2.2.2.2.2.2.2.2.1 k0_h7 k0_h12
theorem k0_off19_inb : ∀ (v0 : BitVec 32) (v2 : BitVec 32) (v5 : BitVec 32) (k0_hw1 : k0_chk1 v0 v2 v5), ∀ (k0_h7 : k0_cond7 v2 v5 = 1#1), ∀ (k0_h12 : k0_cond12 v2 = 1#1), ∀ a, (k0_off19 v2) a + S2x256x256.size a ≤ S2x140288x256.size a := fun v0 v2 v5 k0_hw1 k0_h7 k0_h12 => k0_hw1.1.2.2.2.2.2.2.2.2.2.2.2.2.2.2.2.2.2.2.2.2.2.2.2.2.2.1 k0_h7 k0_h12
theorem k0_off20_inb : ∀ (v0 : BitVec 32) (v2 : BitVec 32) (v5 : BitVec 32) (k0_hw1 : k0_chk1 v0 v2 v5), ∀ (k0_h7 : k0_cond7 v2 v5 = 1#1), ∀ (k0_h12 : k0_cond12 v2 = 1#1), ∀ a, (k0_off20 v2) a + S1x2x256x256.size a ≤ S8x2x256x256.size a := fun v0 v2 v5 k0_hw1 k0_h7 k0_h12 => k0_hw1.1.2.2.2.2.2.2.2.2.2.2.2.2.2.2.2.2.2.2.2.2.2.2.2.2.2.2.1 k0_h7 k0_h12
theorem k0_mult14_dvd : ∀ (v0 : BitVec 32) (v2 : BitVec 32) (v5 : BitVec 32) (k0_hw1 : k0_chk1 v0 v2 v5), ∀ (k0_h7 : k0_cond7 v2 v5 = 1#1), ∀ (k0_h13 : k0_cond13 v2 = 1#1), 256 ∣ (k0_mult14 v2).toNat := fun v0 v2 v5 k0_hw1 k0_h7 k0_h13 => k0_hw1.1.2.2.2.2.2.2.2.2.2.2.2.2.2.2.2.2.2.2.2.2.2.2.2.2.2.2.2.1 k0_h7 k0_h13
theorem k0_off21_inb : ∀ (v0 : BitVec 32) (v2 : BitVec 32) (v5 : BitVec 32) (k0_hw1 : k0_chk1 v0 v2 v5), ∀ (k0_h7 : k0_cond7 v2 v5 = 1#1), ∀ (k0_h13 : k0_cond13 v2 = 1#1), ∀ a, (k0_off21 v2) a + S1.size a ≤ S8.size a := fun v0 v2 v5 k0_hw1 k0_h7 k0_h13 => k0_hw1.1.2.2.2.2.2.2.2.2.2.2.2.2.2.2.2.2.2.2.2.2.2.2.2.2.2.2.2.2.1 k0_h7 k0_h13
theorem k0_off22_inb : ∀ (v0 : BitVec 32) (v2 : BitVec 32) (v5 : BitVec 32) (k0_hw1 : k0_chk1 v0 v2 v5), ∀ (k0_h7 : k0_cond7 v2 v5 = 1#1), ∀ (k0_h13 : k0_cond13 v2 = 1#1), ∀ a, (k0_off22 v2) a + S2x256x256.size a ≤ S2x140288x256.size a := fun v0 v2 v5 k0_hw1 k0_h7 k0_h13 => k0_hw1.1.2.2.2.2.2.2.2.2.2.2.2.2.2.2.2.2.2.2.2.2.2.2.2.2.2.2.2.2.2.1 k0_h7 k0_h13
theorem k0_off23_inb : ∀ (v0 : BitVec 32) (v2 : BitVec 32) (v5 : BitVec 32) (k0_hw1 : k0_chk1 v0 v2 v5), ∀ (k0_h7 : k0_cond7 v2 v5 = 1#1), ∀ (k0_h13 : k0_cond13 v2 = 1#1), ∀ a, (k0_off23 v2) a + S1x2x256x256.size a ≤ S8x2x256x256.size a := fun v0 v2 v5 k0_hw1 k0_h7 k0_h13 => k0_hw1.1.2.2.2.2.2.2.2.2.2.2.2.2.2.2.2.2.2.2.2.2.2.2.2.2.2.2.2.2.2.2.1 k0_h7 k0_h13
theorem k0_mult15_dvd : ∀ (v0 : BitVec 32) (v2 : BitVec 32) (v5 : BitVec 32) (k0_hw1 : k0_chk1 v0 v2 v5), ∀ (k0_h7 : k0_cond7 v2 v5 = 1#1), ∀ (k0_h14 : k0_cond14 v2 = 1#1), 256 ∣ (k0_mult15 v2).toNat := fun v0 v2 v5 k0_hw1 k0_h7 k0_h14 => k0_hw1.1.2.2.2.2.2.2.2.2.2.2.2.2.2.2.2.2.2.2.2.2.2.2.2.2.2.2.2.2.2.2.2 k0_h7 k0_h14
theorem k0_off24_inb : ∀ (v0 : BitVec 32) (v2 : BitVec 32) (v5 : BitVec 32) (k0_hw1 : k0_chk1 v0 v2 v5), ∀ (k0_h7 : k0_cond7 v2 v5 = 1#1), ∀ (k0_h14 : k0_cond14 v2 = 1#1), ∀ a, (k0_off24 v2) a + S1.size a ≤ S8.size a := fun v0 v2 v5 k0_hw1 k0_h7 k0_h14 => k0_hw1.2.1.1 k0_h7 k0_h14
theorem k0_off25_inb : ∀ (v0 : BitVec 32) (v2 : BitVec 32) (v5 : BitVec 32) (k0_hw1 : k0_chk1 v0 v2 v5), ∀ (k0_h7 : k0_cond7 v2 v5 = 1#1), ∀ (k0_h14 : k0_cond14 v2 = 1#1), ∀ a, (k0_off25 v2) a + S2x256x256.size a ≤ S2x140288x256.size a := fun v0 v2 v5 k0_hw1 k0_h7 k0_h14 => k0_hw1.2.1.2.1 k0_h7 k0_h14
theorem k0_off26_inb : ∀ (v0 : BitVec 32) (v2 : BitVec 32) (v5 : BitVec 32) (k0_hw1 : k0_chk1 v0 v2 v5), ∀ (k0_h7 : k0_cond7 v2 v5 = 1#1), ∀ (k0_h14 : k0_cond14 v2 = 1#1), ∀ a, (k0_off26 v2) a + S1x2x256x256.size a ≤ S8x2x256x256.size a := fun v0 v2 v5 k0_hw1 k0_h7 k0_h14 => k0_hw1.2.1.2.2.1 k0_h7 k0_h14
theorem k0_mult16_dvd : ∀ (v0 : BitVec 32) (v2 : BitVec 32) (v5 : BitVec 32) (k0_hw1 : k0_chk1 v0 v2 v5), ∀ (k0_h7 : k0_cond7 v2 v5 = 1#1), ∀ (k0_h15 : k0_cond15 v2 = 1#1), 256 ∣ (k0_mult16 v2).toNat := fun v0 v2 v5 k0_hw1 k0_h7 k0_h15 => k0_hw1.2.1.2.2.2.1 k0_h7 k0_h15
theorem k0_off27_inb : ∀ (v0 : BitVec 32) (v2 : BitVec 32) (v5 : BitVec 32) (k0_hw1 : k0_chk1 v0 v2 v5), ∀ (k0_h7 : k0_cond7 v2 v5 = 1#1), ∀ (k0_h15 : k0_cond15 v2 = 1#1), ∀ a, (k0_off27 v2) a + S1.size a ≤ S8.size a := fun v0 v2 v5 k0_hw1 k0_h7 k0_h15 => k0_hw1.2.1.2.2.2.2.1 k0_h7 k0_h15
theorem k0_off28_inb : ∀ (v0 : BitVec 32) (v2 : BitVec 32) (v5 : BitVec 32) (k0_hw1 : k0_chk1 v0 v2 v5), ∀ (k0_h7 : k0_cond7 v2 v5 = 1#1), ∀ (k0_h15 : k0_cond15 v2 = 1#1), ∀ a, (k0_off28 v2) a + S2x256x256.size a ≤ S2x140288x256.size a := fun v0 v2 v5 k0_hw1 k0_h7 k0_h15 => k0_hw1.2.1.2.2.2.2.2.1 k0_h7 k0_h15
theorem k0_off29_inb : ∀ (v0 : BitVec 32) (v2 : BitVec 32) (v5 : BitVec 32) (k0_hw1 : k0_chk1 v0 v2 v5), ∀ (k0_h7 : k0_cond7 v2 v5 = 1#1), ∀ (k0_h15 : k0_cond15 v2 = 1#1), ∀ a, (k0_off29 v2) a + S1x2x256x256.size a ≤ S8x2x256x256.size a := fun v0 v2 v5 k0_hw1 k0_h7 k0_h15 => k0_hw1.2.1.2.2.2.2.2.2.1 k0_h7 k0_h15
theorem k0_off30_inb : ∀ (v0 : BitVec 32) (v2 : BitVec 32) (v5 : BitVec 32) (k0_hw1 : k0_chk1 v0 v2 v5), ∀ (k0_h7 : k0_cond7 v2 v5 = 1#1), ∀ (r : Fin 4), ∀ a, (k0_off30 v2 (BitVec.ofNat 32 r.val)) a + S1x1x256x256.size a ≤ S8x2x256x256.size a := fun v0 v2 v5 k0_hw1 k0_h7 r => k0_hw1.2.1.2.2.2.2.2.2.2.1 k0_h7 r
theorem k0_off31_inb : ∀ (v0 : BitVec 32) (v2 : BitVec 32) (v5 : BitVec 32) (k0_hw1 : k0_chk1 v0 v2 v5), ∀ (k0_h7 : k0_cond7 v2 v5 = 1#1), ∀ (r : Fin 4), ∀ a, (k0_off31 v2 (BitVec.ofNat 32 r.val)) a + S1x1x256x256.size a ≤ S8x2x256x256.size a := fun v0 v2 v5 k0_hw1 k0_h7 r => k0_hw1.2.1.2.2.2.2.2.2.2.2.1 k0_h7 r
theorem k0_mult17_dvd : ∀ (v0 : BitVec 32) (v2 : BitVec 32) (v5 : BitVec 32) (k0_hw1 : k0_chk1 v0 v2 v5), ∀ (k0_h7 : k0_cond7 v2 v5 = 1#1), 256 ∣ (k0_mult17 v2).toNat := fun v0 v2 v5 k0_hw1 k0_h7 => k0_hw1.2.1.2.2.2.2.2.2.2.2.2.1 k0_h7
theorem k0_mult18_dvd : ∀ (v0 : BitVec 32) (v2 : BitVec 32) (v5 : BitVec 32) (k0_hw1 : k0_chk1 v0 v2 v5), ∀ (k0_h7 : k0_cond7 v2 v5 = 1#1), 256 ∣ (k0_mult18 v2).toNat := fun v0 v2 v5 k0_hw1 k0_h7 => k0_hw1.2.1.2.2.2.2.2.2.2.2.2.2.1 k0_h7
theorem k0_mult19_dvd : ∀ (v0 : BitVec 32) (v2 : BitVec 32) (v5 : BitVec 32) (k0_hw1 : k0_chk1 v0 v2 v5), ∀ (k0_h7 : k0_cond7 v2 v5 = 1#1), 256 ∣ (k0_mult19 v2).toNat := fun v0 v2 v5 k0_hw1 k0_h7 => k0_hw1.2.1.2.2.2.2.2.2.2.2.2.2.2.1 k0_h7
theorem k0_mult20_dvd : ∀ (v0 : BitVec 32) (v2 : BitVec 32) (v5 : BitVec 32) (k0_hw1 : k0_chk1 v0 v2 v5), ∀ (k0_h7 : k0_cond7 v2 v5 = 1#1), 256 ∣ (k0_mult20 v2).toNat := fun v0 v2 v5 k0_hw1 k0_h7 => k0_hw1.2.1.2.2.2.2.2.2.2.2.2.2.2.2.1 k0_h7
theorem k0_t1_ok : ∀ (v0 : BitVec 32) (v2 : BitVec 32) (v5 : BitVec 32) (k0_hw1 : k0_chk1 v0 v2 v5), (k0_t1_loop v2 v5).OK := fun v0 v2 v5 k0_hw1 => k0_hw1.2.1.2.2.2.2.2.2.2.2.2.2.2.2.2.1
theorem k0_mult21_dvd : ∀ (v0 : BitVec 32) (v2 : BitVec 32) (v5 : BitVec 32) (k0_hw1 : k0_chk1 v0 v2 v5) (k0_t1 : Fin (k0_t1_loop v2 v5).trips), 256 ∣ (k0_mult21 v2 v5 k0_t1).toNat := fun v0 v2 v5 k0_hw1 k0_t1 => k0_hw1.2.1.2.2.2.2.2.2.2.2.2.2.2.2.2.2.1 k0_t1
theorem k0_off32_inb : ∀ (v0 : BitVec 32) (v2 : BitVec 32) (v5 : BitVec 32) (k0_hw1 : k0_chk1 v0 v2 v5) (k0_t1 : Fin (k0_t1_loop v2 v5).trips), ∀ (r : Fin 4), ∀ a, (k0_off32 v2 v5 k0_t1 (BitVec.ofNat 32 r.val)) a + S1.size a ≤ S8.size a := fun v0 v2 v5 k0_hw1 k0_t1 r => k0_hw1.2.1.2.2.2.2.2.2.2.2.2.2.2.2.2.2.2.1 k0_t1 r
theorem k0_off33_inb : ∀ (v0 : BitVec 32) (v2 : BitVec 32) (v5 : BitVec 32) (k0_hw1 : k0_chk1 v0 v2 v5) (k0_t1 : Fin (k0_t1_loop v2 v5).trips), ∀ (r : Fin 4), ∀ a, (k0_off33 v2 v5 k0_t1 (BitVec.ofNat 32 r.val)) a + S1x2x256x256.size a ≤ S8x2x256x256.size a := fun v0 v2 v5 k0_hw1 k0_t1 r => k0_hw1.2.1.2.2.2.2.2.2.2.2.2.2.2.2.2.2.2.2.1 k0_t1 r
theorem k0_off34_inb : ∀ (v0 : BitVec 32) (v2 : BitVec 32) (v5 : BitVec 32) (k0_hw1 : k0_chk1 v0 v2 v5) (k0_t1 : Fin (k0_t1_loop v2 v5).trips), ∀ (r : Fin 4), ∀ a, (k0_off34 v2 v5 k0_t1 (BitVec.ofNat 32 r.val)) a + S2x256x256.size a ≤ S2x140288x256.size a := fun v0 v2 v5 k0_hw1 k0_t1 r => k0_hw1.2.1.2.2.2.2.2.2.2.2.2.2.2.2.2.2.2.2.2.1 k0_t1 r
theorem k0_mult22_dvd : ∀ (v0 : BitVec 32) (v2 : BitVec 32) (v5 : BitVec 32) (k0_hw1 : k0_chk1 v0 v2 v5) (k0_t1 : Fin (k0_t1_loop v2 v5).trips), 256 ∣ (k0_mult22 v2 v5 k0_t1).toNat := fun v0 v2 v5 k0_hw1 k0_t1 => k0_hw1.2.1.2.2.2.2.2.2.2.2.2.2.2.2.2.2.2.2.2.2.1 k0_t1
theorem k0_mult23_dvd : ∀ (v0 : BitVec 32) (v2 : BitVec 32) (v5 : BitVec 32) (k0_hw1 : k0_chk1 v0 v2 v5) (k0_t1 : Fin (k0_t1_loop v2 v5).trips), 256 ∣ (k0_mult23 v2 v5 k0_t1).toNat := fun v0 v2 v5 k0_hw1 k0_t1 => k0_hw1.2.1.2.2.2.2.2.2.2.2.2.2.2.2.2.2.2.2.2.2.2.1 k0_t1
theorem k0_mult24_dvd : ∀ (v0 : BitVec 32) (v2 : BitVec 32) (v5 : BitVec 32) (k0_hw1 : k0_chk1 v0 v2 v5) (k0_t1 : Fin (k0_t1_loop v2 v5).trips), 256 ∣ (k0_mult24 v2 v5 k0_t1).toNat := fun v0 v2 v5 k0_hw1 k0_t1 => k0_hw1.2.1.2.2.2.2.2.2.2.2.2.2.2.2.2.2.2.2.2.2.2.2.1 k0_t1
theorem k0_mult25_dvd : ∀ (v0 : BitVec 32) (v2 : BitVec 32) (v5 : BitVec 32) (k0_hw1 : k0_chk1 v0 v2 v5) (k0_t1 : Fin (k0_t1_loop v2 v5).trips), ∀ (k0_h16 : k0_cond16 v0 v2 v5 k0_t1 = 1#1), 256 ∣ (k0_mult25 v2 v5 k0_t1).toNat := fun v0 v2 v5 k0_hw1 k0_t1 k0_h16 => k0_hw1.2.1.2.2.2.2.2.2.2.2.2.2.2.2.2.2.2.2.2.2.2.2.2.1 k0_t1 k0_h16
theorem k0_off35_inb : ∀ (v0 : BitVec 32) (v2 : BitVec 32) (v5 : BitVec 32) (k0_hw1 : k0_chk1 v0 v2 v5) (k0_t1 : Fin (k0_t1_loop v2 v5).trips), ∀ (k0_h16 : k0_cond16 v0 v2 v5 k0_t1 = 1#1), ∀ a, (k0_off35 v2 v5 k0_t1) a + S1.size a ≤ S8.size a := fun v0 v2 v5 k0_hw1 k0_t1 k0_h16 => k0_hw1.2.1.2.2.2.2.2.2.2.2.2.2.2.2.2.2.2.2.2.2.2.2.2.2.1 k0_t1 k0_h16
theorem k0_off36_inb : ∀ (v0 : BitVec 32) (v2 : BitVec 32) (v5 : BitVec 32) (k0_hw1 : k0_chk1 v0 v2 v5) (k0_t1 : Fin (k0_t1_loop v2 v5).trips), ∀ (k0_h16 : k0_cond16 v0 v2 v5 k0_t1 = 1#1), ∀ a, (k0_off36 v2 v5 k0_t1) a + S1x2x256x256.size a ≤ S8x2x256x256.size a := fun v0 v2 v5 k0_hw1 k0_t1 k0_h16 => k0_hw1.2.1.2.2.2.2.2.2.2.2.2.2.2.2.2.2.2.2.2.2.2.2.2.2.2.1 k0_t1 k0_h16
theorem k0_off37_inb : ∀ (v0 : BitVec 32) (v2 : BitVec 32) (v5 : BitVec 32) (k0_hw1 : k0_chk1 v0 v2 v5) (k0_t1 : Fin (k0_t1_loop v2 v5).trips), ∀ (k0_h16 : k0_cond16 v0 v2 v5 k0_t1 = 1#1), ∀ a, (k0_off37 v2 v5 k0_t1) a + S2x256x256.size a ≤ S2x140288x256.size a := fun v0 v2 v5 k0_hw1 k0_t1 k0_h16 => k0_hw1.2.1.2.2.2.2.2.2.2.2.2.2.2.2.2.2.2.2.2.2.2.2.2.2.2.2.1 k0_t1 k0_h16
theorem k0_mult26_dvd : ∀ (v0 : BitVec 32) (v2 : BitVec 32) (v5 : BitVec 32) (k0_hw1 : k0_chk1 v0 v2 v5) (k0_t1 : Fin (k0_t1_loop v2 v5).trips), ∀ (k0_h17 : k0_cond17 v0 v2 v5 k0_t1 = 1#1), 256 ∣ (k0_mult26 v2 v5 k0_t1).toNat := fun v0 v2 v5 k0_hw1 k0_t1 k0_h17 => k0_hw1.2.1.2.2.2.2.2.2.2.2.2.2.2.2.2.2.2.2.2.2.2.2.2.2.2.2.2.1 k0_t1 k0_h17
theorem k0_off38_inb : ∀ (v0 : BitVec 32) (v2 : BitVec 32) (v5 : BitVec 32) (k0_hw1 : k0_chk1 v0 v2 v5) (k0_t1 : Fin (k0_t1_loop v2 v5).trips), ∀ (k0_h17 : k0_cond17 v0 v2 v5 k0_t1 = 1#1), ∀ a, (k0_off38 v2 v5 k0_t1) a + S1.size a ≤ S8.size a := fun v0 v2 v5 k0_hw1 k0_t1 k0_h17 => k0_hw1.2.1.2.2.2.2.2.2.2.2.2.2.2.2.2.2.2.2.2.2.2.2.2.2.2.2.2.2.1 k0_t1 k0_h17
theorem k0_off39_inb : ∀ (v0 : BitVec 32) (v2 : BitVec 32) (v5 : BitVec 32) (k0_hw1 : k0_chk1 v0 v2 v5) (k0_t1 : Fin (k0_t1_loop v2 v5).trips), ∀ (k0_h17 : k0_cond17 v0 v2 v5 k0_t1 = 1#1), ∀ a, (k0_off39 v2 v5 k0_t1) a + S1x2x256x256.size a ≤ S8x2x256x256.size a := fun v0 v2 v5 k0_hw1 k0_t1 k0_h17 => k0_hw1.2.1.2.2.2.2.2.2.2.2.2.2.2.2.2.2.2.2.2.2.2.2.2.2.2.2.2.2.2.1 k0_t1 k0_h17
theorem k0_off40_inb : ∀ (v0 : BitVec 32) (v2 : BitVec 32) (v5 : BitVec 32) (k0_hw1 : k0_chk1 v0 v2 v5) (k0_t1 : Fin (k0_t1_loop v2 v5).trips), ∀ (k0_h17 : k0_cond17 v0 v2 v5 k0_t1 = 1#1), ∀ a, (k0_off40 v2 v5 k0_t1) a + S2x256x256.size a ≤ S2x140288x256.size a := fun v0 v2 v5 k0_hw1 k0_t1 k0_h17 => k0_hw1.2.1.2.2.2.2.2.2.2.2.2.2.2.2.2.2.2.2.2.2.2.2.2.2.2.2.2.2.2.2.1 k0_t1 k0_h17
theorem k0_mult27_dvd : ∀ (v0 : BitVec 32) (v2 : BitVec 32) (v5 : BitVec 32) (k0_hw1 : k0_chk1 v0 v2 v5) (k0_t1 : Fin (k0_t1_loop v2 v5).trips), ∀ (k0_h18 : k0_cond18 v0 v2 v5 k0_t1 = 1#1), 256 ∣ (k0_mult27 v2 v5 k0_t1).toNat := fun v0 v2 v5 k0_hw1 k0_t1 k0_h18 => k0_hw1.2.1.2.2.2.2.2.2.2.2.2.2.2.2.2.2.2.2.2.2.2.2.2.2.2.2.2.2.2.2.2.1 k0_t1 k0_h18
theorem k0_off41_inb : ∀ (v0 : BitVec 32) (v2 : BitVec 32) (v5 : BitVec 32) (k0_hw1 : k0_chk1 v0 v2 v5) (k0_t1 : Fin (k0_t1_loop v2 v5).trips), ∀ (k0_h18 : k0_cond18 v0 v2 v5 k0_t1 = 1#1), ∀ a, (k0_off41 v2 v5 k0_t1) a + S1.size a ≤ S8.size a := fun v0 v2 v5 k0_hw1 k0_t1 k0_h18 => k0_hw1.2.1.2.2.2.2.2.2.2.2.2.2.2.2.2.2.2.2.2.2.2.2.2.2.2.2.2.2.2.2.2.2.1 k0_t1 k0_h18
theorem k0_off42_inb : ∀ (v0 : BitVec 32) (v2 : BitVec 32) (v5 : BitVec 32) (k0_hw1 : k0_chk1 v0 v2 v5) (k0_t1 : Fin (k0_t1_loop v2 v5).trips), ∀ (k0_h18 : k0_cond18 v0 v2 v5 k0_t1 = 1#1), ∀ a, (k0_off42 v2 v5 k0_t1) a + S1x2x256x256.size a ≤ S8x2x256x256.size a := fun v0 v2 v5 k0_hw1 k0_t1 k0_h18 => k0_hw1.2.1.2.2.2.2.2.2.2.2.2.2.2.2.2.2.2.2.2.2.2.2.2.2.2.2.2.2.2.2.2.2.2 k0_t1 k0_h18
theorem k0_off43_inb : ∀ (v0 : BitVec 32) (v2 : BitVec 32) (v5 : BitVec 32) (k0_hw1 : k0_chk1 v0 v2 v5) (k0_t1 : Fin (k0_t1_loop v2 v5).trips), ∀ (k0_h18 : k0_cond18 v0 v2 v5 k0_t1 = 1#1), ∀ a, (k0_off43 v2 v5 k0_t1) a + S2x256x256.size a ≤ S2x140288x256.size a := fun v0 v2 v5 k0_hw1 k0_t1 k0_h18 => k0_hw1.2.2.1.1 k0_t1 k0_h18
theorem k0_mult28_dvd : ∀ (v0 : BitVec 32) (v2 : BitVec 32) (v5 : BitVec 32) (k0_hw1 : k0_chk1 v0 v2 v5) (k0_t1 : Fin (k0_t1_loop v2 v5).trips), ∀ (k0_h19 : k0_cond19 v0 v2 v5 k0_t1 = 1#1), 256 ∣ (k0_mult28 v2 v5 k0_t1).toNat := fun v0 v2 v5 k0_hw1 k0_t1 k0_h19 => k0_hw1.2.2.1.2.1 k0_t1 k0_h19
theorem k0_off44_inb : ∀ (v0 : BitVec 32) (v2 : BitVec 32) (v5 : BitVec 32) (k0_hw1 : k0_chk1 v0 v2 v5) (k0_t1 : Fin (k0_t1_loop v2 v5).trips), ∀ (k0_h19 : k0_cond19 v0 v2 v5 k0_t1 = 1#1), ∀ a, (k0_off44 v2 v5 k0_t1) a + S1.size a ≤ S8.size a := fun v0 v2 v5 k0_hw1 k0_t1 k0_h19 => k0_hw1.2.2.1.2.2.1 k0_t1 k0_h19
theorem k0_off45_inb : ∀ (v0 : BitVec 32) (v2 : BitVec 32) (v5 : BitVec 32) (k0_hw1 : k0_chk1 v0 v2 v5) (k0_t1 : Fin (k0_t1_loop v2 v5).trips), ∀ (k0_h19 : k0_cond19 v0 v2 v5 k0_t1 = 1#1), ∀ a, (k0_off45 v2 v5 k0_t1) a + S1x2x256x256.size a ≤ S8x2x256x256.size a := fun v0 v2 v5 k0_hw1 k0_t1 k0_h19 => k0_hw1.2.2.1.2.2.2.1 k0_t1 k0_h19
theorem k0_off46_inb : ∀ (v0 : BitVec 32) (v2 : BitVec 32) (v5 : BitVec 32) (k0_hw1 : k0_chk1 v0 v2 v5) (k0_t1 : Fin (k0_t1_loop v2 v5).trips), ∀ (k0_h19 : k0_cond19 v0 v2 v5 k0_t1 = 1#1), ∀ a, (k0_off46 v2 v5 k0_t1) a + S2x256x256.size a ≤ S2x140288x256.size a := fun v0 v2 v5 k0_hw1 k0_t1 k0_h19 => k0_hw1.2.2.1.2.2.2.2.1 k0_t1 k0_h19
theorem k0_mult29_dvd : ∀ (v0 : BitVec 32) (v2 : BitVec 32) (v5 : BitVec 32) (k0_hw1 : k0_chk1 v0 v2 v5) (k0_t1 : Fin (k0_t1_loop v2 v5).trips), ∀ (k0_h20 : k0_cond20 v2 v5 k0_t1 = 1#1), 256 ∣ (k0_mult29 v2 v5 k0_t1).toNat := fun v0 v2 v5 k0_hw1 k0_t1 k0_h20 => k0_hw1.2.2.1.2.2.2.2.2.1 k0_t1 k0_h20
theorem k0_off47_inb : ∀ (v0 : BitVec 32) (v2 : BitVec 32) (v5 : BitVec 32) (k0_hw1 : k0_chk1 v0 v2 v5) (k0_t1 : Fin (k0_t1_loop v2 v5).trips), ∀ (k0_h20 : k0_cond20 v2 v5 k0_t1 = 1#1), ∀ a, (k0_off47 v2 v5 k0_t1) a + S1.size a ≤ S8.size a := fun v0 v2 v5 k0_hw1 k0_t1 k0_h20 => k0_hw1.2.2.1.2.2.2.2.2.2.1 k0_t1 k0_h20
theorem k0_off48_inb : ∀ (v0 : BitVec 32) (v2 : BitVec 32) (v5 : BitVec 32) (k0_hw1 : k0_chk1 v0 v2 v5) (k0_t1 : Fin (k0_t1_loop v2 v5).trips), ∀ (k0_h20 : k0_cond20 v2 v5 k0_t1 = 1#1), ∀ a, (k0_off48 v2 v5 k0_t1) a + S2x256x256.size a ≤ S2x140288x256.size a := fun v0 v2 v5 k0_hw1 k0_t1 k0_h20 => k0_hw1.2.2.1.2.2.2.2.2.2.2.1 k0_t1 k0_h20
theorem k0_off49_inb : ∀ (v0 : BitVec 32) (v2 : BitVec 32) (v5 : BitVec 32) (k0_hw1 : k0_chk1 v0 v2 v5) (k0_t1 : Fin (k0_t1_loop v2 v5).trips), ∀ (k0_h20 : k0_cond20 v2 v5 k0_t1 = 1#1), ∀ a, (k0_off49 v2 v5 k0_t1) a + S1x2x256x256.size a ≤ S8x2x256x256.size a := fun v0 v2 v5 k0_hw1 k0_t1 k0_h20 => k0_hw1.2.2.1.2.2.2.2.2.2.2.2.1 k0_t1 k0_h20
theorem k0_mult30_dvd : ∀ (v0 : BitVec 32) (v2 : BitVec 32) (v5 : BitVec 32) (k0_hw1 : k0_chk1 v0 v2 v5) (k0_t1 : Fin (k0_t1_loop v2 v5).trips), ∀ (k0_h21 : k0_cond21 v2 v5 k0_t1 = 1#1), 256 ∣ (k0_mult30 v2 v5 k0_t1).toNat := fun v0 v2 v5 k0_hw1 k0_t1 k0_h21 => k0_hw1.2.2.1.2.2.2.2.2.2.2.2.2.1 k0_t1 k0_h21
theorem k0_off50_inb : ∀ (v0 : BitVec 32) (v2 : BitVec 32) (v5 : BitVec 32) (k0_hw1 : k0_chk1 v0 v2 v5) (k0_t1 : Fin (k0_t1_loop v2 v5).trips), ∀ (k0_h21 : k0_cond21 v2 v5 k0_t1 = 1#1), ∀ a, (k0_off50 v2 v5 k0_t1) a + S1.size a ≤ S8.size a := fun v0 v2 v5 k0_hw1 k0_t1 k0_h21 => k0_hw1.2.2.1.2.2.2.2.2.2.2.2.2.2.1 k0_t1 k0_h21
theorem k0_off51_inb : ∀ (v0 : BitVec 32) (v2 : BitVec 32) (v5 : BitVec 32) (k0_hw1 : k0_chk1 v0 v2 v5) (k0_t1 : Fin (k0_t1_loop v2 v5).trips), ∀ (k0_h21 : k0_cond21 v2 v5 k0_t1 = 1#1), ∀ a, (k0_off51 v2 v5 k0_t1) a + S2x256x256.size a ≤ S2x140288x256.size a := fun v0 v2 v5 k0_hw1 k0_t1 k0_h21 => k0_hw1.2.2.1.2.2.2.2.2.2.2.2.2.2.2.1 k0_t1 k0_h21
theorem k0_off52_inb : ∀ (v0 : BitVec 32) (v2 : BitVec 32) (v5 : BitVec 32) (k0_hw1 : k0_chk1 v0 v2 v5) (k0_t1 : Fin (k0_t1_loop v2 v5).trips), ∀ (k0_h21 : k0_cond21 v2 v5 k0_t1 = 1#1), ∀ a, (k0_off52 v2 v5 k0_t1) a + S1x2x256x256.size a ≤ S8x2x256x256.size a := fun v0 v2 v5 k0_hw1 k0_t1 k0_h21 => k0_hw1.2.2.1.2.2.2.2.2.2.2.2.2.2.2.2.1 k0_t1 k0_h21
theorem k0_mult31_dvd : ∀ (v0 : BitVec 32) (v2 : BitVec 32) (v5 : BitVec 32) (k0_hw1 : k0_chk1 v0 v2 v5) (k0_t1 : Fin (k0_t1_loop v2 v5).trips), ∀ (k0_h22 : k0_cond22 v2 v5 k0_t1 = 1#1), 256 ∣ (k0_mult31 v2 v5 k0_t1).toNat := fun v0 v2 v5 k0_hw1 k0_t1 k0_h22 => k0_hw1.2.2.1.2.2.2.2.2.2.2.2.2.2.2.2.2.1 k0_t1 k0_h22
theorem k0_off53_inb : ∀ (v0 : BitVec 32) (v2 : BitVec 32) (v5 : BitVec 32) (k0_hw1 : k0_chk1 v0 v2 v5) (k0_t1 : Fin (k0_t1_loop v2 v5).trips), ∀ (k0_h22 : k0_cond22 v2 v5 k0_t1 = 1#1), ∀ a, (k0_off53 v2 v5 k0_t1) a + S1.size a ≤ S8.size a := fun v0 v2 v5 k0_hw1 k0_t1 k0_h22 => k0_hw1.2.2.1.2.2.2.2.2.2.2.2.2.2.2.2.2.2.1 k0_t1 k0_h22
theorem k0_off54_inb : ∀ (v0 : BitVec 32) (v2 : BitVec 32) (v5 : BitVec 32) (k0_hw1 : k0_chk1 v0 v2 v5) (k0_t1 : Fin (k0_t1_loop v2 v5).trips), ∀ (k0_h22 : k0_cond22 v2 v5 k0_t1 = 1#1), ∀ a, (k0_off54 v2 v5 k0_t1) a + S2x256x256.size a ≤ S2x140288x256.size a := fun v0 v2 v5 k0_hw1 k0_t1 k0_h22 => k0_hw1.2.2.1.2.2.2.2.2.2.2.2.2.2.2.2.2.2.2.1 k0_t1 k0_h22
theorem k0_off55_inb : ∀ (v0 : BitVec 32) (v2 : BitVec 32) (v5 : BitVec 32) (k0_hw1 : k0_chk1 v0 v2 v5) (k0_t1 : Fin (k0_t1_loop v2 v5).trips), ∀ (k0_h22 : k0_cond22 v2 v5 k0_t1 = 1#1), ∀ a, (k0_off55 v2 v5 k0_t1) a + S1x2x256x256.size a ≤ S8x2x256x256.size a := fun v0 v2 v5 k0_hw1 k0_t1 k0_h22 => k0_hw1.2.2.1.2.2.2.2.2.2.2.2.2.2.2.2.2.2.2.2.1 k0_t1 k0_h22
theorem k0_mult32_dvd : ∀ (v0 : BitVec 32) (v2 : BitVec 32) (v5 : BitVec 32) (k0_hw1 : k0_chk1 v0 v2 v5) (k0_t1 : Fin (k0_t1_loop v2 v5).trips), ∀ (k0_h23 : k0_cond23 v2 v5 k0_t1 = 1#1), 256 ∣ (k0_mult32 v2 v5 k0_t1).toNat := fun v0 v2 v5 k0_hw1 k0_t1 k0_h23 => k0_hw1.2.2.1.2.2.2.2.2.2.2.2.2.2.2.2.2.2.2.2.2.1 k0_t1 k0_h23
theorem k0_off56_inb : ∀ (v0 : BitVec 32) (v2 : BitVec 32) (v5 : BitVec 32) (k0_hw1 : k0_chk1 v0 v2 v5) (k0_t1 : Fin (k0_t1_loop v2 v5).trips), ∀ (k0_h23 : k0_cond23 v2 v5 k0_t1 = 1#1), ∀ a, (k0_off56 v2 v5 k0_t1) a + S1.size a ≤ S8.size a := fun v0 v2 v5 k0_hw1 k0_t1 k0_h23 => k0_hw1.2.2.1.2.2.2.2.2.2.2.2.2.2.2.2.2.2.2.2.2.2.1 k0_t1 k0_h23
theorem k0_off57_inb : ∀ (v0 : BitVec 32) (v2 : BitVec 32) (v5 : BitVec 32) (k0_hw1 : k0_chk1 v0 v2 v5) (k0_t1 : Fin (k0_t1_loop v2 v5).trips), ∀ (k0_h23 : k0_cond23 v2 v5 k0_t1 = 1#1), ∀ a, (k0_off57 v2 v5 k0_t1) a + S2x256x256.size a ≤ S2x140288x256.size a := fun v0 v2 v5 k0_hw1 k0_t1 k0_h23 => k0_hw1.2.2.1.2.2.2.2.2.2.2.2.2.2.2.2.2.2.2.2.2.2.2.1 k0_t1 k0_h23
theorem k0_off58_inb : ∀ (v0 : BitVec 32) (v2 : BitVec 32) (v5 : BitVec 32) (k0_hw1 : k0_chk1 v0 v2 v5) (k0_t1 : Fin (k0_t1_loop v2 v5).trips), ∀ (k0_h23 : k0_cond23 v2 v5 k0_t1 = 1#1), ∀ a, (k0_off58 v2 v5 k0_t1) a + S1x2x256x256.size a ≤ S8x2x256x256.size a := fun v0 v2 v5 k0_hw1 k0_t1 k0_h23 => k0_hw1.2.2.1.2.2.2.2.2.2.2.2.2.2.2.2.2.2.2.2.2.2.2.2.1 k0_t1 k0_h23
theorem k0_off59_inb : ∀ (v0 : BitVec 32) (v2 : BitVec 32) (v5 : BitVec 32) (k0_hw1 : k0_chk1 v0 v2 v5) (k0_t1 : Fin (k0_t1_loop v2 v5).trips), ∀ (r : Fin 4), ∀ a, (k0_off59 v2 v5 k0_t1 (BitVec.ofNat 32 r.val)) a + S1x1x256x256.size a ≤ S8x2x256x256.size a := fun v0 v2 v5 k0_hw1 k0_t1 r => k0_hw1.2.2.1.2.2.2.2.2.2.2.2.2.2.2.2.2.2.2.2.2.2.2.2.2.1 k0_t1 r
theorem k0_off60_inb : ∀ (v0 : BitVec 32) (v2 : BitVec 32) (v5 : BitVec 32) (k0_hw1 : k0_chk1 v0 v2 v5) (k0_t1 : Fin (k0_t1_loop v2 v5).trips), ∀ (r : Fin 4), ∀ a, (k0_off60 v2 v5 k0_t1 (BitVec.ofNat 32 r.val)) a + S1x1x256x256.size a ≤ S8x2x256x256.size a := fun v0 v2 v5 k0_hw1 k0_t1 r => k0_hw1.2.2.1.2.2.2.2.2.2.2.2.2.2.2.2.2.2.2.2.2.2.2.2.2.2.1 k0_t1 r
theorem k0_mult33_dvd : ∀ (v0 : BitVec 32) (v2 : BitVec 32) (v5 : BitVec 32) (k0_hw1 : k0_chk1 v0 v2 v5) (k0_t1 : Fin (k0_t1_loop v2 v5).trips), 256 ∣ (k0_mult33 v2 v5 k0_t1).toNat := fun v0 v2 v5 k0_hw1 k0_t1 => k0_hw1.2.2.1.2.2.2.2.2.2.2.2.2.2.2.2.2.2.2.2.2.2.2.2.2.2.2.1 k0_t1
theorem k0_mult34_dvd : ∀ (v0 : BitVec 32) (v2 : BitVec 32) (v5 : BitVec 32) (k0_hw1 : k0_chk1 v0 v2 v5) (k0_t1 : Fin (k0_t1_loop v2 v5).trips), 256 ∣ (k0_mult34 v2 v5 k0_t1).toNat := fun v0 v2 v5 k0_hw1 k0_t1 => k0_hw1.2.2.1.2.2.2.2.2.2.2.2.2.2.2.2.2.2.2.2.2.2.2.2.2.2.2.2.1 k0_t1
theorem k0_mult35_dvd : ∀ (v0 : BitVec 32) (v2 : BitVec 32) (v5 : BitVec 32) (k0_hw1 : k0_chk1 v0 v2 v5) (k0_t1 : Fin (k0_t1_loop v2 v5).trips), 256 ∣ (k0_mult35 v2 v5 k0_t1).toNat := fun v0 v2 v5 k0_hw1 k0_t1 => k0_hw1.2.2.1.2.2.2.2.2.2.2.2.2.2.2.2.2.2.2.2.2.2.2.2.2.2.2.2.2.1 k0_t1
theorem k0_mult36_dvd : ∀ (v0 : BitVec 32) (v2 : BitVec 32) (v5 : BitVec 32) (k0_hw1 : k0_chk1 v0 v2 v5) (k0_t1 : Fin (k0_t1_loop v2 v5).trips), 256 ∣ (k0_mult36 v2 v5 k0_t1).toNat := fun v0 v2 v5 k0_hw1 k0_t1 => k0_hw1.2.2.1.2.2.2.2.2.2.2.2.2.2.2.2.2.2.2.2.2.2.2.2.2.2.2.2.2.2.1 k0_t1
theorem k0_t2_ok : ∀ (v0 : BitVec 32) (v2 : BitVec 32) (v5 : BitVec 32) (k0_hw1 : k0_chk1 v0 v2 v5), (k0_t2_loop v2 v5).OK := fun v0 v2 v5 k0_hw1 => k0_hw1.2.2.1.2.2.2.2.2.2.2.2.2.2.2.2.2.2.2.2.2.2.2.2.2.2.2.2.2.2.2.1
theorem k0_mult37_dvd : ∀ (v0 : BitVec 32) (v2 : BitVec 32) (v5 : BitVec 32) (k0_hw1 : k0_chk1 v0 v2 v5) (k0_t2 : Fin (k0_t2_loop v2 v5).trips), 256 ∣ (k0_mult37 v2 v5 k0_t2).toNat := fun v0 v2 v5 k0_hw1 k0_t2 => k0_hw1.2.2.1.2.2.2.2.2.2.2.2.2.2.2.2.2.2.2.2.2.2.2.2.2.2.2.2.2.2.2.2.1 k0_t2
theorem k0_off61_inb : ∀ (v0 : BitVec 32) (v2 : BitVec 32) (v5 : BitVec 32) (k0_hw1 : k0_chk1 v0 v2 v5) (k0_t2 : Fin (k0_t2_loop v2 v5).trips), ∀ (r : Fin 4), ∀ a, (k0_off61 v2 v5 k0_t2 (BitVec.ofNat 32 r.val)) a + S1.size a ≤ S8.size a := fun v0 v2 v5 k0_hw1 k0_t2 r => k0_hw1.2.2.1.2.2.2.2.2.2.2.2.2.2.2.2.2.2.2.2.2.2.2.2.2.2.2.2.2.2.2.2.2.1 k0_t2 r
theorem k0_off62_inb : ∀ (v0 : BitVec 32) (v2 : BitVec 32) (v5 : BitVec 32) (k0_hw1 : k0_chk1 v0 v2 v5) (k0_t2 : Fin (k0_t2_loop v2 v5).trips), ∀ (r : Fin 4), ∀ a, (k0_off62 v2 v5 k0_t2 (BitVec.ofNat 32 r.val)) a + S1x2x256x256.size a ≤ S8x2x256x256.size a := fun v0 v2 v5 k0_hw1 k0_t2 r => k0_hw1.2.2.1.2.2.2.2.2.2.2.2.2.2.2.2.2.2.2.2.2.2.2.2.2.2.2.2.2.2.2.2.2.2.1 k0_t2 r
theorem k0_off63_inb : ∀ (v0 : BitVec 32) (v2 : BitVec 32) (v5 : BitVec 32) (k0_hw1 : k0_chk1 v0 v2 v5) (k0_t2 : Fin (k0_t2_loop v2 v5).trips), ∀ (r : Fin 4), ∀ a, (k0_off63 v2 v5 k0_t2 (BitVec.ofNat 32 r.val)) a + S2x256x256.size a ≤ S2x140288x256.size a := fun v0 v2 v5 k0_hw1 k0_t2 r => k0_hw1.2.2.1.2.2.2.2.2.2.2.2.2.2.2.2.2.2.2.2.2.2.2.2.2.2.2.2.2.2.2.2.2.2.2 k0_t2 r
theorem k0_mult38_dvd : ∀ (v0 : BitVec 32) (v2 : BitVec 32) (v5 : BitVec 32) (k0_hw1 : k0_chk1 v0 v2 v5) (k0_t2 : Fin (k0_t2_loop v2 v5).trips), 256 ∣ (k0_mult38 v2 v5 k0_t2).toNat := fun v0 v2 v5 k0_hw1 k0_t2 => k0_hw1.2.2.2.1.1 k0_t2
theorem k0_mult39_dvd : ∀ (v0 : BitVec 32) (v2 : BitVec 32) (v5 : BitVec 32) (k0_hw1 : k0_chk1 v0 v2 v5) (k0_t2 : Fin (k0_t2_loop v2 v5).trips), 256 ∣ (k0_mult39 v2 v5 k0_t2).toNat := fun v0 v2 v5 k0_hw1 k0_t2 => k0_hw1.2.2.2.1.2.1 k0_t2
theorem k0_mult40_dvd : ∀ (v0 : BitVec 32) (v2 : BitVec 32) (v5 : BitVec 32) (k0_hw1 : k0_chk1 v0 v2 v5) (k0_t2 : Fin (k0_t2_loop v2 v5).trips), 256 ∣ (k0_mult40 v2 v5 k0_t2).toNat := fun v0 v2 v5 k0_hw1 k0_t2 => k0_hw1.2.2.2.1.2.2.1 k0_t2
theorem k0_mult41_dvd : ∀ (v0 : BitVec 32) (v2 : BitVec 32) (v5 : BitVec 32) (k0_hw1 : k0_chk1 v0 v2 v5) (k0_t2 : Fin (k0_t2_loop v2 v5).trips), ∀ (k0_h24 : k0_cond24 v0 v2 v5 k0_t2 = 1#1), 256 ∣ (k0_mult41 v2 v5 k0_t2).toNat := fun v0 v2 v5 k0_hw1 k0_t2 k0_h24 => k0_hw1.2.2.2.1.2.2.2.1 k0_t2 k0_h24
theorem k0_off64_inb : ∀ (v0 : BitVec 32) (v2 : BitVec 32) (v5 : BitVec 32) (k0_hw1 : k0_chk1 v0 v2 v5) (k0_t2 : Fin (k0_t2_loop v2 v5).trips), ∀ (k0_h24 : k0_cond24 v0 v2 v5 k0_t2 = 1#1), ∀ a, (k0_off64 v2 v5 k0_t2) a + S1.size a ≤ S8.size a := fun v0 v2 v5 k0_hw1 k0_t2 k0_h24 => k0_hw1.2.2.2.1.2.2.2.2.1 k0_t2 k0_h24
theorem k0_off65_inb : ∀ (v0 : BitVec 32) (v2 : BitVec 32) (v5 : BitVec 32) (k0_hw1 : k0_chk1 v0 v2 v5) (k0_t2 : Fin (k0_t2_loop v2 v5).trips), ∀ (k0_h24 : k0_cond24 v0 v2 v5 k0_t2 = 1#1), ∀ a, (k0_off65 v2 v5 k0_t2) a + S1x2x256x256.size a ≤ S8x2x256x256.size a := fun v0 v2 v5 k0_hw1 k0_t2 k0_h24 => k0_hw1.2.2.2.1.2.2.2.2.2.1 k0_t2 k0_h24
theorem k0_off66_inb : ∀ (v0 : BitVec 32) (v2 : BitVec 32) (v5 : BitVec 32) (k0_hw1 : k0_chk1 v0 v2 v5) (k0_t2 : Fin (k0_t2_loop v2 v5).trips), ∀ (k0_h24 : k0_cond24 v0 v2 v5 k0_t2 = 1#1), ∀ a, (k0_off66 v2 v5 k0_t2) a + S2x256x256.size a ≤ S2x140288x256.size a := fun v0 v2 v5 k0_hw1 k0_t2 k0_h24 => k0_hw1.2.2.2.1.2.2.2.2.2.2.1 k0_t2 k0_h24
theorem k0_mult42_dvd : ∀ (v0 : BitVec 32) (v2 : BitVec 32) (v5 : BitVec 32) (k0_hw1 : k0_chk1 v0 v2 v5) (k0_t2 : Fin (k0_t2_loop v2 v5).trips), ∀ (k0_h25 : k0_cond25 v0 v2 v5 k0_t2 = 1#1), 256 ∣ (k0_mult42 v2 v5 k0_t2).toNat := fun v0 v2 v5 k0_hw1 k0_t2 k0_h25 => k0_hw1.2.2.2.1.2.2.2.2.2.2.2.1 k0_t2 k0_h25
theorem k0_off67_inb : ∀ (v0 : BitVec 32) (v2 : BitVec 32) (v5 : BitVec 32) (k0_hw1 : k0_chk1 v0 v2 v5) (k0_t2 : Fin (k0_t2_loop v2 v5).trips), ∀ (k0_h25 : k0_cond25 v0 v2 v5 k0_t2 = 1#1), ∀ a, (k0_off67 v2 v5 k0_t2) a + S1.size a ≤ S8.size a := fun v0 v2 v5 k0_hw1 k0_t2 k0_h25 => k0_hw1.2.2.2.1.2.2.2.2.2.2.2.2.1 k0_t2 k0_h25
theorem k0_off68_inb : ∀ (v0 : BitVec 32) (v2 : BitVec 32) (v5 : BitVec 32) (k0_hw1 : k0_chk1 v0 v2 v5) (k0_t2 : Fin (k0_t2_loop v2 v5).trips), ∀ (k0_h25 : k0_cond25 v0 v2 v5 k0_t2 = 1#1), ∀ a, (k0_off68 v2 v5 k0_t2) a + S1x2x256x256.size a ≤ S8x2x256x256.size a := fun v0 v2 v5 k0_hw1 k0_t2 k0_h25 => k0_hw1.2.2.2.1.2.2.2.2.2.2.2.2.2.1 k0_t2 k0_h25
theorem k0_off69_inb : ∀ (v0 : BitVec 32) (v2 : BitVec 32) (v5 : BitVec 32) (k0_hw1 : k0_chk1 v0 v2 v5) (k0_t2 : Fin (k0_t2_loop v2 v5).trips), ∀ (k0_h25 : k0_cond25 v0 v2 v5 k0_t2 = 1#1), ∀ a, (k0_off69 v2 v5 k0_t2) a + S2x256x256.size a ≤ S2x140288x256.size a := fun v0 v2 v5 k0_hw1 k0_t2 k0_h25 => k0_hw1.2.2.2.1.2.2.2.2.2.2.2.2.2.2.1 k0_t2 k0_h25
theorem k0_mult43_dvd : ∀ (v0 : BitVec 32) (v2 : BitVec 32) (v5 : BitVec 32) (k0_hw1 : k0_chk1 v0 v2 v5) (k0_t2 : Fin (k0_t2_loop v2 v5).trips), ∀ (k0_h26 : k0_cond26 v0 v2 v5 k0_t2 = 1#1), 256 ∣ (k0_mult43 v2 v5 k0_t2).toNat := fun v0 v2 v5 k0_hw1 k0_t2 k0_h26 => k0_hw1.2.2.2.1.2.2.2.2.2.2.2.2.2.2.2.1 k0_t2 k0_h26
theorem k0_off70_inb : ∀ (v0 : BitVec 32) (v2 : BitVec 32) (v5 : BitVec 32) (k0_hw1 : k0_chk1 v0 v2 v5) (k0_t2 : Fin (k0_t2_loop v2 v5).trips), ∀ (k0_h26 : k0_cond26 v0 v2 v5 k0_t2 = 1#1), ∀ a, (k0_off70 v2 v5 k0_t2) a + S1.size a ≤ S8.size a := fun v0 v2 v5 k0_hw1 k0_t2 k0_h26 => k0_hw1.2.2.2.1.2.2.2.2.2.2.2.2.2.2.2.2.1 k0_t2 k0_h26
theorem k0_off71_inb : ∀ (v0 : BitVec 32) (v2 : BitVec 32) (v5 : BitVec 32) (k0_hw1 : k0_chk1 v0 v2 v5) (k0_t2 : Fin (k0_t2_loop v2 v5).trips), ∀ (k0_h26 : k0_cond26 v0 v2 v5 k0_t2 = 1#1), ∀ a, (k0_off71 v2 v5 k0_t2) a + S1x2x256x256.size a ≤ S8x2x256x256.size a := fun v0 v2 v5 k0_hw1 k0_t2 k0_h26 => k0_hw1.2.2.2.1.2.2.2.2.2.2.2.2.2.2.2.2.2.1 k0_t2 k0_h26
theorem k0_off72_inb : ∀ (v0 : BitVec 32) (v2 : BitVec 32) (v5 : BitVec 32) (k0_hw1 : k0_chk1 v0 v2 v5) (k0_t2 : Fin (k0_t2_loop v2 v5).trips), ∀ (k0_h26 : k0_cond26 v0 v2 v5 k0_t2 = 1#1), ∀ a, (k0_off72 v2 v5 k0_t2) a + S2x256x256.size a ≤ S2x140288x256.size a := fun v0 v2 v5 k0_hw1 k0_t2 k0_h26 => k0_hw1.2.2.2.1.2.2.2.2.2.2.2.2.2.2.2.2.2.2.1 k0_t2 k0_h26
theorem k0_mult44_dvd : ∀ (v0 : BitVec 32) (v2 : BitVec 32) (v5 : BitVec 32) (k0_hw1 : k0_chk1 v0 v2 v5) (k0_t2 : Fin (k0_t2_loop v2 v5).trips), ∀ (k0_h27 : k0_cond27 v0 v2 v5 k0_t2 = 1#1), 256 ∣ (k0_mult44 v2 v5 k0_t2).toNat := fun v0 v2 v5 k0_hw1 k0_t2 k0_h27 => k0_hw1.2.2.2.1.2.2.2.2.2.2.2.2.2.2.2.2.2.2.2.1 k0_t2 k0_h27
theorem k0_off73_inb : ∀ (v0 : BitVec 32) (v2 : BitVec 32) (v5 : BitVec 32) (k0_hw1 : k0_chk1 v0 v2 v5) (k0_t2 : Fin (k0_t2_loop v2 v5).trips), ∀ (k0_h27 : k0_cond27 v0 v2 v5 k0_t2 = 1#1), ∀ a, (k0_off73 v2 v5 k0_t2) a + S1.size a ≤ S8.size a := fun v0 v2 v5 k0_hw1 k0_t2 k0_h27 => k0_hw1.2.2.2.1.2.2.2.2.2.2.2.2.2.2.2.2.2.2.2.2.1 k0_t2 k0_h27
theorem k0_off74_inb : ∀ (v0 : BitVec 32) (v2 : BitVec 32) (v5 : BitVec 32) (k0_hw1 : k0_chk1 v0 v2 v5) (k0_t2 : Fin (k0_t2_loop v2 v5).trips), ∀ (k0_h27 : k0_cond27 v0 v2 v5 k0_t2 = 1#1), ∀ a, (k0_off74 v2 v5 k0_t2) a + S1x2x256x256.size a ≤ S8x2x256x256.size a := fun v0 v2 v5 k0_hw1 k0_t2 k0_h27 => k0_hw1.2.2.2.1.2.2.2.2.2.2.2.2.2.2.2.2.2.2.2.2.2.1 k0_t2 k0_h27
theorem k0_off75_inb : ∀ (v0 : BitVec 32) (v2 : BitVec 32) (v5 : BitVec 32) (k0_hw1 : k0_chk1 v0 v2 v5) (k0_t2 : Fin (k0_t2_loop v2 v5).trips), ∀ (k0_h27 : k0_cond27 v0 v2 v5 k0_t2 = 1#1), ∀ a, (k0_off75 v2 v5 k0_t2) a + S2x256x256.size a ≤ S2x140288x256.size a := fun v0 v2 v5 k0_hw1 k0_t2 k0_h27 => k0_hw1.2.2.2.1.2.2.2.2.2.2.2.2.2.2.2.2.2.2.2.2.2.2.1 k0_t2 k0_h27
theorem k0_mult45_dvd : ∀ (v0 : BitVec 32) (v2 : BitVec 32) (v5 : BitVec 32) (k0_hw1 : k0_chk1 v0 v2 v5) (k0_t2 : Fin (k0_t2_loop v2 v5).trips), ∀ (k0_h28 : k0_cond28 v2 v5 k0_t2 = 1#1), 256 ∣ (k0_mult45 v2 v5 k0_t2).toNat := fun v0 v2 v5 k0_hw1 k0_t2 k0_h28 => k0_hw1.2.2.2.1.2.2.2.2.2.2.2.2.2.2.2.2.2.2.2.2.2.2.2.1 k0_t2 k0_h28
theorem k0_off76_inb : ∀ (v0 : BitVec 32) (v2 : BitVec 32) (v5 : BitVec 32) (k0_hw1 : k0_chk1 v0 v2 v5) (k0_t2 : Fin (k0_t2_loop v2 v5).trips), ∀ (k0_h28 : k0_cond28 v2 v5 k0_t2 = 1#1), ∀ a, (k0_off76 v2 v5 k0_t2) a + S1.size a ≤ S8.size a := fun v0 v2 v5 k0_hw1 k0_t2 k0_h28 => k0_hw1.2.2.2.1.2.2.2.2.2.2.2.2.2.2.2.2.2.2.2.2.2.2.2.2.1 k0_t2 k0_h28
theorem k0_off77_inb : ∀ (v0 : BitVec 32) (v2 : BitVec 32) (v5 : BitVec 32) (k0_hw1 : k0_chk1 v0 v2 v5) (k0_t2 : Fin (k0_t2_loop v2 v5).trips), ∀ (k0_h28 : k0_cond28 v2 v5 k0_t2 = 1#1), ∀ a, (k0_off77 v2 v5 k0_t2) a + S2x256x256.size a ≤ S2x140288x256.size a := fun v0 v2 v5 k0_hw1 k0_t2 k0_h28 => k0_hw1.2.2.2.1.2.2.2.2.2.2.2.2.2.2.2.2.2.2.2.2.2.2.2.2.2.1 k0_t2 k0_h28
theorem k0_off78_inb : ∀ (v0 : BitVec 32) (v2 : BitVec 32) (v5 : BitVec 32) (k0_hw1 : k0_chk1 v0 v2 v5) (k0_t2 : Fin (k0_t2_loop v2 v5).trips), ∀ (k0_h28 : k0_cond28 v2 v5 k0_t2 = 1#1), ∀ a, (k0_off78 v2 v5 k0_t2) a + S1x2x256x256.size a ≤ S8x2x256x256.size a := fun v0 v2 v5 k0_hw1 k0_t2 k0_h28 => k0_hw1.2.2.2.1.2.2.2.2.2.2.2.2.2.2.2.2.2.2.2.2.2.2.2.2.2.2.1 k0_t2 k0_h28
theorem k0_mult46_dvd : ∀ (v0 : BitVec 32) (v2 : BitVec 32) (v5 : BitVec 32) (k0_hw1 : k0_chk1 v0 v2 v5) (k0_t2 : Fin (k0_t2_loop v2 v5).trips), ∀ (k0_h29 : k0_cond29 v2 v5 k0_t2 = 1#1), 256 ∣ (k0_mult46 v2 v5 k0_t2).toNat := fun v0 v2 v5 k0_hw1 k0_t2 k0_h29 => k0_hw1.2.2.2.1.2.2.2.2.2.2.2.2.2.2.2.2.2.2.2.2.2.2.2.2.2.2.2.1 k0_t2 k0_h29
theorem k0_off79_inb : ∀ (v0 : BitVec 32) (v2 : BitVec 32) (v5 : BitVec 32) (k0_hw1 : k0_chk1 v0 v2 v5) (k0_t2 : Fin (k0_t2_loop v2 v5).trips), ∀ (k0_h29 : k0_cond29 v2 v5 k0_t2 = 1#1), ∀ a, (k0_off79 v2 v5 k0_t2) a + S1.size a ≤ S8.size a := fun v0 v2 v5 k0_hw1 k0_t2 k0_h29 => k0_hw1.2.2.2.1.2.2.2.2.2.2.2.2.2.2.2.2.2.2.2.2.2.2.2.2.2.2.2.2.1 k0_t2 k0_h29
theorem k0_off80_inb : ∀ (v0 : BitVec 32) (v2 : BitVec 32) (v5 : BitVec 32) (k0_hw1 : k0_chk1 v0 v2 v5) (k0_t2 : Fin (k0_t2_loop v2 v5).trips), ∀ (k0_h29 : k0_cond29 v2 v5 k0_t2 = 1#1), ∀ a, (k0_off80 v2 v5 k0_t2) a + S2x256x256.size a ≤ S2x140288x256.size a := fun v0 v2 v5 k0_hw1 k0_t2 k0_h29 => k0_hw1.2.2.2.1.2.2.2.2.2.2.2.2.2.2.2.2.2.2.2.2.2.2.2.2.2.2.2.2.2.1 k0_t2 k0_h29
theorem k0_off81_inb : ∀ (v0 : BitVec 32) (v2 : BitVec 32) (v5 : BitVec 32) (k0_hw1 : k0_chk1 v0 v2 v5) (k0_t2 : Fin (k0_t2_loop v2 v5).trips), ∀ (k0_h29 : k0_cond29 v2 v5 k0_t2 = 1#1), ∀ a, (k0_off81 v2 v5 k0_t2) a + S1x2x256x256.size a ≤ S8x2x256x256.size a := fun v0 v2 v5 k0_hw1 k0_t2 k0_h29 => k0_hw1.2.2.2.1.2.2.2.2.2.2.2.2.2.2.2.2.2.2.2.2.2.2.2.2.2.2.2.2.2.2.1 k0_t2 k0_h29
theorem k0_mult47_dvd : ∀ (v0 : BitVec 32) (v2 : BitVec 32) (v5 : BitVec 32) (k0_hw1 : k0_chk1 v0 v2 v5) (k0_t2 : Fin (k0_t2_loop v2 v5).trips), ∀ (k0_h30 : k0_cond30 v2 v5 k0_t2 = 1#1), 256 ∣ (k0_mult47 v2 v5 k0_t2).toNat := fun v0 v2 v5 k0_hw1 k0_t2 k0_h30 => k0_hw1.2.2.2.1.2.2.2.2.2.2.2.2.2.2.2.2.2.2.2.2.2.2.2.2.2.2.2.2.2.2.2.1 k0_t2 k0_h30
theorem k0_off82_inb : ∀ (v0 : BitVec 32) (v2 : BitVec 32) (v5 : BitVec 32) (k0_hw1 : k0_chk1 v0 v2 v5) (k0_t2 : Fin (k0_t2_loop v2 v5).trips), ∀ (k0_h30 : k0_cond30 v2 v5 k0_t2 = 1#1), ∀ a, (k0_off82 v2 v5 k0_t2) a + S1.size a ≤ S8.size a := fun v0 v2 v5 k0_hw1 k0_t2 k0_h30 => k0_hw1.2.2.2.1.2.2.2.2.2.2.2.2.2.2.2.2.2.2.2.2.2.2.2.2.2.2.2.2.2.2.2.2.1 k0_t2 k0_h30
theorem k0_off83_inb : ∀ (v0 : BitVec 32) (v2 : BitVec 32) (v5 : BitVec 32) (k0_hw1 : k0_chk1 v0 v2 v5) (k0_t2 : Fin (k0_t2_loop v2 v5).trips), ∀ (k0_h30 : k0_cond30 v2 v5 k0_t2 = 1#1), ∀ a, (k0_off83 v2 v5 k0_t2) a + S2x256x256.size a ≤ S2x140288x256.size a := fun v0 v2 v5 k0_hw1 k0_t2 k0_h30 => k0_hw1.2.2.2.1.2.2.2.2.2.2.2.2.2.2.2.2.2.2.2.2.2.2.2.2.2.2.2.2.2.2.2.2.2.1 k0_t2 k0_h30
theorem k0_off84_inb : ∀ (v0 : BitVec 32) (v2 : BitVec 32) (v5 : BitVec 32) (k0_hw1 : k0_chk1 v0 v2 v5) (k0_t2 : Fin (k0_t2_loop v2 v5).trips), ∀ (k0_h30 : k0_cond30 v2 v5 k0_t2 = 1#1), ∀ a, (k0_off84 v2 v5 k0_t2) a + S1x2x256x256.size a ≤ S8x2x256x256.size a := fun v0 v2 v5 k0_hw1 k0_t2 k0_h30 => k0_hw1.2.2.2.1.2.2.2.2.2.2.2.2.2.2.2.2.2.2.2.2.2.2.2.2.2.2.2.2.2.2.2.2.2.2.1 k0_t2 k0_h30
theorem k0_mult48_dvd : ∀ (v0 : BitVec 32) (v2 : BitVec 32) (v5 : BitVec 32) (k0_hw1 : k0_chk1 v0 v2 v5) (k0_t2 : Fin (k0_t2_loop v2 v5).trips), ∀ (k0_h31 : k0_cond31 v2 v5 k0_t2 = 1#1), 256 ∣ (k0_mult48 v2 v5 k0_t2).toNat := fun v0 v2 v5 k0_hw1 k0_t2 k0_h31 => k0_hw1.2.2.2.1.2.2.2.2.2.2.2.2.2.2.2.2.2.2.2.2.2.2.2.2.2.2.2.2.2.2.2.2.2.2.2 k0_t2 k0_h31
theorem k0_off85_inb : ∀ (v0 : BitVec 32) (v2 : BitVec 32) (v5 : BitVec 32) (k0_hw1 : k0_chk1 v0 v2 v5) (k0_t2 : Fin (k0_t2_loop v2 v5).trips), ∀ (k0_h31 : k0_cond31 v2 v5 k0_t2 = 1#1), ∀ a, (k0_off85 v2 v5 k0_t2) a + S1.size a ≤ S8.size a := fun v0 v2 v5 k0_hw1 k0_t2 k0_h31 => k0_hw1.2.2.2.2.1.1 k0_t2 k0_h31
theorem k0_off86_inb : ∀ (v0 : BitVec 32) (v2 : BitVec 32) (v5 : BitVec 32) (k0_hw1 : k0_chk1 v0 v2 v5) (k0_t2 : Fin (k0_t2_loop v2 v5).trips), ∀ (k0_h31 : k0_cond31 v2 v5 k0_t2 = 1#1), ∀ a, (k0_off86 v2 v5 k0_t2) a + S2x256x256.size a ≤ S2x140288x256.size a := fun v0 v2 v5 k0_hw1 k0_t2 k0_h31 => k0_hw1.2.2.2.2.1.2.1 k0_t2 k0_h31
theorem k0_off87_inb : ∀ (v0 : BitVec 32) (v2 : BitVec 32) (v5 : BitVec 32) (k0_hw1 : k0_chk1 v0 v2 v5) (k0_t2 : Fin (k0_t2_loop v2 v5).trips), ∀ (k0_h31 : k0_cond31 v2 v5 k0_t2 = 1#1), ∀ a, (k0_off87 v2 v5 k0_t2) a + S1x2x256x256.size a ≤ S8x2x256x256.size a := fun v0 v2 v5 k0_hw1 k0_t2 k0_h31 => k0_hw1.2.2.2.2.1.2.2.1 k0_t2 k0_h31
theorem k0_off88_inb : ∀ (v0 : BitVec 32) (v2 : BitVec 32) (v5 : BitVec 32) (k0_hw1 : k0_chk1 v0 v2 v5) (k0_t2 : Fin (k0_t2_loop v2 v5).trips), ∀ (r : Fin 4), ∀ a, (k0_off88 v2 v5 k0_t2 (BitVec.ofNat 32 r.val)) a + S1x1x256x256.size a ≤ S8x2x256x256.size a := fun v0 v2 v5 k0_hw1 k0_t2 r => k0_hw1.2.2.2.2.1.2.2.2.1 k0_t2 r
theorem k0_off89_inb : ∀ (v0 : BitVec 32) (v2 : BitVec 32) (v5 : BitVec 32) (k0_hw1 : k0_chk1 v0 v2 v5) (k0_t2 : Fin (k0_t2_loop v2 v5).trips), ∀ (r : Fin 4), ∀ a, (k0_off89 v2 v5 k0_t2 (BitVec.ofNat 32 r.val)) a + S1x1x256x256.size a ≤ S8x2x256x256.size a := fun v0 v2 v5 k0_hw1 k0_t2 r => k0_hw1.2.2.2.2.1.2.2.2.2.1 k0_t2 r
theorem k0_mult49_dvd : ∀ (v0 : BitVec 32) (v2 : BitVec 32) (v5 : BitVec 32) (k0_hw1 : k0_chk1 v0 v2 v5) (k0_t2 : Fin (k0_t2_loop v2 v5).trips), 256 ∣ (k0_mult49 v2 v5 k0_t2).toNat := fun v0 v2 v5 k0_hw1 k0_t2 => k0_hw1.2.2.2.2.1.2.2.2.2.2.1 k0_t2
theorem k0_mult50_dvd : ∀ (v0 : BitVec 32) (v2 : BitVec 32) (v5 : BitVec 32) (k0_hw1 : k0_chk1 v0 v2 v5) (k0_t2 : Fin (k0_t2_loop v2 v5).trips), 256 ∣ (k0_mult50 v2 v5 k0_t2).toNat := fun v0 v2 v5 k0_hw1 k0_t2 => k0_hw1.2.2.2.2.1.2.2.2.2.2.2.1 k0_t2
theorem k0_mult51_dvd : ∀ (v0 : BitVec 32) (v2 : BitVec 32) (v5 : BitVec 32) (k0_hw1 : k0_chk1 v0 v2 v5) (k0_t2 : Fin (k0_t2_loop v2 v5).trips), 256 ∣ (k0_mult51 v2 v5 k0_t2).toNat := fun v0 v2 v5 k0_hw1 k0_t2 => k0_hw1.2.2.2.2.1.2.2.2.2.2.2.2.1 k0_t2
theorem k0_mult52_dvd : ∀ (v0 : BitVec 32) (v2 : BitVec 32) (v5 : BitVec 32) (k0_hw1 : k0_chk1 v0 v2 v5) (k0_t2 : Fin (k0_t2_loop v2 v5).trips), 256 ∣ (k0_mult52 v2 v5 k0_t2).toNat := fun v0 v2 v5 k0_hw1 k0_t2 => k0_hw1.2.2.2.2.1.2.2.2.2.2.2.2.2.1 k0_t2
theorem k0_mult53_dvd : ∀ (v0 : BitVec 32) (v2 : BitVec 32) (v5 : BitVec 32) (k0_hw1 : k0_chk1 v0 v2 v5), ∀ (k0_h32 : k0_cond32 v2 v5 = 1#1), 256 ∣ (k0_mult53 v2 v5).toNat := fun v0 v2 v5 k0_hw1 k0_h32 => k0_hw1.2.2.2.2.1.2.2.2.2.2.2.2.2.2.1 k0_h32
theorem k0_off90_inb : ∀ (v0 : BitVec 32) (v2 : BitVec 32) (v5 : BitVec 32) (k0_hw1 : k0_chk1 v0 v2 v5), ∀ (k0_h32 : k0_cond32 v2 v5 = 1#1), ∀ (r : Fin 2), ∀ a, (k0_off90 v2 v5 (BitVec.ofNat 32 r.val)) a + S1.size a ≤ S8.size a := fun v0 v2 v5 k0_hw1 k0_h32 r => k0_hw1.2.2.2.2.1.2.2.2.2.2.2.2.2.2.2.1 k0_h32 r
theorem k0_off91_inb : ∀ (v0 : BitVec 32) (v2 : BitVec 32) (v5 : BitVec 32) (k0_hw1 : k0_chk1 v0 v2 v5), ∀ (k0_h32 : k0_cond32 v2 v5 = 1#1), ∀ (r : Fin 2), ∀ a, (k0_off91 v2 v5 (BitVec.ofNat 32 r.val)) a + S1x2x256x256.size a ≤ S8x2x256x256.size a := fun v0 v2 v5 k0_hw1 k0_h32 r => k0_hw1.2.2.2.2.1.2.2.2.2.2.2.2.2.2.2.2.1 k0_h32 r
theorem k0_off92_inb : ∀ (v0 : BitVec 32) (v2 : BitVec 32) (v5 : BitVec 32) (k0_hw1 : k0_chk1 v0 v2 v5), ∀ (k0_h32 : k0_cond32 v2 v5 = 1#1), ∀ (r : Fin 2), ∀ a, (k0_off92 v2 v5 (BitVec.ofNat 32 r.val)) a + S2x256x256.size a ≤ S2x140288x256.size a := fun v0 v2 v5 k0_hw1 k0_h32 r => k0_hw1.2.2.2.2.1.2.2.2.2.2.2.2.2.2.2.2.2.1 k0_h32 r
theorem k0_mult54_dvd : ∀ (v0 : BitVec 32) (v2 : BitVec 32) (v5 : BitVec 32) (k0_hw1 : k0_chk1 v0 v2 v5), ∀ (k0_h32 : k0_cond32 v2 v5 = 1#1), 256 ∣ (k0_mult54 v2 v5).toNat := fun v0 v2 v5 k0_hw1 k0_h32 => k0_hw1.2.2.2.2.1.2.2.2.2.2.2.2.2.2.2.2.2.2.1 k0_h32
theorem k0_mult55_dvd : ∀ (v0 : BitVec 32) (v2 : BitVec 32) (v5 : BitVec 32) (k0_hw1 : k0_chk1 v0 v2 v5), ∀ (k0_h32 : k0_cond32 v2 v5 = 1#1), ∀ (k0_h33 : k0_cond33 v0 v2 v5 = 1#1), 256 ∣ (k0_mult55 v2 v5).toNat := fun v0 v2 v5 k0_hw1 k0_h32 k0_h33 => k0_hw1.2.2.2.2.1.2.2.2.2.2.2.2.2.2.2.2.2.2.2.1 k0_h32 k0_h33
theorem k0_off93_inb : ∀ (v0 : BitVec 32) (v2 : BitVec 32) (v5 : BitVec 32) (k0_hw1 : k0_chk1 v0 v2 v5), ∀ (k0_h32 : k0_cond32 v2 v5 = 1#1), ∀ (k0_h33 : k0_cond33 v0 v2 v5 = 1#1), ∀ a, (k0_off93 v2 v5) a + S1.size a ≤ S8.size a := fun v0 v2 v5 k0_hw1 k0_h32 k0_h33 => k0_hw1.2.2.2.2.1.2.2.2.2.2.2.2.2.2.2.2.2.2.2.2.1 k0_h32 k0_h33
theorem k0_off94_inb : ∀ (v0 : BitVec 32) (v2 : BitVec 32) (v5 : BitVec 32) (k0_hw1 : k0_chk1 v0 v2 v5), ∀ (k0_h32 : k0_cond32 v2 v5 = 1#1), ∀ (k0_h33 : k0_cond33 v0 v2 v5 = 1#1), ∀ a, (k0_off94 v2 v5) a + S1x2x256x256.size a ≤ S8x2x256x256.size a := fun v0 v2 v5 k0_hw1 k0_h32 k0_h33 => k0_hw1.2.2.2.2.1.2.2.2.2.2.2.2.2.2.2.2.2.2.2.2.2.1 k0_h32 k0_h33
theorem k0_off95_inb : ∀ (v0 : BitVec 32) (v2 : BitVec 32) (v5 : BitVec 32) (k0_hw1 : k0_chk1 v0 v2 v5), ∀ (k0_h32 : k0_cond32 v2 v5 = 1#1), ∀ (k0_h33 : k0_cond33 v0 v2 v5 = 1#1), ∀ a, (k0_off95 v2 v5) a + S2x256x256.size a ≤ S2x140288x256.size a := fun v0 v2 v5 k0_hw1 k0_h32 k0_h33 => k0_hw1.2.2.2.2.1.2.2.2.2.2.2.2.2.2.2.2.2.2.2.2.2.2.1 k0_h32 k0_h33
theorem k0_mult56_dvd : ∀ (v0 : BitVec 32) (v2 : BitVec 32) (v5 : BitVec 32) (k0_hw1 : k0_chk1 v0 v2 v5), ∀ (k0_h32 : k0_cond32 v2 v5 = 1#1), ∀ (k0_h34 : k0_cond34 v0 v2 v5 = 1#1), 256 ∣ (k0_mult56 v2 v5).toNat := fun v0 v2 v5 k0_hw1 k0_h32 k0_h34 => k0_hw1.2.2.2.2.1.2.2.2.2.2.2.2.2.2.2.2.2.2.2.2.2.2.2.1 k0_h32 k0_h34
theorem k0_off96_inb : ∀ (v0 : BitVec 32) (v2 : BitVec 32) (v5 : BitVec 32) (k0_hw1 : k0_chk1 v0 v2 v5), ∀ (k0_h32 : k0_cond32 v2 v5 = 1#1), ∀ (k0_h34 : k0_cond34 v0 v2 v5 = 1#1), ∀ a, (k0_off96 v2 v5) a + S1.size a ≤ S8.size a := fun v0 v2 v5 k0_hw1 k0_h32 k0_h34 => k0_hw1.2.2.2.2.1.2.2.2.2.2.2.2.2.2.2.2.2.2.2.2.2.2.2.2.1 k0_h32 k0_h34
theorem k0_off97_inb : ∀ (v0 : BitVec 32) (v2 : BitVec 32) (v5 : BitVec 32) (k0_hw1 : k0_chk1 v0 v2 v5), ∀ (k0_h32 : k0_cond32 v2 v5 = 1#1), ∀ (k0_h34 : k0_cond34 v0 v2 v5 = 1#1), ∀ a, (k0_off97 v2 v5) a + S1x2x256x256.size a ≤ S8x2x256x256.size a := fun v0 v2 v5 k0_hw1 k0_h32 k0_h34 => k0_hw1.2.2.2.2.1.2.2.2.2.2.2.2.2.2.2.2.2.2.2.2.2.2.2.2.2.1 k0_h32 k0_h34
theorem k0_off98_inb : ∀ (v0 : BitVec 32) (v2 : BitVec 32) (v5 : BitVec 32) (k0_hw1 : k0_chk1 v0 v2 v5), ∀ (k0_h32 : k0_cond32 v2 v5 = 1#1), ∀ (k0_h34 : k0_cond34 v0 v2 v5 = 1#1), ∀ a, (k0_off98 v2 v5) a + S2x256x256.size a ≤ S2x140288x256.size a := fun v0 v2 v5 k0_hw1 k0_h32 k0_h34 => k0_hw1.2.2.2.2.1.2.2.2.2.2.2.2.2.2.2.2.2.2.2.2.2.2.2.2.2.2.1 k0_h32 k0_h34
theorem k0_mult57_dvd : ∀ (v0 : BitVec 32) (v2 : BitVec 32) (v5 : BitVec 32) (k0_hw1 : k0_chk1 v0 v2 v5), ∀ (k0_h32 : k0_cond32 v2 v5 = 1#1), ∀ (k0_h35 : k0_cond35 v2 v5 = 1#1), 256 ∣ (k0_mult57 v2 v5).toNat := fun v0 v2 v5 k0_hw1 k0_h32 k0_h35 => k0_hw1.2.2.2.2.1.2.2.2.2.2.2.2.2.2.2.2.2.2.2.2.2.2.2.2.2.2.2.1 k0_h32 k0_h35
theorem k0_off99_inb : ∀ (v0 : BitVec 32) (v2 : BitVec 32) (v5 : BitVec 32) (k0_hw1 : k0_chk1 v0 v2 v5), ∀ (k0_h32 : k0_cond32 v2 v5 = 1#1), ∀ (k0_h35 : k0_cond35 v2 v5 = 1#1), ∀ a, (k0_off99 v2 v5) a + S1.size a ≤ S8.size a := fun v0 v2 v5 k0_hw1 k0_h32 k0_h35 => k0_hw1.2.2.2.2.1.2.2.2.2.2.2.2.2.2.2.2.2.2.2.2.2.2.2.2.2.2.2.2.1 k0_h32 k0_h35
theorem k0_off100_inb : ∀ (v0 : BitVec 32) (v2 : BitVec 32) (v5 : BitVec 32) (k0_hw1 : k0_chk1 v0 v2 v5), ∀ (k0_h32 : k0_cond32 v2 v5 = 1#1), ∀ (k0_h35 : k0_cond35 v2 v5 = 1#1), ∀ a, (k0_off100 v2 v5) a + S2x256x256.size a ≤ S2x140288x256.size a := fun v0 v2 v5 k0_hw1 k0_h32 k0_h35 => k0_hw1.2.2.2.2.1.2.2.2.2.2.2.2.2.2.2.2.2.2.2.2.2.2.2.2.2.2.2.2.2.1 k0_h32 k0_h35
theorem k0_off101_inb : ∀ (v0 : BitVec 32) (v2 : BitVec 32) (v5 : BitVec 32) (k0_hw1 : k0_chk1 v0 v2 v5), ∀ (k0_h32 : k0_cond32 v2 v5 = 1#1), ∀ (k0_h35 : k0_cond35 v2 v5 = 1#1), ∀ a, (k0_off101 v2 v5) a + S1x2x256x256.size a ≤ S8x2x256x256.size a := fun v0 v2 v5 k0_hw1 k0_h32 k0_h35 => k0_hw1.2.2.2.2.1.2.2.2.2.2.2.2.2.2.2.2.2.2.2.2.2.2.2.2.2.2.2.2.2.2.1 k0_h32 k0_h35
theorem k0_mult58_dvd : ∀ (v0 : BitVec 32) (v2 : BitVec 32) (v5 : BitVec 32) (k0_hw1 : k0_chk1 v0 v2 v5), ∀ (k0_h32 : k0_cond32 v2 v5 = 1#1), ∀ (k0_h36 : k0_cond36 v2 v5 = 1#1), 256 ∣ (k0_mult58 v2 v5).toNat := fun v0 v2 v5 k0_hw1 k0_h32 k0_h36 => k0_hw1.2.2.2.2.1.2.2.2.2.2.2.2.2.2.2.2.2.2.2.2.2.2.2.2.2.2.2.2.2.2.2.1 k0_h32 k0_h36
theorem k0_off102_inb : ∀ (v0 : BitVec 32) (v2 : BitVec 32) (v5 : BitVec 32) (k0_hw1 : k0_chk1 v0 v2 v5), ∀ (k0_h32 : k0_cond32 v2 v5 = 1#1), ∀ (k0_h36 : k0_cond36 v2 v5 = 1#1), ∀ a, (k0_off102 v2 v5) a + S1.size a ≤ S8.size a := fun v0 v2 v5 k0_hw1 k0_h32 k0_h36 => k0_hw1.2.2.2.2.1.2.2.2.2.2.2.2.2.2.2.2.2.2.2.2.2.2.2.2.2.2.2.2.2.2.2.2.1 k0_h32 k0_h36
theorem k0_off103_inb : ∀ (v0 : BitVec 32) (v2 : BitVec 32) (v5 : BitVec 32) (k0_hw1 : k0_chk1 v0 v2 v5), ∀ (k0_h32 : k0_cond32 v2 v5 = 1#1), ∀ (k0_h36 : k0_cond36 v2 v5 = 1#1), ∀ a, (k0_off103 v2 v5) a + S2x256x256.size a ≤ S2x140288x256.size a := fun v0 v2 v5 k0_hw1 k0_h32 k0_h36 => k0_hw1.2.2.2.2.1.2.2.2.2.2.2.2.2.2.2.2.2.2.2.2.2.2.2.2.2.2.2.2.2.2.2.2.2.1 k0_h32 k0_h36
theorem k0_off104_inb : ∀ (v0 : BitVec 32) (v2 : BitVec 32) (v5 : BitVec 32) (k0_hw1 : k0_chk1 v0 v2 v5), ∀ (k0_h32 : k0_cond32 v2 v5 = 1#1), ∀ (k0_h36 : k0_cond36 v2 v5 = 1#1), ∀ a, (k0_off104 v2 v5) a + S1x2x256x256.size a ≤ S8x2x256x256.size a := fun v0 v2 v5 k0_hw1 k0_h32 k0_h36 => k0_hw1.2.2.2.2.1.2.2.2.2.2.2.2.2.2.2.2.2.2.2.2.2.2.2.2.2.2.2.2.2.2.2.2.2.2.1 k0_h32 k0_h36
theorem k0_off105_inb : ∀ (v0 : BitVec 32) (v2 : BitVec 32) (v5 : BitVec 32) (k0_hw1 : k0_chk1 v0 v2 v5), ∀ (k0_h32 : k0_cond32 v2 v5 = 1#1), ∀ (r : Fin 2), ∀ a, (k0_off105 v2 v5 (BitVec.ofNat 32 r.val)) a + S1x1x256x256.size a ≤ S8x2x256x256.size a := fun v0 v2 v5 k0_hw1 k0_h32 r => k0_hw1.2.2.2.2.1.2.2.2.2.2.2.2.2.2.2.2.2.2.2.2.2.2.2.2.2.2.2.2.2.2.2.2.2.2.2.1 k0_h32 r
theorem k0_off106_inb : ∀ (v0 : BitVec 32) (v2 : BitVec 32) (v5 : BitVec 32) (k0_hw1 : k0_chk1 v0 v2 v5), ∀ (k0_h32 : k0_cond32 v2 v5 = 1#1), ∀ (r : Fin 2), ∀ a, (k0_off106 v2 v5 (BitVec.ofNat 32 r.val)) a + S1x1x256x256.size a ≤ S8x2x256x256.size a := fun v0 v2 v5 k0_hw1 k0_h32 r => k0_hw1.2.2.2.2.1.2.2.2.2.2.2.2.2.2.2.2.2.2.2.2.2.2.2.2.2.2.2.2.2.2.2.2.2.2.2.2 k0_h32 r
theorem k0_mult59_dvd : ∀ (v0 : BitVec 32) (v2 : BitVec 32) (v5 : BitVec 32) (k0_hw1 : k0_chk1 v0 v2 v5), ∀ (k0_h32 : k0_cond32 v2 v5 = 1#1), 256 ∣ (k0_mult59 v2 v5).toNat := fun v0 v2 v5 k0_hw1 k0_h32 => k0_hw1.2.2.2.2.2.1 k0_h32
theorem k0_mult60_dvd : ∀ (v0 : BitVec 32) (v2 : BitVec 32) (v5 : BitVec 32) (k0_hw1 : k0_chk1 v0 v2 v5), ∀ (k0_h32 : k0_cond32 v2 v5 = 1#1), 256 ∣ (k0_mult60 v2 v5).toNat := fun v0 v2 v5 k0_hw1 k0_h32 => k0_hw1.2.2.2.2.2.2.1 k0_h32
theorem k0_mult61_dvd : ∀ (v0 : BitVec 32) (v2 : BitVec 32) (v5 : BitVec 32) (k0_hw1 : k0_chk1 v0 v2 v5), ∀ (k0_h37 : k0_cond37 v2 v5 = 1#1), 256 ∣ (k0_mult61 v2 v5).toNat := fun v0 v2 v5 k0_hw1 k0_h37 => k0_hw1.2.2.2.2.2.2.2.1 k0_h37
theorem k0_off107_inb : ∀ (v0 : BitVec 32) (v2 : BitVec 32) (v5 : BitVec 32) (k0_hw1 : k0_chk1 v0 v2 v5), ∀ (k0_h37 : k0_cond37 v2 v5 = 1#1), ∀ a, (k0_off107 v2 v5) a + S1.size a ≤ S8.size a := fun v0 v2 v5 k0_hw1 k0_h37 => k0_hw1.2.2.2.2.2.2.2.2.1 k0_h37
theorem k0_off108_inb : ∀ (v0 : BitVec 32) (v2 : BitVec 32) (v5 : BitVec 32) (k0_hw1 : k0_chk1 v0 v2 v5), ∀ (k0_h37 : k0_cond37 v2 v5 = 1#1), ∀ a, (k0_off108 v2 v5) a + S1x2x256x256.size a ≤ S8x2x256x256.size a := fun v0 v2 v5 k0_hw1 k0_h37 => k0_hw1.2.2.2.2.2.2.2.2.2.1 k0_h37
theorem k0_off109_inb : ∀ (v0 : BitVec 32) (v2 : BitVec 32) (v5 : BitVec 32) (k0_hw1 : k0_chk1 v0 v2 v5), ∀ (k0_h37 : k0_cond37 v2 v5 = 1#1), ∀ a, (k0_off109 v2 v5) a + S2x256x256.size a ≤ S2x140288x256.size a := fun v0 v2 v5 k0_hw1 k0_h37 => k0_hw1.2.2.2.2.2.2.2.2.2.2.1 k0_h37
theorem k0_mult62_dvd : ∀ (v0 : BitVec 32) (v2 : BitVec 32) (v5 : BitVec 32) (k0_hw1 : k0_chk1 v0 v2 v5), ∀ (k0_h37 : k0_cond37 v2 v5 = 1#1), ∀ (k0_h38 : k0_cond38 v0 v2 v5 = 1#1), 256 ∣ (k0_mult62 v2 v5).toNat := fun v0 v2 v5 k0_hw1 k0_h37 k0_h38 => k0_hw1.2.2.2.2.2.2.2.2.2.2.2.1 k0_h37 k0_h38
theorem k0_off110_inb : ∀ (v0 : BitVec 32) (v2 : BitVec 32) (v5 : BitVec 32) (k0_hw1 : k0_chk1 v0 v2 v5), ∀ (k0_h37 : k0_cond37 v2 v5 = 1#1), ∀ (k0_h38 : k0_cond38 v0 v2 v5 = 1#1), ∀ a, (k0_off110 v2 v5) a + S1.size a ≤ S8.size a := fun v0 v2 v5 k0_hw1 k0_h37 k0_h38 => k0_hw1.2.2.2.2.2.2.2.2.2.2.2.2.1 k0_h37 k0_h38
theorem k0_off111_inb : ∀ (v0 : BitVec 32) (v2 : BitVec 32) (v5 : BitVec 32) (k0_hw1 : k0_chk1 v0 v2 v5), ∀ (k0_h37 : k0_cond37 v2 v5 = 1#1), ∀ (k0_h38 : k0_cond38 v0 v2 v5 = 1#1), ∀ a, (k0_off111 v2 v5) a + S1x2x256x256.size a ≤ S8x2x256x256.size a := fun v0 v2 v5 k0_hw1 k0_h37 k0_h38 => k0_hw1.2.2.2.2.2.2.2.2.2.2.2.2.2.1 k0_h37 k0_h38
theorem k0_off112_inb : ∀ (v0 : BitVec 32) (v2 : BitVec 32) (v5 : BitVec 32) (k0_hw1 : k0_chk1 v0 v2 v5), ∀ (k0_h37 : k0_cond37 v2 v5 = 1#1), ∀ (k0_h38 : k0_cond38 v0 v2 v5 = 1#1), ∀ a, (k0_off112 v2 v5) a + S2x256x256.size a ≤ S2x140288x256.size a := fun v0 v2 v5 k0_hw1 k0_h37 k0_h38 => k0_hw1.2.2.2.2.2.2.2.2.2.2.2.2.2.2.1 k0_h37 k0_h38
theorem k0_mult63_dvd : ∀ (v0 : BitVec 32) (v2 : BitVec 32) (v5 : BitVec 32) (k0_hw1 : k0_chk1 v0 v2 v5), ∀ (k0_h37 : k0_cond37 v2 v5 = 1#1), ∀ (k0_h39 : k0_cond39 v2 v5 = 1#1), 256 ∣ (k0_mult63 v2 v5).toNat := fun v0 v2 v5 k0_hw1 k0_h37 k0_h39 => k0_hw1.2.2.2.2.2.2.2.2.2.2.2.2.2.2.2.1 k0_h37 k0_h39
theorem k0_off113_inb : ∀ (v0 : BitVec 32) (v2 : BitVec 32) (v5 : BitVec 32) (k0_hw1 : k0_chk1 v0 v2 v5), ∀ (k0_h37 : k0_cond37 v2 v5 = 1#1), ∀ (k0_h39 : k0_cond39 v2 v5 = 1#1), ∀ a, (k0_off113 v2 v5) a + S1.size a ≤ S8.size a := fun v0 v2 v5 k0_hw1 k0_h37 k0_h39 => k0_hw1.2.2.2.2.2.2.2.2.2.2.2.2.2.2.2.2.1 k0_h37 k0_h39
theorem k0_off114_inb : ∀ (v0 : BitVec 32) (v2 : BitVec 32) (v5 : BitVec 32) (k0_hw1 : k0_chk1 v0 v2 v5), ∀ (k0_h37 : k0_cond37 v2 v5 = 1#1), ∀ (k0_h39 : k0_cond39 v2 v5 = 1#1), ∀ a, (k0_off114 v2 v5) a + S2x256x256.size a ≤ S2x140288x256.size a := fun v0 v2 v5 k0_hw1 k0_h37 k0_h39 => k0_hw1.2.2.2.2.2.2.2.2.2.2.2.2.2.2.2.2.2.1 k0_h37 k0_h39
theorem k0_off115_inb : ∀ (v0 : BitVec 32) (v2 : BitVec 32) (v5 : BitVec 32) (k0_hw1 : k0_chk1 v0 v2 v5), ∀ (k0_h37 : k0_cond37 v2 v5 = 1#1), ∀ (k0_h39 : k0_cond39 v2 v5 = 1#1), ∀ a, (k0_off115 v2 v5) a + S1x2x256x256.size a ≤ S8x2x256x256.size a := fun v0 v2 v5 k0_hw1 k0_h37 k0_h39 => k0_hw1.2.2.2.2.2.2.2.2.2.2.2.2.2.2.2.2.2.2.1 k0_h37 k0_h39
theorem k0_off116_inb : ∀ (v0 : BitVec 32) (v2 : BitVec 32) (v5 : BitVec 32) (k0_hw1 : k0_chk1 v0 v2 v5), ∀ (k0_h37 : k0_cond37 v2 v5 = 1#1), ∀ a, (k0_off116 v2 v5) a + S1x1x256x256.size a ≤ S8x2x256x256.size a := fun v0 v2 v5 k0_hw1 k0_h37 => k0_hw1.2.2.2.2.2.2.2.2.2.2.2.2.2.2.2.2.2.2.2.1 k0_h37
theorem k0_off117_inb : ∀ (v0 : BitVec 32) (v2 : BitVec 32) (v5 : BitVec 32) (k0_hw1 : k0_chk1 v0 v2 v5), ∀ (k0_h37 : k0_cond37 v2 v5 = 1#1), ∀ a, (k0_off117 v2 v5) a + S1x1x256x256.size a ≤ S8x2x256x256.size a := fun v0 v2 v5 k0_hw1 k0_h37 => k0_hw1.2.2.2.2.2.2.2.2.2.2.2.2.2.2.2.2.2.2.2.2.1 k0_h37
theorem k0_mult64_dvd : ∀ (v0 : BitVec 32) (v2 : BitVec 32) (v5 : BitVec 32) (k0_hw1 : k0_chk1 v0 v2 v5), ∀ (k0_h37 : k0_cond37 v2 v5 = 1#1), 256 ∣ (k0_mult64 v2 v5).toNat := fun v0 v2 v5 k0_hw1 k0_h37 => k0_hw1.2.2.2.2.2.2.2.2.2.2.2.2.2.2.2.2.2.2.2.2.2 k0_h37

def k0_cond40 (i : grid0.Coords) : BitVec 1 :=
  let arg0 : BitVec 32 := BitVec.ofNat 32 (i 0).val
  let c31_i32 : BitVec 32 := 31#32
  let v131 : BitVec 1 := Scalar.cmpi .eq arg0 c31_i32
  let v132 : BitVec 32 := Scalar.extui v131
  let c0_i32_63 : BitVec 32 := 0#32
  let v133 : BitVec 1 := Scalar.cmpi .ne v132 c0_i32_63
  v133

def k0_mult65 (v0 : BitVec 32) : BitVec 32 :=
  let c8_i32_75 : BitVec 32 := 8#32
  let v158 : BitVec 32 := Scalar.subi v0 c8_i32_75
  let c256_i32 : BitVec 32 := 256#32
  let v170 : BitVec 32 := Scalar.muli v158 c256_i32
  v170
def k0_cond41 (v0 : BitVec 32) : BitVec 1 :=
  let c8_i32 : BitVec 32 := 8#32
  let v134 : BitVec 1 := Scalar.cmpi .sge v0 c8_i32
  let v135 : BitVec 32 := Scalar.extui v134
  let c0_i32_64 : BitVec 32 := 0#32
  let v136 : BitVec 1 := Scalar.cmpi .ne v135 c0_i32_64
  v136

def k0_off118 (v0 : BitVec 32) : Fin 1 → Nat :=
  let c8_i32_76 : BitVec 32 := 8#32
  let v159 : BitVec 32 := Scalar.subi v0 c8_i32_76
  let c8_i32_77 : BitVec 32 := 8#32
  let c0_i32_78 : BitVec 32 := 0#32
  let v160 : BitVec 1 := Scalar.cmpi .eq c8_i32_77 c0_i32_78
  let c1_i32_79 : BitVec 32 := 1#32
  let v161 : BitVec 32 := Scalar.select v160 c1_i32_79 c8_i32_77
  let v162 : BitVec 32 := Scalar.remsi v159 v161
  let c0_i32_81 : BitVec 32 := 0#32
  let v164 : BitVec 1 := Scalar.cmpi .slt v162 c0_i32_81
  let c0_i32_82 : BitVec 32 := 0#32
  let v165 : BitVec 1 := Scalar.cmpi .slt v161 c0_i32_82
  let v166 : BitVec 1 := Scalar.xori v164 v165
  let c0_i32_80 : BitVec 32 := 0#32
  let v163 : BitVec 1 := Scalar.cmpi .ne v162 c0_i32_80
  let v167 : BitVec 1 := Scalar.andi v166 v163
  let v168 : BitVec 32 := Scalar.addi v162 v161
  let v169 : BitVec 32 := Scalar.select v167 v168 v162
  ![v169.toNat]
def k0_off119 (v0 : BitVec 32) : Fin 3 → Nat :=
  let c0_i32_83 : BitVec 32 := 0#32
  let c8_i32_75 : BitVec 32 := 8#32
  let v158 : BitVec 32 := Scalar.subi v0 c8_i32_75
  let c256_i32 : BitVec 32 := 256#32
  let v170 : BitVec 32 := Scalar.muli v158 c256_i32
  let v171 : BitVec 32 := v170
  let c0_i32_84 : BitVec 32 := 0#32
  ![0, v171.toNat, 0]
def k0_off120 (v0 : BitVec 32) : Fin 4 → Nat :=
  let c8_i32_76 : BitVec 32 := 8#32
  let v159 : BitVec 32 := Scalar.subi v0 c8_i32_76
  let c8_i32_77 : BitVec 32 := 8#32
  let c0_i32_78 : BitVec 32 := 0#32
  let v160 : BitVec 1 := Scalar.cmpi .eq c8_i32_77 c0_i32_78
  let c1_i32_79 : BitVec 32 := 1#32
  let v161 : BitVec 32 := Scalar.select v160 c1_i32_79 c8_i32_77
  let v162 : BitVec 32 := Scalar.remsi v159 v161
  let c0_i32_81 : BitVec 32 := 0#32
  let v164 : BitVec 1 := Scalar.cmpi .slt v162 c0_i32_81
  let c0_i32_82 : BitVec 32 := 0#32
  let v165 : BitVec 1 := Scalar.cmpi .slt v161 c0_i32_82
  let v166 : BitVec 1 := Scalar.xori v164 v165
  let c0_i32_80 : BitVec 32 := 0#32
  let v163 : BitVec 1 := Scalar.cmpi .ne v162 c0_i32_80
  let v167 : BitVec 1 := Scalar.andi v166 v163
  let v168 : BitVec 32 := Scalar.addi v162 v161
  let v169 : BitVec 32 := Scalar.select v167 v168 v162
  let c0_i32_85 : BitVec 32 := 0#32
  let c0_i32_86 : BitVec 32 := 0#32
  let c0_i32_87 : BitVec 32 := 0#32
  ![v169.toNat, 0, 0, 0]
def k0_mult66 (v0 : BitVec 32) : BitVec 32 :=
  let c7_i32_75 : BitVec 32 := 7#32
  let v158 : BitVec 32 := Scalar.subi v0 c7_i32_75
  let c256_i32 : BitVec 32 := 256#32
  let v170 : BitVec 32 := Scalar.muli v158 c256_i32
  v170
def k0_cond42 (v0 : BitVec 32) : BitVec 1 :=
  let c7_i32 : BitVec 32 := 7#32
  let v137 : BitVec 1 := Scalar.cmpi .sge v0 c7_i32
  let v138 : BitVec 32 := Scalar.extui v137
  let c0_i32_65 : BitVec 32 := 0#32
  let v139 : BitVec 1 := Scalar.cmpi .ne v138 c0_i32_65
  v139

def k0_off121 (v0 : BitVec 32) : Fin 1 → Nat :=
  let c7_i32_76 : BitVec 32 := 7#32
  let v159 : BitVec 32 := Scalar.subi v0 c7_i32_76
  let c8_i32_77 : BitVec 32 := 8#32
  let c0_i32_78 : BitVec 32 := 0#32
  let v160 : BitVec 1 := Scalar.cmpi .eq c8_i32_77 c0_i32_78
  let c1_i32_79 : BitVec 32 := 1#32
  let v161 : BitVec 32 := Scalar.select v160 c1_i32_79 c8_i32_77
  let v162 : BitVec 32 := Scalar.remsi v159 v161
  let c0_i32_81 : BitVec 32 := 0#32
  let v164 : BitVec 1 := Scalar.cmpi .slt v162 c0_i32_81
  let c0_i32_82 : BitVec 32 := 0#32
  let v165 : BitVec 1 := Scalar.cmpi .slt v161 c0_i32_82
  let v166 : BitVec 1 := Scalar.xori v164 v165
  let c0_i32_80 : BitVec 32 := 0#32
  let v163 : BitVec 1 := Scalar.cmpi .ne v162 c0_i32_80
  let v167 : BitVec 1 := Scalar.andi v166 v163
  let v168 : BitVec 32 := Scalar.addi v162 v161
  let v169 : BitVec 32 := Scalar.select v167 v168 v162
  ![v169.toNat]
def k0_off122 (v0 : BitVec 32) : Fin 3 → Nat :=
  let c0_i32_83 : BitVec 32 := 0#32
  let c7_i32_75 : BitVec 32 := 7#32
  let v158 : BitVec 32 := Scalar.subi v0 c7_i32_75
  let c256_i32 : BitVec 32 := 256#32
  let v170 : BitVec 32 := Scalar.muli v158 c256_i32
  let v171 : BitVec 32 := v170
  let c0_i32_84 : BitVec 32 := 0#32
  ![0, v171.toNat, 0]
def k0_off123 (v0 : BitVec 32) : Fin 4 → Nat :=
  let c7_i32_76 : BitVec 32 := 7#32
  let v159 : BitVec 32 := Scalar.subi v0 c7_i32_76
  let c8_i32_77 : BitVec 32 := 8#32
  let c0_i32_78 : BitVec 32 := 0#32
  let v160 : BitVec 1 := Scalar.cmpi .eq c8_i32_77 c0_i32_78
  let c1_i32_79 : BitVec 32 := 1#32
  let v161 : BitVec 32 := Scalar.select v160 c1_i32_79 c8_i32_77
  let v162 : BitVec 32 := Scalar.remsi v159 v161
  let c0_i32_81 : BitVec 32 := 0#32
  let v164 : BitVec 1 := Scalar.cmpi .slt v162 c0_i32_81
  let c0_i32_82 : BitVec 32 := 0#32
  let v165 : BitVec 1 := Scalar.cmpi .slt v161 c0_i32_82
  let v166 : BitVec 1 := Scalar.xori v164 v165
  let c0_i32_80 : BitVec 32 := 0#32
  let v163 : BitVec 1 := Scalar.cmpi .ne v162 c0_i32_80
  let v167 : BitVec 1 := Scalar.andi v166 v163
  let v168 : BitVec 32 := Scalar.addi v162 v161
  let v169 : BitVec 32 := Scalar.select v167 v168 v162
  let c0_i32_85 : BitVec 32 := 0#32
  let c0_i32_86 : BitVec 32 := 0#32
  let c0_i32_87 : BitVec 32 := 0#32
  ![v169.toNat, 0, 0, 0]
def k0_mult67 (v0 : BitVec 32) : BitVec 32 :=
  let c6_i32_75 : BitVec 32 := 6#32
  let v158 : BitVec 32 := Scalar.subi v0 c6_i32_75
  let c256_i32 : BitVec 32 := 256#32
  let v170 : BitVec 32 := Scalar.muli v158 c256_i32
  v170
def k0_cond43 (v0 : BitVec 32) : BitVec 1 :=
  let c6_i32 : BitVec 32 := 6#32
  let v140 : BitVec 1 := Scalar.cmpi .sge v0 c6_i32
  let v141 : BitVec 32 := Scalar.extui v140
  let c0_i32_66 : BitVec 32 := 0#32
  let v142 : BitVec 1 := Scalar.cmpi .ne v141 c0_i32_66
  v142

def k0_off124 (v0 : BitVec 32) : Fin 1 → Nat :=
  let c6_i32_76 : BitVec 32 := 6#32
  let v159 : BitVec 32 := Scalar.subi v0 c6_i32_76
  let c8_i32_77 : BitVec 32 := 8#32
  let c0_i32_78 : BitVec 32 := 0#32
  let v160 : BitVec 1 := Scalar.cmpi .eq c8_i32_77 c0_i32_78
  let c1_i32_79 : BitVec 32 := 1#32
  let v161 : BitVec 32 := Scalar.select v160 c1_i32_79 c8_i32_77
  let v162 : BitVec 32 := Scalar.remsi v159 v161
  let c0_i32_81 : BitVec 32 := 0#32
  let v164 : BitVec 1 := Scalar.cmpi .slt v162 c0_i32_81
  let c0_i32_82 : BitVec 32 := 0#32
  let v165 : BitVec 1 := Scalar.cmpi .slt v161 c0_i32_82
  let v166 : BitVec 1 := Scalar.xori v164 v165
  let c0_i32_80 : BitVec 32 := 0#32
  let v163 : BitVec 1 := Scalar.cmpi .ne v162 c0_i32_80
  let v167 : BitVec 1 := Scalar.andi v166 v163
  let v168 : BitVec 32 := Scalar.addi v162 v161
  let v169 : BitVec 32 := Scalar.select v167 v168 v162
  ![v169.toNat]
def k0_off125 (v0 : BitVec 32) : Fin 3 → Nat :=
  let c0_i32_83 : BitVec 32 := 0#32
  let c6_i32_75 : BitVec 32 := 6#32
  let v158 : BitVec 32 := Scalar.subi v0 c6_i32_75
  let c256_i32 : BitVec 32 := 256#32
  let v170 : BitVec 32 := Scalar.muli v158 c256_i32
  let v171 : BitVec 32 := v170
  let c0_i32_84 : BitVec 32 := 0#32
  ![0, v171.toNat, 0]
def k0_off126 (v0 : BitVec 32) : Fin 4 → Nat :=
  let c6_i32_76 : BitVec 32 := 6#32
  let v159 : BitVec 32 := Scalar.subi v0 c6_i32_76
  let c8_i32_77 : BitVec 32 := 8#32
  let c0_i32_78 : BitVec 32 := 0#32
  let v160 : BitVec 1 := Scalar.cmpi .eq c8_i32_77 c0_i32_78
  let c1_i32_79 : BitVec 32 := 1#32
  let v161 : BitVec 32 := Scalar.select v160 c1_i32_79 c8_i32_77
  let v162 : BitVec 32 := Scalar.remsi v159 v161
  let c0_i32_81 : BitVec 32 := 0#32
  let v164 : BitVec 1 := Scalar.cmpi .slt v162 c0_i32_81
  let c0_i32_82 : BitVec 32 := 0#32
  let v165 : BitVec 1 := Scalar.cmpi .slt v161 c0_i32_82
  let v166 : BitVec 1 := Scalar.xori v164 v165
  let c0_i32_80 : BitVec 32 := 0#32
  let v163 : BitVec 1 := Scalar.cmpi .ne v162 c0_i32_80
  let v167 : BitVec 1 := Scalar.andi v166 v163
  let v168 : BitVec 32 := Scalar.addi v162 v161
  let v169 : BitVec 32 := Scalar.select v167 v168 v162
  let c0_i32_85 : BitVec 32 := 0#32
  let c0_i32_86 : BitVec 32 := 0#32
  let c0_i32_87 : BitVec 32 := 0#32
  ![v169.toNat, 0, 0, 0]
def k0_mult68 (v0 : BitVec 32) : BitVec 32 :=
  let c5_i32_75 : BitVec 32 := 5#32
  let v158 : BitVec 32 := Scalar.subi v0 c5_i32_75
  let c256_i32 : BitVec 32 := 256#32
  let v170 : BitVec 32 := Scalar.muli v158 c256_i32
  v170
def k0_cond44 (v0 : BitVec 32) : BitVec 1 :=
  let c5_i32 : BitVec 32 := 5#32
  let v143 : BitVec 1 := Scalar.cmpi .sge v0 c5_i32
  let v144 : BitVec 32 := Scalar.extui v143
  let c0_i32_67 : BitVec 32 := 0#32
  let v145 : BitVec 1 := Scalar.cmpi .ne v144 c0_i32_67
  v145

def k0_off127 (v0 : BitVec 32) : Fin 1 → Nat :=
  let c5_i32_76 : BitVec 32 := 5#32
  let v159 : BitVec 32 := Scalar.subi v0 c5_i32_76
  let c8_i32_77 : BitVec 32 := 8#32
  let c0_i32_78 : BitVec 32 := 0#32
  let v160 : BitVec 1 := Scalar.cmpi .eq c8_i32_77 c0_i32_78
  let c1_i32_79 : BitVec 32 := 1#32
  let v161 : BitVec 32 := Scalar.select v160 c1_i32_79 c8_i32_77
  let v162 : BitVec 32 := Scalar.remsi v159 v161
  let c0_i32_81 : BitVec 32 := 0#32
  let v164 : BitVec 1 := Scalar.cmpi .slt v162 c0_i32_81
  let c0_i32_82 : BitVec 32 := 0#32
  let v165 : BitVec 1 := Scalar.cmpi .slt v161 c0_i32_82
  let v166 : BitVec 1 := Scalar.xori v164 v165
  let c0_i32_80 : BitVec 32 := 0#32
  let v163 : BitVec 1 := Scalar.cmpi .ne v162 c0_i32_80
  let v167 : BitVec 1 := Scalar.andi v166 v163
  let v168 : BitVec 32 := Scalar.addi v162 v161
  let v169 : BitVec 32 := Scalar.select v167 v168 v162
  ![v169.toNat]
def k0_off128 (v0 : BitVec 32) : Fin 3 → Nat :=
  let c0_i32_83 : BitVec 32 := 0#32
  let c5_i32_75 : BitVec 32 := 5#32
  let v158 : BitVec 32 := Scalar.subi v0 c5_i32_75
  let c256_i32 : BitVec 32 := 256#32
  let v170 : BitVec 32 := Scalar.muli v158 c256_i32
  let v171 : BitVec 32 := v170
  let c0_i32_84 : BitVec 32 := 0#32
  ![0, v171.toNat, 0]
def k0_off129 (v0 : BitVec 32) : Fin 4 → Nat :=
  let c5_i32_76 : BitVec 32 := 5#32
  let v159 : BitVec 32 := Scalar.subi v0 c5_i32_76
  let c8_i32_77 : BitVec 32 := 8#32
  let c0_i32_78 : BitVec 32 := 0#32
  let v160 : BitVec 1 := Scalar.cmpi .eq c8_i32_77 c0_i32_78
  let c1_i32_79 : BitVec 32 := 1#32
  let v161 : BitVec 32 := Scalar.select v160 c1_i32_79 c8_i32_77
  let v162 : BitVec 32 := Scalar.remsi v159 v161
  let c0_i32_81 : BitVec 32 := 0#32
  let v164 : BitVec 1 := Scalar.cmpi .slt v162 c0_i32_81
  let c0_i32_82 : BitVec 32 := 0#32
  let v165 : BitVec 1 := Scalar.cmpi .slt v161 c0_i32_82
  let v166 : BitVec 1 := Scalar.xori v164 v165
  let c0_i32_80 : BitVec 32 := 0#32
  let v163 : BitVec 1 := Scalar.cmpi .ne v162 c0_i32_80
  let v167 : BitVec 1 := Scalar.andi v166 v163
  let v168 : BitVec 32 := Scalar.addi v162 v161
  let v169 : BitVec 32 := Scalar.select v167 v168 v162
  let c0_i32_85 : BitVec 32 := 0#32
  let c0_i32_86 : BitVec 32 := 0#32
  let c0_i32_87 : BitVec 32 := 0#32
  ![v169.toNat, 0, 0, 0]
def k0_mult69 (v0 : BitVec 32) : BitVec 32 :=
  let c4_i32_75 : BitVec 32 := 4#32
  let v158 : BitVec 32 := Scalar.subi v0 c4_i32_75
  let c256_i32 : BitVec 32 := 256#32
  let v170 : BitVec 32 := Scalar.muli v158 c256_i32
  v170
def k0_cond45 (v0 : BitVec 32) : BitVec 1 :=
  let c4_i32_68 : BitVec 32 := 4#32
  let v146 : BitVec 1 := Scalar.cmpi .sge v0 c4_i32_68
  let v147 : BitVec 32 := Scalar.extui v146
  let c0_i32_69 : BitVec 32 := 0#32
  let v148 : BitVec 1 := Scalar.cmpi .ne v147 c0_i32_69
  v148

def k0_off130 (v0 : BitVec 32) : Fin 1 → Nat :=
  let c4_i32_76 : BitVec 32 := 4#32
  let v159 : BitVec 32 := Scalar.subi v0 c4_i32_76
  let c8_i32_77 : BitVec 32 := 8#32
  let c0_i32_78 : BitVec 32 := 0#32
  let v160 : BitVec 1 := Scalar.cmpi .eq c8_i32_77 c0_i32_78
  let c1_i32_79 : BitVec 32 := 1#32
  let v161 : BitVec 32 := Scalar.select v160 c1_i32_79 c8_i32_77
  let v162 : BitVec 32 := Scalar.remsi v159 v161
  let c0_i32_81 : BitVec 32 := 0#32
  let v164 : BitVec 1 := Scalar.cmpi .slt v162 c0_i32_81
  let c0_i32_82 : BitVec 32 := 0#32
  let v165 : BitVec 1 := Scalar.cmpi .slt v161 c0_i32_82
  let v166 : BitVec 1 := Scalar.xori v164 v165
  let c0_i32_80 : BitVec 32 := 0#32
  let v163 : BitVec 1 := Scalar.cmpi .ne v162 c0_i32_80
  let v167 : BitVec 1 := Scalar.andi v166 v163
  let v168 : BitVec 32 := Scalar.addi v162 v161
  let v169 : BitVec 32 := Scalar.select v167 v168 v162
  ![v169.toNat]
def k0_off131 (v0 : BitVec 32) : Fin 3 → Nat :=
  let c0_i32_83 : BitVec 32 := 0#32
  let c4_i32_75 : BitVec 32 := 4#32
  let v158 : BitVec 32 := Scalar.subi v0 c4_i32_75
  let c256_i32 : BitVec 32 := 256#32
  let v170 : BitVec 32 := Scalar.muli v158 c256_i32
  let v171 : BitVec 32 := v170
  let c0_i32_84 : BitVec 32 := 0#32
  ![0, v171.toNat, 0]
def k0_off132 (v0 : BitVec 32) : Fin 4 → Nat :=
  let c4_i32_76 : BitVec 32 := 4#32
  let v159 : BitVec 32 := Scalar.subi v0 c4_i32_76
  let c8_i32_77 : BitVec 32 := 8#32
  let c0_i32_78 : BitVec 32 := 0#32
  let v160 : BitVec 1 := Scalar.cmpi .eq c8_i32_77 c0_i32_78
  let c1_i32_79 : BitVec 32 := 1#32
  let v161 : BitVec 32 := Scalar.select v160 c1_i32_79 c8_i32_77
  let v162 : BitVec 32 := Scalar.remsi v159 v161
  let c0_i32_81 : BitVec 32 := 0#32
  let v164 : BitVec 1 := Scalar.cmpi .slt v162 c0_i32_81
  let c0_i32_82 : BitVec 32 := 0#32
  let v165 : BitVec 1 := Scalar.cmpi .slt v161 c0_i32_82
  let v166 : BitVec 1 := Scalar.xori v164 v165
  let c0_i32_80 : BitVec 32 := 0#32
  let v163 : BitVec 1 := Scalar.cmpi .ne v162 c0_i32_80
  let v167 : BitVec 1 := Scalar.andi v166 v163
  let v168 : BitVec 32 := Scalar.addi v162 v161
  let v169 : BitVec 32 := Scalar.select v167 v168 v162
  let c0_i32_85 : BitVec 32 := 0#32
  let c0_i32_86 : BitVec 32 := 0#32
  let c0_i32_87 : BitVec 32 := 0#32
  ![v169.toNat, 0, 0, 0]
def k0_mult70 (v0 : BitVec 32) : BitVec 32 :=
  let c3_i32_75 : BitVec 32 := 3#32
  let v158 : BitVec 32 := Scalar.subi v0 c3_i32_75
  let c256_i32 : BitVec 32 := 256#32
  let v170 : BitVec 32 := Scalar.muli v158 c256_i32
  v170
def k0_cond46 (v0 : BitVec 32) : BitVec 1 :=
  let c3_i32 : BitVec 32 := 3#32
  let v149 : BitVec 1 := Scalar.cmpi .sge v0 c3_i32
  let v150 : BitVec 32 := Scalar.extui v149
  let c0_i32_70 : BitVec 32 := 0#32
  let v151 : BitVec 1 := Scalar.cmpi .ne v150 c0_i32_70
  v151

def k0_off133 (v0 : BitVec 32) : Fin 1 → Nat :=
  let c3_i32_76 : BitVec 32 := 3#32
  let v159 : BitVec 32 := Scalar.subi v0 c3_i32_76
  let c8_i32_77 : BitVec 32 := 8#32
  let c0_i32_78 : BitVec 32 := 0#32
  let v160 : BitVec 1 := Scalar.cmpi .eq c8_i32_77 c0_i32_78
  let c1_i32_79 : BitVec 32 := 1#32
  let v161 : BitVec 32 := Scalar.select v160 c1_i32_79 c8_i32_77
  let v162 : BitVec 32 := Scalar.remsi v159 v161
  let c0_i32_81 : BitVec 32 := 0#32
  let v164 : BitVec 1 := Scalar.cmpi .slt v162 c0_i32_81
  let c0_i32_82 : BitVec 32 := 0#32
  let v165 : BitVec 1 := Scalar.cmpi .slt v161 c0_i32_82
  let v166 : BitVec 1 := Scalar.xori v164 v165
  let c0_i32_80 : BitVec 32 := 0#32
  let v163 : BitVec 1 := Scalar.cmpi .ne v162 c0_i32_80
  let v167 : BitVec 1 := Scalar.andi v166 v163
  let v168 : BitVec 32 := Scalar.addi v162 v161
  let v169 : BitVec 32 := Scalar.select v167 v168 v162
  ![v169.toNat]
def k0_off134 (v0 : BitVec 32) : Fin 3 → Nat :=
  let c0_i32_83 : BitVec 32 := 0#32
  let c3_i32_75 : BitVec 32 := 3#32
  let v158 : BitVec 32 := Scalar.subi v0 c3_i32_75
  let c256_i32 : BitVec 32 := 256#32
  let v170 : BitVec 32 := Scalar.muli v158 c256_i32
  let v171 : BitVec 32 := v170
  let c0_i32_84 : BitVec 32 := 0#32
  ![0, v171.toNat, 0]
def k0_off135 (v0 : BitVec 32) : Fin 4 → Nat :=
  let c3_i32_76 : BitVec 32 := 3#32
  let v159 : BitVec 32 := Scalar.subi v0 c3_i32_76
  let c8_i32_77 : BitVec 32 := 8#32
  let c0_i32_78 : BitVec 32 := 0#32
  let v160 : BitVec 1 := Scalar.cmpi .eq c8_i32_77 c0_i32_78
  let c1_i32_79 : BitVec 32 := 1#32
  let v161 : BitVec 32 := Scalar.select v160 c1_i32_79 c8_i32_77
  let v162 : BitVec 32 := Scalar.remsi v159 v161
  let c0_i32_81 : BitVec 32 := 0#32
  let v164 : BitVec 1 := Scalar.cmpi .slt v162 c0_i32_81
  let c0_i32_82 : BitVec 32 := 0#32
  let v165 : BitVec 1 := Scalar.cmpi .slt v161 c0_i32_82
  let v166 : BitVec 1 := Scalar.xori v164 v165
  let c0_i32_80 : BitVec 32 := 0#32
  let v163 : BitVec 1 := Scalar.cmpi .ne v162 c0_i32_80
  let v167 : BitVec 1 := Scalar.andi v166 v163
  let v168 : BitVec 32 := Scalar.addi v162 v161
  let v169 : BitVec 32 := Scalar.select v167 v168 v162
  let c0_i32_85 : BitVec 32 := 0#32
  let c0_i32_86 : BitVec 32 := 0#32
  let c0_i32_87 : BitVec 32 := 0#32
  ![v169.toNat, 0, 0, 0]
def k0_mult71 (v0 : BitVec 32) : BitVec 32 :=
  let c2_i32_75 : BitVec 32 := 2#32
  let v158 : BitVec 32 := Scalar.subi v0 c2_i32_75
  let c256_i32 : BitVec 32 := 256#32
  let v170 : BitVec 32 := Scalar.muli v158 c256_i32
  v170
def k0_cond47 (v0 : BitVec 32) : BitVec 1 :=
  let c2_i32_71 : BitVec 32 := 2#32
  let v152 : BitVec 1 := Scalar.cmpi .sge v0 c2_i32_71
  let v153 : BitVec 32 := Scalar.extui v152
  let c0_i32_72 : BitVec 32 := 0#32
  let v154 : BitVec 1 := Scalar.cmpi .ne v153 c0_i32_72
  v154

def k0_off136 (v0 : BitVec 32) : Fin 1 → Nat :=
  let c2_i32_76 : BitVec 32 := 2#32
  let v159 : BitVec 32 := Scalar.subi v0 c2_i32_76
  let c8_i32_77 : BitVec 32 := 8#32
  let c0_i32_78 : BitVec 32 := 0#32
  let v160 : BitVec 1 := Scalar.cmpi .eq c8_i32_77 c0_i32_78
  let c1_i32_79 : BitVec 32 := 1#32
  let v161 : BitVec 32 := Scalar.select v160 c1_i32_79 c8_i32_77
  let v162 : BitVec 32 := Scalar.remsi v159 v161
  let c0_i32_81 : BitVec 32 := 0#32
  let v164 : BitVec 1 := Scalar.cmpi .slt v162 c0_i32_81
  let c0_i32_82 : BitVec 32 := 0#32
  let v165 : BitVec 1 := Scalar.cmpi .slt v161 c0_i32_82
  let v166 : BitVec 1 := Scalar.xori v164 v165
  let c0_i32_80 : BitVec 32 := 0#32
  let v163 : BitVec 1 := Scalar.cmpi .ne v162 c0_i32_80
  let v167 : BitVec 1 := Scalar.andi v166 v163
  let v168 : BitVec 32 := Scalar.addi v162 v161
  let v169 : BitVec 32 := Scalar.select v167 v168 v162
  ![v169.toNat]
def k0_off137 (v0 : BitVec 32) : Fin 3 → Nat :=
  let c0_i32_83 : BitVec 32 := 0#32
  let c2_i32_75 : BitVec 32 := 2#32
  let v158 : BitVec 32 := Scalar.subi v0 c2_i32_75
  let c256_i32 : BitVec 32 := 256#32
  let v170 : BitVec 32 := Scalar.muli v158 c256_i32
  let v171 : BitVec 32 := v170
  let c0_i32_84 : BitVec 32 := 0#32
  ![0, v171.toNat, 0]
def k0_off138 (v0 : BitVec 32) : Fin 4 → Nat :=
  let c2_i32_76 : BitVec 32 := 2#32
  let v159 : BitVec 32 := Scalar.subi v0 c2_i32_76
  let c8_i32_77 : BitVec 32 := 8#32
  let c0_i32_78 : BitVec 32 := 0#32
  let v160 : BitVec 1 := Scalar.cmpi .eq c8_i32_77 c0_i32_78
  let c1_i32_79 : BitVec 32 := 1#32
  let v161 : BitVec 32 := Scalar.select v160 c1_i32_79 c8_i32_77
  let v162 : BitVec 32 := Scalar.remsi v159 v161
  let c0_i32_81 : BitVec 32 := 0#32
  let v164 : BitVec 1 := Scalar.cmpi .slt v162 c0_i32_81
  let c0_i32_82 : BitVec 32 := 0#32
  let v165 : BitVec 1 := Scalar.cmpi .slt v161 c0_i32_82
  let v166 : BitVec 1 := Scalar.xori v164 v165
  let c0_i32_80 : BitVec 32 := 0#32
  let v163 : BitVec 1 := Scalar.cmpi .ne v162 c0_i32_80
  let v167 : BitVec 1 := Scalar.andi v166 v163
  let v168 : BitVec 32 := Scalar.addi v162 v161
  let v169 : BitVec 32 := Scalar.select v167 v168 v162
  let c0_i32_85 : BitVec 32 := 0#32
  let c0_i32_86 : BitVec 32 := 0#32
  let c0_i32_87 : BitVec 32 := 0#32
  ![v169.toNat, 0, 0, 0]
def k0_mult72 (v0 : BitVec 32) : BitVec 32 :=
  let c1_i32_75 : BitVec 32 := 1#32
  let v158 : BitVec 32 := Scalar.subi v0 c1_i32_75
  let c256_i32 : BitVec 32 := 256#32
  let v170 : BitVec 32 := Scalar.muli v158 c256_i32
  v170
def k0_cond48 (v0 : BitVec 32) : BitVec 1 :=
  let c1_i32_73 : BitVec 32 := 1#32
  let v155 : BitVec 1 := Scalar.cmpi .sge v0 c1_i32_73
  let v156 : BitVec 32 := Scalar.extui v155
  let c0_i32_74 : BitVec 32 := 0#32
  let v157 : BitVec 1 := Scalar.cmpi .ne v156 c0_i32_74
  v157

def k0_off139 (v0 : BitVec 32) : Fin 1 → Nat :=
  let c1_i32_76 : BitVec 32 := 1#32
  let v159 : BitVec 32 := Scalar.subi v0 c1_i32_76
  let c8_i32_77 : BitVec 32 := 8#32
  let c0_i32_78 : BitVec 32 := 0#32
  let v160 : BitVec 1 := Scalar.cmpi .eq c8_i32_77 c0_i32_78
  let c1_i32_79 : BitVec 32 := 1#32
  let v161 : BitVec 32 := Scalar.select v160 c1_i32_79 c8_i32_77
  let v162 : BitVec 32 := Scalar.remsi v159 v161
  let c0_i32_81 : BitVec 32 := 0#32
  let v164 : BitVec 1 := Scalar.cmpi .slt v162 c0_i32_81
  let c0_i32_82 : BitVec 32 := 0#32
  let v165 : BitVec 1 := Scalar.cmpi .slt v161 c0_i32_82
  let v166 : BitVec 1 := Scalar.xori v164 v165
  let c0_i32_80 : BitVec 32 := 0#32
  let v163 : BitVec 1 := Scalar.cmpi .ne v162 c0_i32_80
  let v167 : BitVec 1 := Scalar.andi v166 v163
  let v168 : BitVec 32 := Scalar.addi v162 v161
  let v169 : BitVec 32 := Scalar.select v167 v168 v162
  ![v169.toNat]
def k0_off140 (v0 : BitVec 32) : Fin 3 → Nat :=
  let c0_i32_83 : BitVec 32 := 0#32
  let c1_i32_75 : BitVec 32 := 1#32
  let v158 : BitVec 32 := Scalar.subi v0 c1_i32_75
  let c256_i32 : BitVec 32 := 256#32
  let v170 : BitVec 32 := Scalar.muli v158 c256_i32
  let v171 : BitVec 32 := v170
  let c0_i32_84 : BitVec 32 := 0#32
  ![0, v171.toNat, 0]
def k0_off141 (v0 : BitVec 32) : Fin 4 → Nat :=
  let c1_i32_76 : BitVec 32 := 1#32
  let v159 : BitVec 32 := Scalar.subi v0 c1_i32_76
  let c8_i32_77 : BitVec 32 := 8#32
  let c0_i32_78 : BitVec 32 := 0#32
  let v160 : BitVec 1 := Scalar.cmpi .eq c8_i32_77 c0_i32_78
  let c1_i32_79 : BitVec 32 := 1#32
  let v161 : BitVec 32 := Scalar.select v160 c1_i32_79 c8_i32_77
  let v162 : BitVec 32 := Scalar.remsi v159 v161
  let c0_i32_81 : BitVec 32 := 0#32
  let v164 : BitVec 1 := Scalar.cmpi .slt v162 c0_i32_81
  let c0_i32_82 : BitVec 32 := 0#32
  let v165 : BitVec 1 := Scalar.cmpi .slt v161 c0_i32_82
  let v166 : BitVec 1 := Scalar.xori v164 v165
  let c0_i32_80 : BitVec 32 := 0#32
  let v163 : BitVec 1 := Scalar.cmpi .ne v162 c0_i32_80
  let v167 : BitVec 1 := Scalar.andi v166 v163
  let v168 : BitVec 32 := Scalar.addi v162 v161
  let v169 : BitVec 32 := Scalar.select v167 v168 v162
  let c0_i32_85 : BitVec 32 := 0#32
  let c0_i32_86 : BitVec 32 := 0#32
  let c0_i32_87 : BitVec 32 := 0#32
  ![v169.toNat, 0, 0, 0]

def k0_chk2 (i : grid0.Coords) (v0 : BitVec 32) : Prop :=
  (∀ (k0_h40 : k0_cond40 i = 1#1), ∀ (k0_h41 : k0_cond41 v0 = 1#1), 256 ∣ (k0_mult65 v0).toNat) ∧
  (∀ (k0_h40 : k0_cond40 i = 1#1), ∀ (k0_h41 : k0_cond41 v0 = 1#1), ∀ a, (k0_off118 v0) a + S1.size a ≤ S8.size a) ∧
  (∀ (k0_h40 : k0_cond40 i = 1#1), ∀ (k0_h41 : k0_cond41 v0 = 1#1), ∀ a, (k0_off119 v0) a + S2x256x256.size a ≤ S2x140288x256.size a) ∧
  (∀ (k0_h40 : k0_cond40 i = 1#1), ∀ (k0_h41 : k0_cond41 v0 = 1#1), ∀ a, (k0_off120 v0) a + S1x2x256x256.size a ≤ S8x2x256x256.size a) ∧
  (∀ (k0_h40 : k0_cond40 i = 1#1), ∀ (k0_h42 : k0_cond42 v0 = 1#1), 256 ∣ (k0_mult66 v0).toNat) ∧
  (∀ (k0_h40 : k0_cond40 i = 1#1), ∀ (k0_h42 : k0_cond42 v0 = 1#1), ∀ a, (k0_off121 v0) a + S1.size a ≤ S8.size a) ∧
  (∀ (k0_h40 : k0_cond40 i = 1#1), ∀ (k0_h42 : k0_cond42 v0 = 1#1), ∀ a, (k0_off122 v0) a + S2x256x256.size a ≤ S2x140288x256.size a) ∧
  (∀ (k0_h40 : k0_cond40 i = 1#1), ∀ (k0_h42 : k0_cond42 v0 = 1#1), ∀ a, (k0_off123 v0) a + S1x2x256x256.size a ≤ S8x2x256x256.size a) ∧
  (∀ (k0_h40 : k0_cond40 i = 1#1), ∀ (k0_h43 : k0_cond43 v0 = 1#1), 256 ∣ (k0_mult67 v0).toNat) ∧
  (∀ (k0_h40 : k0_cond40 i = 1#1), ∀ (k0_h43 : k0_cond43 v0 = 1#1), ∀ a, (k0_off124 v0) a + S1.size a ≤ S8.size a) ∧
  (∀ (k0_h40 : k0_cond40 i = 1#1), ∀ (k0_h43 : k0_cond43 v0 = 1#1), ∀ a, (k0_off125 v0) a + S2x256x256.size a ≤ S2x140288x256.size a) ∧
  (∀ (k0_h40 : k0_cond40 i = 1#1), ∀ (k0_h43 : k0_cond43 v0 = 1#1), ∀ a, (k0_off126 v0) a + S1x2x256x256.size a ≤ S8x2x256x256.size a) ∧
  (∀ (k0_h40 : k0_cond40 i = 1#1), ∀ (k0_h44 : k0_cond44 v0 = 1#1), 256 ∣ (k0_mult68 v0).toNat) ∧
  (∀ (k0_h40 : k0_cond40 i = 1#1), ∀ (k0_h44 : k0_cond44 v0 = 1#1), ∀ a, (k0_off127 v0) a + S1.size a ≤ S8.size a) ∧
  (∀ (k0_h40 : k0_cond40 i = 1#1), ∀ (k0_h44 : k0_cond44 v0 = 1#1), ∀ a, (k0_off128 v0) a + S2x256x256.size a ≤ S2x140288x256.size a) ∧
  (∀ (k0_h40 : k0_cond40 i = 1#1), ∀ (k0_h44 : k0_cond44 v0 = 1#1), ∀ a, (k0_off129 v0) a + S1x2x256x256.size a ≤ S8x2x256x256.size a) ∧
  (∀ (k0_h40 : k0_cond40 i = 1#1), ∀ (k0_h45 : k0_cond45 v0 = 1#1), 256 ∣ (k0_mult69 v0).toNat) ∧
  (∀ (k0_h40 : k0_cond40 i = 1#1), ∀ (k0_h45 : k0_cond45 v0 = 1#1), ∀ a, (k0_off130 v0) a + S1.size a ≤ S8.size a) ∧
  (∀ (k0_h40 : k0_cond40 i = 1#1), ∀ (k0_h45 : k0_cond45 v0 = 1#1), ∀ a, (k0_off131 v0) a + S2x256x256.size a ≤ S2x140288x256.size a) ∧
  (∀ (k0_h40 : k0_cond40 i = 1#1), ∀ (k0_h45 : k0_cond45 v0 = 1#1), ∀ a, (k0_off132 v0) a + S1x2x256x256.size a ≤ S8x2x256x256.size a) ∧
  (∀ (k0_h40 : k0_cond40 i = 1#1), ∀ (k0_h46 : k0_cond46 v0 = 1#1), 256 ∣ (k0_mult70 v0).toNat) ∧
  (∀ (k0_h40 : k0_cond40 i = 1#1), ∀ (k0_h46 : k0_cond46 v0 = 1#1), ∀ a, (k0_off133 v0) a + S1.size a ≤ S8.size a) ∧
  (∀ (k0_h40 : k0_cond40 i = 1#1), ∀ (k0_h46 : k0_cond46 v0 = 1#1), ∀ a, (k0_off134 v0) a + S2x256x256.size a ≤ S2x140288x256.size a) ∧
  (∀ (k0_h40 : k0_cond40 i = 1#1), ∀ (k0_h46 : k0_cond46 v0 = 1#1), ∀ a, (k0_off135 v0) a + S1x2x256x256.size a ≤ S8x2x256x256.size a) ∧
  (∀ (k0_h40 : k0_cond40 i = 1#1), ∀ (k0_h47 : k0_cond47 v0 = 1#1), 256 ∣ (k0_mult71 v0).toNat) ∧
  (∀ (k0_h40 : k0_cond40 i = 1#1), ∀ (k0_h47 : k0_cond47 v0 = 1#1), ∀ a, (k0_off136 v0) a + S1.size a ≤ S8.size a) ∧
  (∀ (k0_h40 : k0_cond40 i = 1#1), ∀ (k0_h47 : k0_cond47 v0 = 1#1), ∀ a, (k0_off137 v0) a + S2x256x256.size a ≤ S2x140288x256.size a) ∧
  (∀ (k0_h40 : k0_cond40 i = 1#1), ∀ (k0_h47 : k0_cond47 v0 = 1#1), ∀ a, (k0_off138 v0) a + S1x2x256x256.size a ≤ S8x2x256x256.size a) ∧
  (∀ (k0_h40 : k0_cond40 i = 1#1), ∀ (k0_h48 : k0_cond48 v0 = 1#1), 256 ∣ (k0_mult72 v0).toNat) ∧
  (∀ (k0_h40 : k0_cond40 i = 1#1), ∀ (k0_h48 : k0_cond48 v0 = 1#1), ∀ a, (k0_off139 v0) a + S1.size a ≤ S8.size a) ∧
  (∀ (k0_h40 : k0_cond40 i = 1#1), ∀ (k0_h48 : k0_cond48 v0 = 1#1), ∀ a, (k0_off140 v0) a + S2x256x256.size a ≤ S2x140288x256.size a) ∧
  (∀ (k0_h40 : k0_cond40 i = 1#1), ∀ (k0_h48 : k0_cond48 v0 = 1#1), ∀ a, (k0_off141 v0) a + S1x2x256x256.size a ≤ S8x2x256x256.size a)
theorem k0_mult65_dvd : ∀ (i : grid0.Coords) (v0 : BitVec 32) (k0_hw2 : k0_chk2 i v0), ∀ (k0_h40 : k0_cond40 i = 1#1), ∀ (k0_h41 : k0_cond41 v0 = 1#1), 256 ∣ (k0_mult65 v0).toNat := fun i v0 k0_hw2 k0_h40 k0_h41 => k0_hw2.1 k0_h40 k0_h41
theorem k0_off118_inb : ∀ (i : grid0.Coords) (v0 : BitVec 32) (k0_hw2 : k0_chk2 i v0), ∀ (k0_h40 : k0_cond40 i = 1#1), ∀ (k0_h41 : k0_cond41 v0 = 1#1), ∀ a, (k0_off118 v0) a + S1.size a ≤ S8.size a := fun i v0 k0_hw2 k0_h40 k0_h41 => k0_hw2.2.1 k0_h40 k0_h41
theorem k0_off119_inb : ∀ (i : grid0.Coords) (v0 : BitVec 32) (k0_hw2 : k0_chk2 i v0), ∀ (k0_h40 : k0_cond40 i = 1#1), ∀ (k0_h41 : k0_cond41 v0 = 1#1), ∀ a, (k0_off119 v0) a + S2x256x256.size a ≤ S2x140288x256.size a := fun i v0 k0_hw2 k0_h40 k0_h41 => k0_hw2.2.2.1 k0_h40 k0_h41
theorem k0_off120_inb : ∀ (i : grid0.Coords) (v0 : BitVec 32) (k0_hw2 : k0_chk2 i v0), ∀ (k0_h40 : k0_cond40 i = 1#1), ∀ (k0_h41 : k0_cond41 v0 = 1#1), ∀ a, (k0_off120 v0) a + S1x2x256x256.size a ≤ S8x2x256x256.size a := fun i v0 k0_hw2 k0_h40 k0_h41 => k0_hw2.2.2.2.1 k0_h40 k0_h41
theorem k0_mult66_dvd : ∀ (i : grid0.Coords) (v0 : BitVec 32) (k0_hw2 : k0_chk2 i v0), ∀ (k0_h40 : k0_cond40 i = 1#1), ∀ (k0_h42 : k0_cond42 v0 = 1#1), 256 ∣ (k0_mult66 v0).toNat := fun i v0 k0_hw2 k0_h40 k0_h42 => k0_hw2.2.2.2.2.1 k0_h40 k0_h42
theorem k0_off121_inb : ∀ (i : grid0.Coords) (v0 : BitVec 32) (k0_hw2 : k0_chk2 i v0), ∀ (k0_h40 : k0_cond40 i = 1#1), ∀ (k0_h42 : k0_cond42 v0 = 1#1), ∀ a, (k0_off121 v0) a + S1.size a ≤ S8.size a := fun i v0 k0_hw2 k0_h40 k0_h42 => k0_hw2.2.2.2.2.2.1 k0_h40 k0_h42
theorem k0_off122_inb : ∀ (i : grid0.Coords) (v0 : BitVec 32) (k0_hw2 : k0_chk2 i v0), ∀ (k0_h40 : k0_cond40 i = 1#1), ∀ (k0_h42 : k0_cond42 v0 = 1#1), ∀ a, (k0_off122 v0) a + S2x256x256.size a ≤ S2x140288x256.size a := fun i v0 k0_hw2 k0_h40 k0_h42 => k0_hw2.2.2.2.2.2.2.1 k0_h40 k0_h42
theorem k0_off123_inb : ∀ (i : grid0.Coords) (v0 : BitVec 32) (k0_hw2 : k0_chk2 i v0), ∀ (k0_h40 : k0_cond40 i = 1#1), ∀ (k0_h42 : k0_cond42 v0 = 1#1), ∀ a, (k0_off123 v0) a + S1x2x256x256.size a ≤ S8x2x256x256.size a := fun i v0 k0_hw2 k0_h40 k0_h42 => k0_hw2.2.2.2.2.2.2.2.1 k0_h40 k0_h42
theorem k0_mult67_dvd : ∀ (i : grid0.Coords) (v0 : BitVec 32) (k0_hw2 : k0_chk2 i v0), ∀ (k0_h40 : k0_cond40 i = 1#1), ∀ (k0_h43 : k0_cond43 v0 = 1#1), 256 ∣ (k0_mult67 v0).toNat := fun i v0 k0_hw2 k0_h40 k0_h43 => k0_hw2.2.2.2.2.2.2.2.2.1 k0_h40 k0_h43
theorem k0_off124_inb : ∀ (i : grid0.Coords) (v0 : BitVec 32) (k0_hw2 : k0_chk2 i v0), ∀ (k0_h40 : k0_cond40 i = 1#1), ∀ (k0_h43 : k0_cond43 v0 = 1#1), ∀ a, (k0_off124 v0) a + S1.size a ≤ S8.size a := fun i v0 k0_hw2 k0_h40 k0_h43 => k0_hw2.2.2.2.2.2.2.2.2.2.1 k0_h40 k0_h43
theorem k0_off125_inb : ∀ (i : grid0.Coords) (v0 : BitVec 32) (k0_hw2 : k0_chk2 i v0), ∀ (k0_h40 : k0_cond40 i = 1#1), ∀ (k0_h43 : k0_cond43 v0 = 1#1), ∀ a, (k0_off125 v0) a + S2x256x256.size a ≤ S2x140288x256.size a := fun i v0 k0_hw2 k0_h40 k0_h43 => k0_hw2.2.2.2.2.2.2.2.2.2.2.1 k0_h40 k0_h43
theorem k0_off126_inb : ∀ (i : grid0.Coords) (v0 : BitVec 32) (k0_hw2 : k0_chk2 i v0), ∀ (k0_h40 : k0_cond40 i = 1#1), ∀ (k0_h43 : k0_cond43 v0 = 1#1), ∀ a, (k0_off126 v0) a + S1x2x256x256.size a ≤ S8x2x256x256.size a := fun i v0 k0_hw2 k0_h40 k0_h43 => k0_hw2.2.2.2.2.2.2.2.2.2.2.2.1 k0_h40 k0_h43
theorem k0_mult68_dvd : ∀ (i : grid0.Coords) (v0 : BitVec 32) (k0_hw2 : k0_chk2 i v0), ∀ (k0_h40 : k0_cond40 i = 1#1), ∀ (k0_h44 : k0_cond44 v0 = 1#1), 256 ∣ (k0_mult68 v0).toNat := fun i v0 k0_hw2 k0_h40 k0_h44 => k0_hw2.2.2.2.2.2.2.2.2.2.2.2.2.1 k0_h40 k0_h44
theorem k0_off127_inb : ∀ (i : grid0.Coords) (v0 : BitVec 32) (k0_hw2 : k0_chk2 i v0), ∀ (k0_h40 : k0_cond40 i = 1#1), ∀ (k0_h44 : k0_cond44 v0 = 1#1), ∀ a, (k0_off127 v0) a + S1.size a ≤ S8.size a := fun i v0 k0_hw2 k0_h40 k0_h44 => k0_hw2.2.2.2.2.2.2.2.2.2.2.2.2.2.1 k0_h40 k0_h44
theorem k0_off128_inb : ∀ (i : grid0.Coords) (v0 : BitVec 32) (k0_hw2 : k0_chk2 i v0), ∀ (k0_h40 : k0_cond40 i = 1#1), ∀ (k0_h44 : k0_cond44 v0 = 1#1), ∀ a, (k0_off128 v0) a + S2x256x256.size a ≤ S2x140288x256.size a := fun i v0 k0_hw2 k0_h40 k0_h44 => k0_hw2.2.2.2.2.2.2.2.2.2.2.2.2.2.2.1 k0_h40 k0_h44
theorem k0_off129_inb : ∀ (i : grid0.Coords) (v0 : BitVec 32) (k0_hw2 : k0_chk2 i v0), ∀ (k0_h40 : k0_cond40 i = 1#1), ∀ (k0_h44 : k0_cond44 v0 = 1#1), ∀ a, (k0_off129 v0) a + S1x2x256x256.size a ≤ S8x2x256x256.size a := fun i v0 k0_hw2 k0_h40 k0_h44 => k0_hw2.2.2.2.2.2.2.2.2.2.2.2.2.2.2.2.1 k0_h40 k0_h44
theorem k0_mult69_dvd : ∀ (i : grid0.Coords) (v0 : BitVec 32) (k0_hw2 : k0_chk2 i v0), ∀ (k0_h40 : k0_cond40 i = 1#1), ∀ (k0_h45 : k0_cond45 v0 = 1#1), 256 ∣ (k0_mult69 v0).toNat := fun i v0 k0_hw2 k0_h40 k0_h45 => k0_hw2.2.2.2.2.2.2.2.2.2.2.2.2.2.2.2.2.1 k0_h40 k0_h45
theorem k0_off130_inb : ∀ (i : grid0.Coords) (v0 : BitVec 32) (k0_hw2 : k0_chk2 i v0), ∀ (k0_h40 : k0_cond40 i = 1#1), ∀ (k0_h45 : k0_cond45 v0 = 1#1), ∀ a, (k0_off130 v0) a + S1.size a ≤ S8.size a := fun i v0 k0_hw2 k0_h40 k0_h45 => k0_hw2.2.2.2.2.2.2.2.2.2.2.2.2.2.2.2.2.2.1 k0_h40 k0_h45
theorem k0_off131_inb : ∀ (i : grid0.Coords) (v0 : BitVec 32) (k0_hw2 : k0_chk2 i v0), ∀ (k0_h40 : k0_cond40 i = 1#1), ∀ (k0_h45 : k0_cond45 v0 = 1#1), ∀ a, (k0_off131 v0) a + S2x256x256.size a ≤ S2x140288x256.size a := fun i v0 k0_hw2 k0_h40 k0_h45 => k0_hw2.2.2.2.2.2.2.2.2.2.2.2.2.2.2.2.2.2.2.1 k0_h40 k0_h45
theorem k0_off132_inb : ∀ (i : grid0.Coords) (v0 : BitVec 32) (k0_hw2 : k0_chk2 i v0), ∀ (k0_h40 : k0_cond40 i = 1#1), ∀ (k0_h45 : k0_cond45 v0 = 1#1), ∀ a, (k0_off132 v0) a + S1x2x256x256.size a ≤ S8x2x256x256.size a := fun i v0 k0_hw2 k0_h40 k0_h45 => k0_hw2.2.2.2.2.2.2.2.2.2.2.2.2.2.2.2.2.2.2.2.1 k0_h40 k0_h45
theorem k0_mult70_dvd : ∀ (i : grid0.Coords) (v0 : BitVec 32) (k0_hw2 : k0_chk2 i v0), ∀ (k0_h40 : k0_cond40 i = 1#1), ∀ (k0_h46 : k0_cond46 v0 = 1#1), 256 ∣ (k0_mult70 v0).toNat := fun i v0 k0_hw2 k0_h40 k0_h46 => k0_hw2.2.2.2.2.2.2.2.2.2.2.2.2.2.2.2.2.2.2.2.2.1 k0_h40 k0_h46
theorem k0_off133_inb : ∀ (i : grid0.Coords) (v0 : BitVec 32) (k0_hw2 : k0_chk2 i v0), ∀ (k0_h40 : k0_cond40 i = 1#1), ∀ (k0_h46 : k0_cond46 v0 = 1#1), ∀ a, (k0_off133 v0) a + S1.size a ≤ S8.size a := fun i v0 k0_hw2 k0_h40 k0_h46 => k0_hw2.2.2.2.2.2.2.2.2.2.2.2.2.2.2.2.2.2.2.2.2.2.1 k0_h40 k0_h46
theorem k0_off134_inb : ∀ (i : grid0.Coords) (v0 : BitVec 32) (k0_hw2 : k0_chk2 i v0), ∀ (k0_h40 : k0_cond40 i = 1#1), ∀ (k0_h46 : k0_cond46 v0 = 1#1), ∀ a, (k0_off134 v0) a + S2x256x256.size a ≤ S2x140288x256.size a := fun i v0 k0_hw2 k0_h40 k0_h46 => k0_hw2.2.2.2.2.2.2.2.2.2.2.2.2.2.2.2.2.2.2.2.2.2.2.1 k0_h40 k0_h46
theorem k0_off135_inb : ∀ (i : grid0.Coords) (v0 : BitVec 32) (k0_hw2 : k0_chk2 i v0), ∀ (k0_h40 : k0_cond40 i = 1#1), ∀ (k0_h46 : k0_cond46 v0 = 1#1), ∀ a, (k0_off135 v0) a + S1x2x256x256.size a ≤ S8x2x256x256.size a := fun i v0 k0_hw2 k0_h40 k0_h46 => k0_hw2.2.2.2.2.2.2.2.2.2.2.2.2.2.2.2.2.2.2.2.2.2.2.2.1 k0_h40 k0_h46
theorem k0_mult71_dvd : ∀ (i : grid0.Coords) (v0 : BitVec 32) (k0_hw2 : k0_chk2 i v0), ∀ (k0_h40 : k0_cond40 i = 1#1), ∀ (k0_h47 : k0_cond47 v0 = 1#1), 256 ∣ (k0_mult71 v0).toNat := fun i v0 k0_hw2 k0_h40 k0_h47 => k0_hw2.2.2.2.2.2.2.2.2.2.2.2.2.2.2.2.2.2.2.2.2.2.2.2.2.1 k0_h40 k0_h47
theorem k0_off136_inb : ∀ (i : grid0.Coords) (v0 : BitVec 32) (k0_hw2 : k0_chk2 i v0), ∀ (k0_h40 : k0_cond40 i = 1#1), ∀ (k0_h47 : k0_cond47 v0 = 1#1), ∀ a, (k0_off136 v0) a + S1.size a ≤ S8.size a := fun i v0 k0_hw2 k0_h40 k0_h47 => k0_hw2.2.2.2.2.2.2.2.2.2.2.2.2.2.2.2.2.2.2.2.2.2.2.2.2.2.1 k0_h40 k0_h47
theorem k0_off137_inb : ∀ (i : grid0.Coords) (v0 : BitVec 32) (k0_hw2 : k0_chk2 i v0), ∀ (k0_h40 : k0_cond40 i = 1#1), ∀ (k0_h47 : k0_cond47 v0 = 1#1), ∀ a, (k0_off137 v0) a + S2x256x256.size a ≤ S2x140288x256.size a := fun i v0 k0_hw2 k0_h40 k0_h47 => k0_hw2.2.2.2.2.2.2.2.2.2.2.2.2.2.2.2.2.2.2.2.2.2.2.2.2.2.2.1 k0_h40 k0_h47
theorem k0_off138_inb : ∀ (i : grid0.Coords) (v0 : BitVec 32) (k0_hw2 : k0_chk2 i v0), ∀ (k0_h40 : k0_cond40 i = 1#1), ∀ (k0_h47 : k0_cond47 v0 = 1#1), ∀ a, (k0_off138 v0) a + S1x2x256x256.size a ≤ S8x2x256x256.size a := fun i v0 k0_hw2 k0_h40 k0_h47 => k0_hw2.2.2.2.2.2.2.2.2.2.2.2.2.2.2.2.2.2.2.2.2.2.2.2.2.2.2.2.1 k0_h40 k0_h47
theorem k0_mult72_dvd : ∀ (i : grid0.Coords) (v0 : BitVec 32) (k0_hw2 : k0_chk2 i v0), ∀ (k0_h40 : k0_cond40 i = 1#1), ∀ (k0_h48 : k0_cond48 v0 = 1#1), 256 ∣ (k0_mult72 v0).toNat := fun i v0 k0_hw2 k0_h40 k0_h48 => k0_hw2.2.2.2.2.2.2.2.2.2.2.2.2.2.2.2.2.2.2.2.2.2.2.2.2.2.2.2.2.1 k0_h40 k0_h48
theorem k0_off139_inb : ∀ (i : grid0.Coords) (v0 : BitVec 32) (k0_hw2 : k0_chk2 i v0), ∀ (k0_h40 : k0_cond40 i = 1#1), ∀ (k0_h48 : k0_cond48 v0 = 1#1), ∀ a, (k0_off139 v0) a + S1.size a ≤ S8.size a := fun i v0 k0_hw2 k0_h40 k0_h48 => k0_hw2.2.2.2.2.2.2.2.2.2.2.2.2.2.2.2.2.2.2.2.2.2.2.2.2.2.2.2.2.2.1 k0_h40 k0_h48
theorem k0_off140_inb : ∀ (i : grid0.Coords) (v0 : BitVec 32) (k0_hw2 : k0_chk2 i v0), ∀ (k0_h40 : k0_cond40 i = 1#1), ∀ (k0_h48 : k0_cond48 v0 = 1#1), ∀ a, (k0_off140 v0) a + S2x256x256.size a ≤ S2x140288x256.size a := fun i v0 k0_hw2 k0_h40 k0_h48 => k0_hw2.2.2.2.2.2.2.2.2.2.2.2.2.2.2.2.2.2.2.2.2.2.2.2.2.2.2.2.2.2.2.1 k0_h40 k0_h48
theorem k0_off141_inb : ∀ (i : grid0.Coords) (v0 : BitVec 32) (k0_hw2 : k0_chk2 i v0), ∀ (k0_h40 : k0_cond40 i = 1#1), ∀ (k0_h48 : k0_cond48 v0 = 1#1), ∀ a, (k0_off141 v0) a + S1x2x256x256.size a ≤ S8x2x256x256.size a := fun i v0 k0_hw2 k0_h40 k0_h48 => k0_hw2.2.2.2.2.2.2.2.2.2.2.2.2.2.2.2.2.2.2.2.2.2.2.2.2.2.2.2.2.2.2.2 k0_h40 k0_h48

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference.lean ====
abbrev S33 : Shape := ⟨1, ![33]⟩
abbrev S1 : Shape := ⟨1, ![1]⟩
abbrev S2x140288x256 : Shape := ⟨3, ![2, 140288, 256]⟩
abbrev S32x1024x2048 : Shape := ⟨3, ![32, 1024, 2048]⟩
abbrev S32x2048 : Shape := ⟨2, ![32, 2048]⟩
abbrev S32x1024x1024 : Shape := ⟨3, ![32, 1024, 1024]⟩
abbrev S32x1024 : Shape := ⟨2, ![32, 1024]⟩
abbrev S32 : Shape := ⟨1, ![32]⟩
abbrev S1x32 : Shape := ⟨2, ![1, 32]⟩
abbrev S548 : Shape := ⟨1, ![548]⟩
abbrev S548x1 : Shape := ⟨2, ![548, 1]⟩
abbrev S548x32 : Shape := ⟨2, ![548, 32]⟩
abbrev S_ : Shape := ⟨0, ![]⟩
abbrev S32x1x2048 : Shape := ⟨3, ![32, 1, 2048]⟩
abbrev S32x1x1024 : Shape := ⟨3, ![32, 1, 1024]⟩
abbrev S1x256x256 : Shape := ⟨3, ![1, 256, 256]⟩
abbrev S256x256 : Shape := ⟨2, ![256, 256]⟩
abbrev S256x512 : Shape := ⟨2, ![256, 512]⟩
abbrev S256x1024 : Shape := ⟨2, ![256, 1024]⟩
abbrev S1x1x2048 : Shape := ⟨3, ![1, 1, 2048]⟩
abbrev S1x2048 : Shape := ⟨2, ![1, 2048]⟩
abbrev S1x1024x2048 : Shape := ⟨3, ![1, 1024, 2048]⟩
abbrev S1024x2048 : Shape := ⟨2, ![1024, 2048]⟩
abbrev S256x2048 : Shape := ⟨2, ![256, 2048]⟩
abbrev S1x1x1024 : Shape := ⟨3, ![1, 1, 1024]⟩
abbrev S1x1024 : Shape := ⟨2, ![1, 1024]⟩
abbrev S1x1024x1024 : Shape := ⟨3, ![1, 1024, 1024]⟩
abbrev S1024x1024 : Shape := ⟨2, ![1024, 1024]⟩

abbrev nBuf : Space → Nat
  | .hbm => 20
  | .vmem => 6
  | .smem => 1
  | _ => 0

abbrev bufTy : (tb : Table) → Fin (tcTables nBuf tb) → BufTy
  | .hbm, ⟨0, _⟩ => ⟨S33, .i32⟩
  | .hbm, ⟨1, _⟩ => ⟨S1, .i32⟩
  | .hbm, ⟨2, _⟩ => ⟨S2x140288x256, .i32⟩
  | .hbm, ⟨3, _⟩ => ⟨S32x1024x2048, .f32⟩
  | .hbm, ⟨4, _⟩ => ⟨S32x2048, .f32⟩
  | .hbm, ⟨5, _⟩ => ⟨S32x1024x1024, .f32⟩
  | .hbm, ⟨6, _⟩ => ⟨S32x1024, .f32⟩
  | .hbm, ⟨7, _⟩ => ⟨S32, .i32⟩
  | .hbm, ⟨8, _⟩ => ⟨S1x32, .i32⟩
  | .hbm, ⟨9, _⟩ => ⟨S548, .i32⟩
  | .hbm, ⟨10, _⟩ => ⟨S548x1, .i32⟩
  | .hbm, ⟨11, _⟩ => ⟨S548x32, .i32⟩
  | .hbm, ⟨12, _⟩ => ⟨S548x32, .i32⟩
  | .hbm, ⟨13, _⟩ => ⟨S548x32, .i1⟩
  | .hbm, ⟨14, _⟩ => ⟨S548x32, .i32⟩
  | .hbm, ⟨15, _⟩ => ⟨S_, .i32⟩
  | .hbm, ⟨16, _⟩ => ⟨S548, .i32⟩
  | .hbm, ⟨17, _⟩ => ⟨S32x1x2048, .f32⟩
  | .hbm, ⟨18, _⟩ => ⟨S32x1x1024, .f32⟩
  | .hbm, ⟨19, _⟩ => ⟨S2x140288x256, .i32⟩
  | .local _ .vmem, ⟨0, _⟩ => ⟨S2x140288x256, .i32⟩
  | .local _ .vmem, ⟨1, _⟩ => ⟨S32x1024x2048, .f32⟩
  | .local _ .vmem, ⟨2, _⟩ => ⟨S32x1x2048, .f32⟩
  | .local _ .vmem, ⟨3, _⟩ => ⟨S32x1024x1024, .f32⟩
  | .local _ .vmem, ⟨4, _⟩ => ⟨S32x1x1024, .f32⟩
  | .local _ .vmem, ⟨5, _⟩ => ⟨S2x140288x256, .i32⟩
  | .local _ .smem, ⟨0, _⟩ => ⟨S548, .i32⟩
  | _, _ => ⟨S33, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .smem, ⟨0, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_c : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev cc0_stg1_0 : Ref sig .tc := ⟨.vmem, 0, rfl⟩
abbrev cc0_stg2_0 : Ref sig .tc := ⟨.vmem, 1, rfl⟩
abbrev cc0_stg3_0 : Ref sig .tc := ⟨.vmem, 2, rfl⟩
abbrev cc0_stg4_0 : Ref sig .tc := ⟨.vmem, 3, rfl⟩
abbrev cc0_stg5_0 : Ref sig .tc := ⟨.vmem, 4, rfl⟩
abbrev cc0_stg6_0 : Ref sig .tc := ⟨.vmem, 5, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [BitOps F]

abbrev grid0 : Pipeline.Grid := .none

@[reducible] def k0_t1_loop : Scf.Loop 32 :=
  let c0_i32 : BitVec 32 := 0#32
  let c548_i32 : BitVec 32 := 548#32
  let v0 : BitVec 32 := Scalar.addi c0_i32 c548_i32
  let c1_i32 : BitVec 32 := 1#32
  ⟨c0_i32, v0, c1_i32⟩
def k0_off1 (k0_t1 : Fin k0_t1_loop.trips) : Fin 1 → Nat :=
  let c0_i32 : BitVec 32 := 0#32
  let c1_i32 : BitVec 32 := 1#32
  let arg7 : BitVec 32 := Scf.iv c0_i32 c1_i32 k0_t1
  let v1 : Index := Scalar.indexCast arg7
  ![v1.toNat]
def k0_mult1 (k0_t1 : Fin k0_t1_loop.trips) : BitVec 32 :=
  let c0_i32 : BitVec 32 := 0#32
  let c1_i32 : BitVec 32 := 1#32
  let arg7 : BitVec 32 := Scf.iv c0_i32 c1_i32 k0_t1
  let c256_i32 : BitVec 32 := 256#32
  let v5 : BitVec 32 := Scalar.muli arg7 c256_i32
  v5
def k0_off2 (k0_t1 : Fin k0_t1_loop.trips) : Fin 3 → Nat :=
  let c0 : Index := 0#32
  let c0_i32 : BitVec 32 := 0#32
  let c1_i32 : BitVec 32 := 1#32
  let arg7 : BitVec 32 := Scf.iv c0_i32 c1_i32 k0_t1
  let c256_i32 : BitVec 32 := 256#32
  let v5 : BitVec 32 := Scalar.muli arg7 c256_i32
  let v6 : BitVec 32 := v5
  let v7 : Index := Scalar.indexCast v6
  let c0_2 : Index := 0#32
  ![0, v7.toNat, 0]
def k0_off3 (k0_t1 : Fin k0_t1_loop.trips) : Fin 3 → Nat :=
  let c1 : Index := 1#32
  let c0_i32 : BitVec 32 := 0#32
  let c1_i32 : BitVec 32 := 1#32
  let arg7 : BitVec 32 := Scf.iv c0_i32 c1_i32 k0_t1
  let c256_i32 : BitVec 32 := 256#32
  let v5 : BitVec 32 := Scalar.muli arg7 c256_i32
  let v6 : BitVec 32 := v5
  let v10 : Index := Scalar.indexCast v6
  let c0_3 : Index := 0#32
  ![1, v10.toNat, 0]
def k0_off4 (v2 : BitVec 32) : Fin 3 → Nat :=
  let c31_i32 : BitVec 32 := 31#32
  let c0_i32_1 : BitVec 32 := 0#32
  let v3 : BitVec 32 := Scalar.maxsi c0_i32_1 v2
  let v4 : BitVec 32 := Scalar.minsi c31_i32 v3
  let v23 : Index := Scalar.indexCast v4
  let c0_4 : Index := 0#32
  let c0_5 : Index := 0#32
  ![v23.toNat, 0, 0]

def k0_off5 (v2 : BitVec 32) : Fin 3 → Nat :=
  let c31_i32 : BitVec 32 := 31#32
  let c0_i32_1 : BitVec 32 := 0#32
  let v3 : BitVec 32 := Scalar.maxsi c0_i32_1 v2
  let v4 : BitVec 32 := Scalar.minsi c31_i32 v3
  let v26 : Index := Scalar.indexCast v4
  let c0_6 : Index := 0#32
  let c0_7 : Index := 0#32
  ![v26.toNat, 0, 0]
def k0_off6 (v2 : BitVec 32) : Fin 3 → Nat :=
  let c31_i32 : BitVec 32 := 31#32
  let c0_i32_1 : BitVec 32 := 0#32
  let v3 : BitVec 32 := Scalar.maxsi c0_i32_1 v2
  let v4 : BitVec 32 := Scalar.minsi c31_i32 v3
  let v54 : Index := Scalar.indexCast v4
  let c0_16 : Index := 0#32
  let c0_17 : Index := 0#32
  ![v54.toNat, 0, 0]
def k0_off7 (v2 : BitVec 32) : Fin 3 → Nat :=
  let c31_i32 : BitVec 32 := 31#32
  let c0_i32_1 : BitVec 32 := 0#32
  let v3 : BitVec 32 := Scalar.maxsi c0_i32_1 v2
  let v4 : BitVec 32 := Scalar.minsi c31_i32 v3
  let v58 : Index := Scalar.indexCast v4
  let c0_18 : Index := 0#32
  let c0_19 : Index := 0#32
  ![v58.toNat, 0, 0]

def k0_chk1 (v2 : BitVec 32) : Prop :=
  (∀ a, (k0_off4 v2) a + S1x1x2048.size a ≤ S32x1x2048.size a) ∧
  (∀ a, (k0_off5 v2) a + S1x1024x2048.size a ≤ S32x1024x2048.size a) ∧
  (∀ a, (k0_off6 v2) a + S1x1x1024.size a ≤ S32x1x1024.size a) ∧
  (∀ a, (k0_off7 v2) a + S1x1024x1024.size a ≤ S32x1024x1024.size a)
theorem k0_off4_inb : ∀ (v2 : BitVec 32) (k0_hw1 : k0_chk1 v2), ∀ a, (k0_off4 v2) a + S1x1x2048.size a ≤ S32x1x2048.size a := fun v2 k0_hw1 => k0_hw1.1
theorem k0_off5_inb : ∀ (v2 : BitVec 32) (k0_hw1 : k0_chk1 v2), ∀ a, (k0_off5 v2) a + S1x1024x2048.size a ≤ S32x1024x2048.size a := fun v2 k0_hw1 => k0_hw1.2.1
theorem k0_off6_inb : ∀ (v2 : BitVec 32) (k0_hw1 : k0_chk1 v2), ∀ a, (k0_off6 v2) a + S1x1x1024.size a ≤ S32x1x1024.size a := fun v2 k0_hw1 => k0_hw1.2.2.1
theorem k0_off7_inb : ∀ (v2 : BitVec 32) (k0_hw1 : k0_chk1 v2), ∀ a, (k0_off7 v2) a + S1x1024x1024.size a ≤ S32x1024x1024.size a := fun v2 k0_hw1 => k0_hw1.2.2.2

def k0_off8 (k0_t1 : Fin k0_t1_loop.trips) : Fin 3 → Nat :=
  let c0_22 : Index := 0#32
  let c0_i32 : BitVec 32 := 0#32
  let c1_i32 : BitVec 32 := 1#32
  let arg7 : BitVec 32 := Scf.iv c0_i32 c1_i32 k0_t1
  let c256_i32 : BitVec 32 := 256#32
  let v5 : BitVec 32 := Scalar.muli arg7 c256_i32
  let v6 : BitVec 32 := v5
  let v74 : Index := Scalar.indexCast v6
  let c0_23 : Index := 0#32
  ![0, v74.toNat, 0]
def k0_off9 (k0_t1 : Fin k0_t1_loop.trips) : Fin 3 → Nat :=
  let c1_24 : Index := 1#32
  let c0_i32 : BitVec 32 := 0#32
  let c1_i32 : BitVec 32 := 1#32
  let arg7 : BitVec 32 := Scf.iv c0_i32 c1_i32 k0_t1
  let c256_i32 : BitVec 32 := 256#32
  let v5 : BitVec 32 := Scalar.muli arg7 c256_i32
  let v6 : BitVec 32 := v5
  let v79 : Index := Scalar.indexCast v6
  let c0_25 : Index := 0#32
  ![1, v79.toNat, 0]
abbrev stage0_0 : Fin 1 → Memref sig .tc .smem S548 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x140288x256 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S32x1024x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S32x1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S32x1024x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S32x1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2x140288x256 .i32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Combine.lean ====
abbrev S33024x1024 : Shape := ⟨2, ![33024, 1024]⟩
abbrev S4x2x1280x256 : Shape := ⟨4, ![4, 2, 1280, 256]⟩
abbrev S33024x128 : Shape := ⟨2, ![33024, 128]⟩
abbrev S1024 : Shape := ⟨1, ![1024]⟩
abbrev S32768x1024 : Shape := ⟨2, ![32768, 1024]⟩
abbrev S1x1024 : Shape := ⟨2, ![1, 1024]⟩
abbrev S256x1024 : Shape := ⟨2, ![256, 1024]⟩
abbrev S4x2x256x256 : Shape := ⟨4, ![4, 2, 256, 256]⟩
abbrev S256x128 : Shape := ⟨2, ![256, 128]⟩
abbrev S256x512 : Shape := ⟨2, ![256, 512]⟩
abbrev S1x1x256x256 : Shape := ⟨4, ![1, 1, 256, 256]⟩
abbrev S256x256 : Shape := ⟨2, ![256, 256]⟩
abbrev S256x1 : Shape := ⟨2, ![256, 1]⟩
abbrev S256 : Shape := ⟨1, ![256]⟩

abbrev nBuf : Space → Nat
  | .hbm => 10
  | .vmem => 12
  | .smem => 0
  | _ => 0

abbrev bufTy : (tb : Table) → Fin (tcTables nBuf tb) → BufTy
  | .hbm, ⟨0, _⟩ => ⟨S33024x1024, .f32⟩
  | .hbm, ⟨1, _⟩ => ⟨S4x2x1280x256, .i32⟩
  | .hbm, ⟨2, _⟩ => ⟨S33024x128, .f32⟩
  | .hbm, ⟨3, _⟩ => ⟨S1024, .f32⟩
  | .hbm, ⟨4, _⟩ => ⟨S1024, .f32⟩
  | .hbm, ⟨5, _⟩ => ⟨S32768x1024, .f32⟩
  | .hbm, ⟨6, _⟩ => ⟨S1x1024, .f32⟩
  | .hbm, ⟨7, _⟩ => ⟨S1x1024, .f32⟩
  | .hbm, ⟨8, _⟩ => ⟨S32768x1024, .f32⟩
  | .hbm, ⟨9, _⟩ => ⟨S256x1024, .f32⟩
  | .local _ .vmem, ⟨0, _⟩ => ⟨S256x1024, .f32⟩
  | .local _ .vmem, ⟨1, _⟩ => ⟨S256x1024, .f32⟩
  | .local _ .vmem, ⟨2, _⟩ => ⟨S4x2x256x256, .i32⟩
  | .local _ .vmem, ⟨3, _⟩ => ⟨S4x2x256x256, .i32⟩
  | .local _ .vmem, ⟨4, _⟩ => ⟨S256x128, .f32⟩
  | .local _ .vmem, ⟨5, _⟩ => ⟨S256x128, .f32⟩
  | .local _ .vmem, ⟨6, _⟩ => ⟨S1x1024, .f32⟩
  | .local _ .vmem, ⟨7, _⟩ => ⟨S1x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | _, _ => ⟨S33024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![5], ![false]⟩

def k0_cond1 (i : grid0.Coords) : BitVec 1 :=
  let c124_i32 : BitVec 32 := 124#32
  let arg0 : BitVec 32 := BitVec.ofNat 32 (i 0).val
  let v0 : BitVec 32 := Scalar.addi c124_i32 arg0
  let c128_i32 : BitVec 32 := 128#32
  let v104 : BitVec 1 := Scalar.cmpi .slt v0 c128_i32
  let v105 : BitVec 32 := Scalar.extui v104
  let c0_i32 : BitVec 32 := 0#32
  let v106 : BitVec 1 := Scalar.cmpi .ne v105 c0_i32
  v106

def k0_cond2 (i : grid0.Coords) : BitVec 1 :=
  let c124_i32 : BitVec 32 := 124#32
  let arg0 : BitVec 32 := BitVec.ofNat 32 (i 0).val
  let v0 : BitVec 32 := Scalar.addi c124_i32 arg0
  let c128_i32_55 : BitVec 32 := 128#32
  let v107 : BitVec 1 := Scalar.cmpi .sge v0 c128_i32_55
  let v108 : BitVec 32 := Scalar.extui v107
  let c0_i32_56 : BitVec 32 := 0#32
  let v109 : BitVec 1 := Scalar.cmpi .ne v108 c0_i32_56
  v109

def cc0_transform_0 (i : grid0.Coords) : Fin 2 → Nat :=
  let arg0 : BitVec 32 := BitVec.ofNat 32 (i 0).val
  let c124_i32 : BitVec 32 := 124#32
  let v0 : BitVec 32 := Scalar.addi c124_i32 arg0
  let c0_i32 : BitVec 32 := 0#32
  let c0_i32_0 : BitVec 32 := 0#32
  ![v0.toNat, c0_i32.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

def cc0_transform_2 (i : grid0.Coords) : Fin 2 → Nat :=
  let arg0 : BitVec 32 := BitVec.ofNat 32 (i 0).val
  let c124_i32 : BitVec 32 := 124#32
  let v0 : BitVec 32 := Scalar.addi c124_i32 arg0
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c124_i32 : BitVec 32 := 124#32
  let v0 : BitVec 32 := Scalar.addi c124_i32 arg0
  let c127_i32 : BitVec 32 := 127#32
  let v1 : BitVec 32 := Scalar.minsi v0 c127_i32
  let c0_i32 : BitVec 32 := 0#32
  let c0_i32_0 : BitVec 32 := 0#32
  ![v1.toNat, c0_i32.toNat]

def cc0_transform_7 (i : grid0.Coords) : Fin 2 → Nat :=
  let arg0 : BitVec 32 := BitVec.ofNat 32 (i 0).val
  let c124_i32 : BitVec 32 := 124#32
  let v0 : BitVec 32 := Scalar.addi c124_i32 arg0
  let c128_i32 : BitVec 32 := 128#32
  let v1 : BitVec 32 := Scalar.subi v0 c128_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x2x256x256 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== CombineReferenceIdeal.lean ====
abbrev S33024x1024 : Shape := ⟨2, ![33024, 1024]⟩
abbrev S4x2x1280x256 : Shape := ⟨4, ![4, 2, 1280, 256]⟩
abbrev S33024x128 : Shape := ⟨2, ![33024, 128]⟩
abbrev S1024 : Shape := ⟨1, ![1024]⟩
abbrev S32768x1024 : Shape := ⟨2, ![32768, 1024]⟩
abbrev S4x1x1280x256 : Shape := ⟨4, ![4, 1, 1280, 256]⟩
abbrev S4x1280x256 : Shape := ⟨3, ![4, 1280, 256]⟩
abbrev S4x1280x512 : Shape := ⟨3, ![4, 1280, 512]⟩
abbrev S_ : Shape := ⟨0, ![]⟩
abbrev S4x1280x1024 : Shape := ⟨3, ![4, 1280, 1024]⟩
abbrev S1280x4 : Shape := ⟨2, ![1280, 4]⟩
abbrev S4x1280 : Shape := ⟨2, ![4, 1280]⟩
abbrev S4x1280x1 : Shape := ⟨3, ![4, 1280, 1]⟩
abbrev S1280x1024 : Shape := ⟨2, ![1280, 1024]⟩
abbrev S1280 : Shape := ⟨1, ![1280]⟩
abbrev S1280x1 : Shape := ⟨2, ![1280, 1]⟩
abbrev S1x1024 : Shape := ⟨2, ![1, 1024]⟩
abbrev S31744x1024 : Shape := ⟨2, ![31744, 1024]⟩
abbrev S1024x1024 : Shape := ⟨2, ![1024, 1024]⟩
abbrev S256x1024 : Shape := ⟨2, ![256, 1024]⟩

abbrev nBuf : Space → Nat
  | .hbm => 65
  | .vmem => 0
  | .smem => 0
  | _ => 0

abbrev bufTy : (tb : Table) → Fin (tcTables nBuf tb) → BufTy
  | .hbm, ⟨0, _⟩ => ⟨S33024x1024, .f32⟩
  | .hbm, ⟨1, _⟩ => ⟨S4x2x1280x256, .i32⟩
  | .hbm, ⟨2, _⟩ => ⟨S33024x128, .f32⟩
  | .hbm, ⟨3, _⟩ => ⟨S1024, .f32⟩
  | .hbm, ⟨4, _⟩ => ⟨S1024, .f32⟩
  | .hbm, ⟨5, _⟩ => ⟨S32768x1024, .f32⟩
  | .hbm, ⟨6, _⟩ => ⟨S4x1x1280x256, .i32⟩
  | .hbm, ⟨7, _⟩ => ⟨S4x1280x256, .i32⟩
  | .hbm, ⟨8, _⟩ => ⟨S4x1x1280x256, .i32⟩
  | .hbm, ⟨9, _⟩ => ⟨S4x1280x256, .i32⟩
  | .hbm, ⟨10, _⟩ => ⟨S4x1280x512, .i32⟩
  | .hbm, ⟨11, _⟩ => ⟨S_, .i32⟩
  | .hbm, ⟨12, _⟩ => ⟨S4x1280x512, .i32⟩
  | .hbm, ⟨13, _⟩ => ⟨S4x1280x512, .i32⟩
  | .hbm, ⟨14, _⟩ => ⟨S4x1280x512, .f32⟩
  | .hbm, ⟨15, _⟩ => ⟨S_, .i32⟩
  | .hbm, ⟨16, _⟩ => ⟨S4x1280x512, .i32⟩
  | .hbm, ⟨17, _⟩ => ⟨S4x1280x512, .i32⟩
  | .hbm, ⟨18, _⟩ => ⟨S4x1280x512, .f32⟩
  | .hbm, ⟨19, _⟩ => ⟨S4x1280x1024, .f32⟩
  | .hbm, ⟨20, _⟩ => ⟨S1280x4, .f32⟩
  | .hbm, ⟨21, _⟩ => ⟨S4x1280, .f32⟩
  | .hbm, ⟨22, _⟩ => ⟨S4x1280x1, .f32⟩
  | .hbm, ⟨23, _⟩ => ⟨S4x1280x1024, .f32⟩
  | .hbm, ⟨24, _⟩ => ⟨S4x1280x1024, .f32⟩
  | .hbm, ⟨25, _⟩ => ⟨S_, .f32⟩
  | .hbm, ⟨26, _⟩ => ⟨S1280x1024, .f32⟩
  | .hbm, ⟨27, _⟩ => ⟨S1280x1024, .f32⟩
  | .hbm, ⟨28, _⟩ => ⟨S_, .f32⟩
  | .hbm, ⟨29, _⟩ => ⟨S1280x1024, .f32⟩
  | .hbm, ⟨30, _⟩ => ⟨S1280x1024, .f32⟩
  | .hbm, ⟨31, _⟩ => ⟨S1280x1024, .f32⟩
  | .hbm, ⟨32, _⟩ => ⟨S_, .f32⟩
  | .hbm, ⟨33, _⟩ => ⟨S1280, .f32⟩
  | .hbm, ⟨34, _⟩ => ⟨S1280x1, .f32⟩
  | .hbm, ⟨35, _⟩ => ⟨S_, .f32⟩
  | .hbm, ⟨36, _⟩ => ⟨S1280x1, .f32⟩
  | .hbm, ⟨37, _⟩ => ⟨S1280x1, .f32⟩
  | .hbm, ⟨38, _⟩ => ⟨S1280x1024, .f32⟩
  | .hbm, ⟨39, _⟩ => ⟨S1280x1024, .f32⟩
  | .hbm, ⟨40, _⟩ => ⟨S1280x1024, .f32⟩
  | .hbm, ⟨41, _⟩ => ⟨S_, .f32⟩
  | .hbm, ⟨42, _⟩ => ⟨S1280, .f32⟩
  | .hbm, ⟨43, _⟩ => ⟨S1280x1, .f32⟩
  | .hbm, ⟨44, _⟩ => ⟨S_, .f32⟩
  | .hbm, ⟨45, _⟩ => ⟨S1280x1, .f32⟩
  | .hbm, ⟨46, _⟩ => ⟨S1280x1, .f32⟩
  | .hbm, ⟨47, _⟩ => ⟨S1280x1024, .f32⟩
  | .hbm, ⟨48, _⟩ => ⟨S1280x1024, .f32⟩
  | .hbm, ⟨49, _⟩ => ⟨S_, .f32⟩
  | .hbm, ⟨50, _⟩ => ⟨S1280x1, .f32⟩
  | .hbm, ⟨51, _⟩ => ⟨S1280x1, .f32⟩
  | .hbm, ⟨52, _⟩ => ⟨S1280x1, .f32⟩
  | .hbm, ⟨53, _⟩ => ⟨S1280x1024, .f32⟩
  | .hbm, ⟨54, _⟩ => ⟨S1280x1024, .f32⟩
  | .hbm, ⟨55, _⟩ => ⟨S1x1024, .f32⟩
  | .hbm, ⟨56, _⟩ => ⟨S1280x1024, .f32⟩
  | .hbm, ⟨57, _⟩ => ⟨S1280x1024, .f32⟩
  | .hbm, ⟨58, _⟩ => ⟨S1x1024, .f32⟩
  | .hbm, ⟨59, _⟩ => ⟨S1280x1024, .f32⟩
  | .hbm, ⟨60, _⟩ => ⟨S1280x1024, .f32⟩
  | .hbm, ⟨61, _⟩ => ⟨S31744x1024, .f32⟩
  | .hbm, ⟨62, _⟩ => ⟨S1024x1024, .f32⟩
  | .hbm, ⟨63, _⟩ => ⟨S32768x1024, .f32⟩
  | .hbm, ⟨64, _⟩ => ⟨S256x1024, .f32⟩
  | _, _ => ⟨S33024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_c_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst : Ref sig .tc := ⟨.hbm, 25, rfl⟩
abbrev main_v17 : Ref sig .tc := ⟨.hbm, 26, rfl⟩
abbrev main_v18 : Ref sig .tc := ⟨.hbm, 27, rfl⟩
abbrev main_cst_1 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_2 : Ref sig .tc := ⟨.hbm, 32, rfl⟩
abbrev main_v22 : Ref sig .tc := ⟨.hbm, 33, rfl⟩
abbrev main_v23 : Ref sig .tc := ⟨.hbm, 34, rfl⟩
abbrev main_cst_3 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_4 : Ref sig .tc := ⟨.hbm, 41, rfl⟩
abbrev main_v29 : Ref sig .tc := ⟨.hbm, 42, rfl⟩
abbrev main_v30 : Ref sig .tc := ⟨.hbm, 43, rfl⟩
abbrev main_cst_5 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_cst_6 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩

abbrev nD : Nat := 1
abbrev τ : Topo := Topo.v7x

variable {F : FTy → Type} [FloatOps F]
-- ==== Layout.lean ====
abbrev S8x33024 : Shape := ⟨2, ![8, 33024]⟩
abbrev S32x128 : Shape := ⟨2, ![32, 128]⟩
abbrev S32x1 : Shape := ⟨2, ![32, 1]⟩
abbrev S32 : Shape := ⟨1, ![32]⟩
abbrev S_ : Shape := ⟨0, ![]⟩
abbrev S4x66048 : Shape := ⟨2, ![4, 66048]⟩
abbrev S4x33024 : Shape := ⟨2, ![4, 33024]⟩
abbrev S1 : Shape := ⟨1, ![1]⟩

abbrev nBuf : Space → Nat
  | .hbm => 36
  | .vmem => 3
  | .smem => 1
  | _ => 0

abbrev bufTy : (tb : Table) → Fin (tcTables nBuf tb) → BufTy
  | .hbm, ⟨0, _⟩ => ⟨S8x33024, .i32⟩
  | .hbm, ⟨1, _⟩ => ⟨S32x128, .f32⟩
  | .hbm, ⟨2, _⟩ => ⟨S32x1, .f32⟩
  | .hbm, ⟨3, _⟩ => ⟨S32, .f32⟩
  | .hbm, ⟨4, _⟩ => ⟨S32, .i32⟩
  | .hbm, ⟨5, _⟩ => ⟨S_, .i32⟩
  | .hbm, ⟨6, _⟩ => ⟨S32, .i32⟩
  | .hbm, ⟨7, _⟩ => ⟨S32, .i32⟩
  | .hbm, ⟨8, _⟩ => ⟨S_, .i32⟩
  | .hbm, ⟨9, _⟩ => ⟨S32, .i32⟩
  | .hbm, ⟨10, _⟩ => ⟨S32, .i32⟩
  | .hbm, ⟨11, _⟩ => ⟨S_, .i32⟩
  | .hbm, ⟨12, _⟩ => ⟨S_, .i32⟩
  | .hbm, ⟨13, _⟩ => ⟨S32, .i32⟩
  | .hbm, ⟨14, _⟩ => ⟨S32, .i32⟩
  | .hbm, ⟨15, _⟩ => ⟨S32, .i32⟩
  | .hbm, ⟨16, _⟩ => ⟨S_, .i32⟩
  | .hbm, ⟨17, _⟩ => ⟨S32, .i32⟩
  | .hbm, ⟨18, _⟩ => ⟨S32, .i1⟩
  | .hbm, ⟨19, _⟩ => ⟨S32, .i32⟩
  | .hbm, ⟨20, _⟩ => ⟨S32, .i32⟩
  | .hbm, ⟨21, _⟩ => ⟨S_, .i32⟩
  | .hbm, ⟨22, _⟩ => ⟨S32, .i32⟩
  | .hbm, ⟨23, _⟩ => ⟨S32, .i1⟩
  | .hbm, ⟨24, _⟩ => ⟨S32, .i1⟩
  | .hbm, ⟨25, _⟩ => ⟨S_, .i32⟩
  | .hbm, ⟨26, _⟩ => ⟨S32, .i32⟩
  | .hbm, ⟨27, _⟩ => ⟨S32, .i32⟩
  | .hbm, ⟨28, _⟩ => ⟨S32, .i32⟩
  | .hbm, ⟨29, _⟩ => ⟨S_, .i32⟩
  | .hbm, ⟨30, _⟩ => ⟨S32, .i32⟩
  | .hbm, ⟨31, _⟩ => ⟨S32, .i32⟩
  | .hbm, ⟨32, _⟩ => ⟨S_, .i32⟩
  | .hbm, ⟨33, _⟩ => ⟨S_, .i32⟩
  | .hbm, ⟨34, _⟩ => ⟨S32, .i32⟩
  | .hbm, ⟨35, _⟩ => ⟨S4x66048, .i32⟩
  | .local _ .vmem, ⟨0, _⟩ => ⟨S8x33024, .i32⟩
  | .local _ .vmem, ⟨1, _⟩ => ⟨S4x33024, .i32⟩
  | .local _ .vmem, ⟨2, _⟩ => ⟨S4x33024, .i32⟩
  | .local _ .smem, ⟨0, _⟩ => ⟨S32, .i32⟩
  | _, _ => ⟨S8x33024, .i32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_c : Ref sig .tc := ⟨.hbm, 5, rfl⟩
abbrev main_v3 : Ref sig .tc := ⟨.hbm, 6, rfl⟩
abbrev main_v4 : Ref sig .tc := ⟨.hbm, 7, rfl⟩
abbrev main_c_0 : Ref sig .tc := ⟨.hbm, 8, rfl⟩
abbrev main_v5 : Ref sig .tc := ⟨.hbm, 9, rfl⟩
abbrev main_v6 : Ref sig .tc := ⟨.hbm, 10, rfl⟩
abbrev main_c_1 : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_call0_c : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_c_0 : Ref sig .tc := ⟨.hbm, 25, rfl⟩
abbrev main_call0_v12 : Ref sig .tc := ⟨.hbm, 26, rfl⟩
abbrev main_call0_v13 : Ref sig .tc := ⟨.hbm, 27, rfl⟩
abbrev main_v7 : Ref sig .tc := ⟨.hbm, 28, rfl⟩
abbrev main_c_2 : Ref sig .tc := ⟨.hbm, 29, rfl⟩
abbrev main_v8 : Ref sig .tc := ⟨.hbm, 30, rfl⟩
abbrev main_v9 : Ref sig .tc := ⟨.hbm, 31, rfl⟩
abbrev main_call1_call0_c : Ref sig .tc := ⟨.hbm, 32, rfl⟩
abbrev main_call1_call0_v0 : Ref sig .tc := ⟨.hbm, 33, rfl⟩
abbrev main_v10 : Ref sig .tc := ⟨.hbm, 34, rfl⟩
abbrev main_v12 : Ref sig .tc := ⟨.hbm, 35, rfl⟩
abbrev main_v11 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_sem0_0 : DmaSem sig := 0
abbrev cc0_sem1_0 : DmaSem sig := 1
abbrev cc0_sem1_1 : DmaSem sig := 2

abbrev nD : Nat := 1
abbrev τ : Topo := Topo.v7x

variable {F : FTy → Type} [FloatOps F]

abbrev grid0 : Pipeline.Grid := ⟨2, ![2, 1], ![false, false]⟩

abbrev pre0 : Pipeline.Prefetch sig := ⟨1, ![main_v11.idx], fun | 0 => main_v11.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![c0_i32.toNat, v1.toNat]

abbrev stage0_0 : Fin 1 → Memref sig .tc .vmem S8x33024 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true]

abbrev stage0_1 : Fin 2 → Memref sig .tc .vmem S4x33024 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]
-- ==== LayoutReference.lean ====
abbrev S8x33024 : Shape := ⟨2, ![8, 33024]⟩
abbrev S32x128 : Shape := ⟨2, ![32, 128]⟩
abbrev S32x1 : Shape := ⟨2, ![32, 1]⟩
abbrev S32 : Shape := ⟨1, ![32]⟩
abbrev S_ : Shape := ⟨0, ![]⟩
abbrev S4x33024 : Shape := ⟨2, ![4, 33024]⟩
abbrev S4x33024x1 : Shape := ⟨3, ![4, 33024, 1]⟩
abbrev S2 : Shape := ⟨1, ![2]⟩
abbrev S4x1x33024 : Shape := ⟨3, ![4, 1, 33024]⟩
abbrev S1x2x1 : Shape := ⟨3, ![1, 2, 1]⟩
abbrev S4x2x33024 : Shape := ⟨3, ![4, 2, 33024]⟩
abbrev S4x66048 : Shape := ⟨2, ![4, 66048]⟩

abbrev nBuf : Space → Nat
  | .hbm => 51
  | .vmem => 0
  | .smem => 0
  | _ => 0

abbrev bufTy : (tb : Table) → Fin (tcTables nBuf tb) → BufTy
  | .hbm, ⟨0, _⟩ => ⟨S8x33024, .i32⟩
  | .hbm, ⟨1, _⟩ => ⟨S32x128, .f32⟩
  | .hbm, ⟨2, _⟩ => ⟨S32x1, .f32⟩
  | .hbm, ⟨3, _⟩ => ⟨S32, .f32⟩
  | .hbm, ⟨4, _⟩ => ⟨S32, .i32⟩
  | .hbm, ⟨5, _⟩ => ⟨S_, .i32⟩
  | .hbm, ⟨6, _⟩ => ⟨S32, .i32⟩
  | .hbm, ⟨7, _⟩ => ⟨S32, .i32⟩
  | .hbm, ⟨8, _⟩ => ⟨S_, .i32⟩
  | .hbm, ⟨9, _⟩ => ⟨S32, .i32⟩
  | .hbm, ⟨10, _⟩ => ⟨S32, .i32⟩
  | .hbm, ⟨11, _⟩ => ⟨S_, .i32⟩
  | .hbm, ⟨12, _⟩ => ⟨S_, .i32⟩
  | .hbm, ⟨13, _⟩ => ⟨S32, .i32⟩
  | .hbm, ⟨14, _⟩ => ⟨S32, .i32⟩
  | .hbm, ⟨15, _⟩ => ⟨S32, .i32⟩
  | .hbm, ⟨16, _⟩ => ⟨S_, .i32⟩
  | .hbm, ⟨17, _⟩ => ⟨S32, .i32⟩
  | .hbm, ⟨18, _⟩ => ⟨S32, .i1⟩
  | .hbm, ⟨19, _⟩ => ⟨S32, .i32⟩
  | .hbm, ⟨20, _⟩ => ⟨S32, .i32⟩
  | .hbm, ⟨21, _⟩ => ⟨S_, .i32⟩
  | .hbm, ⟨22, _⟩ => ⟨S32, .i32⟩
  | .hbm, ⟨23, _⟩ => ⟨S32, .i1⟩
  | .hbm, ⟨24, _⟩ => ⟨S32, .i1⟩
  | .hbm, ⟨25, _⟩ => ⟨S_, .i32⟩
  | .hbm, ⟨26, _⟩ => ⟨S32, .i32⟩
  | .hbm, ⟨27, _⟩ => ⟨S32, .i32⟩
  | .hbm, ⟨28, _⟩ => ⟨S32, .i32⟩
  | .hbm, ⟨29, _⟩ => ⟨S_, .i32⟩
  | .hbm, ⟨30, _⟩ => ⟨S32, .i32⟩
  | .hbm, ⟨31, _⟩ => ⟨S32, .i32⟩
  | .hbm, ⟨32, _⟩ => ⟨S_, .i32⟩
  | .hbm, ⟨33, _⟩ => ⟨S_, .i32⟩
  | .hbm, ⟨34, _⟩ => ⟨S32, .i32⟩
  | .hbm, ⟨35, _⟩ => ⟨S32, .i32⟩
  | .hbm, ⟨36, _⟩ => ⟨S4x33024, .i32⟩
  | .hbm, ⟨37, _⟩ => ⟨S4x33024, .i32⟩
  | .hbm, ⟨38, _⟩ => ⟨S4x33024x1, .i32⟩
  | .hbm, ⟨39, _⟩ => ⟨S4x33024, .i32⟩
  | .hbm, ⟨40, _⟩ => ⟨S4x33024, .i32⟩
  | .hbm, ⟨41, _⟩ => ⟨S2, .i32⟩
  | .hbm, ⟨42, _⟩ => ⟨S_, .i32⟩
  | .hbm, ⟨43, _⟩ => ⟨S2, .i32⟩
  | .hbm, ⟨44, _⟩ => ⟨S2, .i32⟩
  | .hbm, ⟨45, _⟩ => ⟨S4x1x33024, .i32⟩
  | .hbm, ⟨46, _⟩ => ⟨S1x2x1, .i32⟩
  | .hbm, ⟨47, _⟩ => ⟨S4x2x33024, .i32⟩
  | .hbm, ⟨48, _⟩ => ⟨S4x2x33024, .i32⟩
  | .hbm, ⟨49, _⟩ => ⟨S4x2x33024, .i32⟩
  | .hbm, ⟨50, _⟩ => ⟨S4x66048, .i32⟩
  | _, _ => ⟨S8x33024, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_c : Ref sig .tc := ⟨.hbm, 5, rfl⟩
abbrev main_v3 : Ref sig .tc := ⟨.hbm, 6, rfl⟩
abbrev main_v4 : Ref sig .tc := ⟨.hbm, 7, rfl⟩
abbrev main_c_0 : Ref sig .tc := ⟨.hbm, 8, rfl⟩
abbrev main_v5 : Ref sig .tc := ⟨.hbm, 9, rfl⟩
abbrev main_v6 : Ref sig .tc := ⟨.hbm, 10, rfl⟩
abbrev main_c_1 : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_call0_c : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_c_0 : Ref sig .tc := ⟨.hbm, 25, rfl⟩
abbrev main_call0_v12 : Ref sig .tc := ⟨.hbm, 26, rfl⟩
abbrev main_call0_v13 : Ref sig .tc := ⟨.hbm, 27, rfl⟩
abbrev main_v7 : Ref sig .tc := ⟨.hbm, 28, rfl⟩
abbrev main_c_2 : Ref sig .tc := ⟨.hbm, 29, rfl⟩
abbrev main_v8 : Ref sig .tc := ⟨.hbm, 30, rfl⟩
abbrev main_v9 : Ref sig .tc := ⟨.hbm, 31, rfl⟩
abbrev main_call1_call0_c : Ref sig .tc := ⟨.hbm, 32, rfl⟩
abbrev main_call1_call0_v0 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_call2_v0 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_c_3 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩

abbrev nD : Nat := 1
abbrev τ : Topo := Topo.v7x

variable {F : FTy → Type} [FloatOps F]
-- ==== Proof.Values.lean ====
/-
  Hand-written, untrusted. What one row block of the expert feed-forward becomes, and that every place of the kernel computing a row block
  computes the same function of its operands.
-/
module

public import proofs.«01_k».proof.Proof.Gen.Kernel.Skeleton
public import Idealize.ShloMosaic.Lib.Pipeline.FrameBody
public import Idealize.ShloMosaic.Lib.VecWindow
public import Idealize.ShloMosaic.Lib.ValueLayout
public import Idealize.ShloMosaic.Lib.Tactic

@[expose] public section

set_option maxRecDepth 20000

noncomputable section

namespace Cert.Kernel.Hand

open Cert.Kernel Cert.Kernel.Gen
open Idealize.ShloMosaic Idealize.ShloMosaic.TcCoe Idealize.ShloMosaic.Tactic Idealize.ShloMosaic.ValueIdx
open Idealize.SL Idealize.SL.RA Idealize.SL.BI Idealize.SL.ExclCount
open scoped Idealize.SL.BI
open Idealize.SL.BI.BIBase Idealize.SL.BI.Laws Idealize.SL.ProofMode Idealize.SL.Sem

variable {F : FTy → Type} [BitOps F]

/-- The low words of a row block's result. -/
def ffnLo (x0 x1 : Vec F S1x1x256x256 .i32) (w : Vec F S1024x2048 .bf16) (b : Vec F S1x1x2048 .f32) (wd : Vec F S1024x1024 .bf16) (bd : Vec F S1x1x1024 .f32) : Vec F S1x1x256x256 .i32 :=
  k0_pay10 (k0_pay8 (k0_pay4 x0 x1 b w) (k0_pay5 x0 x1 b w) (k0_pay6 (F := F)) bd wd)

/-- The high words of a row block's result. -/
def ffnHi (x0 x1 : Vec F S1x1x256x256 .i32) (w : Vec F S1024x2048 .bf16) (b : Vec F S1x1x2048 .f32) (wd : Vec F S1024x1024 .bf16) (bd : Vec F S1x1x1024 .f32) : Vec F S1x1x256x256 .i32 :=
  k0_pay11 (k0_pay9 (k0_pay4 x0 x1 b w) (k0_pay5 x0 x1 b w) (k0_pay6 (F := F)) bd wd)

theorem ffnLo_F0 (x0 x1 : Vec F S1x1x256x256 .i32) (w : Vec F S1024x2048 .bf16) (b : Vec F S1x1x2048 .f32) (wd : Vec F S1024x1024 .bf16) (bd : Vec F S1x1x1024 .f32) :
    ffnLo x0 x1 w b wd bd = k0_pay10 (k0_pay8 (k0_pay4 x0 x1 b w) (k0_pay5 x0 x1 b w) (k0_pay6 (F := F)) bd wd) := rfl

theorem ffnHi_F0 (x0 x1 : Vec F S1x1x256x256 .i32) (w : Vec F S1024x2048 .bf16) (b : Vec F S1x1x2048 .f32) (wd : Vec F S1024x1024 .bf16) (bd : Vec F S1x1x1024 .f32) :
    ffnHi x0 x1 w b wd bd = k0_pay11 (k0_pay9 (k0_pay4 x0 x1 b w) (k0_pay5 x0 x1 b w) (k0_pay6 (F := F)) bd wd) := rfl

theorem ffnLo_F1 (x0 x1 : Vec F S1x1x256x256 .i32) (w : Vec F S1024x2048 .bf16) (b : Vec F S1x1x2048 .f32) (wd : Vec F S1024x1024 .bf16) (bd : Vec F S1x1x1024 .f32) :
    ffnLo x0 x1 w b wd bd = k0_pay19 (k0_pay15 (k0_pay12 x0) x1 b w) (k0_pay16 (k0_pay12 x0) x1 b w) (Scalar.ofBits .f32 0x00000000#32) bd wd := rfl

theorem ffnHi_F1 (x0 x1 : Vec F S1x1x256x256 .i32) (w : Vec F S1024x2048 .bf16) (b : Vec F S1x1x2048 .f32) (wd : Vec F S1024x1024 .bf16) (bd : Vec F S1x1x1024 .f32) :
    ffnHi x0 x1 w b wd bd = k0_pay20 (k0_pay18 (k0_pay15 (k0_pay12 x0) x1 b w) (k0_pay16 (k0_pay12 x0) x1 b w) (Scalar.ofBits .f32 0x00000000#32) bd wd) := rfl

theorem ffnLo_F2 (x0 x1 : Vec F S1x1x256x256 .i32) (w : Vec F S1024x2048 .bf16) (b : Vec F S1x1x2048 .f32) (wd : Vec F S1024x1024 .bf16) (bd : Vec F S1x1x1024 .f32) :
    ffnLo x0 x1 w b wd bd = k0_pay28 (k0_pay24 (k0_pay21 x0) x1 b w) (k0_pay25 (k0_pay21 x0) x1 b w) bd wd := rfl

theorem ffnHi_F2 (x0 x1 : Vec F S1x1x256x256 .i32) (w : Vec F S1024x2048 .bf16) (b : Vec F S1x1x2048 .f32) (wd : Vec F S1024x1024 .bf16) (bd : Vec F S1x1x1024 .f32) :
    ffnHi x0 x1 w b wd bd = k0_pay29 (k0_pay27 (k0_pay24 (k0_pay21 x0) x1 b w) (k0_pay25 (k0_pay21 x0) x1 b w) bd wd) := rfl

theorem ffnLo_F3 (x0 x1 : Vec F S1x1x256x256 .i32) (w : Vec F S1024x2048 .bf16) (b : Vec F S1x1x2048 .f32) (wd : Vec F S1024x1024 .bf16) (bd : Vec F S1x1x1024 .f32) :
    ffnLo x0 x1 w b wd bd = k0_pay35 (k0_pay31 bd) (k0_pay32 (k0_pay30 x0 x1) b w) wd := rfl

theorem ffnHi_F3 (x0 x1 : Vec F S1x1x256x256 .i32) (w : Vec F S1024x2048 .bf16) (b : Vec F S1x1x2048 .f32) (wd : Vec F S1024x1024 .bf16) (bd : Vec F S1x1x1024 .f32) :
    ffnHi x0 x1 w b wd bd = k0_pay36 (k0_pay34 (k0_pay31 bd) (k0_pay32 (k0_pay30 x0 x1) b w) wd) := rfl

theorem ffnLo_T0 (x0 x1 : Vec F S1x1x256x256 .i32) (w : Vec F S1024x2048 .bf16) (b : Vec F S1x1x2048 .f32) (wd : Vec F S1024x1024 .bf16) (bd : Vec F S1x1x1024 .f32) :
    ffnLo x0 x1 w b wd bd = k0_pay41 (k0_pay38 (k0_pay37 x0) x1 b w) bd wd := rfl

theorem ffnHi_T0 (x0 x1 : Vec F S1x1x256x256 .i32) (w : Vec F S1024x2048 .bf16) (b : Vec F S1x1x2048 .f32) (wd : Vec F S1024x1024 .bf16) (bd : Vec F S1x1x1024 .f32) :
    ffnHi x0 x1 w b wd bd = k0_pay42 (k0_pay40 (k0_pay38 (k0_pay37 x0) x1 b w) bd wd) := rfl

theorem ffnLo_T1 (x0 x1 : Vec F S1x1x256x256 .i32) (w : Vec F S1024x2048 .bf16) (b : Vec F S1x1x2048 .f32) (wd : Vec F S1024x1024 .bf16) (bd : Vec F S1x1x1024 .f32) :
    ffnLo x0 x1 w b wd bd = k0_pay49 (k0_pay45 bd) (k0_pay46 (k0_pay43 x0 x1) k0_pay44 b w) wd (constant S256x1024 .f32 0x00000000#32) := rfl

theorem ffnHi_T1 (x0 x1 : Vec F S1x1x256x256 .i32) (w : Vec F S1024x2048 .bf16) (b : Vec F S1x1x2048 .f32) (wd : Vec F S1024x1024 .bf16) (bd : Vec F S1x1x1024 .f32) :
    ffnHi x0 x1 w b wd bd = k0_pay50 (k0_pay48 (k0_pay45 bd) (k0_pay46 (k0_pay43 x0 x1) k0_pay44 b w) wd (constant S256x1024 .f32 0x00000000#32)) := rfl

theorem ffnLo_T2 (x0 x1 : Vec F S1x1x256x256 .i32) (w : Vec F S1024x2048 .bf16) (b : Vec F S1x1x2048 .f32) (wd : Vec F S1024x1024 .bf16) (bd : Vec F S1x1x1024 .f32) :
    ffnLo x0 x1 w b wd bd = k0_pay56 (k0_pay52 (k0_pay51 x0 x1) b w bd wd) (k0_pay53 (k0_pay51 x0 x1) b w bd wd) k0_pay54 := rfl

theorem ffnHi_T2 (x0 x1 : Vec F S1x1x256x256 .i32) (w : Vec F S1024x2048 .bf16) (b : Vec F S1x1x2048 .f32) (wd : Vec F S1024x1024 .bf16) (bd : Vec F S1x1x1024 .f32) :
    ffnHi x0 x1 w b wd bd = k0_pay57 (k0_pay52 (k0_pay51 x0 x1) b w bd wd) (k0_pay53 (k0_pay51 x0 x1) b w bd wd) k0_pay54 := rfl

theorem ffnLo_T3 (x0 x1 : Vec F S1x1x256x256 .i32) (w : Vec F S1024x2048 .bf16) (b : Vec F S1x1x2048 .f32) (wd : Vec F S1024x1024 .bf16) (bd : Vec F S1x1x1024 .f32) :
    ffnLo x0 x1 w b wd bd = k0_pay63 (k0_pay61 (k0_pay58 x0 x1) (k0_pay59 b) w (constant S256x2048 .f32 0x00000000#32) bd wd) := rfl

theorem ffnHi_T3 (x0 x1 : Vec F S1x1x256x256 .i32) (w : Vec F S1024x2048 .bf16) (b : Vec F S1x1x2048 .f32) (wd : Vec F S1024x1024 .bf16) (bd : Vec F S1x1x1024 .f32) :
    ffnHi x0 x1 w b wd bd = k0_pay64 (k0_pay62 (k0_pay58 x0 x1) (k0_pay59 b) w (constant S256x2048 .f32 0x00000000#32) bd wd) := rfl

theorem ffnLo_P0 (x0 x1 : Vec F S1x1x256x256 .i32) (w : Vec F S1024x2048 .bf16) (b : Vec F S1x1x2048 .f32) (wd : Vec F S1024x1024 .bf16) (bd : Vec F S1x1x1024 .f32) :
    ffnLo x0 x1 w b wd bd = k0_pay99 (k0_pay97 (k0_pay94 x0 x1 b w) (k0_pay95 x0 x1 b w) bd wd) := rfl

theorem ffnHi_P0 (x0 x1 : Vec F S1x1x256x256 .i32) (w : Vec F S1024x2048 .bf16) (b : Vec F S1x1x2048 .f32) (wd : Vec F S1024x1024 .bf16) (bd : Vec F S1x1x1024 .f32) :
    ffnHi x0 x1 w b wd bd = k0_pay100 (k0_pay98 (k0_pay94 x0 x1 b w) (k0_pay95 x0 x1 b w) bd wd) := rfl

theorem ffnLo_P1 (x0 x1 : Vec F S1x1x256x256 .i32) (w : Vec F S1024x2048 .bf16) (b : Vec F S1x1x2048 .f32) (wd : Vec F S1024x1024 .bf16) (bd : Vec F S1x1x1024 .f32) :
    ffnLo x0 x1 w b wd bd = k0_pay109 (k0_pay104 (k0_pay101 x0) x1 b w) (k0_pay105 (k0_pay101 x0) x1 b w) (k0_pay106 (F := F)) bd wd := rfl

theorem ffnHi_P1 (x0 x1 : Vec F S1x1x256x256 .i32) (w : Vec F S1024x2048 .bf16) (b : Vec F S1x1x2048 .f32) (wd : Vec F S1024x1024 .bf16) (bd : Vec F S1x1x1024 .f32) :
    ffnHi x0 x1 w b wd bd = k0_pay110 (k0_pay108 (k0_pay104 (k0_pay101 x0) x1 b w) (k0_pay105 (k0_pay101 x0) x1 b w) (k0_pay106 (F := F)) bd wd) := rfl

theorem ffnLo_S0 (x0 x1 : Vec F S1x1x256x256 .i32) (w : Vec F S1024x2048 .bf16) (b : Vec F S1x1x2048 .f32) (wd : Vec F S1024x1024 .bf16) (bd : Vec F S1x1x1024 .f32) :
    ffnLo x0 x1 w b wd bd = k0_pay115 (k0_pay113 (k0_pay111 x0 x1 b w) bd wd) := rfl

theorem ffnHi_S0 (x0 x1 : Vec F S1x1x256x256 .i32) (w : Vec F S1024x2048 .bf16) (b : Vec F S1x1x2048 .f32) (wd : Vec F S1024x1024 .bf16) (bd : Vec F S1x1x1024 .f32) :
    ffnHi x0 x1 w b wd bd = k0_pay116 (k0_pay114 (k0_pay111 x0 x1 b w) bd wd) := rfl

end Cert.Kernel.Hand

end
-- ==== Proof.Words.lean ====
/-
  Hand-written, untrusted. The index words of the expert feed-forward kernel, in closed form: the slot of a ring
  that a block uses (its number modulo eight), the row its words start at (256 times its number), and the numbers
  the kernel computes from an expert's range of blocks (how many groups of four it runs, whether a group of two
  and a last single block follow). From them every range check the kernel assumes of its run-time words.
-/
module

public import proofs.«01_k».proof.Proof.Gen.Kernel.Skeleton
public import Idealize.ShloMosaic.Lib.WordCmp

@[expose] public section

set_option maxRecDepth 20000

noncomputable section

namespace Cert.Kernel.Hand

open Cert.Kernel Cert.Kernel.Gen
open Idealize.ShloMosaic Idealize.ShloMosaic.WordCmp

/-! ## Words as numbers -/

/-- The slot of a ring of eight that block `w` uses, as the kernel computes it. -/
def slotW (w : BitVec 32) : BitVec 32 :=
  Scalar.select (Scalar.andi (Scalar.xori (Scalar.cmpi .slt (Scalar.remsi w (Scalar.select (Scalar.cmpi .eq 8#32 0#32) 1#32 8#32)) 0#32) (Scalar.cmpi .slt (Scalar.select (Scalar.cmpi .eq 8#32 0#32) 1#32 8#32) 0#32)) (Scalar.cmpi .ne (Scalar.remsi w (Scalar.select (Scalar.cmpi .eq 8#32 0#32) 1#32 8#32)) 0#32)) (Scalar.addi (Scalar.remsi w (Scalar.select (Scalar.cmpi .eq 8#32 0#32) 1#32 8#32)) (Scalar.select (Scalar.cmpi .eq 8#32 0#32) 1#32 8#32)) (Scalar.remsi w (Scalar.select (Scalar.cmpi .eq 8#32 0#32) 1#32 8#32))

/-- How many groups of four blocks an expert of `d` blocks has, as the kernel computes it. -/
def quarterW (d : BitVec 32) : BitVec 32 := (Scalar.select (Scalar.andi (Scalar.cmpi .ne (Scalar.subi (Scalar.extui (Scalar.cmpi .sgt d 0#32)) (Scalar.extui (Scalar.cmpi .slt d 0#32))) (Scalar.subi (Scalar.extui (Scalar.cmpi .sgt 4#32 0#32)) (Scalar.extui (Scalar.cmpi .slt 4#32 0#32)))) (Scalar.cmpi .ne (Scalar.remsi d 4#32) 0#32)) (Scalar.subi (Scalar.divsi d 4#32) 1#32) (Scalar.divsi d 4#32))

/-- How many blocks come before the last single one, when there is one, as the kernel computes it. -/
def singleW (d : BitVec 32) : BitVec 32 := (Scalar.addi (Scalar.muli (quarterW d) 4#32) (Scalar.select (Scalar.cmpi .eq (Scalar.select (Scalar.andi (Scalar.xori (Scalar.cmpi .slt (Scalar.remsi (Scalar.select (Scalar.andi (Scalar.cmpi .ne (Scalar.subi (Scalar.extui (Scalar.cmpi .sgt d 0#32)) (Scalar.extui (Scalar.cmpi .slt d 0#32))) (Scalar.subi (Scalar.extui (Scalar.cmpi .sgt 2#32 0#32)) (Scalar.extui (Scalar.cmpi .slt 2#32 0#32)))) (Scalar.cmpi .ne (Scalar.remsi d 2#32) 0#32)) (Scalar.subi (Scalar.divsi d 2#32) 1#32) (Scalar.divsi d 2#32)) (Scalar.select (Scalar.cmpi .eq 2#32 0#32) 1#32 2#32)) 0#32) (Scalar.cmpi .slt (Scalar.select (Scalar.cmpi .eq 2#32 0#32) 1#32 2#32) 0#32)) (Scalar.cmpi .ne (Scalar.remsi (Scalar.select (Scalar.andi (Scalar.cmpi .ne (Scalar.subi (Scalar.extui (Scalar.cmpi .sgt d 0#32)) (Scalar.extui (Scalar.cmpi .slt d 0#32))) (Scalar.subi (Scalar.extui (Scalar.cmpi .sgt 2#32 0#32)) (Scalar.extui (Scalar.cmpi .slt 2#32 0#32)))) (Scalar.cmpi .ne (Scalar.remsi d 2#32) 0#32)) (Scalar.subi (Scalar.divsi d 2#32) 1#32) (Scalar.divsi d 2#32)) (Scalar.select (Scalar.cmpi .eq 2#32 0#32) 1#32 2#32)) 0#32)) (Scalar.addi (Scalar.remsi (Scalar.select (Scalar.andi (Scalar.cmpi .ne (Scalar.subi (Scalar.extui (Scalar.cmpi .sgt d 0#32)) (Scalar.extui (Scalar.cmpi .slt d 0#32))) (Scalar.subi (Scalar.extui (Scalar.cmpi .sgt 2#32 0#32)) (Scalar.extui (Scalar.cmpi .slt 2#32 0#32)))) (Scalar.cmpi .ne (Scalar.remsi d 2#32) 0#32)) (Scalar.subi (Scalar.divsi d 2#32) 1#32) (Scalar.divsi d 2#32)) (Scalar.select (Scalar.cmpi .eq 2#32 0#32) 1#32 2#32)) (Scalar.select (Scalar.cmpi .eq 2#32 0#32) 1#32 2#32)) (Scalar.remsi (Scalar.select (Scalar.andi (Scalar.cmpi .ne (Scalar.subi (Scalar.extui (Scalar.cmpi .sgt d 0#32)) (Scalar.extui (Scalar.cmpi .slt d 0#32))) (Scalar.subi (Scalar.extui (Scalar.cmpi .sgt 2#32 0#32)) (Scalar.extui (Scalar.cmpi .slt 2#32 0#32)))) (Scalar.cmpi .ne (Scalar.remsi d 2#32) 0#32)) (Scalar.subi (Scalar.divsi d 2#32) 1#32) (Scalar.divsi d 2#32)) (Scalar.select (Scalar.cmpi .eq 2#32 0#32) 1#32 2#32))) 1#32) 2#32 0#32))

theorem slotW_table : ∀ k : Fin 1024, slotW (BitVec.ofNat 32 k.val) = BitVec.ofNat 32 (k.val % 8) := by decide +kernel

theorem quarterW_table : ∀ d : Fin 549, (quarterW (BitVec.ofNat 32 d.val)).toNat = d.val / 4 := by decide +kernel

theorem singleW_table : ∀ d : Fin 549, (singleW (BitVec.ofNat 32 d.val)).toNat = 4 * (d.val / 4) + (if d.val / 2 % 2 = 1 then 2 else 0) := by decide +kernel

theorem eq_ofNat {w : BitVec 32} {k : ℕ} (h : w.toNat = k) : w = BitVec.ofNat 32 k := by
  subst h; simp

theorem slotW_toNat {w : BitVec 32} {k : ℕ} (h : w.toNat = k) (hk : k < 1024) : (slotW w).toNat = k % 8 := by
  have := slotW_table ⟨k, hk⟩
  rw [eq_ofNat h, this, BitVec.toNat_ofNat]
  simp only
  omega

theorem quarterW_toNat {d : BitVec 32} {k : ℕ} (h : d.toNat = k) (hk : k < 549) : (quarterW d).toNat = k / 4 := by
  rw [eq_ofNat h]; exact quarterW_table ⟨k, hk⟩

theorem singleW_toNat {d : BitVec 32} {k : ℕ} (h : d.toNat = k) (hk : k < 549) :
    (singleW d).toNat = 4 * (k / 4) + (if k / 2 % 2 = 1 then 2 else 0) := by
  rw [eq_ofNat h]; exact singleW_table ⟨k, hk⟩

theorem addW {x y : BitVec 32} {a b : ℕ} (hx : x.toNat = a) (hy : y.toNat = b) (h : a + b < 2 ^ 31) :
    (Scalar.addi x y).toNat = a + b := by
  show (x + y).toNat = _
  rw [BitVec.toNat_add]; omega

theorem subW {x y : BitVec 32} {a b : ℕ} (hx : x.toNat = a) (hy : y.toNat = b) (h : b ≤ a) :
    (Scalar.subi x y).toNat = a - b := by
  show (x - y).toNat = _
  rw [BitVec.toNat_sub_of_le (by rw [BitVec.le_def]; omega)]; omega

theorem mulW {x y : BitVec 32} {a b : ℕ} (hx : x.toNat = a) (hy : y.toNat = b) (h : a * b < 2 ^ 31) :
    (Scalar.muli x y).toNat = a * b := by
  show (x * y).toNat = _
  rw [BitVec.toNat_mul, hx, hy, Nat.mod_eq_of_lt (by omega)]

theorem ivW {n : ℕ} (h : n < 1024) : (Scf.iv 1#32 1#32 n).toNat = n + 1 := by
  show (1#32 + BitVec.ofNat 32 n * 1#32).toNat = _
  simp [BitVec.toNat_add, BitVec.toNat_mul]; omega

theorem slot1_eq {w : BitVec 32} {k : ℕ} (h : w.toNat = k) (hk : k < 1024) :
    (![(slotW w).toNat] : Fin 1 → ℕ) = ![k % 8] := by rw [slotW_toNat h hk]

theorem slot4_eq {w : BitVec 32} {k : ℕ} (h : w.toNat = k) (hk : k < 1024) :
    (![(slotW w).toNat, 0, 0, 0] : Fin 4 → ℕ) = ![k % 8, 0, 0, 0] := by rw [slotW_toNat h hk]

theorem half_eq {w : BitVec 32} {k : ℕ} (z : ℕ) (h : w.toNat = k) (hk : k < 1024) :
    (![(Scalar.indexCast (slotW w)).toNat, z, 0, 0] : Fin 4 → ℕ) = ![k % 8, z, 0, 0] := by
  show (![(slotW w).toNat, z, 0, 0] : Fin 4 → ℕ) = _
  rw [slotW_toNat h hk]

theorem row_eq {w : BitVec 32} {k : ℕ} (h : w.toNat = k) (hk : k < 1024) :
    (![0, (Scalar.muli w 256#32).toNat, 0] : Fin 3 → ℕ) = ![0, k * 256, 0] := by
  rw [mulW h (b := 256) rfl (by omega)]

theorem back_toNat {w c : BitVec 32} {k b : ℕ} (h : w.toNat = k) (hc : c.toNat = b) (hb : b ≤ k) :
    (Scalar.subi w c).toNat = k - b := subW h hc hb

/-! ## Comparisons of words -/

theorem guard_slt {w n : BitVec 32} {k m : ℕ} (h : w.toNat = k) (hn : n.toNat = m) (hk : k < 2 ^ 31) (hm : m < 2 ^ 31) :
    Scalar.cmpi .ne (Scalar.extui (Scalar.cmpi .slt w n)) 0#32 = (if k < m then 1#1 else 0#1) := by
  have e : w.slt n = decide (k < m) := by
    rw [BitVec.slt_eq_decide, toInt_eq_toNat_of_lt_half (w := 32) (by omega), toInt_eq_toNat_of_lt_half (w := 32) (by omega), h, hn]
    simp
  show BitVec.ofBool ((BitVec.ofBool (w.slt n)).setWidth 32 != 0#32) = _
  rw [e]; by_cases hkm : k < m <;> simp [hkm]

theorem guard_sge {w n : BitVec 32} {k m : ℕ} (h : w.toNat = k) (hn : n.toNat = m) (hk : k < 2 ^ 31) (hm : m < 2 ^ 31) :
    Scalar.cmpi .ne (Scalar.extui (Scalar.cmpi .sge w n)) 0#32 = (if m ≤ k then 1#1 else 0#1) := by
  have e : n.sle w = decide (m ≤ k) := by
    rw [BitVec.sle_eq_decide, toInt_eq_toNat_of_lt_half (w := 32) (by omega), toInt_eq_toNat_of_lt_half (w := 32) (by omega), h, hn]
    simp
  show BitVec.ofBool ((BitVec.ofBool (n.sle w)).setWidth 32 != 0#32) = _
  rw [e]; by_cases hkm : m ≤ k <;> simp [hkm]

theorem guard_sgt {w n : BitVec 32} {k m : ℕ} (h : w.toNat = k) (hn : n.toNat = m) (hk : k < 2 ^ 31) (hm : m < 2 ^ 31) :
    Scalar.cmpi .ne (Scalar.extui (Scalar.cmpi .sgt w n)) 0#32 = (if m < k then 1#1 else 0#1) := by
  have e : n.slt w = decide (m < k) := by
    rw [BitVec.slt_eq_decide, toInt_eq_toNat_of_lt_half (w := 32) (by omega), toInt_eq_toNat_of_lt_half (w := 32) (by omega), h, hn]
    simp
  show BitVec.ofBool ((BitVec.ofBool (n.slt w)).setWidth 32 != 0#32) = _
  rw [e]; by_cases hkm : m < k <;> simp [hkm]

theorem of_ite {p : Prop} [Decidable p] (h : (if p then 1#1 else 0#1) = 1#1) : p := by
  by_contra hp; rw [if_neg hp] at h; exact absurd h (by decide)

/-! ## An expert's range of blocks -/

/-- The words the kernel reads for one grid point: `n` blocks in all, this expert's from `g` to `e`. -/
structure Range (v0 v2 v5 : BitVec 32) (n g e : ℕ) : Prop where
  n_eq : v0.toNat = n
  g_eq : v2.toNat = g
  e_eq : v5.toNat = e
  le : g ≤ e
  le_n : e ≤ n
  n_le : n ≤ 548

section
variable {v0 v2 v5 : BitVec 32} {n g e : ℕ}

theorem Range.d_toNat (h : Range v0 v2 v5 n g e) : (Scalar.subi v5 v2).toNat = e - g := subW h.e_eq h.g_eq h.le

theorem Range.d_eq (h : Range v0 v2 v5 n g e) : Scalar.subi v5 v2 = BitVec.ofNat 32 (e - g) := eq_ofNat h.d_toNat

theorem Range.d_lt (h : Range v0 v2 v5 n g e) : e - g < 549 := by have := h.le_n; have := h.n_le; omega

theorem subi_zero (x : BitVec 32) : Scalar.subi x 0#32 = x := by show x - 0#32 = x; simp

theorem cond7_table : ∀ d : Fin 549, k0_cond7 0#32 (BitVec.ofNat 32 d.val) = (if 4 ≤ d.val then 1#1 else 0#1) := by decide +kernel
theorem cond32_table : ∀ d : Fin 549, k0_cond32 0#32 (BitVec.ofNat 32 d.val) = (if d.val / 2 % 2 = 1 then 1#1 else 0#1) := by decide +kernel
theorem cond37_table : ∀ d : Fin 549, k0_cond37 0#32 (BitVec.ofNat 32 d.val) = (if d.val % 2 = 1 then 1#1 else 0#1) := by decide +kernel
theorem trips1_table : ∀ d : Fin 549, (k0_t1_loop 0#32 (BitVec.ofNat 32 d.val)).trips = d.val / 4 - 1 := by decide +kernel
theorem trips2_table : ∀ d : Fin 549, (k0_t2_loop 0#32 (BitVec.ofNat 32 d.val)).trips = 0 := by decide +kernel
theorem ok1_table : ∀ d : Fin 549, (k0_t1_loop 0#32 (BitVec.ofNat 32 d.val)).OK := by decide +kernel
theorem ok2_table : ∀ d : Fin 549, (k0_t2_loop 0#32 (BitVec.ofNat 32 d.val)).OK := by decide +kernel

theorem Range.cond7 (h : Range v0 v2 v5 n g e) : k0_cond7 v2 v5 = (if 4 ≤ e - g then 1#1 else 0#1) := by
  have t := cond7_table ⟨e - g, h.d_lt⟩
  simp only [k0_cond7, subi_zero] at t ⊢
  rw [h.d_eq]; exact t
theorem Range.cond32 (h : Range v0 v2 v5 n g e) : k0_cond32 v2 v5 = (if (e - g) / 2 % 2 = 1 then 1#1 else 0#1) := by
  have t := cond32_table ⟨e - g, h.d_lt⟩
  simp only [k0_cond32, subi_zero] at t ⊢
  rw [h.d_eq]; exact t
theorem Range.cond37 (h : Range v0 v2 v5 n g e) : k0_cond37 v2 v5 = (if (e - g) % 2 = 1 then 1#1 else 0#1) := by
  have t := cond37_table ⟨e - g, h.d_lt⟩
  simp only [k0_cond37, subi_zero] at t ⊢
  rw [h.d_eq]; exact t
theorem Range.loop1 (h : Range v0 v2 v5 n g e) : k0_t1_loop v2 v5 = k0_t1_loop 0#32 (BitVec.ofNat 32 (e - g)) := by
  simp only [k0_t1_loop, subi_zero]; rw [h.d_eq]
theorem Range.loop2 (h : Range v0 v2 v5 n g e) : k0_t2_loop v2 v5 = k0_t2_loop 0#32 (BitVec.ofNat 32 (e - g)) := by
  simp only [k0_t2_loop, subi_zero]; rw [h.d_eq]
theorem Range.trips1 (h : Range v0 v2 v5 n g e) : (k0_t1_loop v2 v5).trips = (e - g) / 4 - 1 := by
  rw [h.loop1]; exact trips1_table ⟨e - g, h.d_lt⟩
theorem Range.trips2 (h : Range v0 v2 v5 n g e) : (k0_t2_loop v2 v5).trips = 0 := by
  rw [h.loop2]; exact trips2_table ⟨e - g, h.d_lt⟩
theorem Range.no2 (h : Range v0 v2 v5 n g e) (t : Fin (k0_t2_loop v2 v5).trips) : False :=
  Nat.not_lt_zero _ (lt_of_lt_of_eq t.isLt h.trips2)
theorem Range.ok1 (h : Range v0 v2 v5 n g e) : (k0_t1_loop v2 v5).OK := by
  rw [h.loop1]; exact ok1_table ⟨e - g, h.d_lt⟩
theorem Range.ok2 (h : Range v0 v2 v5 n g e) : (k0_t2_loop v2 v5).OK := by
  rw [h.loop2]; exact ok2_table ⟨e - g, h.d_lt⟩

/-- The first block of each region of the kernel's body: the first group of four, trip `t` of the loop over the
    others, the group of two, the single block. -/
abbrev baseF (v2 : BitVec 32) : BitVec 32 := v2
abbrev baseT (v2 : BitVec 32) (t : ℕ) : BitVec 32 := Scalar.addi v2 (Scalar.muli 4#32 (Scf.iv 1#32 1#32 t))
abbrev baseP (v2 v5 : BitVec 32) : BitVec 32 := Scalar.addi v2 (Scalar.muli (quarterW (Scalar.subi v5 v2)) 4#32)
abbrev baseS (v2 v5 : BitVec 32) : BitVec 32 := Scalar.addi v2 (singleW (Scalar.subi v5 v2))

theorem Range.first (h : Range v0 v2 v5 n g e) (hc : k0_cond7 v2 v5 = 1#1) : (baseF v2).toNat = g ∧ g + 4 ≤ e := by
  rw [h.cond7] at hc
  have := of_ite hc; have := h.le
  exact ⟨h.g_eq, by omega⟩

theorem Range.trip (h : Range v0 v2 v5 n g e) (t : Fin (k0_t1_loop v2 v5).trips) :
    (baseT v2 t.val).toNat = g + 4 * (t.val + 1) ∧ g + 4 * (t.val + 1) + 4 ≤ e := by
  have ht := lt_of_lt_of_eq t.isLt h.trips1
  have := h.le; have := h.le_n; have := h.n_le
  exact ⟨addW h.g_eq (mulW (a := 4) rfl (ivW (by omega)) (by omega)) (by omega), by omega⟩

theorem Range.pair (h : Range v0 v2 v5 n g e) (hc : k0_cond32 v2 v5 = 1#1) :
    (baseP v2 v5).toNat = g + 4 * ((e - g) / 4) ∧ g + 4 * ((e - g) / 4) + 2 ≤ e := by
  rw [h.cond32] at hc
  have := of_ite hc; have := h.le; have := h.le_n; have := h.n_le
  refine ⟨?_, by omega⟩
  have := addW h.g_eq (mulW (y := 4#32) (b := 4) (quarterW_toNat h.d_toNat h.d_lt) rfl (by omega)) (by omega)
  rw [Nat.mul_comm] at this; exact this

theorem Range.single (h : Range v0 v2 v5 n g e) (hc : k0_cond37 v2 v5 = 1#1) :
    (baseS v2 v5).toNat = e - 1 ∧ e - 1 + 1 ≤ e := by
  rw [h.cond37] at hc
  have := of_ite hc; have := h.le; have := h.le_n; have := h.n_le
  refine ⟨?_, by omega⟩
  have := addW h.g_eq (singleW_toNat h.d_toNat h.d_lt) (by split <;> omega)
  rw [this]; split <;> omega
end

/-! ## Bounds of a window at a closed-form offset -/

theorem inb1 {off : Fin 1 → ℕ} {k : ℕ} (h : off = ![k % 8]) : ∀ a, off a + S1.size a ≤ S8.size a := by
  subst h; intro a; fin_cases a; show k % 8 + 1 ≤ 8; omega

theorem inb4 {off : Fin 4 → ℕ} {k : ℕ} (h : off = ![k % 8, 0, 0, 0]) : ∀ a, off a + S1x2x256x256.size a ≤ S8x2x256x256.size a := by
  subst h; intro a
  fin_cases a
  · show k % 8 + 1 ≤ 8; omega
  · show 0 + 2 ≤ 2; omega
  · show 0 + 256 ≤ 256; omega
  · show 0 + 256 ≤ 256; omega

theorem inbH {off : Fin 4 → ℕ} {k z : ℕ} (hz : z ≤ 1) (h : off = ![k % 8, z, 0, 0]) : ∀ a, off a + S1x1x256x256.size a ≤ S8x2x256x256.size a := by
  subst h; intro a
  fin_cases a
  · show k % 8 + 1 ≤ 8; omega
  · show z + 1 ≤ 2; omega
  · show 0 + 256 ≤ 256; omega
  · show 0 + 256 ≤ 256; omega

theorem inb3 {off : Fin 3 → ℕ} {k : ℕ} (hk : k < 548) (h : off = ![0, k * 256, 0]) : ∀ a, off a + S2x256x256.size a ≤ S2x140288x256.size a := by
  subst h; intro a
  fin_cases a
  · show 0 + 2 ≤ 2; omega
  · show k * 256 + 256 ≤ 140288; omega
  · show 0 + 256 ≤ 256; omega

theorem dvd256 (w : BitVec 32) : 256 ∣ (Scalar.muli w 256#32).toNat := by
  show 256 ∣ (w * 256#32).toNat
  rw [BitVec.toNat_mul]
  show 256 ∣ w.toNat * 256 % 4294967296
  omega

/-! ## Every offset of the kernel in closed form -/

theorem off3_eq (v2 : BitVec 32) (c : BitVec 32) {j : ℕ} (hc : c.toNat = j) (hj : j < 4) {g : ℕ} (hB : (baseF v2).toNat = g) (hg : g ≤ 600) : k0_off3 v2 c = ![(g + j) % 8] :=
  slot1_eq (w := Scalar.addi (baseF v2) c) (addW hB hc (by omega)) (by omega)
theorem off4_eq (v2 : BitVec 32) (c : BitVec 32) {j : ℕ} (hc : c.toNat = j) (hj : j < 4) {g : ℕ} (hB : (baseF v2).toNat = g) (hg : g ≤ 600) : k0_off4 v2 c = ![(g + j) % 8, 0, 0, 0] :=
  slot4_eq (w := Scalar.addi (baseF v2) c) (addW hB hc (by omega)) (by omega)
theorem off5_eq (v2 : BitVec 32) (c : BitVec 32) {j : ℕ} (hc : c.toNat = j) (hj : j < 4) {g : ℕ} (hB : (baseF v2).toNat = g) (hg : g ≤ 600) : k0_off5 v2 c = ![0, (g + j) * 256, 0] :=
  row_eq (w := Scalar.addi (baseF v2) c) (addW hB hc (by omega)) (by omega)
theorem off6_eq (v2 : BitVec 32) {g : ℕ} (hB : (baseF v2).toNat = g) (hg : g ≤ 600) : k0_off6 v2 = ![(g + 4 + 0) % 8] :=
  slot1_eq (w := Scalar.addi (Scalar.addi (baseF v2) 4#32) 0#32) (addW (addW hB (b := 4) rfl (by omega)) (b := 0) rfl (by omega)) (by omega)
theorem off7_eq (v2 : BitVec 32) {g : ℕ} (hB : (baseF v2).toNat = g) (hg : g ≤ 600) : k0_off7 v2 = ![(g + 4 + 0) % 8, 0, 0, 0] :=
  slot4_eq (w := Scalar.addi (Scalar.addi (baseF v2) 4#32) 0#32) (addW (addW hB (b := 4) rfl (by omega)) (b := 0) rfl (by omega)) (by omega)
theorem off8_eq (v2 : BitVec 32) {g : ℕ} (hB : (baseF v2).toNat = g) (hg : g ≤ 600) : k0_off8 v2 = ![0, (g + 4 + 0) * 256, 0] :=
  row_eq (w := Scalar.addi (Scalar.addi (baseF v2) 4#32) 0#32) (addW (addW hB (b := 4) rfl (by omega)) (b := 0) rfl (by omega)) (by omega)
theorem off9_eq (v2 : BitVec 32) {g : ℕ} (hB : (baseF v2).toNat = g) (hg : g ≤ 600) : k0_off9 v2 = ![(g + 4 + 1) % 8] :=
  slot1_eq (w := Scalar.addi (Scalar.addi (baseF v2) 4#32) 1#32) (addW (addW hB (b := 4) rfl (by omega)) (b := 1) rfl (by omega)) (by omega)
theorem off10_eq (v2 : BitVec 32) {g : ℕ} (hB : (baseF v2).toNat = g) (hg : g ≤ 600) : k0_off10 v2 = ![(g + 4 + 1) % 8, 0, 0, 0] :=
  slot4_eq (w := Scalar.addi (Scalar.addi (baseF v2) 4#32) 1#32) (addW (addW hB (b := 4) rfl (by omega)) (b := 1) rfl (by omega)) (by omega)
theorem off11_eq (v2 : BitVec 32) {g : ℕ} (hB : (baseF v2).toNat = g) (hg : g ≤ 600) : k0_off11 v2 = ![0, (g + 4 + 1) * 256, 0] :=
  row_eq (w := Scalar.addi (Scalar.addi (baseF v2) 4#32) 1#32) (addW (addW hB (b := 4) rfl (by omega)) (b := 1) rfl (by omega)) (by omega)
theorem off12_eq (v2 : BitVec 32) {g : ℕ} (hB : (baseF v2).toNat = g) (hg : g ≤ 600) : k0_off12 v2 = ![(g + 4 + 2) % 8] :=
  slot1_eq (w := Scalar.addi (Scalar.addi (baseF v2) 4#32) 2#32) (addW (addW hB (b := 4) rfl (by omega)) (b := 2) rfl (by omega)) (by omega)
theorem off13_eq (v2 : BitVec 32) {g : ℕ} (hB : (baseF v2).toNat = g) (hg : g ≤ 600) : k0_off13 v2 = ![(g + 4 + 2) % 8, 0, 0, 0] :=
  slot4_eq (w := Scalar.addi (Scalar.addi (baseF v2) 4#32) 2#32) (addW (addW hB (b := 4) rfl (by omega)) (b := 2) rfl (by omega)) (by omega)
theorem off14_eq (v2 : BitVec 32) {g : ℕ} (hB : (baseF v2).toNat = g) (hg : g ≤ 600) : k0_off14 v2 = ![0, (g + 4 + 2) * 256, 0] :=
  row_eq (w := Scalar.addi (Scalar.addi (baseF v2) 4#32) 2#32) (addW (addW hB (b := 4) rfl (by omega)) (b := 2) rfl (by omega)) (by omega)
theorem off15_eq (v2 : BitVec 32) {g : ℕ} (hB : (baseF v2).toNat = g) (hg : g ≤ 600) : k0_off15 v2 = ![(g + 4 + 3) % 8] :=
  slot1_eq (w := Scalar.addi (Scalar.addi (baseF v2) 4#32) 3#32) (addW (addW hB (b := 4) rfl (by omega)) (b := 3) rfl (by omega)) (by omega)
theorem off16_eq (v2 : BitVec 32) {g : ℕ} (hB : (baseF v2).toNat = g) (hg : g ≤ 600) : k0_off16 v2 = ![(g + 4 + 3) % 8, 0, 0, 0] :=
  slot4_eq (w := Scalar.addi (Scalar.addi (baseF v2) 4#32) 3#32) (addW (addW hB (b := 4) rfl (by omega)) (b := 3) rfl (by omega)) (by omega)
theorem off17_eq (v2 : BitVec 32) {g : ℕ} (hB : (baseF v2).toNat = g) (hg : g ≤ 600) : k0_off17 v2 = ![0, (g + 4 + 3) * 256, 0] :=
  row_eq (w := Scalar.addi (Scalar.addi (baseF v2) 4#32) 3#32) (addW (addW hB (b := 4) rfl (by omega)) (b := 3) rfl (by omega)) (by omega)
theorem off18_eq (v2 : BitVec 32) {g : ℕ} (hB : (baseF v2).toNat = g) (hg : g ≤ 600) : k0_off18 v2 = ![(g + 0) % 8] :=
  slot1_eq (w := Scalar.addi (baseF v2) 0#32) (addW hB (b := 0) rfl (by omega)) (by omega)
theorem off19_eq (v2 : BitVec 32) {g : ℕ} (hB : (baseF v2).toNat = g) (hg : g ≤ 600) (h8 : 8 ≤ g + 0) : k0_off19 v2 = ![0, (g + 0 - 8) * 256, 0] :=
  row_eq (w := Scalar.subi (Scalar.addi (baseF v2) 0#32) 8#32) (back_toNat (addW hB (b := 0) rfl (by omega)) (b := 8) rfl h8) (by omega)
theorem off20_eq (v2 : BitVec 32) {g : ℕ} (hB : (baseF v2).toNat = g) (hg : g ≤ 600) : k0_off20 v2 = ![(g + 0) % 8, 0, 0, 0] :=
  slot4_eq (w := Scalar.addi (baseF v2) 0#32) (addW hB (b := 0) rfl (by omega)) (by omega)
theorem off21_eq (v2 : BitVec 32) {g : ℕ} (hB : (baseF v2).toNat = g) (hg : g ≤ 600) : k0_off21 v2 = ![(g + 1) % 8] :=
  slot1_eq (w := Scalar.addi (baseF v2) 1#32) (addW hB (b := 1) rfl (by omega)) (by omega)
theorem off22_eq (v2 : BitVec 32) {g : ℕ} (hB : (baseF v2).toNat = g) (hg : g ≤ 600) (h8 : 8 ≤ g + 1) : k0_off22 v2 = ![0, (g + 1 - 8) * 256, 0] :=
  row_eq (w := Scalar.subi (Scalar.addi (baseF v2) 1#32) 8#32) (back_toNat (addW hB (b := 1) rfl (by omega)) (b := 8) rfl h8) (by omega)
theorem off23_eq (v2 : BitVec 32) {g : ℕ} (hB : (baseF v2).toNat = g) (hg : g ≤ 600) : k0_off23 v2 = ![(g + 1) % 8, 0, 0, 0] :=
  slot4_eq (w := Scalar.addi (baseF v2) 1#32) (addW hB (b := 1) rfl (by omega)) (by omega)
theorem off24_eq (v2 : BitVec 32) {g : ℕ} (hB : (baseF v2).toNat = g) (hg : g ≤ 600) : k0_off24 v2 = ![(g + 2) % 8] :=
  slot1_eq (w := Scalar.addi (baseF v2) 2#32) (addW hB (b := 2) rfl (by omega)) (by omega)
theorem off25_eq (v2 : BitVec 32) {g : ℕ} (hB : (baseF v2).toNat = g) (hg : g ≤ 600) (h8 : 8 ≤ g + 2) : k0_off25 v2 = ![0, (g + 2 - 8) * 256, 0] :=
  row_eq (w := Scalar.subi (Scalar.addi (baseF v2) 2#32) 8#32) (back_toNat (addW hB (b := 2) rfl (by omega)) (b := 8) rfl h8) (by omega)
theorem off26_eq (v2 : BitVec 32) {g : ℕ} (hB : (baseF v2).toNat = g) (hg : g ≤ 600) : k0_off26 v2 = ![(g + 2) % 8, 0, 0, 0] :=
  slot4_eq (w := Scalar.addi (baseF v2) 2#32) (addW hB (b := 2) rfl (by omega)) (by omega)
theorem off27_eq (v2 : BitVec 32) {g : ℕ} (hB : (baseF v2).toNat = g) (hg : g ≤ 600) : k0_off27 v2 = ![(g + 3) % 8] :=
  slot1_eq (w := Scalar.addi (baseF v2) 3#32) (addW hB (b := 3) rfl (by omega)) (by omega)
theorem off28_eq (v2 : BitVec 32) {g : ℕ} (hB : (baseF v2).toNat = g) (hg : g ≤ 600) (h8 : 8 ≤ g + 3) : k0_off28 v2 = ![0, (g + 3 - 8) * 256, 0] :=
  row_eq (w := Scalar.subi (Scalar.addi (baseF v2) 3#32) 8#32) (back_toNat (addW hB (b := 3) rfl (by omega)) (b := 8) rfl h8) (by omega)
theorem off29_eq (v2 : BitVec 32) {g : ℕ} (hB : (baseF v2).toNat = g) (hg : g ≤ 600) : k0_off29 v2 = ![(g + 3) % 8, 0, 0, 0] :=
  slot4_eq (w := Scalar.addi (baseF v2) 3#32) (addW hB (b := 3) rfl (by omega)) (by omega)
theorem off30_eq (v2 : BitVec 32) (c : BitVec 32) {j : ℕ} (hc : c.toNat = j) (hj : j < 4) {g : ℕ} (hB : (baseF v2).toNat = g) (hg : g ≤ 600) : k0_off30 v2 c = ![(g + j) % 8, 0, 0, 0] :=
  half_eq (w := Scalar.addi (baseF v2) c) 0 (addW hB hc (by omega)) (by omega)
theorem off31_eq (v2 : BitVec 32) (c : BitVec 32) {j : ℕ} (hc : c.toNat = j) (hj : j < 4) {g : ℕ} (hB : (baseF v2).toNat = g) (hg : g ≤ 600) : k0_off31 v2 c = ![(g + j) % 8, 1, 0, 0] :=
  half_eq (w := Scalar.addi (baseF v2) c) 1 (addW hB hc (by omega)) (by omega)
theorem off32_eq (v2 v5 : BitVec 32) (t : Fin (k0_t1_loop v2 v5).trips) (c : BitVec 32) {j : ℕ} (hc : c.toNat = j) (hj : j < 4) {g : ℕ} (hB : (baseT v2 t.val).toNat = g) (hg : g ≤ 600) : k0_off32 v2 v5 t c = ![(g + j) % 8] :=
  slot1_eq (w := Scalar.addi (baseT v2 t.val) c) (addW hB hc (by omega)) (by omega)
theorem off33_eq (v2 v5 : BitVec 32) (t : Fin (k0_t1_loop v2 v5).trips) (c : BitVec 32) {j : ℕ} (hc : c.toNat = j) (hj : j < 4) {g : ℕ} (hB : (baseT v2 t.val).toNat = g) (hg : g ≤ 600) : k0_off33 v2 v5 t c = ![(g + j) % 8, 0, 0, 0] :=
  slot4_eq (w := Scalar.addi (baseT v2 t.val) c) (addW hB hc (by omega)) (by omega)
theorem off34_eq (v2 v5 : BitVec 32) (t : Fin (k0_t1_loop v2 v5).trips) (c : BitVec 32) {j : ℕ} (hc : c.toNat = j) (hj : j < 4) {g : ℕ} (hB : (baseT v2 t.val).toNat = g) (hg : g ≤ 600) : k0_off34 v2 v5 t c = ![0, (g + j) * 256, 0] :=
  row_eq (w := Scalar.addi (baseT v2 t.val) c) (addW hB hc (by omega)) (by omega)
theorem off35_eq (v2 v5 : BitVec 32) (t : Fin (k0_t1_loop v2 v5).trips) {g : ℕ} (hB : (baseT v2 t.val).toNat = g) (hg : g ≤ 600) : k0_off35 v2 v5 t = ![(g + 4 + 0) % 8] :=
  slot1_eq (w := Scalar.addi (Scalar.addi (baseT v2 t.val) 4#32) 0#32) (addW (addW hB (b := 4) rfl (by omega)) (b := 0) rfl (by omega)) (by omega)
theorem off36_eq (v2 v5 : BitVec 32) (t : Fin (k0_t1_loop v2 v5).trips) {g : ℕ} (hB : (baseT v2 t.val).toNat = g) (hg : g ≤ 600) : k0_off36 v2 v5 t = ![(g + 4 + 0) % 8, 0, 0, 0] :=
  slot4_eq (w := Scalar.addi (Scalar.addi (baseT v2 t.val) 4#32) 0#32) (addW (addW hB (b := 4) rfl (by omega)) (b := 0) rfl (by omega)) (by omega)
theorem off37_eq (v2 v5 : BitVec 32) (t : Fin (k0_t1_loop v2 v5).trips) {g : ℕ} (hB : (baseT v2 t.val).toNat = g) (hg : g ≤ 600) : k0_off37 v2 v5 t = ![0, (g + 4 + 0) * 256, 0] :=
  row_eq (w := Scalar.addi (Scalar.addi (baseT v2 t.val) 4#32) 0#32) (addW (addW hB (b := 4) rfl (by omega)) (b := 0) rfl (by omega)) (by omega)
theorem off38_eq (v2 v5 : BitVec 32) (t : Fin (k0_t1_loop v2 v5).trips) {g : ℕ} (hB : (baseT v2 t.val).toNat = g) (hg : g ≤ 600) : k0_off38 v2 v5 t = ![(g + 4 + 1) % 8] :=
  slot1_eq (w := Scalar.addi (Scalar.addi (baseT v2 t.val) 4#32) 1#32) (addW (addW hB (b := 4) rfl (by omega)) (b := 1) rfl (by omega)) (by omega)
theorem off39_eq (v2 v5 : BitVec 32) (t : Fin (k0_t1_loop v2 v5).trips) {g : ℕ} (hB : (baseT v2 t.val).toNat = g) (hg : g ≤ 600) : k0_off39 v2 v5 t = ![(g + 4 + 1) % 8, 0, 0, 0] :=
  slot4_eq (w := Scalar.addi (Scalar.addi (baseT v2 t.val) 4#32) 1#32) (addW (addW hB (b := 4) rfl (by omega)) (b := 1) rfl (by omega)) (by omega)
theorem off40_eq (v2 v5 : BitVec 32) (t : Fin (k0_t1_loop v2 v5).trips) {g : ℕ} (hB : (baseT v2 t.val).toNat = g) (hg : g ≤ 600) : k0_off40 v2 v5 t = ![0, (g + 4 + 1) * 256, 0] :=
  row_eq (w := Scalar.addi (Scalar.addi (baseT v2 t.val) 4#32) 1#32) (addW (addW hB (b := 4) rfl (by omega)) (b := 1) rfl (by omega)) (by omega)
theorem off41_eq (v2 v5 : BitVec 32) (t : Fin (k0_t1_loop v2 v5).trips) {g : ℕ} (hB : (baseT v2 t.val).toNat = g) (hg : g ≤ 600) : k0_off41 v2 v5 t = ![(g + 4 + 2) % 8] :=
  slot1_eq (w := Scalar.addi (Scalar.addi (baseT v2 t.val) 4#32) 2#32) (addW (addW hB (b := 4) rfl (by omega)) (b := 2) rfl (by omega)) (by omega)
theorem off42_eq (v2 v5 : BitVec 32) (t : Fin (k0_t1_loop v2 v5).trips) {g : ℕ} (hB : (baseT v2 t.val).toNat = g) (hg : g ≤ 600) : k0_off42 v2 v5 t = ![(g + 4 + 2) % 8, 0, 0, 0] :=
  slot4_eq (w := Scalar.addi (Scalar.addi (baseT v2 t.val) 4#32) 2#32) (addW (addW hB (b := 4) rfl (by omega)) (b := 2) rfl (by omega)) (by omega)
theorem off43_eq (v2 v5 : BitVec 32) (t : Fin (k0_t1_loop v2 v5).trips) {g : ℕ} (hB : (baseT v2 t.val).toNat = g) (hg : g ≤ 600) : k0_off43 v2 v5 t = ![0, (g + 4 + 2) * 256, 0] :=
  row_eq (w := Scalar.addi (Scalar.addi (baseT v2 t.val) 4#32) 2#32) (addW (addW hB (b := 4) rfl (by omega)) (b := 2) rfl (by omega)) (by omega)
theorem off44_eq (v2 v5 : BitVec 32) (t : Fin (k0_t1_loop v2 v5).trips) {g : ℕ} (hB : (baseT v2 t.val).toNat = g) (hg : g ≤ 600) : k0_off44 v2 v5 t = ![(g + 4 + 3) % 8] :=
  slot1_eq (w := Scalar.addi (Scalar.addi (baseT v2 t.val) 4#32) 3#32) (addW (addW hB (b := 4) rfl (by omega)) (b := 3) rfl (by omega)) (by omega)
theorem off45_eq (v2 v5 : BitVec 32) (t : Fin (k0_t1_loop v2 v5).trips) {g : ℕ} (hB : (baseT v2 t.val).toNat = g) (hg : g ≤ 600) : k0_off45 v2 v5 t = ![(g + 4 + 3) % 8, 0, 0, 0] :=
  slot4_eq (w := Scalar.addi (Scalar.addi (baseT v2 t.val) 4#32) 3#32) (addW (addW hB (b := 4) rfl (by omega)) (b := 3) rfl (by omega)) (by omega)
theorem off46_eq (v2 v5 : BitVec 32) (t : Fin (k0_t1_loop v2 v5).trips) {g : ℕ} (hB : (baseT v2 t.val).toNat = g) (hg : g ≤ 600) : k0_off46 v2 v5 t = ![0, (g + 4 + 3) * 256, 0] :=
  row_eq (w := Scalar.addi (Scalar.addi (baseT v2 t.val) 4#32) 3#32) (addW (addW hB (b := 4) rfl (by omega)) (b := 3) rfl (by omega)) (by omega)
theorem off47_eq (v2 v5 : BitVec 32) (t : Fin (k0_t1_loop v2 v5).trips) {g : ℕ} (hB : (baseT v2 t.val).toNat = g) (hg : g ≤ 600) : k0_off47 v2 v5 t = ![(g + 0) % 8] :=
  slot1_eq (w := Scalar.addi (baseT v2 t.val) 0#32) (addW hB (b := 0) rfl (by omega)) (by omega)
theorem off48_eq (v2 v5 : BitVec 32) (t : Fin (k0_t1_loop v2 v5).trips) {g : ℕ} (hB : (baseT v2 t.val).toNat = g) (hg : g ≤ 600) (h8 : 8 ≤ g + 0) : k0_off48 v2 v5 t = ![0, (g + 0 - 8) * 256, 0] :=
  row_eq (w := Scalar.subi (Scalar.addi (baseT v2 t.val) 0#32) 8#32) (back_toNat (addW hB (b := 0) rfl (by omega)) (b := 8) rfl h8) (by omega)
theorem off49_eq (v2 v5 : BitVec 32) (t : Fin (k0_t1_loop v2 v5).trips) {g : ℕ} (hB : (baseT v2 t.val).toNat = g) (hg : g ≤ 600) : k0_off49 v2 v5 t = ![(g + 0) % 8, 0, 0, 0] :=
  slot4_eq (w := Scalar.addi (baseT v2 t.val) 0#32) (addW hB (b := 0) rfl (by omega)) (by omega)
theorem off50_eq (v2 v5 : BitVec 32) (t : Fin (k0_t1_loop v2 v5).trips) {g : ℕ} (hB : (baseT v2 t.val).toNat = g) (hg : g ≤ 600) : k0_off50 v2 v5 t = ![(g + 1) % 8] :=
  slot1_eq (w := Scalar.addi (baseT v2 t.val) 1#32) (addW hB (b := 1) rfl (by omega)) (by omega)
theorem off51_eq (v2 v5 : BitVec 32) (t : Fin (k0_t1_loop v2 v5).trips) {g : ℕ} (hB : (baseT v2 t.val).toNat = g) (hg : g ≤ 600) (h8 : 8 ≤ g + 1) : k0_off51 v2 v5 t = ![0, (g + 1 - 8) * 256, 0] :=
  row_eq (w := Scalar.subi (Scalar.addi (baseT v2 t.val) 1#32) 8#32) (back_toNat (addW hB (b := 1) rfl (by omega)) (b := 8) rfl h8) (by omega)
theorem off52_eq (v2 v5 : BitVec 32) (t : Fin (k0_t1_loop v2 v5).trips) {g : ℕ} (hB : (baseT v2 t.val).toNat = g) (hg : g ≤ 600) : k0_off52 v2 v5 t = ![(g + 1) % 8, 0, 0, 0] :=
  slot4_eq (w := Scalar.addi (baseT v2 t.val) 1#32) (addW hB (b := 1) rfl (by omega)) (by omega)
theorem off53_eq (v2 v5 : BitVec 32) (t : Fin (k0_t1_loop v2 v5).trips) {g : ℕ} (hB : (baseT v2 t.val).toNat = g) (hg : g ≤ 600) : k0_off53 v2 v5 t = ![(g + 2) % 8] :=
  slot1_eq (w := Scalar.addi (baseT v2 t.val) 2#32) (addW hB (b := 2) rfl (by omega)) (by omega)
theorem off54_eq (v2 v5 : BitVec 32) (t : Fin (k0_t1_loop v2 v5).trips) {g : ℕ} (hB : (baseT v2 t.val).toNat = g) (hg : g ≤ 600) (h8 : 8 ≤ g + 2) : k0_off54 v2 v5 t = ![0, (g + 2 - 8) * 256, 0] :=
  row_eq (w := Scalar.subi (Scalar.addi (baseT v2 t.val) 2#32) 8#32) (back_toNat (addW hB (b := 2) rfl (by omega)) (b := 8) rfl h8) (by omega)
theorem off55_eq (v2 v5 : BitVec 32) (t : Fin (k0_t1_loop v2 v5).trips) {g : ℕ} (hB : (baseT v2 t.val).toNat = g) (hg : g ≤ 600) : k0_off55 v2 v5 t = ![(g + 2) % 8, 0, 0, 0] :=
  slot4_eq (w := Scalar.addi (baseT v2 t.val) 2#32) (addW hB (b := 2) rfl (by omega)) (by omega)
theorem off56_eq (v2 v5 : BitVec 32) (t : Fin (k0_t1_loop v2 v5).trips) {g : ℕ} (hB : (baseT v2 t.val).toNat = g) (hg : g ≤ 600) : k0_off56 v2 v5 t = ![(g + 3) % 8] :=
  slot1_eq (w := Scalar.addi (baseT v2 t.val) 3#32) (addW hB (b := 3) rfl (by omega)) (by omega)
theorem off57_eq (v2 v5 : BitVec 32) (t : Fin (k0_t1_loop v2 v5).trips) {g : ℕ} (hB : (baseT v2 t.val).toNat = g) (hg : g ≤ 600) (h8 : 8 ≤ g + 3) : k0_off57 v2 v5 t = ![0, (g + 3 - 8) * 256, 0] :=
  row_eq (w := Scalar.subi (Scalar.addi (baseT v2 t.val) 3#32) 8#32) (back_toNat (addW hB (b := 3) rfl (by omega)) (b := 8) rfl h8) (by omega)
theorem off58_eq (v2 v5 : BitVec 32) (t : Fin (k0_t1_loop v2 v5).trips) {g : ℕ} (hB : (baseT v2 t.val).toNat = g) (hg : g ≤ 600) : k0_off58 v2 v5 t = ![(g + 3) % 8, 0, 0, 0] :=
  slot4_eq (w := Scalar.addi (baseT v2 t.val) 3#32) (addW hB (b := 3) rfl (by omega)) (by omega)
theorem off59_eq (v2 v5 : BitVec 32) (t : Fin (k0_t1_loop v2 v5).trips) (c : BitVec 32) {j : ℕ} (hc : c.toNat = j) (hj : j < 4) {g : ℕ} (hB : (baseT v2 t.val).toNat = g) (hg : g ≤ 600) : k0_off59 v2 v5 t c = ![(g + j) % 8, 0, 0, 0] :=
  half_eq (w := Scalar.addi (baseT v2 t.val) c) 0 (addW hB hc (by omega)) (by omega)
theorem off60_eq (v2 v5 : BitVec 32) (t : Fin (k0_t1_loop v2 v5).trips) (c : BitVec 32) {j : ℕ} (hc : c.toNat = j) (hj : j < 4) {g : ℕ} (hB : (baseT v2 t.val).toNat = g) (hg : g ≤ 600) : k0_off60 v2 v5 t c = ![(g + j) % 8, 1, 0, 0] :=
  half_eq (w := Scalar.addi (baseT v2 t.val) c) 1 (addW hB hc (by omega)) (by omega)
theorem off90_eq (v2 v5 : BitVec 32) (c : BitVec 32) {j : ℕ} (hc : c.toNat = j) (hj : j < 4) {g : ℕ} (hB : (baseP v2 v5).toNat = g) (hg : g ≤ 600) : k0_off90 v2 v5 c = ![(g + j) % 8] :=
  slot1_eq (w := Scalar.addi (baseP v2 v5) c) (addW hB hc (by omega)) (by omega)
theorem off91_eq (v2 v5 : BitVec 32) (c : BitVec 32) {j : ℕ} (hc : c.toNat = j) (hj : j < 4) {g : ℕ} (hB : (baseP v2 v5).toNat = g) (hg : g ≤ 600) : k0_off91 v2 v5 c = ![(g + j) % 8, 0, 0, 0] :=
  slot4_eq (w := Scalar.addi (baseP v2 v5) c) (addW hB hc (by omega)) (by omega)
theorem off92_eq (v2 v5 : BitVec 32) (c : BitVec 32) {j : ℕ} (hc : c.toNat = j) (hj : j < 4) {g : ℕ} (hB : (baseP v2 v5).toNat = g) (hg : g ≤ 600) : k0_off92 v2 v5 c = ![0, (g + j) * 256, 0] :=
  row_eq (w := Scalar.addi (baseP v2 v5) c) (addW hB hc (by omega)) (by omega)
theorem off93_eq (v2 v5 : BitVec 32) {g : ℕ} (hB : (baseP v2 v5).toNat = g) (hg : g ≤ 600) : k0_off93 v2 v5 = ![(g + 4 + 0) % 8] :=
  slot1_eq (w := Scalar.addi (Scalar.addi (baseP v2 v5) 4#32) 0#32) (addW (addW hB (b := 4) rfl (by omega)) (b := 0) rfl (by omega)) (by omega)
theorem off94_eq (v2 v5 : BitVec 32) {g : ℕ} (hB : (baseP v2 v5).toNat = g) (hg : g ≤ 600) : k0_off94 v2 v5 = ![(g + 4 + 0) % 8, 0, 0, 0] :=
  slot4_eq (w := Scalar.addi (Scalar.addi (baseP v2 v5) 4#32) 0#32) (addW (addW hB (b := 4) rfl (by omega)) (b := 0) rfl (by omega)) (by omega)
theorem off95_eq (v2 v5 : BitVec 32) {g : ℕ} (hB : (baseP v2 v5).toNat = g) (hg : g ≤ 600) : k0_off95 v2 v5 = ![0, (g + 4 + 0) * 256, 0] :=
  row_eq (w := Scalar.addi (Scalar.addi (baseP v2 v5) 4#32) 0#32) (addW (addW hB (b := 4) rfl (by omega)) (b := 0) rfl (by omega)) (by omega)
theorem off96_eq (v2 v5 : BitVec 32) {g : ℕ} (hB : (baseP v2 v5).toNat = g) (hg : g ≤ 600) : k0_off96 v2 v5 = ![(g + 4 + 1) % 8] :=
  slot1_eq (w := Scalar.addi (Scalar.addi (baseP v2 v5) 4#32) 1#32) (addW (addW hB (b := 4) rfl (by omega)) (b := 1) rfl (by omega)) (by omega)
theorem off97_eq (v2 v5 : BitVec 32) {g : ℕ} (hB : (baseP v2 v5).toNat = g) (hg : g ≤ 600) : k0_off97 v2 v5 = ![(g + 4 + 1) % 8, 0, 0, 0] :=
  slot4_eq (w := Scalar.addi (Scalar.addi (baseP v2 v5) 4#32) 1#32) (addW (addW hB (b := 4) rfl (by omega)) (b := 1) rfl (by omega)) (by omega)
theorem off98_eq (v2 v5 : BitVec 32) {g : ℕ} (hB : (baseP v2 v5).toNat = g) (hg : g ≤ 600) : k0_off98 v2 v5 = ![0, (g + 4 + 1) * 256, 0] :=
  row_eq (w := Scalar.addi (Scalar.addi (baseP v2 v5) 4#32) 1#32) (addW (addW hB (b := 4) rfl (by omega)) (b := 1) rfl (by omega)) (by omega)
theorem off99_eq (v2 v5 : BitVec 32) {g : ℕ} (hB : (baseP v2 v5).toNat = g) (hg : g ≤ 600) : k0_off99 v2 v5 = ![(g + 0) % 8] :=
  slot1_eq (w := Scalar.addi (baseP v2 v5) 0#32) (addW hB (b := 0) rfl (by omega)) (by omega)
theorem off100_eq (v2 v5 : BitVec 32) {g : ℕ} (hB : (baseP v2 v5).toNat = g) (hg : g ≤ 600) (h8 : 8 ≤ g + 0) : k0_off100 v2 v5 = ![0, (g + 0 - 8) * 256, 0] :=
  row_eq (w := Scalar.subi (Scalar.addi (baseP v2 v5) 0#32) 8#32) (back_toNat (addW hB (b := 0) rfl (by omega)) (b := 8) rfl h8) (by omega)
theorem off101_eq (v2 v5 : BitVec 32) {g : ℕ} (hB : (baseP v2 v5).toNat = g) (hg : g ≤ 600) : k0_off101 v2 v5 = ![(g + 0) % 8, 0, 0, 0] :=
  slot4_eq (w := Scalar.addi (baseP v2 v5) 0#32) (addW hB (b := 0) rfl (by omega)) (by omega)
theorem off102_eq (v2 v5 : BitVec 32) {g : ℕ} (hB : (baseP v2 v5).toNat = g) (hg : g ≤ 600) : k0_off102 v2 v5 = ![(g + 1) % 8] :=
  slot1_eq (w := Scalar.addi (baseP v2 v5) 1#32) (addW hB (b := 1) rfl (by omega)) (by omega)
theorem off103_eq (v2 v5 : BitVec 32) {g : ℕ} (hB : (baseP v2 v5).toNat = g) (hg : g ≤ 600) (h8 : 8 ≤ g + 1) : k0_off103 v2 v5 = ![0, (g + 1 - 8) * 256, 0] :=
  row_eq (w := Scalar.subi (Scalar.addi (baseP v2 v5) 1#32) 8#32) (back_toNat (addW hB (b := 1) rfl (by omega)) (b := 8) rfl h8) (by omega)
theorem off104_eq (v2 v5 : BitVec 32) {g : ℕ} (hB : (baseP v2 v5).toNat = g) (hg : g ≤ 600) : k0_off104 v2 v5 = ![(g + 1) % 8, 0, 0, 0] :=
  slot4_eq (w := Scalar.addi (baseP v2 v5) 1#32) (addW hB (b := 1) rfl (by omega)) (by omega)
theorem off105_eq (v2 v5 : BitVec 32) (c : BitVec 32) {j : ℕ} (hc : c.toNat = j) (hj : j < 4) {g : ℕ} (hB : (baseP v2 v5).toNat = g) (hg : g ≤ 600) : k0_off105 v2 v5 c = ![(g + j) % 8, 0, 0, 0] :=
  half_eq (w := Scalar.addi (baseP v2 v5) c) 0 (addW hB hc (by omega)) (by omega)
theorem off106_eq (v2 v5 : BitVec 32) (c : BitVec 32) {j : ℕ} (hc : c.toNat = j) (hj : j < 4) {g : ℕ} (hB : (baseP v2 v5).toNat = g) (hg : g ≤ 600) : k0_off106 v2 v5 c = ![(g + j) % 8, 1, 0, 0] :=
  half_eq (w := Scalar.addi (baseP v2 v5) c) 1 (addW hB hc (by omega)) (by omega)
theorem off107_eq (v2 v5 : BitVec 32) {g : ℕ} (hB : (baseS v2 v5).toNat = g) (hg : g ≤ 600) : k0_off107 v2 v5 = ![(g + 0) % 8] :=
  slot1_eq (w := Scalar.addi (baseS v2 v5) 0#32) (addW hB (b := 0) rfl (by omega)) (by omega)
theorem off108_eq (v2 v5 : BitVec 32) {g : ℕ} (hB : (baseS v2 v5).toNat = g) (hg : g ≤ 600) : k0_off108 v2 v5 = ![(g + 0) % 8, 0, 0, 0] :=
  slot4_eq (w := Scalar.addi (baseS v2 v5) 0#32) (addW hB (b := 0) rfl (by omega)) (by omega)
theorem off109_eq (v2 v5 : BitVec 32) {g : ℕ} (hB : (baseS v2 v5).toNat = g) (hg : g ≤ 600) : k0_off109 v2 v5 = ![0, (g + 0) * 256, 0] :=
  row_eq (w := Scalar.addi (baseS v2 v5) 0#32) (addW hB (b := 0) rfl (by omega)) (by omega)
theorem off110_eq (v2 v5 : BitVec 32) {g : ℕ} (hB : (baseS v2 v5).toNat = g) (hg : g ≤ 600) : k0_off110 v2 v5 = ![(g + 4 + 0) % 8] :=
  slot1_eq (w := Scalar.addi (Scalar.addi (baseS v2 v5) 4#32) 0#32) (addW (addW hB (b := 4) rfl (by omega)) (b := 0) rfl (by omega)) (by omega)
theorem off111_eq (v2 v5 : BitVec 32) {g : ℕ} (hB : (baseS v2 v5).toNat = g) (hg : g ≤ 600) : k0_off111 v2 v5 = ![(g + 4 + 0) % 8, 0, 0, 0] :=
  slot4_eq (w := Scalar.addi (Scalar.addi (baseS v2 v5) 4#32) 0#32) (addW (addW hB (b := 4) rfl (by omega)) (b := 0) rfl (by omega)) (by omega)
theorem off112_eq (v2 v5 : BitVec 32) {g : ℕ} (hB : (baseS v2 v5).toNat = g) (hg : g ≤ 600) : k0_off112 v2 v5 = ![0, (g + 4 + 0) * 256, 0] :=
  row_eq (w := Scalar.addi (Scalar.addi (baseS v2 v5) 4#32) 0#32) (addW (addW hB (b := 4) rfl (by omega)) (b := 0) rfl (by omega)) (by omega)
theorem off113_eq (v2 v5 : BitVec 32) {g : ℕ} (hB : (baseS v2 v5).toNat = g) (hg : g ≤ 600) : k0_off113 v2 v5 = ![(g + 0) % 8] :=
  slot1_eq (w := Scalar.addi (baseS v2 v5) 0#32) (addW hB (b := 0) rfl (by omega)) (by omega)
theorem off114_eq (v2 v5 : BitVec 32) {g : ℕ} (hB : (baseS v2 v5).toNat = g) (hg : g ≤ 600) (h8 : 8 ≤ g + 0) : k0_off114 v2 v5 = ![0, (g + 0 - 8) * 256, 0] :=
  row_eq (w := Scalar.subi (Scalar.addi (baseS v2 v5) 0#32) 8#32) (back_toNat (addW hB (b := 0) rfl (by omega)) (b := 8) rfl h8) (by omega)
theorem off115_eq (v2 v5 : BitVec 32) {g : ℕ} (hB : (baseS v2 v5).toNat = g) (hg : g ≤ 600) : k0_off115 v2 v5 = ![(g + 0) % 8, 0, 0, 0] :=
  slot4_eq (w := Scalar.addi (baseS v2 v5) 0#32) (addW hB (b := 0) rfl (by omega)) (by omega)
theorem off116_eq (v2 v5 : BitVec 32) {g : ℕ} (hB : (baseS v2 v5).toNat = g) (hg : g ≤ 600) : k0_off116 v2 v5 = ![(g + 0) % 8, 0, 0, 0] :=
  half_eq (w := Scalar.addi (baseS v2 v5) 0#32) 0 (addW hB (b := 0) rfl (by omega)) (by omega)
theorem off117_eq (v2 v5 : BitVec 32) {g : ℕ} (hB : (baseS v2 v5).toNat = g) (hg : g ≤ 600) : k0_off117 v2 v5 = ![(g + 0) % 8, 1, 0, 0] :=
  half_eq (w := Scalar.addi (baseS v2 v5) 0#32) 1 (addW hB (b := 0) rfl (by omega)) (by omega)
theorem cond8_eq (v0 : BitVec 32) (v2 : BitVec 32) {g n : ℕ} (hB : (baseF v2).toNat = g) (hg : g ≤ 600) (hn : v0.toNat = n) (hn' : n ≤ 600) : k0_cond8 v0 v2 = (if g + 4 + 0 < n then 1#1 else 0#1) :=
  guard_slt (w := Scalar.addi (Scalar.addi (baseF v2) 4#32) 0#32) (addW (addW hB (b := 4) rfl (by omega)) (b := 0) rfl (by omega)) hn (by omega) (by omega)
theorem cond9_eq (v0 : BitVec 32) (v2 : BitVec 32) {g n : ℕ} (hB : (baseF v2).toNat = g) (hg : g ≤ 600) (hn : v0.toNat = n) (hn' : n ≤ 600) : k0_cond9 v0 v2 = (if g + 4 + 1 < n then 1#1 else 0#1) :=
  guard_slt (w := Scalar.addi (Scalar.addi (baseF v2) 4#32) 1#32) (addW (addW hB (b := 4) rfl (by omega)) (b := 1) rfl (by omega)) hn (by omega) (by omega)
theorem cond10_eq (v0 : BitVec 32) (v2 : BitVec 32) {g n : ℕ} (hB : (baseF v2).toNat = g) (hg : g ≤ 600) (hn : v0.toNat = n) (hn' : n ≤ 600) : k0_cond10 v0 v2 = (if g + 4 + 2 < n then 1#1 else 0#1) :=
  guard_slt (w := Scalar.addi (Scalar.addi (baseF v2) 4#32) 2#32) (addW (addW hB (b := 4) rfl (by omega)) (b := 2) rfl (by omega)) hn (by omega) (by omega)
theorem cond11_eq (v0 : BitVec 32) (v2 : BitVec 32) {g n : ℕ} (hB : (baseF v2).toNat = g) (hg : g ≤ 600) (hn : v0.toNat = n) (hn' : n ≤ 600) : k0_cond11 v0 v2 = (if g + 4 + 3 < n then 1#1 else 0#1) :=
  guard_slt (w := Scalar.addi (Scalar.addi (baseF v2) 4#32) 3#32) (addW (addW hB (b := 4) rfl (by omega)) (b := 3) rfl (by omega)) hn (by omega) (by omega)
theorem cond12_eq (v2 : BitVec 32) {g : ℕ} (hB : (baseF v2).toNat = g) (hg : g ≤ 600) : k0_cond12 v2 = (if 8 ≤ g + 0 then 1#1 else 0#1) :=
  guard_sge (w := Scalar.addi (baseF v2) 0#32) (m := 8) (addW hB (b := 0) rfl (by omega)) rfl (by omega) (by omega)
theorem cond13_eq (v2 : BitVec 32) {g : ℕ} (hB : (baseF v2).toNat = g) (hg : g ≤ 600) : k0_cond13 v2 = (if 8 ≤ g + 1 then 1#1 else 0#1) :=
  guard_sge (w := Scalar.addi (baseF v2) 1#32) (m := 8) (addW hB (b := 1) rfl (by omega)) rfl (by omega) (by omega)
theorem cond14_eq (v2 : BitVec 32) {g : ℕ} (hB : (baseF v2).toNat = g) (hg : g ≤ 600) : k0_cond14 v2 = (if 8 ≤ g + 2 then 1#1 else 0#1) :=
  guard_sge (w := Scalar.addi (baseF v2) 2#32) (m := 8) (addW hB (b := 2) rfl (by omega)) rfl (by omega) (by omega)
theorem cond15_eq (v2 : BitVec 32) {g : ℕ} (hB : (baseF v2).toNat = g) (hg : g ≤ 600) : k0_cond15 v2 = (if 8 ≤ g + 3 then 1#1 else 0#1) :=
  guard_sge (w := Scalar.addi (baseF v2) 3#32) (m := 8) (addW hB (b := 3) rfl (by omega)) rfl (by omega) (by omega)
theorem cond16_eq (v0 : BitVec 32) (v2 v5 : BitVec 32) (t : Fin (k0_t1_loop v2 v5).trips) {g n : ℕ} (hB : (baseT v2 t.val).toNat = g) (hg : g ≤ 600) (hn : v0.toNat = n) (hn' : n ≤ 600) : k0_cond16 v0 v2 v5 t = (if g + 4 + 0 < n then 1#1 else 0#1) :=
  guard_slt (w := Scalar.addi (Scalar.addi (baseT v2 t.val) 4#32) 0#32) (addW (addW hB (b := 4) rfl (by omega)) (b := 0) rfl (by omega)) hn (by omega) (by omega)
theorem cond17_eq (v0 : BitVec 32) (v2 v5 : BitVec 32) (t : Fin (k0_t1_loop v2 v5).trips) {g n : ℕ} (hB : (baseT v2 t.val).toNat = g) (hg : g ≤ 600) (hn : v0.toNat = n) (hn' : n ≤ 600) : k0_cond17 v0 v2 v5 t = (if g + 4 + 1 < n then 1#1 else 0#1) :=
  guard_slt (w := Scalar.addi (Scalar.addi (baseT v2 t.val) 4#32) 1#32) (addW (addW hB (b := 4) rfl (by omega)) (b := 1) rfl (by omega)) hn (by omega) (by omega)
theorem cond18_eq (v0 : BitVec 32) (v2 v5 : BitVec 32) (t : Fin (k0_t1_loop v2 v5).trips) {g n : ℕ} (hB : (baseT v2 t.val).toNat = g) (hg : g ≤ 600) (hn : v0.toNat = n) (hn' : n ≤ 600) : k0_cond18 v0 v2 v5 t = (if g + 4 + 2 < n then 1#1 else 0#1) :=
  guard_slt (w := Scalar.addi (Scalar.addi (baseT v2 t.val) 4#32) 2#32) (addW (addW hB (b := 4) rfl (by omega)) (b := 2) rfl (by omega)) hn (by omega) (by omega)
theorem cond19_eq (v0 : BitVec 32) (v2 v5 : BitVec 32) (t : Fin (k0_t1_loop v2 v5).trips) {g n : ℕ} (hB : (baseT v2 t.val).toNat = g) (hg : g ≤ 600) (hn : v0.toNat = n) (hn' : n ≤ 600) : k0_cond19 v0 v2 v5 t = (if g + 4 + 3 < n then 1#1 else 0#1) :=
  guard_slt (w := Scalar.addi (Scalar.addi (baseT v2 t.val) 4#32) 3#32) (addW (addW hB (b := 4) rfl (by omega)) (b := 3) rfl (by omega)) hn (by omega) (by omega)
theorem cond20_eq (v2 v5 : BitVec 32) (t : Fin (k0_t1_loop v2 v5).trips) {g : ℕ} (hB : (baseT v2 t.val).toNat = g) (hg : g ≤ 600) : k0_cond20 v2 v5 t = (if 8 ≤ g + 0 then 1#1 else 0#1) :=
  guard_sge (w := Scalar.addi (baseT v2 t.val) 0#32) (m := 8) (addW hB (b := 0) rfl (by omega)) rfl (by omega) (by omega)
theorem cond21_eq (v2 v5 : BitVec 32) (t : Fin (k0_t1_loop v2 v5).trips) {g : ℕ} (hB : (baseT v2 t.val).toNat = g) (hg : g ≤ 600) : k0_cond21 v2 v5 t = (if 8 ≤ g + 1 then 1#1 else 0#1) :=
  guard_sge (w := Scalar.addi (baseT v2 t.val) 1#32) (m := 8) (addW hB (b := 1) rfl (by omega)) rfl (by omega) (by omega)
theorem cond22_eq (v2 v5 : BitVec 32) (t : Fin (k0_t1_loop v2 v5).trips) {g : ℕ} (hB : (baseT v2 t.val).toNat = g) (hg : g ≤ 600) : k0_cond22 v2 v5 t = (if 8 ≤ g + 2 then 1#1 else 0#1) :=
  guard_sge (w := Scalar.addi (baseT v2 t.val) 2#32) (m := 8) (addW hB (b := 2) rfl (by omega)) rfl (by omega) (by omega)
theorem cond23_eq (v2 v5 : BitVec 32) (t : Fin (k0_t1_loop v2 v5).trips) {g : ℕ} (hB : (baseT v2 t.val).toNat = g) (hg : g ≤ 600) : k0_cond23 v2 v5 t = (if 8 ≤ g + 3 then 1#1 else 0#1) :=
  guard_sge (w := Scalar.addi (baseT v2 t.val) 3#32) (m := 8) (addW hB (b := 3) rfl (by omega)) rfl (by omega) (by omega)
theorem cond33_eq (v0 : BitVec 32) (v2 v5 : BitVec 32) {g n : ℕ} (hB : (baseP v2 v5).toNat = g) (hg : g ≤ 600) (hn : v0.toNat = n) (hn' : n ≤ 600) : k0_cond33 v0 v2 v5 = (if g + 4 + 0 < n then 1#1 else 0#1) :=
  guard_slt (w := Scalar.addi (Scalar.addi (baseP v2 v5) 4#32) 0#32) (addW (addW hB (b := 4) rfl (by omega)) (b := 0) rfl (by omega)) hn (by omega) (by omega)
theorem cond34_eq (v0 : BitVec 32) (v2 v5 : BitVec 32) {g n : ℕ} (hB : (baseP v2 v5).toNat = g) (hg : g ≤ 600) (hn : v0.toNat = n) (hn' : n ≤ 600) : k0_cond34 v0 v2 v5 = (if g + 4 + 1 < n then 1#1 else 0#1) :=
  guard_slt (w := Scalar.addi (Scalar.addi (baseP v2 v5) 4#32) 1#32) (addW (addW hB (b := 4) rfl (by omega)) (b := 1) rfl (by omega)) hn (by omega) (by omega)
theorem cond35_eq (v2 v5 : BitVec 32) {g : ℕ} (hB : (baseP v2 v5).toNat = g) (hg : g ≤ 600) : k0_cond35 v2 v5 = (if 8 ≤ g + 0 then 1#1 else 0#1) :=
  guard_sge (w := Scalar.addi (baseP v2 v5) 0#32) (m := 8) (addW hB (b := 0) rfl (by omega)) rfl (by omega) (by omega)
theorem cond36_eq (v2 v5 : BitVec 32) {g : ℕ} (hB : (baseP v2 v5).toNat = g) (hg : g ≤ 600) : k0_cond36 v2 v5 = (if 8 ≤ g + 1 then 1#1 else 0#1) :=
  guard_sge (w := Scalar.addi (baseP v2 v5) 1#32) (m := 8) (addW hB (b := 1) rfl (by omega)) rfl (by omega) (by omega)
theorem cond38_eq (v0 : BitVec 32) (v2 v5 : BitVec 32) {g n : ℕ} (hB : (baseS v2 v5).toNat = g) (hg : g ≤ 600) (hn : v0.toNat = n) (hn' : n ≤ 600) : k0_cond38 v0 v2 v5 = (if g + 4 + 0 < n then 1#1 else 0#1) :=
  guard_slt (w := Scalar.addi (Scalar.addi (baseS v2 v5) 4#32) 0#32) (addW (addW hB (b := 4) rfl (by omega)) (b := 0) rfl (by omega)) hn (by omega) (by omega)
theorem cond39_eq (v2 v5 : BitVec 32) {g : ℕ} (hB : (baseS v2 v5).toNat = g) (hg : g ≤ 600) : k0_cond39 v2 v5 = (if 8 ≤ g + 0 then 1#1 else 0#1) :=
  guard_sge (w := Scalar.addi (baseS v2 v5) 0#32) (m := 8) (addW hB (b := 0) rfl (by omega)) rfl (by omega) (by omega)
theorem cond41_eq (v0 : BitVec 32) {n : ℕ} (hn : v0.toNat = n) (hn' : n ≤ 600) : k0_cond41 v0 = (if 8 ≤ n then 1#1 else 0#1) :=
  guard_sge (m := 8) hn rfl (by omega) (by omega)
theorem off118_eq (v0 : BitVec 32) {n : ℕ} (hn : v0.toNat = n) (hn' : n ≤ 600) (hb : 8 ≤ n) : k0_off118 v0 = ![(n - 8) % 8] :=
  slot1_eq (w := Scalar.subi v0 8#32) (back_toNat hn (b := 8) rfl hb) (by omega)
theorem off119_eq (v0 : BitVec 32) {n : ℕ} (hn : v0.toNat = n) (hn' : n ≤ 600) (hb : 8 ≤ n) : k0_off119 v0 = ![0, (n - 8) * 256, 0] :=
  row_eq (w := Scalar.subi v0 8#32) (back_toNat hn (b := 8) rfl hb) (by omega)
theorem off120_eq (v0 : BitVec 32) {n : ℕ} (hn : v0.toNat = n) (hn' : n ≤ 600) (hb : 8 ≤ n) : k0_off120 v0 = ![(n - 8) % 8, 0, 0, 0] :=
  slot4_eq (w := Scalar.subi v0 8#32) (back_toNat hn (b := 8) rfl hb) (by omega)
theorem cond42_eq (v0 : BitVec 32) {n : ℕ} (hn : v0.toNat = n) (hn' : n ≤ 600) : k0_cond42 v0 = (if 7 ≤ n then 1#1 else 0#1) :=
  guard_sge (m := 7) hn rfl (by omega) (by omega)
theorem off121_eq (v0 : BitVec 32) {n : ℕ} (hn : v0.toNat = n) (hn' : n ≤ 600) (hb : 7 ≤ n) : k0_off121 v0 = ![(n - 7) % 8] :=
  slot1_eq (w := Scalar.subi v0 7#32) (back_toNat hn (b := 7) rfl hb) (by omega)
theorem off122_eq (v0 : BitVec 32) {n : ℕ} (hn : v0.toNat = n) (hn' : n ≤ 600) (hb : 7 ≤ n) : k0_off122 v0 = ![0, (n - 7) * 256, 0] :=
  row_eq (w := Scalar.subi v0 7#32) (back_toNat hn (b := 7) rfl hb) (by omega)
theorem off123_eq (v0 : BitVec 32) {n : ℕ} (hn : v0.toNat = n) (hn' : n ≤ 600) (hb : 7 ≤ n) : k0_off123 v0 = ![(n - 7) % 8, 0, 0, 0] :=
  slot4_eq (w := Scalar.subi v0 7#32) (back_toNat hn (b := 7) rfl hb) (by omega)
theorem cond43_eq (v0 : BitVec 32) {n : ℕ} (hn : v0.toNat = n) (hn' : n ≤ 600) : k0_cond43 v0 = (if 6 ≤ n then 1#1 else 0#1) :=
  guard_sge (m := 6) hn rfl (by omega) (by omega)
theorem off124_eq (v0 : BitVec 32) {n : ℕ} (hn : v0.toNat = n) (hn' : n ≤ 600) (hb : 6 ≤ n) : k0_off124 v0 = ![(n - 6) % 8] :=
  slot1_eq (w := Scalar.subi v0 6#32) (back_toNat hn (b := 6) rfl hb) (by omega)
theorem off125_eq (v0 : BitVec 32) {n : ℕ} (hn : v0.toNat = n) (hn' : n ≤ 600) (hb : 6 ≤ n) : k0_off125 v0 = ![0, (n - 6) * 256, 0] :=
  row_eq (w := Scalar.subi v0 6#32) (back_toNat hn (b := 6) rfl hb) (by omega)
theorem off126_eq (v0 : BitVec 32) {n : ℕ} (hn : v0.toNat = n) (hn' : n ≤ 600) (hb : 6 ≤ n) : k0_off126 v0 = ![(n - 6) % 8, 0, 0, 0] :=
  slot4_eq (w := Scalar.subi v0 6#32) (back_toNat hn (b := 6) rfl hb) (by omega)
theorem cond44_eq (v0 : BitVec 32) {n : ℕ} (hn : v0.toNat = n) (hn' : n ≤ 600) : k0_cond44 v0 = (if 5 ≤ n then 1#1 else 0#1) :=
  guard_sge (m := 5) hn rfl (by omega) (by omega)
theorem off127_eq (v0 : BitVec 32) {n : ℕ} (hn : v0.toNat = n) (hn' : n ≤ 600) (hb : 5 ≤ n) : k0_off127 v0 = ![(n - 5) % 8] :=
  slot1_eq (w := Scalar.subi v0 5#32) (back_toNat hn (b := 5) rfl hb) (by omega)
theorem off128_eq (v0 : BitVec 32) {n : ℕ} (hn : v0.toNat = n) (hn' : n ≤ 600) (hb : 5 ≤ n) : k0_off128 v0 = ![0, (n - 5) * 256, 0] :=
  row_eq (w := Scalar.subi v0 5#32) (back_toNat hn (b := 5) rfl hb) (by omega)
theorem off129_eq (v0 : BitVec 32) {n : ℕ} (hn : v0.toNat = n) (hn' : n ≤ 600) (hb : 5 ≤ n) : k0_off129 v0 = ![(n - 5) % 8, 0, 0, 0] :=
  slot4_eq (w := Scalar.subi v0 5#32) (back_toNat hn (b := 5) rfl hb) (by omega)
theorem cond45_eq (v0 : BitVec 32) {n : ℕ} (hn : v0.toNat = n) (hn' : n ≤ 600) : k0_cond45 v0 = (if 4 ≤ n then 1#1 else 0#1) :=
  guard_sge (m := 4) hn rfl (by omega) (by omega)
theorem off130_eq (v0 : BitVec 32) {n : ℕ} (hn : v0.toNat = n) (hn' : n ≤ 600) (hb : 4 ≤ n) : k0_off130 v0 = ![(n - 4) % 8] :=
  slot1_eq (w := Scalar.subi v0 4#32) (back_toNat hn (b := 4) rfl hb) (by omega)
theorem off131_eq (v0 : BitVec 32) {n : ℕ} (hn : v0.toNat = n) (hn' : n ≤ 600) (hb : 4 ≤ n) : k0_off131 v0 = ![0, (n - 4) * 256, 0] :=
  row_eq (w := Scalar.subi v0 4#32) (back_toNat hn (b := 4) rfl hb) (by omega)
theorem off132_eq (v0 : BitVec 32) {n : ℕ} (hn : v0.toNat = n) (hn' : n ≤ 600) (hb : 4 ≤ n) : k0_off132 v0 = ![(n - 4) % 8, 0, 0, 0] :=
  slot4_eq (w := Scalar.subi v0 4#32) (back_toNat hn (b := 4) rfl hb) (by omega)
theorem cond46_eq (v0 : BitVec 32) {n : ℕ} (hn : v0.toNat = n) (hn' : n ≤ 600) : k0_cond46 v0 = (if 3 ≤ n then 1#1 else 0#1) :=
  guard_sge (m := 3) hn rfl (by omega) (by omega)
theorem off133_eq (v0 : BitVec 32) {n : ℕ} (hn : v0.toNat = n) (hn' : n ≤ 600) (hb : 3 ≤ n) : k0_off133 v0 = ![(n - 3) % 8] :=
  slot1_eq (w := Scalar.subi v0 3#32) (back_toNat hn (b := 3) rfl hb) (by omega)
theorem off134_eq (v0 : BitVec 32) {n : ℕ} (hn : v0.toNat = n) (hn' : n ≤ 600) (hb : 3 ≤ n) : k0_off134 v0 = ![0, (n - 3) * 256, 0] :=
  row_eq (w := Scalar.subi v0 3#32) (back_toNat hn (b := 3) rfl hb) (by omega)
theorem off135_eq (v0 : BitVec 32) {n : ℕ} (hn : v0.toNat = n) (hn' : n ≤ 600) (hb : 3 ≤ n) : k0_off135 v0 = ![(n - 3) % 8, 0, 0, 0] :=
  slot4_eq (w := Scalar.subi v0 3#32) (back_toNat hn (b := 3) rfl hb) (by omega)
theorem cond47_eq (v0 : BitVec 32) {n : ℕ} (hn : v0.toNat = n) (hn' : n ≤ 600) : k0_cond47 v0 = (if 2 ≤ n then 1#1 else 0#1) :=
  guard_sge (m := 2) hn rfl (by omega) (by omega)
theorem off136_eq (v0 : BitVec 32) {n : ℕ} (hn : v0.toNat = n) (hn' : n ≤ 600) (hb : 2 ≤ n) : k0_off136 v0 = ![(n - 2) % 8] :=
  slot1_eq (w := Scalar.subi v0 2#32) (back_toNat hn (b := 2) rfl hb) (by omega)
theorem off137_eq (v0 : BitVec 32) {n : ℕ} (hn : v0.toNat = n) (hn' : n ≤ 600) (hb : 2 ≤ n) : k0_off137 v0 = ![0, (n - 2) * 256, 0] :=
  row_eq (w := Scalar.subi v0 2#32) (back_toNat hn (b := 2) rfl hb) (by omega)
theorem off138_eq (v0 : BitVec 32) {n : ℕ} (hn : v0.toNat = n) (hn' : n ≤ 600) (hb : 2 ≤ n) : k0_off138 v0 = ![(n - 2) % 8, 0, 0, 0] :=
  slot4_eq (w := Scalar.subi v0 2#32) (back_toNat hn (b := 2) rfl hb) (by omega)
theorem cond48_eq (v0 : BitVec 32) {n : ℕ} (hn : v0.toNat = n) (hn' : n ≤ 600) : k0_cond48 v0 = (if 1 ≤ n then 1#1 else 0#1) :=
  guard_sge (m := 1) hn rfl (by omega) (by omega)
theorem off139_eq (v0 : BitVec 32) {n : ℕ} (hn : v0.toNat = n) (hn' : n ≤ 600) (hb : 1 ≤ n) : k0_off139 v0 = ![(n - 1) % 8] :=
  slot1_eq (w := Scalar.subi v0 1#32) (back_toNat hn (b := 1) rfl hb) (by omega)
theorem off140_eq (v0 : BitVec 32) {n : ℕ} (hn : v0.toNat = n) (hn' : n ≤ 600) (hb : 1 ≤ n) : k0_off140 v0 = ![0, (n - 1) * 256, 0] :=
  row_eq (w := Scalar.subi v0 1#32) (back_toNat hn (b := 1) rfl hb) (by omega)
theorem off141_eq (v0 : BitVec 32) {n : ℕ} (hn : v0.toNat = n) (hn' : n ≤ 600) (hb : 1 ≤ n) : k0_off141 v0 = ![(n - 1) % 8, 0, 0, 0] :=
  slot4_eq (w := Scalar.subi v0 1#32) (back_toNat hn (b := 1) rfl hb) (by omega)

/-! ## The range checks -/

theorem chk1_0 {v0 v2 v5 : BitVec 32} {n g e : ℕ} (h : Range v0 v2 v5 n g e) : k0_chk1_0 v0 v2 v5 :=
  ⟨fun h0 => dvd256 _,
   fun h0 r => inb1 (off3_eq _ _ (BitVec.toNat_ofNat _ _ |>.trans (Nat.mod_eq_of_lt (by have := r.isLt; omega))) (by have := r.isLt; omega) (h.first h0).1 (by have := (h.first h0).2; have := h.le_n; have := h.n_le; omega)),
   fun h0 r => inb4 (off4_eq _ _ (BitVec.toNat_ofNat _ _ |>.trans (Nat.mod_eq_of_lt (by have := r.isLt; omega))) (by have := r.isLt; omega) (h.first h0).1 (by have := (h.first h0).2; have := h.le_n; have := h.n_le; omega)),
   fun h0 r => inb3 (by have := r.isLt; have := (h.first h0).2; have := h.le_n; have := h.n_le; omega) (off5_eq _ _ (BitVec.toNat_ofNat _ _ |>.trans (Nat.mod_eq_of_lt (by have := r.isLt; omega))) (by have := r.isLt; omega) (h.first h0).1 (by have := (h.first h0).2; have := h.le_n; have := h.n_le; omega)),
   fun h0 => dvd256 _,
   fun h0 => dvd256 _,
   fun h0 => dvd256 _,
   fun h0 h1 => dvd256 _,
   fun h0 h1 => inb1 (off6_eq _ (h.first h0).1 (by have := (h.first h0).2; have := h.le_n; have := h.n_le; omega)),
   fun h0 h1 => inb4 (off7_eq _ (h.first h0).1 (by have := (h.first h0).2; have := h.le_n; have := h.n_le; omega)),
   fun h0 h1 => inb3 (by have q := of_ite ((cond8_eq _ _ (h.first h0).1 (by have := (h.first h0).2; have := h.le_n; have := h.n_le; omega) h.n_eq (by have := h.n_le; omega)).symm.trans h1); have := h.n_le; omega) (off8_eq _ (h.first h0).1 (by have := (h.first h0).2; have := h.le_n; have := h.n_le; omega)),
   fun h0 h1 => dvd256 _,
   fun h0 h1 => inb1 (off9_eq _ (h.first h0).1 (by have := (h.first h0).2; have := h.le_n; have := h.n_le; omega)),
   fun h0 h1 => inb4 (off10_eq _ (h.first h0).1 (by have := (h.first h0).2; have := h.le_n; have := h.n_le; omega)),
   fun h0 h1 => inb3 (by have q := of_ite ((cond9_eq _ _ (h.first h0).1 (by have := (h.first h0).2; have := h.le_n; have := h.n_le; omega) h.n_eq (by have := h.n_le; omega)).symm.trans h1); have := h.n_le; omega) (off11_eq _ (h.first h0).1 (by have := (h.first h0).2; have := h.le_n; have := h.n_le; omega)),
   fun h0 h1 => dvd256 _,
   fun h0 h1 => inb1 (off12_eq _ (h.first h0).1 (by have := (h.first h0).2; have := h.le_n; have := h.n_le; omega)),
   fun h0 h1 => inb4 (off13_eq _ (h.first h0).1 (by have := (h.first h0).2; have := h.le_n; have := h.n_le; omega)),
   fun h0 h1 => inb3 (by have q := of_ite ((cond10_eq _ _ (h.first h0).1 (by have := (h.first h0).2; have := h.le_n; have := h.n_le; omega) h.n_eq (by have := h.n_le; omega)).symm.trans h1); have := h.n_le; omega) (off14_eq _ (h.first h0).1 (by have := (h.first h0).2; have := h.le_n; have := h.n_le; omega)),
   fun h0 h1 => dvd256 _,
   fun h0 h1 => inb1 (off15_eq _ (h.first h0).1 (by have := (h.first h0).2; have := h.le_n; have := h.n_le; omega)),
   fun h0 h1 => inb4 (off16_eq _ (h.first h0).1 (by have := (h.first h0).2; have := h.le_n; have := h.n_le; omega)),
   fun h0 h1 => inb3 (by have q := of_ite ((cond11_eq _ _ (h.first h0).1 (by have := (h.first h0).2; have := h.le_n; have := h.n_le; omega) h.n_eq (by have := h.n_le; omega)).symm.trans h1); have := h.n_le; omega) (off17_eq _ (h.first h0).1 (by have := (h.first h0).2; have := h.le_n; have := h.n_le; omega)),
   fun h0 h1 => dvd256 _,
   fun h0 h1 => inb1 (off18_eq _ (h.first h0).1 (by have := (h.first h0).2; have := h.le_n; have := h.n_le; omega)),
   fun h0 h1 => inb3 (by have := (h.first h0).2; have := h.le_n; have := h.n_le; omega) (off19_eq _ (h.first h0).1 (by have := (h.first h0).2; have := h.le_n; have := h.n_le; omega) (of_ite ((cond12_eq _ (h.first h0).1 (by have := (h.first h0).2; have := h.le_n; have := h.n_le; omega)).symm.trans h1))),
   fun h0 h1 => inb4 (off20_eq _ (h.first h0).1 (by have := (h.first h0).2; have := h.le_n; have := h.n_le; omega)),
   fun h0 h1 => dvd256 _,
   fun h0 h1 => inb1 (off21_eq _ (h.first h0).1 (by have := (h.first h0).2; have := h.le_n; have := h.n_le; omega)),
   fun h0 h1 => inb3 (by have := (h.first h0).2; have := h.le_n; have := h.n_le; omega) (off22_eq _ (h.first h0).1 (by have := (h.first h0).2; have := h.le_n; have := h.n_le; omega) (of_ite ((cond13_eq _ (h.first h0).1 (by have := (h.first h0).2; have := h.le_n; have := h.n_le; omega)).symm.trans h1))),
   fun h0 h1 => inb4 (off23_eq _ (h.first h0).1 (by have := (h.first h0).2; have := h.le_n; have := h.n_le; omega)),
   fun h0 h1 => dvd256 _⟩

theorem chk1_1 {v0 v2 v5 : BitVec 32} {n g e : ℕ} (h : Range v0 v2 v5 n g e) : k0_chk1_1 v0 v2 v5 :=
  ⟨fun h0 h1 => inb1 (off24_eq _ (h.first h0).1 (by have := (h.first h0).2; have := h.le_n; have := h.n_le; omega)),
   fun h0 h1 => inb3 (by have := (h.first h0).2; have := h.le_n; have := h.n_le; omega) (off25_eq _ (h.first h0).1 (by have := (h.first h0).2; have := h.le_n; have := h.n_le; omega) (of_ite ((cond14_eq _ (h.first h0).1 (by have := (h.first h0).2; have := h.le_n; have := h.n_le; omega)).symm.trans h1))),
   fun h0 h1 => inb4 (off26_eq _ (h.first h0).1 (by have := (h.first h0).2; have := h.le_n; have := h.n_le; omega)),
   fun h0 h1 => dvd256 _,
   fun h0 h1 => inb1 (off27_eq _ (h.first h0).1 (by have := (h.first h0).2; have := h.le_n; have := h.n_le; omega)),
   fun h0 h1 => inb3 (by have := (h.first h0).2; have := h.le_n; have := h.n_le; omega) (off28_eq _ (h.first h0).1 (by have := (h.first h0).2; have := h.le_n; have := h.n_le; omega) (of_ite ((cond15_eq _ (h.first h0).1 (by have := (h.first h0).2; have := h.le_n; have := h.n_le; omega)).symm.trans h1))),
   fun h0 h1 => inb4 (off29_eq _ (h.first h0).1 (by have := (h.first h0).2; have := h.le_n; have := h.n_le; omega)),
   fun h0 r => inbH (by omega) (off30_eq _ _ (BitVec.toNat_ofNat _ _ |>.trans (Nat.mod_eq_of_lt (by have := r.isLt; omega))) (by have := r.isLt; omega) (h.first h0).1 (by have := (h.first h0).2; have := h.le_n; have := h.n_le; omega)),
   fun h0 r => inbH (by omega) (off31_eq _ _ (BitVec.toNat_ofNat _ _ |>.trans (Nat.mod_eq_of_lt (by have := r.isLt; omega))) (by have := r.isLt; omega) (h.first h0).1 (by have := (h.first h0).2; have := h.le_n; have := h.n_le; omega)),
   fun h0 => dvd256 _,
   fun h0 => dvd256 _,
   fun h0 => dvd256 _,
   fun h0 => dvd256 _,
   h.ok1,
   fun t => dvd256 _,
   fun t r => inb1 (off32_eq _ _ _ _ (BitVec.toNat_ofNat _ _ |>.trans (Nat.mod_eq_of_lt (by have := r.isLt; omega))) (by have := r.isLt; omega) (h.trip t).1 (by have := (h.trip t).2; have := h.le_n; have := h.n_le; omega)),
   fun t r => inb4 (off33_eq _ _ _ _ (BitVec.toNat_ofNat _ _ |>.trans (Nat.mod_eq_of_lt (by have := r.isLt; omega))) (by have := r.isLt; omega) (h.trip t).1 (by have := (h.trip t).2; have := h.le_n; have := h.n_le; omega)),
   fun t r => inb3 (by have := r.isLt; have := (h.trip t).2; have := h.le_n; have := h.n_le; omega) (off34_eq _ _ _ _ (BitVec.toNat_ofNat _ _ |>.trans (Nat.mod_eq_of_lt (by have := r.isLt; omega))) (by have := r.isLt; omega) (h.trip t).1 (by have := (h.trip t).2; have := h.le_n; have := h.n_le; omega)),
   fun t => dvd256 _,
   fun t => dvd256 _,
   fun t => dvd256 _,
   fun t h1 => dvd256 _,
   fun t h1 => inb1 (off35_eq _ _ _ (h.trip t).1 (by have := (h.trip t).2; have := h.le_n; have := h.n_le; omega)),
   fun t h1 => inb4 (off36_eq _ _ _ (h.trip t).1 (by have := (h.trip t).2; have := h.le_n; have := h.n_le; omega)),
   fun t h1 => inb3 (by have q := of_ite ((cond16_eq _ _ _ _ (h.trip t).1 (by have := (h.trip t).2; have := h.le_n; have := h.n_le; omega) h.n_eq (by have := h.n_le; omega)).symm.trans h1); have := h.n_le; omega) (off37_eq _ _ _ (h.trip t).1 (by have := (h.trip t).2; have := h.le_n; have := h.n_le; omega)),
   fun t h1 => dvd256 _,
   fun t h1 => inb1 (off38_eq _ _ _ (h.trip t).1 (by have := (h.trip t).2; have := h.le_n; have := h.n_le; omega)),
   fun t h1 => inb4 (off39_eq _ _ _ (h.trip t).1 (by have := (h.trip t).2; have := h.le_n; have := h.n_le; omega)),
   fun t h1 => inb3 (by have q := of_ite ((cond17_eq _ _ _ _ (h.trip t).1 (by have := (h.trip t).2; have := h.le_n; have := h.n_le; omega) h.n_eq (by have := h.n_le; omega)).symm.trans h1); have := h.n_le; omega) (off40_eq _ _ _ (h.trip t).1 (by have := (h.trip t).2; have := h.le_n; have := h.n_le; omega)),
   fun t h1 => dvd256 _,
   fun t h1 => inb1 (off41_eq _ _ _ (h.trip t).1 (by have := (h.trip t).2; have := h.le_n; have := h.n_le; omega)),
   fun t h1 => inb4 (off42_eq _ _ _ (h.trip t).1 (by have := (h.trip t).2; have := h.le_n; have := h.n_le; omega))⟩

theorem chk1_2 {v0 v2 v5 : BitVec 32} {n g e : ℕ} (h : Range v0 v2 v5 n g e) : k0_chk1_2 v0 v2 v5 :=
  ⟨fun t h1 => inb3 (by have q := of_ite ((cond18_eq _ _ _ _ (h.trip t).1 (by have := (h.trip t).2; have := h.le_n; have := h.n_le; omega) h.n_eq (by have := h.n_le; omega)).symm.trans h1); have := h.n_le; omega) (off43_eq _ _ _ (h.trip t).1 (by have := (h.trip t).2; have := h.le_n; have := h.n_le; omega)),
   fun t h1 => dvd256 _,
   fun t h1 => inb1 (off44_eq _ _ _ (h.trip t).1 (by have := (h.trip t).2; have := h.le_n; have := h.n_le; omega)),
   fun t h1 => inb4 (off45_eq _ _ _ (h.trip t).1 (by have := (h.trip t).2; have := h.le_n; have := h.n_le; omega)),
   fun t h1 => inb3 (by have q := of_ite ((cond19_eq _ _ _ _ (h.trip t).1 (by have := (h.trip t).2; have := h.le_n; have := h.n_le; omega) h.n_eq (by have := h.n_le; omega)).symm.trans h1); have := h.n_le; omega) (off46_eq _ _ _ (h.trip t).1 (by have := (h.trip t).2; have := h.le_n; have := h.n_le; omega)),
   fun t h1 => dvd256 _,
   fun t h1 => inb1 (off47_eq _ _ _ (h.trip t).1 (by have := (h.trip t).2; have := h.le_n; have := h.n_le; omega)),
   fun t h1 => inb3 (by have := (h.trip t).2; have := h.le_n; have := h.n_le; omega) (off48_eq _ _ _ (h.trip t).1 (by have := (h.trip t).2; have := h.le_n; have := h.n_le; omega) (of_ite ((cond20_eq _ _ _ (h.trip t).1 (by have := (h.trip t).2; have := h.le_n; have := h.n_le; omega)).symm.trans h1))),
   fun t h1 => inb4 (off49_eq _ _ _ (h.trip t).1 (by have := (h.trip t).2; have := h.le_n; have := h.n_le; omega)),
   fun t h1 => dvd256 _,
   fun t h1 => inb1 (off50_eq _ _ _ (h.trip t).1 (by have := (h.trip t).2; have := h.le_n; have := h.n_le; omega)),
   fun t h1 => inb3 (by have := (h.trip t).2; have := h.le_n; have := h.n_le; omega) (off51_eq _ _ _ (h.trip t).1 (by have := (h.trip t).2; have := h.le_n; have := h.n_le; omega) (of_ite ((cond21_eq _ _ _ (h.trip t).1 (by have := (h.trip t).2; have := h.le_n; have := h.n_le; omega)).symm.trans h1))),
   fun t h1 => inb4 (off52_eq _ _ _ (h.trip t).1 (by have := (h.trip t).2; have := h.le_n; have := h.n_le; omega)),
   fun t h1 => dvd256 _,
   fun t h1 => inb1 (off53_eq _ _ _ (h.trip t).1 (by have := (h.trip t).2; have := h.le_n; have := h.n_le; omega)),
   fun t h1 => inb3 (by have := (h.trip t).2; have := h.le_n; have := h.n_le; omega) (off54_eq _ _ _ (h.trip t).1 (by have := (h.trip t).2; have := h.le_n; have := h.n_le; omega) (of_ite ((cond22_eq _ _ _ (h.trip t).1 (by have := (h.trip t).2; have := h.le_n; have := h.n_le; omega)).symm.trans h1))),
   fun t h1 => inb4 (off55_eq _ _ _ (h.trip t).1 (by have := (h.trip t).2; have := h.le_n; have := h.n_le; omega)),
   fun t h1 => dvd256 _,
   fun t h1 => inb1 (off56_eq _ _ _ (h.trip t).1 (by have := (h.trip t).2; have := h.le_n; have := h.n_le; omega)),
   fun t h1 => inb3 (by have := (h.trip t).2; have := h.le_n; have := h.n_le; omega) (off57_eq _ _ _ (h.trip t).1 (by have := (h.trip t).2; have := h.le_n; have := h.n_le; omega) (of_ite ((cond23_eq _ _ _ (h.trip t).1 (by have := (h.trip t).2; have := h.le_n; have := h.n_le; omega)).symm.trans h1))),
   fun t h1 => inb4 (off58_eq _ _ _ (h.trip t).1 (by have := (h.trip t).2; have := h.le_n; have := h.n_le; omega)),
   fun t r => inbH (by omega) (off59_eq _ _ _ _ (BitVec.toNat_ofNat _ _ |>.trans (Nat.mod_eq_of_lt (by have := r.isLt; omega))) (by have := r.isLt; omega) (h.trip t).1 (by have := (h.trip t).2; have := h.le_n; have := h.n_le; omega)),
   fun t r => inbH (by omega) (off60_eq _ _ _ _ (BitVec.toNat_ofNat _ _ |>.trans (Nat.mod_eq_of_lt (by have := r.isLt; omega))) (by have := r.isLt; omega) (h.trip t).1 (by have := (h.trip t).2; have := h.le_n; have := h.n_le; omega)),
   fun t => dvd256 _,
   fun t => dvd256 _,
   fun t => dvd256 _,
   fun t => dvd256 _,
   h.ok2,
   fun t => (h.no2 t).elim,
   fun t => (h.no2 t).elim,
   fun t => (h.no2 t).elim,
   fun t => (h.no2 t).elim⟩

theorem chk1_3 {v0 v2 v5 : BitVec 32} {n g e : ℕ} (h : Range v0 v2 v5 n g e) : k0_chk1_3 v0 v2 v5 :=
  ⟨fun t => (h.no2 t).elim,
   fun t => (h.no2 t).elim,
   fun t => (h.no2 t).elim,
   fun t => (h.no2 t).elim,
   fun t => (h.no2 t).elim,
   fun t => (h.no2 t).elim,
   fun t => (h.no2 t).elim,
   fun t => (h.no2 t).elim,
   fun t => (h.no2 t).elim,
   fun t => (h.no2 t).elim,
   fun t => (h.no2 t).elim,
   fun t => (h.no2 t).elim,
   fun t => (h.no2 t).elim,
   fun t => (h.no2 t).elim,
   fun t => (h.no2 t).elim,
   fun t => (h.no2 t).elim,
   fun t => (h.no2 t).elim,
   fun t => (h.no2 t).elim,
   fun t => (h.no2 t).elim,
   fun t => (h.no2 t).elim,
   fun t => (h.no2 t).elim,
   fun t => (h.no2 t).elim,
   fun t => (h.no2 t).elim,
   fun t => (h.no2 t).elim,
   fun t => (h.no2 t).elim,
   fun t => (h.no2 t).elim,
   fun t => (h.no2 t).elim,
   fun t => (h.no2 t).elim,
   fun t => (h.no2 t).elim,
   fun t => (h.no2 t).elim,
   fun t => (h.no2 t).elim,
   fun t => (h.no2 t).elim⟩

theorem chk1_4 {v0 v2 v5 : BitVec 32} {n g e : ℕ} (h : Range v0 v2 v5 n g e) : k0_chk1_4 v0 v2 v5 :=
  ⟨fun t => (h.no2 t).elim,
   fun t => (h.no2 t).elim,
   fun t => (h.no2 t).elim,
   fun t => (h.no2 t).elim,
   fun t => (h.no2 t).elim,
   fun t => (h.no2 t).elim,
   fun t => (h.no2 t).elim,
   fun t => (h.no2 t).elim,
   fun t => (h.no2 t).elim,
   fun h0 => dvd256 _,
   fun h0 r => inb1 (off90_eq _ _ _ (BitVec.toNat_ofNat _ _ |>.trans (Nat.mod_eq_of_lt (by have := r.isLt; omega))) (by have := r.isLt; omega) (h.pair h0).1 (by have := (h.pair h0).2; have := h.le_n; have := h.n_le; omega)),
   fun h0 r => inb4 (off91_eq _ _ _ (BitVec.toNat_ofNat _ _ |>.trans (Nat.mod_eq_of_lt (by have := r.isLt; omega))) (by have := r.isLt; omega) (h.pair h0).1 (by have := (h.pair h0).2; have := h.le_n; have := h.n_le; omega)),
   fun h0 r => inb3 (by have := r.isLt; have := (h.pair h0).2; have := h.le_n; have := h.n_le; omega) (off92_eq _ _ _ (BitVec.toNat_ofNat _ _ |>.trans (Nat.mod_eq_of_lt (by have := r.isLt; omega))) (by have := r.isLt; omega) (h.pair h0).1 (by have := (h.pair h0).2; have := h.le_n; have := h.n_le; omega)),
   fun h0 => dvd256 _,
   fun h0 h1 => dvd256 _,
   fun h0 h1 => inb1 (off93_eq _ _ (h.pair h0).1 (by have := (h.pair h0).2; have := h.le_n; have := h.n_le; omega)),
   fun h0 h1 => inb4 (off94_eq _ _ (h.pair h0).1 (by have := (h.pair h0).2; have := h.le_n; have := h.n_le; omega)),
   fun h0 h1 => inb3 (by have q := of_ite ((cond33_eq _ _ _ (h.pair h0).1 (by have := (h.pair h0).2; have := h.le_n; have := h.n_le; omega) h.n_eq (by have := h.n_le; omega)).symm.trans h1); have := h.n_le; omega) (off95_eq _ _ (h.pair h0).1 (by have := (h.pair h0).2; have := h.le_n; have := h.n_le; omega)),
   fun h0 h1 => dvd256 _,
   fun h0 h1 => inb1 (off96_eq _ _ (h.pair h0).1 (by have := (h.pair h0).2; have := h.le_n; have := h.n_le; omega)),
   fun h0 h1 => inb4 (off97_eq _ _ (h.pair h0).1 (by have := (h.pair h0).2; have := h.le_n; have := h.n_le; omega)),
   fun h0 h1 => inb3 (by have q := of_ite ((cond34_eq _ _ _ (h.pair h0).1 (by have := (h.pair h0).2; have := h.le_n; have := h.n_le; omega) h.n_eq (by have := h.n_le; omega)).symm.trans h1); have := h.n_le; omega) (off98_eq _ _ (h.pair h0).1 (by have := (h.pair h0).2; have := h.le_n; have := h.n_le; omega)),
   fun h0 h1 => dvd256 _,
   fun h0 h1 => inb1 (off99_eq _ _ (h.pair h0).1 (by have := (h.pair h0).2; have := h.le_n; have := h.n_le; omega)),
   fun h0 h1 => inb3 (by have := (h.pair h0).2; have := h.le_n; have := h.n_le; omega) (off100_eq _ _ (h.pair h0).1 (by have := (h.pair h0).2; have := h.le_n; have := h.n_le; omega) (of_ite ((cond35_eq _ _ (h.pair h0).1 (by have := (h.pair h0).2; have := h.le_n; have := h.n_le; omega)).symm.trans h1))),
   fun h0 h1 => inb4 (off101_eq _ _ (h.pair h0).1 (by have := (h.pair h0).2; have := h.le_n; have := h.n_le; omega)),
   fun h0 h1 => dvd256 _,
   fun h0 h1 => inb1 (off102_eq _ _ (h.pair h0).1 (by have := (h.pair h0).2; have := h.le_n; have := h.n_le; omega)),
   fun h0 h1 => inb3 (by have := (h.pair h0).2; have := h.le_n; have := h.n_le; omega) (off103_eq _ _ (h.pair h0).1 (by have := (h.pair h0).2; have := h.le_n; have := h.n_le; omega) (of_ite ((cond36_eq _ _ (h.pair h0).1 (by have := (h.pair h0).2; have := h.le_n; have := h.n_le; omega)).symm.trans h1))),
   fun h0 h1 => inb4 (off104_eq _ _ (h.pair h0).1 (by have := (h.pair h0).2; have := h.le_n; have := h.n_le; omega)),
   fun h0 r => inbH (by omega) (off105_eq _ _ _ (BitVec.toNat_ofNat _ _ |>.trans (Nat.mod_eq_of_lt (by have := r.isLt; omega))) (by have := r.isLt; omega) (h.pair h0).1 (by have := (h.pair h0).2; have := h.le_n; have := h.n_le; omega)),
   fun h0 r => inbH (by omega) (off106_eq _ _ _ (BitVec.toNat_ofNat _ _ |>.trans (Nat.mod_eq_of_lt (by have := r.isLt; omega))) (by have := r.isLt; omega) (h.pair h0).1 (by have := (h.pair h0).2; have := h.le_n; have := h.n_le; omega))⟩

theorem chk1_5 {v0 v2 v5 : BitVec 32} {n g e : ℕ} (h : Range v0 v2 v5 n g e) : k0_chk1_5 v0 v2 v5 :=
  ⟨fun h0 => dvd256 _,
   fun h0 => dvd256 _,
   fun h0 => dvd256 _,
   fun h0 => inb1 (off107_eq _ _ (h.single h0).1 (by have := (h.single h0).2; have := h.le_n; have := h.n_le; omega)),
   fun h0 => inb4 (off108_eq _ _ (h.single h0).1 (by have := (h.single h0).2; have := h.le_n; have := h.n_le; omega)),
   fun h0 => inb3 (by have := (h.single h0).2; have := h.le_n; have := h.n_le; omega) (off109_eq _ _ (h.single h0).1 (by have := (h.single h0).2; have := h.le_n; have := h.n_le; omega)),
   fun h0 h1 => dvd256 _,
   fun h0 h1 => inb1 (off110_eq _ _ (h.single h0).1 (by have := (h.single h0).2; have := h.le_n; have := h.n_le; omega)),
   fun h0 h1 => inb4 (off111_eq _ _ (h.single h0).1 (by have := (h.single h0).2; have := h.le_n; have := h.n_le; omega)),
   fun h0 h1 => inb3 (by have q := of_ite ((cond38_eq _ _ _ (h.single h0).1 (by have := (h.single h0).2; have := h.le_n; have := h.n_le; omega) h.n_eq (by have := h.n_le; omega)).symm.trans h1); have := h.n_le; omega) (off112_eq _ _ (h.single h0).1 (by have := (h.single h0).2; have := h.le_n; have := h.n_le; omega)),
   fun h0 h1 => dvd256 _,
   fun h0 h1 => inb1 (off113_eq _ _ (h.single h0).1 (by have := (h.single h0).2; have := h.le_n; have := h.n_le; omega)),
   fun h0 h1 => inb3 (by have := (h.single h0).2; have := h.le_n; have := h.n_le; omega) (off114_eq _ _ (h.single h0).1 (by have := (h.single h0).2; have := h.le_n; have := h.n_le; omega) (of_ite ((cond39_eq _ _ (h.single h0).1 (by have := (h.single h0).2; have := h.le_n; have := h.n_le; omega)).symm.trans h1))),
   fun h0 h1 => inb4 (off115_eq _ _ (h.single h0).1 (by have := (h.single h0).2; have := h.le_n; have := h.n_le; omega)),
   fun h0 => inbH (by omega) (off116_eq _ _ (h.single h0).1 (by have := (h.single h0).2; have := h.le_n; have := h.n_le; omega)),
   fun h0 => inbH (by omega) (off117_eq _ _ (h.single h0).1 (by have := (h.single h0).2; have := h.le_n; have := h.n_le; omega)),
   fun h0 => dvd256 _⟩

/-- Every range check of a grid point's body holds of the words of an expert's range. -/
theorem chk1_holds {v0 v2 v5 : BitVec 32} {n g e : ℕ} (h : Range v0 v2 v5 n g e) : k0_chk1 v0 v2 v5 :=
  ⟨chk1_0 h, chk1_1 h, chk1_2 h, chk1_3 h, chk1_4 h, chk1_5 h⟩

/-- The range checks of the last grid point's waits for the eight last blocks. -/
theorem chk2_holds (i : grid0.Coords) {v0 : BitVec 32} {n : ℕ} (hn : v0.toNat = n) (hle : n ≤ 548) : k0_chk2 i v0 :=
  ⟨fun _ _ => dvd256 _,
   fun _ h1 => inb1 (off118_eq _ hn (by omega) (of_ite ((cond41_eq _ hn (by omega)).symm.trans h1))),
   fun _ h1 => inb3 (by have := (of_ite ((cond41_eq _ hn (by omega)).symm.trans h1)); omega) (off119_eq _ hn (by omega) (of_ite ((cond41_eq _ hn (by omega)).symm.trans h1))),
   fun _ h1 => inb4 (off120_eq _ hn (by omega) (of_ite ((cond41_eq _ hn (by omega)).symm.trans h1))),
   fun _ _ => dvd256 _,
   fun _ h1 => inb1 (off121_eq _ hn (by omega) (of_ite ((cond42_eq _ hn (by omega)).symm.trans h1))),
   fun _ h1 => inb3 (by have := (of_ite ((cond42_eq _ hn (by omega)).symm.trans h1)); omega) (off122_eq _ hn (by omega) (of_ite ((cond42_eq _ hn (by omega)).symm.trans h1))),
   fun _ h1 => inb4 (off123_eq _ hn (by omega) (of_ite ((cond42_eq _ hn (by omega)).symm.trans h1))),
   fun _ _ => dvd256 _,
   fun _ h1 => inb1 (off124_eq _ hn (by omega) (of_ite ((cond43_eq _ hn (by omega)).symm.trans h1))),
   fun _ h1 => inb3 (by have := (of_ite ((cond43_eq _ hn (by omega)).symm.trans h1)); omega) (off125_eq _ hn (by omega) (of_ite ((cond43_eq _ hn (by omega)).symm.trans h1))),
   fun _ h1 => inb4 (off126_eq _ hn (by omega) (of_ite ((cond43_eq _ hn (by omega)).symm.trans h1))),
   fun _ _ => dvd256 _,
   fun _ h1 => inb1 (off127_eq _ hn (by omega) (of_ite ((cond44_eq _ hn (by omega)).symm.trans h1))),
   fun _ h1 => inb3 (by have := (of_ite ((cond44_eq _ hn (by omega)).symm.trans h1)); omega) (off128_eq _ hn (by omega) (of_ite ((cond44_eq _ hn (by omega)).symm.trans h1))),
   fun _ h1 => inb4 (off129_eq _ hn (by omega) (of_ite ((cond44_eq _ hn (by omega)).symm.trans h1))),
   fun _ _ => dvd256 _,
   fun _ h1 => inb1 (off130_eq _ hn (by omega) (of_ite ((cond45_eq _ hn (by omega)).symm.trans h1))),
   fun _ h1 => inb3 (by have := (of_ite ((cond45_eq _ hn (by omega)).symm.trans h1)); omega) (off131_eq _ hn (by omega) (of_ite ((cond45_eq _ hn (by omega)).symm.trans h1))),
   fun _ h1 => inb4 (off132_eq _ hn (by omega) (of_ite ((cond45_eq _ hn (by omega)).symm.trans h1))),
   fun _ _ => dvd256 _,
   fun _ h1 => inb1 (off133_eq _ hn (by omega) (of_ite ((cond46_eq _ hn (by omega)).symm.trans h1))),
   fun _ h1 => inb3 (by have := (of_ite ((cond46_eq _ hn (by omega)).symm.trans h1)); omega) (off134_eq _ hn (by omega) (of_ite ((cond46_eq _ hn (by omega)).symm.trans h1))),
   fun _ h1 => inb4 (off135_eq _ hn (by omega) (of_ite ((cond46_eq _ hn (by omega)).symm.trans h1))),
   fun _ _ => dvd256 _,
   fun _ h1 => inb1 (off136_eq _ hn (by omega) (of_ite ((cond47_eq _ hn (by omega)).symm.trans h1))),
   fun _ h1 => inb3 (by have := (of_ite ((cond47_eq _ hn (by omega)).symm.trans h1)); omega) (off137_eq _ hn (by omega) (of_ite ((cond47_eq _ hn (by omega)).symm.trans h1))),
   fun _ h1 => inb4 (off138_eq _ hn (by omega) (of_ite ((cond47_eq _ hn (by omega)).symm.trans h1))),
   fun _ _ => dvd256 _,
   fun _ h1 => inb1 (off139_eq _ hn (by omega) (of_ite ((cond48_eq _ hn (by omega)).symm.trans h1))),
   fun _ h1 => inb3 (by have := (of_ite ((cond48_eq _ hn (by omega)).symm.trans h1)); omega) (off140_eq _ hn (by omega) (of_ite ((cond48_eq _ hn (by omega)).symm.trans h1))),
   fun _ h1 => inb4 (off141_eq _ hn (by omega) (of_ite ((cond48_eq _ hn (by omega)).symm.trans h1)))⟩

end Cert.Kernel.Hand

end
-- ==== Proof.Rings.lean ====
/-
  Hand-written, untrusted. The two rings of block transfers of the expert feed-forward kernel. Blocks of 256 rows
  come in from the dispatched rows through a ring of eight slots, each with a semaphore of its own, and go out to the
  result through another. Both rings run on across the experts, so their state is said by counts of blocks alone:
  how many have been asked for, how many have arrived, how many results were written to their slot, sent and landed.
  One lemma per operation of the kernel moves a count by one.
-/
module

public import proofs.«01_k».proof.Proof.Gen.Kernel.Skeleton
public import proofs.«01_k».proof.Proof.Gen.Kernel.Launch
public import proofs.«01_k».proof.Proof.Words
public import Idealize.ShloMosaic.Lib.Pipeline.FrameBody
public import Idealize.ShloMosaic.Lib.Transfers
public import Idealize.ShloMosaic.Lib.VecWindow
public import Idealize.ShloMosaic.Lib.ValueLayout
public import Idealize.ShloMosaic.Lib.ViewIndex
public import Idealize.ShloMosaic.Lib.Tactic

@[expose] public section

set_option maxRecDepth 20000

noncomputable section

namespace Cert.Kernel.Hand

open Cert.Kernel Cert.Kernel.Gen
open Idealize.ShloMosaic Idealize.ShloMosaic.TcCoe Idealize.ShloMosaic.Tactic Idealize.ShloMosaic.ValueIdx
open Idealize.SL Idealize.SL.RA Idealize.SL.BI Idealize.SL.ExclCount
open scoped Idealize.SL.BI
open Idealize.SL.BI.BIBase Idealize.SL.BI.Laws Idealize.SL.ProofMode Idealize.SL.Sem

variable {F : FTy → Type} [BitOps F]

/-- The resource algebra of the proof. -/
abbrev MM (F : FTy → Type) [BitOps F] : Type := MT nD τ sig Unit (Elt F) ℕ (Pipeline.UD sig nD τ) ℕ

/-! ## Conjunctions over the slots and over the blocks -/

/-- One member of a conjunction is taken out and may be put back changed. -/
theorem bigSep_upd {s : Finset ℕ} {Φ Φ' : ℕ → sProp (MM F)} {k : ℕ} {A B : sProp (MM F)} (hk : k ∈ s) (hA : Φ k = A) (hB : Φ' k = B)
    (h : ∀ j ∈ s, j ≠ k → Φ j = Φ' j) : bigSep s Φ ⊢ iprop(A ∗ (B -∗ bigSep s Φ')) := by
  subst hA hB
  have e1 : bigSep s Φ = iprop(Φ k ∗ bigSep (s.erase k) Φ) := bigSep_erase hk
  have e2 : bigSep s Φ' = iprop(Φ' k ∗ bigSep (s.erase k) Φ') := bigSep_erase hk
  rw [e1, e2,
    bigSep_congr (s := s.erase k) (Ψ := Φ') (fun j hj => h j (Finset.mem_of_mem_erase hj) (Finset.ne_of_mem_erase hj))]
  iintro ⟨H1, H2⟩
  isplitl [H1]; · iexact H1
  iintro H
  isplitl [H]; · iexact H
  iexact H2

/-- A ring of eight positions moves on by one: the first position leaves, a new last one comes. -/
theorem bigSep_shift {Φ Φ' : ℕ → sProp (MM F)} {a : ℕ} {A B : sProp (MM F)} (hA : Φ a = A) (hB : Φ' (a + 8) = B)
    (h : ∀ j, a < j → j < a + 8 → Φ j = Φ' j) :
    bigSep (Finset.Ico a (a + 8)) Φ ⊢ iprop(A ∗ (B -∗ bigSep (Finset.Ico (a + 1) (a + 1 + 8)) Φ')) := by
  subst hA hB
  have e1 : Finset.Ico a (a + 8) = insert a (Finset.Ico (a + 1) (a + 8)) := by ext x; simp; omega
  have e2 : Finset.Ico (a + 1) (a + 1 + 8) = insert (a + 8) (Finset.Ico (a + 1) (a + 8)) := by ext x; simp; omega
  have e3 : bigSep (insert a (Finset.Ico (a + 1) (a + 8))) Φ = iprop(Φ a ∗ bigSep (Finset.Ico (a + 1) (a + 8)) Φ) := bigSep_insert (by simp)
  have e4 : bigSep (insert (a + 8) (Finset.Ico (a + 1) (a + 8))) Φ' = iprop(Φ' (a + 8) ∗ bigSep (Finset.Ico (a + 1) (a + 8)) Φ') := bigSep_insert (by simp)
  rw [e1, e2, e3, e4,
    bigSep_congr (s := Finset.Ico (a + 1) (a + 8)) (Ψ := Φ') (fun j hj => by simp at hj; exact h j (by omega) (by omega))]
  iintro ⟨H1, H2⟩
  isplitl [H1]; · iexact H1
  iintro H
  isplitl [H]; · iexact H
  iexact H2

/-! ## Slots, semaphores, rows -/

/-- The slot that block `b` uses. -/
abbrev sl (b : ℕ) : Fin 8 := ⟨b % 8, Nat.mod_lt _ (by decide)⟩

theorem sl_add8 (b : ℕ) : sl (b + 8) = sl b := by simp [sl]

theorem inbSlot (s : Fin 8) : ∀ a, (![s.val, 0, 0, 0] : Fin 4 → ℕ) a + S1x2x256x256.size a ≤ S8x2x256x256.size a := by
  have := s.isLt
  intro a; fin_cases a <;> simp [S1x2x256x256, S8x2x256x256] <;> omega

theorem inbHalf (s : Fin 8) (z : Fin 2) : ∀ a, (![s.val, z.val, 0, 0] : Fin 4 → ℕ) a + S1x1x256x256.size a ≤ S8x2x256x256.size a := by
  have := s.isLt
  have := z.isLt
  intro a; fin_cases a <;> simp [S1x1x256x256, S8x2x256x256] <;> omega

theorem inbSem (s : Fin 8) : ∀ a, (![s.val] : Fin 1 → ℕ) a + S1.size a ≤ S8.size a := by
  have := s.isLt
  intro a; fin_cases a; simp [S1, S8]; omega

/-- Where block `k`'s rows start. -/
def rowOff (k : ℕ) : Fin 3 → ℕ := ![0, min k 547 * 256, 0]

theorem rowOff_of {k : ℕ} {off : Fin 3 → ℕ} (hk : k < 548) (h : off = ![0, k * 256, 0]) : off = rowOff k := by
  rw [h, rowOff, Nat.min_eq_left (by omega)]

theorem inbRow (k : ℕ) : ∀ a, rowOff k a + S2x256x256.size a ≤ S2x140288x256.size a := by
  intro a; fin_cases a <;> simp [rowOff, S2x256x256, S2x140288x256] <;> omega

/-- A slot of a ring, as the kernel names it. -/
abbrev slotM (A : Memref sig .tc .vmem S8x2x256x256 .i32) (s : Fin 8) : Memref sig .tc .vmem S2x256x256 .i32 :=
  (A.slice (Rect.unit (s := S8x2x256x256) ![s.val, 0, 0, 0] S1x2x256x256.size (inbSlot s)) (fun _ => rfl)).squeeze S2x256x256 squeezes_S1x2x256x256_S2x256x256

/-- A semaphore of a ring, as the kernel names it. -/
abbrev semM (S : DmaSems sig S8) (s : Fin 8) : DmaSems sig S_ :=
  (S.slice (Rect.unit (s := S8) ![s.val] S1.size (inbSem s))).squeeze S_ squeezes_S1_S_

/-- The rows of a block, as the kernel names them. -/
abbrev rowM (A : Memref sig .tc .hbm S2x140288x256 .i32) (k : ℕ) : Memref sig .tc .hbm S2x256x256 .i32 :=
  A.slice (Rect.unit (s := S2x140288x256) (rowOff k) S2x256x256.size (inbRow k)) (fun _ => rfl)

/-- One half of a slot, as the kernel loads and stores it. -/
abbrev halfR (s : Fin 8) (z : Fin 2) : Rect S8x2x256x256 :=
  Rect.unit (s := S8x2x256x256) ![s.val, z.val, 0, 0] S1x1x256x256.size (inbHalf s z)

theorem slot_emb3 (A : Memref sig .tc .vmem S8x2x256x256 .i32) (s : Fin 8) (z : Fin 2) (x y : Fin 256) (i : S1x1x256x256.Idx)
    (h2 : (i 2).val = x.val) (h3 : (i 3).val = y.val) :
    (slotM A s).view.emb (ix3 z x y) = (A.view.slice (halfR s z)).emb i := by
  show A.view.emb ((Rect.unit (s := S8x2x256x256) ![s.val, 0, 0, 0] S1x2x256x256.size (inbSlot s)).emb
    (Shape.reshapeEquiv (s := S1x2x256x256) (s' := S2x256x256) squeezes_S1x2x256x256_S2x256x256.numel_eq (ix3 z x y))) = A.view.emb ((halfR s z).emb i)
  congr 1
  have h0 : (i 0).val = 0 := by have := (i 0).isLt; simpa using this
  have h1 : (i 1).val = 0 := by have := (i 1).isLt; simpa using this
  rw [show Shape.reshapeEquiv (s := S1x2x256x256) (s' := S2x256x256) squeezes_S1x2x256x256_S2x256x256.numel_eq (ix3 z x y) = ix4 (⟨0, Nat.one_pos⟩ : Fin 1) z x y
    from reshapeEquiv_ix3_1abc _ z x y]
  funext a
  apply Fin.ext
  rw [Rect.emb_apply, Rect.emb_apply]
  fin_cases a <;> simp [h0, h1, h2, h3]

/-- An index of a half of a slot, as an index of the slot. -/
theorem slot_emb (A : Memref sig .tc .vmem S8x2x256x256 .i32) (s : Fin 8) (z : Fin 2) (i : S1x1x256x256.Idx) :
    (slotM A s).view.emb (ix3 (n0 := 2) (n1 := 256) (n2 := 256) z (i 2) (i 3)) = (A.view.slice (halfR s z)).emb i :=
  slot_emb3 A s z (i 2) (i 3) i rfl rfl

theorem half_subset (A : Memref sig .tc .vmem S8x2x256x256 .i32) (s : Fin 8) (z : Fin 2) :
    (A.view.slice (halfR s z)).set ⊆ (slotM A s).view.set := by
  intro j hj
  obtain ⟨i, -, rfl⟩ := Finset.mem_map.mp hj
  rw [← slot_emb]
  exact View.emb_mem_set _ _

/-- A half of a block's words. -/
abbrev half (z : Fin 2) (v : S2x256x256.Idx → Elt F .i32) : Vec F S1x1x256x256 .i32 := fun i => v (ix3 (n0 := 2) (n1 := 256) (n2 := 256) z (i 2) (i 3))

theorem read_half (A : Memref sig .tc .vmem S8x2x256x256 .i32) (s : Fin 8) (z : Fin 2) (f : A.view.ty.Contents (Elt F)) :
    (A.view.slice (halfR s z)).read (Elt F) f = half z ((slotM A s).view.read (Elt F) f) := by
  funext i
  show (A.view.slice (halfR s z)).read (Elt F) f i = (slotM A s).view.read (Elt F) f (ix3 (n0 := 2) (n1 := 256) (n2 := 256) z (i 2) (i 3))
  rw [View.read_apply, View.read_apply, slot_emb]

/-- What the rings work on: the dispatched rows and the result, the two rings with their semaphores, the words the
    rows hold, the words the result holds at first, and the words it is to hold. -/
structure Rings (F : FTy → Type) [BitOps F] where
  c : Dev nD
  A3 : Memref sig .tc .hbm S2x140288x256 .i32
  A8 : Memref sig .tc .hbm S2x140288x256 .i32
  A11 : Memref sig .tc .vmem S8x2x256x256 .i32
  A12 : Memref sig .tc .vmem S8x2x256x256 .i32
  S13 : DmaSems sig S8
  S14 : DmaSems sig S8
  xs : A3.view.ty.Contents (Elt F)
  y0 : A8.view.ty.Contents (Elt F)
  G : A8.view.ty.Contents (Elt F)

/-- The words of one block. -/
abbrev Blk (F : FTy → Type) [BitOps F] : Type := S2x256x256.Idx → Elt F .i32

namespace Rings

/-- The words of a block of dispatched rows. -/
def X (K : Rings F) (k : ℕ) : Blk F := (rowM K.A3 k).view.read (Elt F) K.xs

/-- The words a block of the result is to hold. -/
def Y (K : Rings F) (k : ℕ) : Blk F := (rowM K.A8 k).view.read (Elt F) K.G

end Rings

/-- The program logic's triple on the core the rings live on. -/
abbrev Wp (c : Dev nD) {α : Type} (p : Prog (TpuEff nD τ sig (Elt F) Λ₀ .tc) α) (Q : α → sProp (MM F)) : sProp (MM F) :=
  wp frame (wpE (defs₀ (F := F)) Variants.none (c : Thread nD τ) none) Set.univ p Q

/-- Where the counters of a transfer in flight live. -/
abbrev EC : UEmb Counters (MM F) := countersEmb (U := Pipeline.UD sig nD τ)

/-- A slot held whole, at words reading `v` if `p`. -/
def slotAt (c : Dev nD) (A : Memref sig .tc .vmem S8x2x256x256 .i32) (s : Fin 8) (p : Blk F → Prop) : sProp (MM F) :=
  iprop(∃ f, ⌜p ((slotM A s).view.read (Elt F) f)⌝ ∗ ((slotM A s).view.loc (c : Thread nD τ) ↦[(slotM A s).view.set]{fullShare} f))

/-- A semaphore at zero. -/
def sem0 (c : Dev nD) (S : DmaSems sig S8) (s : Fin 8) : sProp (MM F) :=
  semVal ((c : Thread nD τ), SemLoc.dma (semM S s).sem) 0

/-- A block's rows held at the given words. -/
def rowAt (c : Dev nD) (A : Memref sig .tc .hbm S2x140288x256 .i32) (k : ℕ) (f : A.view.ty.Contents (Elt F)) : sProp (MM F) :=
  ((rowM A k).view.loc (c : Thread nD τ) ↦[(rowM A k).view.set]{fullShare} f)

/-- The units one block's transfer into a slot credits. -/
abbrev creditIn (K : Rings F) : ℕ := (slotM K.A11 0).view.dmaCredit
/-- The units one block's transfer out to the result credits. -/
abbrev creditOut (K : Rings F) : ℕ := (rowM K.A8 0).view.dmaCredit

/-! ## The ring of blocks coming in -/

/-- A slot nothing is in flight to: the last block it took, if any, is in it. -/
abbrev inKept (K : Rings F) (s : Fin 8) (p : Prop) (k : ℕ) : sProp (MM F) :=
  iprop(sem0 K.c K.S13 s ∗ slotAt K.c K.A11 s (fun v => p → v = K.X k))

/-- A slot a block is in flight to. -/
def inFly (K : Rings F) (s : Fin 8) (k : ℕ) : sProp (MM F) :=
  Transfers.Flight EC (K.c : Thread nD τ) (.dma (semM K.S13 s).sem) () (creditIn K)
    iprop(slotAt K.c K.A11 s (fun v => v = K.X k) ∗ rowAt K.c K.A3 k K.xs)

/-- Position `k` of the ring: the slot whose last block is number `k - 8`, of which `b` blocks have arrived. -/
def inSlot (K : Rings F) (b k : ℕ) : sProp (MM F) :=
  if k < b + 8 then inKept K (sl k) (8 ≤ k) (k - 8) else inFly K (sl k) (k - 8)

/-- The dispatched rows, less those of the blocks in flight. -/
def inRow (K : Rings F) (a b k : ℕ) : sProp (MM F) := if b ≤ k ∧ k < a then iprop(emp) else rowAt K.c K.A3 k K.xs

/-- The ring coming in: `a` blocks asked for, `b` of them arrived. -/
def InR (K : Rings F) (a b : ℕ) : sProp (MM F) :=
  iprop(bigSep (Finset.Ico a (a + 8)) (inSlot K b) ∗ bigSep (Finset.range 548) (inRow K a b))

/-! ## The ring of blocks going out -/

/-- A block of which the low halves of the words are in place if `p`, the high halves if `q`. -/
def Half (Y : Blk F) (p q : Prop) (v : Blk F) : Prop :=
  (p → ∀ x y : Fin 256, v (ix3 0 x y) = Y (ix3 0 x y)) ∧ (q → ∀ x y : Fin 256, v (ix3 1 x y) = Y (ix3 1 x y))

/-- A slot nothing is in flight from. -/
abbrev outIdle (K : Rings F) (s : Fin 8) (p q : Prop) (k : ℕ) : sProp (MM F) :=
  iprop(sem0 K.c K.S14 s ∗ slotAt K.c K.A12 s (Half (K.Y k) p q))

/-- A slot whose block is in flight to the result. -/
def outFly (K : Rings F) (s : Fin 8) (k : ℕ) : sProp (MM F) :=
  Transfers.Flight EC (K.c : Thread nD τ) (.dma (semM K.S14 s).sem) () (creditOut K)
    iprop(rowAt K.c K.A8 k K.G ∗ slotAt K.c K.A12 s (fun _ => True))

/-- Position `k` of the ring: the slot of block `k`. -/
def outSlot (K : Rings F) (d e1 e2 k : ℕ) : sProp (MM F) :=
  if k < d then outFly K (sl k) k else outIdle K (sl k) (k < e1) (k < e2) k

/-- The result's rows: those landed hold their result, those in flight are away, the others hold what they held. -/
def outRow (K : Rings F) (cc d k : ℕ) : sProp (MM F) :=
  if k < cc then rowAt K.c K.A8 k K.G else if k < d then iprop(emp) else rowAt K.c K.A8 k K.y0

/-- The ring going out: `cc` blocks landed, `d` sent, the low halves of `e1` and the high halves of `e2` computed. -/
def OutR (K : Rings F) (cc d e1 e2 : ℕ) : sProp (MM F) :=
  iprop(bigSep (Finset.Ico cc (cc + 8)) (outSlot K d e1 e2) ∗ bigSep (Finset.range 548) (outRow K cc d))

/-- The waits the core has recorded: whatever they are. -/
def Owes (c : Dev nD) : sProp (MM F) := iprop(∃ W, owes (c : Thread nD τ) 0 W)

/-- Both rings, with what else the body holds. -/
def St (K : Rings F) (P : sProp (MM F)) (a b cc d e1 e2 : ℕ) : sProp (MM F) :=
  iprop(InR K a b ∗ OutR K cc d e1 e2 ∗ Owes K.c ∗ P)

/-! ## The kernel's operations on the rings -/

section Steps

variable {K : Rings F} {P : sProp (MM F)} {a b cc d e1 e2 : ℕ} {α : Type}

/-- What is known of the words of a slot may be weakened. -/
theorem slotAt_mono {c : Dev nD} {A : Memref sig .tc .vmem S8x2x256x256 .i32} {s : Fin 8} {p q : Blk F → Prop} (h : ∀ v, p v → q v) :
    slotAt c A s p ⊢ slotAt c A s q := by
  unfold slotAt
  iintro ⟨%f, %hf, H⟩
  iexists f
  isplitr
  · ipureintro; exact h _ hf
  iexact H

/-- Starting the transfer of a block into a slot. -/
theorem fly_in {s : Fin 8} {j : ℕ} {p : Blk F → Prop} {k : PUnit → Prog (TpuEff nD τ sig (Elt F) Λ₀ .tc) α} {Q : α → sProp (MM F)}
    {hs : (rowM K.A3 j).view.WordExact} {hd : (slotM K.A11 s).view.WordExact}
    {ht : DmaTarget.Typed (nD := nD) (τ := τ) (p := .tc) .hbm (SemLoc.dma (semM K.S13 s).sem) (.here (slotM K.A11 s))} :
    iprop((sem0 K.c K.S13 s ∗ slotAt K.c K.A11 s p) ∗ rowAt K.c K.A3 j K.xs)
      ⊢ iprop((inFly K s j -∗ Wp K.c (k ⟨⟩) Q)
        -∗ Wp K.c (.op (.enqueueDma (rowM K.A3 j) (.here (slotM K.A11 s)) (.dma (semM K.S13 s).sem) hs hd ht) k) Q) := by
  unfold sem0 slotAt rowAt
  iintro ⟨⟨Hsem, %f, -, Hslot⟩, Hrow⟩ Hk
  iapply (Transfers.wp_dmaLocal EC Variants.none (K.c : Thread nD τ) none (src := rowM K.A3 j) (dst := slotM K.A11 s) (via := .same) () (creditIn K) rfl
    (View.dmaCredit_pos _ (by decide)) subset_rfl) $$ [Hrow Hslot Hsem]
  · isplitl [Hrow]; · iexact Hrow
    isplitl [Hslot]; · iexact Hslot
    iexact Hsem
  iintro HF
  iapply Hk
  unfold inFly
  iapply (Transfers.Flight_mono EC (K.c : Thread nD τ) ?_) $$ HF
  unfold slotAt rowAt
  iintro ⟨H1, H2⟩
  isplitl [H1]
  · iexists _
    isplitr
    swap
    · iexact H1
    ipureintro
    exact View.read_write_univ _ _
  iexact H2

/-- Waiting for the transfer of a block into a slot. -/
theorem land_in {s : Fin 8} {j : ℕ} {k : PUnit → Prog (TpuEff nD τ sig (Elt F) Λ₀ .tc) α} {Q : α → sProp (MM F)}
    {hs : (rowM K.A3 j).view.WordExact} {hd : (slotM K.A11 s).view.WordExact} :
    iprop(inFly K s j ∗ Owes K.c)
      ⊢ iprop((iprop((sem0 K.c K.S13 s ∗ slotAt K.c K.A11 s (fun v => v = K.X j)) ∗ rowAt K.c K.A3 j K.xs ∗ Owes K.c) -∗ Wp K.c (k ⟨⟩) Q)
        -∗ Wp K.c (.op (.waitDma2 (semM K.S13 s).sem (rowM K.A3 j) (slotM K.A11 s) hs hd) k) Q) := by
  unfold inFly Owes sem0
  iintro ⟨HF, %W, Ho⟩ Hk
  iapply (Transfers.wp_waitLocal EC Variants.none (K.c : Thread nD τ) none (sem := (semM K.S13 s).sem) (srcw := rowM K.A3 j) (dstw := slotM K.A11 s) () (N := creditIn K) rfl) $$ [HF Ho]
  · isplitl [HF]; · iexact HF
    iexact Ho
  iintro ⟨⟨H1, H2⟩, H3, H4⟩
  iapply Hk
  isplitl [H3 H1]
  · isplitl [H3]; · iexact H3
    iexact H1
  isplitl [H2]; · iexact H2
  iexists _; iexact H4

/-- A block both of whose halves are in place is the block. -/
theorem half_all {Y v : Blk F} {p q : Prop} (hp : p) (hq : q) (h : Half Y p q v) : v = Y := by
  funext i
  obtain ⟨z, x, y, rfl⟩ : ∃ z x y, i = ix3 z x y := ⟨i 0, i 1, i 2, Shape.idx3_ext rfl rfl rfl⟩
  match z with
  | 0 => exact h.1 hp x y
  | 1 => exact h.2 hq x y

/-- A block's rows with its result written over them hold what the result is to hold. -/
theorem row_written {j : ℕ} {v : Blk F} (hv : v = K.Y j) :
    iprop((rowM K.A8 j).view.loc (K.c : Thread nD τ) ↦[(rowM K.A8 j).view.set]{fullShare} (rowM K.A8 j).view.write (Elt F) K.y0 v Finset.univ)
      ⊢ (iprop((rowM K.A8 j).view.loc (K.c : Thread nD τ) ↦[(rowM K.A8 j).view.set]{fullShare} K.G) : sProp (MM F)) := by
  refine Eq.le (pointsTo_congr fun i hi => ?_)
  obtain ⟨x, -, rfl⟩ := Finset.mem_map.mp hi
  exact View.eq_of_read_eq (congrFun ((View.read_write_univ _ _).trans hv) x)

/-- Starting the transfer of a block's result, both halves in place, out of its slot. -/
theorem fly_out {s : Fin 8} {j : ℕ} {p q : Prop} (hp : p) (hq : q) {k : PUnit → Prog (TpuEff nD τ sig (Elt F) Λ₀ .tc) α} {Q : α → sProp (MM F)}
    {hs : (slotM K.A12 s).view.WordExact} {hd : (rowM K.A8 j).view.WordExact}
    {ht : DmaTarget.Typed (nD := nD) (τ := τ) (p := .tc) .vmem (SemLoc.dma (semM K.S14 s).sem) (.here (rowM K.A8 j))} :
    iprop((sem0 K.c K.S14 s ∗ slotAt K.c K.A12 s (Half (K.Y j) p q)) ∗ rowAt K.c K.A8 j K.y0)
      ⊢ iprop((outFly K s j -∗ Wp K.c (k ⟨⟩) Q)
        -∗ Wp K.c (.op (.enqueueDma (slotM K.A12 s) (.here (rowM K.A8 j)) (.dma (semM K.S14 s).sem) hs hd ht) k) Q) := by
  unfold sem0 slotAt rowAt
  iintro ⟨⟨Hsem, %f, %hf, Hslot⟩, Hrow⟩ Hk
  iapply (Transfers.wp_dmaLocal EC Variants.none (K.c : Thread nD τ) none (src := slotM K.A12 s) (dst := rowM K.A8 j) (via := .same) () (creditOut K) rfl
    (View.dmaCredit_pos _ (by decide)) subset_rfl) $$ [Hrow Hslot Hsem]
  · isplitl [Hslot]; · iexact Hslot
    isplitl [Hrow]; · iexact Hrow
    iexact Hsem
  iintro HF
  iapply Hk
  unfold outFly
  iapply (Transfers.Flight_mono EC (K.c : Thread nD τ) ?_) $$ HF
  unfold slotAt rowAt
  iintro ⟨H1, H2⟩
  isplitl [H1]
  · iapply (row_written (K := K) (half_all hp hq hf)); iexact H1
  iexists _
  isplitr
  swap
  · iexact H2
  ipureintro
  trivial

/-- Waiting for the transfer of a block's result. -/
theorem land_out {s : Fin 8} {j : ℕ} {k : PUnit → Prog (TpuEff nD τ sig (Elt F) Λ₀ .tc) α} {Q : α → sProp (MM F)}
    {hs : (slotM K.A12 s).view.WordExact} {hd : (rowM K.A8 j).view.WordExact} :
    iprop(outFly K s j ∗ Owes K.c)
      ⊢ iprop((iprop((sem0 K.c K.S14 s ∗ slotAt K.c K.A12 s (fun _ => True)) ∗ rowAt K.c K.A8 j K.G ∗ Owes K.c) -∗ Wp K.c (k ⟨⟩) Q)
        -∗ Wp K.c (.op (.waitDma2 (semM K.S14 s).sem (slotM K.A12 s) (rowM K.A8 j) hs hd) k) Q) := by
  unfold outFly Owes sem0
  iintro ⟨HF, %W, Ho⟩ Hk
  iapply (Transfers.wp_waitLocal EC Variants.none (K.c : Thread nD τ) none (sem := (semM K.S14 s).sem) (srcw := slotM K.A12 s) (dstw := rowM K.A8 j) () (N := creditOut K) rfl) $$ [HF Ho]
  · isplitl [HF]; · iexact HF
    iexact Ho
  iintro ⟨⟨H1, H2⟩, H3, H4⟩
  iapply Hk
  isplitl [H3 H2]
  · isplitl [H3]; · iexact H3
    iexact H2
  isplitl [H1]; · iexact H1
  iexists _; iexact H4

/-- A block is asked for. -/
theorem issueIn_core {k : PUnit → Prog (TpuEff nD τ sig (Elt F) Λ₀ .tc) α} {Q : α → sProp (MM F)}
    {hs : (rowM K.A3 a).view.WordExact} {hd : (slotM K.A11 (sl a)).view.WordExact}
    {ht : DmaTarget.Typed (nD := nD) (τ := τ) (p := .tc) .hbm (SemLoc.dma (semM K.S13 (sl a)).sem) (.here (slotM K.A11 (sl a)))}
    (ha : a < b + 8) (hb : b ≤ a) (ha' : a < 548) (h : St K P (a + 1) b cc d e1 e2 ⊢ Wp K.c (k ⟨⟩) Q) :
    St K P a b cc d e1 e2 ⊢ Wp K.c (.op (.enqueueDma (rowM K.A3 a) (.here (slotM K.A11 (sl a))) (.dma (semM K.S13 (sl a)).sem) hs hd ht) k) Q := by
  unfold St InR at h ⊢
  iintro ⟨⟨Hring, Hrows⟩, HR⟩
  ihave Hring := (bigSep_shift (Φ := inSlot K b) (Φ' := inSlot K b) (a := a) (A := inKept K (sl a) (8 ≤ a) (a - 8)) (B := inFly K (sl a) a)
    (if_pos ha) (by rw [inSlot, if_neg (by omega), sl_add8, Nat.add_sub_cancel]) (fun _ _ _ => rfl)) $$ Hring
  icases Hring with ⟨Hs, Hring⟩
  ihave Hrows := (bigSep_upd (Φ := inRow K a b) (Φ' := inRow K (a + 1) b) (k := a) (by simp; omega) (A := rowAt K.c K.A3 a K.xs) (B := iprop(emp))
    (if_neg (by omega)) (if_pos (by omega)) (fun j _ hj => by unfold inRow; congr 1; simp; omega)) $$ Hrows
  icases Hrows with ⟨Hrow, Hrows⟩
  iapply (fly_in (K := K)) $$ [Hs Hrow]
  · isplitl [Hs]; · iexact Hs
    iexact Hrow
  iintro HF
  iapply h
  isplitl [HF Hring Hrows]
  · isplitl [Hring HF]
    · iapply Hring; iexact HF
    iapply Hrows; iempintro
  iexact HR

/-- A block has arrived. -/
theorem landIn_core {k : PUnit → Prog (TpuEff nD τ sig (Elt F) Λ₀ .tc) α} {Q : α → sProp (MM F)}
    {hs : (rowM K.A3 b).view.WordExact} {hd : (slotM K.A11 (sl b)).view.WordExact}
    (ha : a ≤ b + 8) (hb : b < a) (ha' : b < 548) (h : St K P a (b + 1) cc d e1 e2 ⊢ Wp K.c (k ⟨⟩) Q) :
    St K P a b cc d e1 e2 ⊢ Wp K.c (.op (.waitDma2 (semM K.S13 (sl b)).sem (rowM K.A3 b) (slotM K.A11 (sl b)) hs hd) k) Q := by
  unfold St InR at h ⊢
  iintro ⟨⟨Hring, Hrows⟩, Hout, Ho, HP⟩
  ihave Hring := (bigSep_upd (Φ := inSlot K b) (Φ' := inSlot K (b + 1)) (k := b + 8) (A := inFly K (sl b) b)
    (B := iprop(sem0 K.c K.S13 (sl b) ∗ slotAt K.c K.A11 (sl b) (fun v => 8 ≤ b + 8 → v = K.X b)))
    (by simp; omega) (by rw [inSlot, if_neg (by omega), sl_add8, Nat.add_sub_cancel])
    (by rw [inSlot, if_pos (by omega), sl_add8, Nat.add_sub_cancel]) (fun j _ hj => by unfold inSlot; congr 1; simp; omega)) $$ Hring
  icases Hring with ⟨Hs, Hring⟩
  ihave Hrows := (bigSep_upd (Φ := inRow K a b) (Φ' := inRow K a (b + 1)) (k := b) (by simp; omega) (A := iprop(emp)) (B := rowAt K.c K.A3 b K.xs)
    (if_pos (by omega)) (if_neg (by omega)) (fun j _ hj => by unfold inRow; congr 1; simp; omega)) $$ Hrows
  icases Hrows with ⟨-, Hrows⟩
  iapply (land_in (K := K)) $$ [Hs Ho]
  · isplitl [Hs]; · iexact Hs
    iexact Ho
  iintro ⟨⟨H1, H2⟩, H3, Ho⟩
  iapply h
  isplitl [H1 H2 H3 Hring Hrows]
  · isplitl [Hring H1 H2]
    · iapply Hring
      isplitl [H1]; · iexact H1
      iapply (slotAt_mono (fun v hv _ => hv)) $$ H2
    iapply Hrows; iexact H3
  isplitl [Hout]; · iexact Hout
  isplitl [Ho]; · iexact Ho
  iexact HP

/-- A block's result is sent. -/
theorem issueOut_core {k : PUnit → Prog (TpuEff nD τ sig (Elt F) Λ₀ .tc) α} {Q : α → sProp (MM F)}
    {hs : (slotM K.A12 (sl d)).view.WordExact} {hd : (rowM K.A8 d).view.WordExact}
    {ht : DmaTarget.Typed (nD := nD) (τ := τ) (p := .tc) .vmem (SemLoc.dma (semM K.S14 (sl d)).sem) (.here (rowM K.A8 d))}
    (hc : cc ≤ d) (hc' : d < cc + 8) (h1 : d < e1) (h2 : d < e2) (hd' : d < 548) (h : St K P a b cc (d + 1) e1 e2 ⊢ Wp K.c (k ⟨⟩) Q) :
    St K P a b cc d e1 e2 ⊢ Wp K.c (.op (.enqueueDma (slotM K.A12 (sl d)) (.here (rowM K.A8 d)) (.dma (semM K.S14 (sl d)).sem) hs hd ht) k) Q := by
  unfold St OutR at h ⊢
  iintro ⟨HI, ⟨Hring, Hrows⟩, HR⟩
  ihave Hring := (bigSep_upd (Φ := outSlot K d e1 e2) (Φ' := outSlot K (d + 1) e1 e2) (k := d) (A := outIdle K (sl d) (d < e1) (d < e2) d) (B := outFly K (sl d) d)
    (by simp; omega) (if_neg (by omega)) (if_pos (by omega)) (fun j _ hj => by unfold outSlot; congr 1; simp; omega)) $$ Hring
  icases Hring with ⟨Hs, Hring⟩
  ihave Hrows := (bigSep_upd (Φ := outRow K cc d) (Φ' := outRow K cc (d + 1)) (k := d) (by simp; omega) (A := rowAt K.c K.A8 d K.y0) (B := iprop(emp))
    (by rw [outRow, if_neg (by omega), if_neg (by omega)]) (by rw [outRow, if_neg (by omega), if_pos (by omega)])
    (fun j _ hj => by unfold outRow; congr 2; simp; omega)) $$ Hrows
  icases Hrows with ⟨Hrow, Hrows⟩
  iapply (fly_out (K := K) h1 h2) $$ [Hs Hrow]
  · isplitl [Hs]; · iexact Hs
    iexact Hrow
  iintro HF
  iapply h
  isplitl [HI]; · iexact HI
  isplitl [HF Hring Hrows]
  · isplitl [Hring HF]
    · iapply Hring; iexact HF
    iapply Hrows; iempintro
  iexact HR

/-- A block's result has landed. -/
theorem landOut_core {k : PUnit → Prog (TpuEff nD τ sig (Elt F) Λ₀ .tc) α} {Q : α → sProp (MM F)}
    {hs : (slotM K.A12 (sl cc)).view.WordExact} {hd : (rowM K.A8 cc).view.WordExact}
    (hc : cc < d) (hc' : d ≤ cc + 8) (h1 : e1 ≤ cc + 8) (h2 : e2 ≤ cc + 8) (hd' : cc < 548) (h : St K P a b (cc + 1) d e1 e2 ⊢ Wp K.c (k ⟨⟩) Q) :
    St K P a b cc d e1 e2 ⊢ Wp K.c (.op (.waitDma2 (semM K.S14 (sl cc)).sem (slotM K.A12 (sl cc)) (rowM K.A8 cc) hs hd) k) Q := by
  unfold St OutR at h ⊢
  iintro ⟨HI, ⟨Hring, Hrows⟩, Ho, HP⟩
  ihave Hring := (bigSep_shift (Φ := outSlot K d e1 e2) (Φ' := outSlot K d e1 e2) (a := cc) (A := outFly K (sl cc) cc)
    (B := outIdle K (sl cc) (cc + 8 < e1) (cc + 8 < e2) (cc + 8))
    (if_pos (by omega)) (by rw [outSlot, if_neg (by omega), sl_add8]) (fun _ _ _ => rfl)) $$ Hring
  icases Hring with ⟨Hs, Hring⟩
  ihave Hrows := (bigSep_upd (Φ := outRow K cc d) (Φ' := outRow K (cc + 1) d) (k := cc) (by simp; omega) (A := iprop(emp)) (B := rowAt K.c K.A8 cc K.G)
    (by rw [outRow, if_neg (by omega), if_pos (by omega)]) (by rw [outRow, if_pos (by omega)])
    (fun j _ hj => by unfold outRow; congr 1; simp; omega)) $$ Hrows
  icases Hrows with ⟨-, Hrows⟩
  iapply (land_out (K := K)) $$ [Hs Ho]
  · isplitl [Hs]; · iexact Hs
    iexact Ho
  iintro ⟨⟨H1, H2⟩, H3, Ho⟩
  iapply h
  isplitl [HI]; · iexact HI
  isplitl [H1 H2 H3 Hring Hrows]
  · isplitl [Hring H1 H2]
    · iapply Hring
      isplitl [H1]; · iexact H1
      iapply (slotAt_mono (fun v _ => ⟨fun h => absurd h (by omega), fun h => absurd h (by omega)⟩)) $$ H2
    iapply Hrows; iexact H3
  isplitl [Ho]; · iexact Ho
  iexact HP

/-- A half of a block is loaded from its slot. -/
theorem load_half {A : Memref sig .tc .vmem S8x2x256x256 .i32} {c : Dev nD} {s : Fin 8} {z : Fin 2} {v : Blk F}
    {k : Vec F S1x1x256x256 .i32 → Prog (TpuEff nD τ sig (Elt F) Λ₀ .tc) α} {Q : α → sProp (MM F)} {hl : A.view.LoadsAt (halfR s z).toLoadRect} :
    slotAt c A s (fun w => w = v)
      ⊢ iprop((slotAt c A s (fun w => w = v) -∗ Wp c (k (half z v)) Q) -∗ Wp c (.op (.load A (halfR s z).toLoadRect hl) k) Q) := by
  unfold slotAt
  iintro ⟨%f, %hf, H⟩ Hk
  iapply (wp_load_rect Variants.none (c : Thread nD τ) none Set.univ (m := A) (r := halfR s z) (half_subset A s z)) $$ H
  iintro H
  rw [show (A.access (halfR s z)).read (Elt F) f = half z v from (read_half A s z f).trans (by rw [hf])]
  iapply Hk
  iexists f
  isplitr
  · ipureintro; exact hf
  iexact H

/-- A half of a slot is loaded, whatever it holds. -/
theorem load_any {A : Memref sig .tc .vmem S8x2x256x256 .i32} {c : Dev nD} {s : Fin 8} {z : Fin 2} {p : Blk F → Prop}
    {k : Vec F S1x1x256x256 .i32 → Prog (TpuEff nD τ sig (Elt F) Λ₀ .tc) α} {Q : α → sProp (MM F)} {hl : A.view.LoadsAt (halfR s z).toLoadRect} :
    slotAt c A s p ⊢ iprop((∀ w, slotAt c A s p -∗ Wp c (k w) Q) -∗ Wp c (.op (.load A (halfR s z).toLoadRect hl) k) Q) := by
  unfold slotAt
  iintro ⟨%f, %hf, H⟩ Hk
  iapply (wp_load_rect Variants.none (c : Thread nD τ) none Set.univ (m := A) (r := halfR s z) (half_subset A s z)) $$ H
  iintro H
  iapply Hk
  iexists f
  isplitr
  · ipureintro; exact hf
  iexact H

/-- A half of a slot is stored. -/
theorem store_half {A : Memref sig .tc .vmem S8x2x256x256 .i32} {c : Dev nD} {s : Fin 8} {z : Fin 2} {p p' : Blk F → Prop} {w : Vec F S1x1x256x256 .i32}
    (h : ∀ v v' : Blk F, p v → half z v' = w → (∀ z', z' ≠ z → half z' v' = half z' v) → p' v')
    {k : PUnit → Prog (TpuEff nD τ sig (Elt F) Λ₀ .tc) α} {Q : α → sProp (MM F)} {hx : (A.access (halfR s z)).Stores Finset.univ}
    {hm : (Finset.univ : Finset (halfR s z).shape.Idx) = Finset.univ ∨ ∀ a, (halfR s z).stride a = 1} :
    slotAt c A s p ⊢ iprop((slotAt c A s p' -∗ Wp c (k ⟨⟩) Q) -∗ Wp c (.op (.store A (halfR s z) w Finset.univ hx hm) k) Q) := by
  unfold slotAt
  iintro ⟨%f, %hf, H⟩ Hk
  iapply (wp_store Variants.none (c : Thread nD τ) none Set.univ (m := A) (r := halfR s z) (half_subset A s z)) $$ H
  iintro H
  iapply Hk
  iexists _
  isplitr
  swap
  · iexact H
  ipureintro
  refine h _ _ hf ?_ fun z' hz => ?_
  · rw [← read_half]; exact View.read_write_univ _ _
  · rw [← read_half, ← read_half]
    refine View.read_slice_write_slice_of_disjoint _ _ _ _ _ (show Disjoint (A.view.slice (halfR s z')).set (A.view.slice (halfR s z)).set from View.disjoint_slice ?_)
    rw [Finset.disjoint_left]
    intro i hi hi'
    rw [Rect.mem_set_unit] at hi hi'
    have a1 := hi 1
    have a2 := hi' 1
    simp at a1 a2
    exact hz (Fin.ext (by omega))

end Steps

end Cert.Kernel.Hand

end
-- ==== Proof.Steps.lean ====
/-
  Hand-written, untrusted. The expert feed-forward kernel's operations as it writes them — offsets computed from
  run-time words, branches on what remains to be asked for or awaited — each as a step from one state of the two rings
  to the next.
-/
module

public import proofs.«01_k».proof.Proof.Rings

@[expose] public section

set_option maxRecDepth 20000

noncomputable section

namespace Cert.Kernel.Hand

open Cert.Kernel Cert.Kernel.Gen
open Idealize.ShloMosaic Idealize.ShloMosaic.TcCoe Idealize.ShloMosaic.Tactic Idealize.ShloMosaic.ValueIdx
open Idealize.SL Idealize.SL.RA Idealize.SL.BI Idealize.SL.ExclCount
open scoped Idealize.SL.BI
open Idealize.SL.BI.BIBase Idealize.SL.BI.Laws Idealize.SL.ProofMode Idealize.SL.Sem

variable {F : FTy → Type} [BitOps F]
variable {K : Rings F} {P P' : sProp (MM F)} {a a' b b' cc cc' d d' e1 e1' e2 e2' kk : ℕ} {α β : Type}

/-- A program that only returns. -/
theorem sRet {J : sProp (MM F)} {c : Dev nD} {v : α} {Q : α → sProp (MM F)} (h : J ⊢ Q v) : J ⊢ Wp c (Pure.pure v) Q := by
  refine h.trans ?_
  show Q v ⊢ Wp c (.ret v) Q
  unfold Wp
  rw [wp_ret]
  iintro H
  imodintro
  iexact H

/-- A program followed by another. -/
theorem sBind {J : sProp (MM F)} {c : Dev nD} {p : Prog (TpuEff nD τ sig (Elt F) Λ₀ .tc) β} {k : β → Prog (TpuEff nD τ sig (Elt F) Λ₀ .tc) α} {Q : α → sProp (MM F)}
    (h : J ⊢ Wp c p (fun v => Wp c (k v) Q)) : J ⊢ Wp c (p >>= k) Q := by
  refine h.trans ?_
  unfold Wp
  rw [wp_bind]

/-- A branch whose two sides both lead on. -/
theorem sIf {J : sProp (MM F)} {c : Dev nD} {w : BitVec 1} {p : Prop} [Decidable p] (hw : w = if p then 1#1 else 0#1)
    {A : w = 1#1 → Prog (TpuEff nD τ sig (Elt F) Λ₀ .tc) α} {B : ¬w = 1#1 → Prog (TpuEff nD τ sig (Elt F) Λ₀ .tc) α} {Q : α → sProp (MM F)}
    (hA : p → ∀ h, J ⊢ Wp c (A h) Q) (hB : ¬p → ∀ h, J ⊢ Wp c (B h) Q) : J ⊢ Wp c (dite (w = 1#1) A B) Q := by
  by_cases hp : p
  · have : w = 1#1 := by rw [hw, if_pos hp]
    rw [dif_pos this]; exact hA hp _
  · have : ¬w = 1#1 := by rw [hw, if_neg hp]; decide
    rw [dif_neg this]; exact hB hp _

/-- A branch on a plain condition whose two sides both lead on. -/
theorem sIte {J : sProp (MM F)} {c : Dev nD} {w : BitVec 1} {p : Prop} [Decidable p] (hw : w = if p then 1#1 else 0#1)
    {A : Prog (TpuEff nD τ sig (Elt F) Λ₀ .tc) α} {B : Prog (TpuEff nD τ sig (Elt F) Λ₀ .tc) α} {Q : α → sProp (MM F)}
    (hA : p → J ⊢ Wp c A Q) (hB : ¬p → J ⊢ Wp c B Q) : J ⊢ Wp c (ite (w = 1#1) A B) Q := by
  by_cases hp : p
  · have : w = 1#1 := by rw [hw, if_pos hp]
    rw [if_pos this]; exact hA hp
  · have : ¬w = 1#1 := by rw [hw, if_neg hp]; decide
    rw [if_neg this]; exact hB hp

/-- Block `kk` is asked for. -/
theorem sIssueIn {o13 : Fin 1 → ℕ} {o11 : Fin 4 → ℕ} {o3 : Fin 3 → ℕ}
    {i13 : ∀ x, o13 x + S1.size x ≤ S8.size x} {i11 : ∀ x, o11 x + S1x2x256x256.size x ≤ S8x2x256x256.size x}
    {i3 : ∀ x, o3 x + S2x256x256.size x ≤ S2x140288x256.size x}
    {k : Prog (TpuEff nD τ sig (Elt F) Λ₀ .tc) α} {Q : α → sProp (MM F)}
    (h13 : o13 = ![kk % 8]) (h11 : o11 = ![kk % 8, 0, 0, 0]) (h3 : o3 = ![0, kk * 256, 0])
    (ha : a = kk) (ha' : a' = kk + 1) (hb : b ≤ kk) (hb' : kk < b + 8) (hn : kk < 548)
    (h : St K P a' b cc d e1 e2 ⊢ Wp K.c k Q) {hs hd ht} :
    St K P a b cc d e1 e2 ⊢ Wp K.c (Prog.lift (.enqueueDma (K.A3.slice (Rect.unit (s := S2x140288x256) o3 S2x256x256.size i3) (fun _ => rfl))
      (.here ((K.A11.slice (Rect.unit (s := S8x2x256x256) o11 S1x2x256x256.size i11) (fun _ => rfl)).squeeze S2x256x256 squeezes_S1x2x256x256_S2x256x256))
      (.dma ((K.S13.slice (Rect.unit (s := S8) o13 S1.size i13)).squeeze S_ squeezes_S1_S_).sem) hs hd ht) >>= fun _ => k) Q := by
  have h3 := rowOff_of hn h3
  subst h13 h11 h3 ha ha'
  exact issueIn_core hb' hb hn h

/-- Block `kk` is awaited. -/
theorem sLandIn {o13 : Fin 1 → ℕ} {o11 : Fin 4 → ℕ} {o3 : Fin 3 → ℕ}
    {i13 : ∀ x, o13 x + S1.size x ≤ S8.size x} {i11 : ∀ x, o11 x + S1x2x256x256.size x ≤ S8x2x256x256.size x}
    {i3 : ∀ x, o3 x + S2x256x256.size x ≤ S2x140288x256.size x}
    {k : Prog (TpuEff nD τ sig (Elt F) Λ₀ .tc) α} {Q : α → sProp (MM F)}
    (h13 : o13 = ![kk % 8]) (h11 : o11 = ![kk % 8, 0, 0, 0]) (h3 : o3 = ![0, kk * 256, 0])
    (hb : b = kk) (hb' : b' = kk + 1) (ha : kk < a) (ha' : a ≤ kk + 8) (hn : kk < 548)
    (h : St K P a b' cc d e1 e2 ⊢ Wp K.c k Q) {hs hd} :
    St K P a b cc d e1 e2 ⊢ Wp K.c (Prog.lift (.waitDma2 ((K.S13.slice (Rect.unit (s := S8) o13 S1.size i13)).squeeze S_ squeezes_S1_S_).sem
      (K.A3.slice (Rect.unit (s := S2x140288x256) o3 S2x256x256.size i3) (fun _ => rfl))
      ((K.A11.slice (Rect.unit (s := S8x2x256x256) o11 S1x2x256x256.size i11) (fun _ => rfl)).squeeze S2x256x256 squeezes_S1x2x256x256_S2x256x256) hs hd) >>= fun _ => k) Q := by
  have h3 := rowOff_of hn h3
  subst h13 h11 h3 hb hb'
  exact landIn_core ha' ha hn h

/-- Block `kk`'s result is sent. -/
theorem sIssueOut {o14 : Fin 1 → ℕ} {o12 : Fin 4 → ℕ} {o8 : Fin 3 → ℕ}
    {i14 : ∀ x, o14 x + S1.size x ≤ S8.size x} {i12 : ∀ x, o12 x + S1x2x256x256.size x ≤ S8x2x256x256.size x}
    {i8 : ∀ x, o8 x + S2x256x256.size x ≤ S2x140288x256.size x}
    {k : Prog (TpuEff nD τ sig (Elt F) Λ₀ .tc) α} {Q : α → sProp (MM F)}
    (h14 : o14 = ![kk % 8]) (h12 : o12 = ![kk % 8, 0, 0, 0]) (h8 : o8 = ![0, kk * 256, 0])
    (hdk : d = kk) (hd' : d' = kk + 1) (hc : cc ≤ kk) (hc' : kk < cc + 8) (h1 : kk < e1) (h2 : kk < e2) (hn : kk < 548)
    (h : St K P a b cc d' e1 e2 ⊢ Wp K.c k Q) {hs hd ht} :
    St K P a b cc d e1 e2 ⊢ Wp K.c (Prog.lift (.enqueueDma
      ((K.A12.slice (Rect.unit (s := S8x2x256x256) o12 S1x2x256x256.size i12) (fun _ => rfl)).squeeze S2x256x256 squeezes_S1x2x256x256_S2x256x256)
      (.here (K.A8.slice (Rect.unit (s := S2x140288x256) o8 S2x256x256.size i8) (fun _ => rfl)))
      (.dma ((K.S14.slice (Rect.unit (s := S8) o14 S1.size i14)).squeeze S_ squeezes_S1_S_).sem) hs hd ht) >>= fun _ => k) Q := by
  have h8 := rowOff_of hn h8
  subst h14 h12 h8 hdk hd'
  exact issueOut_core hc hc' h1 h2 hn h

/-- The result of the block eight before block `kk` is awaited. -/
theorem sLandOut {o14 : Fin 1 → ℕ} {o12 : Fin 4 → ℕ} {o8 : Fin 3 → ℕ}
    {i14 : ∀ x, o14 x + S1.size x ≤ S8.size x} {i12 : ∀ x, o12 x + S1x2x256x256.size x ≤ S8x2x256x256.size x}
    {i8 : ∀ x, o8 x + S2x256x256.size x ≤ S2x140288x256.size x}
    {k : Prog (TpuEff nD τ sig (Elt F) Λ₀ .tc) α} {Q : α → sProp (MM F)}
    (h14 : o14 = ![kk % 8]) (h12 : o12 = ![kk % 8, 0, 0, 0]) (h8 : o8 = ![0, (kk - 8) * 256, 0]) (hk : 8 ≤ kk)
    (hc : cc = kk - 8) (hc' : cc' = kk + 1 - 8) (hlt : kk - 8 < d) (hd' : d ≤ kk) (h1 : e1 ≤ kk) (h2 : e2 ≤ kk) (hn : kk - 8 < 548)
    (h : St K P a b cc' d e1 e2 ⊢ Wp K.c k Q) {hs hd} :
    St K P a b cc d e1 e2 ⊢ Wp K.c (Prog.lift (.waitDma2 ((K.S14.slice (Rect.unit (s := S8) o14 S1.size i14)).squeeze S_ squeezes_S1_S_).sem
      ((K.A12.slice (Rect.unit (s := S8x2x256x256) o12 S1x2x256x256.size i12) (fun _ => rfl)).squeeze S2x256x256 squeezes_S1x2x256x256_S2x256x256)
      (K.A8.slice (Rect.unit (s := S2x140288x256) o8 S2x256x256.size i8) (fun _ => rfl)) hs hd) >>= fun _ => k) Q := by
  have h8 := rowOff_of hn h8
  have e : kk % 8 = (kk - 8) % 8 := by omega
  rw [e] at h14 h12
  have hc' : cc' = kk - 8 + 1 := by omega
  subst h14 h12 h8 hc hc'
  exact landOut_core hlt (by omega) (by omega) (by omega) hn h

/-- Block `kk` is asked for if there is one. -/
theorem sCIssueIn {n : ℕ} {w : BitVec 1} {o13 : Fin 1 → ℕ} {o11 : Fin 4 → ℕ} {o3 : Fin 3 → ℕ}
    {i13 : w = 1#1 → ∀ x, o13 x + S1.size x ≤ S8.size x} {i11 : w = 1#1 → ∀ x, o11 x + S1x2x256x256.size x ≤ S8x2x256x256.size x}
    {i3 : w = 1#1 → ∀ x, o3 x + S2x256x256.size x ≤ S2x140288x256.size x}
    {k : Prog (TpuEff nD τ sig (Elt F) Λ₀ .tc) α} {Q : α → sProp (MM F)}
    (hw : w = if kk < n then 1#1 else 0#1) (h13 : o13 = ![kk % 8]) (h11 : o11 = ![kk % 8, 0, 0, 0]) (h3 : o3 = ![0, kk * 256, 0])
    (ha : a = min kk n) (ha' : a' = min (kk + 1) n) (hb : b ≤ kk) (hb' : kk < b + 8) (hn : n ≤ 548)
    (h : St K P a' b cc d e1 e2 ⊢ Wp K.c k Q) {hs : ∀ _ : w = 1#1, _} {hd : ∀ _ : w = 1#1, _} {ht : ∀ _ : w = 1#1, _} :
    St K P a b cc d e1 e2 ⊢ Wp K.c (dite (w = 1#1) (fun hw => Prog.lift (.enqueueDma (K.A3.slice (Rect.unit (s := S2x140288x256) o3 S2x256x256.size (i3 hw)) (fun _ => rfl))
      (.here ((K.A11.slice (Rect.unit (s := S8x2x256x256) o11 S1x2x256x256.size (i11 hw)) (fun _ => rfl)).squeeze S2x256x256 squeezes_S1x2x256x256_S2x256x256))
      (.dma ((K.S13.slice (Rect.unit (s := S8) o13 S1.size (i13 hw))).squeeze S_ squeezes_S1_S_).sem) (hs hw) (hd hw) (ht hw)) >>= fun _ => k) (fun _ => k)) Q := by
  refine sIf hw (fun hp hh => ?_) (fun hp _ => ?_)
  · exact sIssueIn h13 h11 h3 (by omega) (a' := a') (by omega) hb hb' (by omega) h
  · have : a = a' := by omega
    rw [this]; exact h

/-- The result of the block eight before block `kk` is awaited if there is one. -/
theorem sCLandOut {w : BitVec 1} {o14 : Fin 1 → ℕ} {o12 : Fin 4 → ℕ} {o8 : Fin 3 → ℕ}
    {i14 : w = 1#1 → ∀ x, o14 x + S1.size x ≤ S8.size x} {i12 : w = 1#1 → ∀ x, o12 x + S1x2x256x256.size x ≤ S8x2x256x256.size x}
    {i8 : w = 1#1 → ∀ x, o8 x + S2x256x256.size x ≤ S2x140288x256.size x}
    {k : Prog (TpuEff nD τ sig (Elt F) Λ₀ .tc) α} {Q : α → sProp (MM F)}
    (hw : w = if 8 ≤ kk then 1#1 else 0#1) (h14 : 8 ≤ kk → o14 = ![kk % 8]) (h12 : 8 ≤ kk → o12 = ![kk % 8, 0, 0, 0]) (h8 : 8 ≤ kk → o8 = ![0, (kk - 8) * 256, 0])
    (hc : cc = kk - 8) (hc' : cc' = kk + 1 - 8) (hlt : 8 ≤ kk → kk - 8 < d) (hd' : d ≤ kk) (h1 : e1 ≤ kk) (h2 : e2 ≤ kk) (hn : kk - 8 < 548)
    (h : St K P a b cc' d e1 e2 ⊢ Wp K.c k Q) {hs : ∀ _ : w = 1#1, _} {hd : ∀ _ : w = 1#1, _} :
    St K P a b cc d e1 e2 ⊢ Wp K.c (dite (w = 1#1) (fun hw => Prog.lift (.waitDma2 ((K.S14.slice (Rect.unit (s := S8) o14 S1.size (i14 hw))).squeeze S_ squeezes_S1_S_).sem
      ((K.A12.slice (Rect.unit (s := S8x2x256x256) o12 S1x2x256x256.size (i12 hw)) (fun _ => rfl)).squeeze S2x256x256 squeezes_S1x2x256x256_S2x256x256)
      (K.A8.slice (Rect.unit (s := S2x140288x256) o8 S2x256x256.size (i8 hw)) (fun _ => rfl)) (hs hw) (hd hw)) >>= fun _ => k) (fun _ => k)) Q := by
  refine sIf hw (fun hp hh => ?_) (fun hp _ => ?_)
  · exact sLandOut (h14 hp) (h12 hp) (h8 hp) hp hc (cc' := cc') hc' (hlt hp) hd' h1 h2 hn h
  · have : cc = cc' := by omega
    rw [this]; exact h

/-- A half of block `kk` is loaded. -/
theorem sLoadIn (z : Fin 2) {o : Fin 4 → ℕ} {i : ∀ x, o x + S1x1x256x256.size x ≤ S8x2x256x256.size x}
    {k : Vec F S1x1x256x256 .i32 → Prog (TpuEff nD τ sig (Elt F) Λ₀ .tc) α} {Q : α → sProp (MM F)}
    (ho : o = ![kk % 8, z.val, 0, 0]) (hb : kk < b) (ha : kk < a) (ha' : a ≤ kk + 8)
    (h : St K P a b cc d e1 e2 ⊢ Wp K.c (k (half z (K.X kk))) Q) {hl} :
    St K P a b cc d e1 e2 ⊢ Wp K.c (Prog.lift (.load K.A11 (Rect.unit (s := S8x2x256x256) o S1x1x256x256.size i).toLoadRect hl) >>= k) Q := by
  subst ho
  unfold St InR at h ⊢
  iintro ⟨⟨Hring, Hrows⟩, HR⟩
  ihave Hring := (bigSep_upd (Φ := inSlot K b) (Φ' := inSlot K b) (k := kk + 8)
    (A := iprop(sem0 K.c K.S13 (sl kk) ∗ slotAt K.c K.A11 (sl kk) (fun v => 8 ≤ kk + 8 → v = K.X kk)))
    (B := iprop(sem0 K.c K.S13 (sl kk) ∗ slotAt K.c K.A11 (sl kk) (fun v => 8 ≤ kk + 8 → v = K.X kk)))
    (by simp; omega) (by rw [inSlot, if_pos (by omega), sl_add8, Nat.add_sub_cancel])
    (by rw [inSlot, if_pos (by omega), sl_add8, Nat.add_sub_cancel]) (fun _ _ _ => rfl)) $$ Hring
  icases Hring with ⟨⟨Hsem, Hs⟩, Hring⟩
  ihave Hs := (slotAt_mono (q := fun v => v = K.X kk) (fun v hv => hv (by omega))) $$ Hs
  iapply (load_half (A := K.A11) (c := K.c) (s := sl kk) (z := z) (v := K.X kk)) $$ Hs
  iintro Hs
  ihave Hs := (slotAt_mono (q := fun v => 8 ≤ kk + 8 → v = K.X kk) (fun v hv _ => hv)) $$ Hs
  iapply h
  isplitl [Hsem Hs Hring Hrows]
  · isplitl [Hsem Hs Hring]
    · iapply Hring
      isplitl [Hsem]; · iexact Hsem
      iexact Hs
    iexact Hrows
  iexact HR

/-- A half of the slot of block `kk`'s result is loaded, whatever it holds. -/
theorem sLoadAny (z : Fin 2) {o : Fin 4 → ℕ} {i : ∀ x, o x + S1x1x256x256.size x ≤ S8x2x256x256.size x}
    {k : Vec F S1x1x256x256 .i32 → Prog (TpuEff nD τ sig (Elt F) Λ₀ .tc) α} {Q : α → sProp (MM F)}
    (ho : o = ![kk % 8, z.val, 0, 0]) (hc : cc ≤ kk) (hc' : kk < cc + 8) (hd : d ≤ kk)
    (h : ∀ w, St K P a b cc d e1 e2 ⊢ Wp K.c (k w) Q) {hl} :
    St K P a b cc d e1 e2 ⊢ Wp K.c (Prog.lift (.load K.A12 (Rect.unit (s := S8x2x256x256) o S1x1x256x256.size i).toLoadRect hl) >>= k) Q := by
  subst ho
  unfold St OutR at h ⊢
  iintro ⟨HI, ⟨Hring, Hrows⟩, HR⟩
  ihave Hring := (bigSep_upd (Φ := outSlot K d e1 e2) (Φ' := outSlot K d e1 e2) (k := kk)
    (A := outIdle K (sl kk) (kk < e1) (kk < e2) kk) (B := outIdle K (sl kk) (kk < e1) (kk < e2) kk)
    (by simp; omega) (if_neg (by omega)) (if_neg (by omega)) (fun _ _ _ => rfl)) $$ Hring
  icases Hring with ⟨⟨Hsem, Hs⟩, Hring⟩
  iapply (load_any (A := K.A12) (c := K.c) (s := sl kk) (z := z)) $$ Hs
  iintro %w Hs
  iapply (h w)
  isplitl [HI]; · iexact HI
  isplitl [Hsem Hs Hring Hrows]
  · isplitl [Hsem Hs Hring]
    · iapply Hring
      isplitl [Hsem]; · iexact Hsem
      iexact Hs
    iexact Hrows
  iexact HR

theorem half_apply {z : Fin 2} {v v' : Blk F} (h : half z v = half z v') (x y : Fin 256) : v (ix3 z x y) = v' (ix3 z x y) :=
  congrFun h (ix4 (0 : Fin 1) (0 : Fin 1) x y)

/-- The low halves of block `kk`'s result are stored. -/
theorem sStoreLo {o : Fin 4 → ℕ} {i : ∀ x, o x + S1x1x256x256.size x ≤ S8x2x256x256.size x} {w : Vec F S1x1x256x256 .i32}
    {k : Prog (TpuEff nD τ sig (Elt F) Λ₀ .tc) α} {Q : α → sProp (MM F)}
    (ho : o = ![kk % 8, 0, 0, 0]) (hw : half 0 (K.Y kk) = w) (he : e1 = kk) (he' : e1' = kk + 1) (h2 : e2 ≤ kk) (hc : cc ≤ kk) (hc' : kk < cc + 8) (hd : d ≤ kk)
    (h : St K P a b cc d e1' e2 ⊢ Wp K.c k Q) {hx hm} :
    St K P a b cc d e1 e2 ⊢ Wp K.c (Prog.lift (.store K.A12 (Rect.unit (s := S8x2x256x256) o S1x1x256x256.size i) w Finset.univ hx hm) >>= fun _ => k) Q := by
  subst ho he he'
  unfold St OutR at h ⊢
  iintro ⟨HI, ⟨Hring, Hrows⟩, HR⟩
  ihave Hring := (bigSep_upd (Φ := outSlot K d e1 e2) (Φ' := outSlot K d (e1 + 1) e2) (k := e1)
    (A := outIdle K (sl e1) (e1 < e1) (e1 < e2) e1) (B := outIdle K (sl e1) (e1 < e1 + 1) (e1 < e2) e1)
    (by simp; omega) (if_neg (by omega)) (if_neg (by omega))
    (fun j _ hj => by unfold outSlot; rw [show (j < e1 + 1) = (j < e1) from propext (by omega)])) $$ Hring
  icases Hring with ⟨⟨Hsem, Hs⟩, Hring⟩
  iapply (store_half (A := K.A12) (c := K.c) (s := sl e1) (z := 0) (p' := Half (K.Y e1) (e1 < e1 + 1) (e1 < e2))
    (fun v v' hv hv' hz => ⟨fun _ => half_apply (hv'.trans hw.symm), fun hq => absurd hq (by omega)⟩)) $$ Hs
  iintro Hs
  iapply h
  isplitl [HI]; · iexact HI
  isplitl [Hsem Hs Hring Hrows]
  · isplitl [Hsem Hs Hring]
    · iapply Hring
      isplitl [Hsem]; · iexact Hsem
      iexact Hs
    iexact Hrows
  iexact HR

/-- The high halves of block `kk`'s result are stored, the low ones being in place. -/
theorem sStoreHi {o : Fin 4 → ℕ} {i : ∀ x, o x + S1x1x256x256.size x ≤ S8x2x256x256.size x} {w : Vec F S1x1x256x256 .i32}
    {k : Prog (TpuEff nD τ sig (Elt F) Λ₀ .tc) α} {Q : α → sProp (MM F)}
    (ho : o = ![kk % 8, 1, 0, 0]) (hw : half 1 (K.Y kk) = w) (he : e2 = kk) (he' : e2' = kk + 1) (h2 : kk < e1) (hc : cc ≤ kk) (hc' : kk < cc + 8) (hd : d ≤ kk)
    (h : St K P a b cc d e1 e2' ⊢ Wp K.c k Q) {hx hm} :
    St K P a b cc d e1 e2 ⊢ Wp K.c (Prog.lift (.store K.A12 (Rect.unit (s := S8x2x256x256) o S1x1x256x256.size i) w Finset.univ hx hm) >>= fun _ => k) Q := by
  subst ho he he'
  unfold St OutR at h ⊢
  iintro ⟨HI, ⟨Hring, Hrows⟩, HR⟩
  ihave Hring := (bigSep_upd (Φ := outSlot K d e1 e2) (Φ' := outSlot K d e1 (e2 + 1)) (k := e2)
    (A := outIdle K (sl e2) (e2 < e1) (e2 < e2) e2) (B := outIdle K (sl e2) (e2 < e1) (e2 < e2 + 1) e2)
    (by simp; omega) (if_neg (by omega)) (if_neg (by omega))
    (fun j _ hj => by unfold outSlot; rw [show (j < e2 + 1) = (j < e2) from propext (by omega)])) $$ Hring
  icases Hring with ⟨⟨Hsem, Hs⟩, Hring⟩
  iapply (store_half (A := K.A12) (c := K.c) (s := sl e2) (z := 1) (p' := Half (K.Y e2) (e2 < e1) (e2 < e2 + 1))
    (fun v v' hv hv' hz => ⟨fun hp x y => (half_apply (hz 0 (by decide)) x y).trans (hv.1 hp x y), fun _ => half_apply (hv'.trans hw.symm)⟩)) $$ Hs
  iintro Hs
  iapply h
  isplitl [HI]; · iexact HI
  isplitl [Hsem Hs Hring Hrows]
  · isplitl [Hsem Hs Hring]
    · iapply Hring
      isplitl [Hsem]; · iexact Hsem
      iexact Hs
    iexact Hrows
  iexact HR

/-- A word of a table in scalar memory is loaded. -/
theorem sSmem {J : sProp (MM F)} {c : Dev nD} {sh : Shape} {m : Memref sig .tc .smem sh .i32} {r : Rect sh} {h1 : r.shape.numel = 1} {hp : EltTy.i32.packing = 1}
    {q : PosShare TreeShare} {f : Buf (Elt F) (m.view.loc (c : Thread nD τ))} {w : BitVec 32}
    (hw : (m.access r).read (Elt F) f (Shape.Idx.first (h1.symm ▸ Nat.one_pos)) = w)
    {k : BitVec 32 → Prog (TpuEff nD τ sig (Elt F) Λ₀ .tc) α} {Q : α → sProp (MM F)}
    (h : iprop((m.view.loc (c : Thread nD τ) ↦[Finset.univ]{q} f) ∗ J) ⊢ Wp c (k w) Q) :
    iprop((m.view.loc (c : Thread nD τ) ↦[Finset.univ]{q} f) ∗ J) ⊢ Wp c (smemLoad (p := .tc) m r h1 hp >>= k) Q := by
  subst hw
  change _ ⊢ Wp c (smemLoadElt (p := .tc) m r (View.loads_smem_one hp h1) (Shape.Idx.first (h1.symm ▸ Nat.one_pos)) k) Q
  unfold Wp
  iintro ⟨HT, HJ⟩
  iapply (wp_smemLoadElt Variants.none (c : Thread nD τ) none Set.univ (m := m) (r := r) (hw := View.loads_smem_one hp h1)
    (x := Shape.Idx.first (h1.symm ▸ Nat.one_pos)) (k := k) (Finset.subset_univ _)) $$ HT
  iintro HT
  iapply h
  isplitl [HT]; · iexact HT
  iexact HJ

/-- A condition the program carries holds. -/
theorem sAssume {J : sProp (MM F)} {c : Dev nD} {p : Prop} {d : Decidable p} (hp : p)
    {k : PLift p → Prog (TpuEff nD τ sig (Elt F) Λ₀ .tc) α} {Q : α → sProp (MM F)}
    (h : J ⊢ Wp c (k ⟨hp⟩) Q) :
    J ⊢ Wp c (Prog.lift (TpuEff.assume p d) >>= k) Q := by
  refine h.trans ?_
  iintro H
  iapply (wp_assume Variants.none (c : Thread nD τ) none Set.univ hp)
  iexact H

/-- What a stretch of program does not touch is kept beside it. -/
theorem sKeep {R J : sProp (MM F)} {c : Dev nD} {p : Prog (TpuEff nD τ sig (Elt F) Λ₀ .tc) α} {Q : α → sProp (MM F)}
    (h : J ⊢ Wp c p (fun v => iprop(R -∗ Q v))) : iprop(R ∗ J) ⊢ Wp c p Q := by
  iintro ⟨HR, HJ⟩
  ihave HW := h $$ HJ
  iapply (wp_wand_r _ _ _)
  isplitl [HW]; · iexact HW
  iintro %v Hv
  iapply Hv
  iexact HR

/-! ## The expert's weights -/

/-- The weights of one expert as staged, and the two buffers that take them rounded. -/
structure Wts (F : FTy → Type) [BitOps F] where
  A4 : Memref sig .tc .vmem S1x1024x2048 .f32
  A5 : Memref sig .tc .vmem S1x1x2048 .f32
  A6 : Memref sig .tc .vmem S1x1024x1024 .f32
  A7 : Memref sig .tc .vmem S1x1x1024 .f32
  A9 : Memref sig .tc .vmem S1024x2048 .bf16
  A10 : Memref sig .tc .vmem S1024x1024 .bf16
  w4 : Vec F S1x1024x2048 .f32
  w5 : Vec F S1x1x2048 .f32
  w6 : Vec F S1x1024x1024 .f32
  w7 : Vec F S1x1x1024 .f32

/-- The weights held; the rounded copies are in place if `p`, `q`. -/
def WtP (W : Wts F) (c : Dev nD) (p q : Prop) : sProp (MM F) :=
  iprop(owns (c : Thread nD τ) W.A4 fullShare W.w4 ∗ owns (c : Thread nD τ) W.A5 fullShare W.w5
    ∗ owns (c : Thread nD τ) W.A6 fullShare W.w6 ∗ owns (c : Thread nD τ) W.A7 fullShare W.w7
    ∗ (∃ u, ⌜p → u = k0_pay1 W.w4⌝ ∗ owns (c : Thread nD τ) W.A9 fullShare u)
    ∗ (∃ u, ⌜q → u = k0_pay2 W.w6⌝ ∗ owns (c : Thread nD τ) W.A10 fullShare u))

theorem load_owns {sh : Shape} {e : EltTy} {m : Memref sig .tc .vmem sh e} {X : sh.Idx → Elt F e} {c : Dev nD}
    {o : Fin sh.rank → ℕ} {i : ∀ x, o x + sh.size x ≤ sh.size x} {k : (sh.Idx → Elt F e) → Prog (TpuEff nD τ sig (Elt F) Λ₀ .tc) α} {Q : α → sProp (MM F)} {hl} :
    owns (c : Thread nD τ) m fullShare X ⊢ iprop((owns (c : Thread nD τ) m fullShare X -∗ Wp c (k X) Q)
      -∗ Wp c (.op (.load m (Rect.unit (s := sh) o sh.size i).toLoadRect hl) k) Q) := by
  unfold owns
  iintro ⟨%f, %hf, H⟩ Hk
  subst hf
  iapply (wp_load Variants.none (c : Thread nD τ) none Set.univ (m := m) (m.view.setOn_subset_set _)) $$ H
  iintro H
  iapply (show iprop(Wp c (k (m.view.read (Elt F) f)) Q) ⊢ Wp c (k (m.view.readAt (Elt F) (Rect.unit (s := sh) o sh.size i).toLoadRect f)) Q by rw [View.readAt_full])
  iapply Hk
  iexists f
  isplitr
  · ipureintro; rfl
  iexact H

theorem store_owns {sh : Shape} {e : EltTy} {m : Memref sig .tc .vmem sh e} {X w : sh.Idx → Elt F e} {c : Dev nD}
    {o : Fin sh.rank → ℕ} {i : ∀ x, o x + sh.size x ≤ sh.size x} {k : PUnit → Prog (TpuEff nD τ sig (Elt F) Λ₀ .tc) α} {Q : α → sProp (MM F)} {hx hm} :
    owns (c : Thread nD τ) m fullShare X ⊢ iprop((owns (c : Thread nD τ) m fullShare w -∗ Wp c (k ⟨⟩) Q)
      -∗ Wp c (.op (.store m (Rect.unit (s := sh) o sh.size i) w Finset.univ hx hm) k) Q) := by
  unfold owns
  iintro ⟨%f, -, H⟩ Hk
  iapply (wp_store_writes₀ Variants.none (c : Thread nD τ) none Set.univ (m := m) (r := Rect.unit (s := sh) o sh.size i) (w := w) (m.view.set_slice_subset _)) $$ H
  iintro H
  iapply Hk
  iexists _
  isplitr
  swap
  · iexact H
  ipureintro
  exact View.read_writes_full _ _ _ _ _

/-- A whole memref is loaded. -/
theorem sLoadP {sh : Shape} {e : EltTy} {m : Memref sig .tc .vmem sh e} {X : sh.Idx → Elt F e}
    (hP : P ⊢ iprop(owns (K.c : Thread nD τ) m fullShare X ∗ (owns (K.c : Thread nD τ) m fullShare X -∗ P)))
    {o : Fin sh.rank → ℕ} {i : ∀ x, o x + sh.size x ≤ sh.size x} {k : (sh.Idx → Elt F e) → Prog (TpuEff nD τ sig (Elt F) Λ₀ .tc) α} {Q : α → sProp (MM F)}
    (h : St K P a b cc d e1 e2 ⊢ Wp K.c (k X) Q) {hl} :
    St K P a b cc d e1 e2 ⊢ Wp K.c (Prog.lift (.load m (Rect.unit (s := sh) o sh.size i).toLoadRect hl) >>= k) Q := by
  unfold St at h ⊢
  iintro ⟨HI, HO, Ho, HP⟩
  ihave HP := hP $$ HP
  icases HP with ⟨Hm, HP⟩
  iapply (load_owns (c := K.c) (m := m) (X := X)) $$ Hm
  iintro Hm
  iapply h
  isplitl [HI]; · iexact HI
  isplitl [HO]; · iexact HO
  isplitl [Ho]; · iexact Ho
  iapply HP; iexact Hm

/-- A whole memref is loaded, whatever it holds. -/
theorem sLoadAnyP {sh : Shape} {e : EltTy} {m : Memref sig .tc .vmem sh e}
    (hP : P ⊢ iprop(∃ X, owns (K.c : Thread nD τ) m fullShare X ∗ (owns (K.c : Thread nD τ) m fullShare X -∗ P)))
    {o : Fin sh.rank → ℕ} {i : ∀ x, o x + sh.size x ≤ sh.size x} {k : (sh.Idx → Elt F e) → Prog (TpuEff nD τ sig (Elt F) Λ₀ .tc) α} {Q : α → sProp (MM F)}
    (h : ∀ X, St K P a b cc d e1 e2 ⊢ Wp K.c (k X) Q) {hl} :
    St K P a b cc d e1 e2 ⊢ Wp K.c (Prog.lift (.load m (Rect.unit (s := sh) o sh.size i).toLoadRect hl) >>= k) Q := by
  unfold St at h ⊢
  iintro ⟨HI, HO, Ho, HP⟩
  ihave HP := hP $$ HP
  icases HP with ⟨%X, Hm, HP⟩
  iapply (load_owns (c := K.c) (m := m) (X := X)) $$ Hm
  iintro Hm
  iapply (h X)
  isplitl [HI]; · iexact HI
  isplitl [HO]; · iexact HO
  isplitl [Ho]; · iexact Ho
  iapply HP; iexact Hm

/-- A whole memref is stored. -/
theorem sStoreP {sh : Shape} {e : EltTy} {m : Memref sig .tc .vmem sh e} {w : sh.Idx → Elt F e}
    (hP : P ⊢ iprop(∃ X, owns (K.c : Thread nD τ) m fullShare X ∗ (owns (K.c : Thread nD τ) m fullShare w -∗ P')))
    {o : Fin sh.rank → ℕ} {i : ∀ x, o x + sh.size x ≤ sh.size x} {k : Prog (TpuEff nD τ sig (Elt F) Λ₀ .tc) α} {Q : α → sProp (MM F)}
    (h : St K P' a b cc d e1 e2 ⊢ Wp K.c k Q) {hx hm} :
    St K P a b cc d e1 e2 ⊢ Wp K.c (Prog.lift (.store m (Rect.unit (s := sh) o sh.size i) w Finset.univ hx hm) >>= fun _ => k) Q := by
  unfold St at h ⊢
  iintro ⟨HI, HO, Ho, HP⟩
  ihave HP := hP $$ HP
  icases HP with ⟨%X, Hm, HP⟩
  iapply (store_owns (c := K.c) (m := m) (X := X) (w := w)) $$ Hm
  iintro Hm
  iapply h
  isplitl [HI]; · iexact HI
  isplitl [HO]; · iexact HO
  isplitl [Ho]; · iexact Ho
  iapply HP; iexact Hm

section Weights

variable {W : Wts F} {c : Dev nD} {p q : Prop}

theorem get4 : WtP W c p q ⊢ iprop(owns (c : Thread nD τ) W.A4 fullShare W.w4 ∗ (owns (c : Thread nD τ) W.A4 fullShare W.w4 -∗ WtP W c p q)) := by
  unfold WtP
  iintro ⟨H4, HR⟩
  isplitl [H4]; · iexact H4
  iintro H4
  isplitl [H4]; · iexact H4
  iexact HR

theorem get5 : WtP W c p q ⊢ iprop(owns (c : Thread nD τ) W.A5 fullShare W.w5 ∗ (owns (c : Thread nD τ) W.A5 fullShare W.w5 -∗ WtP W c p q)) := by
  unfold WtP
  iintro ⟨H4, H5, HR⟩
  isplitl [H5]; · iexact H5
  iintro H5
  isplitl [H4]; · iexact H4
  isplitl [H5]; · iexact H5
  iexact HR

theorem get6 : WtP W c p q ⊢ iprop(owns (c : Thread nD τ) W.A6 fullShare W.w6 ∗ (owns (c : Thread nD τ) W.A6 fullShare W.w6 -∗ WtP W c p q)) := by
  unfold WtP
  iintro ⟨H4, H5, H6, HR⟩
  isplitl [H6]; · iexact H6
  iintro H6
  isplitl [H4]; · iexact H4
  isplitl [H5]; · iexact H5
  isplitl [H6]; · iexact H6
  iexact HR

theorem get7 : WtP W c p q ⊢ iprop(owns (c : Thread nD τ) W.A7 fullShare W.w7 ∗ (owns (c : Thread nD τ) W.A7 fullShare W.w7 -∗ WtP W c p q)) := by
  unfold WtP
  iintro ⟨H4, H5, H6, H7, HR⟩
  isplitl [H7]; · iexact H7
  iintro H7
  isplitl [H4]; · iexact H4
  isplitl [H5]; · iexact H5
  isplitl [H6]; · iexact H6
  isplitl [H7]; · iexact H7
  iexact HR

theorem any9 : WtP W c p q ⊢ iprop(∃ X, owns (c : Thread nD τ) W.A9 fullShare X ∗ (owns (c : Thread nD τ) W.A9 fullShare X -∗ WtP W c p q)) := by
  unfold WtP
  iintro ⟨H4, H5, H6, H7, ⟨%u, %hu, H9⟩, HR⟩
  iexists u
  isplitl [H9]; · iexact H9
  iintro H9
  isplitl [H4]; · iexact H4
  isplitl [H5]; · iexact H5
  isplitl [H6]; · iexact H6
  isplitl [H7]; · iexact H7
  isplitl [H9]
  · iexists u
    isplitr
    · ipureintro; exact hu
    iexact H9
  iexact HR

theorem any10 : WtP W c p q ⊢ iprop(∃ X, owns (c : Thread nD τ) W.A10 fullShare X ∗ (owns (c : Thread nD τ) W.A10 fullShare X -∗ WtP W c p q)) := by
  unfold WtP
  iintro ⟨H4, H5, H6, H7, H9, %u, %hu, H10⟩
  iexists u
  isplitl [H10]; · iexact H10
  iintro H10
  isplitl [H4]; · iexact H4
  isplitl [H5]; · iexact H5
  isplitl [H6]; · iexact H6
  isplitl [H7]; · iexact H7
  isplitl [H9]; · iexact H9
  iexists u
  isplitr
  · ipureintro; exact hu
  iexact H10

theorem get9 : WtP W c True q ⊢ iprop(owns (c : Thread nD τ) W.A9 fullShare (k0_pay1 W.w4) ∗ (owns (c : Thread nD τ) W.A9 fullShare (k0_pay1 W.w4) -∗ WtP W c True q)) := by
  unfold WtP
  iintro ⟨H4, H5, H6, H7, ⟨%u, %hu, H9⟩, HR⟩
  have hu := hu trivial
  subst hu
  isplitl [H9]; · iexact H9
  iintro H9
  isplitl [H4]; · iexact H4
  isplitl [H5]; · iexact H5
  isplitl [H6]; · iexact H6
  isplitl [H7]; · iexact H7
  isplitl [H9]
  · iexists _
    isplitr
    swap
    · iexact H9
    ipureintro; exact fun _ => rfl
  iexact HR

theorem get10 : WtP W c p True ⊢ iprop(owns (c : Thread nD τ) W.A10 fullShare (k0_pay2 W.w6) ∗ (owns (c : Thread nD τ) W.A10 fullShare (k0_pay2 W.w6) -∗ WtP W c p True)) := by
  unfold WtP
  iintro ⟨H4, H5, H6, H7, H9, %u, %hu, H10⟩
  have hu := hu trivial
  subst hu
  isplitl [H10]; · iexact H10
  iintro H10
  isplitl [H4]; · iexact H4
  isplitl [H5]; · iexact H5
  isplitl [H6]; · iexact H6
  isplitl [H7]; · iexact H7
  isplitl [H9]; · iexact H9
  iexists _
  isplitr
  swap
  · iexact H10
  ipureintro; exact fun _ => rfl

theorem put9 {w : Vec F S1024x2048 .bf16} (hw : w = k0_pay1 W.w4) :
    WtP W c p q ⊢ iprop(∃ X, owns (c : Thread nD τ) W.A9 fullShare X ∗ (owns (c : Thread nD τ) W.A9 fullShare w -∗ WtP W c True q)) := by
  subst hw
  unfold WtP
  iintro ⟨H4, H5, H6, H7, ⟨%u, %hu, H9⟩, HR⟩
  iexists u
  isplitl [H9]; · iexact H9
  iintro H9
  isplitl [H4]; · iexact H4
  isplitl [H5]; · iexact H5
  isplitl [H6]; · iexact H6
  isplitl [H7]; · iexact H7
  isplitl [H9]
  · iexists _
    isplitr
    swap
    · iexact H9
    ipureintro; exact fun _ => rfl
  iexact HR

theorem put10 {w : Vec F S1024x1024 .bf16} (hw : w = k0_pay2 W.w6) :
    WtP W c p q ⊢ iprop(∃ X, owns (c : Thread nD τ) W.A10 fullShare X ∗ (owns (c : Thread nD τ) W.A10 fullShare w -∗ WtP W c p True)) := by
  subst hw
  unfold WtP
  iintro ⟨H4, H5, H6, H7, H9, %u, %hu, H10⟩
  iexists u
  isplitl [H10]; · iexact H10
  iintro H10
  isplitl [H4]; · iexact H4
  isplitl [H5]; · iexact H5
  isplitl [H6]; · iexact H6
  isplitl [H7]; · iexact H7
  isplitl [H9]; · iexact H9
  iexists _
  isplitr
  swap
  · iexact H10
  ipureintro; exact fun _ => rfl

end Weights

end Cert.Kernel.Hand

end
-- ==== Proof.PartsA.lean ====
/-
  Hand-written, untrusted. Stretches of the kernel: an expert's first four row blocks.
-/
module

public import proofs.«01_k».proof.Proof.Steps

@[expose] public section

set_option maxRecDepth 20000

noncomputable section

namespace Cert.Kernel.Hand

open Cert.Kernel Cert.Kernel.Gen
open Idealize.ShloMosaic Idealize.ShloMosaic.TcCoe Idealize.ShloMosaic.Tactic Idealize.ShloMosaic.ValueIdx
open Idealize.SL Idealize.SL.RA Idealize.SL.BI Idealize.SL.ExclCount
open scoped Idealize.SL.BI
open Idealize.SL.BI.BIBase Idealize.SL.BI.Laws Idealize.SL.ProofMode Idealize.SL.Sem

variable {F : FTy → Type} [BitOps F]

variable {K : Rings F} {W : Wts F} {i : grid0.Coords} {arg1 : Memref sig .tc .smem S33 .i32} {harg1 : arg1.IsWhole} {arg2 : Memref sig .tc .smem S1 .i32}
  {harg2 : arg2.IsWhole} {h3 : K.A3.IsWhole} {h4 : W.A4.IsWhole} {h5 : W.A5.IsWhole} {h6 : W.A6.IsWhole} {h7 : W.A7.IsWhole} {h8 : K.A8.IsWhole}
  {h9 : W.A9.IsWhole} {h10 : W.A10.IsWhole} {h11 : K.A11.IsWhole} {h12 : K.A12.IsWhole} {v0 v2 v5 : BitVec 32} {n G : ℕ} {k0_hw1 : k0_chk1 v0 v2 v5}
  {k0_h7 : k0_cond7 v2 v5 = 1#1} (hG : (baseF v2).toNat = G) (hg : G + 4 ≤ n) (hn : n ≤ 548) (hv : v0.toNat = n)

include hG hg hn hv

set_option maxHeartbeats 1000000 in
theorem part1  {Q}
    (hq : St K (WtP W K.c False False) (min (G + 4) n) (G + 1) (G + 0 - 8) (G + 0) (G + 0) (G + 0) ⊢ Q ⟨⟩) :
    St K (WtP W K.c False False) (min (G + 4) n) (G + 0) (G + 0 - 8) (G + 0) (G + 0) (G + 0) ⊢ Wp K.c (k0_part1 i arg1 harg1 arg2 harg2 K.A3 h3 W.A4 h4 W.A5 h5 W.A6 h6 W.A7 h7 K.A8 h8 W.A9 h9 W.A10 h10 K.A11 h11 K.A12 h12 K.S13 K.S14 v0 v2 v5 k0_hw1 k0_h7) Q := by
  rw [k0_part1_eq_skeleton]
  unfold k0_part1_skel
  have o1_0 := off3_eq v2 0#32 (j := 0) rfl (by decide) hG (by omega)
  have o2_0 := off4_eq v2 0#32 (j := 0) rfl (by decide) hG (by omega)
  have o3_0 := off5_eq v2 0#32 (j := 0) rfl (by decide) hG (by omega)
  refine sLandIn (kk := G + 0) (b' := G + 1) o1_0 o2_0 o3_0 (by omega) (by omega) (by omega) (by omega) (by omega) ?_
  exact sRet hq

set_option maxHeartbeats 1000000 in
theorem part2  {Q}
    (hq : St K (WtP W K.c False False) (min (G + 4) n) (G + 3) (G + 0 - 8) (G + 0) (G + 0) (G + 0) ⊢ Q ⟨⟩) :
    St K (WtP W K.c False False) (min (G + 4) n) (G + 1) (G + 0 - 8) (G + 0) (G + 0) (G + 0) ⊢ Wp K.c (k0_part2 i arg1 harg1 arg2 harg2 K.A3 h3 W.A4 h4 W.A5 h5 W.A6 h6 W.A7 h7 K.A8 h8 W.A9 h9 W.A10 h10 K.A11 h11 K.A12 h12 K.S13 K.S14 v0 v2 v5 k0_hw1 k0_h7) Q := by
  rw [k0_part2_eq_skeleton]
  unfold k0_part2_skel
  have o1_0 := off3_eq v2 1#32 (j := 1) rfl (by decide) hG (by omega)
  have o2_0 := off4_eq v2 1#32 (j := 1) rfl (by decide) hG (by omega)
  have o3_0 := off5_eq v2 1#32 (j := 1) rfl (by decide) hG (by omega)
  refine sLandIn (kk := G + 1) (b' := G + 2) o1_0 o2_0 o3_0 (by omega) (by omega) (by omega) (by omega) (by omega) ?_
  have o1_4 := off3_eq v2 2#32 (j := 2) rfl (by decide) hG (by omega)
  have o2_4 := off4_eq v2 2#32 (j := 2) rfl (by decide) hG (by omega)
  have o3_4 := off5_eq v2 2#32 (j := 2) rfl (by decide) hG (by omega)
  refine sLandIn (kk := G + 2) (b' := G + 3) o1_4 o2_4 o3_4 (by omega) (by omega) (by omega) (by omega) (by omega) ?_
  exact sRet hq

set_option maxHeartbeats 1000000 in
theorem part3  {Q}
    (hq : St K (WtP W K.c False False) (min (G + 8) n) (G + 4) (G + 2 - 8) (G + 0) (G + 0) (G + 0) ⊢ Q ⟨⟩) :
    St K (WtP W K.c False False) (min (G + 4) n) (G + 3) (G + 0 - 8) (G + 0) (G + 0) (G + 0) ⊢ Wp K.c (k0_part3 i arg1 harg1 arg2 harg2 K.A3 h3 W.A4 h4 W.A5 h5 W.A6 h6 W.A7 h7 K.A8 h8 W.A9 h9 W.A10 h10 K.A11 h11 K.A12 h12 K.S13 K.S14 v0 v2 v5 k0_hw1 k0_h7) Q := by
  rw [k0_part3_eq_skeleton]
  unfold k0_part3_skel
  have o1_0 := off3_eq v2 3#32 (j := 3) rfl (by decide) hG (by omega)
  have o2_0 := off4_eq v2 3#32 (j := 3) rfl (by decide) hG (by omega)
  have o3_0 := off5_eq v2 3#32 (j := 3) rfl (by decide) hG (by omega)
  refine sLandIn (kk := G + 3) (b' := G + 4) o1_0 o2_0 o3_0 (by omega) (by omega) (by omega) (by omega) (by omega) ?_
  have o1_4 := off6_eq v2 hG (by omega)
  have o2_4 := off7_eq v2 hG (by omega)
  have o3_4 := off8_eq v2 hG (by omega)
  have o4_4 := cond8_eq v0 v2 hG (by omega) hv (by omega)
  refine sCIssueIn (kk := G + 4 + 0) (n := n) (a' := min (G + 5) n) o4_4 o1_4 o2_4 o3_4 (by omega) (by omega) (by omega) (by omega) (by omega) ?_
  have o1_9 := off9_eq v2 hG (by omega)
  have o2_9 := off10_eq v2 hG (by omega)
  have o3_9 := off11_eq v2 hG (by omega)
  have o4_9 := cond9_eq v0 v2 hG (by omega) hv (by omega)
  refine sCIssueIn (kk := G + 4 + 1) (n := n) (a' := min (G + 6) n) o4_9 o1_9 o2_9 o3_9 (by omega) (by omega) (by omega) (by omega) (by omega) ?_
  have o1_14 := off12_eq v2 hG (by omega)
  have o2_14 := off13_eq v2 hG (by omega)
  have o3_14 := off14_eq v2 hG (by omega)
  have o4_14 := cond10_eq v0 v2 hG (by omega) hv (by omega)
  refine sCIssueIn (kk := G + 4 + 2) (n := n) (a' := min (G + 7) n) o4_14 o1_14 o2_14 o3_14 (by omega) (by omega) (by omega) (by omega) (by omega) ?_
  have o1_19 := off15_eq v2 hG (by omega)
  have o2_19 := off16_eq v2 hG (by omega)
  have o3_19 := off17_eq v2 hG (by omega)
  have o4_19 := cond11_eq v0 v2 hG (by omega) hv (by omega)
  refine sCIssueIn (kk := G + 4 + 3) (n := n) (a' := min (G + 8) n) o4_19 o1_19 o2_19 o3_19 (by omega) (by omega) (by omega) (by omega) (by omega) ?_
  have o1_24 := off18_eq v2 hG (by omega)
  have o2_24 := off20_eq v2 hG (by omega)
  have o3_24 : 8 ≤ G + 0 → _ := fun h8 => off19_eq v2 hG (by omega) h8
  have o4_24 := cond12_eq v2 hG (by omega)
  refine sCLandOut (kk := G + 0) (cc' := G + 1 - 8) o4_24 (fun _ => o1_24) (fun _ => o2_24) o3_24 (by omega) (by omega) (by omega) (by omega) (by omega) (by omega) (by omega) ?_
  have o1_29 := off21_eq v2 hG (by omega)
  have o2_29 := off23_eq v2 hG (by omega)
  have o3_29 : 8 ≤ G + 1 → _ := fun h8 => off22_eq v2 hG (by omega) h8
  have o4_29 := cond13_eq v2 hG (by omega)
  refine sCLandOut (kk := G + 1) (cc' := G + 2 - 8) o4_29 (fun _ => o1_29) (fun _ => o2_29) o3_29 (by omega) (by omega) (by omega) (by omega) (by omega) (by omega) (by omega) ?_
  exact sRet hq

set_option maxHeartbeats 1000000 in
theorem part4  {Q}
    (hq : St K (WtP W K.c True True) (min (G + 8) n) (G + 4) (G + 4 - 8) (G + 0) (G + 0) (G + 0) ⊢ Q (Scalar.addi v2 0#32)) :
    St K (WtP W K.c False False) (min (G + 8) n) (G + 4) (G + 2 - 8) (G + 0) (G + 0) (G + 0) ⊢ Wp K.c (k0_part4 i arg1 harg1 arg2 harg2 K.A3 h3 W.A4 h4 W.A5 h5 W.A6 h6 W.A7 h7 K.A8 h8 W.A9 h9 W.A10 h10 K.A11 h11 K.A12 h12 K.S13 K.S14 v0 v2 v5 k0_hw1 k0_h7) Q := by
  rw [k0_part4_eq_skeleton]
  unfold k0_part4_skel
  have o1_0 := off24_eq v2 hG (by omega)
  have o2_0 := off26_eq v2 hG (by omega)
  have o3_0 : 8 ≤ G + 2 → _ := fun h8 => off25_eq v2 hG (by omega) h8
  have o4_0 := cond14_eq v2 hG (by omega)
  refine sCLandOut (kk := G + 2) (cc' := G + 3 - 8) o4_0 (fun _ => o1_0) (fun _ => o2_0) o3_0 (by omega) (by omega) (by omega) (by omega) (by omega) (by omega) (by omega) ?_
  have o1_5 := off27_eq v2 hG (by omega)
  have o2_5 := off29_eq v2 hG (by omega)
  have o3_5 : 8 ≤ G + 3 → _ := fun h8 => off28_eq v2 hG (by omega) h8
  have o4_5 := cond15_eq v2 hG (by omega)
  refine sCLandOut (kk := G + 3) (cc' := G + 4 - 8) o4_5 (fun _ => o1_5) (fun _ => o2_5) o3_5 (by omega) (by omega) (by omega) (by omega) (by omega) (by omega) (by omega) ?_
  refine sLoadP get4 ?_
  refine sLoadAnyP any9 fun _ => ?_
  refine sStoreP (put9 rfl) ?_
  refine sLoadP get6 ?_
  refine sLoadAnyP any10 fun _ => ?_
  refine sStoreP (put10 rfl) ?_
  exact sRet hq

end Cert.Kernel.Hand

end
-- ==== Proof.PartsB.lean ====
/-
  Hand-written, untrusted. Stretches of the kernel: an expert's first four row blocks.
-/
module

public import proofs.«01_k».proof.Proof.Steps

@[expose] public section

set_option maxRecDepth 20000

noncomputable section

namespace Cert.Kernel.Hand

open Cert.Kernel Cert.Kernel.Gen
open Idealize.ShloMosaic Idealize.ShloMosaic.TcCoe Idealize.ShloMosaic.Tactic Idealize.ShloMosaic.ValueIdx
open Idealize.SL Idealize.SL.RA Idealize.SL.BI Idealize.SL.ExclCount
open scoped Idealize.SL.BI
open Idealize.SL.BI.BIBase Idealize.SL.BI.Laws Idealize.SL.ProofMode Idealize.SL.Sem

variable {F : FTy → Type} [BitOps F]

variable {K : Rings F} {W : Wts F} {i : grid0.Coords} {arg1 : Memref sig .tc .smem S33 .i32} {harg1 : arg1.IsWhole} {arg2 : Memref sig .tc .smem S1 .i32}
  {harg2 : arg2.IsWhole} {h3 : K.A3.IsWhole} {h4 : W.A4.IsWhole} {h5 : W.A5.IsWhole} {h6 : W.A6.IsWhole} {h7 : W.A7.IsWhole} {h8 : K.A8.IsWhole}
  {h9 : W.A9.IsWhole} {h10 : W.A10.IsWhole} {h11 : K.A11.IsWhole} {h12 : K.A12.IsWhole} {v0 v2 v5 : BitVec 32} {n G : ℕ} {k0_hw1 : k0_chk1 v0 v2 v5}
  {k0_h7 : k0_cond7 v2 v5 = 1#1} (hG : (baseF v2).toNat = G) (hg : G + 4 ≤ n) (hn : n ≤ 548) (hv : v0.toNat = n)

include hG hg hn hv

set_option maxHeartbeats 1000000 in
theorem part5 (v254 : BitVec 32) {Q}
    (hq : St K (WtP W K.c True True) (min (G + 8) n) (G + 4) (G + 4 - 8) (G + 0) (G + 0) (G + 0) ⊢ Q ⟨k0_pay4 (half 0 (K.X (G + 0))) (half 1 (K.X (G + 0))) W.w5 (k0_pay1 W.w4), k0_pay5 (half 0 (K.X (G + 0))) (half 1 (K.X (G + 0))) W.w5 (k0_pay1 W.w4), k0_pay6 (F := F)⟩) :
    St K (WtP W K.c True True) (min (G + 8) n) (G + 4) (G + 4 - 8) (G + 0) (G + 0) (G + 0) ⊢ Wp K.c (k0_part5 i arg1 harg1 arg2 harg2 K.A3 h3 W.A4 h4 W.A5 h5 W.A6 h6 W.A7 h7 K.A8 h8 W.A9 h9 W.A10 h10 K.A11 h11 K.A12 h12 K.S13 K.S14 v0 v2 v5 k0_hw1 k0_h7 v254) Q := by
  rw [k0_part5_eq_skeleton]
  unfold k0_part5_skel
  have o1_0 := off30_eq v2 0#32 (j := 0) rfl (by decide) hG (by omega)
  refine sLoadIn (kk := G + 0) 0 o1_0 (by omega) (by omega) (by omega) ?_
  have o1_2 := off31_eq v2 0#32 (j := 0) rfl (by decide) hG (by omega)
  refine sLoadIn (kk := G + 0) 1 o1_2 (by omega) (by omega) (by omega) ?_
  refine sLoadP get5 ?_
  refine sLoadP get9 ?_
  exact sRet hq

set_option maxHeartbeats 1000000 in
theorem part6 (v254 : BitVec 32) (v299 : FVec F S256x1024 .f32) (v302 : FVec F S256x1024 .f32) (v303 : FVec F S256x1024 .f32) {Q}
    (hq : St K (WtP W K.c True True) (min (G + 8) n) (G + 4) (G + 4 - 8) (G + 0) (G + 0) (G + 0) ⊢ Q ⟨k0_pay8 v299 v302 v303 W.w7 (k0_pay2 W.w6), k0_pay9 v299 v302 v303 W.w7 (k0_pay2 W.w6)⟩) :
    St K (WtP W K.c True True) (min (G + 8) n) (G + 4) (G + 4 - 8) (G + 0) (G + 0) (G + 0) ⊢ Wp K.c (k0_part6 i arg1 harg1 arg2 harg2 K.A3 h3 W.A4 h4 W.A5 h5 W.A6 h6 W.A7 h7 K.A8 h8 W.A9 h9 W.A10 h10 K.A11 h11 K.A12 h12 K.S13 K.S14 v254 v299 v302 v303) Q := by
  rw [k0_part6_eq_skeleton]
  unfold k0_part6_skel
  refine sLoadP get7 ?_
  refine sLoadP get10 ?_
  exact sRet hq

set_option maxHeartbeats 1000000 in
theorem part7 (v254 : BitVec 32) (v333 : IVec S256x256 32) (v334 : IVec S256x256 32) {Q} (s0_0 : half 0 (K.Y (G + 0)) = k0_pay10 v333) (s1_1 : half 1 (K.Y (G + 0)) = k0_pay11 v334)
    (hq : St K (WtP W K.c True True) (min (G + 8) n) (G + 4) (G + 4 - 8) (G + 0) (G + 1) (G + 1) ⊢ Q ⟨(Scalar.addi v2 1#32), k0_pay12 (half 0 (K.X (G + 1))), (Scalar.select (Scalar.cmpi .eq 8#32 0#32) 1#32 8#32)⟩) :
    St K (WtP W K.c True True) (min (G + 8) n) (G + 4) (G + 4 - 8) (G + 0) (G + 0) (G + 0) ⊢ Wp K.c (k0_part7 i arg1 harg1 arg2 harg2 K.A3 h3 W.A4 h4 W.A5 h5 W.A6 h6 W.A7 h7 K.A8 h8 W.A9 h9 W.A10 h10 K.A11 h11 K.A12 h12 K.S13 K.S14 v0 v2 v5 k0_hw1 k0_h7 v254 v333 v334) Q := by
  rw [k0_part7_eq_skeleton]
  unfold k0_part7_skel
  have o1_0 := off30_eq v2 0#32 (j := 0) rfl (by decide) hG (by omega)
  refine sLoadAny (kk := G + 0) 0 o1_0 (by omega) (by omega) (by omega) fun _ => ?_
  have o1_2 := off30_eq v2 0#32 (j := 0) rfl (by decide) hG (by omega)
  refine sStoreLo (kk := G + 0) (e1' := G + 1) o1_2 s0_0 (by omega) (by omega) (by omega) (by omega) (by omega) (by omega) ?_
  have o1_4 := off31_eq v2 0#32 (j := 0) rfl (by decide) hG (by omega)
  refine sLoadAny (kk := G + 0) 1 o1_4 (by omega) (by omega) (by omega) fun _ => ?_
  have o1_6 := off31_eq v2 0#32 (j := 0) rfl (by decide) hG (by omega)
  refine sStoreHi (kk := G + 0) (e2' := G + 1) o1_6 s1_1 (by omega) (by omega) (by omega) (by omega) (by omega) (by omega) ?_
  have o1_8 := off30_eq v2 1#32 (j := 1) rfl (by decide) hG (by omega)
  refine sLoadIn (kk := G + 1) 0 o1_8 (by omega) (by omega) (by omega) ?_
  exact sRet hq

set_option maxHeartbeats 1000000 in
theorem part8 (v363 : BitVec 32) (v376 : IVec S256x256 32) (v378 : BitVec 32) {Q}
    (hq : St K (WtP W K.c True True) (min (G + 8) n) (G + 4) (G + 4 - 8) (G + 0) (G + 1) (G + 1) ⊢ Q ⟨k0_pay15 v376 (half 1 (K.X (G + 1))) W.w5 (k0_pay1 W.w4), k0_pay16 v376 (half 1 (K.X (G + 1))) W.w5 (k0_pay1 W.w4), (Scalar.ofBits .f32 0x00000000#32)⟩) :
    St K (WtP W K.c True True) (min (G + 8) n) (G + 4) (G + 4 - 8) (G + 0) (G + 1) (G + 1) ⊢ Wp K.c (k0_part8 i arg1 harg1 arg2 harg2 K.A3 h3 W.A4 h4 W.A5 h5 W.A6 h6 W.A7 h7 K.A8 h8 W.A9 h9 W.A10 h10 K.A11 h11 K.A12 h12 K.S13 K.S14 v0 v2 v5 k0_hw1 k0_h7 v363 v376 v378) Q := by
  rw [k0_part8_eq_skeleton]
  unfold k0_part8_skel
  have o1_0 := off31_eq v2 1#32 (j := 1) rfl (by decide) hG (by omega)
  refine sLoadIn (kk := G + 1) 1 o1_0 (by omega) (by omega) (by omega) ?_
  refine sLoadP get5 ?_
  refine sLoadP get9 ?_
  exact sRet hq

set_option maxHeartbeats 1000000 in
theorem part9 (v363 : BitVec 32) (v416 : FVec F S256x1024 .f32) (v418 : FVec F S256x1024 .f32) (cst_235 : F .f32) {Q} (s0_0 : half 0 (K.Y (G + 1)) = k0_pay19 v416 v418 cst_235 W.w7 (k0_pay2 W.w6))
    (hq : St K (WtP W K.c True True) (min (G + 8) n) (G + 4) (G + 4 - 8) (G + 0) (G + 2) (G + 1) ⊢ Q ⟨k0_pay18 v416 v418 cst_235 W.w7 (k0_pay2 W.w6), 8#32, 0#32⟩) :
    St K (WtP W K.c True True) (min (G + 8) n) (G + 4) (G + 4 - 8) (G + 0) (G + 1) (G + 1) ⊢ Wp K.c (k0_part9 i arg1 harg1 arg2 harg2 K.A3 h3 W.A4 h4 W.A5 h5 W.A6 h6 W.A7 h7 K.A8 h8 W.A9 h9 W.A10 h10 K.A11 h11 K.A12 h12 K.S13 K.S14 v0 v2 v5 k0_hw1 k0_h7 v363 v416 v418 cst_235) Q := by
  rw [k0_part9_eq_skeleton]
  unfold k0_part9_skel
  refine sLoadP get7 ?_
  refine sLoadP get10 ?_
  have o1_2 := off30_eq v2 1#32 (j := 1) rfl (by decide) hG (by omega)
  refine sLoadAny (kk := G + 1) 0 o1_2 (by omega) (by omega) (by omega) fun _ => ?_
  have o1_4 := off30_eq v2 1#32 (j := 1) rfl (by decide) hG (by omega)
  refine sStoreLo (kk := G + 1) (e1' := G + 2) o1_4 s0_0 (by omega) (by omega) (by omega) (by omega) (by omega) (by omega) ?_
  exact sRet hq

end Cert.Kernel.Hand

end
-- ==== Proof.PartsC.lean ====
/-
  Hand-written, untrusted. Stretches of the kernel: an expert's first four row blocks.
-/
module

public import proofs.«01_k».proof.Proof.Steps

@[expose] public section

set_option maxRecDepth 20000

noncomputable section

namespace Cert.Kernel.Hand

open Cert.Kernel Cert.Kernel.Gen
open Idealize.ShloMosaic Idealize.ShloMosaic.TcCoe Idealize.ShloMosaic.Tactic Idealize.ShloMosaic.ValueIdx
open Idealize.SL Idealize.SL.RA Idealize.SL.BI Idealize.SL.ExclCount
open scoped Idealize.SL.BI
open Idealize.SL.BI.BIBase Idealize.SL.BI.Laws Idealize.SL.ProofMode Idealize.SL.Sem

variable {F : FTy → Type} [BitOps F]

variable {K : Rings F} {W : Wts F} {i : grid0.Coords} {arg1 : Memref sig .tc .smem S33 .i32} {harg1 : arg1.IsWhole} {arg2 : Memref sig .tc .smem S1 .i32}
  {harg2 : arg2.IsWhole} {h3 : K.A3.IsWhole} {h4 : W.A4.IsWhole} {h5 : W.A5.IsWhole} {h6 : W.A6.IsWhole} {h7 : W.A7.IsWhole} {h8 : K.A8.IsWhole}
  {h9 : W.A9.IsWhole} {h10 : W.A10.IsWhole} {h11 : K.A11.IsWhole} {h12 : K.A12.IsWhole} {v0 v2 v5 : BitVec 32} {n G : ℕ} {k0_hw1 : k0_chk1 v0 v2 v5}
  {k0_h7 : k0_cond7 v2 v5 = 1#1} (hG : (baseF v2).toNat = G) (hg : G + 4 ≤ n) (hn : n ≤ 548) (hv : v0.toNat = n)

include hG hg hn hv

set_option maxHeartbeats 1000000 in
theorem part10 (v363 : BitVec 32) (v443 : IVec S256x256 32) (c8_i32_254 : BitVec 32) (c0_i32_255 : BitVec 32) {Q} (s1_0 : half 1 (K.Y (G + 1)) = k0_pay20 v443)
    (hq : St K (WtP W K.c True True) (min (G + 8) n) (G + 4) (G + 4 - 8) (G + 0) (G + 2) (G + 2) ⊢ Q ⟨(Scalar.addi v2 2#32), k0_pay21 (half 0 (K.X (G + 2))), (Scalar.select (Scalar.cmpi .eq 8#32 0#32) 1#32 8#32), (Scalar.remsi (Scalar.addi v2 2#32) (Scalar.select (Scalar.cmpi .eq 8#32 0#32) 1#32 8#32)), (Scalar.andi (Scalar.xori (Scalar.cmpi .slt (Scalar.remsi (Scalar.addi v2 2#32) (Scalar.select (Scalar.cmpi .eq 8#32 0#32) 1#32 8#32)) 0#32) (Scalar.cmpi .slt (Scalar.select (Scalar.cmpi .eq 8#32 0#32) 1#32 8#32) 0#32)) (Scalar.cmpi .ne (Scalar.remsi (Scalar.addi v2 2#32) (Scalar.select (Scalar.cmpi .eq 8#32 0#32) 1#32 8#32)) 0#32))⟩) :
    St K (WtP W K.c True True) (min (G + 8) n) (G + 4) (G + 4 - 8) (G + 0) (G + 2) (G + 1) ⊢ Wp K.c (k0_part10 i arg1 harg1 arg2 harg2 K.A3 h3 W.A4 h4 W.A5 h5 W.A6 h6 W.A7 h7 K.A8 h8 W.A9 h9 W.A10 h10 K.A11 h11 K.A12 h12 K.S13 K.S14 v0 v2 v5 k0_hw1 k0_h7 v363 v443 c8_i32_254 c0_i32_255) Q := by
  rw [k0_part10_eq_skeleton]
  unfold k0_part10_skel
  have o1_0 := off31_eq v2 1#32 (j := 1) rfl (by decide) hG (by omega)
  refine sLoadAny (kk := G + 1) 1 o1_0 (by omega) (by omega) (by omega) fun _ => ?_
  have o1_2 := off31_eq v2 1#32 (j := 1) rfl (by decide) hG (by omega)
  refine sStoreHi (kk := G + 1) (e2' := G + 2) o1_2 s1_0 (by omega) (by omega) (by omega) (by omega) (by omega) (by omega) ?_
  have o1_4 := off30_eq v2 2#32 (j := 2) rfl (by decide) hG (by omega)
  refine sLoadIn (kk := G + 2) 0 o1_4 (by omega) (by omega) (by omega) ?_
  exact sRet hq

set_option maxHeartbeats 1000000 in
theorem part11 (v485 : IVec S256x256 32) (v487 : BitVec 32) (v488 : BitVec 32) (v493 : BitVec 1) {Q}
    (hq : St K (WtP W K.c True True) (min (G + 8) n) (G + 4) (G + 4 - 8) (G + 0) (G + 2) (G + 2) ⊢ Q ⟨k0_pay24 v485 (half 1 (K.X (G + 2))) W.w5 (k0_pay1 W.w4), k0_pay25 v485 (half 1 (K.X (G + 2))) W.w5 (k0_pay1 W.w4)⟩) :
    St K (WtP W K.c True True) (min (G + 8) n) (G + 4) (G + 4 - 8) (G + 0) (G + 2) (G + 2) ⊢ Wp K.c (k0_part11 i arg1 harg1 arg2 harg2 K.A3 h3 W.A4 h4 W.A5 h5 W.A6 h6 W.A7 h7 K.A8 h8 W.A9 h9 W.A10 h10 K.A11 h11 K.A12 h12 K.S13 K.S14 v0 v2 v5 k0_hw1 k0_h7 v485 v487 v488 v493) Q := by
  rw [k0_part11_eq_skeleton]
  unfold k0_part11_skel
  have o1_0 := off31_eq v2 2#32 (j := 2) rfl (by decide) hG (by omega)
  refine sLoadIn (kk := G + 2) 1 o1_0 (by omega) (by omega) (by omega) ?_
  refine sLoadP get5 ?_
  refine sLoadP get9 ?_
  exact sRet hq

set_option maxHeartbeats 1000000 in
theorem part12 (v472 : BitVec 32) (v525 : FVec F S256x1024 .f32) (v534 : FVec F S256x1024 .f32) {Q} (s0_0 : half 0 (K.Y (G + 2)) = k0_pay28 v525 v534 W.w7 (k0_pay2 W.w6))
    (hq : St K (WtP W K.c True True) (min (G + 8) n) (G + 4) (G + 4 - 8) (G + 0) (G + 3) (G + 2) ⊢ Q ⟨k0_pay27 v525 v534 W.w7 (k0_pay2 W.w6), (Scalar.select (Scalar.cmpi .eq 8#32 0#32) 1#32 8#32), (Scalar.remsi v472 (Scalar.select (Scalar.cmpi .eq 8#32 0#32) 1#32 8#32)), (Scalar.cmpi .ne (Scalar.remsi v472 (Scalar.select (Scalar.cmpi .eq 8#32 0#32) 1#32 8#32)) 0#32), (Scalar.cmpi .slt (Scalar.remsi v472 (Scalar.select (Scalar.cmpi .eq 8#32 0#32) 1#32 8#32)) 0#32), 0#32⟩) :
    St K (WtP W K.c True True) (min (G + 8) n) (G + 4) (G + 4 - 8) (G + 0) (G + 2) (G + 2) ⊢ Wp K.c (k0_part12 i arg1 harg1 arg2 harg2 K.A3 h3 W.A4 h4 W.A5 h5 W.A6 h6 W.A7 h7 K.A8 h8 W.A9 h9 W.A10 h10 K.A11 h11 K.A12 h12 K.S13 K.S14 v0 v2 v5 k0_hw1 k0_h7 v472 v525 v534) Q := by
  rw [k0_part12_eq_skeleton]
  unfold k0_part12_skel
  refine sLoadP get7 ?_
  refine sLoadP get10 ?_
  have o1_2 := off30_eq v2 2#32 (j := 2) rfl (by decide) hG (by omega)
  refine sLoadAny (kk := G + 2) 0 o1_2 (by omega) (by omega) (by omega) fun _ => ?_
  have o1_4 := off30_eq v2 2#32 (j := 2) rfl (by decide) hG (by omega)
  refine sStoreLo (kk := G + 2) (e1' := G + 3) o1_4 s0_0 (by omega) (by omega) (by omega) (by omega) (by omega) (by omega) ?_
  exact sRet hq

set_option maxHeartbeats 1000000 in
theorem part13 (v552 : IVec S256x256 32) (v568 : BitVec 32) (v569 : BitVec 32) (v570 : BitVec 1) (v571 : BitVec 1) (c0_i32_319 : BitVec 32) {Q} (s1_0 : half 1 (K.Y (G + 2)) = k0_pay29 v552)
    (hq : St K (WtP W K.c True True) (min (G + 8) n) (G + 4) (G + 4 - 8) (G + 0) (G + 3) (G + 3) ⊢ Q ⟨(Scalar.addi v2 3#32), k0_pay30 (half 0 (K.X (G + 3))) (half 1 (K.X (G + 3)))⟩) :
    St K (WtP W K.c True True) (min (G + 8) n) (G + 4) (G + 4 - 8) (G + 0) (G + 3) (G + 2) ⊢ Wp K.c (k0_part13 i arg1 harg1 arg2 harg2 K.A3 h3 W.A4 h4 W.A5 h5 W.A6 h6 W.A7 h7 K.A8 h8 W.A9 h9 W.A10 h10 K.A11 h11 K.A12 h12 K.S13 K.S14 v0 v2 v5 k0_hw1 k0_h7 v552 v568 v569 v570 v571 c0_i32_319) Q := by
  rw [k0_part13_eq_skeleton]
  unfold k0_part13_skel
  have o1_0 := off31_eq v2 2#32 (j := 2) rfl (by decide) hG (by omega)
  refine sLoadAny (kk := G + 2) 1 o1_0 (by omega) (by omega) (by omega) fun _ => ?_
  have o1_2 := off31_eq v2 2#32 (j := 2) rfl (by decide) hG (by omega)
  refine sStoreHi (kk := G + 2) (e2' := G + 3) o1_2 s1_0 (by omega) (by omega) (by omega) (by omega) (by omega) (by omega) ?_
  have o1_4 := off30_eq v2 3#32 (j := 3) rfl (by decide) hG (by omega)
  refine sLoadIn (kk := G + 3) 0 o1_4 (by omega) (by omega) (by omega) ?_
  have o1_6 := off31_eq v2 3#32 (j := 3) rfl (by decide) hG (by omega)
  refine sLoadIn (kk := G + 3) 1 o1_6 (by omega) (by omega) (by omega) ?_
  exact sRet hq

set_option maxHeartbeats 1000000 in
theorem part14 (v608 : IVec S256x512 32) {Q}
    (hq : St K (WtP W K.c True True) (min (G + 8) n) (G + 4) (G + 4 - 8) (G + 0) (G + 3) (G + 3) ⊢ Q ⟨k0_pay31 W.w7, k0_pay32 v608 W.w5 (k0_pay1 W.w4)⟩) :
    St K (WtP W K.c True True) (min (G + 8) n) (G + 4) (G + 4 - 8) (G + 0) (G + 3) (G + 3) ⊢ Wp K.c (k0_part14 i arg1 harg1 arg2 harg2 K.A3 h3 W.A4 h4 W.A5 h5 W.A6 h6 W.A7 h7 K.A8 h8 W.A9 h9 W.A10 h10 K.A11 h11 K.A12 h12 K.S13 K.S14 v608) Q := by
  rw [k0_part14_eq_skeleton]
  unfold k0_part14_skel
  refine sLoadP get5 ?_
  refine sLoadP get9 ?_
  refine sLoadP get7 ?_
  exact sRet hq

set_option maxHeartbeats 1000000 in
theorem part15 (v581 : BitVec 32) (v646 : FVec F S1x1024 .f32) (v647 : FVec F S256x1024 .bf16) {Q} (s0_0 : half 0 (K.Y (G + 3)) = k0_pay35 v646 v647 (k0_pay2 W.w6))
    (hq : St K (WtP W K.c True True) (min (G + 8) n) (G + 4) (G + 4 - 8) (G + 0) (G + 4) (G + 3) ⊢ Q (k0_pay34 v646 v647 (k0_pay2 W.w6))) :
    St K (WtP W K.c True True) (min (G + 8) n) (G + 4) (G + 4 - 8) (G + 0) (G + 3) (G + 3) ⊢ Wp K.c (k0_part15 i arg1 harg1 arg2 harg2 K.A3 h3 W.A4 h4 W.A5 h5 W.A6 h6 W.A7 h7 K.A8 h8 W.A9 h9 W.A10 h10 K.A11 h11 K.A12 h12 K.S13 K.S14 v0 v2 v5 k0_hw1 k0_h7 v581 v646 v647) Q := by
  rw [k0_part15_eq_skeleton]
  unfold k0_part15_skel
  refine sLoadP get10 ?_
  have o1_1 := off30_eq v2 3#32 (j := 3) rfl (by decide) hG (by omega)
  refine sLoadAny (kk := G + 3) 0 o1_1 (by omega) (by omega) (by omega) fun _ => ?_
  have o1_3 := off30_eq v2 3#32 (j := 3) rfl (by decide) hG (by omega)
  refine sStoreLo (kk := G + 3) (e1' := G + 4) o1_3 s0_0 (by omega) (by omega) (by omega) (by omega) (by omega) (by omega) ?_
  exact sRet hq

set_option maxHeartbeats 1000000 in
theorem part16 (v661 : IVec S256x256 32) {Q} (s1_0 : half 1 (K.Y (G + 3)) = k0_pay36 v661)
    (hq : St K (WtP W K.c True True) (min (G + 8) n) (G + 4) (G + 4 - 8) (G + 1) (G + 4) (G + 4) ⊢ Q ⟨(Scalar.addi v2 1#32), 8#32, (Scalar.cmpi .eq 8#32 0#32)⟩) :
    St K (WtP W K.c True True) (min (G + 8) n) (G + 4) (G + 4 - 8) (G + 0) (G + 4) (G + 3) ⊢ Wp K.c (k0_part16 i arg1 harg1 arg2 harg2 K.A3 h3 W.A4 h4 W.A5 h5 W.A6 h6 W.A7 h7 K.A8 h8 W.A9 h9 W.A10 h10 K.A11 h11 K.A12 h12 K.S13 K.S14 v0 v2 v5 k0_hw1 k0_h7 v661) Q := by
  rw [k0_part16_eq_skeleton]
  unfold k0_part16_skel
  have o1_0 := off31_eq v2 3#32 (j := 3) rfl (by decide) hG (by omega)
  refine sLoadAny (kk := G + 3) 1 o1_0 (by omega) (by omega) (by omega) fun _ => ?_
  have o1_2 := off31_eq v2 3#32 (j := 3) rfl (by decide) hG (by omega)
  refine sStoreHi (kk := G + 3) (e2' := G + 4) o1_2 s1_0 (by omega) (by omega) (by omega) (by omega) (by omega) (by omega) ?_
  have o1_4 := off3_eq v2 0#32 (j := 0) rfl (by decide) hG (by omega)
  have o2_4 := off4_eq v2 0#32 (j := 0) rfl (by decide) hG (by omega)
  have o3_4 := off5_eq v2 0#32 (j := 0) rfl (by decide) hG (by omega)
  refine sIssueOut (kk := G + 0) (d' := G + 1) o1_4 o2_4 o3_4 (by omega) (by omega) (by omega) (by omega) (by omega) (by omega) (by omega) ?_
  exact sRet hq

set_option maxHeartbeats 1000000 in
theorem part17 (v718 : BitVec 32) (c8_i32_404 : BitVec 32) (v721 : BitVec 1) {Q}
    (hq : St K (WtP W K.c True True) (min (G + 8) n) (G + 4) (G + 4 - 8) (G + 2) (G + 4) (G + 4) ⊢ Q ⟨(Scalar.addi v2 2#32), (Scalar.remsi (Scalar.addi v2 2#32) (Scalar.select (Scalar.cmpi .eq 8#32 0#32) 1#32 8#32)), (Scalar.andi (Scalar.xori (Scalar.cmpi .slt (Scalar.remsi (Scalar.addi v2 2#32) (Scalar.select (Scalar.cmpi .eq 8#32 0#32) 1#32 8#32)) 0#32) (Scalar.cmpi .slt (Scalar.select (Scalar.cmpi .eq 8#32 0#32) 1#32 8#32) 0#32)) (Scalar.cmpi .ne (Scalar.remsi (Scalar.addi v2 2#32) (Scalar.select (Scalar.cmpi .eq 8#32 0#32) 1#32 8#32)) 0#32)), (Scalar.addi (Scalar.remsi (Scalar.addi v2 2#32) (Scalar.select (Scalar.cmpi .eq 8#32 0#32) 1#32 8#32)) (Scalar.select (Scalar.cmpi .eq 8#32 0#32) 1#32 8#32))⟩) :
    St K (WtP W K.c True True) (min (G + 8) n) (G + 4) (G + 4 - 8) (G + 1) (G + 4) (G + 4) ⊢ Wp K.c (k0_part17 i arg1 harg1 arg2 harg2 K.A3 h3 W.A4 h4 W.A5 h5 W.A6 h6 W.A7 h7 K.A8 h8 W.A9 h9 W.A10 h10 K.A11 h11 K.A12 h12 K.S13 K.S14 v0 v2 v5 k0_hw1 k0_h7 v718 c8_i32_404 v721) Q := by
  rw [k0_part17_eq_skeleton]
  unfold k0_part17_skel
  have o1_0 := off3_eq v2 1#32 (j := 1) rfl (by decide) hG (by omega)
  have o2_0 := off4_eq v2 1#32 (j := 1) rfl (by decide) hG (by omega)
  have o3_0 := off5_eq v2 1#32 (j := 1) rfl (by decide) hG (by omega)
  refine sIssueOut (kk := G + 1) (d' := G + 2) o1_0 o2_0 o3_0 (by omega) (by omega) (by omega) (by omega) (by omega) (by omega) (by omega) ?_
  exact sRet hq

set_option maxHeartbeats 1000000 in
theorem part18 (v746 : BitVec 32) (v751 : BitVec 32) (v756 : BitVec 1) (v757 : BitVec 32) {Q}
    (hq : St K (WtP W K.c True True) (min (G + 8) n) (G + 4) (G + 4 - 8) (G + 3) (G + 4) (G + 4) ⊢ Q ⟨(Scalar.select (Scalar.cmpi .eq 8#32 0#32) 1#32 8#32), (Scalar.remsi (Scalar.addi v2 3#32) (Scalar.select (Scalar.cmpi .eq 8#32 0#32) 1#32 8#32)), (Scalar.cmpi .ne (Scalar.remsi (Scalar.addi v2 3#32) (Scalar.select (Scalar.cmpi .eq 8#32 0#32) 1#32 8#32)) 0#32), (Scalar.cmpi .slt (Scalar.remsi (Scalar.addi v2 3#32) (Scalar.select (Scalar.cmpi .eq 8#32 0#32) 1#32 8#32)) 0#32), 0#32⟩) :
    St K (WtP W K.c True True) (min (G + 8) n) (G + 4) (G + 4 - 8) (G + 2) (G + 4) (G + 4) ⊢ Wp K.c (k0_part18 i arg1 harg1 arg2 harg2 K.A3 h3 W.A4 h4 W.A5 h5 W.A6 h6 W.A7 h7 K.A8 h8 W.A9 h9 W.A10 h10 K.A11 h11 K.A12 h12 K.S13 K.S14 v0 v2 v5 k0_hw1 k0_h7 v746 v751 v756 v757) Q := by
  rw [k0_part18_eq_skeleton]
  unfold k0_part18_skel
  have o1_0 := off3_eq v2 2#32 (j := 2) rfl (by decide) hG (by omega)
  have o2_0 := off4_eq v2 2#32 (j := 2) rfl (by decide) hG (by omega)
  have o3_0 := off5_eq v2 2#32 (j := 2) rfl (by decide) hG (by omega)
  refine sIssueOut (kk := G + 2) (d' := G + 3) o1_0 o2_0 o3_0 (by omega) (by omega) (by omega) (by omega) (by omega) (by omega) (by omega) ?_
  exact sRet hq

end Cert.Kernel.Hand

end
-- ==== Proof.Body1.lean ====
/-
  Hand-written, untrusted. The kernel between two row blocks, and the stretch that starts an expert.
-/
module

public import proofs.«01_k».proof.Proof.Values
public import proofs.«01_k».proof.Proof.PartsA
public import proofs.«01_k».proof.Proof.PartsB
public import proofs.«01_k».proof.Proof.PartsC

@[expose] public section

set_option maxRecDepth 20000

noncomputable section

namespace Cert.Kernel.Hand

open Cert.Kernel Cert.Kernel.Gen
open Idealize.ShloMosaic Idealize.ShloMosaic.TcCoe Idealize.ShloMosaic.Tactic Idealize.ShloMosaic.ValueIdx
open Idealize.SL Idealize.SL.RA Idealize.SL.BI Idealize.SL.ExclCount
open scoped Idealize.SL.BI
open Idealize.SL.BI.BIBase Idealize.SL.BI.Laws Idealize.SL.ProofMode Idealize.SL.Sem

variable {F : FTy → Type} [BitOps F]

/-- Between two row blocks: `b` blocks are taken and given, and four more are under way to the kernel. -/
def Bd (K : Rings F) (W : Wts F) (p : Prop) (n b : ℕ) : sProp (MM F) :=
  St K (WtP W K.c p p) (min (b + 4) n) b (b - 8) b b b

/-- The row blocks `g` to `e` of the result are the expert's function of those of the input. -/
def Good (K : Rings F) (W : Wts F) (g e : ℕ) : Prop :=
  ∀ k, g ≤ k → k < e →
    half 0 (K.Y k) = ffnLo (half 0 (K.X k)) (half 1 (K.X k)) (k0_pay1 W.w4) W.w5 (k0_pay2 W.w6) W.w7 ∧
    half 1 (K.Y k) = ffnHi (half 0 (K.X k)) (half 1 (K.X k)) (k0_pay1 W.w4) W.w5 (k0_pay2 W.w6) W.w7

variable {K : Rings F} {W : Wts F} {i : grid0.Coords} {arg1 : Memref sig .tc .smem S33 .i32} {harg1 : arg1.IsWhole} {arg2 : Memref sig .tc .smem S1 .i32}
  {harg2 : arg2.IsWhole} {h3 : K.A3.IsWhole} {h4 : W.A4.IsWhole} {h5 : W.A5.IsWhole} {h6 : W.A6.IsWhole} {h7 : W.A7.IsWhole} {h8 : K.A8.IsWhole}
  {h9 : W.A9.IsWhole} {h10 : W.A10.IsWhole} {h11 : K.A11.IsWhole} {h12 : K.A12.IsWhole} {n g e : ℕ}

/-- Whether an expert of one to three blocks begins. -/
def castW (d : BitVec 32) : BitVec 1 :=
  Scalar.cmpi .ne (Scalar.extui (Scalar.andi (Scalar.cmpi .eq (quarterW d) 0#32) (Scalar.cmpi .sgt d 0#32))) 0#32

theorem castW_table : ∀ d : Fin 549, castW (BitVec.ofNat 32 d.val) = if d.val < 4 ∧ 0 < d.val then 1#1 else 0#1 := by decide +kernel

theorem castW_eq {v0 v2 v5 : BitVec 32} (h : Range v0 v2 v5 n g e) : castW (Scalar.subi v5 v2) = if e - g < 4 ∧ 0 < e - g then 1#1 else 0#1 := by
  rw [h.d_eq]; exact castW_table ⟨e - g, h.d_lt⟩

theorem Bd_to {p q : Prop} {b b' : ℕ} (hp : p = q) (hb : b = b') : Bd K W p n b ⊢ Bd K W q n b' := by
  subst hp hb; exact .rfl

theorem St_to {P : sProp (MM F)} {a a' b b' cc cc' d d' e1 e1' e2 e2' : ℕ} (h1 : a = a') (h2 : b = b') (h3 : cc = cc') (h4 : d = d') (h5 : e1 = e1') (h6 : e2 = e2') :
    St K P a b cc d e1 e2 ⊢ St K P a' b' cc' d' e1' e2' := by
  subst h1 h2 h3 h4 h5 h6; exact .rfl

/-- One priming copy, if it is among the blocks in use. -/
theorem sPrime {P : sProp (MM F)} {v0 w : BitVec 32} {kk a a' : ℕ} (hv : v0.toNat = n) (hn : n ≤ 548) (hw : w.toNat = kk) (hk : kk < 4) (ha : a = min kk n) (ha' : a' = min (kk + 1) n)
    {o13 : Fin 1 → ℕ} {o11 : Fin 4 → ℕ} {o3 : Fin 3 → ℕ}
    {i13 : ∀ x, o13 x + S1.size x ≤ S8.size x} {i11 : ∀ x, o11 x + S1x2x256x256.size x ≤ S8x2x256x256.size x}
    {i3 : ∀ x, o3 x + S2x256x256.size x ≤ S2x140288x256.size x}
    {α : Type} {k : Prog (TpuEff nD τ sig (Elt F) Λ₀ .tc) α} {Q : α → sProp (MM F)}
    (h13 : o13 = ![kk % 8]) (h11 : o11 = ![kk % 8, 0, 0, 0]) (h3 : o3 = ![0, kk * 256, 0])
    (h : St K P a' 0 0 0 0 0 ⊢ Wp K.c k Q) {hs hd ht} :
    St K P a 0 0 0 0 0 ⊢ Wp K.c (if Scalar.cmpi .ne (Scalar.extui (Scalar.cmpi .sgt v0 w)) 0#32 = 1#1 then
      Prog.lift (.enqueueDma (K.A3.slice (Rect.unit (s := S2x140288x256) o3 S2x256x256.size i3) (fun _ => rfl))
      (.here ((K.A11.slice (Rect.unit (s := S8x2x256x256) o11 S1x2x256x256.size i11) (fun _ => rfl)).squeeze S2x256x256 squeezes_S1x2x256x256_S2x256x256))
      (.dma ((K.S13.slice (Rect.unit (s := S8) o13 S1.size i13)).squeeze S_ squeezes_S1_S_).sem) hs hd ht) >>= fun _ => k else k) Q := by
  refine sIte (guard_sgt hv hw (by omega) (by omega)) (fun c0 => ?_) (fun c0 => ?_)
  · exact sIssueIn (kk := kk) (a' := a') h13 h11 h3 (by omega) (by omega) (by omega) (by omega) (by omega) h
  · exact (St_to (by omega) rfl rfl rfl rfl rfl).trans h

set_option maxHeartbeats 2000000 in
theorem part68 {v0 v2 v5 : BitVec 32} {f1 : Buf (Elt F) (arg1.view.loc (K.c : Thread nD τ))} {f2 : Buf (Elt F) (arg2.view.loc (K.c : Thread nD τ))} {q : PosShare TreeShare}
    (hr : Range v0 v2 v5 n g e) (hY : Good K W g e)
    (r0 : (arg2.access (Rect.unit (s := S1) ![0] S1.size inb_S1_S1_0)).read (Elt F) f2 (Shape.Idx.first (numel1_S1.symm ▸ Nat.one_pos)) = v0)
    (r2 : (arg1.access (Rect.unit (s := S33) (k0_off1 i) S1.size (k0_off1_inb i))).read (Elt F) f1 (Shape.Idx.first (numel1_S1.symm ▸ Nat.one_pos)) = v2)
    (r5 : (arg1.access (Rect.unit (s := S33) (k0_off2 i) S1.size (k0_off2_inb i))).read (Elt F) f1 (Shape.Idx.first (numel1_S1.symm ▸ Nat.one_pos)) = v5)
    {a0 : ℕ} (hi : k0_cond1 i = 1#1 → a0 = 0 ∧ g = 0) (hi' : ¬ k0_cond1 i = 1#1 → a0 = min (g + 4) n) {Q}
    (hq : ∀ z0 z1 z2 z3 z4, iprop((arg2.view.loc (K.c : Thread nD τ) ↦[Finset.univ]{q} f2) ∗ (arg1.view.loc (K.c : Thread nD τ) ↦[Finset.univ]{q} f1) ∗ Bd K W (g < e) n (g + 4 * min 1 ((e - g) / 4)))
      ⊢ Q ⟨z0, v0, chk2_holds i hr.n_eq hr.n_le, v2, v5, chk1_holds hr, z1, z2, z3, z4⟩) :
    iprop((arg2.view.loc (K.c : Thread nD τ) ↦[Finset.univ]{q} f2) ∗ (arg1.view.loc (K.c : Thread nD τ) ↦[Finset.univ]{q} f1) ∗ St K (WtP W K.c False False) a0 g (g - 8) g g g)
      ⊢ Wp K.c (k0_part68 i arg1 harg1 arg2 harg2 K.A3 h3 W.A4 h4 W.A5 h5 W.A6 h6 W.A7 h7 K.A8 h8 W.A9 h9 W.A10 h10 K.A11 h11 K.A12 h12 K.S13 K.S14) Q := by
  rw [k0_part68_eq_skeleton]
  unfold k0_part68_skel
  refine sSmem r0 ?_
  refine sAssume (chk2_holds i hr.n_eq hr.n_le) ?_
  refine (sep_left_comm.1).trans ?_
  refine sSmem r2 ?_
  refine sSmem r5 ?_
  refine sAssume (chk1_holds hr) ?_
  have hq' := fun z0 z1 z2 z3 z4 => wand_intro (wand_intro ((sep_comm.1.trans (sep_congr_right sep_comm).1).trans (hq z0 z1 z2 z3 z4)))
  refine (sep_left_comm.1).trans (sKeep (sKeep ?_))
  have hnle := hr.n_le
  have hle := hr.le
  have hlen := hr.le_n
  extract_lets +onlyGivenNames hw1 v9 v10 v11 v12 v13 v14 v15 v16 v17 v18 v19 v20 v21 v22 v23 v24 v25 v26 v27 v28 v29 v30 v31 jpA jpB jp
  have hjp : Bd K W False n g ⊢ Wp K.c (jp ⟨⟩) (fun v => iprop((arg1.view.loc (K.c : Thread nD τ) ↦[Finset.univ]{q} f1) -∗ (arg2.view.loc (K.c : Thread nD τ) ↦[Finset.univ]{q} f2) -∗ Q v)) := by
    refine sIte (castW_eq hr) (fun c => ?_) (fun c => ?_)
    · refine sLoadP get4 ?_
      refine sLoadAnyP any9 fun _ => ?_
      refine sStoreP (put9 rfl) ?_
      refine sLoadP get6 ?_
      refine sLoadAnyP any10 fun _ => ?_
      refine sStoreP (put10 rfl) ?_
      refine sIf hr.cond7 (fun c7 => absurd c7 (by omega)) (fun c7 hc7 => ?_)
      exact sRet ((Bd_to (eq_true (by omega)).symm (by omega)).trans (hq' _ _ _ _ _))
    · refine sIf hr.cond7 (fun c7 hc7 => ?_) (fun c7 hc7 => ?_)
      · obtain ⟨hG, hge⟩ := hr.first hc7
        have hg4 : g + 4 ≤ n := by omega
        refine sBind (part1 hG hg4 hnle hr.n_eq ?_)
        refine sBind (part2 hG hg4 hnle hr.n_eq ?_)
        refine sBind (part3 hG hg4 hnle hr.n_eq ?_)
        refine sBind (part4 hG hg4 hnle hr.n_eq ?_)
        refine sBind (part5 hG hg4 hnle hr.n_eq _ ?_)
        refine sBind (part6 hG hg4 hnle hr.n_eq _ _ _ _ ?_)
        refine sBind (part7 hG hg4 hnle hr.n_eq _ _ _ ((hY (g + 0) (by omega) (by omega)).1.trans (ffnLo_F0 ..)) ((hY (g + 0) (by omega) (by omega)).2.trans (ffnHi_F0 ..)) ?_)
        refine sBind (part8 hG hg4 hnle hr.n_eq _ _ _ ?_)
        refine sBind (part9 hG hg4 hnle hr.n_eq _ _ _ _ ((hY (g + 1) (by omega) (by omega)).1.trans (ffnLo_F1 ..)) ?_)
        refine sBind (part10 hG hg4 hnle hr.n_eq _ _ _ _ ((hY (g + 1) (by omega) (by omega)).2.trans (ffnHi_F1 ..)) ?_)
        refine sBind (part11 hG hg4 hnle hr.n_eq _ _ _ _ ?_)
        refine sBind (part12 hG hg4 hnle hr.n_eq _ _ _ ((hY (g + 2) (by omega) (by omega)).1.trans (ffnLo_F2 ..)) ?_)
        refine sBind (part13 hG hg4 hnle hr.n_eq _ _ _ _ _ _ ((hY (g + 2) (by omega) (by omega)).2.trans (ffnHi_F2 ..)) ?_)
        refine sBind (part14 hG hg4 hnle hr.n_eq _ ?_)
        refine sBind (part15 hG hg4 hnle hr.n_eq _ _ _ ((hY (g + 3) (by omega) (by omega)).1.trans (ffnLo_F3 ..)) ?_)
        refine sBind (part16 hG hg4 hnle hr.n_eq _ ((hY (g + 3) (by omega) (by omega)).2.trans (ffnHi_F3 ..)) ?_)
        refine sBind (part17 hG hg4 hnle hr.n_eq _ _ _ ?_)
        refine sBind (part18 hG hg4 hnle hr.n_eq _ _ _ _ ?_)
        have o1 := off3_eq v2 3#32 (j := 3) rfl (by decide) hG (by omega)
        have o2 := off4_eq v2 3#32 (j := 3) rfl (by decide) hG (by omega)
        have o3 := off5_eq v2 3#32 (j := 3) rfl (by decide) hG (by omega)
        refine sIssueOut (kk := g + 3) (d' := g + 4) o1 o2 o3 (by omega) (by omega) (by omega) (by omega) (by omega) (by omega) (by omega) ?_
        exact sRet ((Bd_to (b := g + 4) (eq_true (by omega)).symm (by omega)).trans (hq' _ _ _ _ _))
      · exact sRet ((Bd_to (eq_false (by omega)).symm (by omega)).trans (hq' _ _ _ _ _))
  clear_value jp
  by_cases h1 : k0_cond1 i = 1#1
  · rw [dif_pos h1]
    obtain ⟨rfl, rfl⟩ := hi h1
    have hn := hr.n_le
    refine sPrime (kk := 0) (a' := min 1 n) hr.n_eq hn rfl (by omega) (by omega) (by omega) rfl rfl rfl ?_
    refine sPrime (kk := 1) (a' := min 2 n) hr.n_eq hn rfl (by omega) (by omega) (by omega) rfl rfl rfl ?_
    refine sPrime (kk := 2) (a' := min 3 n) hr.n_eq hn rfl (by omega) (by omega) (by omega) rfl rfl rfl ?_
    refine sPrime (kk := 3) (a' := min 4 n) hr.n_eq hn rfl (by omega) (by omega) (by omega) rfl rfl rfl ?_
    exact hjp
  · rw [dif_neg h1, hi' h1]
    exact hjp

end Cert.Kernel.Hand

end
-- ==== Proof.PartsD.lean ====
/-
  Hand-written, untrusted. Stretches of the kernel: a further four row blocks of an expert.
-/
module

public import proofs.«01_k».proof.Proof.Steps

@[expose] public section

set_option maxRecDepth 20000

noncomputable section

namespace Cert.Kernel.Hand

open Cert.Kernel Cert.Kernel.Gen
open Idealize.ShloMosaic Idealize.ShloMosaic.TcCoe Idealize.ShloMosaic.Tactic Idealize.ShloMosaic.ValueIdx
open Idealize.SL Idealize.SL.RA Idealize.SL.BI Idealize.SL.ExclCount
open scoped Idealize.SL.BI
open Idealize.SL.BI.BIBase Idealize.SL.BI.Laws Idealize.SL.ProofMode Idealize.SL.Sem

variable {F : FTy → Type} [BitOps F]

variable {K : Rings F} {W : Wts F} {i : grid0.Coords} {arg1 : Memref sig .tc .smem S33 .i32} {harg1 : arg1.IsWhole} {arg2 : Memref sig .tc .smem S1 .i32}
  {harg2 : arg2.IsWhole} {h3 : K.A3.IsWhole} {h4 : W.A4.IsWhole} {h5 : W.A5.IsWhole} {h6 : W.A6.IsWhole} {h7 : W.A7.IsWhole} {h8 : K.A8.IsWhole}
  {h9 : W.A9.IsWhole} {h10 : W.A10.IsWhole} {h11 : K.A11.IsWhole} {h12 : K.A12.IsWhole} {v0 v2 v5 : BitVec 32} {n G : ℕ} {k0_hw1 : k0_chk1 v0 v2 v5}
  {k0_t1 : Fin (k0_t1_loop v2 v5).trips} (hG : (baseT v2 k0_t1.val).toNat = G) (hg : G + 4 ≤ n) (hn : n ≤ 548) (hv : v0.toNat = n)

include hG hg hn hv

set_option maxHeartbeats 1000000 in
theorem part19 (c1_i32_13 : BitVec 32) (c1_i32_15 : BitVec 32) {Q}
    (hq : St K (WtP W K.c True True) (min (G + 4) n) (G + 1) (G + 0 - 8) (G + 0) (G + 0) (G + 0) ⊢ Q (Scalar.addi v2 (Scalar.muli 4#32 (Scf.iv c1_i32_13 c1_i32_15 k0_t1)))) :
    St K (WtP W K.c True True) (min (G + 4) n) (G + 0) (G + 0 - 8) (G + 0) (G + 0) (G + 0) ⊢ Wp K.c (k0_part19 i arg1 harg1 arg2 harg2 K.A3 h3 W.A4 h4 W.A5 h5 W.A6 h6 W.A7 h7 K.A8 h8 W.A9 h9 W.A10 h10 K.A11 h11 K.A12 h12 K.S13 K.S14 v0 v2 v5 k0_hw1 c1_i32_13 c1_i32_15 k0_t1) Q := by
  rw [k0_part19_eq_skeleton]
  unfold k0_part19_skel
  have o1_0 := off32_eq v2 v5 k0_t1 0#32 (j := 0) rfl (by decide) hG (by omega)
  have o2_0 := off33_eq v2 v5 k0_t1 0#32 (j := 0) rfl (by decide) hG (by omega)
  have o3_0 := off34_eq v2 v5 k0_t1 0#32 (j := 0) rfl (by decide) hG (by omega)
  refine sLandIn (kk := G + 0) (b' := G + 1) o1_0 o2_0 o3_0 (by omega) (by omega) (by omega) (by omega) (by omega) ?_
  exact sRet hq

set_option maxHeartbeats 1000000 in
theorem part20 (v135 : BitVec 32) {Q}
    (hq : St K (WtP W K.c True True) (min (G + 4) n) (G + 3) (G + 0 - 8) (G + 0) (G + 0) (G + 0) ⊢ Q (Scalar.muli (Scalar.addi v135 3#32) 256#32)) :
    St K (WtP W K.c True True) (min (G + 4) n) (G + 1) (G + 0 - 8) (G + 0) (G + 0) (G + 0) ⊢ Wp K.c (k0_part20 i arg1 harg1 arg2 harg2 K.A3 h3 W.A4 h4 W.A5 h5 W.A6 h6 W.A7 h7 K.A8 h8 W.A9 h9 W.A10 h10 K.A11 h11 K.A12 h12 K.S13 K.S14 v0 v2 v5 k0_hw1 k0_t1 v135) Q := by
  rw [k0_part20_eq_skeleton]
  unfold k0_part20_skel
  have o1_0 := off32_eq v2 v5 k0_t1 1#32 (j := 1) rfl (by decide) hG (by omega)
  have o2_0 := off33_eq v2 v5 k0_t1 1#32 (j := 1) rfl (by decide) hG (by omega)
  have o3_0 := off34_eq v2 v5 k0_t1 1#32 (j := 1) rfl (by decide) hG (by omega)
  refine sLandIn (kk := G + 1) (b' := G + 2) o1_0 o2_0 o3_0 (by omega) (by omega) (by omega) (by omega) (by omega) ?_
  have o1_4 := off32_eq v2 v5 k0_t1 2#32 (j := 2) rfl (by decide) hG (by omega)
  have o2_4 := off33_eq v2 v5 k0_t1 2#32 (j := 2) rfl (by decide) hG (by omega)
  have o3_4 := off34_eq v2 v5 k0_t1 2#32 (j := 2) rfl (by decide) hG (by omega)
  refine sLandIn (kk := G + 2) (b' := G + 3) o1_4 o2_4 o3_4 (by omega) (by omega) (by omega) (by omega) (by omega) ?_
  exact sRet hq

set_option maxHeartbeats 1000000 in
theorem part21 (v135 : BitVec 32) (v201 : BitVec 32) {Q}
    (hq : St K (WtP W K.c True True) (min (G + 8) n) (G + 4) (G + 1 - 8) (G + 0) (G + 0) (G + 0) ⊢ Q ⟨(Scalar.addi v135 1#32), (Scalar.cmpi .sge (Scalar.addi v135 1#32) 8#32)⟩) :
    St K (WtP W K.c True True) (min (G + 4) n) (G + 3) (G + 0 - 8) (G + 0) (G + 0) (G + 0) ⊢ Wp K.c (k0_part21 i arg1 harg1 arg2 harg2 K.A3 h3 W.A4 h4 W.A5 h5 W.A6 h6 W.A7 h7 K.A8 h8 W.A9 h9 W.A10 h10 K.A11 h11 K.A12 h12 K.S13 K.S14 v0 v2 v5 k0_hw1 k0_t1 v135 v201) Q := by
  rw [k0_part21_eq_skeleton]
  unfold k0_part21_skel
  have o1_0 := off32_eq v2 v5 k0_t1 3#32 (j := 3) rfl (by decide) hG (by omega)
  have o2_0 := off33_eq v2 v5 k0_t1 3#32 (j := 3) rfl (by decide) hG (by omega)
  have o3_0 := off34_eq v2 v5 k0_t1 3#32 (j := 3) rfl (by decide) hG (by omega)
  refine sLandIn (kk := G + 3) (b' := G + 4) o1_0 o2_0 o3_0 (by omega) (by omega) (by omega) (by omega) (by omega) ?_
  have o1_4 := off35_eq v2 v5 k0_t1 hG (by omega)
  have o2_4 := off36_eq v2 v5 k0_t1 hG (by omega)
  have o3_4 := off37_eq v2 v5 k0_t1 hG (by omega)
  have o4_4 := cond16_eq v0 v2 v5 k0_t1 hG (by omega) hv (by omega)
  refine sCIssueIn (kk := G + 4 + 0) (n := n) (a' := min (G + 5) n) o4_4 o1_4 o2_4 o3_4 (by omega) (by omega) (by omega) (by omega) (by omega) ?_
  have o1_9 := off38_eq v2 v5 k0_t1 hG (by omega)
  have o2_9 := off39_eq v2 v5 k0_t1 hG (by omega)
  have o3_9 := off40_eq v2 v5 k0_t1 hG (by omega)
  have o4_9 := cond17_eq v0 v2 v5 k0_t1 hG (by omega) hv (by omega)
  refine sCIssueIn (kk := G + 4 + 1) (n := n) (a' := min (G + 6) n) o4_9 o1_9 o2_9 o3_9 (by omega) (by omega) (by omega) (by omega) (by omega) ?_
  have o1_14 := off41_eq v2 v5 k0_t1 hG (by omega)
  have o2_14 := off42_eq v2 v5 k0_t1 hG (by omega)
  have o3_14 := off43_eq v2 v5 k0_t1 hG (by omega)
  have o4_14 := cond18_eq v0 v2 v5 k0_t1 hG (by omega) hv (by omega)
  refine sCIssueIn (kk := G + 4 + 2) (n := n) (a' := min (G + 7) n) o4_14 o1_14 o2_14 o3_14 (by omega) (by omega) (by omega) (by omega) (by omega) ?_
  have o1_19 := off44_eq v2 v5 k0_t1 hG (by omega)
  have o2_19 := off45_eq v2 v5 k0_t1 hG (by omega)
  have o3_19 := off46_eq v2 v5 k0_t1 hG (by omega)
  have o4_19 := cond19_eq v0 v2 v5 k0_t1 hG (by omega) hv (by omega)
  refine sCIssueIn (kk := G + 4 + 3) (n := n) (a' := min (G + 8) n) o4_19 o1_19 o2_19 o3_19 (by omega) (by omega) (by omega) (by omega) (by omega) ?_
  have o1_24 := off47_eq v2 v5 k0_t1 hG (by omega)
  have o2_24 := off49_eq v2 v5 k0_t1 hG (by omega)
  have o3_24 : 8 ≤ G + 0 → _ := fun h8 => off48_eq v2 v5 k0_t1 hG (by omega) h8
  have o4_24 := cond20_eq v2 v5 k0_t1 hG (by omega)
  refine sCLandOut (kk := G + 0) (cc' := G + 1 - 8) o4_24 (fun _ => o1_24) (fun _ => o2_24) o3_24 (by omega) (by omega) (by omega) (by omega) (by omega) (by omega) (by omega) ?_
  exact sRet hq

set_option maxHeartbeats 1000000 in
theorem part22 (v135 : BitVec 32) (v232 : BitVec 32) (v233 : BitVec 1) {Q}
    (hq : St K (WtP W K.c True True) (min (G + 8) n) (G + 4) (G + 4 - 8) (G + 0) (G + 0) (G + 0) ⊢ Q ⟨(Scalar.addi v135 0#32), k0_pay37 (half 0 (K.X (G + 0))), (Scalar.select (Scalar.andi (Scalar.xori (Scalar.cmpi .slt (Scalar.remsi (Scalar.addi v135 0#32) (Scalar.select (Scalar.cmpi .eq 8#32 0#32) 1#32 8#32)) 0#32) (Scalar.cmpi .slt (Scalar.select (Scalar.cmpi .eq 8#32 0#32) 1#32 8#32) 0#32)) (Scalar.cmpi .ne (Scalar.remsi (Scalar.addi v135 0#32) (Scalar.select (Scalar.cmpi .eq 8#32 0#32) 1#32 8#32)) 0#32)) (Scalar.addi (Scalar.remsi (Scalar.addi v135 0#32) (Scalar.select (Scalar.cmpi .eq 8#32 0#32) 1#32 8#32)) (Scalar.select (Scalar.cmpi .eq 8#32 0#32) 1#32 8#32)) (Scalar.remsi (Scalar.addi v135 0#32) (Scalar.select (Scalar.cmpi .eq 8#32 0#32) 1#32 8#32)))⟩) :
    St K (WtP W K.c True True) (min (G + 8) n) (G + 4) (G + 1 - 8) (G + 0) (G + 0) (G + 0) ⊢ Wp K.c (k0_part22 i arg1 harg1 arg2 harg2 K.A3 h3 W.A4 h4 W.A5 h5 W.A6 h6 W.A7 h7 K.A8 h8 W.A9 h9 W.A10 h10 K.A11 h11 K.A12 h12 K.S13 K.S14 v0 v2 v5 k0_hw1 k0_t1 v135 v232 v233) Q := by
  rw [k0_part22_eq_skeleton]
  unfold k0_part22_skel
  have o1_0 := off50_eq v2 v5 k0_t1 hG (by omega)
  have o2_0 := off52_eq v2 v5 k0_t1 hG (by omega)
  have o3_0 : 8 ≤ G + 1 → _ := fun h8 => off51_eq v2 v5 k0_t1 hG (by omega) h8
  have o4_0 := cond21_eq v2 v5 k0_t1 hG (by omega)
  refine sCLandOut (kk := G + 1) (cc' := G + 2 - 8) o4_0 (fun _ => o1_0) (fun _ => o2_0) o3_0 (by omega) (by omega) (by omega) (by omega) (by omega) (by omega) (by omega) ?_
  have o1_5 := off53_eq v2 v5 k0_t1 hG (by omega)
  have o2_5 := off55_eq v2 v5 k0_t1 hG (by omega)
  have o3_5 : 8 ≤ G + 2 → _ := fun h8 => off54_eq v2 v5 k0_t1 hG (by omega) h8
  have o4_5 := cond22_eq v2 v5 k0_t1 hG (by omega)
  refine sCLandOut (kk := G + 2) (cc' := G + 3 - 8) o4_5 (fun _ => o1_5) (fun _ => o2_5) o3_5 (by omega) (by omega) (by omega) (by omega) (by omega) (by omega) (by omega) ?_
  have o1_10 := off56_eq v2 v5 k0_t1 hG (by omega)
  have o2_10 := off58_eq v2 v5 k0_t1 hG (by omega)
  have o3_10 : 8 ≤ G + 3 → _ := fun h8 => off57_eq v2 v5 k0_t1 hG (by omega) h8
  have o4_10 := cond23_eq v2 v5 k0_t1 hG (by omega)
  refine sCLandOut (kk := G + 3) (cc' := G + 4 - 8) o4_10 (fun _ => o1_10) (fun _ => o2_10) o3_10 (by omega) (by omega) (by omega) (by omega) (by omega) (by omega) (by omega) ?_
  have o1_15 := off59_eq v2 v5 k0_t1 0#32 (j := 0) rfl (by decide) hG (by omega)
  refine sLoadIn (kk := G + 0) 0 o1_15 (by omega) (by omega) (by omega) ?_
  exact sRet hq

end Cert.Kernel.Hand

end
-- ==== Proof.PartsE.lean ====
/-
  Hand-written, untrusted. Stretches of the kernel: a further four row blocks of an expert.
-/
module

public import proofs.«01_k».proof.Proof.Steps

@[expose] public section

set_option maxRecDepth 20000

noncomputable section

namespace Cert.Kernel.Hand

open Cert.Kernel Cert.Kernel.Gen
open Idealize.ShloMosaic Idealize.ShloMosaic.TcCoe Idealize.ShloMosaic.Tactic Idealize.ShloMosaic.ValueIdx
open Idealize.SL Idealize.SL.RA Idealize.SL.BI Idealize.SL.ExclCount
open scoped Idealize.SL.BI
open Idealize.SL.BI.BIBase Idealize.SL.BI.Laws Idealize.SL.ProofMode Idealize.SL.Sem

variable {F : FTy → Type} [BitOps F]

variable {K : Rings F} {W : Wts F} {i : grid0.Coords} {arg1 : Memref sig .tc .smem S33 .i32} {harg1 : arg1.IsWhole} {arg2 : Memref sig .tc .smem S1 .i32}
  {harg2 : arg2.IsWhole} {h3 : K.A3.IsWhole} {h4 : W.A4.IsWhole} {h5 : W.A5.IsWhole} {h6 : W.A6.IsWhole} {h7 : W.A7.IsWhole} {h8 : K.A8.IsWhole}
  {h9 : W.A9.IsWhole} {h10 : W.A10.IsWhole} {h11 : K.A11.IsWhole} {h12 : K.A12.IsWhole} {v0 v2 v5 : BitVec 32} {n G : ℕ} {k0_hw1 : k0_chk1 v0 v2 v5}
  {k0_t1 : Fin (k0_t1_loop v2 v5).trips} (hG : (baseT v2 k0_t1.val).toNat = G) (hg : G + 4 ≤ n) (hn : n ≤ 548) (hv : v0.toNat = n)

include hG hg hn hv

set_option maxHeartbeats 1000000 in
theorem part23 (v257 : IVec S256x256 32) (v267 : BitVec 32) {Q}
    (hq : St K (WtP W K.c True True) (min (G + 8) n) (G + 4) (G + 4 - 8) (G + 0) (G + 0) (G + 0) ⊢ Q (k0_pay38 v257 (half 1 (K.X (G + 0))) W.w5 (k0_pay1 W.w4))) :
    St K (WtP W K.c True True) (min (G + 8) n) (G + 4) (G + 4 - 8) (G + 0) (G + 0) (G + 0) ⊢ Wp K.c (k0_part23 i arg1 harg1 arg2 harg2 K.A3 h3 W.A4 h4 W.A5 h5 W.A6 h6 W.A7 h7 K.A8 h8 W.A9 h9 W.A10 h10 K.A11 h11 K.A12 h12 K.S13 K.S14 v0 v2 v5 k0_hw1 k0_t1 v257 v267) Q := by
  rw [k0_part23_eq_skeleton]
  unfold k0_part23_skel
  have o1_0 := off60_eq v2 v5 k0_t1 0#32 (j := 0) rfl (by decide) hG (by omega)
  refine sLoadIn (kk := G + 0) 1 o1_0 (by omega) (by omega) (by omega) ?_
  refine sLoadP get5 ?_
  refine sLoadP get9 ?_
  exact sRet hq

set_option maxHeartbeats 1000000 in
theorem part24 (v244 : BitVec 32) (v307 : FVec F S256x1024 .f32) {Q} (s0_0 : half 0 (K.Y (G + 0)) = k0_pay41 v307 W.w7 (k0_pay2 W.w6))
    (hq : St K (WtP W K.c True True) (min (G + 8) n) (G + 4) (G + 4 - 8) (G + 0) (G + 1) (G + 0) ⊢ Q ⟨k0_pay40 v307 W.w7 (k0_pay2 W.w6), (Scalar.select (Scalar.cmpi .eq 8#32 0#32) 1#32 8#32), (Scalar.remsi v244 (Scalar.select (Scalar.cmpi .eq 8#32 0#32) 1#32 8#32)), (Scalar.cmpi .ne (Scalar.remsi v244 (Scalar.select (Scalar.cmpi .eq 8#32 0#32) 1#32 8#32)) 0#32), (Scalar.xori (Scalar.cmpi .slt (Scalar.remsi v244 (Scalar.select (Scalar.cmpi .eq 8#32 0#32) 1#32 8#32)) 0#32) (Scalar.cmpi .slt (Scalar.select (Scalar.cmpi .eq 8#32 0#32) 1#32 8#32) 0#32))⟩) :
    St K (WtP W K.c True True) (min (G + 8) n) (G + 4) (G + 4 - 8) (G + 0) (G + 0) (G + 0) ⊢ Wp K.c (k0_part24 i arg1 harg1 arg2 harg2 K.A3 h3 W.A4 h4 W.A5 h5 W.A6 h6 W.A7 h7 K.A8 h8 W.A9 h9 W.A10 h10 K.A11 h11 K.A12 h12 K.S13 K.S14 v0 v2 v5 k0_hw1 k0_t1 v244 v307) Q := by
  rw [k0_part24_eq_skeleton]
  unfold k0_part24_skel
  refine sLoadP get7 ?_
  refine sLoadP get10 ?_
  have o1_2 := off59_eq v2 v5 k0_t1 0#32 (j := 0) rfl (by decide) hG (by omega)
  refine sLoadAny (kk := G + 0) 0 o1_2 (by omega) (by omega) (by omega) fun _ => ?_
  have o1_4 := off59_eq v2 v5 k0_t1 0#32 (j := 0) rfl (by decide) hG (by omega)
  refine sStoreLo (kk := G + 0) (e1' := G + 1) o1_4 s0_0 (by omega) (by omega) (by omega) (by omega) (by omega) (by omega) ?_
  exact sRet hq

set_option maxHeartbeats 1000000 in
theorem part25 (v135 : BitVec 32) (v324 : IVec S256x256 32) (v340 : BitVec 32) (v341 : BitVec 32) (v342 : BitVec 1) (v345 : BitVec 1) {Q} (s1_0 : half 1 (K.Y (G + 0)) = k0_pay42 v324)
    (hq : St K (WtP W K.c True True) (min (G + 8) n) (G + 4) (G + 4 - 8) (G + 0) (G + 1) (G + 1) ⊢ Q ⟨(Scalar.addi v135 1#32), k0_pay43 (half 0 (K.X (G + 1))) (half 1 (K.X (G + 1))), k0_pay44⟩) :
    St K (WtP W K.c True True) (min (G + 8) n) (G + 4) (G + 4 - 8) (G + 0) (G + 1) (G + 0) ⊢ Wp K.c (k0_part25 i arg1 harg1 arg2 harg2 K.A3 h3 W.A4 h4 W.A5 h5 W.A6 h6 W.A7 h7 K.A8 h8 W.A9 h9 W.A10 h10 K.A11 h11 K.A12 h12 K.S13 K.S14 v0 v2 v5 k0_hw1 k0_t1 v135 v324 v340 v341 v342 v345) Q := by
  rw [k0_part25_eq_skeleton]
  unfold k0_part25_skel
  have o1_0 := off60_eq v2 v5 k0_t1 0#32 (j := 0) rfl (by decide) hG (by omega)
  refine sLoadAny (kk := G + 0) 1 o1_0 (by omega) (by omega) (by omega) fun _ => ?_
  have o1_2 := off60_eq v2 v5 k0_t1 0#32 (j := 0) rfl (by decide) hG (by omega)
  refine sStoreHi (kk := G + 0) (e2' := G + 1) o1_2 s1_0 (by omega) (by omega) (by omega) (by omega) (by omega) (by omega) ?_
  have o1_4 := off59_eq v2 v5 k0_t1 1#32 (j := 1) rfl (by decide) hG (by omega)
  refine sLoadIn (kk := G + 1) 0 o1_4 (by omega) (by omega) (by omega) ?_
  have o1_6 := off60_eq v2 v5 k0_t1 1#32 (j := 1) rfl (by decide) hG (by omega)
  refine sLoadIn (kk := G + 1) 1 o1_6 (by omega) (by omega) (by omega) ?_
  exact sRet hq

set_option maxHeartbeats 1000000 in
theorem part26 (v380 : IVec S256x512 32) (v381 : IVec S256x512 32) {Q}
    (hq : St K (WtP W K.c True True) (min (G + 8) n) (G + 4) (G + 4 - 8) (G + 0) (G + 1) (G + 1) ⊢ Q ⟨k0_pay45 W.w7, k0_pay46 v380 v381 W.w5 (k0_pay1 W.w4), (k0_pay2 W.w6), (constant S256x1024 .f32 0x00000000#32)⟩) :
    St K (WtP W K.c True True) (min (G + 8) n) (G + 4) (G + 4 - 8) (G + 0) (G + 1) (G + 1) ⊢ Wp K.c (k0_part26 i arg1 harg1 arg2 harg2 K.A3 h3 W.A4 h4 W.A5 h5 W.A6 h6 W.A7 h7 K.A8 h8 W.A9 h9 W.A10 h10 K.A11 h11 K.A12 h12 K.S13 K.S14 v380 v381) Q := by
  rw [k0_part26_eq_skeleton]
  unfold k0_part26_skel
  refine sLoadP get5 ?_
  refine sLoadP get9 ?_
  refine sLoadP get7 ?_
  refine sLoadP get10 ?_
  exact sRet hq

set_option maxHeartbeats 1000000 in
theorem part27 (v353 : BitVec 32) (v418 : FVec F S1x1024 .f32) (v419 : FVec F S256x1024 .bf16) (v420 : Vec F S1024x1024 .bf16) (cst_234 : FVec F S256x1024 .f32) {Q} (s0_0 : half 0 (K.Y (G + 1)) = k0_pay49 v418 v419 v420 cst_234)
    (hq : St K (WtP W K.c True True) (min (G + 8) n) (G + 4) (G + 4 - 8) (G + 0) (G + 2) (G + 1) ⊢ Q (k0_pay48 v418 v419 v420 cst_234)) :
    St K (WtP W K.c True True) (min (G + 8) n) (G + 4) (G + 4 - 8) (G + 0) (G + 1) (G + 1) ⊢ Wp K.c (k0_part27 i arg1 harg1 arg2 harg2 K.A3 h3 W.A4 h4 W.A5 h5 W.A6 h6 W.A7 h7 K.A8 h8 W.A9 h9 W.A10 h10 K.A11 h11 K.A12 h12 K.S13 K.S14 v0 v2 v5 k0_hw1 k0_t1 v353 v418 v419 v420 cst_234) Q := by
  rw [k0_part27_eq_skeleton]
  unfold k0_part27_skel
  have o1_0 := off59_eq v2 v5 k0_t1 1#32 (j := 1) rfl (by decide) hG (by omega)
  refine sLoadAny (kk := G + 1) 0 o1_0 (by omega) (by omega) (by omega) fun _ => ?_
  have o1_2 := off59_eq v2 v5 k0_t1 1#32 (j := 1) rfl (by decide) hG (by omega)
  refine sStoreLo (kk := G + 1) (e1' := G + 2) o1_2 s0_0 (by omega) (by omega) (by omega) (by omega) (by omega) (by omega) ?_
  have o1_4 := off60_eq v2 v5 k0_t1 1#32 (j := 1) rfl (by decide) hG (by omega)
  refine sLoadAny (kk := G + 1) 1 o1_4 (by omega) (by omega) (by omega) fun _ => ?_
  exact sRet hq

end Cert.Kernel.Hand

end
-- ==== Proof.PartsF.lean ====
/-
  Hand-written, untrusted. Stretches of the kernel: a further four row blocks of an expert.
-/
module

public import proofs.«01_k».proof.Proof.Steps

@[expose] public section

set_option maxRecDepth 20000

noncomputable section

namespace Cert.Kernel.Hand

open Cert.Kernel Cert.Kernel.Gen
open Idealize.ShloMosaic Idealize.ShloMosaic.TcCoe Idealize.ShloMosaic.Tactic Idealize.ShloMosaic.ValueIdx
open Idealize.SL Idealize.SL.RA Idealize.SL.BI Idealize.SL.ExclCount
open scoped Idealize.SL.BI
open Idealize.SL.BI.BIBase Idealize.SL.BI.Laws Idealize.SL.ProofMode Idealize.SL.Sem

variable {F : FTy → Type} [BitOps F]

variable {K : Rings F} {W : Wts F} {i : grid0.Coords} {arg1 : Memref sig .tc .smem S33 .i32} {harg1 : arg1.IsWhole} {arg2 : Memref sig .tc .smem S1 .i32}
  {harg2 : arg2.IsWhole} {h3 : K.A3.IsWhole} {h4 : W.A4.IsWhole} {h5 : W.A5.IsWhole} {h6 : W.A6.IsWhole} {h7 : W.A7.IsWhole} {h8 : K.A8.IsWhole}
  {h9 : W.A9.IsWhole} {h10 : W.A10.IsWhole} {h11 : K.A11.IsWhole} {h12 : K.A12.IsWhole} {v0 v2 v5 : BitVec 32} {n G : ℕ} {k0_hw1 : k0_chk1 v0 v2 v5}
  {k0_t1 : Fin (k0_t1_loop v2 v5).trips} (hG : (baseT v2 k0_t1.val).toNat = G) (hg : G + 4 ≤ n) (hn : n ≤ 548) (hv : v0.toNat = n)

include hG hg hn hv

set_option maxHeartbeats 1000000 in
theorem part28 (v135 : BitVec 32) (v433 : IVec S256x256 32) {Q} (s1_0 : half 1 (K.Y (G + 1)) = k0_pay50 v433)
    (hq : St K (WtP W K.c True True) (min (G + 8) n) (G + 4) (G + 4 - 8) (G + 0) (G + 2) (G + 2) ⊢ Q ⟨(Scalar.addi v135 2#32), k0_pay51 (half 0 (K.X (G + 2))) (half 1 (K.X (G + 2)))⟩) :
    St K (WtP W K.c True True) (min (G + 8) n) (G + 4) (G + 4 - 8) (G + 0) (G + 2) (G + 1) ⊢ Wp K.c (k0_part28 i arg1 harg1 arg2 harg2 K.A3 h3 W.A4 h4 W.A5 h5 W.A6 h6 W.A7 h7 K.A8 h8 W.A9 h9 W.A10 h10 K.A11 h11 K.A12 h12 K.S13 K.S14 v0 v2 v5 k0_hw1 k0_t1 v135 v433) Q := by
  rw [k0_part28_eq_skeleton]
  unfold k0_part28_skel
  have o1_0 := off60_eq v2 v5 k0_t1 1#32 (j := 1) rfl (by decide) hG (by omega)
  refine sStoreHi (kk := G + 1) (e2' := G + 2) o1_0 s1_0 (by omega) (by omega) (by omega) (by omega) (by omega) (by omega) ?_
  have o1_2 := off59_eq v2 v5 k0_t1 2#32 (j := 2) rfl (by decide) hG (by omega)
  refine sLoadIn (kk := G + 2) 0 o1_2 (by omega) (by omega) (by omega) ?_
  have o1_4 := off60_eq v2 v5 k0_t1 2#32 (j := 2) rfl (by decide) hG (by omega)
  refine sLoadIn (kk := G + 2) 1 o1_4 (by omega) (by omega) (by omega) ?_
  exact sRet hq

set_option maxHeartbeats 1000000 in
theorem part29 (v498 : FVec F S256x1024 .bf16) {Q}
    (hq : St K (WtP W K.c True True) (min (G + 8) n) (G + 4) (G + 4 - 8) (G + 0) (G + 2) (G + 2) ⊢ Q ⟨k0_pay52 v498 W.w5 (k0_pay1 W.w4) W.w7 (k0_pay2 W.w6), k0_pay53 v498 W.w5 (k0_pay1 W.w4) W.w7 (k0_pay2 W.w6), k0_pay54⟩) :
    St K (WtP W K.c True True) (min (G + 8) n) (G + 4) (G + 4 - 8) (G + 0) (G + 2) (G + 2) ⊢ Wp K.c (k0_part29 i arg1 harg1 arg2 harg2 K.A3 h3 W.A4 h4 W.A5 h5 W.A6 h6 W.A7 h7 K.A8 h8 W.A9 h9 W.A10 h10 K.A11 h11 K.A12 h12 K.S13 K.S14 v498) Q := by
  rw [k0_part29_eq_skeleton]
  unfold k0_part29_skel
  refine sLoadP get5 ?_
  refine sLoadP get9 ?_
  refine sLoadP get7 ?_
  refine sLoadP get10 ?_
  exact sRet hq

set_option maxHeartbeats 1000000 in
theorem part30 (v135 : BitVec 32) (v462 : BitVec 32) (v535 : IVec S256x1024 32) (v536 : IVec S256x512 32) (v537 : IVec S256x512 32) {Q} (s0_0 : half 0 (K.Y (G + 2)) = k0_pay56 v535 v536 v537) (s1_1 : half 1 (K.Y (G + 2)) = k0_pay57 v535 v536 v537)
    (hq : St K (WtP W K.c True True) (min (G + 8) n) (G + 4) (G + 4 - 8) (G + 0) (G + 3) (G + 3) ⊢ Q ⟨(Scalar.addi v135 3#32), (Scalar.select (Scalar.cmpi .eq 8#32 0#32) 1#32 8#32)⟩) :
    St K (WtP W K.c True True) (min (G + 8) n) (G + 4) (G + 4 - 8) (G + 0) (G + 2) (G + 2) ⊢ Wp K.c (k0_part30 i arg1 harg1 arg2 harg2 K.A3 h3 W.A4 h4 W.A5 h5 W.A6 h6 W.A7 h7 K.A8 h8 W.A9 h9 W.A10 h10 K.A11 h11 K.A12 h12 K.S13 K.S14 v0 v2 v5 k0_hw1 k0_t1 v135 v462 v535 v536 v537) Q := by
  rw [k0_part30_eq_skeleton]
  unfold k0_part30_skel
  have o1_0 := off59_eq v2 v5 k0_t1 2#32 (j := 2) rfl (by decide) hG (by omega)
  refine sLoadAny (kk := G + 2) 0 o1_0 (by omega) (by omega) (by omega) fun _ => ?_
  have o1_2 := off59_eq v2 v5 k0_t1 2#32 (j := 2) rfl (by decide) hG (by omega)
  refine sStoreLo (kk := G + 2) (e1' := G + 3) o1_2 s0_0 (by omega) (by omega) (by omega) (by omega) (by omega) (by omega) ?_
  have o1_4 := off60_eq v2 v5 k0_t1 2#32 (j := 2) rfl (by decide) hG (by omega)
  refine sLoadAny (kk := G + 2) 1 o1_4 (by omega) (by omega) (by omega) fun _ => ?_
  have o1_6 := off60_eq v2 v5 k0_t1 2#32 (j := 2) rfl (by decide) hG (by omega)
  refine sStoreHi (kk := G + 2) (e2' := G + 3) o1_6 s1_1 (by omega) (by omega) (by omega) (by omega) (by omega) (by omega) ?_
  exact sRet hq

set_option maxHeartbeats 1000000 in
theorem part31 (v571 : BitVec 32) (v573 : BitVec 32) {Q}
    (hq : St K (WtP W K.c True True) (min (G + 8) n) (G + 4) (G + 4 - 8) (G + 0) (G + 3) (G + 3) ⊢ Q ⟨k0_pay58 (half 0 (K.X (G + 3))) (half 1 (K.X (G + 3))), k0_pay59 W.w5, (k0_pay1 W.w4), (constant S256x2048 .f32 0x00000000#32)⟩) :
    St K (WtP W K.c True True) (min (G + 8) n) (G + 4) (G + 4 - 8) (G + 0) (G + 3) (G + 3) ⊢ Wp K.c (k0_part31 i arg1 harg1 arg2 harg2 K.A3 h3 W.A4 h4 W.A5 h5 W.A6 h6 W.A7 h7 K.A8 h8 W.A9 h9 W.A10 h10 K.A11 h11 K.A12 h12 K.S13 K.S14 v0 v2 v5 k0_hw1 k0_t1 v571 v573) Q := by
  rw [k0_part31_eq_skeleton]
  unfold k0_part31_skel
  have o1_0 := off59_eq v2 v5 k0_t1 3#32 (j := 3) rfl (by decide) hG (by omega)
  refine sLoadIn (kk := G + 3) 0 o1_0 (by omega) (by omega) (by omega) ?_
  have o1_2 := off60_eq v2 v5 k0_t1 3#32 (j := 3) rfl (by decide) hG (by omega)
  refine sLoadIn (kk := G + 3) 1 o1_2 (by omega) (by omega) (by omega) ?_
  refine sLoadP get5 ?_
  refine sLoadP get9 ?_
  exact sRet hq

set_option maxHeartbeats 1000000 in
theorem part32 (v607 : FVec F S256x1024 .bf16) (v609 : FVec F S1x2048 .f32) (v610 : Vec F S1024x2048 .bf16) (cst_340 : FVec F S256x2048 .f32) {Q}
    (hq : St K (WtP W K.c True True) (min (G + 8) n) (G + 4) (G + 4 - 8) (G + 0) (G + 3) (G + 3) ⊢ Q ⟨k0_pay61 v607 v609 v610 cst_340 W.w7 (k0_pay2 W.w6), k0_pay62 v607 v609 v610 cst_340 W.w7 (k0_pay2 W.w6), 8#32, (Scalar.cmpi .eq 8#32 0#32), 1#32⟩) :
    St K (WtP W K.c True True) (min (G + 8) n) (G + 4) (G + 4 - 8) (G + 0) (G + 3) (G + 3) ⊢ Wp K.c (k0_part32 i arg1 harg1 arg2 harg2 K.A3 h3 W.A4 h4 W.A5 h5 W.A6 h6 W.A7 h7 K.A8 h8 W.A9 h9 W.A10 h10 K.A11 h11 K.A12 h12 K.S13 K.S14 v607 v609 v610 cst_340) Q := by
  rw [k0_part32_eq_skeleton]
  unfold k0_part32_skel
  refine sLoadP get7 ?_
  refine sLoadP get10 ?_
  exact sRet hq

set_option maxHeartbeats 1000000 in
theorem part33 (v135 : BitVec 32) (v571 : BitVec 32) (v650 : IVec S256x256 32) (v651 : IVec S256x256 32) (c8_i32_356 : BitVec 32) (v652 : BitVec 1) (c1_i32_358 : BitVec 32) {Q} (s0_0 : half 0 (K.Y (G + 3)) = k0_pay63 v650) (s1_1 : half 1 (K.Y (G + 3)) = k0_pay64 v651)
    (hq : St K (WtP W K.c True True) (min (G + 8) n) (G + 4) (G + 4 - 8) (G + 0) (G + 4) (G + 4) ⊢ Q ⟨(Scalar.addi v135 0#32), (Scalar.select (Scalar.cmpi .eq 8#32 0#32) 1#32 8#32), (Scalar.remsi (Scalar.addi v135 0#32) (Scalar.select (Scalar.cmpi .eq 8#32 0#32) 1#32 8#32)), (Scalar.cmpi .ne (Scalar.remsi (Scalar.addi v135 0#32) (Scalar.select (Scalar.cmpi .eq 8#32 0#32) 1#32 8#32)) 0#32), (Scalar.cmpi .slt (Scalar.remsi (Scalar.addi v135 0#32) (Scalar.select (Scalar.cmpi .eq 8#32 0#32) 1#32 8#32)) 0#32), 0#32⟩) :
    St K (WtP W K.c True True) (min (G + 8) n) (G + 4) (G + 4 - 8) (G + 0) (G + 3) (G + 3) ⊢ Wp K.c (k0_part33 i arg1 harg1 arg2 harg2 K.A3 h3 W.A4 h4 W.A5 h5 W.A6 h6 W.A7 h7 K.A8 h8 W.A9 h9 W.A10 h10 K.A11 h11 K.A12 h12 K.S13 K.S14 v0 v2 v5 k0_hw1 k0_t1 v135 v571 v650 v651 c8_i32_356 v652 c1_i32_358) Q := by
  rw [k0_part33_eq_skeleton]
  unfold k0_part33_skel
  have o1_0 := off59_eq v2 v5 k0_t1 3#32 (j := 3) rfl (by decide) hG (by omega)
  refine sLoadAny (kk := G + 3) 0 o1_0 (by omega) (by omega) (by omega) fun _ => ?_
  have o1_2 := off59_eq v2 v5 k0_t1 3#32 (j := 3) rfl (by decide) hG (by omega)
  refine sStoreLo (kk := G + 3) (e1' := G + 4) o1_2 s0_0 (by omega) (by omega) (by omega) (by omega) (by omega) (by omega) ?_
  have o1_4 := off60_eq v2 v5 k0_t1 3#32 (j := 3) rfl (by decide) hG (by omega)
  refine sLoadAny (kk := G + 3) 1 o1_4 (by omega) (by omega) (by omega) fun _ => ?_
  have o1_6 := off60_eq v2 v5 k0_t1 3#32 (j := 3) rfl (by decide) hG (by omega)
  refine sStoreHi (kk := G + 3) (e2' := G + 4) o1_6 s1_1 (by omega) (by omega) (by omega) (by omega) (by omega) (by omega) ?_
  exact sRet hq

set_option maxHeartbeats 1000000 in
theorem part34 (v135 : BitVec 32) (v680 : BitVec 32) (v684 : BitVec 32) (v685 : BitVec 32) (v686 : BitVec 1) (v687 : BitVec 1) (c0_i32_381 : BitVec 32) {Q}
    (hq : St K (WtP W K.c True True) (min (G + 8) n) (G + 4) (G + 4 - 8) (G + 1) (G + 4) (G + 4) ⊢ Q ⟨(Scalar.select (Scalar.cmpi .eq 8#32 0#32) 1#32 8#32), (Scalar.remsi (Scalar.addi v135 1#32) (Scalar.select (Scalar.cmpi .eq 8#32 0#32) 1#32 8#32)), 0#32⟩) :
    St K (WtP W K.c True True) (min (G + 8) n) (G + 4) (G + 4 - 8) (G + 0) (G + 4) (G + 4) ⊢ Wp K.c (k0_part34 i arg1 harg1 arg2 harg2 K.A3 h3 W.A4 h4 W.A5 h5 W.A6 h6 W.A7 h7 K.A8 h8 W.A9 h9 W.A10 h10 K.A11 h11 K.A12 h12 K.S13 K.S14 v0 v2 v5 k0_hw1 k0_t1 v135 v680 v684 v685 v686 v687 c0_i32_381) Q := by
  rw [k0_part34_eq_skeleton]
  unfold k0_part34_skel
  have o1_0 := off32_eq v2 v5 k0_t1 0#32 (j := 0) rfl (by decide) hG (by omega)
  have o2_0 := off33_eq v2 v5 k0_t1 0#32 (j := 0) rfl (by decide) hG (by omega)
  have o3_0 := off34_eq v2 v5 k0_t1 0#32 (j := 0) rfl (by decide) hG (by omega)
  refine sIssueOut (kk := G + 0) (d' := G + 1) o1_0 o2_0 o3_0 (by omega) (by omega) (by omega) (by omega) (by omega) (by omega) (by omega) ?_
  exact sRet hq

set_option maxHeartbeats 1000000 in
theorem part35 (v135 : BitVec 32) (v722 : BitVec 32) (v723 : BitVec 32) (c0_i32_404 : BitVec 32) {Q}
    (hq : St K (WtP W K.c True True) (min (G + 8) n) (G + 4) (G + 4 - 8) (G + 2) (G + 4) (G + 4) ⊢ Q ⟨⟩) :
    St K (WtP W K.c True True) (min (G + 8) n) (G + 4) (G + 4 - 8) (G + 1) (G + 4) (G + 4) ⊢ Wp K.c (k0_part35 i arg1 harg1 arg2 harg2 K.A3 h3 W.A4 h4 W.A5 h5 W.A6 h6 W.A7 h7 K.A8 h8 W.A9 h9 W.A10 h10 K.A11 h11 K.A12 h12 K.S13 K.S14 v0 v2 v5 k0_hw1 k0_t1 v135 v722 v723 c0_i32_404) Q := by
  rw [k0_part35_eq_skeleton]
  unfold k0_part35_skel
  have o1_0 := off32_eq v2 v5 k0_t1 1#32 (j := 1) rfl (by decide) hG (by omega)
  have o2_0 := off33_eq v2 v5 k0_t1 1#32 (j := 1) rfl (by decide) hG (by omega)
  have o3_0 := off34_eq v2 v5 k0_t1 1#32 (j := 1) rfl (by decide) hG (by omega)
  refine sIssueOut (kk := G + 1) (d' := G + 2) o1_0 o2_0 o3_0 (by omega) (by omega) (by omega) (by omega) (by omega) (by omega) (by omega) ?_
  exact sRet hq

end Cert.Kernel.Hand

end
-- ==== Proof.PartsG.lean ====
/-
  Hand-written, untrusted. Stretches of the kernel: two remaining row blocks of an expert.
-/
module

public import proofs.«01_k».proof.Proof.Steps

@[expose] public section

set_option maxRecDepth 20000

noncomputable section

namespace Cert.Kernel.Hand

open Cert.Kernel Cert.Kernel.Gen
open Idealize.ShloMosaic Idealize.ShloMosaic.TcCoe Idealize.ShloMosaic.Tactic Idealize.ShloMosaic.ValueIdx
open Idealize.SL Idealize.SL.RA Idealize.SL.BI Idealize.SL.ExclCount
open scoped Idealize.SL.BI
open Idealize.SL.BI.BIBase Idealize.SL.BI.Laws Idealize.SL.ProofMode Idealize.SL.Sem

variable {F : FTy → Type} [BitOps F]

variable {K : Rings F} {W : Wts F} {i : grid0.Coords} {arg1 : Memref sig .tc .smem S33 .i32} {harg1 : arg1.IsWhole} {arg2 : Memref sig .tc .smem S1 .i32}
  {harg2 : arg2.IsWhole} {h3 : K.A3.IsWhole} {h4 : W.A4.IsWhole} {h5 : W.A5.IsWhole} {h6 : W.A6.IsWhole} {h7 : W.A7.IsWhole} {h8 : K.A8.IsWhole}
  {h9 : W.A9.IsWhole} {h10 : W.A10.IsWhole} {h11 : K.A11.IsWhole} {h12 : K.A12.IsWhole} {v0 v2 v5 : BitVec 32} {n G : ℕ} {k0_hw1 : k0_chk1 v0 v2 v5}
  {k0_h32 : k0_cond32 v2 v5 = 1#1} (hG : (baseP v2 v5).toNat = G) (hg : G + 2 ≤ n) (hn : n ≤ 548) (hv : v0.toNat = n)

include hG hg hn hv

set_option maxHeartbeats 1000000 in
theorem part55 (v40 : BitVec 32) {Q}
    (hq : St K (WtP W K.c True True) (min (G + 4) n) (G + 1) (G + 0 - 8) (G + 0) (G + 0) (G + 0) ⊢ Q (Scalar.addi v2 v40)) :
    St K (WtP W K.c True True) (min (G + 4) n) (G + 0) (G + 0 - 8) (G + 0) (G + 0) (G + 0) ⊢ Wp K.c (k0_part55 i arg1 harg1 arg2 harg2 K.A3 h3 W.A4 h4 W.A5 h5 W.A6 h6 W.A7 h7 K.A8 h8 W.A9 h9 W.A10 h10 K.A11 h11 K.A12 h12 K.S13 K.S14 v0 v2 v5 k0_hw1 v40 k0_h32) Q := by
  rw [k0_part55_eq_skeleton]
  unfold k0_part55_skel
  have o1_0 := off90_eq v2 v5 0#32 (j := 0) rfl (by decide) hG (by omega)
  have o2_0 := off91_eq v2 v5 0#32 (j := 0) rfl (by decide) hG (by omega)
  have o3_0 := off92_eq v2 v5 0#32 (j := 0) rfl (by decide) hG (by omega)
  refine sLandIn (kk := G + 0) (b' := G + 1) o1_0 o2_0 o3_0 (by omega) (by omega) (by omega) (by omega) (by omega) ?_
  exact sRet hq

set_option maxHeartbeats 1000000 in
theorem part56 (v134 : BitVec 32) {Q}
    (hq : St K (WtP W K.c True True) (min (G + 6) n) (G + 2) (G + 2 - 8) (G + 0) (G + 0) (G + 0) ⊢ Q (Scalar.addi v134 0#32)) :
    St K (WtP W K.c True True) (min (G + 4) n) (G + 1) (G + 0 - 8) (G + 0) (G + 0) (G + 0) ⊢ Wp K.c (k0_part56 i arg1 harg1 arg2 harg2 K.A3 h3 W.A4 h4 W.A5 h5 W.A6 h6 W.A7 h7 K.A8 h8 W.A9 h9 W.A10 h10 K.A11 h11 K.A12 h12 K.S13 K.S14 v0 v2 v5 k0_hw1 k0_h32 v134) Q := by
  rw [k0_part56_eq_skeleton]
  unfold k0_part56_skel
  have o1_0 := off90_eq v2 v5 1#32 (j := 1) rfl (by decide) hG (by omega)
  have o2_0 := off91_eq v2 v5 1#32 (j := 1) rfl (by decide) hG (by omega)
  have o3_0 := off92_eq v2 v5 1#32 (j := 1) rfl (by decide) hG (by omega)
  refine sLandIn (kk := G + 1) (b' := G + 2) o1_0 o2_0 o3_0 (by omega) (by omega) (by omega) (by omega) (by omega) ?_
  have o1_4 := off93_eq v2 v5 hG (by omega)
  have o2_4 := off94_eq v2 v5 hG (by omega)
  have o3_4 := off95_eq v2 v5 hG (by omega)
  have o4_4 := cond33_eq v0 v2 v5 hG (by omega) hv (by omega)
  refine sCIssueIn (kk := G + 4 + 0) (n := n) (a' := min (G + 5) n) o4_4 o1_4 o2_4 o3_4 (by omega) (by omega) (by omega) (by omega) (by omega) ?_
  have o1_9 := off96_eq v2 v5 hG (by omega)
  have o2_9 := off97_eq v2 v5 hG (by omega)
  have o3_9 := off98_eq v2 v5 hG (by omega)
  have o4_9 := cond34_eq v0 v2 v5 hG (by omega) hv (by omega)
  refine sCIssueIn (kk := G + 4 + 1) (n := n) (a' := min (G + 6) n) o4_9 o1_9 o2_9 o3_9 (by omega) (by omega) (by omega) (by omega) (by omega) ?_
  have o1_14 := off99_eq v2 v5 hG (by omega)
  have o2_14 := off101_eq v2 v5 hG (by omega)
  have o3_14 : 8 ≤ G + 0 → _ := fun h8 => off100_eq v2 v5 hG (by omega) h8
  have o4_14 := cond35_eq v2 v5 hG (by omega)
  refine sCLandOut (kk := G + 0) (cc' := G + 1 - 8) o4_14 (fun _ => o1_14) (fun _ => o2_14) o3_14 (by omega) (by omega) (by omega) (by omega) (by omega) (by omega) (by omega) ?_
  have o1_19 := off102_eq v2 v5 hG (by omega)
  have o2_19 := off104_eq v2 v5 hG (by omega)
  have o3_19 : 8 ≤ G + 1 → _ := fun h8 => off103_eq v2 v5 hG (by omega) h8
  have o4_19 := cond36_eq v2 v5 hG (by omega)
  refine sCLandOut (kk := G + 1) (cc' := G + 2 - 8) o4_19 (fun _ => o1_19) (fun _ => o2_19) o3_19 (by omega) (by omega) (by omega) (by omega) (by omega) (by omega) (by omega) ?_
  exact sRet hq

set_option maxHeartbeats 1000000 in
theorem part57 (v189 : BitVec 32) {Q}
    (hq : St K (WtP W K.c True True) (min (G + 6) n) (G + 2) (G + 2 - 8) (G + 0) (G + 0) (G + 0) ⊢ Q ⟨k0_pay94 (half 0 (K.X (G + 0))) (half 1 (K.X (G + 0))) W.w5 (k0_pay1 W.w4), k0_pay95 (half 0 (K.X (G + 0))) (half 1 (K.X (G + 0))) W.w5 (k0_pay1 W.w4)⟩) :
    St K (WtP W K.c True True) (min (G + 6) n) (G + 2) (G + 2 - 8) (G + 0) (G + 0) (G + 0) ⊢ Wp K.c (k0_part57 i arg1 harg1 arg2 harg2 K.A3 h3 W.A4 h4 W.A5 h5 W.A6 h6 W.A7 h7 K.A8 h8 W.A9 h9 W.A10 h10 K.A11 h11 K.A12 h12 K.S13 K.S14 v0 v2 v5 k0_hw1 k0_h32 v189) Q := by
  rw [k0_part57_eq_skeleton]
  unfold k0_part57_skel
  have o1_0 := off105_eq v2 v5 0#32 (j := 0) rfl (by decide) hG (by omega)
  refine sLoadIn (kk := G + 0) 0 o1_0 (by omega) (by omega) (by omega) ?_
  have o1_2 := off106_eq v2 v5 0#32 (j := 0) rfl (by decide) hG (by omega)
  refine sLoadIn (kk := G + 0) 1 o1_2 (by omega) (by omega) (by omega) ?_
  refine sLoadP get5 ?_
  refine sLoadP get9 ?_
  exact sRet hq

set_option maxHeartbeats 1000000 in
theorem part58 (v189 : BitVec 32) (v234 : FVec F S256x1024 .f32) (v239 : FVec F S256x1024 .f32) {Q}
    (hq : St K (WtP W K.c True True) (min (G + 6) n) (G + 2) (G + 2 - 8) (G + 0) (G + 0) (G + 0) ⊢ Q ⟨k0_pay97 v234 v239 W.w7 (k0_pay2 W.w6), k0_pay98 v234 v239 W.w7 (k0_pay2 W.w6)⟩) :
    St K (WtP W K.c True True) (min (G + 6) n) (G + 2) (G + 2 - 8) (G + 0) (G + 0) (G + 0) ⊢ Wp K.c (k0_part58 i arg1 harg1 arg2 harg2 K.A3 h3 W.A4 h4 W.A5 h5 W.A6 h6 W.A7 h7 K.A8 h8 W.A9 h9 W.A10 h10 K.A11 h11 K.A12 h12 K.S13 K.S14 v189 v234 v239) Q := by
  rw [k0_part58_eq_skeleton]
  unfold k0_part58_skel
  refine sLoadP get7 ?_
  refine sLoadP get10 ?_
  exact sRet hq

set_option maxHeartbeats 1000000 in
theorem part59 (v134 : BitVec 32) (v189 : BitVec 32) (v268 : IVec S256x256 32) (v269 : IVec S256x256 32) {Q} (s0_0 : half 0 (K.Y (G + 0)) = k0_pay99 v268) (s1_1 : half 1 (K.Y (G + 0)) = k0_pay100 v269)
    (hq : St K (WtP W K.c True True) (min (G + 6) n) (G + 2) (G + 2 - 8) (G + 0) (G + 1) (G + 1) ⊢ Q ⟨(Scalar.addi v134 1#32), k0_pay101 (half 0 (K.X (G + 1))), (Scalar.select (Scalar.cmpi .eq 8#32 0#32) 1#32 8#32), (Scalar.remsi (Scalar.addi v134 1#32) (Scalar.select (Scalar.cmpi .eq 8#32 0#32) 1#32 8#32))⟩) :
    St K (WtP W K.c True True) (min (G + 6) n) (G + 2) (G + 2 - 8) (G + 0) (G + 0) (G + 0) ⊢ Wp K.c (k0_part59 i arg1 harg1 arg2 harg2 K.A3 h3 W.A4 h4 W.A5 h5 W.A6 h6 W.A7 h7 K.A8 h8 W.A9 h9 W.A10 h10 K.A11 h11 K.A12 h12 K.S13 K.S14 v0 v2 v5 k0_hw1 k0_h32 v134 v189 v268 v269) Q := by
  rw [k0_part59_eq_skeleton]
  unfold k0_part59_skel
  have o1_0 := off105_eq v2 v5 0#32 (j := 0) rfl (by decide) hG (by omega)
  refine sLoadAny (kk := G + 0) 0 o1_0 (by omega) (by omega) (by omega) fun _ => ?_
  have o1_2 := off105_eq v2 v5 0#32 (j := 0) rfl (by decide) hG (by omega)
  refine sStoreLo (kk := G + 0) (e1' := G + 1) o1_2 s0_0 (by omega) (by omega) (by omega) (by omega) (by omega) (by omega) ?_
  have o1_4 := off106_eq v2 v5 0#32 (j := 0) rfl (by decide) hG (by omega)
  refine sLoadAny (kk := G + 0) 1 o1_4 (by omega) (by omega) (by omega) fun _ => ?_
  have o1_6 := off106_eq v2 v5 0#32 (j := 0) rfl (by decide) hG (by omega)
  refine sStoreHi (kk := G + 0) (e2' := G + 1) o1_6 s1_1 (by omega) (by omega) (by omega) (by omega) (by omega) (by omega) ?_
  have o1_8 := off105_eq v2 v5 1#32 (j := 1) rfl (by decide) hG (by omega)
  refine sLoadIn (kk := G + 1) 0 o1_8 (by omega) (by omega) (by omega) ?_
  exact sRet hq

set_option maxHeartbeats 1000000 in
theorem part60 (v311 : IVec S256x256 32) (v313 : BitVec 32) (v314 : BitVec 32) {Q}
    (hq : St K (WtP W K.c True True) (min (G + 6) n) (G + 2) (G + 2 - 8) (G + 0) (G + 1) (G + 1) ⊢ Q ⟨k0_pay104 v311 (half 1 (K.X (G + 1))) W.w5 (k0_pay1 W.w4), k0_pay105 v311 (half 1 (K.X (G + 1))) W.w5 (k0_pay1 W.w4), k0_pay106 (F := F)⟩) :
    St K (WtP W K.c True True) (min (G + 6) n) (G + 2) (G + 2 - 8) (G + 0) (G + 1) (G + 1) ⊢ Wp K.c (k0_part60 i arg1 harg1 arg2 harg2 K.A3 h3 W.A4 h4 W.A5 h5 W.A6 h6 W.A7 h7 K.A8 h8 W.A9 h9 W.A10 h10 K.A11 h11 K.A12 h12 K.S13 K.S14 v0 v2 v5 k0_hw1 k0_h32 v311 v313 v314) Q := by
  rw [k0_part60_eq_skeleton]
  unfold k0_part60_skel
  have o1_0 := off106_eq v2 v5 1#32 (j := 1) rfl (by decide) hG (by omega)
  refine sLoadIn (kk := G + 1) 1 o1_0 (by omega) (by omega) (by omega) ?_
  refine sLoadP get5 ?_
  refine sLoadP get9 ?_
  exact sRet hq

set_option maxHeartbeats 1000000 in
theorem part61 (v298 : BitVec 32) (v351 : FVec F S256x1024 .f32) (v353 : FVec F S256x1024 .f32) (v354 : FVec F S256x1024 .f32) {Q} (s0_0 : half 0 (K.Y (G + 1)) = k0_pay109 v351 v353 v354 W.w7 (k0_pay2 W.w6))
    (hq : St K (WtP W K.c True True) (min (G + 6) n) (G + 2) (G + 2 - 8) (G + 0) (G + 2) (G + 1) ⊢ Q ⟨k0_pay108 v351 v353 v354 W.w7 (k0_pay2 W.w6), 8#32, (Scalar.cmpi .eq 8#32 0#32)⟩) :
    St K (WtP W K.c True True) (min (G + 6) n) (G + 2) (G + 2 - 8) (G + 0) (G + 1) (G + 1) ⊢ Wp K.c (k0_part61 i arg1 harg1 arg2 harg2 K.A3 h3 W.A4 h4 W.A5 h5 W.A6 h6 W.A7 h7 K.A8 h8 W.A9 h9 W.A10 h10 K.A11 h11 K.A12 h12 K.S13 K.S14 v0 v2 v5 k0_hw1 k0_h32 v298 v351 v353 v354) Q := by
  rw [k0_part61_eq_skeleton]
  unfold k0_part61_skel
  refine sLoadP get7 ?_
  refine sLoadP get10 ?_
  have o1_2 := off105_eq v2 v5 1#32 (j := 1) rfl (by decide) hG (by omega)
  refine sLoadAny (kk := G + 1) 0 o1_2 (by omega) (by omega) (by omega) fun _ => ?_
  have o1_4 := off105_eq v2 v5 1#32 (j := 1) rfl (by decide) hG (by omega)
  refine sStoreLo (kk := G + 1) (e1' := G + 2) o1_4 s0_0 (by omega) (by omega) (by omega) (by omega) (by omega) (by omega) ?_
  exact sRet hq

set_option maxHeartbeats 1000000 in
theorem part62 (v134 : BitVec 32) (v298 : BitVec 32) (v378 : IVec S256x256 32) (c8_i32_207 : BitVec 32) (v393 : BitVec 1) {Q} (s1_0 : half 1 (K.Y (G + 1)) = k0_pay110 v378)
    (hq : St K (WtP W K.c True True) (min (G + 6) n) (G + 2) (G + 2 - 8) (G + 0) (G + 2) (G + 2) ⊢ Q ⟨⟩) :
    St K (WtP W K.c True True) (min (G + 6) n) (G + 2) (G + 2 - 8) (G + 0) (G + 2) (G + 1) ⊢ Wp K.c (k0_part62 i arg1 harg1 arg2 harg2 K.A3 h3 W.A4 h4 W.A5 h5 W.A6 h6 W.A7 h7 K.A8 h8 W.A9 h9 W.A10 h10 K.A11 h11 K.A12 h12 K.S13 K.S14 v0 v2 v5 k0_hw1 k0_h32 v134 v298 v378 c8_i32_207 v393) Q := by
  rw [k0_part62_eq_skeleton]
  unfold k0_part62_skel
  have o1_0 := off106_eq v2 v5 1#32 (j := 1) rfl (by decide) hG (by omega)
  refine sLoadAny (kk := G + 1) 1 o1_0 (by omega) (by omega) (by omega) fun _ => ?_
  have o1_2 := off106_eq v2 v5 1#32 (j := 1) rfl (by decide) hG (by omega)
  refine sStoreHi (kk := G + 1) (e2' := G + 2) o1_2 s1_0 (by omega) (by omega) (by omega) (by omega) (by omega) (by omega) ?_
  exact sRet hq

end Cert.Kernel.Hand

end
-- ==== Proof.PartsH.lean ====
/-
  Hand-written, untrusted. Stretches of the kernel: a last single row block of an expert.
-/
module

public import proofs.«01_k».proof.Proof.Steps

@[expose] public section

set_option maxRecDepth 20000

noncomputable section

namespace Cert.Kernel.Hand

open Cert.Kernel Cert.Kernel.Gen
open Idealize.ShloMosaic Idealize.ShloMosaic.TcCoe Idealize.ShloMosaic.Tactic Idealize.ShloMosaic.ValueIdx
open Idealize.SL Idealize.SL.RA Idealize.SL.BI Idealize.SL.ExclCount
open scoped Idealize.SL.BI
open Idealize.SL.BI.BIBase Idealize.SL.BI.Laws Idealize.SL.ProofMode Idealize.SL.Sem

variable {F : FTy → Type} [BitOps F]

variable {K : Rings F} {W : Wts F} {i : grid0.Coords} {arg1 : Memref sig .tc .smem S33 .i32} {harg1 : arg1.IsWhole} {arg2 : Memref sig .tc .smem S1 .i32}
  {harg2 : arg2.IsWhole} {h3 : K.A3.IsWhole} {h4 : W.A4.IsWhole} {h5 : W.A5.IsWhole} {h6 : W.A6.IsWhole} {h7 : W.A7.IsWhole} {h8 : K.A8.IsWhole}
  {h9 : W.A9.IsWhole} {h10 : W.A10.IsWhole} {h11 : K.A11.IsWhole} {h12 : K.A12.IsWhole} {v0 v2 v5 : BitVec 32} {n G : ℕ} {k0_hw1 : k0_chk1 v0 v2 v5}
  {k0_h37 : k0_cond37 v2 v5 = 1#1} (hG : (baseS v2 v5).toNat = G) (hg : G + 1 ≤ n) (hn : n ≤ 548) (hv : v0.toNat = n)

include hG hg hn hv

set_option maxHeartbeats 1000000 in
theorem part64 (v100 : BitVec 32) {Q}
    (hq : St K (WtP W K.c True True) (min (G + 5) n) (G + 1) (G + 1 - 8) (G + 0) (G + 0) (G + 0) ⊢ Q ⟨(Scalar.addi v2 v100), (Scalar.addi (Scalar.addi v2 v100) 0#32), (Scalar.select (Scalar.cmpi .eq 8#32 0#32) 1#32 8#32), (Scalar.remsi (Scalar.addi (Scalar.addi v2 v100) 0#32) (Scalar.select (Scalar.cmpi .eq 8#32 0#32) 1#32 8#32)), (Scalar.cmpi .ne (Scalar.remsi (Scalar.addi (Scalar.addi v2 v100) 0#32) (Scalar.select (Scalar.cmpi .eq 8#32 0#32) 1#32 8#32)) 0#32)⟩) :
    St K (WtP W K.c True True) (min (G + 4) n) (G + 0) (G + 0 - 8) (G + 0) (G + 0) (G + 0) ⊢ Wp K.c (k0_part64 i arg1 harg1 arg2 harg2 K.A3 h3 W.A4 h4 W.A5 h5 W.A6 h6 W.A7 h7 K.A8 h8 W.A9 h9 W.A10 h10 K.A11 h11 K.A12 h12 K.S13 K.S14 v0 v2 v5 k0_hw1 v100 k0_h37) Q := by
  rw [k0_part64_eq_skeleton]
  unfold k0_part64_skel
  have o1_0 := off107_eq v2 v5 hG (by omega)
  have o2_0 := off108_eq v2 v5 hG (by omega)
  have o3_0 := off109_eq v2 v5 hG (by omega)
  refine sLandIn (kk := G + 0) (b' := G + 1) o1_0 o2_0 o3_0 (by omega) (by omega) (by omega) (by omega) (by omega) ?_
  have o1_4 := off110_eq v2 v5 hG (by omega)
  have o2_4 := off111_eq v2 v5 hG (by omega)
  have o3_4 := off112_eq v2 v5 hG (by omega)
  have o4_4 := cond38_eq v0 v2 v5 hG (by omega) hv (by omega)
  refine sCIssueIn (kk := G + 4 + 0) (n := n) (a' := min (G + 5) n) o4_4 o1_4 o2_4 o3_4 (by omega) (by omega) (by omega) (by omega) (by omega) ?_
  have o1_9 := off113_eq v2 v5 hG (by omega)
  have o2_9 := off115_eq v2 v5 hG (by omega)
  have o3_9 : 8 ≤ G + 0 → _ := fun h8 => off114_eq v2 v5 hG (by omega) h8
  have o4_9 := cond39_eq v2 v5 hG (by omega)
  refine sCLandOut (kk := G + 0) (cc' := G + 1 - 8) o4_9 (fun _ => o1_9) (fun _ => o2_9) o3_9 (by omega) (by omega) (by omega) (by omega) (by omega) (by omega) (by omega) ?_
  exact sRet hq

set_option maxHeartbeats 1000000 in
theorem part65 (v162 : BitVec 32) (v164 : BitVec 32) (v165 : BitVec 32) (v166 : BitVec 1) {Q}
    (hq : St K (WtP W K.c True True) (min (G + 5) n) (G + 1) (G + 1 - 8) (G + 0) (G + 0) (G + 0) ⊢ Q (k0_pay111 (half 0 (K.X (G + 0))) (half 1 (K.X (G + 0))) W.w5 (k0_pay1 W.w4))) :
    St K (WtP W K.c True True) (min (G + 5) n) (G + 1) (G + 1 - 8) (G + 0) (G + 0) (G + 0) ⊢ Wp K.c (k0_part65 i arg1 harg1 arg2 harg2 K.A3 h3 W.A4 h4 W.A5 h5 W.A6 h6 W.A7 h7 K.A8 h8 W.A9 h9 W.A10 h10 K.A11 h11 K.A12 h12 K.S13 K.S14 v0 v2 v5 k0_hw1 k0_h37 v162 v164 v165 v166) Q := by
  rw [k0_part65_eq_skeleton]
  unfold k0_part65_skel
  have o1_0 := off116_eq v2 v5 hG (by omega)
  refine sLoadIn (kk := G + 0) 0 o1_0 (by omega) (by omega) (by omega) ?_
  have o1_2 := off117_eq v2 v5 hG (by omega)
  refine sLoadIn (kk := G + 0) 1 o1_2 (by omega) (by omega) (by omega) ?_
  refine sLoadP get5 ?_
  refine sLoadP get9 ?_
  exact sRet hq

set_option maxHeartbeats 1000000 in
theorem part66 (v162 : BitVec 32) (v204 : FVec F S256x2048 .f32) {Q}
    (hq : St K (WtP W K.c True True) (min (G + 5) n) (G + 1) (G + 1 - 8) (G + 0) (G + 0) (G + 0) ⊢ Q ⟨k0_pay113 v204 W.w7 (k0_pay2 W.w6), k0_pay114 v204 W.w7 (k0_pay2 W.w6), (Scalar.select (Scalar.cmpi .eq 8#32 0#32) 1#32 8#32), (Scalar.remsi v162 (Scalar.select (Scalar.cmpi .eq 8#32 0#32) 1#32 8#32)), 0#32⟩) :
    St K (WtP W K.c True True) (min (G + 5) n) (G + 1) (G + 1 - 8) (G + 0) (G + 0) (G + 0) ⊢ Wp K.c (k0_part66 i arg1 harg1 arg2 harg2 K.A3 h3 W.A4 h4 W.A5 h5 W.A6 h6 W.A7 h7 K.A8 h8 W.A9 h9 W.A10 h10 K.A11 h11 K.A12 h12 K.S13 K.S14 v162 v204) Q := by
  rw [k0_part66_eq_skeleton]
  unfold k0_part66_skel
  refine sLoadP get7 ?_
  refine sLoadP get10 ?_
  exact sRet hq

set_option maxHeartbeats 1000000 in
theorem part67 (v134 : BitVec 32) (v162 : BitVec 32) (v241 : IVec S256x256 32) (v242 : IVec S256x256 32) (v244 : BitVec 32) (v245 : BitVec 32) (c0_i32_122 : BitVec 32) {Q} (s0_0 : half 0 (K.Y (G + 0)) = k0_pay115 v241) (s1_1 : half 1 (K.Y (G + 0)) = k0_pay116 v242)
    (hq : St K (WtP W K.c True True) (min (G + 5) n) (G + 1) (G + 1 - 8) (G + 0) (G + 1) (G + 1) ⊢ Q ⟨(Scalar.addi v134 0#32), (Scalar.select (Scalar.cmpi .eq 8#32 0#32) 1#32 8#32), (Scalar.remsi (Scalar.addi v134 0#32) (Scalar.select (Scalar.cmpi .eq 8#32 0#32) 1#32 8#32)), (Scalar.andi (Scalar.xori (Scalar.cmpi .slt (Scalar.remsi (Scalar.addi v134 0#32) (Scalar.select (Scalar.cmpi .eq 8#32 0#32) 1#32 8#32)) 0#32) (Scalar.cmpi .slt (Scalar.select (Scalar.cmpi .eq 8#32 0#32) 1#32 8#32) 0#32)) (Scalar.cmpi .ne (Scalar.remsi (Scalar.addi v134 0#32) (Scalar.select (Scalar.cmpi .eq 8#32 0#32) 1#32 8#32)) 0#32))⟩) :
    St K (WtP W K.c True True) (min (G + 5) n) (G + 1) (G + 1 - 8) (G + 0) (G + 0) (G + 0) ⊢ Wp K.c (k0_part67 i arg1 harg1 arg2 harg2 K.A3 h3 W.A4 h4 W.A5 h5 W.A6 h6 W.A7 h7 K.A8 h8 W.A9 h9 W.A10 h10 K.A11 h11 K.A12 h12 K.S13 K.S14 v0 v2 v5 k0_hw1 k0_h37 v134 v162 v241 v242 v244 v245 c0_i32_122) Q := by
  rw [k0_part67_eq_skeleton]
  unfold k0_part67_skel
  have o1_0 := off116_eq v2 v5 hG (by omega)
  refine sLoadAny (kk := G + 0) 0 o1_0 (by omega) (by omega) (by omega) fun _ => ?_
  have o1_2 := off116_eq v2 v5 hG (by omega)
  refine sStoreLo (kk := G + 0) (e1' := G + 1) o1_2 s0_0 (by omega) (by omega) (by omega) (by omega) (by omega) (by omega) ?_
  have o1_4 := off117_eq v2 v5 hG (by omega)
  refine sLoadAny (kk := G + 0) 1 o1_4 (by omega) (by omega) (by omega) fun _ => ?_
  have o1_6 := off117_eq v2 v5 hG (by omega)
  refine sStoreHi (kk := G + 0) (e2' := G + 1) o1_6 s1_1 (by omega) (by omega) (by omega) (by omega) (by omega) (by omega) ?_
  exact sRet hq

end Cert.Kernel.Hand

end
-- ==== Proof.Body2.lean ====
/-
  Hand-written, untrusted. The later stretches of an expert: the groups of four, the group of two, the last block, and the closing waits.
-/
module

public import proofs.«01_k».proof.Proof.Body1
public import proofs.«01_k».proof.Proof.PartsD
public import proofs.«01_k».proof.Proof.PartsE
public import proofs.«01_k».proof.Proof.PartsF
public import proofs.«01_k».proof.Proof.PartsG
public import proofs.«01_k».proof.Proof.PartsH

@[expose] public section

set_option maxRecDepth 20000

noncomputable section

namespace Cert.Kernel.Hand

open Cert.Kernel Cert.Kernel.Gen
open Idealize.ShloMosaic Idealize.ShloMosaic.TcCoe Idealize.ShloMosaic.Tactic Idealize.ShloMosaic.ValueIdx
open Idealize.SL Idealize.SL.RA Idealize.SL.BI Idealize.SL.ExclCount
open scoped Idealize.SL.BI
open Idealize.SL.BI.BIBase Idealize.SL.BI.Laws Idealize.SL.ProofMode Idealize.SL.Sem

variable {F : FTy → Type} [BitOps F]

variable {K : Rings F} {W : Wts F} {i : grid0.Coords} {arg1 : Memref sig .tc .smem S33 .i32} {harg1 : arg1.IsWhole} {arg2 : Memref sig .tc .smem S1 .i32}
  {harg2 : arg2.IsWhole} {h3 : K.A3.IsWhole} {h4 : W.A4.IsWhole} {h5 : W.A5.IsWhole} {h6 : W.A6.IsWhole} {h7 : W.A7.IsWhole} {h8 : K.A8.IsWhole}
  {h9 : W.A9.IsWhole} {h10 : W.A10.IsWhole} {h11 : K.A11.IsWhole} {h12 : K.A12.IsWhole} {n g e : ℕ}

/-- A counted loop from an invariant. -/
theorem sFor {l : Scf.Loop 32} {hok : l.OK} {c : Dev nD} {α : Type} {body : Fin l.trips → Unit → Prog (TpuEff nD τ sig (Elt F) Λ₀ .tc) Unit}
    {kk : Unit → Prog (TpuEff nD τ sig (Elt F) Λ₀ .tc) α} {Q : α → sProp (MM F)} {J : sProp (MM F)} (I : ℕ → sProp (MM F)) (h0 : J ⊢ I 0)
    (hb : ∀ k, I k.val ⊢ Wp c (body k ⟨⟩) (fun _ => I (k.val + 1))) (hk : I l.trips ⊢ Wp c (kk ⟨⟩) Q) :
    J ⊢ Wp c (Scf.Loop.for l hok ⟨⟩ body >>= kk) Q := by
  unfold Wp at hb hk ⊢
  refine h0.trans ?_
  iintro H
  iapply (Scf.wp_for_bind _ _ _ l.lb l.ub l.st hok ⟨⟩ body (fun k _ => I k) (fun k _ => hb k)) $$ H
  iintro %_ H
  iapply hk
  iexact H

theorem self_ite : ∀ w : BitVec 1, w = if w = 1#1 then 1#1 else 0#1 := by decide

section Trip
variable {v0 v2 v5 : BitVec 32} {k0_hw1 : k0_chk1 v0 v2 v5} {k0_t1 : Fin (k0_t1_loop v2 v5).trips}

set_option maxHeartbeats 1000000 in
theorem part36 (hr : Range v0 v2 v5 n g e) (hY : Good K W g e) (z1 z2 : BitVec 32) {G : ℕ} (hG : (baseT v2 k0_t1.val).toNat = G) (hgG : g ≤ G) (hge : G + 4 ≤ e) {Q}
    (hq : ∀ v, St K (WtP W K.c True True) (min (G + 8) n) (G + 4) (G + 4 - 8) (G + 3) (G + 4) (G + 4) ⊢ Q v) :
    Bd K W True n G ⊢ Wp K.c (k0_part36 i arg1 harg1 arg2 harg2 K.A3 h3 W.A4 h4 W.A5 h5 W.A6 h6 W.A7 h7 K.A8 h8 W.A9 h9 W.A10 h10 K.A11 h11 K.A12 h12 K.S13 K.S14 v0 v2 v5 k0_hw1 z1 z2 k0_t1) Q := by
  have hnle := hr.n_le
  have hle := hr.le
  have hlen := hr.le_n
  have hg4 : G + 4 ≤ n := by omega
  rw [k0_part36_eq_skeleton]
  unfold k0_part36_skel Bd
  refine sBind (part19 hG hg4 hnle hr.n_eq _ _ ?_)
  refine sBind (part20 hG hg4 hnle hr.n_eq _ ?_)
  refine sBind (part21 hG hg4 hnle hr.n_eq _ _ ?_)
  refine sBind (part22 hG hg4 hnle hr.n_eq _ _ _ ?_)
  refine sBind (part23 hG hg4 hnle hr.n_eq _ _ ?_)
  refine sBind (part24 hG hg4 hnle hr.n_eq _ _ ((hY (G + 0) (by omega) (by omega)).1.trans (ffnLo_T0 ..)) ?_)
  refine sBind (part25 hG hg4 hnle hr.n_eq _ _ _ _ _ _ ((hY (G + 0) (by omega) (by omega)).2.trans (ffnHi_T0 ..)) ?_)
  refine sBind (part26 hG hg4 hnle hr.n_eq _ _ ?_)
  refine sBind (part27 hG hg4 hnle hr.n_eq _ _ _ _ _ ((hY (G + 1) (by omega) (by omega)).1.trans (ffnLo_T1 ..)) ?_)
  refine sBind (part28 hG hg4 hnle hr.n_eq _ _ ((hY (G + 1) (by omega) (by omega)).2.trans (ffnHi_T1 ..)) ?_)
  refine sBind (part29 hG hg4 hnle hr.n_eq _ ?_)
  refine sBind (part30 hG hg4 hnle hr.n_eq _ _ _ _ _ ((hY (G + 2) (by omega) (by omega)).1.trans (ffnLo_T2 ..)) ((hY (G + 2) (by omega) (by omega)).2.trans (ffnHi_T2 ..)) ?_)
  refine sBind (part31 hG hg4 hnle hr.n_eq _ _ ?_)
  refine sBind (part32 hG hg4 hnle hr.n_eq _ _ _ _ ?_)
  refine sBind (part33 hG hg4 hnle hr.n_eq _ _ _ _ _ _ _ ((hY (G + 3) (by omega) (by omega)).1.trans (ffnLo_T3 ..)) ((hY (G + 3) (by omega) (by omega)).2.trans (ffnHi_T3 ..)) ?_)
  refine sBind (part34 hG hg4 hnle hr.n_eq _ _ _ _ _ _ _ ?_)
  refine sBind (part35 hG hg4 hnle hr.n_eq _ _ _ _ ?_)
  have o1 := off32_eq v2 v5 k0_t1 2#32 (j := 2) rfl (by decide) hG (by omega)
  have o2 := off33_eq v2 v5 k0_t1 2#32 (j := 2) rfl (by decide) hG (by omega)
  have o3 := off34_eq v2 v5 k0_t1 2#32 (j := 2) rfl (by decide) hG (by omega)
  refine sIssueOut (kk := G + 2) (d' := G + 2 + 1) o1 o2 o3 (by omega) (by omega) (by omega) (by omega) (by omega) (by omega) (by omega) ?_
  exact sRet (hq _)

theorem trip_t1 (hr : Range v0 v2 v5 n g e) (hY : Good K W g e) (z0 z1 z2 z3 : BitVec 32) {Q}
    (hq : Bd K W True n (g + 4 * (k0_t1.val + 2)) ⊢ Q ⟨⟩) :
    Bd K W True n (g + 4 * (k0_t1.val + 1)) ⊢ Wp K.c (k0_t1_body i arg1 harg1 arg2 harg2 K.A3 h3 W.A4 h4 W.A5 h5 W.A6 h6 W.A7 h7 K.A8 h8 W.A9 h9 W.A10 h10 K.A11 h11 K.A12 h12 K.S13 K.S14 v0 v2 v5 k0_hw1 z0 z1 z2 z3 k0_t1 ⟨⟩) Q := by
  have hnle := hr.n_le
  have hle := hr.le
  have hlen := hr.le_n
  obtain ⟨hG, hge⟩ := hr.trip k0_t1
  unfold k0_t1_body
  refine sBind (part36 hr hY _ _ hG (by omega) hge fun v => ?_)
  have o1 := off32_eq v2 v5 k0_t1 3#32 (j := 3) rfl (by decide) hG (by omega)
  have o2 := off33_eq v2 v5 k0_t1 3#32 (j := 3) rfl (by decide) hG (by omega)
  have o3 := off34_eq v2 v5 k0_t1 3#32 (j := 3) rfl (by decide) hG (by omega)
  refine sIssueOut (kk := (g + 4 * (k0_t1.val + 1)) + 3) (d' := (g + 4 * (k0_t1.val + 1)) + 3 + 1) o1 o2 o3 (by omega) (by omega) (by omega) (by omega) (by omega) (by omega) (by omega) ?_
  exact sRet ((Bd_to (b := g + 4 * (k0_t1.val + 1) + 4) rfl (by omega)).trans hq)

end Trip

section Pair
variable {v0 v2 v5 : BitVec 32} {k0_hw1 : k0_chk1 v0 v2 v5} {k0_h32 : k0_cond32 v2 v5 = 1#1}

set_option maxHeartbeats 1000000 in
theorem part63 (hr : Range v0 v2 v5 n g e) (hY : Good K W g e) (z1 : BitVec 32) {G : ℕ} (hG : (baseP v2 v5).toNat = G) (hgG : g ≤ G) (hge : G + 2 ≤ e) {Q}
    (hq : ∀ v, St K (WtP W K.c True True) (min (G + 6) n) (G + 2) (G + 2 - 8) (G + 1) (G + 2) (G + 2) ⊢ Q v) :
    Bd K W True n G ⊢ Wp K.c (k0_part63 i arg1 harg1 arg2 harg2 K.A3 h3 W.A4 h4 W.A5 h5 W.A6 h6 W.A7 h7 K.A8 h8 W.A9 h9 W.A10 h10 K.A11 h11 K.A12 h12 K.S13 K.S14 v0 v2 v5 k0_hw1 z1 k0_h32) Q := by
  have hnle := hr.n_le
  have hle := hr.le
  have hlen := hr.le_n
  have hg2 : G + 2 ≤ n := by omega
  rw [k0_part63_eq_skeleton]
  unfold k0_part63_skel Bd
  refine sBind (part55 hG hg2 hnle hr.n_eq _ ?_)
  refine sBind (part56 hG hg2 hnle hr.n_eq _ ?_)
  refine sBind (part57 hG hg2 hnle hr.n_eq _ ?_)
  refine sBind (part58 hG hg2 hnle hr.n_eq _ _ _ ?_)
  refine sBind (part59 hG hg2 hnle hr.n_eq _ _ _ _ ((hY (G + 0) (by omega) (by omega)).1.trans (ffnLo_P0 ..)) ((hY (G + 0) (by omega) (by omega)).2.trans (ffnHi_P0 ..)) ?_)
  refine sBind (part60 hG hg2 hnle hr.n_eq _ _ _ ?_)
  refine sBind (part61 hG hg2 hnle hr.n_eq _ _ _ _ ((hY (G + 1) (by omega) (by omega)).1.trans (ffnLo_P1 ..)) ?_)
  refine sBind (part62 hG hg2 hnle hr.n_eq _ _ _ _ _ ((hY (G + 1) (by omega) (by omega)).2.trans (ffnHi_P1 ..)) ?_)
  have o1 := off90_eq v2 v5 0#32 (j := 0) rfl (by decide) hG (by omega)
  have o2 := off91_eq v2 v5 0#32 (j := 0) rfl (by decide) hG (by omega)
  have o3 := off92_eq v2 v5 0#32 (j := 0) rfl (by decide) hG (by omega)
  refine sIssueOut (kk := G + 0) (d' := G + 0 + 1) o1 o2 o3 (by omega) (by omega) (by omega) (by omega) (by omega) (by omega) (by omega) ?_
  exact sRet (hq _)

end Pair

set_option maxHeartbeats 1000000 in
theorem part69 {v0 v2 v5 : BitVec 32} {k0_hw1 : k0_chk1 v0 v2 v5} (hr : Range v0 v2 v5 n g e) (hY : Good K W g e) (z1 z2 z3 z4 : BitVec 32) {Q}
    (hq : ∀ v, Bd K W (g < e) n (g + 2 * ((e - g) / 2)) ⊢ Q v) :
    Bd K W (g < e) n (g + 4 * min 1 ((e - g) / 4)) ⊢ Wp K.c (k0_part69 i arg1 harg1 arg2 harg2 K.A3 h3 W.A4 h4 W.A5 h5 W.A6 h6 W.A7 h7 K.A8 h8 W.A9 h9 W.A10 h10 K.A11 h11 K.A12 h12 K.S13 K.S14 v0 v2 v5 k0_hw1 z1 z2 z3 z4) Q := by
  have hnle := hr.n_le
  have hle := hr.le
  have hlen := hr.le_n
  rw [k0_part69_eq_skeleton]
  unfold k0_part69_skel
  refine sFor (fun k => Bd K W (g < e) n (g + 4 * (k + min 1 ((e - g) / 4)))) (Bd_to rfl (by omega)) (fun k => ?_) ?_
  · have hk := lt_of_lt_of_eq k.isLt hr.trips1
    have hp : (g < e) = True := eq_true (by omega)
    rw [hp]
    exact (Bd_to (b' := g + 4 * (k.val + 1)) rfl (by omega)).trans (trip_t1 hr hY _ _ _ _ (Bd_to rfl (by omega)))
  rw [hr.trips1]
  refine sFor (fun k => Bd K W (g < e) n (g + 4 * ((e - g) / 4))) (Bd_to rfl (by omega)) (fun k => (hr.no2 k).elim) ?_
  refine sIf hr.cond32 (fun c32 h32 => ?_) (fun c32 h32 => ?_)
  · obtain ⟨hG, hge⟩ := hr.pair h32
    rw [show (g < e) = True from eq_true (by omega)] at hq ⊢
    refine sBind (part63 hr hY _ hG (by omega) hge fun v => ?_)
    have o1 := off90_eq v2 v5 1#32 (j := 1) rfl (by decide) hG (by omega)
    have o2 := off91_eq v2 v5 1#32 (j := 1) rfl (by decide) hG (by omega)
    have o3 := off92_eq v2 v5 1#32 (j := 1) rfl (by decide) hG (by omega)
    refine sIssueOut (kk := (g + 4 * ((e - g) / 4)) + 1) (d' := (g + 4 * ((e - g) / 4)) + 1 + 1) o1 o2 o3 (by omega) (by omega) (by omega) (by omega) (by omega) (by omega) (by omega) ?_
    exact sRet ((Bd_to (b := g + 4 * ((e - g) / 4) + 2) rfl (by omega)).trans (hq _))
  · exact sRet ((Bd_to rfl (by omega)).trans (hq _))

theorem part70 {c : Dev nD} {J : sProp (MM F)} (z1 z2 z3 z4 z5 : BitVec 32) {Q} (hq : ∀ v, J ⊢ Q v) :
    J ⊢ Wp c (k0_part70 (F := F) i arg1 harg1 arg2 harg2 K.A3 h3 W.A4 h4 W.A5 h5 W.A6 h6 W.A7 h7 K.A8 h8 W.A9 h9 W.A10 h10 K.A11 h11 K.A12 h12 K.S13 K.S14 z1 z2 z3 z4 z5) Q := by
  rw [k0_part70_eq_skeleton]
  unfold k0_part70_skel
  exact sRet (hq _)

set_option maxHeartbeats 2000000 in
/-- The kernel at one grid point: from the boundary before the expert's first row block to the one after its last. -/
theorem body_point {v0 v2 v5 : BitVec 32} {f1 : Buf (Elt F) (arg1.view.loc (K.c : Thread nD τ))} {f2 : Buf (Elt F) (arg2.view.loc (K.c : Thread nD τ))} {q : PosShare TreeShare}
    (hr : Range v0 v2 v5 n g e) (hY : Good K W g e)
    (r0 : (arg2.access (Rect.unit (s := S1) ![0] S1.size inb_S1_S1_0)).read (Elt F) f2 (Shape.Idx.first (numel1_S1.symm ▸ Nat.one_pos)) = v0)
    (r2 : (arg1.access (Rect.unit (s := S33) (k0_off1 i) S1.size (k0_off1_inb i))).read (Elt F) f1 (Shape.Idx.first (numel1_S1.symm ▸ Nat.one_pos)) = v2)
    (r5 : (arg1.access (Rect.unit (s := S33) (k0_off2 i) S1.size (k0_off2_inb i))).read (Elt F) f1 (Shape.Idx.first (numel1_S1.symm ▸ Nat.one_pos)) = v5)
    {a0 : ℕ} (hi : k0_cond1 i = 1#1 → a0 = 0 ∧ g = 0) (hi' : ¬ k0_cond1 i = 1#1 → a0 = min (g + 4) n)
    (hl : k0_cond40 i = 1#1 → e = n) {Q : PUnit → sProp (MM F)}
    (hq : k0_cond40 i = 1#1 → iprop((arg2.view.loc (K.c : Thread nD τ) ↦[Finset.univ]{q} f2) ∗ (arg1.view.loc (K.c : Thread nD τ) ↦[Finset.univ]{q} f1) ∗ St K (WtP W K.c (g < e) (g < e)) n n n n n n) ⊢ Q ⟨⟩)
    (hq' : ¬ k0_cond40 i = 1#1 → iprop((arg2.view.loc (K.c : Thread nD τ) ↦[Finset.univ]{q} f2) ∗ (arg1.view.loc (K.c : Thread nD τ) ↦[Finset.univ]{q} f1) ∗ Bd K W (g < e) n e) ⊢ Q ⟨⟩) :
    iprop((arg2.view.loc (K.c : Thread nD τ) ↦[Finset.univ]{q} f2) ∗ (arg1.view.loc (K.c : Thread nD τ) ↦[Finset.univ]{q} f1) ∗ St K (WtP W K.c False False) a0 g (g - 8) g g g)
      ⊢ Wp K.c (cc0_expert_ffn i arg1 harg1 arg2 harg2 K.A3 h3 W.A4 h4 W.A5 h5 W.A6 h6 W.A7 h7 K.A8 h8 W.A9 h9 W.A10 h10 K.A11 h11 K.A12 h12 K.S13 K.S14) Q := by
  have hnle := hr.n_le
  have hle := hr.le
  have hlen := hr.le_n
  rw [cc0_expert_ffn_eq_skeleton]
  unfold cc0_expert_ffn_skel
  refine sBind (part68 hr hY r0 r2 r5 hi hi' fun z0 z1 z2 z3 z4 => ?_)
  have hq1 := fun h => wand_intro (wand_intro ((sep_comm.1.trans (sep_congr_right sep_comm).1).trans (hq h)))
  have hq1' := fun h => wand_intro (wand_intro ((sep_comm.1.trans (sep_congr_right sep_comm).1).trans (hq' h)))
  refine sKeep (sKeep ?_)
  refine sBind (part69 hr hY _ _ _ _ fun ⟨y1, y2, y3, y4⟩ => ?_)
  refine sBind (part70 _ _ _ _ _ fun ⟨x1, x2, x3, x4⟩ => ?_)
  refine sIf hr.cond37 (fun c37 h37 => ?_) (fun c37 h37 => ?_)
  · obtain ⟨hG, hge⟩ := hr.single h37
    have hp : (g < e) = True := eq_true (by omega)
    have hg1 : e - 1 + 1 ≤ n := by omega
    rw [hp] at hq1 hq1' ⊢
    refine (Bd_to (b' := e - 1) rfl (by omega)).trans ?_
    unfold Bd
    refine sBind (part64 hG hg1 hnle hr.n_eq _ ?_)
    refine sBind (part65 hG hg1 hnle hr.n_eq _ _ _ _ ?_)
    refine sBind (part66 hG hg1 hnle hr.n_eq _ _ ?_)
    refine sBind (part67 hG hg1 hnle hr.n_eq _ _ _ _ _ _ _ ((hY (e - 1 + 0) (by omega) (by omega)).1.trans (ffnLo_S0 ..)) ((hY (e - 1 + 0) (by omega) (by omega)).2.trans (ffnHi_S0 ..)) ?_)
    have o1 := off107_eq v2 v5 hG (by omega)
    have o2 := off108_eq v2 v5 hG (by omega)
    have o3 := off109_eq v2 v5 hG (by omega)
    refine sIssueOut (kk := (e - 1) + 0) (d' := (e - 1) + 0 + 1) o1 o2 o3 (by omega) (by omega) (by omega) (by omega) (by omega) (by omega) (by omega) ?_
    refine (Bd_to (b := e - 1 + 1) (b' := e) rfl (by omega)).trans ?_
    refine sIf (w := k0_cond40 i) (p := k0_cond40 i = 1#1) (self_ite _) (fun h _ => ?_) (fun h _ => sRet (hq1' h))
    obtain rfl := hl h
    unfold Bd
    refine (St_to (a' := e) (cc' := e + 0 - 8) (by omega) rfl rfl rfl rfl rfl).trans ?_
    refine sCLandOut (kk := e + 0) (cc' := e + 1 - 8) ((cond41_eq v0 hr.n_eq (by omega)).trans (if_congr (by omega) rfl rfl))
      (fun q8 => (off118_eq v0 hr.n_eq (by omega) (by omega)).trans (by rw [show (e - 8) % 8 = (e + 0) % 8 by omega]))
      (fun q8 => (off120_eq v0 hr.n_eq (by omega) (by omega)).trans (by rw [show (e - 8) % 8 = (e + 0) % 8 by omega]))
      (fun q8 => (off119_eq v0 hr.n_eq (by omega) (by omega)).trans (by rw [show e - 8 = e + 0 - 8 by omega]))
      (by omega) (by omega) (by omega) (by omega) (by omega) (by omega) (by omega) ?_
    refine sCLandOut (kk := e + 1) (cc' := e + 2 - 8) ((cond42_eq v0 hr.n_eq (by omega)).trans (if_congr (by omega) rfl rfl))
      (fun q8 => (off121_eq v0 hr.n_eq (by omega) (by omega)).trans (by rw [show (e - 7) % 8 = (e + 1) % 8 by omega]))
      (fun q8 => (off123_eq v0 hr.n_eq (by omega) (by omega)).trans (by rw [show (e - 7) % 8 = (e + 1) % 8 by omega]))
      (fun q8 => (off122_eq v0 hr.n_eq (by omega) (by omega)).trans (by rw [show e - 7 = e + 1 - 8 by omega]))
      (by omega) (by omega) (by omega) (by omega) (by omega) (by omega) (by omega) ?_
    refine sCLandOut (kk := e + 2) (cc' := e + 3 - 8) ((cond43_eq v0 hr.n_eq (by omega)).trans (if_congr (by omega) rfl rfl))
      (fun q8 => (off124_eq v0 hr.n_eq (by omega) (by omega)).trans (by rw [show (e - 6) % 8 = (e + 2) % 8 by omega]))
      (fun q8 => (off126_eq v0 hr.n_eq (by omega) (by omega)).trans (by rw [show (e - 6) % 8 = (e + 2) % 8 by omega]))
      (fun q8 => (off125_eq v0 hr.n_eq (by omega) (by omega)).trans (by rw [show e - 6 = e + 2 - 8 by omega]))
      (by omega) (by omega) (by omega) (by omega) (by omega) (by omega) (by omega) ?_
    refine sCLandOut (kk := e + 3) (cc' := e + 4 - 8) ((cond44_eq v0 hr.n_eq (by omega)).trans (if_congr (by omega) rfl rfl))
      (fun q8 => (off127_eq v0 hr.n_eq (by omega) (by omega)).trans (by rw [show (e - 5) % 8 = (e + 3) % 8 by omega]))
      (fun q8 => (off129_eq v0 hr.n_eq (by omega) (by omega)).trans (by rw [show (e - 5) % 8 = (e + 3) % 8 by omega]))
      (fun q8 => (off128_eq v0 hr.n_eq (by omega) (by omega)).trans (by rw [show e - 5 = e + 3 - 8 by omega]))
      (by omega) (by omega) (by omega) (by omega) (by omega) (by omega) (by omega) ?_
    refine sCLandOut (kk := e + 4) (cc' := e + 5 - 8) ((cond45_eq v0 hr.n_eq (by omega)).trans (if_congr (by omega) rfl rfl))
      (fun q8 => (off130_eq v0 hr.n_eq (by omega) (by omega)).trans (by rw [show (e - 4) % 8 = (e + 4) % 8 by omega]))
      (fun q8 => (off132_eq v0 hr.n_eq (by omega) (by omega)).trans (by rw [show (e - 4) % 8 = (e + 4) % 8 by omega]))
      (fun q8 => (off131_eq v0 hr.n_eq (by omega) (by omega)).trans (by rw [show e - 4 = e + 4 - 8 by omega]))
      (by omega) (by omega) (by omega) (by omega) (by omega) (by omega) (by omega) ?_
    refine sCLandOut (kk := e + 5) (cc' := e + 6 - 8) ((cond46_eq v0 hr.n_eq (by omega)).trans (if_congr (by omega) rfl rfl))
      (fun q8 => (off133_eq v0 hr.n_eq (by omega) (by omega)).trans (by rw [show (e - 3) % 8 = (e + 5) % 8 by omega]))
      (fun q8 => (off135_eq v0 hr.n_eq (by omega) (by omega)).trans (by rw [show (e - 3) % 8 = (e + 5) % 8 by omega]))
      (fun q8 => (off134_eq v0 hr.n_eq (by omega) (by omega)).trans (by rw [show e - 3 = e + 5 - 8 by omega]))
      (by omega) (by omega) (by omega) (by omega) (by omega) (by omega) (by omega) ?_
    refine sCLandOut (kk := e + 6) (cc' := e + 7 - 8) ((cond47_eq v0 hr.n_eq (by omega)).trans (if_congr (by omega) rfl rfl))
      (fun q8 => (off136_eq v0 hr.n_eq (by omega) (by omega)).trans (by rw [show (e - 2) % 8 = (e + 6) % 8 by omega]))
      (fun q8 => (off138_eq v0 hr.n_eq (by omega) (by omega)).trans (by rw [show (e - 2) % 8 = (e + 6) % 8 by omega]))
      (fun q8 => (off137_eq v0 hr.n_eq (by omega) (by omega)).trans (by rw [show e - 2 = e + 6 - 8 by omega]))
      (by omega) (by omega) (by omega) (by omega) (by omega) (by omega) (by omega) ?_
    refine sCLandOut (kk := e + 7) (cc' := e + 8 - 8) ((cond48_eq v0 hr.n_eq (by omega)).trans (if_congr (by omega) rfl rfl))
      (fun q8 => (off139_eq v0 hr.n_eq (by omega) (by omega)).trans (by rw [show (e - 1) % 8 = (e + 7) % 8 by omega]))
      (fun q8 => (off141_eq v0 hr.n_eq (by omega) (by omega)).trans (by rw [show (e - 1) % 8 = (e + 7) % 8 by omega]))
      (fun q8 => (off140_eq v0 hr.n_eq (by omega) (by omega)).trans (by rw [show e - 1 = e + 7 - 8 by omega]))
      (by omega) (by omega) (by omega) (by omega) (by omega) (by omega) (by omega) ?_
    exact sRet ((St_to rfl rfl (by omega) rfl rfl rfl).trans (hq1 h))
  · refine (Bd_to (b' := e) rfl (by omega)).trans ?_
    refine sIf (w := k0_cond40 i) (p := k0_cond40 i = 1#1) (self_ite _) (fun h _ => ?_) (fun h _ => sRet (hq1' h))
    obtain rfl := hl h
    unfold Bd
    refine (St_to (a' := e) (cc' := e + 0 - 8) (by omega) rfl rfl rfl rfl rfl).trans ?_
    refine sCLandOut (kk := e + 0) (cc' := e + 1 - 8) ((cond41_eq v0 hr.n_eq (by omega)).trans (if_congr (by omega) rfl rfl))
      (fun q8 => (off118_eq v0 hr.n_eq (by omega) (by omega)).trans (by rw [show (e - 8) % 8 = (e + 0) % 8 by omega]))
      (fun q8 => (off120_eq v0 hr.n_eq (by omega) (by omega)).trans (by rw [show (e - 8) % 8 = (e + 0) % 8 by omega]))
      (fun q8 => (off119_eq v0 hr.n_eq (by omega) (by omega)).trans (by rw [show e - 8 = e + 0 - 8 by omega]))
      (by omega) (by omega) (by omega) (by omega) (by omega) (by omega) (by omega) ?_
    refine sCLandOut (kk := e + 1) (cc' := e + 2 - 8) ((cond42_eq v0 hr.n_eq (by omega)).trans (if_congr (by omega) rfl rfl))
      (fun q8 => (off121_eq v0 hr.n_eq (by omega) (by omega)).trans (by rw [show (e - 7) % 8 = (e + 1) % 8 by omega]))
      (fun q8 => (off123_eq v0 hr.n_eq (by omega) (by omega)).trans (by rw [show (e - 7) % 8 = (e + 1) % 8 by omega]))
      (fun q8 => (off122_eq v0 hr.n_eq (by omega) (by omega)).trans (by rw [show e - 7 = e + 1 - 8 by omega]))
      (by omega) (by omega) (by omega) (by omega) (by omega) (by omega) (by omega) ?_
    refine sCLandOut (kk := e + 2) (cc' := e + 3 - 8) ((cond43_eq v0 hr.n_eq (by omega)).trans (if_congr (by omega) rfl rfl))
      (fun q8 => (off124_eq v0 hr.n_eq (by omega) (by omega)).trans (by rw [show (e - 6) % 8 = (e + 2) % 8 by omega]))
      (fun q8 => (off126_eq v0 hr.n_eq (by omega) (by omega)).trans (by rw [show (e - 6) % 8 = (e + 2) % 8 by omega]))
      (fun q8 => (off125_eq v0 hr.n_eq (by omega) (by omega)).trans (by rw [show e - 6 = e + 2 - 8 by omega]))
      (by omega) (by omega) (by omega) (by omega) (by omega) (by omega) (by omega) ?_
    refine sCLandOut (kk := e + 3) (cc' := e + 4 - 8) ((cond44_eq v0 hr.n_eq (by omega)).trans (if_congr (by omega) rfl rfl))
      (fun q8 => (off127_eq v0 hr.n_eq (by omega) (by omega)).trans (by rw [show (e - 5) % 8 = (e + 3) % 8 by omega]))
      (fun q8 => (off129_eq v0 hr.n_eq (by omega) (by omega)).trans (by rw [show (e - 5) % 8 = (e + 3) % 8 by omega]))
      (fun q8 => (off128_eq v0 hr.n_eq (by omega) (by omega)).trans (by rw [show e - 5 = e + 3 - 8 by omega]))
      (by omega) (by omega) (by omega) (by omega) (by omega) (by omega) (by omega) ?_
    refine sCLandOut (kk := e + 4) (cc' := e + 5 - 8) ((cond45_eq v0 hr.n_eq (by omega)).trans (if_congr (by omega) rfl rfl))
      (fun q8 => (off130_eq v0 hr.n_eq (by omega) (by omega)).trans (by rw [show (e - 4) % 8 = (e + 4) % 8 by omega]))
      (fun q8 => (off132_eq v0 hr.n_eq (by omega) (by omega)).trans (by rw [show (e - 4) % 8 = (e + 4) % 8 by omega]))
      (fun q8 => (off131_eq v0 hr.n_eq (by omega) (by omega)).trans (by rw [show e - 4 = e + 4 - 8 by omega]))
      (by omega) (by omega) (by omega) (by omega) (by omega) (by omega) (by omega) ?_
    refine sCLandOut (kk := e + 5) (cc' := e + 6 - 8) ((cond46_eq v0 hr.n_eq (by omega)).trans (if_congr (by omega) rfl rfl))
      (fun q8 => (off133_eq v0 hr.n_eq (by omega) (by omega)).trans (by rw [show (e - 3) % 8 = (e + 5) % 8 by omega]))
      (fun q8 => (off135_eq v0 hr.n_eq (by omega) (by omega)).trans (by rw [show (e - 3) % 8 = (e + 5) % 8 by omega]))
      (fun q8 => (off134_eq v0 hr.n_eq (by omega) (by omega)).trans (by rw [show e - 3 = e + 5 - 8 by omega]))
      (by omega) (by omega) (by omega) (by omega) (by omega) (by omega) (by omega) ?_
    refine sCLandOut (kk := e + 6) (cc' := e + 7 - 8) ((cond47_eq v0 hr.n_eq (by omega)).trans (if_congr (by omega) rfl rfl))
      (fun q8 => (off136_eq v0 hr.n_eq (by omega) (by omega)).trans (by rw [show (e - 2) % 8 = (e + 6) % 8 by omega]))
      (fun q8 => (off138_eq v0 hr.n_eq (by omega) (by omega)).trans (by rw [show (e - 2) % 8 = (e + 6) % 8 by omega]))
      (fun q8 => (off137_eq v0 hr.n_eq (by omega) (by omega)).trans (by rw [show e - 2 = e + 6 - 8 by omega]))
      (by omega) (by omega) (by omega) (by omega) (by omega) (by omega) (by omega) ?_
    refine sCLandOut (kk := e + 7) (cc' := e + 8 - 8) ((cond48_eq v0 hr.n_eq (by omega)).trans (if_congr (by omega) rfl rfl))
      (fun q8 => (off139_eq v0 hr.n_eq (by omega) (by omega)).trans (by rw [show (e - 1) % 8 = (e + 7) % 8 by omega]))
      (fun q8 => (off141_eq v0 hr.n_eq (by omega) (by omega)).trans (by rw [show (e - 1) % 8 = (e + 7) % 8 by omega]))
      (fun q8 => (off140_eq v0 hr.n_eq (by omega) (by omega)).trans (by rw [show e - 1 = e + 7 - 8 by omega]))
      (by omega) (by omega) (by omega) (by omega) (by omega) (by omega) (by omega) ?_
    exact sRet ((St_to rfl rfl (by omega) rfl rfl rfl).trans (hq1 h))

end Cert.Kernel.Hand

end
-- ==== Proof.Geometry.lean ====
/-
  Hand-written, untrusted. The kernel's buffers held piece by piece: each of the two rings is its eight slots, the
  dispatched rows and the result are their 548 blocks of 256 rows, and the sixteen semaphores are the eight of each
  ring. A ring is split at any eight consecutive positions, because the slot of a block is its number modulo eight.
-/
module

public import proofs.«01_k».proof.Proof.Rings
public import Idealize.ShloMosaic.Lib.Ring

@[expose] public section

set_option maxRecDepth 20000

noncomputable section

namespace Cert.Kernel.Hand

open Cert.Kernel Cert.Kernel.Gen
open Idealize.ShloMosaic Idealize.ShloMosaic.Ring Idealize.ShloMosaic.TcCoe Idealize.ShloMosaic.Tactic Idealize.ShloMosaic.ValueIdx
open Idealize.SL Idealize.SL.RA Idealize.SL.BI Idealize.SL.ExclCount
open scoped Idealize.SL.BI
open Idealize.SL.BI.BIBase Idealize.SL.BI.Laws Idealize.SL.ProofMode Idealize.SL.Sem

variable {F : FTy → Type} [BitOps F]

/-! ## Eight consecutive positions are the eight slots -/

theorem ring_start (Φ : Fin 8 → sProp (MM F)) (a : ℕ) :
    bigSep (Finset.Ico a (a + 8)) (fun k => Φ (sl k)) = bigSep (Finset.Ico 0 8) (fun k => Φ (sl k)) := by
  induction a with
  | zero => rfl
  | succ a ih =>
    rw [← ih]
    have e1 : Finset.Ico a (a + 8) = insert a (Finset.Ico (a + 1) (a + 8)) := by ext x; simp; omega
    have e2 : Finset.Ico (a + 1) (a + 1 + 8) = insert (a + 8) (Finset.Ico (a + 1) (a + 8)) := by ext x; simp; omega
    rw [e1, e2, bigSep_insert (by simp), bigSep_insert (by simp), sl_add8]

/-- A conjunction over the eight slots, spelled out. -/
theorem ring_list (Φ : Fin 8 → sProp (MM F)) (a : ℕ) :
    bigSep (Finset.Ico a (a + 8)) (fun k => Φ (sl k))
      = iprop(Φ 0 ∗ Φ 1 ∗ Φ 2 ∗ Φ 3 ∗ Φ 4 ∗ Φ 5 ∗ Φ 6 ∗ Φ 7) := by
  rw [ring_start]
  exact bigSep_eq_bigSepL_of_eq (M := MM F) (S := Finset.Ico 0 8) [0, 1, 2, 3, 4, 5, 6, 7] (by decide) (by decide) (fun k => Φ (sl k))

theorem sl_inj {a k k' : ℕ} (hk : k ∈ Finset.Ico a (a + 8)) (hk' : k' ∈ Finset.Ico a (a + 8)) (h : k ≠ k') : sl k ≠ sl k' := by
  simp only [Finset.mem_Ico] at hk hk'
  intro e
  have := congrArg Fin.val e
  simp only at this
  omega

theorem sl_surj (a : ℕ) (s : Fin 8) : ∃ k ∈ Finset.Ico a (a + 8), sl k = s := by
  have hs := s.isLt
  refine ⟨a + (s.val + 8 - a % 8) % 8, ?_, ?_⟩
  · simp only [Finset.mem_Ico]; omega
  · apply Fin.ext
    simp only
    omega

/-! ## The sets of a slot and of a block -/

section Whole

variable {b : Ref sig .tc}

theorem slot_set (A : Memref sig .tc .vmem S8x2x256x256 .i32) (s : Fin 8) :
    (slotM A s).view.set = (Rect.unit (s := S8x2x256x256) ![s.val, 0, 0, 0] S1x2x256x256.size (inbSlot s)).set.map A.view.emb := by
  show (View.reshape _ _ _).set = _
  rw [View.set_reshape]
  exact View.set_slice _ _

theorem slot_disj (A : Memref sig .tc .vmem S8x2x256x256 .i32) {s s' : Fin 8} (h : s ≠ s') :
    Disjoint (slotM A s).view.set (slotM A s').view.set := by
  rw [slot_set, slot_set, Finset.disjoint_map]
  exact lead_disjoint (s := S8x2x256x256) (NB := 8) 0 1 (fun s => ![s.val, 0, 0, 0]) S1x2x256x256.size inbSlot
    (fun b => by simp) rfl s s' h

theorem slot_cover (A : Memref sig .tc .vmem S8x2x256x256 .i32) (a : ℕ) :
    (Finset.Ico a (a + 8)).biUnion (fun k => (slotM A (sl k)).view.set) = A.view.set := by
  have hc := lead_cover (s := S8x2x256x256) (NB := 8) 0 1 (fun s => ![s.val, 0, 0, 0]) S1x2x256x256.size inbSlot
    (fun b => by simp) (fun b a h => by fin_cases a <;> first | exact absurd rfl h | rfl) rfl
    (fun a h => by fin_cases a <;> first | exact absurd rfl h | rfl) rfl
  ext i
  simp only [Finset.mem_biUnion]
  constructor
  · rintro ⟨k, -, hi⟩
    obtain ⟨x, -, rfl⟩ := Finset.mem_map.mp ((Finset.ext_iff.mp (slot_set A (sl k)) i).mp hi)
    exact View.emb_mem_set _ _
  · intro hi
    obtain ⟨x, -, rfl⟩ := Finset.mem_map.mp hi
    have hx : x ∈ Finset.univ.biUnion (fun s : Fin 8 => (Rect.unit (s := S8x2x256x256) ![s.val, 0, 0, 0] S1x2x256x256.size (inbSlot s)).set) := by
      rw [hc]; exact Finset.mem_univ _
    obtain ⟨s, -, hs⟩ := Finset.mem_biUnion.mp hx
    obtain ⟨k, hk, rfl⟩ := sl_surj a s
    refine ⟨k, hk, ?_⟩
    exact (Finset.ext_iff.mp (slot_set A (sl k)) _).mpr (Finset.mem_map_of_mem _ hs)

theorem row_set (A : Memref sig .tc .hbm S2x140288x256 .i32) (k : ℕ) :
    (rowM A k).view.set = (Rect.unit (s := S2x140288x256) (rowOff k) S2x256x256.size (inbRow k)).set.map A.view.emb :=
  View.set_slice _ _

theorem rowOff_lead (k : Fin 548) : rowOff k.val 1 = 256 * k.val := by
  have := k.isLt
  simp only [rowOff, Matrix.cons_val_one, Matrix.cons_val_zero]
  omega

theorem row_disj (A : Memref sig .tc .hbm S2x140288x256 .i32) {k k' : ℕ} (hk : k < 548) (hk' : k' < 548) (h : k ≠ k') :
    Disjoint (rowM A k).view.set (rowM A k').view.set := by
  rw [row_set, row_set, Finset.disjoint_map]
  exact lead_disjoint (s := S2x140288x256) (NB := 548) 1 256 (fun k => rowOff k.val) S2x256x256.size (fun k => inbRow k.val)
    rowOff_lead rfl ⟨k, hk⟩ ⟨k', hk'⟩ (fun e => h (congrArg Fin.val e))

theorem row_cover (A : Memref sig .tc .hbm S2x140288x256 .i32) :
    (Finset.range 548).biUnion (fun k => (rowM A k).view.set) = A.view.set := by
  have hc := lead_cover (s := S2x140288x256) (NB := 548) 1 256 (fun k => rowOff k.val) S2x256x256.size (fun k => inbRow k.val)
    rowOff_lead (fun b a h => by fin_cases a <;> first | exact absurd rfl h | rfl) rfl
    (fun a h => by fin_cases a <;> first | exact absurd rfl h | rfl) rfl
  ext i
  simp only [Finset.mem_biUnion]
  constructor
  · rintro ⟨k, -, hi⟩
    rw [row_set] at hi
    obtain ⟨x, -, rfl⟩ := Finset.mem_map.mp hi
    exact View.emb_mem_set _ _
  · intro hi
    obtain ⟨x, -, rfl⟩ := Finset.mem_map.mp hi
    have hx : x ∈ Finset.univ.biUnion (fun k : Fin 548 => (Rect.unit (s := S2x140288x256) (rowOff k.val) S2x256x256.size (inbRow k.val)).set) := by
      rw [hc]; exact Finset.mem_univ _
    obtain ⟨k, -, hk⟩ := Finset.mem_biUnion.mp hx
    refine ⟨k.val, Finset.mem_range.mpr k.isLt, ?_⟩
    rw [row_set]
    exact Finset.mem_map_of_mem _ hk

end Whole

/-! ## Splitting and joining -/

/-- A set of a buffer's elements held at one contents is held piece by piece. -/
theorem pieces_eq {ℓ : Loc nD τ sig} {S : Finset ℕ} {I : ℕ → Finset (Idx ℓ)} {U : Finset (Idx ℓ)} (hU : S.biUnion I = U)
    (h : ∀ k ∈ S, ∀ k' ∈ S, k ≠ k' → Disjoint (I k) (I k')) (f : Buf (Elt F) ℓ) :
    (ℓ ↦[U]{fullShare} f : sProp (MM F)) = bigSep S (fun k => ℓ ↦[I k]{fullShare} f) := by
  subst hU
  exact pointsTo_biUnion S I h

/-- Pieces at some contents each are the set at some contents. -/
theorem pieces_join {ℓ : Loc nD τ sig} {S : Finset ℕ} {I : ℕ → Finset (Idx ℓ)} {U : Finset (Idx ℓ)} (hU : S.biUnion I = U)
    (h : ∀ k ∈ S, ∀ k' ∈ S, k ≠ k' → Disjoint (I k) (I k')) (f₀ : Buf (Elt F) ℓ) :
    bigSep S (fun k => iprop(∃ f, ℓ ↦[I k]{fullShare} f)) ⊢ (iprop(∃ f, ℓ ↦[U]{fullShare} f) : sProp (MM F)) := by
  subst hU
  have : Nonempty (Buf (Elt F) ℓ) := ⟨f₀⟩
  refine (bigSep_exists_pi S (fun k (f : Buf (Elt F) ℓ) => (ℓ ↦[I k]{fullShare} f : sProp (MM F)))).trans ?_
  iintro ⟨%fs, H⟩
  ihave H' := (pointsTo_biUnion_join S I fs f₀ h) $$ H
  icases H' with ⟨%g, -, H'⟩
  iexists g
  iexact H'

variable {c : Dev nD}

/-- A slot's elements held, at whatever contents. -/
theorem slotAt_any {A : Memref sig .tc .vmem S8x2x256x256 .i32} {s : Fin 8} (f : Buf (Elt F) (A.view.loc (c : Thread nD τ))) :
    (A.view.loc (c : Thread nD τ) ↦[(slotM A s).view.set]{fullShare} f : sProp (MM F)) ⊢ slotAt c A s (fun _ => True) := by
  unfold slotAt
  iintro H
  iexists f
  isplitr
  · ipureintro; trivial
  iexact H

/-- A slot's contents, forgotten. -/
theorem slotAt_some {A : Memref sig .tc .vmem S8x2x256x256 .i32} {s : Fin 8} :
    (slotAt c A s (fun _ => True) : sProp (MM F))
      ⊢ iprop(∃ f : Buf (Elt F) (A.view.loc (c : Thread nD τ)), A.view.loc (c : Thread nD τ) ↦[(slotM A s).view.set]{fullShare} f) := by
  unfold slotAt
  iintro ⟨%f, -, H⟩
  iexists f
  iexact H

/-- A ring held whole is its eight slots, whatever they hold; -/
theorem slots_split (A : Memref sig .tc .vmem S8x2x256x256 .i32) (a : ℕ) (f : Buf (Elt F) (A.view.loc (c : Thread nD τ))) :
    (A.view.loc (c : Thread nD τ) ↦[A.view.set]{fullShare} f : sProp (MM F))
      ⊢ bigSep (Finset.Ico a (a + 8)) (fun k => slotAt c A (sl k) (fun _ => True)) :=
  (Entails.of_eq (pieces_eq (ℓ := A.view.loc (c : Thread nD τ)) (I := fun k => (slotM A (sl k)).view.set) (slot_cover A a)
    (fun k hk k' hk' h => slot_disj A (sl_inj hk hk' h)) f)).trans (bigSep_mono fun k hk => slotAt_any f)

/-- and its eight slots are the ring held whole. -/
theorem slots_join (A : Memref sig .tc .vmem S8x2x256x256 .i32) (a : ℕ) :
    bigSep (Finset.Ico a (a + 8)) (fun k => slotAt c A (sl k) (fun _ => True))
      ⊢ (iprop(∃ f, A.view.loc (c : Thread nD τ) ↦[A.view.set]{fullShare} f) : sProp (MM F)) :=
  (bigSep_mono fun k hk => slotAt_some).trans
    (pieces_join (ℓ := A.view.loc (c : Thread nD τ)) (I := fun k => (slotM A (sl k)).view.set) (slot_cover A a)
      (fun k hk k' hk' h => slot_disj A (sl_inj hk hk' h)) A.view.junk)

/-- An array of rows held whole is its blocks. -/
theorem rows_eq (A : Memref sig .tc .hbm S2x140288x256 .i32) (f : Buf (Elt F) (A.view.loc (c : Thread nD τ))) :
    (A.view.loc (c : Thread nD τ) ↦[A.view.set]{fullShare} f : sProp (MM F)) = bigSep (Finset.range 548) (fun k => rowAt c A k f) :=
  pieces_eq (ℓ := A.view.loc (c : Thread nD τ)) (I := fun k => (rowM A k).view.set) (row_cover A)
    (fun k hk k' hk' h => row_disj A (Finset.mem_range.mp hk) (Finset.mem_range.mp hk') h) f

/-- A block's rows held at contents that agree there. -/
theorem row_agree {A : Memref sig .tc .hbm S2x140288x256 .i32} {k : ℕ} {f g : A.view.ty.Contents (Elt F)}
    (h : ∀ i ∈ (rowM A k).view.set, f i = g i) : (rowAt c A k f : sProp (MM F)) = rowAt c A k g :=
  pointsTo_congr h

end Cert.Kernel.Hand

end
-- ==== Proof.Ends.lean ====
/-
  Hand-written, untrusted. The two rings before the first grid point and after the last: nothing is in flight, so each
  ring is its eight semaphores at zero, its buffer whole, and the rows of its array whole.
-/
module

public import proofs.«01_k».proof.Proof.Geometry

@[expose] public section

set_option maxRecDepth 20000

noncomputable section

namespace Cert.Kernel.Hand

open Cert.Kernel Cert.Kernel.Gen
open Idealize.ShloMosaic Idealize.ShloMosaic.TcCoe Idealize.ShloMosaic.Tactic Idealize.ShloMosaic.ValueIdx
open Idealize.SL Idealize.SL.RA Idealize.SL.BI Idealize.SL.ExclCount
open scoped Idealize.SL.BI
open Idealize.SL.BI.BIBase Idealize.SL.BI.Laws Idealize.SL.ProofMode Idealize.SL.Sem

variable {F : FTy → Type} [BitOps F] {K : Rings F} {n : ℕ}

theorem same (P : sProp (MM F)) : P ⊢ P := by
  iintro H
  iexact H

/-- The semaphores of a ring, at zero. -/
def sems (c : Dev nD) (S : DmaSems sig S8) (a : ℕ) : sProp (MM F) := bigSep (Finset.Ico a (a + 8)) (fun k => sem0 c S (sl k))

/-- The slots of a ring, whatever they hold. -/
def slots (c : Dev nD) (A : Memref sig .tc .vmem S8x2x256x256 .i32) (a : ℕ) : sProp (MM F) :=
  bigSep (Finset.Ico a (a + 8)) (fun k => slotAt c A (sl k) (fun _ => True))

/-- A ring's semaphores, spelled out. -/
theorem sems_list (c : Dev nD) (S : DmaSems sig S8) (a : ℕ) :
    (sems c S a : sProp (MM F)) = iprop(sem0 c S 0 ∗ sem0 c S 1 ∗ sem0 c S 2 ∗ sem0 c S 3 ∗ sem0 c S 4 ∗ sem0 c S 5 ∗ sem0 c S 6 ∗ sem0 c S 7) :=
  ring_list (fun s => sem0 c S s) a

theorem inKept_enter (s : Fin 8) (p : Prop) (k : ℕ) (hp : ¬ p) :
    (iprop(sem0 K.c K.S13 s ∗ slotAt K.c K.A11 s (fun _ => True)) : sProp (MM F)) ⊢ inKept K s p k := by
  have h : (slotAt K.c K.A11 s (fun _ => True) : sProp (MM F)) ⊢ slotAt K.c K.A11 s (fun v => p → v = K.X k) :=
    slotAt_mono fun v _ h => absurd h hp
  iintro ⟨H1, H2⟩
  isplitl [H1]; · iexact H1
  iapply h
  iexact H2

theorem inKept_leave (s : Fin 8) (p : Prop) (k : ℕ) :
    inKept K s p k ⊢ (iprop(sem0 K.c K.S13 s ∗ slotAt K.c K.A11 s (fun _ => True)) : sProp (MM F)) := by
  have h : (slotAt K.c K.A11 s (fun v => p → v = K.X k) : sProp (MM F)) ⊢ slotAt K.c K.A11 s (fun _ => True) :=
    slotAt_mono fun v _ => trivial
  iintro ⟨H1, H2⟩
  isplitl [H1]; · iexact H1
  iapply h
  iexact H2

theorem outIdle_enter (s : Fin 8) (p q : Prop) (k : ℕ) (hp : ¬ p) (hq : ¬ q) :
    (iprop(sem0 K.c K.S14 s ∗ slotAt K.c K.A12 s (fun _ => True)) : sProp (MM F)) ⊢ outIdle K s p q k := by
  have h : (slotAt K.c K.A12 s (fun _ => True) : sProp (MM F)) ⊢ slotAt K.c K.A12 s (Half (K.Y k) p q) :=
    slotAt_mono fun v _ => ⟨fun h => absurd h hp, fun h => absurd h hq⟩
  iintro ⟨H1, H2⟩
  isplitl [H1]; · iexact H1
  iapply h
  iexact H2

theorem outIdle_leave (s : Fin 8) (p q : Prop) (k : ℕ) :
    outIdle K s p q k ⊢ (iprop(sem0 K.c K.S14 s ∗ slotAt K.c K.A12 s (fun _ => True)) : sProp (MM F)) := by
  have h : (slotAt K.c K.A12 s (Half (K.Y k) p q) : sProp (MM F)) ⊢ slotAt K.c K.A12 s (fun _ => True) :=
    slotAt_mono fun v _ => trivial
  iintro ⟨H1, H2⟩
  isplitl [H1]; · iexact H1
  iapply h
  iexact H2

theorem pairs (c : Dev nD) (S : DmaSems sig S8) (A : Memref sig .tc .vmem S8x2x256x256 .i32) (a : ℕ) :
    (iprop(sems c S a ∗ slots c A a) : sProp (MM F))
      = bigSep (Finset.Ico a (a + 8)) (fun k => iprop(sem0 c S (sl k) ∗ slotAt c A (sl k) (fun _ => True))) := by
  unfold sems slots
  exact (bigSep_sep' (s := Finset.Ico a (a + 8)) (Φ := fun k => (sem0 c S (sl k) : sProp (MM F))) (Ψ := fun k => slotAt c A (sl k) (fun _ => True))).symm

theorem in_slots_enter : (iprop(sems K.c K.S13 0 ∗ slots K.c K.A11 0) : sProp (MM F)) ⊢ bigSep (Finset.Ico 0 (0 + 8)) (inSlot K 0) := by
  rw [pairs]
  refine bigSep_mono fun k hk => ?_
  have := Finset.mem_Ico.mp hk
  unfold inSlot
  rw [if_pos (by omega)]
  exact inKept_enter _ _ _ (by omega)

theorem in_rows_enter : bigSep (Finset.range 548) (fun k => rowAt K.c K.A3 k K.xs) ⊢ bigSep (Finset.range 548) (inRow K n n) := by
  refine bigSep_mono fun k hk => ?_
  unfold inRow
  rw [if_neg (by omega)]
  exact same _

theorem in_rows_leave : bigSep (Finset.range 548) (inRow K n n) ⊢ bigSep (Finset.range 548) (fun k => rowAt K.c K.A3 k K.xs) := by
  refine bigSep_mono fun k hk => ?_
  unfold inRow
  rw [if_neg (by omega)]
  exact same _

theorem in_slots_leave : bigSep (Finset.Ico n (n + 8)) (inSlot K n) ⊢ (iprop(sems K.c K.S13 n ∗ slots K.c K.A11 n) : sProp (MM F)) := by
  rw [pairs]
  refine bigSep_mono fun k hk => ?_
  have := Finset.mem_Ico.mp hk
  unfold inSlot
  rw [if_pos (by omega)]
  exact inKept_leave _ _ _

theorem out_slots_enter : (iprop(sems K.c K.S14 0 ∗ slots K.c K.A12 0) : sProp (MM F)) ⊢ bigSep (Finset.Ico 0 (0 + 8)) (outSlot K 0 0 0) := by
  rw [pairs]
  refine bigSep_mono fun k hk => ?_
  unfold outSlot
  rw [if_neg (by omega)]
  exact outIdle_enter _ _ _ _ (by omega) (by omega)

theorem out_slots_leave : bigSep (Finset.Ico n (n + 8)) (outSlot K n n n) ⊢ (iprop(sems K.c K.S14 n ∗ slots K.c K.A12 n) : sProp (MM F)) := by
  rw [pairs]
  refine bigSep_mono fun k hk => ?_
  have := Finset.mem_Ico.mp hk
  unfold outSlot
  rw [if_neg (by omega)]
  exact outIdle_leave _ _ _ _

theorem out_rows_enter : bigSep (Finset.range 548) (fun k => rowAt K.c K.A8 k K.y0) ⊢ bigSep (Finset.range 548) (outRow K 0 0) := by
  refine bigSep_mono fun k hk => ?_
  unfold outRow
  rw [if_neg (by omega), if_neg (by omega)]
  exact same _

/-- What the result holds past the blocks in use is what it held at the start. -/
def Rest (K : Rings F) (n : ℕ) : Prop := ∀ k, n ≤ k → k < 548 → ∀ i ∈ (rowM K.A8 k).view.set, K.y0 i = K.G i

theorem out_rows_leave (h : Rest K n) : bigSep (Finset.range 548) (outRow K n n) ⊢ bigSep (Finset.range 548) (fun k => rowAt K.c K.A8 k K.G) := by
  refine bigSep_mono fun k hk => ?_
  unfold outRow
  by_cases hkn : k < n
  · rw [if_pos hkn]
    exact same _
  · rw [if_neg hkn, if_neg hkn]
    exact Entails.of_eq (row_agree (h k (by omega) (Finset.mem_range.mp hk)))

/-- The ring coming in, at the start. -/
theorem in_enter : (iprop(sems K.c K.S13 0 ∗ slots K.c K.A11 0 ∗ (K.A3.view.loc (K.c : Thread nD τ) ↦[K.A3.view.set]{fullShare} K.xs)) : sProp (MM F)) ⊢ InR K 0 0 := by
  rw [rows_eq]
  unfold InR
  iintro ⟨H1, H2, H3⟩
  isplitl [H1 H2]
  · iapply in_slots_enter
    isplitl [H1]; · iexact H1
    iexact H2
  iapply in_rows_enter
  iexact H3

/-- The ring coming in, at the end. -/
theorem in_leave : InR K n n ⊢ (iprop(sems K.c K.S13 n ∗ slots K.c K.A11 n ∗ (K.A3.view.loc (K.c : Thread nD τ) ↦[K.A3.view.set]{fullShare} K.xs)) : sProp (MM F)) := by
  rw [rows_eq]
  unfold InR
  iintro ⟨H1, H2⟩
  ihave H := in_slots_leave $$ H1
  icases H with ⟨Ha, Hb⟩
  isplitl [Ha]; · iexact Ha
  isplitl [Hb]; · iexact Hb
  iapply in_rows_leave (n := n)
  iexact H2

/-- The ring going out, at the start. -/
theorem out_enter : (iprop(sems K.c K.S14 0 ∗ slots K.c K.A12 0 ∗ (K.A8.view.loc (K.c : Thread nD τ) ↦[K.A8.view.set]{fullShare} K.y0)) : sProp (MM F)) ⊢ OutR K 0 0 0 0 := by
  rw [rows_eq]
  unfold OutR
  iintro ⟨H1, H2, H3⟩
  isplitl [H1 H2]
  · iapply out_slots_enter
    isplitl [H1]; · iexact H1
    iexact H2
  iapply out_rows_enter
  iexact H3

/-- The ring going out, at the end. -/
theorem out_leave (h : Rest K n) : OutR K n n n n ⊢ (iprop(sems K.c K.S14 n ∗ slots K.c K.A12 n ∗ (K.A8.view.loc (K.c : Thread nD τ) ↦[K.A8.view.set]{fullShare} K.G)) : sProp (MM F)) := by
  rw [rows_eq]
  unfold OutR
  iintro ⟨H1, H2⟩
  ihave H := out_slots_leave $$ H1
  icases H with ⟨Ha, Hb⟩
  isplitl [Ha]; · iexact Ha
  isplitl [Hb]; · iexact Hb
  iapply (out_rows_leave h)
  iexact H2

end Cert.Kernel.Hand

end
-- ==== Proof.Launch.lean ====
/-
  Hand-written, untrusted. The run of the kernel's program from one grid point to the next: what the body holds between
  two points is the two rings at the counts of the experts' first blocks, and each point is `body_point`. Given the
  first block of every expert and the value of every block in use, the program runs, leaves its arguments unchanged,
  every semaphore at zero, and the given value in the result.
-/
module

public import proofs.«01_k».proof.Proof.Body2
public import proofs.«01_k».proof.Proof.Ends
public import Idealize.ShloMosaic.Lib.Pipeline.FrameValue

@[expose] public section

set_option maxRecDepth 20000

noncomputable section

namespace Cert.Kernel.Hand

open Cert.Kernel Cert.Kernel.Gen
open Idealize.ShloMosaic Idealize.ShloMosaic.TcCoe Idealize.ShloMosaic.Tactic Idealize.ShloMosaic.ValueIdx
open Idealize.SL Idealize.SL.RA Idealize.SL.BI Idealize.SL.ExclCount
open scoped Idealize.SL.BI
open Idealize.SL.BI.BIBase Idealize.SL.BI.Laws Idealize.SL.ProofMode Idealize.SL.Sem
open Idealize.ShloMosaic.Pipeline (Dat Cfg Window BodyObligation)

variable {F : FTy → Type} [BitOps F]
variable (m : (ℓ : Loc nD τ sig) → Buf (Elt F) ℓ) (ρ : Dev nD → PrngReg)

/-! ## What the region finds -/

/-- A core's buffers when the region is entered: after the two reshapes. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

theorem hmain (𝒱₀ : Variants) : Pipeline.HMainP (Ix := Unit) (Name := ℕ) (U := Pipeline.UD sig nD τ) (Lvl := ℕ) pcfgs 0 defs₀ 𝒱₀ m (main (F := F)) (V m) :=
  Pipeline.hmainP_prefix pcfgs 0 defs₀ 𝒱₀ m main hostOps0 hostOps0_sub hostOps0_fresh main_chain

/-- No reshape writes an argument. -/
theorem V_of (c : Dev nD) (b : Ref sig .tc) (h0 : b ≠ main_v0) (h1 : b ≠ main_v1) : V m c b = m ((c : Thread nD τ).loc b) :=
  StableHlo.after_of_forall_not_mem (b := Proc.devRef .tc b) _ _ (List.forall_iff_forall_mem.mp (by
    simp only [hostOps0, List.Forall, StableHlo.reshape_writes, Finset.mem_singleton]
    exact ⟨StableHlo.devRef_ne_of_ne h0, StableHlo.devRef_ne_of_ne h1⟩))

/-- The contents of the two tables. -/
def tabs : pre0.Contents (Elt F) := fun k => V m 0 (pre0.ref k)

def adm : (pcfg0 (F := F)).Adm := ⟨tabs m, by show ok0 (tabs m); unfold ok0; trivial⟩

def adms : (p : Fin 1) → (pcfgs (F := F) p).Adm := fun _ => adm m

abbrev cfgA : Pipeline.Cfg sig Λ₀ := cfg0 (adm m)

/-- A window's block at a grid point. -/
def iblk (c : Dev nD) (w : Fin (cfgA m).W) (t : Fin (cfgA m).N) :
    (((cfgA m).win w).xblock ((cfgA m).grid.coords t)).Idx → Elt F ((cfgA m).win w).elt :=
  (((cfgA m).win w).blk t).view.read (Elt F) (V m c (Pipeline.arrRef spec0 w))

abbrev ms0 (t : Fin (cfgA m).N) : Memref sig .tc .vmem S1x1024x2048 .f32 := spec0_0.stage ((cfgA m).slots t 0)
abbrev ms1 (t : Fin (cfgA m).N) : Memref sig .tc .vmem S1x1x2048 .f32 := spec0_1.stage ((cfgA m).slots t 1)
abbrev ms2 (t : Fin (cfgA m).N) : Memref sig .tc .vmem S1x1024x1024 .f32 := spec0_2.stage ((cfgA m).slots t 2)
abbrev ms3 (t : Fin (cfgA m).N) : Memref sig .tc .vmem S1x1x1024 .f32 := spec0_3.stage ((cfgA m).slots t 3)

variable (G : (c : Dev nD) → Buf (Elt F) ((c : Thread nD τ).loc main_v2))

/-- The buffers of the two rings. -/
abbrev rings (c : Dev nD) : Rings F :=
  ⟨c, Memref.whole main_arg2, Memref.whole main_v2, Memref.whole cc0_scratch2, Memref.whole cc0_scratch3, cc0_scratch4, cc0_scratch5,
    V m c main_arg2, V m c main_v2, G c⟩

/-- The weights at a grid point. -/
abbrev wts (c : Dev nD) (t : Fin (cfgA m).N) : Wts F :=
  ⟨ms0 m t, ms1 m t, ms2 m t, ms3 m t, Memref.whole cc0_scratch0, Memref.whole cc0_scratch1, iblk m c 0 t, iblk m c 1 t, iblk m c 2 t, iblk m c 3 t⟩

/-- The kernel's own semaphores. -/
abbrev osem0 : Fin 16 → SemLoc sig := fun j =>
  (![.dma 8, .dma 9, .dma 10, .dma 11, .dma 12, .dma 13, .dma 14, .dma 15, .dma 16, .dma 17, .dma 18, .dma 19, .dma 20, .dma 21, .dma 22, .dma 23] : Fin 16 → SemLoc sig) j

theorem ownSemFacts0 : Pipeline.OwnSemFacts spec0 osem0 := by decide

theorem ownSems_eq (c : Dev nD) :
    (Pipeline.ownSems0 (Ix := Unit) (Name := ℕ) (U := Pipeline.UD sig nD τ) (Lvl := ℕ) (Val := Elt F) (τ := τ) osem0 c : sProp (MM F))
      = iprop(sem0 c cc0_scratch4 0 ∗ sem0 c cc0_scratch4 1 ∗ sem0 c cc0_scratch4 2 ∗ sem0 c cc0_scratch4 3 ∗ sem0 c cc0_scratch4 4 ∗ sem0 c cc0_scratch4 5
        ∗ sem0 c cc0_scratch4 6 ∗ sem0 c cc0_scratch4 7 ∗ sem0 c cc0_scratch5 0 ∗ sem0 c cc0_scratch5 1 ∗ sem0 c cc0_scratch5 2 ∗ sem0 c cc0_scratch5 3
        ∗ sem0 c cc0_scratch5 4 ∗ sem0 c cc0_scratch5 5 ∗ sem0 c cc0_scratch5 6 ∗ sem0 c cc0_scratch5 7) := by
  rw [Pipeline.ownSems0_eq_of_list c osem0 [0, 1, 2, 3, 4, 5, 6, 7, 8, 9, 10, 11, 12, 13, 14, 15] (by decide) (by decide)]
  rfl

/-- The kernel's own semaphores are those of the two rings. -/
theorem ownSems_split (c : Dev nD) (a b : ℕ) :
    (Pipeline.ownSems0 (Ix := Unit) (Name := ℕ) (U := Pipeline.UD sig nD τ) (Lvl := ℕ) (Val := Elt F) (τ := τ) osem0 c : sProp (MM F))
      ⊢ iprop(sems c cc0_scratch4 a ∗ sems c cc0_scratch5 b) := by
  rw [ownSems_eq, sems_list, sems_list]
  iintro ⟨H0, H1, H2, H3, H4, H5, H6, H7, H⟩
  isplitl [H0 H1 H2 H3 H4 H5 H6 H7]
  · isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  iexact H

theorem ownSems_join (c : Dev nD) (a b : ℕ) :
    (iprop(sems c cc0_scratch4 a ∗ sems c cc0_scratch5 b) : sProp (MM F))
      ⊢ Pipeline.ownSems0 (Ix := Unit) (Name := ℕ) (U := Pipeline.UD sig nD τ) (Lvl := ℕ) (Val := Elt F) (τ := τ) osem0 c := by
  rw [ownSems_eq, sems_list, sems_list]
  iintro ⟨⟨H0, H1, H2, H3, H4, H5, H6, H7⟩, H⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H

/-! ## What is held between two grid points -/

/-- The two tables, half of them. -/
def Tabs (c : Dev nD) : sProp (MM F) :=
  iprop(((Memref.whole main_arg1 : Memref sig .tc .smem S1 .i32).view.loc (c : Thread nD τ) ↦[Finset.univ]{fullShare.right} tabs m 1)
    ∗ ((Memref.whole main_arg0 : Memref sig .tc .smem S33 .i32).view.loc (c : Thread nD τ) ↦[Finset.univ]{fullShare.right} tabs m 0))

theorem tabs_eq (c : Dev nD) : (Pipeline.ΦT pre0 (adm m).1 c : sProp (MM F)) ⊢ Tabs m c := by
  have e : (Pipeline.ΦT pre0 (adm m).1 c : sProp (MM F)) = iprop(((c : Thread nD τ).loc main_arg0 ↦{fullShare.right} tabs m 0)
      ∗ ((c : Thread nD τ).loc main_arg1 ↦{fullShare.right} tabs m 1)) := by
    unfold Pipeline.ΦT Pipeline.prefHeld
    exact bigSep_univ_eq_bigSepL [(0 : Fin 2), (1 : Fin 2)] (by decide) (by decide) _
  rw [e]
  unfold Tabs
  iintro ⟨H1, H2⟩
  isplitl [H2]; · iexact H2
  iexact H1

/-- Before point `t` (after the last at `t = 32`): the rings with the blocks of the experts before `t` computed. -/
def Inv (b : ℕ → ℕ) (c : Dev nD) (t : ℕ) : sProp (MM F) :=
  iprop(Tabs m c ∗ InR (rings m G c) (if t = 0 then 0 else min (b t + 4) (b 32)) (b t)
    ∗ OutR (rings m G c) (if t = 32 then b t else b t - 8) (b t) (b t) (b t)
    ∗ (∃ u, owns (c : Thread nD τ) (Memref.whole cc0_scratch0 : Memref sig .tc .vmem S1024x2048 .bf16) fullShare u)
    ∗ (∃ u, owns (c : Thread nD τ) (Memref.whole cc0_scratch1 : Memref sig .tc .vmem S1024x1024 .bf16) fullShare u)
    ∗ (∃ r, prngReg c r))

variable (b : ℕ → ℕ)

/-- The proof data of the pipeline: each weight window at its block, the rings between the points. -/
def dats (p : Fin 1) (c : Dev nD) : Dat τ (Elt F) Unit ℕ (Pipeline.UD sig nD τ) ℕ (Pipeline.pin pcfgs (adms m) p) c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
  Φ t := Inv m G b c t.val
  q _ := fullShare
  owed _ := 0

theorem A_eq (c : Dev nD) (w : Fin (cfgA m).W) : (dats m G b 0 c).A w = V m c (Pipeline.arrRef spec0 w) := by
  dsimp only [dats]
theorem after0 (c : Dev nD) (t : Fin (cfgA m).N) : (dats m G b 0 c).after 0 t = iblk m c 0 t := rfl
theorem after1 (c : Dev nD) (t : Fin (cfgA m).N) : (dats m G b 0 c).after 1 t = iblk m c 1 t := rfl
theorem after2 (c : Dev nD) (t : Fin (cfgA m).N) : (dats m G b 0 c).after 2 t = iblk m c 2 t := rfl
theorem after3 (c : Dev nD) (t : Fin (cfgA m).N) : (dats m G b 0 c).after 3 t = iblk m c 3 t := rfl

theorem before0 (c : Dev nD) (t : Fin (cfgA m).N) (d) : (dats m G b 0 c).before 0 t d = iblk m c 0 t :=
  ((dats m G b 0 c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)
theorem before1 (c : Dev nD) (t : Fin (cfgA m).N) (d) : (dats m G b 0 c).before 1 t d = iblk m c 1 t :=
  ((dats m G b 0 c).before_in_eq_fetched 1 rfl (fun _ => rfl) (fun _ _ _ => rfl) (fun t => by rw [after1]; unfold Dat.blockOf iblk; rw [A_eq]; try rfl) t d).trans
    (by unfold Dat.fetched Dat.blockOf iblk; rw [A_eq]; try rfl)
theorem before2 (c : Dev nD) (t : Fin (cfgA m).N) (d) : (dats m G b 0 c).before 2 t d = iblk m c 2 t :=
  ((dats m G b 0 c).before_in_eq_fetched 2 rfl (fun _ => rfl) (fun _ _ _ => rfl) (fun t => by rw [after2]; unfold Dat.blockOf iblk; rw [A_eq]; try rfl) t d).trans
    (by unfold Dat.fetched Dat.blockOf iblk; rw [A_eq]; try rfl)
theorem before3 (c : Dev nD) (t : Fin (cfgA m).N) (d) : (dats m G b 0 c).before 3 t d = iblk m c 3 t :=
  ((dats m G b 0 c).before_in_eq_fetched 3 rfl (fun _ => rfl) (fun _ _ _ => rfl) (fun t => by rw [after3]; unfold Dat.blockOf iblk; rw [A_eq]; try rfl) t d).trans
    (by unfold Dat.fetched Dat.blockOf iblk; rw [A_eq]; try rfl)

/-! ## The ends -/

abbrev H0 : Finset (Ref sig .tc) := {main_arg2}
abbrev R0 : Finset (Ref sig .tc) := {main_v2}

theorem H0_sub : H0 ⊆ Pipeline.restRefsP sig pre0 spec0 := by decide
theorem R0_sub : R0 ⊆ Pipeline.restRefsP sig pre0 spec0 \ H0 := by decide

/-- A core's unscoped buffers at the end. -/
def Gf (c : Dev nD) (r : Ref sig .tc) : Buf (Elt F) ((c : Thread nD τ).loc r) :=
  if h : r = main_v2 then h ▸ G c else V m c r

theorem Gf_v2 (c : Dev nD) : Gf m G c main_v2 = G c := by
  unfold Gf; rw [dif_pos rfl]

theorem held_eq (c : Dev nD) (W : (r : Ref sig .tc) → Buf (Elt F) ((c : Thread nD τ).loc r)) :
    ((bigSep H0 fun r => ((c : Thread nD τ).loc r) ↦{fullShare} W r) : sProp (MM F)) = iprop((c : Thread nD τ).loc main_arg2 ↦{fullShare} W main_arg2) :=
  bigSep_eq_bigSepL_of_eq (M := MM F) (S := H0) [main_arg2] (by decide) (by decide) (fun r => ((c : Thread nD τ).loc r) ↦{fullShare} W r)

theorem routed_eq (c : Dev nD) (W : (r : Ref sig .tc) → Buf (Elt F) ((c : Thread nD τ).loc r)) :
    (Pipeline.routed R0 c W : sProp (MM F)) = iprop((c : Thread nD τ).loc main_v2 ↦{fullShare} W main_v2) :=
  bigSep_eq_bigSepL_of_eq (M := MM F) (S := R0) [main_v2] (by decide) (by decide) (fun r => ((c : Thread nD τ).loc r) ↦{fullShare} W r)

/-- A whole buffer is held by its view's elements. -/
theorem whole_set {b : Ref sig .tc} {ℓ : Loc nD τ sig} (S : Finset (Idx ℓ)) (hS : S = Finset.univ) (f : Buf (Elt F) ℓ) :
    (ℓ ↦{fullShare} f : sProp (MM F)) = (ℓ ↦[S]{fullShare} f) := by
  subst hS; rfl

theorem ofEq {P Q : sProp (MM F)} (h : P = Q) : P ⊢ Q := by
  subst h; exact same _

theorem own_any (c : Dev nD) (r : Ref sig .tc) :
    (iprop(∃ f : Buf (Elt F) ((c : Thread nD τ).loc r), ((c : Thread nD τ).loc r) ↦{fullShare} f) : sProp (MM F))
      ⊢ iprop(∃ u, owns (c : Thread nD τ) (Memref.whole r) fullShare u) := by
  iintro ⟨%f, H⟩
  iexists f
  rw [owns_whole]
  iexact H

theorem own_some (c : Dev nD) (r : Ref sig .tc) :
    (iprop(∃ u, owns (c : Thread nD τ) (Memref.whole r) fullShare u) : sProp (MM F))
      ⊢ iprop(∃ f : Buf (Elt F) ((c : Thread nD τ).loc r), ((c : Thread nD τ).loc r) ↦{fullShare} f) := by
  iintro ⟨%f, H⟩
  iexists f
  iapply (ofEq (owns_whole (c : Thread nD τ) r fullShare f))
  iexact H

theorem scratch2_split (c : Dev nD) (a : ℕ) :
    (iprop(∃ f : Buf (Elt F) ((c : Thread nD τ).loc cc0_scratch2), ((c : Thread nD τ).loc cc0_scratch2) ↦{fullShare} f) : sProp (MM F))
      ⊢ slots c (Memref.whole cc0_scratch2) a := by
  unfold slots
  iintro ⟨%f, H⟩
  iapply (slots_split (F := F) (c := c) (Memref.whole cc0_scratch2) a f)
  iapply (ofEq (whole_set (F := F) (b := cc0_scratch2) (ℓ := (c : Thread nD τ).loc cc0_scratch2) (Memref.whole cc0_scratch2).view.set (View.set_whole _) f))
  iexact H

theorem scratch3_split (c : Dev nD) (a : ℕ) :
    (iprop(∃ f : Buf (Elt F) ((c : Thread nD τ).loc cc0_scratch3), ((c : Thread nD τ).loc cc0_scratch3) ↦{fullShare} f) : sProp (MM F))
      ⊢ slots c (Memref.whole cc0_scratch3) a := by
  unfold slots
  iintro ⟨%f, H⟩
  iapply (slots_split (F := F) (c := c) (Memref.whole cc0_scratch3) a f)
  iapply (ofEq (whole_set (F := F) (b := cc0_scratch3) (ℓ := (c : Thread nD τ).loc cc0_scratch3) (Memref.whole cc0_scratch3).view.set (View.set_whole _) f))
  iexact H

theorem scratch2_join (c : Dev nD) (a : ℕ) :
    slots c (Memref.whole cc0_scratch2) a
      ⊢ (iprop(∃ f : Buf (Elt F) ((c : Thread nD τ).loc cc0_scratch2), ((c : Thread nD τ).loc cc0_scratch2) ↦{fullShare} f) : sProp (MM F)) := by
  unfold slots
  iintro H
  ihave H' := (slots_join (F := F) (c := c) (Memref.whole cc0_scratch2) a) $$ H
  icases H' with ⟨%f, H'⟩
  iexists f
  rw [whole_set (F := F) (b := cc0_scratch2) (ℓ := (c : Thread nD τ).loc cc0_scratch2) (Memref.whole cc0_scratch2).view.set (View.set_whole _) f]
  iexact H'

theorem scratch3_join (c : Dev nD) (a : ℕ) :
    slots c (Memref.whole cc0_scratch3) a
      ⊢ (iprop(∃ f : Buf (Elt F) ((c : Thread nD τ).loc cc0_scratch3), ((c : Thread nD τ).loc cc0_scratch3) ↦{fullShare} f) : sProp (MM F)) := by
  unfold slots
  iintro H
  ihave H' := (slots_join (F := F) (c := c) (Memref.whole cc0_scratch3) a) $$ H
  icases H' with ⟨%f, H'⟩
  iexists f
  rw [whole_set (F := F) (b := cc0_scratch3) (ℓ := (c : Thread nD τ).loc cc0_scratch3) (Memref.whole cc0_scratch3).view.set (View.set_whole _) f]
  iexact H'

theorem hin (h0 : b 0 = 0) (c : Dev nD) :
    (iprop(Pipeline.ΦDRG osem0 spec0 H0 R0 (V m) (V m) c ∗ Pipeline.ΦT pre0 (adm m).1 c) : sProp (MM F)) ⊢ Inv m G b c 0 := by
  have e1 := whole_set (F := F) (b := main_arg2) (ℓ := (c : Thread nD τ).loc main_arg2) (Memref.whole main_arg2).view.set (View.set_whole _) (V m c main_arg2)
  have e2 := whole_set (F := F) (b := main_v2) (ℓ := (c : Thread nD τ).loc main_v2) (Memref.whole main_v2).view.set (View.set_whole _) (V m c main_v2)
  rw [Pipeline.ΦDRG_eq, scopedRest0_eq, held_eq, routed_eq, e1, e2]
  unfold Inv
  rw [h0, if_pos rfl, if_neg (by decide)]
  iintro ⟨⟨⟨S0, S1, S2, S3⟩, Hp, Hs, Ha, Hv⟩, Ht⟩
  ihave Hs' := (ownSems_split c 0 0) $$ Hs
  icases Hs' with ⟨Hs1, Hs2⟩
  isplitl [Ht]; · iapply (tabs_eq m c); iexact Ht
  isplitl [Hs1 S2 Ha]
  · iapply (in_enter (K := rings m G c))
    isplitl [Hs1]; · iexact Hs1
    isplitl [S2]
    · iapply (scratch2_split c 0)
      iexact S2
    iexact Ha
  isplitl [Hs2 S3 Hv]
  · iapply (out_enter (K := rings m G c))
    isplitl [Hs2]; · iexact Hs2
    isplitl [S3]
    · iapply (scratch3_split c 0)
      iexact S3
    iexact Hv
  isplitl [S0]
  · iapply (own_any c cc0_scratch0)
    iexact S0
  isplitl [S1]
  · iapply (own_any c cc0_scratch1)
    iexact S1
  iexact Hp

theorem hout (n : ℕ) (hn : b 32 = n) (hG : ∀ c, Rest (rings m G c) n) (c : Dev nD) :
    Inv m G b c 32 ⊢ (Pipeline.ΦDRG osem0 spec0 H0 R0 (V m) (Gf m G) c : sProp (MM F)) := by
  have e1 := whole_set (F := F) (b := main_arg2) (ℓ := (c : Thread nD τ).loc main_arg2) (Memref.whole main_arg2).view.set (View.set_whole _) (V m c main_arg2)
  have e2 := whole_set (F := F) (b := main_v2) (ℓ := (c : Thread nD τ).loc main_v2) (Memref.whole main_v2).view.set (View.set_whole _) (G c)
  rw [Pipeline.ΦDRG_eq, scopedRest0_eq, held_eq, routed_eq, Gf_v2, e1, e2]
  unfold Inv
  rw [hn, if_pos rfl, if_neg (by decide), show min (n + 4) n = n by omega]
  iintro ⟨-, Hi, Ho, S0, S1, Hp⟩
  ihave Hi' := (in_leave (K := rings m G c) (n := n)) $$ Hi
  icases Hi' with ⟨Hs1, S2, Ha⟩
  ihave Ho' := (out_leave (K := rings m G c) (n := n) (hG c)) $$ Ho
  icases Ho' with ⟨Hs2, S3, Hv⟩
  isplitl [S0 S1 S2 S3]
  · isplitl [S0]
    · iapply (own_some c cc0_scratch0)
      iexact S0
    isplitl [S1]
    · iapply (own_some c cc0_scratch1)
      iexact S1
    isplitl [S2]
    · iapply (scratch2_join c n)
      iexact S2
    iapply (scratch3_join c n)
    iexact S3
  isplitl [Hp]; · iexact Hp
  isplitl [Hs1 Hs2]
  · iapply (ownSems_join c n n)
    isplitl [Hs1]; · iexact Hs1
    iexact Hs2
  isplitl [Ha]; · iexact Ha
  iexact Hv

/-! ## A grid point -/

/-- What the routing says of the tables: the blocks of expert `t` are those from `b t` to `b (t + 1)`. -/
structure Route (c : Dev nD) (n : ℕ) : Prop where
  start : b 0 = 0
  last : b 32 = n
  range : ∀ t : Fin (cfgA m).N, Range
    (((Memref.whole main_arg1 : Memref sig .tc .smem S1 .i32).access (Rect.unit (s := S1) ![0] S1.size inb_S1_S1_0)).read (Elt F) (tabs m 1) (Shape.Idx.first (numel1_S1.symm ▸ Nat.one_pos)))
    (((Memref.whole main_arg0 : Memref sig .tc .smem S33 .i32).access (Rect.unit (s := S33) (k0_off1 (grid0.coords t)) S1.size (k0_off1_inb (grid0.coords t)))).read (Elt F) (tabs m 0) (Shape.Idx.first (numel1_S1.symm ▸ Nat.one_pos)))
    (((Memref.whole main_arg0 : Memref sig .tc .smem S33 .i32).access (Rect.unit (s := S33) (k0_off2 (grid0.coords t)) S1.size (k0_off2_inb (grid0.coords t)))).read (Elt F) (tabs m 0) (Shape.Idx.first (numel1_S1.symm ▸ Nat.one_pos)))
    n (b t.val) (b (t.val + 1))

/-- The kernel's function at point `t`, as the pipeline calls it. -/
abbrev bodyAt (t : Fin (cfgA m).N) : Prog (TpuEff nD τ sig (Elt F) Λ₀ .tc) PUnit :=
  cc0_expert_ffn (grid0.coords t) (Memref.whole main_arg0) (Memref.isWhole_whole _) (Memref.whole main_arg1) (Memref.isWhole_whole _) (Memref.whole main_arg2) (Memref.isWhole_whole _)
    (ms0 m t) (hstage0_0 (((cfgA m).slots t 0).cast nbuf0_0)) (ms1 m t) (hstage0_1 (((cfgA m).slots t 1).cast nbuf0_1)) (ms2 m t) (hstage0_2 (((cfgA m).slots t 2).cast nbuf0_2))
    (ms3 m t) (hstage0_3 (((cfgA m).slots t 3).cast nbuf0_3)) (Memref.whole main_v2) (Memref.isWhole_whole _) (Memref.whole cc0_scratch0) (Memref.isWhole_whole _)
    (Memref.whole cc0_scratch1) (Memref.isWhole_whole _) (Memref.whole cc0_scratch2) (Memref.isWhole_whole _) (Memref.whole cc0_scratch3) (Memref.isWhole_whole _) cc0_scratch4 cc0_scratch5

theorem defs₀_row (t : Fin (cfgA m).N) : defs₀ (F := F) .tc (cfgA m).body ((cfgA m).bodyArgs t ((cfgA m).slots t)) = bodyAt m t := by
  unfold defs₀; rw [Defs.onTc_tc]

theorem cond1_table : ∀ t : Fin 32, (k0_cond1 (grid0.coords t) = 1#1) = (t.val = 0) := by decide +kernel
theorem cond40_table : ∀ t : Fin 32, (k0_cond40 (grid0.coords t) = 1#1) = (t.val = 31) := by decide +kernel

/-- What the body is given besides the staged weights. -/
def bodyPre (c : Dev nD) (t : Fin (cfgA m).N) : sProp (MM F) :=
  iprop((dats m G b 0 c).Φ t.castSucc ∗ (dats m G b 0 c).owesAt () t.castSucc
    ∗ (∃ d, owns (c : Thread nD τ) (ms0 m t) fullShare ((dats m G b 0 c).before 0 t d))
    ∗ (∃ d, owns (c : Thread nD τ) (ms1 m t) fullShare ((dats m G b 0 c).before 1 t d))
    ∗ (∃ d, owns (c : Thread nD τ) (ms2 m t) fullShare ((dats m G b 0 c).before 2 t d))
    ∗ (∃ d, owns (c : Thread nD τ) (ms3 m t) fullShare ((dats m G b 0 c).before 3 t d)))

def bodyPost (c : Dev nD) (t : Fin (cfgA m).N) : sProp (MM F) :=
  iprop((dats m G b 0 c).Φ t.succ ∗ (dats m G b 0 c).owesAt () t.succ
    ∗ owns (c : Thread nD τ) (ms0 m t) fullShare ((dats m G b 0 c).after 0 t)
    ∗ owns (c : Thread nD τ) (ms1 m t) fullShare ((dats m G b 0 c).after 1 t)
    ∗ owns (c : Thread nD τ) (ms2 m t) fullShare ((dats m G b 0 c).after 2 t)
    ∗ owns (c : Thread nD τ) (ms3 m t) fullShare ((dats m G b 0 c).after 3 t))

end Cert.Kernel.Hand

end
-- ==== Proof.Run.lean ====
/-
  Hand-written, untrusted. The kernel's program runs: every grid point leads from one invariant to the next, so the
  whole run leaves the arguments unchanged, every semaphore at zero, and the given value in the result.
-/
module

public import proofs.«01_k».proof.Proof.Launch

@[expose] public section

set_option maxRecDepth 20000

noncomputable section

namespace Cert.Kernel.Hand

open Cert.Kernel Cert.Kernel.Gen
open Idealize.ShloMosaic Idealize.ShloMosaic.TcCoe Idealize.ShloMosaic.Tactic Idealize.ShloMosaic.ValueIdx
open Idealize.SL Idealize.SL.RA Idealize.SL.BI Idealize.SL.ExclCount
open scoped Idealize.SL.BI
open Idealize.SL.BI.BIBase Idealize.SL.BI.Laws Idealize.SL.ProofMode Idealize.SL.Sem
open Idealize.ShloMosaic.Pipeline (Dat Cfg Window BodyObligation)

variable {F : FTy → Type} [BitOps F]
variable (m : (ℓ : Loc nD τ sig) → Buf (Elt F) ℓ) (ρ : Dev nD → PrngReg)
variable (G : (c : Dev nD) → Buf (Elt F) ((c : Thread nD τ).loc main_v2)) (b : ℕ → ℕ)

/-- What the body is given, as the two rings and the weights. -/
theorem body_enter (c : Dev nD) (t : Fin (cfgA m).N) :
    bodyPre m G b c t ⊢ iprop(((Memref.whole main_arg1 : Memref sig .tc .smem S1 .i32).view.loc (c : Thread nD τ) ↦[Finset.univ]{fullShare.right} tabs m 1)
      ∗ ((Memref.whole main_arg0 : Memref sig .tc .smem S33 .i32).view.loc (c : Thread nD τ) ↦[Finset.univ]{fullShare.right} tabs m 0)
      ∗ St (rings m G c) (WtP (wts m c t) c False False) (if t.val = 0 then 0 else min (b t.val + 4) (b 32)) (b t.val) (b t.val - 8) (b t.val) (b t.val) (b t.val)
      ∗ (∃ r, prngReg c r)) := by
  unfold bodyPre St WtP Owes
  have ht : t.val ≠ 32 := by have := t.isLt; have := N_0; show ¬ _ ; intro h; have h2 : t.val < 32 := t.isLt; omega
  have e : (dats m G b 0 c).Φ t.castSucc = Inv m G b c t.val := rfl
  rw [e]
  unfold Inv Tabs
  rw [if_neg (show ¬ t.val = 32 from ht)]
  unfold Dat.owesAt Pipeline.owesWithin
  rw [show (dats m G b 0 c).owed t.castSucc = 0 from rfl]
  iintro ⟨⟨⟨T1, T0⟩, Hi, Ho, ⟨%u9, S0⟩, ⟨%u10, S1⟩, Hp⟩, ⟨%w, -, Hw⟩, ⟨%d0, W0⟩, ⟨%d1, W1⟩, ⟨%d2, W2⟩, ⟨%d3, W3⟩⟩
  rw [before0, before1, before2, before3]
  isplitl [T1]; · iexact T1
  isplitl [T0]; · iexact T0
  isplitr [Hp]
  · isplitl [Hi]; · iexact Hi
    isplitl [Ho]; · iexact Ho
    isplitl [Hw]; · iexists w; iexact Hw
    isplitl [W0]; · iexact W0
    isplitl [W1]; · iexact W1
    isplitl [W2]; · iexact W2
    isplitl [W3]; · iexact W3
    isplitl [S0]
    · iexists u9
      isplitr; · ipureintro; exact fun h => h.elim
      iexact S0
    iexists u10
    isplitr; · ipureintro; exact fun h => h.elim
    iexact S1
  iexact Hp

/-- What the body ends with is what the next point starts with. -/
theorem body_leave (c : Dev nD) (t : Fin (cfgA m).N) (p : Prop) (a cc d : ℕ) (ha : a = min (b (t.val + 1) + 4) (b 32))
    (hc : cc = if t.val + 1 = 32 then b (t.val + 1) else b (t.val + 1) - 8) (hd : d = b (t.val + 1)) :
    (iprop((((Memref.whole main_arg1 : Memref sig .tc .smem S1 .i32).view.loc (c : Thread nD τ) ↦[Finset.univ]{fullShare.right} tabs m 1)
      ∗ ((Memref.whole main_arg0 : Memref sig .tc .smem S33 .i32).view.loc (c : Thread nD τ) ↦[Finset.univ]{fullShare.right} tabs m 0)
      ∗ St (rings m G c) (WtP (wts m c t) c p p) a d cc d d d) ∗ (∃ r, prngReg c r)) : sProp (MM F)) ⊢ bodyPost m G b c t := by
  subst ha hc hd
  unfold bodyPost St WtP Owes
  have e : (dats m G b 0 c).Φ t.succ = Inv m G b c (t.val + 1) := rfl
  rw [e]
  unfold Inv Tabs
  rw [if_neg (Nat.succ_ne_zero t.val)]
  unfold Dat.owesAt Pipeline.owesWithin
  rw [show (dats m G b 0 c).owed t.succ = 0 from rfl, after0, after1, after2, after3]
  iintro ⟨⟨T1, T0, Hi, Ho, ⟨%w, Hw⟩, W0, W1, W2, W3, ⟨%u9, -, S0⟩, ⟨%u10, -, S1⟩⟩, Hp⟩
  isplitl [T1 T0 Hi Ho S0 S1 Hp]
  · isplitl [T1 T0]
    · isplitl [T1]; · iexact T1
      iexact T0
    isplitl [Hi]; · iexact Hi
    isplitl [Ho]; · iexact Ho
    isplitl [S0]; · iexists u9; iexact S0
    isplitl [S1]; · iexists u10; iexact S1
    iexact Hp
  isplitl [Hw]
  · iexists w
    isplitr; · ipureintro; exact fun _ _ => Or.inl trivial
    iexact Hw
  isplitl [W0]; · iexact W0
  isplitl [W1]; · iexact W1
  isplitl [W2]; · iexact W2
  iexact W3

theorem rot4 {A B C D : sProp (MM F)} : iprop(A ∗ B ∗ C ∗ D) ⊢ iprop(D ∗ A ∗ B ∗ C) := by
  iintro ⟨H1, H2, H3, Hp⟩
  isplitl [Hp]; · iexact Hp
  isplitl [H1]; · iexact H1
  isplitl [H2]; · iexact H2
  iexact H3

theorem sound_body (c : Dev nD) (t : Fin (cfgA m).N) (n : ℕ) (hR : Route m b c n)
    (hY : Good (rings m G c) (wts m c t) (b t.val) (b (t.val + 1))) :
    bodyPre m G b c t ⊢ wp frame (wpE (defs₀ (F := F)) Variants.none c none) Set.univ (bodyAt m t) (fun _ => bodyPost m G b c t) := by
  have ht : t.val < 32 := t.isLt
  have c1 := cond1_table t
  have c40 := cond40_table t
  have hn := hR.last
  have hb0 := hR.start
  have key := body_point (K := rings m G c) (W := wts m c t) (i := grid0.coords t)
    (arg1 := Memref.whole main_arg0) (harg1 := Memref.isWhole_whole _) (arg2 := Memref.whole main_arg1) (harg2 := Memref.isWhole_whole _)
    (h3 := Memref.isWhole_whole _) (h4 := hstage0_0 (((cfgA m).slots t 0).cast nbuf0_0)) (h5 := hstage0_1 (((cfgA m).slots t 1).cast nbuf0_1))
    (h6 := hstage0_2 (((cfgA m).slots t 2).cast nbuf0_2)) (h7 := hstage0_3 (((cfgA m).slots t 3).cast nbuf0_3)) (h8 := Memref.isWhole_whole _)
    (h9 := Memref.isWhole_whole _) (h10 := Memref.isWhole_whole _) (h11 := Memref.isWhole_whole _) (h12 := Memref.isWhole_whole _)
    (q := fullShare.right) (f1 := tabs m 0) (f2 := tabs m 1)
    (hR.range t) hY rfl rfl rfl (a0 := if t.val = 0 then 0 else min (b t.val + 4) (b 32))
    (fun h => by rw [c1] at h; rw [if_pos h, h]; exact ⟨rfl, hb0⟩)
    (fun h => by rw [c1] at h; rw [if_neg h, hn])
    (fun h => by rw [c40] at h; rw [h]; exact hn)
    (Q := fun _ => iprop((∃ r, prngReg c r) -∗ bodyPost m G b c t))
    (fun h => by
      rw [c40] at h
      refine BI.wand_intro ?_
      exact body_leave m G b c t _ n n n (by rw [h, hn]; omega) (by rw [h, if_pos rfl, hn]) (by rw [h, hn]))
    (fun h => by
      rw [c40] at h
      unfold Bd
      refine BI.wand_intro ?_
      exact body_leave m G b c t _ _ _ _ (by rw [hn]) (by rw [if_neg (by omega)]) rfl)
  refine (body_enter m G b c t).trans ?_
  exact rot4.trans (sKeep key)

/-- Every block in use holds its expert's function of the dispatched rows, the others what they held. -/
structure Ready (n : ℕ) : Prop where
  route : ∀ c, Route m b c n
  good : ∀ c (t : Fin (cfgA m).N), Good (rings m G c) (wts m c t) (b t.val) (b (t.val + 1))
  rest : ∀ c, Rest (rings m G c) n

theorem body_obligation (n : ℕ) (hR : Ready m G b n) (c : Dev nD) : BodyObligation (dats (F := F) m G b 0 c) (defs₀ (F := F)) Variants.none () Set.univ := fun t => by
  rw [bigSep_W0, bigSep_W0, defs₀_row]
  exact triple_restated (sound_body m G b c t n (hR.route c) (hR.good c t)) rfl .rfl fun _ => .rfl

set_option backward.isDefEq.respectTransparency.types false in
theorem run_main (n : ℕ) (hR : Ready m G b n) : θ_run defs (onTc (τ := τ) (main (F := F))) (s₀ m ρ)
    (fun r => Pipeline.FramePostRG (Pipeline.pin pcfgs (adms m)) (dats m G b) 0 R0 (V m) (Gf m G) r ∧ r.2.sem = fun _ => 0) :=
  Pipeline.θ_run_frameP_dmaRG (Q' := _) pcfgs (adms m) (dats m G b) (0 : Fin 1) launch0 osem0 defs₀ Variants.none ownSemFacts0 H0 R0 H0_sub R0_sub m ρ main
    (hbody := fun c => (body_obligation m G b n hR c).loose) (hshare := fun c => (dats m G b 0 c).share_full fun _ => rfl)
    (howed := fun _ _ => rfl) (V := V m) (hmain := hmain m Variants.none) (hA := A_eq m G b)
    (hpf := fun c k => by rw [Subsingleton.elim c 0]; rfl) (G := Gf m G)
    (hin := fun c => hin m G b (hR.route c).start c) (hout := fun c => hout m G b n (hR.route c).last hR.rest c) (hQ' := fun r h => h)

theorem rest_main_arg0 : main_arg0 ∈ Pipeline.restRefs sig spec0 \ R0 := Finset.mem_sdiff.mpr ⟨Pipeline.mem_restRefs_of main_arg0 (by decide) (by decide), by decide⟩
theorem rest_main_arg1 : main_arg1 ∈ Pipeline.restRefs sig spec0 \ R0 := Finset.mem_sdiff.mpr ⟨Pipeline.mem_restRefs_of main_arg1 (by decide) (by decide), by decide⟩
theorem rest_main_arg2 : main_arg2 ∈ Pipeline.restRefs sig spec0 \ R0 := Finset.mem_sdiff.mpr ⟨Pipeline.mem_restRefs_of main_arg2 (by decide) (by decide), by decide⟩
theorem rest_main_arg4 : main_arg4 ∈ Pipeline.restRefs sig spec0 \ R0 := Finset.mem_sdiff.mpr ⟨Pipeline.mem_restRefs_of main_arg4 (by decide) (by decide), by decide⟩
theorem rest_main_arg6 : main_arg6 ∈ Pipeline.restRefs sig spec0 \ R0 := Finset.mem_sdiff.mpr ⟨Pipeline.mem_restRefs_of main_arg6 (by decide) (by decide), by decide⟩

/-- The run, read at the arguments and the result. -/
theorem run_all (n : ℕ) (hR : Ready m G b n) : θ_run defs (onTc (τ := τ) (main (F := F))) ⟨m, fun _ => 0, ρ⟩ (fun r => (∀ c : Dev nD,
      r.2.mem ((c.tc : Thread nD τ).loc main_v2) = G c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun r h => ⟨fun c =>
    ⟨(h.1.2 c main_v2 (by decide)).trans (Gf_v2 m G c),
      ((h.1.1 c).2 main_arg0 (rest_main_arg0)).trans (V_of m c main_arg0 (by decide) (by decide)),
      ((h.1.1 c).2 main_arg1 (rest_main_arg1)).trans (V_of m c main_arg1 (by decide) (by decide)),
      ((h.1.1 c).2 main_arg2 (rest_main_arg2)).trans (V_of m c main_arg2 (by decide) (by decide)),
      ((h.1.1 c).1 0).trans (((dats m G b 0 c).arrAt_in 0 rfl _).trans ((A_eq m G b c 0).trans (V_of m c main_arg3 (by decide) (by decide)))),
      ((h.1.1 c).2 main_arg4 (rest_main_arg4)).trans (V_of m c main_arg4 (by decide) (by decide)),
      ((h.1.1 c).1 2).trans (((dats m G b 0 c).arrAt_in 2 rfl _).trans ((A_eq m G b c 2).trans (V_of m c main_arg5 (by decide) (by decide)))),
      ((h.1.1 c).2 main_arg6 (rest_main_arg6)).trans (V_of m c main_arg6 (by decide) (by decide))⟩, h.2⟩) (run_main m ρ G b n hR)

end Cert.Kernel.Hand

end
-- ==== Proof.Route.lean ====
/-
  Hand-written, untrusted. What the routing says of the two tables, and the value it makes the kernel's result: word by
  word the expert's function of the block the word lies in, for the blocks in use.
-/
module

public import proofs.«01_k».proof.Proof.Run

@[expose] public section

set_option maxRecDepth 20000

noncomputable section

namespace Cert.Kernel.Hand

open Cert.Kernel Cert.Kernel.Gen
open Idealize.ShloMosaic Idealize.ShloMosaic.TcCoe Idealize.ShloMosaic.Tactic Idealize.ShloMosaic.ValueIdx
open Idealize.SL Idealize.SL.RA Idealize.SL.BI Idealize.SL.ExclCount
open scoped Idealize.SL.BI
open Idealize.SL.BI.BIBase Idealize.SL.BI.Laws Idealize.SL.ProofMode Idealize.SL.Sem
open Idealize.ShloMosaic.Pipeline (Dat Cfg Window BodyObligation)

variable {F : FTy → Type} [BitOps F]
variable (m : (ℓ : Loc nD τ sig) → Buf (Elt F) ℓ) (ρ : Dev nD → PrngReg)
/-! ## The tables -/

/-- Word `j` of the table of first blocks. -/
def word (j : Fin 33) : BitVec 32 := (tabs m 0 : S33.Idx → BitVec 32) (ix1 j)

/-- The number of blocks in use, as a word. -/
def used : BitVec 32 := (tabs m 1 : S1.Idx → BitVec 32) (ix1 (0 : Fin 1))

/-- The first block of expert `t`; the number of blocks in use from 32 on. -/
def first (t : ℕ) : ℕ := (word m ⟨min t 32, by omega⟩).toNat

/-- The number of blocks in use. -/
def inUse : ℕ := (used m).toNat

/-- What is said of the tables: the first blocks do not fall, start from zero and end at the number of blocks in use. -/
structure Routed : Prop where
  mono : ∀ j : Fin 32, (word m j.castSucc).sle (word m j.succ) = true
  zero : word m 0 = 0#32
  last : word m (Fin.last 32) = used m
  cap : (used m).sle 548#32 = true

variable {m}

theorem Routed.int_mono (h : Routed m) (j : Fin 32) : (word m j.castSucc).toInt ≤ (word m j.succ).toInt := by
  have := h.mono j
  rwa [BitVec.sle_iff_toInt_le] at this

theorem Routed.int_nonneg (h : Routed m) (j : Fin 33) : 0 ≤ (word m j).toInt := by
  induction j using Fin.induction with
  | zero => rw [h.zero]; decide
  | succ i ih => exact ih.trans (h.int_mono i)

theorem Routed.int_le (h : Routed m) (j : Fin 33) : (word m j).toInt ≤ 548 := by
  induction j using Fin.reverseInduction with
  | last =>
    rw [h.last]
    have := h.cap
    rw [BitVec.sle_iff_toInt_le] at this
    exact this
  | cast i ih => exact (h.int_mono i).trans ih

theorem toNat_of_int {w : BitVec 32} (h : 0 ≤ w.toInt) : (w.toNat : ℤ) = w.toInt := by
  have := w.isLt
  rw [BitVec.toInt_eq_toNat_cond] at h ⊢
  split_ifs at h ⊢ with h2 <;> omega

theorem Routed.nat_mono (h : Routed m) (j : Fin 32) : (word m j.castSucc).toNat ≤ (word m j.succ).toNat := by
  have a := toNat_of_int (h.int_nonneg j.castSucc)
  have b := toNat_of_int (h.int_nonneg j.succ)
  have c := h.int_mono j
  omega

theorem Routed.nat_le (h : Routed m) (j : Fin 33) : (word m j).toNat ≤ 548 := by
  have a := toNat_of_int (h.int_nonneg j)
  have c := h.int_le j
  omega

theorem first_of {t : ℕ} (ht : t ≤ 32) : first m t = (word m ⟨t, by omega⟩).toNat := by
  unfold first
  congr 2
  apply Fin.ext
  exact Nat.min_eq_left ht

theorem Routed.first_step (h : Routed m) (t : ℕ) : first m t ≤ first m (t + 1) := by
  by_cases ht : t < 32
  · rw [first_of (by omega), first_of (by omega)]
    exact h.nat_mono ⟨t, ht⟩
  · refine le_of_eq ?_
    unfold first
    congr 2
    apply Fin.ext
    simp only
    omega

theorem Routed.first_mono (h : Routed m) : Monotone (first m) := monotone_nat_of_le_succ h.first_step

theorem Routed.first_zero (h : Routed m) : first m 0 = 0 := by
  rw [first_of (by omega)]
  exact congrArg BitVec.toNat h.zero

theorem Routed.first_last (h : Routed m) : first m 32 = inUse m := by
  rw [first_of (by omega)]
  exact congrArg BitVec.toNat h.last

theorem Routed.inUse_le (h : Routed m) : inUse m ≤ 548 := by
  rw [← h.first_last, first_of (by omega)]
  exact h.nat_le _

theorem off1_table : ∀ t : Fin 32, k0_off1 (grid0.coords t) 0 = t.val := by decide +kernel
theorem off2_table : ∀ t : Fin 32, k0_off2 (grid0.coords t) 0 = t.val + 1 := by decide +kernel

theorem read_off1 (t : Fin (cfgA m).N) :
    ((Memref.whole main_arg0 : Memref sig .tc .smem S33 .i32).access (Rect.unit (s := S33) (k0_off1 (grid0.coords t)) S1.size (k0_off1_inb (grid0.coords t)))).read (Elt F) (tabs m 0) (Shape.Idx.first (numel1_S1.symm ▸ Nat.one_pos))
      = word m ⟨t.val, by have h : t.val < 32 := t.isLt; omega⟩ := by
  show (tabs m 0 : S33.Idx → BitVec 32) ((Rect.unit (s := S33) (k0_off1 (grid0.coords t)) S1.size (k0_off1_inb (grid0.coords t))).emb _) = _
  unfold word
  congr 1
  funext a
  apply Fin.ext
  rw [Rect.emb_apply]
  have := off1_table t
  fin_cases a
  simp [this]
  rfl

theorem read_off2 (t : Fin (cfgA m).N) :
    ((Memref.whole main_arg0 : Memref sig .tc .smem S33 .i32).access (Rect.unit (s := S33) (k0_off2 (grid0.coords t)) S1.size (k0_off2_inb (grid0.coords t)))).read (Elt F) (tabs m 0) (Shape.Idx.first (numel1_S1.symm ▸ Nat.one_pos))
      = word m ⟨t.val + 1, by have h : t.val < 32 := t.isLt; omega⟩ := by
  show (tabs m 0 : S33.Idx → BitVec 32) ((Rect.unit (s := S33) (k0_off2 (grid0.coords t)) S1.size (k0_off2_inb (grid0.coords t))).emb _) = _
  unfold word
  congr 1
  funext a
  apply Fin.ext
  rw [Rect.emb_apply]
  have := off2_table t
  fin_cases a
  simp [this]
  rfl

theorem read_used :
    ((Memref.whole main_arg1 : Memref sig .tc .smem S1 .i32).access (Rect.unit (s := S1) ![0] S1.size inb_S1_S1_0)).read (Elt F) (tabs m 1) (Shape.Idx.first (numel1_S1.symm ▸ Nat.one_pos)) = used m := by
  show (tabs m 1 : S1.Idx → BitVec 32) ((Rect.unit (s := S1) ![0] S1.size inb_S1_S1_0).emb _) = _
  unfold used
  congr 1
  funext a
  apply Fin.ext
  rw [Rect.emb_apply]
  fin_cases a
  simp
  rfl

/-- The routing as the grid points read it. -/
theorem Routed.route (h : Routed m) (c : Dev nD) : Route m (first m) c (inUse m) where
  start := h.first_zero
  last := h.first_last
  range t := by
    have ht : t.val < 32 := t.isLt
    refine ⟨congrArg BitVec.toNat read_used, ?_, ?_, h.first_step _, ?_, h.inUse_le⟩
    · rw [read_off1, first_of (by omega)]
    · rw [read_off2, first_of (by omega)]
    · rw [← h.first_last]; exact h.first_mono (by omega)

/-! ## The value of the result -/

/-- The expert of block `k`. -/
def IsExpert (k : ℕ) (t : Fin (cfgA m).N) : Prop := first m t.val ≤ k ∧ k < first m (t.val + 1)

theorem Routed.expert_unique (h : Routed m) {k : ℕ} {t t' : Fin (cfgA m).N} (ht : IsExpert k t) (ht' : IsExpert k t') : t = t' := by
  apply Fin.ext
  rcases Nat.lt_trichotomy t.val t'.val with hl | he | hl
  · have := h.first_mono (show t.val + 1 ≤ t'.val from hl)
    have := ht.2
    have := ht'.1
    omega
  · exact he
  · have := h.first_mono (show t'.val + 1 ≤ t.val from hl)
    have := ht'.2
    have := ht.1
    omega

open Classical in
/-- The expert of block `k`, if it is in use. -/
def expertOf (m : (ℓ : Loc nD τ sig) → Buf (Elt F) ℓ) (k : ℕ) : Fin (cfgA m).N :=
  if h : ∃ t : Fin (cfgA m).N, IsExpert k t then h.choose else ⟨0, by show 0 < 32; omega⟩

theorem Routed.expertOf_eq (h : Routed m) {k : ℕ} {t : Fin (cfgA m).N} (ht : IsExpert k t) : expertOf m k = t := by
  unfold expertOf
  rw [dif_pos ⟨t, ht⟩]
  exact h.expert_unique (Exists.choose_spec (⟨t, ht⟩ : ∃ t : Fin (cfgA m).N, IsExpert k t)) ht

/-- A block of the dispatched rows. -/
def rowsOf (m : (ℓ : Loc nD τ sig) → Buf (Elt F) ℓ) (c : Dev nD) (k : ℕ) : Blk F :=
  (rowM (Memref.whole main_arg2 : Memref sig .tc .hbm S2x140288x256 .i32) k).view.read (Elt F) (V m c main_arg2)

/-- The two halves of a block of the result. -/
def loOf (m : (ℓ : Loc nD τ sig) → Buf (Elt F) ℓ) (c : Dev nD) (k : ℕ) (t : Fin (cfgA m).N) : Vec F S1x1x256x256 .i32 :=
  ffnLo (half 0 (rowsOf m c k)) (half 1 (rowsOf m c k)) (k0_pay1 (iblk m c 0 t)) (iblk m c 1 t) (k0_pay2 (iblk m c 2 t)) (iblk m c 3 t)
def hiOf (m : (ℓ : Loc nD τ sig) → Buf (Elt F) ℓ) (c : Dev nD) (k : ℕ) (t : Fin (cfgA m).N) : Vec F S1x1x256x256 .i32 :=
  ffnHi (half 0 (rowsOf m c k)) (half 1 (rowsOf m c k)) (k0_pay1 (iblk m c 0 t)) (iblk m c 1 t) (k0_pay2 (iblk m c 2 t)) (iblk m c 3 t)

/-- The result at word `(z, r, y)`. -/
def outAt (m : (ℓ : Loc nD τ sig) → Buf (Elt F) ℓ) (c : Dev nD) (z : Fin 2) (r : ℕ) (y : Fin 256) : BitVec 32 :=
  if z = 0 then (loOf m c (r / 256) (expertOf m (r / 256)) : S1x1x256x256.Idx → BitVec 32) (ix4 0 0 ⟨r % 256, Nat.mod_lt _ (by omega)⟩ y)
  else (hiOf m c (r / 256) (expertOf m (r / 256)) : S1x1x256x256.Idx → BitVec 32) (ix4 0 0 ⟨r % 256, Nat.mod_lt _ (by omega)⟩ y)

/-- The result: its blocks in use computed, the others as they were. -/
def result (m : (ℓ : Loc nD τ sig) → Buf (Elt F) ℓ) (c : Dev nD) : Buf (Elt F) ((c : Thread nD τ).loc main_v2) :=
  fun i : S2x140288x256.Idx => if (i 1).val / 256 < inUse m then outAt m c (i 0) (i 1).val (i 2) else V m c main_v2 i

theorem row_emb (A : Memref sig .tc .hbm S2x140288x256 .i32) {k : ℕ} (hk : k < 548) (j : S2x256x256.Idx) :
    (rowM A k).view.emb j = A.view.emb (ix3 (j 0) (⟨k * 256 + (j 1).val, by have h : (j 1).val < 256 := (j 1).isLt; omega⟩ : Fin 140288) (j 2)) := by
  show A.view.emb ((Rect.unit (s := S2x140288x256) (rowOff k) S2x256x256.size (inbRow k)).emb j) = _
  congr 1
  funext a
  apply Fin.ext
  rw [Rect.emb_apply]
  have : min k 547 = k := by omega
  fin_cases a <;> simp [rowOff, this]

theorem Y_eq (h : Routed m) (c : Dev nD) {k : ℕ} {t : Fin (cfgA m).N} (ht : IsExpert k t) (hk : k < inUse m) (z : Fin 2) (x y : Fin 256) :
    (rings m (result m) c).Y k (ix3 z x y)
      = if z = 0 then (loOf m c k t : S1x1x256x256.Idx → BitVec 32) (ix4 0 0 x y) else (hiOf m c k t : S1x1x256x256.Idx → BitVec 32) (ix4 0 0 x y) := by
  have hk' : k < 548 := by have := h.inUse_le; omega
  show result m c ((rowM (Memref.whole main_v2 : Memref sig .tc .hbm S2x140288x256 .i32) k).view.emb (ix3 z x y)) = _
  rw [row_emb _ hk']
  have hx : x.val < 256 := x.isLt
  have e1 : (k * 256 + x.val) / 256 = k := by omega
  have e2 : (k * 256 + x.val) % 256 = x.val := by omega
  show (if (k * 256 + x.val) / 256 < inUse m then outAt m c z (k * 256 + x.val) y else _) = _
  rw [if_pos (by omega)]
  unfold outAt
  have e3 : (⟨(k * 256 + x.val) % 256, Nat.mod_lt _ (by omega)⟩ : Fin 256) = x := Fin.ext e2
  rw [e3, e1, h.expertOf_eq ht]

theorem idx_11 (i : S1x1x256x256.Idx) : i = ix4 (0 : Fin 1) (0 : Fin 1) (i 2) (i 3) := by
  funext a
  fin_cases a
  · exact Subsingleton.elim (α := Fin 1) _ _
  · exact Subsingleton.elim (α := Fin 1) _ _
  · rfl
  · rfl

theorem Routed.ready (h : Routed m) : Ready m (result m) (first m) (inUse m) where
  route c := h.route c
  good c t k hk hk' := by
    have ht : t.val < 32 := t.isLt
    have hu : k < inUse m := by
      rw [← h.first_last]
      exact lt_of_lt_of_le hk' (h.first_mono (by omega))
    constructor
    · funext i
      refine (Y_eq h c ⟨hk, hk'⟩ hu 0 (i 2) (i 3)).trans ?_
      rw [if_pos rfl]
      exact congrArg (loOf m c k t) (idx_11 i).symm
    · funext i
      refine (Y_eq h c ⟨hk, hk'⟩ hu 1 (i 2) (i 3)).trans ?_
      rw [if_neg (by decide)]
      exact congrArg (hiOf m c k t) (idx_11 i).symm
  rest c k hk hk' i hi := by
    obtain ⟨j, -, rfl⟩ := Finset.mem_map.mp hi
    rw [row_emb _ hk']
    have hj : (j 1).val < 256 := (j 1).isLt
    symm
    show (if (k * 256 + (j 1).val) / 256 < inUse m then _ else _) = _
    rw [if_neg (by omega)]

end Cert.Kernel.Hand

end
-- ==== Proof.Frame.lean ====
/-
  Hand-written, untrusted. The precondition read word by word, and the kernel's frame under it.
-/
module

public import proofs.«01_k».proof.Proof.Route
public import proofs.«01_k».proof.Defs
public import proofs.«01_k».proof.Proof.Gen.Pre_routed

@[expose] public section

noncomputable section

namespace Cert.Kernel.Hand

open Idealize.ShloMosaic Idealize.ShloMosaic.TcCoe Idealize.SL.Sem Idealize.ShloMosaic.ValueIdx Cert.Kernel

theorem and_one {a b : BitVec 1} (h : a &&& b = 1#1) : a = 1#1 ∧ b = 1#1 := by
  revert a b; decide

theorem ofBool_one {b : Bool} (h : BitVec.ofBool b = 1#1) : b = true := by
  revert b; decide

/-- What the precondition says of the two tables. -/
theorem routed_words (a0 : IVec S33 32) (a1 : IVec S1 32) (a2 : IVec S2x140288x256 32) (a3 : FVec Bits S32x1024x2048 .f32) (a4 : FVec Bits S32x2048 .f32)
    (a5 : FVec Bits S32x1024x1024 .f32) (a6 : FVec Bits S32x1024 .f32)
    (h : haveI := Cert.Pre_routed.Gen.facts; Cert.Pre_routed.fn (F := Bits) a0 a1 a2 a3 a4 a5 a6 = fun _ => 1#1) :
    (∀ j : Fin 32, (a0 (ix1 j.castSucc)).sle (a0 (ix1 j.succ)) = true) ∧ a0 (ix1 (0 : Fin 33)) = 0#32 ∧ a0 (ix1 (Fin.last 32)) = a1 (ix1 (0 : Fin 1))
      ∧ (a1 (ix1 (0 : Fin 1))).sle 548#32 = true := by
  have at0 : ∀ (i : S33.Idx) (k : Fin 33), (i 0).val = k.val → a0 i = a0 (ix1 k) := fun i k hk => by
    rw [eq_ix1 i]; exact congrArg (fun k => a0 (ix1 k)) (Fin.ext hk)
  have at1 : ∀ i : S1.Idx, a1 i = a1 (ix1 (0 : Fin 1)) := fun i => by
    rw [eq_ix1 i]; exact congrArg (fun k => a1 (ix1 k)) (Subsingleton.elim (α := Fin 1) _ _)
  have key : ∀ j : Fin 32, (a0 (ix1 j.castSucc)).sle (a0 (ix1 j.succ)) = true ∧ a0 (ix1 (0 : Fin 33)) = 0#32 ∧ a0 (ix1 (Fin.last 32)) = a1 (ix1 (0 : Fin 1))
      ∧ (a1 (ix1 (0 : Fin 1))).sle 548#32 = true := by
    intro j
    have hj := congrFun h (ix1 j)
    unfold Cert.Pre_routed.fn at hj
    obtain ⟨hj1, hj2⟩ := and_one hj
    obtain ⟨hj3, hj4⟩ := and_one hj1
    obtain ⟨hj5, hj6⟩ := and_one hj2
    have e3 := ofBool_one hj3
    have e4 := ofBool_one hj4
    have e5 := ofBool_one hj5
    have e6 := ofBool_one hj6
    refine ⟨(congrArg₂ BitVec.sle (at0 _ j.castSucc ?_) (at0 _ j.succ ?_)).symm.trans e3, (at0 _ 0 ?_).symm.trans (beq_iff_eq.mp e4),
      (at0 _ (Fin.last 32) ?_).symm.trans ((beq_iff_eq.mp e5).trans (at1 _)), (congrArg₂ BitVec.sle (at1 _) rfl).symm.trans e6⟩
    all_goals first | rfl | (simp; done) | exact Nat.add_comm 1 j.val
  exact ⟨fun j => (key j).1, (key 0).2⟩

/-- The precondition gives the routing. -/
theorem routed_of (m : (ℓ : Loc nD τ sig) → Buf (Elt Bits) ℓ) (h : haveI := Cert.Pre_routed.Gen.facts; Cert.Pre_Kernel m) : Routed m := by
  obtain ⟨h1, h2, h3, h4⟩ := routed_words _ _ _ _ _ _ _ (h 0)
  have e0 : ∀ j : Fin 33, word m j = (m (((0 : Dev nD).tc : Thread nD τ).loc main_arg0) : S33.Idx → BitVec 32) (ix1 j) := fun j =>
    congrFun (V_of m 0 main_arg0 (by decide) (by decide)) _
  have e1 : used m = (m (((0 : Dev nD).tc : Thread nD τ).loc main_arg1) : S1.Idx → BitVec 32) (ix1 (0 : Fin 1)) :=
    congrFun (V_of m 0 main_arg1 (by decide) (by decide)) _
  exact ⟨fun j => by rw [e0, e0]; exact h1 j, (e0 _).trans h2, ((e0 _).trans h3).trans e1.symm, by rw [e1]; exact h4⟩

/-- The kernel's frame under the precondition. -/
theorem frame : haveI := Cert.Kernel.Gen.facts; haveI := Cert.Pre_routed.Gen.facts; Cert.quiescent_Kernel := fun m g h =>
  (θ_run _ _ _).mono (fun r hr => ⟨fun c => (hr.1 c).2, hr.2⟩) (run_all m g (result m) (first m) (inUse m) (routed_of m h).ready)

end Cert.Kernel.Hand

end
-- ==== Proof.Blocks.lean ====
/-
  Hand-written, untrusted. The kernel's operands at a grid point, entry by entry: the point's expert's weights and biases, and the two halves of
  a block of rows.
-/
module

public import proofs.«01_k».proof.Proof.Route
public import Idealize.ShloMosaic.Lib.StableHlo.RunRead
public import Idealize.ShloMosaic.Lib.ValueLayout

@[expose] public section

set_option maxRecDepth 20000

noncomputable section

namespace Cert.Kernel.Hand

open Cert.Kernel Cert.Kernel.Gen
open Idealize.ShloMosaic Idealize.ShloMosaic.TcCoe Idealize.ShloMosaic.Tactic

variable {F : FTy → Type} [BitOps F]
variable (m : (ℓ : Loc nD τ sig) → Buf (Elt F) ℓ)

/-- At grid point `t` each window's block is the one of expert `t`. -/
theorem map1 : ∀ t : Fin grid0.N, cc0_transform_1 (grid0.coords t) = ![t.val, 0, 0] := by decide +kernel
theorem map2 : ∀ t : Fin grid0.N, cc0_transform_2 (grid0.coords t) = ![t.val, 0, 0] := by decide +kernel
theorem map3 : ∀ t : Fin grid0.N, cc0_transform_3 (grid0.coords t) = ![t.val, 0, 0] := by decide +kernel
theorem map4 : ∀ t : Fin grid0.N, cc0_transform_4 (grid0.coords t) = ![t.val, 0, 0] := by decide +kernel

/-- Entry `(0, p, q)` of block `t` of a stack of 32 slabs is entry `(t, p, q)` of the stack. -/
theorem slab {a b : ℕ} (t : Fin 32) (f : Fin 3 → ℕ) (hf : f = ![t.val, 0, 0]) (h) (p : Fin a) (q : Fin b) :
    (Rect.block (s := ⟨3, ![32, a, b]⟩) ![1, a, b] f h).emb (ValueIdx.ix3 (0 : Fin 1) p q) = ValueIdx.ix3 t p q := by
  subst hf
  funext x
  apply Fin.ext
  rw [Rect.emb_apply]
  match x with
  | ⟨0, _⟩ => show t.val * 1 + 1 * 0 = t.val; omega
  | ⟨1, _⟩ => show 0 * a + 1 * p.val = p.val; omega
  | ⟨2, _⟩ => show 0 * b + 1 * q.val = q.val; omega

/-- Entry `(p, q)` of the first weights at grid point `t`. -/
theorem up_at (c : Dev nD) (t : Fin (cfgA m).N) (p : Fin 1024) (q : Fin 2048) :
    (iblk m c 0 t : S1x1024x2048.Idx → Elt F .f32) (ValueIdx.ix3 (0 : Fin 1) p q) = m ((c : Thread nD τ).loc main_arg3) (ValueIdx.ix3 (⟨t.val, t.isLt⟩ : Fin 32) p q) := by
  refine Eq.trans ?_ (congrFun (V_of m c main_arg3 (by decide) (by decide)) _)
  exact congrArg (V m c main_arg3) (slab t _ (map1 t) (hinb0_0 _) p q)

/-- Entry `q` of the first bias at grid point `t`. -/
theorem bias_up_at (c : Dev nD) (t : Fin (cfgA m).N) (q : Fin 2048) :
    (iblk m c 1 t : S1x1x2048.Idx → Elt F .f32) (ValueIdx.ix3 (0 : Fin 1) (0 : Fin 1) q) = m ((c : Thread nD τ).loc main_arg4) (ValueIdx.ix2 (⟨t.val, t.isLt⟩ : Fin 32) q) := by
  have h : V m c main_v0 = shapeCast S32x1x2048 (m ((c : Thread nD τ).loc main_arg4) : S32x2048.Idx → Elt F .f32) shapeCasts_S32x2048_S32x1x2048 := by
    show StableHlo.after hostOps0 _ (Proc.devRef .tc main_v0) = _
    after_reads_simp
    rfl
  have e : (iblk m c 1 t : S1x1x2048.Idx → Elt F .f32) (ValueIdx.ix3 (0 : Fin 1) (0 : Fin 1) q) = V m c main_v0 (ValueIdx.ix3 (⟨t.val, t.isLt⟩ : Fin 32) (0 : Fin 1) q) :=
    congrArg (V m c main_v0) (slab t _ (map2 t) (hinb0_1 _) 0 q)
  rw [e, h]
  exact shapeCast_apply _ _ _ (ValueIdx.ix2 (⟨t.val, t.isLt⟩ : Fin 32) q) (by
    rw [Shape.rowMajor_val_three, Shape.rowMajor_val_two]
    show t.val * 2048 + q.val = (t.val * 1 + 0) * 2048 + q.val
    omega)

/-- Entry `(p, q)` of the second weights at grid point `t`. -/
theorem down_at (c : Dev nD) (t : Fin (cfgA m).N) (p : Fin 1024) (q : Fin 1024) :
    (iblk m c 2 t : S1x1024x1024.Idx → Elt F .f32) (ValueIdx.ix3 (0 : Fin 1) p q) = m ((c : Thread nD τ).loc main_arg5) (ValueIdx.ix3 (⟨t.val, t.isLt⟩ : Fin 32) p q) := by
  refine Eq.trans ?_ (congrFun (V_of m c main_arg5 (by decide) (by decide)) _)
  exact congrArg (V m c main_arg5) (slab t _ (map3 t) (hinb0_2 _) p q)

/-- Entry `q` of the second bias at grid point `t`. -/
theorem bias_down_at (c : Dev nD) (t : Fin (cfgA m).N) (q : Fin 1024) :
    (iblk m c 3 t : S1x1x1024.Idx → Elt F .f32) (ValueIdx.ix3 (0 : Fin 1) (0 : Fin 1) q) = m ((c : Thread nD τ).loc main_arg6) (ValueIdx.ix2 (⟨t.val, t.isLt⟩ : Fin 32) q) := by
  have h : V m c main_v1 = shapeCast S32x1x1024 (m ((c : Thread nD τ).loc main_arg6) : S32x1024.Idx → Elt F .f32) shapeCasts_S32x1024_S32x1x1024 := by
    show StableHlo.after hostOps0 _ (Proc.devRef .tc main_v1) = _
    after_reads_simp
    rfl
  have e : (iblk m c 3 t : S1x1x1024.Idx → Elt F .f32) (ValueIdx.ix3 (0 : Fin 1) (0 : Fin 1) q) = V m c main_v1 (ValueIdx.ix3 (⟨t.val, t.isLt⟩ : Fin 32) (0 : Fin 1) q) :=
    congrArg (V m c main_v1) (slab t _ (map4 t) (hinb0_3 _) 0 q)
  rw [e, h]
  exact shapeCast_apply _ _ _ (ValueIdx.ix2 (⟨t.val, t.isLt⟩ : Fin 32) q) (by
    rw [Shape.rowMajor_val_three, Shape.rowMajor_val_two]
    show t.val * 1024 + q.val = (t.val * 1 + 0) * 1024 + q.val
    omega)

/-- Word `(p, q)` of half `z` of block `k`. -/
theorem half_at (c : Dev nD) (k : Fin 548) (z : Fin 2) (p q : Fin 256) :
    half (F := F) z (rowsOf m c k.val) (ValueIdx.ix4 (0 : Fin 1) (0 : Fin 1) p q)
      = m ((c : Thread nD τ).loc main_arg2) (ValueIdx.ix3 z (⟨256 * k.val + p.val, by omega⟩ : Fin 140288) q) := by
  refine Eq.trans ?_ (congrFun (V_of m c main_arg2 (by decide) (by decide)) _)
  show V m c main_arg2 ((rowM (Memref.whole main_arg2 : Memref sig .tc .hbm S2x140288x256 .i32) k.val).view.emb (ValueIdx.ix3 z p q)) = _
  rw [row_emb _ k.isLt]
  show V m c main_arg2 (ValueIdx.ix3 z (⟨k.val * 256 + p.val, _⟩ : Fin 140288) q) = _
  congr 2
  exact Fin.ext (by show k.val * 256 + p.val = 256 * k.val + p.val; omega)

end Cert.Kernel.Hand

end
-- ==== Proof.Same.lean ====
/-
  Hand-written, untrusted. The kernel's row block and the reference's row block are the same function of the same operands.
-/
module

public import proofs.«01_k».proof.Proof.Values
public import proofs.«01_k».proof.Proof.Gen.Reference.Skeleton

@[expose] public section

set_option maxRecDepth 20000

noncomputable section

namespace Cert.Same

open Idealize.ShloMosaic Idealize.ShloMosaic.TcCoe Idealize.ShloMosaic.Tactic Idealize.ShloMosaic.ValueIdx

variable {F : FTy → Type} [BitOps F]

/-- The reference's low words of a row block. -/
def refLo (x0 x1 : Vec F Cert.Reference.S1x256x256 .i32) (w : Vec F Cert.Reference.S1x1024x2048 .f32) (b : Vec F Cert.Reference.S1x1x2048 .f32) (wd : Vec F Cert.Reference.S1x1024x1024 .f32) (bd : Vec F Cert.Reference.S1x1x1024 .f32) : Vec F Cert.Reference.S1x256x256 .i32 :=
  Cert.Reference.Gen.k0_pay2 (Cert.Reference.Gen.k0_pay5 x0 x1 b w) (Cert.Reference.Gen.k0_pay6 x0 x1 b w) (Scalar.ofBits .f32 0x3F800000#32) bd wd

/-- The reference's high words of a row block. -/
def refHi (x0 x1 : Vec F Cert.Reference.S1x256x256 .i32) (w : Vec F Cert.Reference.S1x1024x2048 .f32) (b : Vec F Cert.Reference.S1x1x2048 .f32) (wd : Vec F Cert.Reference.S1x1024x1024 .f32) (bd : Vec F Cert.Reference.S1x1x1024 .f32) : Vec F Cert.Reference.S1x256x256 .i32 :=
  Cert.Reference.Gen.k0_pay3 (Cert.Reference.Gen.k0_pay5 x0 x1 b w) (Cert.Reference.Gen.k0_pay6 x0 x1 b w) (Scalar.ofBits .f32 0x3F800000#32) bd wd

/-- A block held under two leading unit axes and one held under a single one flatten to the same block. -/
theorem flat_eq (hk : Cert.Kernel.S1x1x256x256.ShapeCasts Cert.Kernel.S256x256) (hr : Cert.Reference.S1x256x256.ShapeCasts Cert.Reference.S256x256)
    (a : Vec F Cert.Kernel.S1x1x256x256 .i32) (x : Vec F Cert.Reference.S1x256x256 .i32)
    (hax : ∀ i j : Fin 256, a (ix4 (0 : Fin 1) (0 : Fin 1) i j) = x (ix3 (0 : Fin 1) i j)) :
    (shapeCast Cert.Kernel.S256x256 a hk : IVec Cert.Kernel.S256x256 32)
      = shapeCast Cert.Reference.S256x256 x hr := by
  funext j
  obtain ⟨p, q, rfl⟩ : ∃ (p q : Fin 256), j = ix2 p q := ⟨j 0, j 1, by funext a; fin_cases a <;> rfl⟩
  rw [shapeCast_apply a _ (ix2 p q) (ix4 (0 : Fin 1) (0 : Fin 1) p q) (by
        rw [Shape.rowMajor_val_four, Shape.rowMajor_val_two]
        show ((0 * 1 + 0) * 256 + p.val) * 256 + q.val = p.val * 256 + q.val
        omega),
    shapeCast_apply x _ (ix2 p q) (ix3 (0 : Fin 1) p q) (by
        rw [Shape.rowMajor_val_three, Shape.rowMajor_val_two]
        show (0 * 256 + p.val) * 256 + q.val = p.val * 256 + q.val
        omega)]
  exact hax p q

section
variable (a0 a1 : Vec F Cert.Kernel.S1x1x256x256 .i32) (x0 x1 : Vec F Cert.Reference.S1x256x256 .i32)
  (w : Vec F Cert.Kernel.S1x1024x2048 .f32) (b : Vec F Cert.Kernel.S1x1x2048 .f32) (wd : Vec F Cert.Kernel.S1x1024x1024 .f32) (bd : Vec F Cert.Kernel.S1x1x1024 .f32)
  (h0 : ∀ i j : Fin 256, a0 (ix4 (0 : Fin 1) (0 : Fin 1) i j) = x0 (ix3 (0 : Fin 1) i j))
  (h1 : ∀ i j : Fin 256, a1 (ix4 (0 : Fin 1) (0 : Fin 1) i j) = x1 (ix3 (0 : Fin 1) i j))
include h0 h1

/-- The first product with its bias, before the two halves are clipped. -/
theorem up_eq : Cert.Kernel.Gen.k0_pay3 a0 a1 b (Cert.Kernel.Gen.k0_pay1 w) = Cert.Reference.Gen.k0_pay4 x0 x1 b w := by
  have e0 := fun hk hr => flat_eq hk hr a0 x0 h0
  have e1 := fun hk hr => flat_eq hk hr a1 x1 h1
  unfold Cert.Kernel.Gen.k0_pay3 Cert.Kernel.Gen.k0_pay1 Cert.Reference.Gen.k0_pay4
  dsimp only
  rw [e0, e1, shapeCast_self]
  rfl

theorem gate_eq : Cert.Kernel.Gen.k0_pay4 a0 a1 b (Cert.Kernel.Gen.k0_pay1 w) = Cert.Reference.Gen.k0_pay5 x0 x1 b w := by
  unfold Cert.Kernel.Gen.k0_pay4 Cert.Reference.Gen.k0_pay5
  dsimp only
  rw [up_eq a0 a1 x0 x1 w b h0 h1]

theorem lin_eq : minimumf (Cert.Kernel.Gen.k0_pay6 (F := F)) (Cert.Kernel.Gen.k0_pay5 a0 a1 b (Cert.Kernel.Gen.k0_pay1 w)) = Cert.Reference.Gen.k0_pay6 x0 x1 b w := by
  unfold Cert.Kernel.Gen.k0_pay6 Cert.Kernel.Gen.k0_pay5 Cert.Reference.Gen.k0_pay6
  dsimp only
  rw [up_eq a0 a1 x0 x1 w b h0 h1]

/-- The packed words of the block, all 512 columns. -/
theorem packed_eq : Cert.Kernel.Gen.k0_pay7 (Cert.Kernel.Gen.k0_pay4 a0 a1 b (Cert.Kernel.Gen.k0_pay1 w)) (Cert.Kernel.Gen.k0_pay5 a0 a1 b (Cert.Kernel.Gen.k0_pay1 w)) (Cert.Kernel.Gen.k0_pay6 (F := F)) bd (Cert.Kernel.Gen.k0_pay2 wd)
    = Cert.Reference.Gen.k0_pay1 (Cert.Reference.Gen.k0_pay5 x0 x1 b w) (Cert.Reference.Gen.k0_pay6 x0 x1 b w) (Scalar.ofBits .f32 0x3F800000#32) bd wd := by
  unfold Cert.Kernel.Gen.k0_pay7 Cert.Reference.Gen.k0_pay1 Cert.Kernel.Gen.k0_pay2
  dsimp only
  rw [lin_eq a0 a1 x0 x1 w b h0 h1, gate_eq a0 a1 x0 x1 w b h0 h1, shapeCast_self]
  rfl

/-- The kernel's low words are the reference's. -/
theorem lo_eq (p q : Fin 256) :
    Cert.Kernel.Hand.ffnLo a0 a1 (Cert.Kernel.Gen.k0_pay1 w) b (Cert.Kernel.Gen.k0_pay2 wd) bd (ix4 (0 : Fin 1) (0 : Fin 1) p q)
      = refLo x0 x1 w b wd bd (ix3 (0 : Fin 1) p q) := by
  have e := packed_eq a0 a1 x0 x1 w b wd bd h0 h1
  unfold Cert.Kernel.Hand.ffnLo Cert.Kernel.Gen.k0_pay10 Cert.Kernel.Gen.k0_pay8 refLo Cert.Reference.Gen.k0_pay2
  dsimp only
  rw [e, shapeCast_apply _ _ (ix4 (0 : Fin 1) (0 : Fin 1) p q) (ix2 p q) (by
        rw [Shape.rowMajor_val_four, Shape.rowMajor_val_two]
        show p.val * 256 + q.val = ((0 * 1 + 0) * 256 + p.val) * 256 + q.val
        omega),
    shapeCast_apply _ _ (ix3 (0 : Fin 1) p q) (ix2 p q) (by
        rw [Shape.rowMajor_val_three, Shape.rowMajor_val_two]
        show p.val * 256 + q.val = (0 * 256 + p.val) * 256 + q.val
        omega)]

/-- The kernel's high words are the reference's. -/
theorem hi_eq (p q : Fin 256) :
    Cert.Kernel.Hand.ffnHi a0 a1 (Cert.Kernel.Gen.k0_pay1 w) b (Cert.Kernel.Gen.k0_pay2 wd) bd (ix4 (0 : Fin 1) (0 : Fin 1) p q)
      = refHi x0 x1 w b wd bd (ix3 (0 : Fin 1) p q) := by
  have e := packed_eq a0 a1 x0 x1 w b wd bd h0 h1
  unfold Cert.Kernel.Hand.ffnHi Cert.Kernel.Gen.k0_pay11 Cert.Kernel.Gen.k0_pay9 refHi Cert.Reference.Gen.k0_pay3
  dsimp only
  rw [e, shapeCast_apply _ _ (ix4 (0 : Fin 1) (0 : Fin 1) p q) (ix2 p q) (by
        rw [Shape.rowMajor_val_four, Shape.rowMajor_val_two]
        show p.val * 256 + q.val = ((0 * 1 + 0) * 256 + p.val) * 256 + q.val
        omega),
    shapeCast_apply _ _ (ix3 (0 : Fin 1) p q) (ix2 p q) (by
        rw [Shape.rowMajor_val_three, Shape.rowMajor_val_two]
        show p.val * 256 + q.val = (0 * 256 + p.val) * 256 + q.val
        omega)]

end

end Cert.Same
-- ==== Proof.RefLoop.lean ====
/-
  Hand-written, untrusted. What the reference's loop over the row blocks leaves in its output: the block of trip `k` is the feed-forward of
  rows `256 k` to `256 k + 255` at the weights of the expert the table names for that block.
-/
module

public import proofs.«01_k».proof.Proof.Same
public import proofs.«01_k».proof.Proof.Gen.Reference.Value
public import Idealize.ShloMosaic.Lib.WritesUnit
public import Idealize.ShloMosaic.Lib.ValueLayout
public import Idealize.ShloMosaic.Lib.Tactic

@[expose] public section

set_option maxRecDepth 20000

noncomputable section

namespace Cert.Reference.Hand

open Cert.Reference Cert.Reference.Gen
open Idealize.ShloMosaic Idealize.ShloMosaic.TcCoe Idealize.ShloMosaic.Tactic Idealize.ShloMosaic.ValueIdx

variable {F : FTy → Type} [BitOps F]

/-- The loop makes 548 trips. -/
theorem trips_eq : k0_t1_loop.trips = 548 := by rfl

/-- The trip of row block `j`. -/
def trip (j : Fin 548) : Fin k0_t1_loop.trips := ⟨j.val, by rw [trips_eq]; exact j.isLt⟩

/-- Rows `256 k` to `256 k + 255` of half `z` of the token words. -/
def rows (x : Vec F S2x140288x256 .i32) (z : Fin 2) (k : Fin 548) : Vec F S1x256x256 .i32 :=
  fun i => x (ix3 z (⟨256 * k.val + (i (1 : Fin 3)).val, by have h1 := k.isLt; have h2 : (i (1 : Fin 3)).val < 256 := (i (1 : Fin 3)).isLt; omega⟩ : Fin 140288) (⟨(i (2 : Fin 3)).val, (i (2 : Fin 3)).isLt⟩ : Fin 256))

/-- Expert `e`'s first weights. -/
def wOf (x : Vec F S32x1024x2048 .f32) (e : Fin 32) : Vec F S1x1024x2048 .f32 :=
  fun i => x (ix3 e (⟨(i (1 : Fin 3)).val, (i (1 : Fin 3)).isLt⟩ : Fin 1024) (⟨(i (2 : Fin 3)).val, (i (2 : Fin 3)).isLt⟩ : Fin 2048))

/-- Expert `e`'s first bias. -/
def bOf (x : Vec F S32x1x2048 .f32) (e : Fin 32) : Vec F S1x1x2048 .f32 :=
  fun i => x (ix3 e (⟨(i (1 : Fin 3)).val, (i (1 : Fin 3)).isLt⟩ : Fin 1) (⟨(i (2 : Fin 3)).val, (i (2 : Fin 3)).isLt⟩ : Fin 2048))

/-- Expert `e`'s second weights. -/
def wdOf (x : Vec F S32x1024x1024 .f32) (e : Fin 32) : Vec F S1x1024x1024 .f32 :=
  fun i => x (ix3 e (⟨(i (1 : Fin 3)).val, (i (1 : Fin 3)).isLt⟩ : Fin 1024) (⟨(i (2 : Fin 3)).val, (i (2 : Fin 3)).isLt⟩ : Fin 1024))

/-- Expert `e`'s second bias. -/
def bdOf (x : Vec F S32x1x1024 .f32) (e : Fin 32) : Vec F S1x1x1024 .f32 :=
  fun i => x (ix3 e (⟨(i (1 : Fin 3)).val, (i (1 : Fin 3)).isLt⟩ : Fin 1) (⟨(i (2 : Fin 3)).val, (i (2 : Fin 3)).isLt⟩ : Fin 1024))

section Trip
variable (𝒱 : Variants) (c : Dev nD) (bd : Option 𝒱.V) (arg0 : Memref sig .tc .smem S548 .i32) (harg0 : arg0.IsWhole) (arg1 : Memref sig .tc .vmem S2x140288x256 .i32) (harg1 : arg1.IsWhole) (arg2 : Memref sig .tc .vmem S32x1024x2048 .f32) (harg2 : arg2.IsWhole) (arg3 : Memref sig .tc .vmem S32x1x2048 .f32) (harg3 : arg3.IsWhole) (arg4 : Memref sig .tc .vmem S32x1024x1024 .f32) (harg4 : arg4.IsWhole) (arg5 : Memref sig .tc .vmem S32x1x1024 .f32) (harg5 : arg5.IsWhole) (arg6 : Memref sig .tc .vmem S2x140288x256 .i32) (harg6 : arg6.IsWhole)
  (X0 : BufTy.Contents (Elt F) arg0.view.ty) (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (k : Fin k0_t1_loop.trips)

/-- The table's word for trip `k`, as the loop reads it. -/
def wordAt : BitVec 32 := trip_k0_t1.sl.r arg0 X0 k

/-- The low words trip `k` stores, over its loads. -/
def loAt : Vec F S1x256x256 .i32 :=
  Cert.Same.refLo
    (View.readAt (Elt F) arg1.view (Rect.unit (s := S2x140288x256) (k0_off2 k) S1x256x256.size (k0_off2_inb k)).toLoadRect X1)
    (View.readAt (Elt F) arg1.view (Rect.unit (s := S2x140288x256) (k0_off3 k) S1x256x256.size (k0_off3_inb k)).toLoadRect X1)
    (View.readAt (Elt F) arg2.view (Rect.unit (s := S32x1024x2048) (k0_off5 (wordAt arg0 X0 k)) S1x1024x2048.size (k0_off5_inb _ (k0_chk1_all _))).toLoadRect X2)
    (View.readAt (Elt F) arg3.view (Rect.unit (s := S32x1x2048) (k0_off4 (wordAt arg0 X0 k)) S1x1x2048.size (k0_off4_inb _ (k0_chk1_all _))).toLoadRect X3)
    (View.readAt (Elt F) arg4.view (Rect.unit (s := S32x1024x1024) (k0_off7 (wordAt arg0 X0 k)) S1x1024x1024.size (k0_off7_inb _ (k0_chk1_all _))).toLoadRect X4)
    (View.readAt (Elt F) arg5.view (Rect.unit (s := S32x1x1024) (k0_off6 (wordAt arg0 X0 k)) S1x1x1024.size (k0_off6_inb _ (k0_chk1_all _))).toLoadRect X5)

/-- The high words trip `k` stores, over its loads. -/
def hiAt : Vec F S1x256x256 .i32 :=
  Cert.Same.refHi
    (View.readAt (Elt F) arg1.view (Rect.unit (s := S2x140288x256) (k0_off2 k) S1x256x256.size (k0_off2_inb k)).toLoadRect X1)
    (View.readAt (Elt F) arg1.view (Rect.unit (s := S2x140288x256) (k0_off3 k) S1x256x256.size (k0_off3_inb k)).toLoadRect X1)
    (View.readAt (Elt F) arg2.view (Rect.unit (s := S32x1024x2048) (k0_off5 (wordAt arg0 X0 k)) S1x1024x2048.size (k0_off5_inb _ (k0_chk1_all _))).toLoadRect X2)
    (View.readAt (Elt F) arg3.view (Rect.unit (s := S32x1x2048) (k0_off4 (wordAt arg0 X0 k)) S1x1x2048.size (k0_off4_inb _ (k0_chk1_all _))).toLoadRect X3)
    (View.readAt (Elt F) arg4.view (Rect.unit (s := S32x1024x1024) (k0_off7 (wordAt arg0 X0 k)) S1x1024x1024.size (k0_off7_inb _ (k0_chk1_all _))).toLoadRect X4)
    (View.readAt (Elt F) arg5.view (Rect.unit (s := S32x1x1024) (k0_off6 (wordAt arg0 X0 k)) S1x1x1024.size (k0_off6_inb _ (k0_chk1_all _))).toLoadRect X5)

/-- One trip's two stores, the later one first. -/
theorem trip_eq :
    tripL_k0_t1 (F := F) 𝒱 c bd arg0 harg0 arg1 harg1 arg2 harg2 arg3 harg3 arg4 harg4 arg5 harg5 arg6 harg6 X0 X1 X2 X3 X4 X5 k
      = [⟨Rect.unit (s := S2x140288x256) (k0_off9 k) S1x256x256.size (k0_off9_inb k), hiAt arg0 arg1 arg2 arg3 arg4 arg5 X0 X1 X2 X3 X4 X5 k⟩,
         ⟨Rect.unit (s := S2x140288x256) (k0_off8 k) S1x256x256.size (k0_off8_inb k), loAt arg0 arg1 arg2 arg3 arg4 arg5 X0 X1 X2 X3 X4 X5 k⟩] := by
  unfold tripL_k0_t1
  delta trip_k0_t1
  rfl

end Trip

section Back
variable {κ : Kind} {sp : Space} (v : View sig κ sp S2x140288x256 .i32) (f : v.ty.Contents (Elt F)) (L : ℕ → List (View.Piece (Elt F) S2x140288x256 .i32))
  (lo hi : Fin k0_t1_loop.trips → Vec F S1x256x256 .i32)
  (hL : ∀ k : Fin k0_t1_loop.trips, L (k.val + 1)
    = [(⟨Rect.unit (s := S2x140288x256) (k0_off9 k) S1x256x256.size (k0_off9_inb k), hi k⟩ : View.Piece (Elt F) S2x140288x256 .i32),
       (⟨Rect.unit (s := S2x140288x256) (k0_off8 k) S1x256x256.size (k0_off8_inb k), lo k⟩ : View.Piece (Elt F) S2x140288x256 .i32)] ++ L k.val)
include hL

/-- After the trips before `n`, a low row of a block written by then is what its trip stored. -/
theorem back_lo (n : ℕ) (hn : n ≤ k0_t1_loop.trips) (k : Fin k0_t1_loop.trips) (hk : k.val < n) (r : Fin 140288) (p q : Fin 256) (hr : r.val = 256 * k.val + p.val) :
    v.read (Elt F) (v.writes (Elt F) f (L n)) (ix3 (0 : Fin 2) r q) = lo k (ix3 (0 : Fin 1) p q) := by
  induction n with
  | zero => omega
  | succ n ih =>
    have hp := p.isLt
    have e := hL ⟨n, hn⟩
    dsimp only at e
    rw [e, List.cons_append, List.cons_append, List.nil_append,
      View.read_writes_cons_unit_of_not_mem v f (k0_off9_inb ⟨n, hn⟩) _ _ _ (k0_off9_eq ⟨n, hn⟩) (0 : Fin 3) (Or.inl (by show (0 : ℕ) < 1; omega))]
    by_cases hnk : k.val = n
    · have hkk : k = ⟨n, hn⟩ := Fin.ext hnk
      subst hkk
      exact View.read_writes_cons_unit_of_mem v f (k0_off8_inb ⟨n, hn⟩) _ _ _ (ix3 (0 : Fin 1) p q) (k0_off8_eq ⟨n, hn⟩) (fun a => match a with
        | ⟨0, _⟩ => rfl
        | ⟨1, _⟩ => hr
        | ⟨2, _⟩ => (Nat.zero_add _).symm)
    · rw [View.read_writes_cons_unit_of_not_mem v f (k0_off8_inb ⟨n, hn⟩) _ _ _ (k0_off8_eq ⟨n, hn⟩) (1 : Fin 3) (Or.inl (by show r.val < 256 * n; omega))]
      exact ih (by omega) (by omega)

/-- After the trips before `n`, a high row of a block written by then is what its trip stored. -/
theorem back_hi (n : ℕ) (hn : n ≤ k0_t1_loop.trips) (k : Fin k0_t1_loop.trips) (hk : k.val < n) (r : Fin 140288) (p q : Fin 256) (hr : r.val = 256 * k.val + p.val) :
    v.read (Elt F) (v.writes (Elt F) f (L n)) (ix3 (1 : Fin 2) r q) = hi k (ix3 (0 : Fin 1) p q) := by
  induction n with
  | zero => omega
  | succ n ih =>
    have hp := p.isLt
    have e := hL ⟨n, hn⟩
    dsimp only at e
    rw [e, List.cons_append, List.cons_append, List.nil_append]
    by_cases hnk : k.val = n
    · have hkk : k = ⟨n, hn⟩ := Fin.ext hnk
      subst hkk
      exact View.read_writes_cons_unit_of_mem v f (k0_off9_inb ⟨n, hn⟩) _ _ _ (ix3 (0 : Fin 1) p q) (k0_off9_eq ⟨n, hn⟩) (fun a => match a with
        | ⟨0, _⟩ => rfl
        | ⟨1, _⟩ => hr
        | ⟨2, _⟩ => (Nat.zero_add _).symm)
    · rw [View.read_writes_cons_unit_of_not_mem v f (k0_off9_inb ⟨n, hn⟩) _ _ _ (k0_off9_eq ⟨n, hn⟩) (1 : Fin 3) (Or.inl (by show r.val < 256 * n; omega)),
        View.read_writes_cons_unit_of_not_mem v f (k0_off8_inb ⟨n, hn⟩) _ _ _ (k0_off8_eq ⟨n, hn⟩) (1 : Fin 3) (Or.inl (by show r.val < 256 * n; omega))]
      exact ih (by omega) (by omega)

end Back

/-! ## The loads, at whole staging buffers holding given contents -/

section Loads
variable (arg0 : Memref sig .tc .smem S548 .i32) (harg0 : arg0.IsWhole) (arg1 : Memref sig .tc .vmem S2x140288x256 .i32) (harg1 : arg1.IsWhole) (arg2 : Memref sig .tc .vmem S32x1024x2048 .f32) (harg2 : arg2.IsWhole) (arg3 : Memref sig .tc .vmem S32x1x2048 .f32) (harg3 : arg3.IsWhole) (arg4 : Memref sig .tc .vmem S32x1024x1024 .f32) (harg4 : arg4.IsWhole) (arg5 : Memref sig .tc .vmem S32x1x1024 .f32) (harg5 : arg5.IsWhole) (arg6 : Memref sig .tc .vmem S2x140288x256 .i32) (harg6 : arg6.IsWhole) (x0 : Vec F S548 .i32) (x1 : Vec F S2x140288x256 .i32) (x2 : Vec F S32x1024x2048 .f32) (x3 : Vec F S32x1x2048 .f32) (x4 : Vec F S32x1024x1024 .f32) (x5 : Vec F S32x1x1024 .f32) (k : Fin k0_t1_loop.trips) (e : Fin 32)

theorem load_rows0 (j : Fin 548) (hj : j.val = k.val) :
    View.readAt (Elt F) arg1.view (Rect.unit (s := S2x140288x256) (k0_off2 k) S1x256x256.size (k0_off2_inb k)).toLoadRect (harg1.unread x1) = rows x1 0 j := by
  funext i
  rw [View.readAt_apply, harg1.read_unread]
  unfold rows
  refine congrArg x1 (funext fun a => Fin.ext ?_)
  refine (congrArg (· + 1 * (i a).val) (congrFun (k0_off2_eq k) a)).trans ?_
  have h0 : (i (0 : Fin 3)).val < 1 := (i (0 : Fin 3)).isLt
  match a with
  | ⟨0, _⟩ => show 0 + 1 * (i (0 : Fin 3)).val = 0; omega
  | ⟨1, _⟩ => show 256 * k.val + 1 * (i (1 : Fin 3)).val = 256 * j.val + (i (1 : Fin 3)).val; omega
  | ⟨2, _⟩ => show 0 + 1 * (i (2 : Fin 3)).val = (i (2 : Fin 3)).val; omega

theorem load_rows1 (j : Fin 548) (hj : j.val = k.val) :
    View.readAt (Elt F) arg1.view (Rect.unit (s := S2x140288x256) (k0_off3 k) S1x256x256.size (k0_off3_inb k)).toLoadRect (harg1.unread x1) = rows x1 1 j := by
  funext i
  rw [View.readAt_apply, harg1.read_unread]
  unfold rows
  refine congrArg x1 (funext fun a => Fin.ext ?_)
  refine (congrArg (· + 1 * (i a).val) (congrFun (k0_off3_eq k) a)).trans ?_
  have h0 : (i (0 : Fin 3)).val < 1 := (i (0 : Fin 3)).isLt
  match a with
  | ⟨0, _⟩ => show 1 + 1 * (i (0 : Fin 3)).val = 1; omega
  | ⟨1, _⟩ => show 256 * k.val + 1 * (i (1 : Fin 3)).val = 256 * j.val + (i (1 : Fin 3)).val; omega
  | ⟨2, _⟩ => show 0 + 1 * (i (2 : Fin 3)).val = (i (2 : Fin 3)).val; omega

/-- The word the loop reads is the table's entry of the trip. -/
theorem word_eq (j : Fin 548) (hj : j.val = k.val) : wordAt arg0 (harg0.unread x0) k = x0 (ix1 j) := by
  unfold wordAt
  delta trip_k0_t1.sl.r
  dsimp only
  rw [View.readAt_apply, harg0.read_unread]
  refine congrArg x0 (funext fun a => Fin.ext ?_)
  refine (congrArg (· + 1 * _) (congrFun (k0_off1_eq k) a)).trans ?_
  match a with
  | ⟨0, _⟩ => show k.val + 1 * 0 = j.val; omega

theorem off4_eq : k0_off4 (BitVec.ofNat 32 e.val) = ![e.val, 0, 0] := by revert e; decide
theorem off5_eq : k0_off5 (BitVec.ofNat 32 e.val) = ![e.val, 0, 0] := by revert e; decide
theorem off6_eq : k0_off6 (BitVec.ofNat 32 e.val) = ![e.val, 0, 0] := by revert e; decide
theorem off7_eq : k0_off7 (BitVec.ofNat 32 e.val) = ![e.val, 0, 0] := by revert e; decide

theorem load_w (w : BitVec 32) (hw : w = BitVec.ofNat 32 e.val) :
    View.readAt (Elt F) arg2.view (Rect.unit (s := S32x1024x2048) (k0_off5 w) S1x1024x2048.size (k0_off5_inb _ (k0_chk1_all _))).toLoadRect (harg2.unread x2) = wOf x2 e := by
  subst hw
  funext i
  rw [View.readAt_apply, harg2.read_unread]
  unfold wOf
  refine congrArg x2 (funext fun a => Fin.ext ?_)
  refine (congrArg (· + 1 * (i a).val) (congrFun (off5_eq e) a)).trans ?_
  have h0 : (i (0 : Fin 3)).val < 1 := (i (0 : Fin 3)).isLt
  match a with
  | ⟨0, _⟩ => show e.val + 1 * (i (0 : Fin 3)).val = e.val; omega
  | ⟨1, _⟩ => show 0 + 1 * (i (1 : Fin 3)).val = (i (1 : Fin 3)).val; omega
  | ⟨2, _⟩ => show 0 + 1 * (i (2 : Fin 3)).val = (i (2 : Fin 3)).val; omega

theorem load_b (w : BitVec 32) (hw : w = BitVec.ofNat 32 e.val) :
    View.readAt (Elt F) arg3.view (Rect.unit (s := S32x1x2048) (k0_off4 w) S1x1x2048.size (k0_off4_inb _ (k0_chk1_all _))).toLoadRect (harg3.unread x3) = bOf x3 e := by
  subst hw
  funext i
  rw [View.readAt_apply, harg3.read_unread]
  unfold bOf
  refine congrArg x3 (funext fun a => Fin.ext ?_)
  refine (congrArg (· + 1 * (i a).val) (congrFun (off4_eq e) a)).trans ?_
  have h0 : (i (0 : Fin 3)).val < 1 := (i (0 : Fin 3)).isLt
  match a with
  | ⟨0, _⟩ => show e.val + 1 * (i (0 : Fin 3)).val = e.val; omega
  | ⟨1, _⟩ => show 0 + 1 * (i (1 : Fin 3)).val = (i (1 : Fin 3)).val; omega
  | ⟨2, _⟩ => show 0 + 1 * (i (2 : Fin 3)).val = (i (2 : Fin 3)).val; omega

theorem load_wd (w : BitVec 32) (hw : w = BitVec.ofNat 32 e.val) :
    View.readAt (Elt F) arg4.view (Rect.unit (s := S32x1024x1024) (k0_off7 w) S1x1024x1024.size (k0_off7_inb _ (k0_chk1_all _))).toLoadRect (harg4.unread x4) = wdOf x4 e := by
  subst hw
  funext i
  rw [View.readAt_apply, harg4.read_unread]
  unfold wdOf
  refine congrArg x4 (funext fun a => Fin.ext ?_)
  refine (congrArg (· + 1 * (i a).val) (congrFun (off7_eq e) a)).trans ?_
  have h0 : (i (0 : Fin 3)).val < 1 := (i (0 : Fin 3)).isLt
  match a with
  | ⟨0, _⟩ => show e.val + 1 * (i (0 : Fin 3)).val = e.val; omega
  | ⟨1, _⟩ => show 0 + 1 * (i (1 : Fin 3)).val = (i (1 : Fin 3)).val; omega
  | ⟨2, _⟩ => show 0 + 1 * (i (2 : Fin 3)).val = (i (2 : Fin 3)).val; omega

theorem load_bd (w : BitVec 32) (hw : w = BitVec.ofNat 32 e.val) :
    View.readAt (Elt F) arg5.view (Rect.unit (s := S32x1x1024) (k0_off6 w) S1x1x1024.size (k0_off6_inb _ (k0_chk1_all _))).toLoadRect (harg5.unread x5) = bdOf x5 e := by
  subst hw
  funext i
  rw [View.readAt_apply, harg5.read_unread]
  unfold bdOf
  refine congrArg x5 (funext fun a => Fin.ext ?_)
  refine (congrArg (· + 1 * (i a).val) (congrFun (off6_eq e) a)).trans ?_
  have h0 : (i (0 : Fin 3)).val < 1 := (i (0 : Fin 3)).isLt
  match a with
  | ⟨0, _⟩ => show e.val + 1 * (i (0 : Fin 3)).val = e.val; omega
  | ⟨1, _⟩ => show 0 + 1 * (i (1 : Fin 3)).val = (i (1 : Fin 3)).val; omega
  | ⟨2, _⟩ => show 0 + 1 * (i (2 : Fin 3)).val = (i (2 : Fin 3)).val; omega

end Loads

section Out
variable (c : Dev nD) (arg0 : Memref sig .tc .smem S548 .i32) (harg0 : arg0.IsWhole) (arg1 : Memref sig .tc .vmem S2x140288x256 .i32) (harg1 : arg1.IsWhole) (arg2 : Memref sig .tc .vmem S32x1024x2048 .f32) (harg2 : arg2.IsWhole) (arg3 : Memref sig .tc .vmem S32x1x2048 .f32) (harg3 : arg3.IsWhole) (arg4 : Memref sig .tc .vmem S32x1024x1024 .f32) (harg4 : arg4.IsWhole) (arg5 : Memref sig .tc .vmem S32x1x1024 .f32) (harg5 : arg5.IsWhole) (arg6 : Memref sig .tc .vmem S2x140288x256 .i32) (harg6 : arg6.IsWhole) (x0 : Vec F S548 .i32) (x1 : Vec F S2x140288x256 .i32) (x2 : Vec F S32x1024x2048 .f32) (x3 : Vec F S32x1x2048 .f32) (x4 : Vec F S32x1024x1024 .f32) (x5 : Vec F S32x1x1024 .f32) (j : Fin 548) (e : Fin 32) (he : x0 (ix1 j) = BitVec.ofNat 32 e.val) (r : Fin 140288) (p q : Fin 256) (hr : r.val = 256 * j.val + p.val)
include he hr

/-- A low row of the output the reference's body leaves. -/
theorem out_lo :
    out0_A_6 c arg0 harg0 arg1 harg1 arg2 harg2 arg3 harg3 arg4 harg4 arg5 harg5 arg6 harg6 x0 x1 x2 x3 x4 x5 (ix3 (0 : Fin 2) r q)
      = Cert.Same.refLo (rows x1 0 j) (rows x1 1 j) (wOf x2 e) (bOf x3 e) (wdOf x4 e) (bdOf x5 e) (ix3 (0 : Fin 1) p q) := by
  have hw := word_eq (F := F) arg0 harg0 x0 (trip j) j rfl
  rw [he] at hw
  unfold out0_A_6
  delta kernelRun0_A
  dsimp only
  rw [back_lo VO0_6 VO0_6.junk
    (pb_k0_t1 (F := F) Variants.none c none arg0 harg0 arg1 harg1 arg2 harg2 arg3 harg3 arg4 harg4 arg5 harg5 arg6 harg6 (harg0.unread x0) (harg1.unread x1) (harg2.unread x2) (harg3.unread x3) (harg4.unread x4) (harg5.unread x5))
    (loAt arg0 arg1 arg2 arg3 arg4 arg5 (harg0.unread x0) (harg1.unread x1) (harg2.unread x2) (harg3.unread x3) (harg4.unread x4) (harg5.unread x5))
    (hiAt arg0 arg1 arg2 arg3 arg4 arg5 (harg0.unread x0) (harg1.unread x1) (harg2.unread x2) (harg3.unread x3) (harg4.unread x4) (harg5.unread x5))
    (fun k => by rw [pb_k0_t1_succ, trip_eq])
    _ (le_refl _) (trip j) (trip j).isLt r p q hr]
  unfold loAt
  rw [load_rows0 arg1 harg1 x1 (trip j) j rfl, load_rows1 arg1 harg1 x1 (trip j) j rfl, load_w arg2 harg2 x2 e _ hw, load_b arg3 harg3 x3 e _ hw, load_wd arg4 harg4 x4 e _ hw, load_bd arg5 harg5 x5 e _ hw]

/-- A high row of the output the reference's body leaves. -/
theorem out_hi :
    out0_A_6 c arg0 harg0 arg1 harg1 arg2 harg2 arg3 harg3 arg4 harg4 arg5 harg5 arg6 harg6 x0 x1 x2 x3 x4 x5 (ix3 (1 : Fin 2) r q)
      = Cert.Same.refHi (rows x1 0 j) (rows x1 1 j) (wOf x2 e) (bOf x3 e) (wdOf x4 e) (bdOf x5 e) (ix3 (0 : Fin 1) p q) := by
  have hw := word_eq (F := F) arg0 harg0 x0 (trip j) j rfl
  rw [he] at hw
  unfold out0_A_6
  delta kernelRun0_A
  dsimp only
  rw [back_hi VO0_6 VO0_6.junk
    (pb_k0_t1 (F := F) Variants.none c none arg0 harg0 arg1 harg1 arg2 harg2 arg3 harg3 arg4 harg4 arg5 harg5 arg6 harg6 (harg0.unread x0) (harg1.unread x1) (harg2.unread x2) (harg3.unread x3) (harg4.unread x4) (harg5.unread x5))
    (loAt arg0 arg1 arg2 arg3 arg4 arg5 (harg0.unread x0) (harg1.unread x1) (harg2.unread x2) (harg3.unread x3) (harg4.unread x4) (harg5.unread x5))
    (hiAt arg0 arg1 arg2 arg3 arg4 arg5 (harg0.unread x0) (harg1.unread x1) (harg2.unread x2) (harg3.unread x3) (harg4.unread x4) (harg5.unread x5))
    (fun k => by rw [pb_k0_t1_succ, trip_eq])
    _ (le_refl _) (trip j) (trip j).isLt r p q hr]
  unfold hiAt
  rw [load_rows0 arg1 harg1 x1 (trip j) j rfl, load_rows1 arg1 harg1 x1 (trip j) j rfl, load_w arg2 harg2 x2 e _ hw, load_b arg3 harg3 x3 e _ hw, load_wd arg4 harg4 x4 e _ hw, load_bd arg5 harg5 x5 e _ hw]

end Out

end Cert.Reference.Hand
-- ==== Proof.Table.lean ====
/-
  Hand-written, untrusted. The reference's table of experts: entry `k` counts the experts whose row blocks end at or before block `k`, so it is
  the expert whose range holds `k`.
-/
module

public import proofs.«01_k».proof.Proof.Gen.Reference.Value
public import Idealize.ShloMosaic.Lib.StableHlo.Run
public import Idealize.ShloMosaic.PureOps.Reduce
public import Idealize.ShloMosaic.Lib.StableHlo.RunRead
public import Idealize.ShloMosaic.Lib.ValueLayout
public import Idealize.ShloMosaic.Lib.Tactic

@[expose] public section

set_option maxRecDepth 20000

noncomputable section

namespace Cert.Reference.Hand

open Cert.Reference Cert.Reference.Gen
open Idealize.ShloMosaic Idealize.ShloMosaic.TcCoe Idealize.ShloMosaic.Tactic Idealize.ShloMosaic.ValueIdx

variable {F : FTy → Type} [BitOps F]
variable (m : (ℓ : Loc nD τ sig) → Buf (Elt F) ℓ)

/-- A fold over the entries of row `k` is the fold over their columns. -/
theorem fold_row (f : BitVec 32 → BitVec 32 → BitVec 32) [Std.Commutative f] [Std.Associative f] (p : S548x32.Idx → Prop) [DecidablePred p]
    (g : Fin 32 → S548x32.Idx) (hg : Function.Injective g) (hp : ∀ i, p i ↔ ∃ j, g j = i) (b : BitVec 32) (x : S548x32.Idx → BitVec 32) :
    (Finset.univ.filter p).fold f b x = (Finset.univ : Finset (Fin 32)).fold f b (fun j => x (g j)) := by
  have e : Finset.univ.filter p = Finset.univ.map ⟨g, hg⟩ := Finset.ext fun i => by
    rw [Finset.mem_filter, Finset.mem_map, hp i]
    exact ⟨fun ⟨_, j, h⟩ => ⟨j, Finset.mem_univ _, h⟩, fun ⟨j, _, h⟩ => ⟨Finset.mem_univ _, j, h⟩⟩
  rw [e, Finset.fold_map]
  rfl

/-- The 32 upper ends of the experts' ranges, against each block's number. -/
def endsAt (a : IVec S33 32) : IVec S548x32 32 :=
  extui 32 (cmpi .sle
    (broadcastInDim S548x32 ![0, 1] bcast_S1x32_S548x32_0_1 (broadcastInDim S1x32 ![1] bcast_S32_S1x32_1 (extractStridedSlice S32 ![1] a slices_S33_S32_1)))
    (broadcastInDim S548x32 ![0, 1] bcast_S548x1_S548x32_0_1 (broadcastInDim S548x1 ![0] bcast_S548_S548x1_0 (iotaInDim S548 32 0)))) natLt_1_32

/-- The staged table, as the sum it is computed by. -/
theorem table_eq (c : Dev nD) : V m c main_v8
    = Host.reduce IntOp.addi (endsAt (m ((c : Thread nD τ).loc main_arg0))) (constantI S_ 32 0#32) reducesTo_S548x32_S548_d1 h_S_ := by
  show StableHlo.after hostOps0 _ (Proc.devRef .tc main_v8) = _
  after_reads_simp
  rfl

/-- The staged first biases are the argument's, a unit axis inserted. -/
theorem bias_up_eq (c : Dev nD) (e : Fin 32) (q : Fin 2048) : V m c main_v9 (ix3 e (0 : Fin 1) q) = m ((c : Thread nD τ).loc main_arg4) (ix2 e q) := by
  have h : V m c main_v9 = shapeCast S32x1x2048 (m ((c : Thread nD τ).loc main_arg4) : S32x2048.Idx → Elt F .f32) shapeCasts_S32x2048_S32x1x2048 := by
    show StableHlo.after hostOps0 _ (Proc.devRef .tc main_v9) = _
    after_reads_simp
    rfl
  rw [h]
  exact shapeCast_apply _ _ (ix3 e (0 : Fin 1) q) (ix2 e q) (by
    rw [Shape.rowMajor_val_three, Shape.rowMajor_val_two]
    show e.val * 2048 + q.val = (e.val * 1 + 0) * 2048 + q.val
    omega)

/-- The staged second biases are the argument's, a unit axis inserted. -/
theorem bias_down_eq (c : Dev nD) (e : Fin 32) (q : Fin 1024) : V m c main_v10 (ix3 e (0 : Fin 1) q) = m ((c : Thread nD τ).loc main_arg6) (ix2 e q) := by
  have h : V m c main_v10 = shapeCast S32x1x1024 (m ((c : Thread nD τ).loc main_arg6) : S32x1024.Idx → Elt F .f32) shapeCasts_S32x1024_S32x1x1024 := by
    show StableHlo.after hostOps0 _ (Proc.devRef .tc main_v10) = _
    after_reads_simp
    rfl
  rw [h]
  exact shapeCast_apply _ _ (ix3 e (0 : Fin 1) q) (ix2 e q) (by
    rw [Shape.rowMajor_val_three, Shape.rowMajor_val_two]
    show e.val * 1024 + q.val = (e.val * 1 + 0) * 1024 + q.val
    omega)

/-- The comparison of block `k` with the upper end of expert `j`. -/
theorem endsAt_apply (a : IVec S33 32) (k : Fin 548) (j : Fin 32) :
    endsAt a (ix2 k j) = (IntOp.cmpi .sle (a (ix1 (⟨j.val + 1, by omega⟩ : Fin 33))) (BitVec.ofNat 32 k.val)).setWidth 32 := by
  show (IntOp.cmpi .sle (a _) (BitVec.ofNat 32 _)).setWidth 32 = _
  congr 2
  congr 1
  funext b
  match b with
  | ⟨0, _⟩ => exact Fin.ext (Nat.add_comm 1 j.val)

/-- The fold the table's entry is, over the experts. -/
theorem count_eq (t : Fin 32) : (Finset.univ : Finset (Fin 32)).fold IntOp.addi 0#32 (fun j => if j.val < t.val then 1#32 else 0#32) = BitVec.ofNat 32 t.val := by
  revert t; decide +kernel

/-- Where the ends are at most `k` for the experts before `t` and above it from `t` on, entry `k` is `t`. -/
theorem table_at (c : Dev nD) (k : Fin 548) (t : Fin 32)
    (hlt : ∀ j : Fin 32, j.val < t.val → (m ((c : Thread nD τ).loc main_arg0) (ix1 (⟨j.val + 1, by omega⟩ : Fin 33)) : BitVec 32).toInt ≤ k.val)
    (hge : ∀ j : Fin 32, t.val ≤ j.val → (k.val : Int) < (m ((c : Thread nD τ).loc main_arg0) (ix1 (⟨j.val + 1, by omega⟩ : Fin 33)) : BitVec 32).toInt) :
    V m c main_v8 (ix1 k) = BitVec.ofNat 32 t.val := by
  rw [table_eq, Host.reduce_eq_fold,
    fold_row IntOp.addi _ (fun j : Fin 32 => (ix2 k j : S548x32.Idx))
      (fun a b h => congrFun h (1 : Fin 2))
      (fun i => by
        constructor
        · intro h
          refine ⟨i (1 : Fin 2), ?_⟩
          have h0 : (i (0 : Fin 2)).val = k.val := by
            rw [← Shape.ReducesTo.drop_apply_val_of_eq reducesTo_S548x32_S548_d1 i 0 (0 : Fin 2), h]
          funext b
          match b with
          | ⟨0, _⟩ => exact Fin.ext h0.symm
          | ⟨1, _⟩ => rfl
        · rintro ⟨j, rfl⟩
          funext b
          match b with
          | ⟨0, _⟩ => exact Fin.ext (Shape.ReducesTo.drop_apply_val_of_eq reducesTo_S548x32_S548_d1 _ 0 (0 : Fin 2)))]
  rw [← count_eq t]
  have hk : ((BitVec.ofNat 32 k.val : BitVec 32)).toInt = k.val := by
    have := k.isLt
    rw [BitVec.toInt_eq_toNat_of_lt (by rw [BitVec.toNat_ofNat]; omega), BitVec.toNat_ofNat]
    omega
  show (Finset.univ : Finset (Fin 32)).fold IntOp.addi 0#32 (fun j => endsAt (m ((c : Thread nD τ).loc main_arg0)) (ix2 k j)) = _
  congr 1
  funext j
  rw [endsAt_apply]
  by_cases hj : j.val < t.val
  · rw [if_pos hj]
    have := hlt j hj
    have e : IntOp.cmpi .sle (m ((c : Thread nD τ).loc main_arg0) (ix1 (⟨j.val + 1, by omega⟩ : Fin 33)) : BitVec 32) (BitVec.ofNat 32 k.val) = 1#1 := by
      show BitVec.ofBool (BitVec.sle _ _) = _
      rw [show BitVec.sle _ (BitVec.ofNat 32 k.val) = true from by rw [BitVec.sle_eq_decide, hk]; exact decide_eq_true this]
      rfl
    rw [e]; rfl
  · rw [if_neg hj]
    have := hge j (by omega)
    have e : IntOp.cmpi .sle (m ((c : Thread nD τ).loc main_arg0) (ix1 (⟨j.val + 1, by omega⟩ : Fin 33)) : BitVec 32) (BitVec.ofNat 32 k.val) = 0#1 := by
      show BitVec.ofBool (BitVec.sle _ _) = _
      rw [show BitVec.sle _ (BitVec.ofNat 32 k.val) = false from by rw [BitVec.sle_eq_decide, hk]; exact decide_eq_false (by omega)]
      rfl
    rw [e]; rfl

end Cert.Reference.Hand
-- ==== Proof.RefOut.lean ====
/-
  Hand-written, untrusted. The reference's result, entry by entry: where the table holds expert `e` for block `k`, row `256 k + p` of either half
  is the layer of the block's rows at that expert's arguments.
-/
module

public import proofs.«01_k».proof.Proof.RefLoop
public import proofs.«01_k».proof.Proof.Table
public import Idealize.ShloMosaic.Lib.Pipeline.ValueKit

@[expose] public section

set_option maxRecDepth 20000

noncomputable section

namespace Cert.Reference.Hand

open Cert.Reference Cert.Reference.Gen
open Idealize.ShloMosaic Idealize.ShloMosaic.TcCoe Idealize.ShloMosaic.Tactic

variable {F : FTy → Type} [BitOps F]
variable (m : (ℓ : Loc nD τ sig) → Buf (Elt F) ℓ)

/-- Each window's one block starts at the array's first entry. -/
theorem index0 : win0_0.index t0_0 = ![0] := by decide +kernel
theorem index1 : win0_1.index t0_0 = ![0, 0, 0] := by decide +kernel
theorem index2 : win0_2.index t0_0 = ![0, 0, 0] := by decide +kernel
theorem index3 : win0_3.index t0_0 = ![0, 0, 0] := by decide +kernel
theorem index4 : win0_4.index t0_0 = ![0, 0, 0] := by decide +kernel
theorem index5 : win0_5.index t0_0 = ![0, 0, 0] := by decide +kernel
theorem index6 : win0_6.index t0_0 = ![0, 0, 0] := by decide +kernel

/-- Each window's one block is its whole array. -/
theorem whole0 (c : Dev nD) : iblk m c 0 t0_0 = V m c main_v8 := by
  funext i
  blk_ext [iblk, index0]
theorem whole1 (c : Dev nD) : iblk m c 1 t0_0 = V m c main_arg2 := by
  funext i
  blk_ext [iblk, index1]
theorem whole2 (c : Dev nD) : iblk m c 2 t0_0 = V m c main_arg3 := by
  funext i
  blk_ext [iblk, index2]
theorem whole3 (c : Dev nD) : iblk m c 3 t0_0 = V m c main_v9 := by
  funext i
  blk_ext [iblk, index3]
theorem whole4 (c : Dev nD) : iblk m c 4 t0_0 = V m c main_arg5 := by
  funext i
  blk_ext [iblk, index4]
theorem whole5 (c : Dev nD) : iblk m c 5 t0_0 = V m c main_v10 := by
  funext i
  blk_ext [iblk, index5]

/-- The output's one block is the whole array. -/
theorem read6 (c : Dev nD) (X : Buf (Elt F) ((c : Thread nD τ).loc main_v11)) (i : S2x140288x256.Idx) :
    ((cfg0.win 6).blk t0_0).view.read (Elt F) X i = X i := by
  blk_ext [index6]
theorem cut6 (X : S2x140288x256.Idx → Elt F .i32) (i : S2x140288x256.Idx) : (cfg0.win 6).cut (grid0.coords t0_0) X i = X i := rfl

/-- So what the body leaves is what the array holds. -/
theorem final_eq (c : Dev nD) (i : S2x140288x256.Idx) :
    (dats m 0 c).arrAt 6 cfg0.N i = outsAt0 m c t0_0 i := by
  have h := congrFun (Value.blocks6 m c t0_0 (flush0_6 t0_0)) i
  rw [Value.flushed6] at h
  exact (read6 c _ i).symm.trans (h.trans (cut6 _ i))

section At
variable (c : Dev nD) (k : Fin 548) (e : Fin 32) (he : V m c main_v8 (ValueIdx.ix1 k) = BitVec.ofNat 32 e.val)
  (r : Fin 140288) (p q : Fin 256) (hr : r.val = 256 * k.val + p.val)
include he hr

/-- A low row of the result. -/
theorem lo_at : (dats m 0 c).arrAt 6 cfg0.N (ValueIdx.ix3 (0 : Fin 2) r q)
    = Cert.Same.refLo (rows (m ((c : Thread nD τ).loc main_arg2)) 0 k) (rows (m ((c : Thread nD τ).loc main_arg2)) 1 k)
        (wOf (m ((c : Thread nD τ).loc main_arg3)) e) (bOf (V m c main_v9) e) (wdOf (m ((c : Thread nD τ).loc main_arg5)) e) (bdOf (V m c main_v10) e) (ValueIdx.ix3 (0 : Fin 1) p q) := by
  refine (final_eq m c _).trans ?_
  unfold outsAt0
  rw [whole0, whole1, whole2, whole3, whole4, whole5]
  refine (out_lo c _ _ _ _ _ _ _ _ _ _ _ _ _ _ _ _ _ _ _ _ k e he r p q hr).trans ?_
  rw [V_main_arg2, V_main_arg3, V_main_arg5]

/-- A high row of the result. -/
theorem hi_at : (dats m 0 c).arrAt 6 cfg0.N (ValueIdx.ix3 (1 : Fin 2) r q)
    = Cert.Same.refHi (rows (m ((c : Thread nD τ).loc main_arg2)) 0 k) (rows (m ((c : Thread nD τ).loc main_arg2)) 1 k)
        (wOf (m ((c : Thread nD τ).loc main_arg3)) e) (bOf (V m c main_v9) e) (wdOf (m ((c : Thread nD τ).loc main_arg5)) e) (bdOf (V m c main_v10) e) (ValueIdx.ix3 (0 : Fin 1) p q) := by
  refine (final_eq m c _).trans ?_
  unfold outsAt0
  rw [whole0, whole1, whole2, whole3, whole4, whole5]
  refine (out_hi c _ _ _ _ _ _ _ _ _ _ _ _ _ _ _ _ _ _ _ _ k e he r p q hr).trans ?_
  rw [V_main_arg2, V_main_arg3, V_main_arg5]

end At

end Cert.Reference.Hand

end
-- ==== Proof.Exact.lean ====
/-
  Hand-written, untrusted. The two programs leave the same words in every block in use: the expert the kernel computes a block with is the one the
  reference's table names for it, the operands of the two layers agree entry by entry, and the layers are the same function of them.
-/
module

public import proofs.«01_k».proof.Proof.Frame
public import proofs.«01_k».proof.Proof.Blocks
public import proofs.«01_k».proof.Proof.RefOut
public import proofs.«01_k».proof.Proof.Gen.On_blocks_in_use

@[expose] public section

set_option maxRecDepth 20000

noncomputable section

namespace Cert.Exact

open Idealize.ShloMosaic Idealize.ShloMosaic.TcCoe Idealize.SL.Sem
open Cert.Kernel.Hand (Routed word used first inUse IsExpert expertOf result outAt loOf hiOf rowsOf half)

variable {F : FTy → Type} [BitOps F]

section Kernel
variable {m : (ℓ : Loc Cert.Kernel.nD Cert.Kernel.τ Cert.Kernel.sig) → Buf (Elt F) ℓ}

/-- A block in use lies in some expert's range. -/
theorem exists_expert (h : Routed m) {k : ℕ} (hk : k < inUse m) : ∃ t : Fin 32, first m t.val ≤ k ∧ k < first m (t.val + 1) := by
  classical
  have hex : ∃ t, k < first m t := ⟨32, by rw [h.first_last]; exact hk⟩
  have h0 : Nat.find hex ≠ 0 := fun e => by
    have := Nat.find_spec hex
    rw [e, h.first_zero] at this
    omega
  have h32 : Nat.find hex ≤ 32 := Nat.find_min' hex (by rw [h.first_last]; exact hk)
  refine ⟨⟨Nat.find hex - 1, by omega⟩, ?_, ?_⟩
  · exact Nat.le_of_not_lt (Nat.find_min hex (by show Nat.find hex - 1 < Nat.find hex; omega))
  · show k < first m (Nat.find hex - 1 + 1)
    rw [Nat.sub_add_cancel (by omega)]
    exact Nat.find_spec hex

/-- The table's word `j`, as an integer, is the first block of expert `j`. -/
theorem first_int (h : Routed m) (c : Dev Cert.Kernel.nD) (j : ℕ) (hj : j < 33) :
    ((m ((c.tc : Thread Cert.Kernel.nD Cert.Kernel.τ).loc Cert.Kernel.main_arg0) : Cert.Kernel.S33.Idx → BitVec 32) (ValueIdx.ix1 (⟨j, hj⟩ : Fin 33))).toInt = (first m j : ℤ) := by
  obtain rfl : c = 0 := Subsingleton.elim (α := Fin 1) _ _
  rw [Cert.Kernel.Hand.first_of (by omega), Cert.Kernel.Hand.toNat_of_int (h.int_nonneg _)]
  exact congrArg BitVec.toInt (congrFun (Cert.Kernel.Hand.V_of m 0 Cert.Kernel.main_arg0 (by decide) (by decide)) _).symm

end Kernel

section Entry
variable {m : (ℓ : Loc Cert.Kernel.nD Cert.Kernel.τ Cert.Kernel.sig) → Buf (Elt F) ℓ}
  {m' : (ℓ : Loc Cert.Reference.nD Cert.Reference.τ Cert.Reference.sig) → Buf (Elt F) ℓ} (c : Dev Cert.Kernel.nD)
  (e0 : m' ((c.tc : Thread Cert.Reference.nD Cert.Reference.τ).loc Cert.Reference.main_arg0) = m ((c.tc : Thread Cert.Kernel.nD Cert.Kernel.τ).loc Cert.Kernel.main_arg0))
  (e2 : m' ((c.tc : Thread Cert.Reference.nD Cert.Reference.τ).loc Cert.Reference.main_arg2) = m ((c.tc : Thread Cert.Kernel.nD Cert.Kernel.τ).loc Cert.Kernel.main_arg2))
  (e3 : m' ((c.tc : Thread Cert.Reference.nD Cert.Reference.τ).loc Cert.Reference.main_arg3) = m ((c.tc : Thread Cert.Kernel.nD Cert.Kernel.τ).loc Cert.Kernel.main_arg3))
  (e4 : m' ((c.tc : Thread Cert.Reference.nD Cert.Reference.τ).loc Cert.Reference.main_arg4) = m ((c.tc : Thread Cert.Kernel.nD Cert.Kernel.τ).loc Cert.Kernel.main_arg4))
  (e5 : m' ((c.tc : Thread Cert.Reference.nD Cert.Reference.τ).loc Cert.Reference.main_arg5) = m ((c.tc : Thread Cert.Kernel.nD Cert.Kernel.τ).loc Cert.Kernel.main_arg5))
  (e6 : m' ((c.tc : Thread Cert.Reference.nD Cert.Reference.τ).loc Cert.Reference.main_arg6) = m ((c.tc : Thread Cert.Kernel.nD Cert.Kernel.τ).loc Cert.Kernel.main_arg6))

include e0 in
/-- The reference's table names, for a block in an expert's range, that expert. -/
theorem table (h : Routed m) (k : Fin 548) (t : Fin 32) (h1 : first m t.val ≤ k.val) (h2 : k.val < first m (t.val + 1)) :
    Cert.Reference.Gen.V m' c Cert.Reference.main_v8 (ValueIdx.ix1 k) = BitVec.ofNat 32 t.val := by
  refine Cert.Reference.Hand.table_at m' c k t (fun j hj => ?_) (fun j hj => ?_)
  · rw [e0]
    rw [first_int h c (j.val + 1) (by omega)]
    exact_mod_cast (h.first_mono (by omega : j.val + 1 ≤ t.val)).trans h1
  · rw [e0]
    rw [first_int h c (j.val + 1) (by omega)]
    exact_mod_cast lt_of_lt_of_le h2 (h.first_mono (by omega : t.val + 1 ≤ j.val + 1))

include e3 in
theorem up_same (t : Fin (Cert.Kernel.Hand.cfgA m).N) : Cert.Reference.Hand.wOf (m' ((c.tc : Thread Cert.Reference.nD Cert.Reference.τ).loc Cert.Reference.main_arg3)) (⟨t.val, t.isLt⟩ : Fin 32)
    = Cert.Kernel.Hand.iblk m c 0 t := by
  funext i
  refine Eq.trans ?_ ((Cert.Kernel.Hand.up_at m c t (i (1 : Fin 3)) (i (2 : Fin 3))).symm.trans (congrArg (Cert.Kernel.Hand.iblk m c 0 t) ?_))
  · rw [← e3]; rfl
  · funext a
    match a with
    | ⟨0, _⟩ => exact Subsingleton.elim (α := Fin 1) _ _
    | ⟨1, _⟩ => rfl
    | ⟨2, _⟩ => rfl

include e5 in
theorem down_same (t : Fin (Cert.Kernel.Hand.cfgA m).N) : Cert.Reference.Hand.wdOf (m' ((c.tc : Thread Cert.Reference.nD Cert.Reference.τ).loc Cert.Reference.main_arg5)) (⟨t.val, t.isLt⟩ : Fin 32)
    = Cert.Kernel.Hand.iblk m c 2 t := by
  funext i
  refine Eq.trans ?_ ((Cert.Kernel.Hand.down_at m c t (i (1 : Fin 3)) (i (2 : Fin 3))).symm.trans (congrArg (Cert.Kernel.Hand.iblk m c 2 t) ?_))
  · rw [← e5]; rfl
  · funext a
    match a with
    | ⟨0, _⟩ => exact Subsingleton.elim (α := Fin 1) _ _
    | ⟨1, _⟩ => rfl
    | ⟨2, _⟩ => rfl

include e4 in
theorem bias_up_same (t : Fin (Cert.Kernel.Hand.cfgA m).N) : Cert.Reference.Hand.bOf (Cert.Reference.Gen.V m' c Cert.Reference.main_v9) (⟨t.val, t.isLt⟩ : Fin 32) = Cert.Kernel.Hand.iblk m c 1 t := by
  funext i
  have h1 : i (1 : Fin 3) = (0 : Fin 1) := Subsingleton.elim (α := Fin 1) _ _
  refine Eq.trans ?_ ((Cert.Kernel.Hand.bias_up_at m c t (i (2 : Fin 3))).symm.trans (congrArg (Cert.Kernel.Hand.iblk m c 1 t) ?_))
  · rw [← e4, ← Cert.Reference.Hand.bias_up_eq m' c (⟨t.val, t.isLt⟩ : Fin 32) (i (2 : Fin 3))]
    show Cert.Reference.Gen.V m' c Cert.Reference.main_v9 _ = _
    congr 1
    funext a
    match a with
    | ⟨0, _⟩ => rfl
    | ⟨1, _⟩ => exact Subsingleton.elim (α := Fin 1) _ _
    | ⟨2, _⟩ => rfl
  · funext a
    match a with
    | ⟨0, _⟩ => exact Subsingleton.elim (α := Fin 1) _ _
    | ⟨1, _⟩ => exact Subsingleton.elim (α := Fin 1) _ _
    | ⟨2, _⟩ => rfl

include e6 in
theorem bias_down_same (t : Fin (Cert.Kernel.Hand.cfgA m).N) : Cert.Reference.Hand.bdOf (Cert.Reference.Gen.V m' c Cert.Reference.main_v10) (⟨t.val, t.isLt⟩ : Fin 32) = Cert.Kernel.Hand.iblk m c 3 t := by
  funext i
  refine Eq.trans ?_ ((Cert.Kernel.Hand.bias_down_at m c t (i (2 : Fin 3))).symm.trans (congrArg (Cert.Kernel.Hand.iblk m c 3 t) ?_))
  · rw [← e6, ← Cert.Reference.Hand.bias_down_eq m' c (⟨t.val, t.isLt⟩ : Fin 32) (i (2 : Fin 3))]
    show Cert.Reference.Gen.V m' c Cert.Reference.main_v10 _ = _
    congr 1
    funext a
    match a with
    | ⟨0, _⟩ => rfl
    | ⟨1, _⟩ => exact Subsingleton.elim (α := Fin 1) _ _
    | ⟨2, _⟩ => rfl
  · funext a
    match a with
    | ⟨0, _⟩ => exact Subsingleton.elim (α := Fin 1) _ _
    | ⟨1, _⟩ => exact Subsingleton.elim (α := Fin 1) _ _
    | ⟨2, _⟩ => rfl

include e2 in
theorem rows_same (k : Fin 548) (z : Fin 2) (i j : Fin 256) : half (F := F) z (rowsOf m c k.val) (ValueIdx.ix4 (0 : Fin 1) (0 : Fin 1) i j)
    = Cert.Reference.Hand.rows (m' ((c.tc : Thread Cert.Reference.nD Cert.Reference.τ).loc Cert.Reference.main_arg2)) z k (ValueIdx.ix3 (0 : Fin 1) i j) := by
  rw [Cert.Kernel.Hand.half_at m c k z i j, ← e2]
  rfl

include e0 e2 e3 e4 e5 e6 in
/-- A word of a block in use: the kernel's is the reference's. -/
theorem entry (h : Routed m) (i : Cert.Kernel.S2x140288x256.Idx) (hi : (i 1).val / 256 < inUse m) :
    (Cert.Reference.Gen.dats m' 0 c).arrAt 6 Cert.Reference.cfg0.N i = result m c i := by
  have hb := h.inUse_le
  obtain ⟨⟨t, ht32⟩, h1, h2⟩ := exists_expert h hi
  have hk : (i 1).val / 256 < 548 := by omega
  have ht := table c e0 h ⟨(i 1).val / 256, hk⟩ ⟨t, ht32⟩ h1 h2
  have hr : (i 1).val = 256 * ((i 1).val / 256) + (i 1).val % 256 := (Nat.div_add_mod _ _).symm
  have hx : expertOf m ((i 1).val / 256) = ⟨t, ht32⟩ := h.expertOf_eq ⟨h1, h2⟩
  have hz : i 0 = (0 : Fin 2) ∨ i 0 = (1 : Fin 2) := by
    have : ∀ z : Fin 2, z = 0 ∨ z = 1 := by decide
    exact this (i 0)
  have hix : i = ValueIdx.ix3 (i 0) (i 1) (i 2) := by
    funext a
    match a with
    | ⟨0, _⟩ => rfl
    | ⟨1, _⟩ => rfl
    | ⟨2, _⟩ => rfl
  show _ = if (i 1).val / 256 < inUse m then outAt m c (i 0) (i 1).val (i 2) else _
  rw [if_pos hi]
  unfold outAt
  rw [hx]
  have htN : t < (Cert.Kernel.Hand.cfgA m).N := ht32
  have u0 := up_same (m := m) c e3 (⟨t, htN⟩ : Fin (Cert.Kernel.Hand.cfgA m).N)
  have u1 := bias_up_same (m := m) c e4 (⟨t, htN⟩ : Fin (Cert.Kernel.Hand.cfgA m).N)
  have u2 := down_same (m := m) c e5 (⟨t, htN⟩ : Fin (Cert.Kernel.Hand.cfgA m).N)
  have u3 := bias_down_same (m := m) c e6 (⟨t, htN⟩ : Fin (Cert.Kernel.Hand.cfgA m).N)
  rcases hz with hz | hz
  · refine Eq.trans ?_ (if_pos hz).symm
    have hlo := Cert.Reference.Hand.lo_at m' c ⟨(i 1).val / 256, hk⟩ ⟨t, ht32⟩ ht (i 1) ⟨(i 1).val % 256, Nat.mod_lt _ (by omega)⟩ (i 2) hr
    rw [u0, u2, u1, u3] at hlo
    rw [hix, hz]
    refine hlo.trans (Eq.symm ?_)
    exact Cert.Same.lo_eq _ _ _ _ _ _ _ _ (rows_same c e2 ⟨(i 1).val / 256, hk⟩ 0) (rows_same c e2 ⟨(i 1).val / 256, hk⟩ 1) _ _
  · refine Eq.trans ?_ (if_neg (fun e => Fin.zero_ne_one (n := 0) (e.symm.trans hz))).symm
    have hhi := Cert.Reference.Hand.hi_at m' c ⟨(i 1).val / 256, hk⟩ ⟨t, ht32⟩ ht (i 1) ⟨(i 1).val % 256, Nat.mod_lt _ (by omega)⟩ (i 2) hr
    rw [u0, u2, u1, u3] at hhi
    rw [hix, hz]
    refine hhi.trans (Eq.symm ?_)
    exact Cert.Same.hi_eq _ _ _ _ _ _ _ _ (rows_same c e2 ⟨(i 1).val / 256, hk⟩ 0) (rows_same c e2 ⟨(i 1).val / 256, hk⟩ 1) _ _

end Entry

/-- The claim's mask at an index: its row is one of a block in use. -/
theorem mask_word (a1 : IVec Cert.On_blocks_in_use.S1 32) (hcap : (a1 (ValueIdx.ix1 (0 : Fin 1))).toNat ≤ 548) (r : ℕ) (hr : r < 140288)
    (h : (BitVec.ofNat 32 r).slt (a1 (ValueIdx.ix1 (0 : Fin 1)) * 256#32) = true) : r / 256 < (a1 (ValueIdx.ix1 (0 : Fin 1))).toNat := by
  have e1 : (BitVec.ofNat 32 r).toNat = r := by rw [BitVec.toNat_ofNat]; omega
  have e2 : (a1 (ValueIdx.ix1 (0 : Fin 1)) * 256#32).toNat = (a1 (ValueIdx.ix1 (0 : Fin 1))).toNat * 256 := by
    rw [BitVec.toNat_mul]
    show _ * 256 % 2 ^ 32 = _
    omega
  rw [BitVec.slt_eq_decide, BitVec.toInt_eq_toNat_of_lt (by rw [e1]; omega), BitVec.toInt_eq_toNat_of_lt (by rw [e2]; omega), e1, e2, decide_eq_true_eq] at h
  omega

/-- Where the mask holds, the block is in use. -/
theorem in_use {m : (ℓ : Loc Cert.Kernel.nD Cert.Kernel.τ Cert.Kernel.sig) → Buf (Elt Bits) ℓ} (h : Routed m) (c : Dev Cert.Kernel.nD)
    (a0 : IVec Cert.On_blocks_in_use.S33 32) (a2 : IVec Cert.On_blocks_in_use.S2x140288x256 32) (a3 : FVec Bits Cert.On_blocks_in_use.S32x1024x2048 .f32)
    (a4 : FVec Bits Cert.On_blocks_in_use.S32x2048 .f32) (a5 : FVec Bits Cert.On_blocks_in_use.S32x1024x1024 .f32) (a6 : FVec Bits Cert.On_blocks_in_use.S32x1024 .f32)
    (i : Cert.Kernel.S2x140288x256.Idx)
    (hm : Cert.On_blocks_in_use.fn (F := Bits) a0 (m ((c.tc : Thread Cert.Kernel.nD Cert.Kernel.τ).loc Cert.Kernel.main_arg1)) a2 a3 a4 a5 a6 i = 1#1) :
    (i 1).val / 256 < inUse m := by
  have e1 : used m = (m ((c.tc : Thread Cert.Kernel.nD Cert.Kernel.τ).loc Cert.Kernel.main_arg1) : Cert.Kernel.S1.Idx → BitVec 32) (ValueIdx.ix1 (0 : Fin 1)) := by
    obtain rfl : c = 0 := Subsingleton.elim (α := Fin 1) _ _
    exact congrFun (Cert.Kernel.Hand.V_of m 0 Cert.Kernel.main_arg1 (by decide) (by decide)) _
  have hb := h.inUse_le
  unfold inUse at hb ⊢
  rw [e1] at hb ⊢
  have at1 : ∀ j : Cert.Kernel.S1.Idx, (m ((c.tc : Thread Cert.Kernel.nD Cert.Kernel.τ).loc Cert.Kernel.main_arg1) : Cert.Kernel.S1.Idx → BitVec 32) j
      = (m ((c.tc : Thread Cert.Kernel.nD Cert.Kernel.τ).loc Cert.Kernel.main_arg1) : Cert.Kernel.S1.Idx → BitVec 32) (ValueIdx.ix1 (0 : Fin 1)) := fun j => by
    congr 1
    funext a
    match a with
    | ⟨0, _⟩ => exact Subsingleton.elim (α := Fin 1) _ _
  unfold Cert.On_blocks_in_use.fn at hm
  refine mask_word _ hb _ (i 1).isLt ?_
  rw [← at1]
  exact Cert.Kernel.Hand.ofBool_one hm

/-- Word for word, on the rows of the blocks in use, the kernel's result is the reference's. -/
theorem bitexact : haveI := Cert.Kernel.Gen.facts; haveI := Cert.Reference.Gen.facts; haveI := Cert.Pre_routed.Gen.facts; haveI := Cert.On_blocks_in_use.Gen.facts
    Cert.bitexact_Kernel_Reference_on_blocks_in_use := fun m g m' g' hpre heq => by
  have h := Cert.Kernel.Hand.routed_of m hpre
  refine ⟨result m, ?_, ?_⟩
  · exact (θ_run _ _ _).mono (fun r hr c => ⟨fun i _ => congrFun (hr.1 c).1 i, (hr.1 c).2⟩)
      (Cert.Kernel.Hand.run_all m g (result m) (first m) (inUse m) h.ready)
  · refine (θ_run _ _ _).mono (fun r hr c => ⟨fun i hi => ?_, (hr c).2⟩) (Cert.Reference.Value.run_blocks m' g')
    obtain ⟨e0, -, e2, e3, e4, e5, e6⟩ := heq c
    exact (congrFun (hr c).1 i).trans (entry c e0 e2 e3 e4 e5 e6 h i (in_use h c _ _ _ _ _ _ i hi))

end Cert.Exact

end
-- ==== Proof.CombineIdealRun.lean ====
/- The body of the last piece's combine call, run at one grid point. -/
module

public import proofs.«01_k».proof.Proof.Gen.CombineIdeal.Frame
public import proofs.«01_k».proof.Proof.Gen.CombineIdeal.Skeleton
public import Idealize.ShloMosaic.Lib.Pipeline.Value

@[expose] public section

set_option maxRecDepth 16384

noncomputable section

namespace Cert.CombineIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.CombineIdeal Cert.CombineIdeal.Gen

variable {F : FTy → Type} [FloatOps F]

local notation "𝕄" => MT nD τ sig Unit (Elt F) ℕ (UR sig nD τ) ℕ

/-! ## What a point computes of its blocks -/

def rowsAt00 (x : Vec F S4x2x256x256 .i32) : Vec F S1x1x256x256 .i32 :=
  View.ld x (Rect.unit (s := S4x2x256x256) ![0, 0, 0, 0] S1x1x256x256.size inb_S4x2x256x256_S1x1x256x256_0_0_0_0)
def rowsAt01 (x : Vec F S4x2x256x256 .i32) : Vec F S1x1x256x256 .i32 :=
  View.ld x (Rect.unit (s := S4x2x256x256) ![0, 1, 0, 0] S1x1x256x256.size inb_S4x2x256x256_S1x1x256x256_0_1_0_0)
def rowsAt10 (x : Vec F S4x2x256x256 .i32) : Vec F S1x1x256x256 .i32 :=
  View.ld x (Rect.unit (s := S4x2x256x256) ![1, 0, 0, 0] S1x1x256x256.size inb_S4x2x256x256_S1x1x256x256_1_0_0_0)
def rowsAt11 (x : Vec F S4x2x256x256 .i32) : Vec F S1x1x256x256 .i32 :=
  View.ld x (Rect.unit (s := S4x2x256x256) ![1, 1, 0, 0] S1x1x256x256.size inb_S4x2x256x256_S1x1x256x256_1_1_0_0)
def rowsAt20 (x : Vec F S4x2x256x256 .i32) : Vec F S1x1x256x256 .i32 :=
  View.ld x (Rect.unit (s := S4x2x256x256) ![2, 0, 0, 0] S1x1x256x256.size inb_S4x2x256x256_S1x1x256x256_2_0_0_0)
def rowsAt21 (x : Vec F S4x2x256x256 .i32) : Vec F S1x1x256x256 .i32 :=
  View.ld x (Rect.unit (s := S4x2x256x256) ![2, 1, 0, 0] S1x1x256x256.size inb_S4x2x256x256_S1x1x256x256_2_1_0_0)
def rowsAt30 (x : Vec F S4x2x256x256 .i32) : Vec F S1x1x256x256 .i32 :=
  View.ld x (Rect.unit (s := S4x2x256x256) ![3, 0, 0, 0] S1x1x256x256.size inb_S4x2x256x256_S1x1x256x256_3_0_0_0)
def rowsAt31 (x : Vec F S4x2x256x256 .i32) : Vec F S1x1x256x256 .i32 :=
  View.ld x (Rect.unit (s := S4x2x256x256) ![3, 1, 0, 0] S1x1x256x256.size inb_S4x2x256x256_S1x1x256x256_3_1_0_0)
def gateAt0 (x : Vec F S256x128 .f32) : Vec F S256x1 .f32 :=
  View.ld x (Rect.unit (s := S256x128) ![0, 0] S256x1.size inb_S256x128_S256x1_0_0)
def gateAt1 (x : Vec F S256x128 .f32) : Vec F S256x1 .f32 :=
  View.ld x (Rect.unit (s := S256x128) ![0, 1] S256x1.size inb_S256x128_S256x1_0_1)
def gateAt2 (x : Vec F S256x128 .f32) : Vec F S256x1 .f32 :=
  View.ld x (Rect.unit (s := S256x128) ![0, 2] S256x1.size inb_S256x128_S256x1_0_2)
def gateAt3 (x : Vec F S256x128 .f32) : Vec F S256x1 .f32 :=
  View.ld x (Rect.unit (s := S256x128) ![0, 3] S256x1.size inb_S256x128_S256x1_0_3)
def rowsX (x : Vec F S256x1024 .f32) : Vec F S256x1024 .f32 :=
  View.ld x (Rect.unit (s := S256x1024) ![0, 0] S256x1024.size inb_S256x1024_S256x1024_0_0)
def rowX (x : Vec F S1x1024 .f32) : Vec F S1x1024 .f32 :=
  View.ld x (Rect.unit (s := S1x1024) ![0, 0] S1x1024.size inb_S1x1024_S1x1024_0_0)

/-- The even columns' weighted sum of the four experts' rows, before the last. -/
def evens (x1 : Vec F S4x2x256x256 .i32) (x2 : Vec F S256x128 .f32) : FVec F S256x512 .f32 :=
  k0_pay8 (k0_pay2 (rowsAt00 x1) (rowsAt01 x1) (gateAt0 x2)) (k0_pay5 (rowsAt10 x1) (rowsAt11 x1)) (gateAt1 x2) (rowsAt20 x1) (rowsAt21 x1) (gateAt2 x2)
/-- The odd columns' weighted sum of the four experts' rows, before the last. -/
def odds (x1 : Vec F S4x2x256x256 .i32) (x2 : Vec F S256x128 .f32) : FVec F S256x512 .f32 :=
  k0_pay9 (k0_pay3 (rowsAt00 x1) (rowsAt01 x1) (gateAt0 x2)) (k0_pay6 (rowsAt10 x1) (rowsAt11 x1)) (gateAt1 x2) (rowsAt20 x1) (rowsAt21 x1) (gateAt2 x2)
/-- The block the body stores, of the blocks it is handed. -/
def pay (x0 : Vec F S256x1024 .f32) (x1 : Vec F S4x2x256x256 .i32) (x2 : Vec F S256x128 .f32) (x3 : Vec F S1x1024 .f32) (x4 : Vec F S1x1024 .f32) : Vec F S256x1024 .f32 :=
  k0_pay13 (evens x1 x2) (odds x1 x2) (k0_pay11 (rowsAt30 x1) (rowsAt31 x1)) (k0_pay12 (rowsAt30 x1) (rowsAt31 x1)) (gateAt3 x2) (rowsX x0) (rowX x3) (rowX x4)

theorem zeros : (![0, 0] : Fin 2 → Nat) = fun _ => 0 := funext fun a => by fin_cases a <;> rfl

theorem rowsX_eq (x : Vec F S256x1024 .f32) : rowsX x = x :=
  View.ld_unit_zero zeros inb_S256x1024_S256x1024_0_0 x
theorem rowX_eq (x : Vec F S1x1024 .f32) : rowX x = x :=
  View.ld_unit_zero zeros inb_S1x1024_S1x1024_0_0 x

theorem mem_store (y : S256x1024.Idx) : y ∈ (Rect.unit (s := S256x1024) ![0, 0] S256x1024.size inb_S256x1024_S256x1024_0_0).set := by
  have h : ∀ (off : Fin 2 → Nat) (hz : off = fun _ => 0) (inb : ∀ a, off a + S256x1024.size a ≤ S256x1024.size a), y ∈ (Rect.unit (s := S256x1024) off S256x1024.size inb).set := by
    intro off hz inb; subst hz
    show y ∈ (Rect.whole S256x1024).set
    rw [Rect.set_whole]; exact Finset.mem_univ y
  exact h _ zeros _

/-! ## The body's two triples -/

set_option maxHeartbeats 2000000 in
/-- A point whose rows are the prompt's: the body stores its block in the first output's buffer. -/
theorem body_prompt (c : Dev nD) (i : grid0.Coords) (h1 : k0_cond1 i = 1#1) (h2 : ¬ k0_cond2 i = 1#1) (arg1 : Memref sig .tc .vmem S256x1024 .f32) (harg1 : arg1.IsWhole) (arg2 : Memref sig .tc .vmem S4x2x256x256 .i32) (harg2 : arg2.IsWhole) (arg3 : Memref sig .tc .vmem S256x128 .f32) (harg3 : arg3.IsWhole) (arg4 : Memref sig .tc .vmem S1x1024 .f32) (harg4 : arg4.IsWhole) (arg5 : Memref sig .tc .vmem S1x1024 .f32) (harg5 : arg5.IsWhole) (arg6 : Memref sig .tc .hbm S32768x1024 .f32) (harg6 : arg6.IsWhole) (arg7 : Memref sig .tc .vmem S256x1024 .f32) (harg7 : arg7.IsWhole) (arg8 : Memref sig .tc .vmem S256x1024 .f32) (harg8 : arg8.IsWhole)
    (x0 : Vec F S256x1024 .f32) (x1 : Vec F S4x2x256x256 .i32) (x2 : Vec F S256x128 .f32) (x3 : Vec F S1x1024 .f32) (x4 : Vec F S1x1024 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg7 fullShare (pay x0 x1 x2 x3 x4)) -∗ K ⟨⟩))
      ⊢ wp frame (wpE (defs₀ (F := F)) Variants.none c none) E (cc0_combine i arg1 harg1 arg2 harg2 arg3 harg3 arg4 harg4 arg5 harg5 arg6 harg6 arg7 harg7 arg8 harg8) K := by
  simp only [cc0_combine_eq_skeleton]; unfold cc0_combine_skel
  simp only [k0_part1_eq_skeleton, k0_part2_eq_skeleton, k0_part3_eq_skeleton]; unfold k0_part1_skel k0_part2_skel k0_part3_skel
  unfold owns
  iintro ⟨⟨%f0, %hf0, H0⟩, ⟨%f1, %hf1, H1⟩, ⟨%f2, %hf2, H2⟩, ⟨%f3, %hf3, H3⟩, ⟨%f4, %hf4, H4⟩, ⟨%d6, %f6, -, H6⟩, Hk⟩
  obtain rfl := harg1.eq_unread hf0; obtain rfl := harg2.eq_unread hf1; obtain rfl := harg3.eq_unread hf2; obtain rfl := harg4.eq_unread hf3; obtain rfl := harg5.eq_unread hf4
  sl_exec
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  iexists _; isplitr
  swap; · iexact H6
  ipureintro
  refine (View.read_writes_eq_canon _ _ _ fun y => ⟨_, List.mem_singleton.2 rfl, mem_store y⟩).trans ((View.canon_unit_zero zeros inb_S256x1024_S256x1024_0_0 _).trans ?_)
  have e : pay (arg1.view.read (Elt F) (harg1.unread x0)) (arg2.view.read (Elt F) (harg2.unread x1)) (arg3.view.read (Elt F) (harg3.unread x2)) (arg4.view.read (Elt F) (harg4.unread x3)) (arg5.view.read (Elt F) (harg5.unread x4)) = pay x0 x1 x2 x3 x4 := by
    rw [harg1.read_unread, harg2.read_unread, harg3.read_unread, harg4.read_unread, harg5.read_unread]
  exact Eq.trans rfl e

set_option maxHeartbeats 2000000 in
/-- A point whose rows are the sample's: the body stores its block in the second output's buffer. -/
theorem body_sample (c : Dev nD) (i : grid0.Coords) (h1 : ¬ k0_cond1 i = 1#1) (h2 : k0_cond2 i = 1#1) (arg1 : Memref sig .tc .vmem S256x1024 .f32) (harg1 : arg1.IsWhole) (arg2 : Memref sig .tc .vmem S4x2x256x256 .i32) (harg2 : arg2.IsWhole) (arg3 : Memref sig .tc .vmem S256x128 .f32) (harg3 : arg3.IsWhole) (arg4 : Memref sig .tc .vmem S1x1024 .f32) (harg4 : arg4.IsWhole) (arg5 : Memref sig .tc .vmem S1x1024 .f32) (harg5 : arg5.IsWhole) (arg6 : Memref sig .tc .hbm S32768x1024 .f32) (harg6 : arg6.IsWhole) (arg7 : Memref sig .tc .vmem S256x1024 .f32) (harg7 : arg7.IsWhole) (arg8 : Memref sig .tc .vmem S256x1024 .f32) (harg8 : arg8.IsWhole)
    (x0 : Vec F S256x1024 .f32) (x1 : Vec F S4x2x256x256 .i32) (x2 : Vec F S256x128 .f32) (x3 : Vec F S1x1024 .f32) (x4 : Vec F S1x1024 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg8 fullShare (pay x0 x1 x2 x3 x4)) -∗ K ⟨⟩))
      ⊢ wp frame (wpE (defs₀ (F := F)) Variants.none c none) E (cc0_combine i arg1 harg1 arg2 harg2 arg3 harg3 arg4 harg4 arg5 harg5 arg6 harg6 arg7 harg7 arg8 harg8) K := by
  simp only [cc0_combine_eq_skeleton]; unfold cc0_combine_skel
  simp only [k0_part1_eq_skeleton, k0_part2_eq_skeleton, k0_part3_eq_skeleton]; unfold k0_part1_skel k0_part2_skel k0_part3_skel
  unfold owns
  iintro ⟨⟨%f0, %hf0, H0⟩, ⟨%f1, %hf1, H1⟩, ⟨%f2, %hf2, H2⟩, ⟨%f3, %hf3, H3⟩, ⟨%f4, %hf4, H4⟩, ⟨%d6, %f6, -, H6⟩, Hk⟩
  obtain rfl := harg1.eq_unread hf0; obtain rfl := harg2.eq_unread hf1; obtain rfl := harg3.eq_unread hf2; obtain rfl := harg4.eq_unread hf3; obtain rfl := harg5.eq_unread hf4
  sl_exec
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  iexists _; isplitr
  swap; · iexact H6
  ipureintro
  refine (View.read_writes_eq_canon _ _ _ fun y => ⟨_, List.mem_singleton.2 rfl, mem_store y⟩).trans ((View.canon_unit_zero zeros inb_S256x1024_S256x1024_0_0 _).trans ?_)
  have e : pay (arg1.view.read (Elt F) (harg1.unread x0)) (arg2.view.read (Elt F) (harg2.unread x1)) (arg3.view.read (Elt F) (harg3.unread x2)) (arg4.view.read (Elt F) (harg4.unread x3)) (arg5.view.read (Elt F) (harg5.unread x4)) = pay x0 x1 x2 x3 x4 := by
    rw [harg1.read_unread, harg2.read_unread, harg3.read_unread, harg4.read_unread, harg5.read_unread]
  exact Eq.trans rfl e

end Cert.CombineIdeal.Hand

end
-- ==== Proof.CombineMath.lean ====
/- The last piece's combine call at one row, and the reference's term, read down to the same arithmetic over the reals. -/
module

public import proofs.«01_k».proof.Proof.CombineIdealRun
public import proofs.«01_k».proof.Proof.Gen.CombineReferenceIdeal.Run
public import Idealize.ShloMosaic.Lib.Pointwise

@[expose] public section

set_option maxRecDepth 16384

noncomputable section

/-! ## The layer norm of one row -/

namespace Cert.CombineIdeal.Hand

open Idealize.ShloMosaic Idealize.ShloMosaic.TcCoe
open Cert.CombineIdeal Cert.CombineIdeal.Gen

/-- A row's mean. -/
def meanOf (row : Fin 1024 → EReal) : EReal :=
  Ideal.div (∑ k, row k) (FloatOps.ofBits (F := Ideal) .f32 0x44800000#32)

/-- The layer norm of a row at one column. -/
def normOf (row : Fin 1024 → EReal) (g b : EReal) (j : Fin 1024) : EReal :=
  (row j - meanOf row) * Ideal.rsqrt (meanOf (fun k => (row k - meanOf row) * (row k - meanOf row)) + FloatOps.ofBits (F := Ideal) .f32 0x3727C5AC#32) * g + b

/-- The kernel's layer norm of a block. -/
def lnK (v79 : FVec Ideal S256x1024 .f32) (v80 v82 : Vec Ideal S1x1024 .f32) : FVec Ideal S256x1024 .f32 :=
  have v81 : FVec Ideal S1x1024 .f32 := shapeCast S1x1024 v80 shapeCasts_S1x1024_S1x1024
  have v83 : FVec Ideal S1x1024 .f32 := shapeCast S1x1024 v82 shapeCasts_S1x1024_S1x1024
  have v84 : FVec Ideal S256 .f32 := multiReduction .add [1] S256 v79 0x00000000#32 reduces_S256x1024_S256 (.inl rfl) rfl
  have v85 : FVec Ideal S256x1 .f32 := shapeCast S256x1 v84 shapeCasts_S256_S256x1
  have cst_51 : Ideal .f32 := Scalar.ofBits .f32 0x44800000#32
  have v86 : FVec Ideal S256x1 .f32 := broadcast S256x1 cst_51
  have v87 : FVec Ideal S256x1 .f32 := divf v85 v86
  have v88 : FVec Ideal S256x1024 .f32 := broadcastTo S256x1024 v87 broadcasts_S256x1_S256x1024
  have v89 : FVec Ideal S256x1024 .f32 := subf v79 v88
  have v90 : FVec Ideal S256x1024 .f32 := mulf v89 v89
  have v91 : FVec Ideal S256 .f32 := multiReduction .add [1] S256 v90 0x00000000#32 reduces_S256x1024_S256 (.inl rfl) rfl
  have v92 : FVec Ideal S256x1 .f32 := shapeCast S256x1 v91 shapeCasts_S256_S256x1
  have cst_53 : Ideal .f32 := Scalar.ofBits .f32 0x44800000#32
  have v93 : FVec Ideal S256x1 .f32 := broadcast S256x1 cst_53
  have v94 : FVec Ideal S256x1 .f32 := divf v92 v93
  have cst_54 : Ideal .f32 := Scalar.ofBits .f32 0x3727C5AC#32
  have v95 : FVec Ideal S256x1 .f32 := broadcast S256x1 cst_54
  have v96 : FVec Ideal S256x1 .f32 := addf v94 v95
  have v97 : FVec Ideal S256x1 .f32 := rsqrt v96
  have v98 : FVec Ideal S256x1024 .f32 := broadcastTo S256x1024 v97 broadcasts_S256x1_S256x1024
  have v99 : FVec Ideal S256x1024 .f32 := mulf v89 v98
  have v100 : FVec Ideal S256x1024 .f32 := broadcastTo S256x1024 v81 broadcasts_S1x1024_S256x1024
  have v101 : FVec Ideal S256x1024 .f32 := mulf v99 v100
  have v102 : FVec Ideal S256x1024 .f32 := broadcastTo S256x1024 v83 broadcasts_S1x1024_S256x1024
  have v103 : FVec Ideal S256x1024 .f32 := addf v101 v102
  v103

/-- The kernel's block before its layer norm. -/
def zK (v53 v56 v64 v67 : FVec Ideal S256x512 .f32) (v68 : Vec Ideal S256x1 .f32) (v75 : Vec Ideal S256x1024 .f32) : FVec Ideal S256x1024 .f32 :=
  have v69 : FVec Ideal S256x512 .f32 := broadcastTo S256x512 v68 broadcasts_S256x1_S256x512
  have v70 : FVec Ideal S256x512 .f32 := mulf v69 v64
  have v71 : FVec Ideal S256x512 .f32 := addf v53 v70
  have v72 : FVec Ideal S256x512 .f32 := broadcastTo S256x512 v68 broadcasts_S256x1_S256x512
  have v73 : FVec Ideal S256x512 .f32 := mulf v72 v67
  have v74 : FVec Ideal S256x512 .f32 := addf v56 v73
  have cst_45 : Ideal .f32 := Scalar.ofBits .f32 0x3F9837F0#32
  have v76 : FVec Ideal S256x1024 .f32 := broadcast S256x1024 cst_45
  have v77 : FVec Ideal S256x1024 .f32 := mulf v76 v75
  have v78 : FVec Ideal S256x1024 .f32 := concatenate S256x1024 1 [⟨S256x512, v71⟩, ⟨S256x512, v74⟩] concatenates_S256x512_S256x512_S256x1024_d1
  addf v77 v78

theorem pay13_eq (v53 v56 v64 v67 : FVec Ideal S256x512 .f32) (v68 : Vec Ideal S256x1 .f32) (v75 : Vec Ideal S256x1024 .f32) (v80 v82 : Vec Ideal S1x1024 .f32) :
    k0_pay13 v53 v56 v64 v67 v68 v75 v80 v82 = lnK (zK v53 v56 v64 v67 v68 v75) v80 v82 := rfl

theorem lnK_apply (z : FVec Ideal S256x1024 .f32) (g b : Vec Ideal S1x1024 .f32) (r : Fin 256) (j : Fin 1024) :
    lnK z g b (ix2 r j) = normOf (fun k => z (ix2 r k)) (g (ix2 0 j)) (b (ix2 0 j)) j := by
  pointwise [lnK, normOf, meanOf]

end Cert.CombineIdeal.Hand

namespace Cert.CombineReferenceIdeal.Hand

open Idealize.ShloMosaic Idealize.ShloMosaic.TcCoe
open Cert.CombineReferenceIdeal Cert.CombineReferenceIdeal.Gen
open Cert.CombineIdeal.Hand (normOf meanOf)

def rowsR (a1 : Vec Ideal S4x2x1280x256 .i32) : IVec S4x1280x512 32 :=
  concatenate S4x1280x512 2 [⟨S4x1280x256, (shapeCast _ (extractStridedSlice S4x1x1280x256 ![0, 0, 0, 0] a1 slices_S4x2x1280x256_S4x1x1280x256_0_0_0_0) shapeCasts_S4x1x1280x256_S4x1280x256)⟩, ⟨S4x1280x256, (shapeCast _ (extractStridedSlice S4x1x1280x256 ![0, 1, 0, 0] a1 slices_S4x2x1280x256_S4x1x1280x256_0_1_0_0) shapeCasts_S4x1x1280x256_S4x1280x256)⟩] concatenates_S4x1280x256_S4x1280x256_S4x1280x512_d2

/-- The reference's rows before its layer norm. -/
def zR (a0 : Vec Ideal S33024x1024 .f32) (a1 : Vec Ideal S4x2x1280x256 .i32) (a2 : Vec Ideal S33024x128 .f32) : FVec Ideal S1280x1024 .f32 :=
  addf (mulf (extractStridedSlice S1280x1024 ![31744, 0] a0 slices_S33024x1024_S1280x1024_31744_0) (broadcastInDim S1280x1024 ![] bcast_S_S1280x1024 (constant S_ .f32 0x3F9837F0#32))) (Host.reduceAdd (mulf (broadcastInDim S4x1280x1024 ![0, 1, 2] bcast_S4x1280x1_S4x1280x1024_0_1_2 (broadcastInDim S4x1280x1 ![0, 1] bcast_S4x1280_S4x1280x1_0_1 (transpose S4x1280 [1, 0] (extractStridedSlice S1280x4 ![31744, 0] a2 slices_S33024x128_S1280x4_31744_0) transposes_S1280x4_S4x1280_1_0))) (concatenate S4x1280x1024 2 [⟨S4x1280x512, (bitcastToFloat (F := Ideal) .f32 (Host.shli (rowsR a1) (broadcastInDim S4x1280x512 ![] bcast_S_S4x1280x512 (constantI S_ 32 16#32))))⟩, ⟨S4x1280x512, (bitcastToFloat (F := Ideal) .f32 (andi (rowsR a1) (broadcastInDim S4x1280x512 ![] bcast_S_S4x1280x512 (constantI S_ 32 4294901760#32))))⟩] concatenates_S4x1280x512_S4x1280x512_S4x1280x1024_d2)) (constant S_ .f32 0x00000000#32) reducesTo_S4x1280x1024_S1280x1024_d0 h_S_)

/-- The reference's layer norm. -/
def lnR (z : FVec Ideal S1280x1024 .f32) (a3 a4 : Vec Ideal S1024 .f32) : FVec Ideal S1280x1024 .f32 :=
  have mean : FVec Ideal S1280x1024 .f32 := broadcastInDim S1280x1024 ![0, 1] bcast_S1280x1_S1280x1024_0_1 (Host.divf (broadcastInDim S1280x1 ![0] bcast_S1280_S1280x1_0 (Host.reduceAdd z (constant S_ .f32 0x00000000#32) reducesTo_S1280x1024_S1280_d1 h_S_)) (broadcastInDim S1280x1 ![] bcast_S_S1280x1 (constant S_ .f32 0x44800000#32)))
  have d : FVec Ideal S1280x1024 .f32 := subf z mean
  have var : FVec Ideal S1280x1 .f32 := Host.divf (broadcastInDim S1280x1 ![0] bcast_S1280_S1280x1_0 (Host.reduceAdd (mulf d d) (constant S_ .f32 0x00000000#32) reducesTo_S1280x1024_S1280_d1 h_S_)) (broadcastInDim S1280x1 ![] bcast_S_S1280x1 (constant S_ .f32 0x44800000#32))
  addf (mulf (mulf d (broadcastInDim S1280x1024 ![0, 1] bcast_S1280x1_S1280x1024_0_1 (Host.rsqrt (addf var (broadcastInDim S1280x1 ![] bcast_S_S1280x1 (constant S_ .f32 0x3727C5AC#32)))))) (broadcastInDim S1280x1024 ![0, 1] bcast_S1x1024_S1280x1024_0_1 (broadcastInDim S1x1024 ![1] bcast_S1024_S1x1024_1 a3))) (broadcastInDim S1280x1024 ![0, 1] bcast_S1x1024_S1280x1024_0_1 (broadcastInDim S1x1024 ![1] bcast_S1024_S1x1024_1 a4))

theorem res_sample (m : (ℓ : Loc nD τ sig) → Buf (Elt Ideal) ℓ) (c : Dev nD) :
    Value.res_main_v49 m c = extractStridedSlice S256x1024 ![1024, 0] (lnR (zR (m ((c.tc : Thread nD τ).loc main_arg0)) (m ((c.tc : Thread nD τ).loc main_arg1)) (m ((c.tc : Thread nD τ).loc main_arg2))) (m ((c.tc : Thread nD τ).loc main_arg3)) (m ((c.tc : Thread nD τ).loc main_arg4))) slices_S1280x1024_S256x1024_1024_0 := rfl

theorem res_prompt (m : (ℓ : Loc nD τ sig) → Buf (Elt Ideal) ℓ) (c : Dev nD) :
    Value.res_main_v48 m c = concatenate S32768x1024 0 [⟨S31744x1024, (extractStridedSlice S31744x1024 ![0, 0] (m ((c.tc : Thread nD τ).loc main_arg5)) slices_S32768x1024_S31744x1024_0_0)⟩, ⟨S1024x1024, (extractStridedSlice S1024x1024 ![0, 0] (lnR (zR (m ((c.tc : Thread nD τ).loc main_arg0)) (m ((c.tc : Thread nD τ).loc main_arg1)) (m ((c.tc : Thread nD τ).loc main_arg2))) (m ((c.tc : Thread nD τ).loc main_arg3)) (m ((c.tc : Thread nD τ).loc main_arg4))) slices_S1280x1024_S1024x1024_0_0)⟩] concatenates_S31744x1024_S1024x1024_S32768x1024_d0 := rfl

theorem lnR_apply (z : FVec Ideal S1280x1024 .f32) (g b : Vec Ideal S1024 .f32) (r : Fin 1280) (j : Fin 1024) :
    lnR z g b (ix2 r j) = normOf (fun k => z (ix2 r k)) (g (ix1 j)) (b (ix1 j)) j := by
  pointwise [lnR, normOf, meanOf]

theorem shli_host (w : BitVec 32) : IntOp.shli ArithUnit.host w 16#32 = IntOp.shli ArithUnit.vector w 16#32 := rfl

open Cert.CombineIdeal.Hand in
open Cert.CombineIdeal.Gen (k0_pay1 k0_pay2 k0_pay3 k0_pay4 k0_pay5 k0_pay6 k0_pay7 k0_pay8 k0_pay9 k0_pay10 k0_pay11 k0_pay12) in
/-- Before the layer norm the kernel's row is the reference's. -/
theorem z_eq (x0 : Vec Ideal ⟨2, ![256, 1024]⟩ .f32) (x1 : Vec Ideal ⟨4, ![4, 2, 256, 256]⟩ .i32) (x2 : Vec Ideal ⟨2, ![256, 128]⟩ .f32)
    (a0 : Vec Ideal S33024x1024 .f32) (a1 : Vec Ideal S4x2x1280x256 .i32) (a2 : Vec Ideal S33024x128 .f32) (r : Fin 256) (R : Fin 1280) (R' : Fin 33024)
    (hR : R'.val = 31744 + R.val)
    (h0 : ∀ j, x0 (ix2 r j) = a0 (ix2 R' j)) (h1 : ∀ k b l, x1 (ix4 k b r l) = a1 (ix4 k b R l)) (h2 : ∀ k, x2 (ix2 r k) = a2 (ix2 R' k)) (j : Fin 1024) :
    zK (evens x1 x2) (odds x1 x2) (k0_pay11 (rowsAt30 x1) (rowsAt31 x1)) (k0_pay12 (rowsAt30 x1) (rowsAt31 x1)) (gateAt3 x2) (rowsX x0) (ix2 r j)
      = zR a0 a1 a2 (ix2 R j) := by
  pointwise [zR, rowsR, zK, evens, odds, k0_pay1, k0_pay2, k0_pay3, k0_pay4, k0_pay5, k0_pay6, k0_pay7, k0_pay8, k0_pay9, k0_pay10, k0_pay11, k0_pay12, rowsAt00, rowsAt01, rowsAt10, rowsAt11, rowsAt20, rowsAt21, rowsAt30, rowsAt31, gateAt0, gateAt1, gateAt2, gateAt3, rowsX]
  have eR : (⟨31744 + R.val, by omega⟩ : Fin 33024) = R' := Fin.ext hR.symm
  simp only [h0, h1, h2, eR, shli_host]
  refine congrArg₂ (· + ·) (EReal.mul_comm _ _) ?_
  refine Eq.trans ?_ (Fin.sum_univ_four _).symm
  by_cases hj : j.val < 512
  · simp only [dif_pos hj]; rfl
  · simp only [dif_neg hj]; rfl

end Cert.CombineReferenceIdeal.Hand

end
-- ==== Proof.CombineIdealFrame.lean ====
/- The last piece's combine call: what each point leaves, the obligation of its body, its run and its frame. -/
module

public import proofs.«01_k».proof.Proof.CombineIdealRun
public import Idealize.ShloMosaic.Lib.Claim

@[expose] public section

set_option maxRecDepth 16384

noncomputable section

namespace Cert.CombineIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.CombineIdeal Cert.CombineIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the output buffers hold after each point -/

/-- What the body computes at point `t`. -/
def outAt (c : Dev nD) (t : Fin cfg0.N) : Vec F S256x1024 .f32 :=
  pay (iblk m c 0 t) (iblk m c 1 t) (iblk m c 2 t) (iblk m c 3 t) (iblk m c 4 t)

/-- The last point up to `t` that stores the first output's block. -/
def lastPrompt (t : Fin cfg0.N) : Fin cfg0.N := if t.val < 4 then t else t0_3

/-- The pipeline's proof data. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outAt m c (lastPrompt t)
    | ⟨6, _⟩ => outAt m c t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = outAt m c (lastPrompt t) := by dsimp only [dats]
theorem after0_6 (c : Dev nD) (t : Fin cfg0.N) : (dats m 0 c).after 6 t = outAt m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## The two kinds of points -/

theorem cond1_iff : ∀ t : Fin cfg0.N, k0_cond1 (grid0.coords t) = 1#1 ↔ t.val < 4 :=
  (by decide +kernel : ∀ t : Fin grid0.N, k0_cond1 (grid0.coords t) = 1#1 ↔ t.val < 4)
theorem cond2_iff : ∀ t : Fin cfg0.N, k0_cond2 (grid0.coords t) = 1#1 ↔ ¬ t.val < 4 :=
  (by decide +kernel : ∀ t : Fin grid0.N, k0_cond2 (grid0.coords t) = 1#1 ↔ ¬ t.val < 4)
theorem idle5 : ∀ t : Fin cfg0.N, cfg0.idle 5 (cfg0.grid.coords t) = !decide (t.val < 4) :=
  (by decide +kernel : ∀ t : Fin grid0.N, (!(k0_cond1 (grid0.coords t) == 1#1)) = !decide (t.val < 4))
theorem idle6 : ∀ t : Fin cfg0.N, cfg0.idle 6 (cfg0.grid.coords t) = decide (t.val < 4) :=
  (by decide +kernel : ∀ t : Fin grid0.N, (!(k0_cond2 (grid0.coords t) == 1#1)) = decide (t.val < 4))
theorem flush5 : ∀ t : Fin cfg0.N, (cfg0.win 5).flush t = !decide (t.val = 3) :=
  (by decide +kernel : ∀ t : Fin grid0.N, win0_5.flush t = !decide (t.val = 3))
theorem fetch5 : ∀ t : Fin cfg0.N, (cfg0.win 5).fetch t = false :=
  (by decide +kernel : ∀ t : Fin grid0.N, win0_5.fetch t = false)
theorem flush6 : ∀ t : Fin cfg0.N, (cfg0.win 6).flush t = !decide (t.val < 4) :=
  (by decide +kernel : ∀ t : Fin grid0.N, win0_6.flush t = !decide (t.val < 4))

theorem lastPrompt_of_lt {t : Fin cfg0.N} (h : t.val < 4) : lastPrompt t = t := if_pos h
theorem lastPrompt_of_not {t : Fin cfg0.N} (h : ¬ t.val < 4) : lastPrompt t = t0_3 := if_neg h

/-- At the sample's point the first output's buffer still holds the last prompt block. -/
theorem before0_5 (c : Dev nD) (t : Fin cfg0.N) (h : ¬ t.val < 4) (d) : (dats m 0 c).before 5 t d = (dats m 0 c).after 5 t := by
  have h4 : t.val = 4 := by
    have hN : cfg0.N = 5 := by decide
    have := t.isLt
    omega
  rw [Dat.before_of_pos (dats m 0 c) 5 t (by omega) (fetch5 t) d, flush5]
  rw [if_neg (by simp [h4])]
  unfold Dat.left
  rw [idle5]
  have e : (⟨t.val - 1, Nat.lt_of_le_of_lt (Nat.sub_le _ _) t.isLt⟩ : Fin cfg0.N) = t0_3 := Fin.ext (by show t.val - 1 = 3; omega)
  rw [e]
  have e2 : (dats m 0 c).after 5 t0_3 = (dats m 0 c).after 5 t := by
    rw [after0_5, after0_5, lastPrompt_of_not h, lastPrompt_of_lt (by decide)]
  exact e2

theorem leaves_live {c : Dev nD} (dat : Dat τ (Elt F) Unit ℕ (UR sig nD τ) ℕ cfg0 c) (w : Fin cfg0.W) (t : Fin cfg0.N)
    (h : cfg0.idle w (cfg0.grid.coords t) = false) :
    dat.leavesExact w t = owns c ((cfg0.win w).stage (cfg0.slots t w)) fullShare (dat.after w t) := by
  unfold Dat.leavesExact; rw [h]
theorem leaves_flush {c : Dev nD} (dat : Dat τ (Elt F) Unit ℕ (UR sig nD τ) ℕ cfg0 c) (w : Fin cfg0.W) (t : Fin cfg0.N)
    (h : cfg0.idle w (cfg0.grid.coords t) = true) (hf : (cfg0.win w).flush t = true) :
    dat.leavesExact w t = owns c ((cfg0.win w).stage (cfg0.slots t w)) fullShare (dat.after w t) := by
  unfold Dat.leavesExact; rw [h, hf]

/-! ## The body obligation -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ (dats m 0 c).leavesExact 5 t
    ∗ (dats m 0 c).leavesExact 6 t)

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4]
  by_cases h : t.val < 4
  · rw [leaves_live _ 5 t ((idle5 t).trans (by simp [h])), Dat.leavesExact_idle _ 6 t ((idle6 t).trans (by simp [h])) ((flush6 t).trans (by simp [h])),
      after0_5, lastPrompt_of_lt h]
    unfold outAt
    iintro ⟨HΦ, Ho, ⟨%d0, H0⟩, ⟨%d1, H1⟩, ⟨%d2, H2⟩, ⟨%d3, H3⟩, ⟨%d4, H4⟩, ⟨%d5, H5⟩, H6⟩
    iapply (body_prompt c (grid0.coords t) ((cond1_iff t).2 h) (fun h2 => (cond2_iff t).1 h2 h) _ _ _ _ _ _ _ _ _ _ _ _ _ _ _ _ (iblk m c 0 t) (iblk m c 1 t) (iblk m c 2 t) (iblk m c 3 t) (iblk m c 4 t) Set.univ _)
    isplitl [H0]; · iexact H0
    isplitl [H1]; · iexact H1
    isplitl [H2]; · iexact H2
    isplitl [H3]; · iexact H3
    isplitl [H4]; · iexact H4
    isplitl [H5]; · iexists _; iexact H5
    iintro ⟨H0, H1, H2, H3, H4, H5⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · rw [leaves_live _ 6 t ((idle6 t).trans (by simp [h])), leaves_flush _ 5 t ((idle5 t).trans (by simp [h])) ((flush5 t).trans (by
      have : t.val ≠ 3 := by omega
      simp [this]))]
    simp only [before0_5 m c t h]
    rw [after0_6]
    unfold outAt
    iintro ⟨HΦ, Ho, ⟨%d0, H0⟩, ⟨%d1, H1⟩, ⟨%d2, H2⟩, ⟨%d3, H3⟩, ⟨%d4, H4⟩, ⟨%d5, H5⟩, ⟨%d6, H6⟩⟩
    iapply (body_sample c (grid0.coords t) (fun h1 => h ((cond1_iff t).1 h1)) ((cond2_iff t).2 h) _ _ _ _ _ _ _ _ _ _ _ _ _ _ _ _ (iblk m c 0 t) (iblk m c 1 t) (iblk m c 2 t) (iblk m c 3 t) (iblk m c 4 t) Set.univ _)
    isplitl [H0]; · iexact H0
    isplitl [H1]; · iexact H1
    isplitl [H2]; · iexact H2
    isplitl [H3]; · iexact H3
    isplitl [H4]; · iexact H4
    isplitl [H6]; · iexists _; iexact H6
    iintro ⟨H0, H1, H2, H3, H4, H6⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

/-- The call runs to its end, leaves its arguments and drains its semaphores. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (frame_of m ρ (dats m) (A_eq m) (run_main m ρ)) ((θ_run defs _ _).mono (fun _ h => h.2) (run_main_quiescent m ρ))

end Cert.CombineIdeal.Hand

end
-- ==== Proof.CombineValue.lean ====
/- The last piece's combine call over the reals: its two result arrays are the reference's. -/
module

public import proofs.«01_k».proof.Proof.CombineMath
public import proofs.«01_k».proof.Proof.CombineIdealFrame
public import Idealize.ShloMosaic.Lib.Pipeline.ValueKit
public import Idealize.ShloMosaic.Lib.Claim

@[expose] public section

set_option maxRecDepth 16384

noncomputable section

namespace Cert.CombineIdeal.Hand

open Idealize.ShloMosaic Idealize.ShloMosaic.TcCoe Idealize.SL.Sem
open Idealize.ShloMosaic.Pipeline (Dat Cfg Window cellOf)
open Cert.CombineIdeal Cert.CombineIdeal.Gen
open Cert.CombineReferenceIdeal.Hand (lnR zR z_eq lnR_apply)

variable (m : (ℓ : Loc nD τ sig) → Buf (Elt Ideal) ℓ) (ρ : Dev nD → PrngReg)

theorem idx : ∀ t : Fin grid0.N, win0_0.index t = ![124 + t.val, 0] ∧ win0_1.index t = ![0, 0, t.val, 0] ∧ win0_2.index t = ![124 + t.val, 0]
    ∧ win0_3.index t = ![0, 0] ∧ win0_4.index t = ![0, 0] := by decide +kernel
theorem idx5 : ∀ t : Fin grid0.N, win0_5.index t = ![min (124 + t.val) 127, 0] := by decide +kernel
theorem idx6 : ∀ t : Fin grid0.N, win0_6.index t = ![0, 0] := by decide +kernel

theorem N5 (t : Fin cfg0.N) : t.val < 5 := by
  have h : cfg0.N = 5 := by decide
  have := t.isLt
  omega

/-- The reference's rows, of the kernel's arguments. -/
def rows (c : Dev nD) : FVec Ideal ⟨2, ![1280, 1024]⟩ .f32 :=
  lnR (zR (m ((c.tc : Thread nD τ).loc main_arg0)) (m ((c.tc : Thread nD τ).loc main_arg1)) (m ((c.tc : Thread nD τ).loc main_arg2))) (m ((c.tc : Thread nD τ).loc main_arg3)) (m ((c.tc : Thread nD τ).loc main_arg4))

theorem blk0 (c : Dev nD) (t : Fin cfg0.N) (r : Fin 256) (j : Fin 1024) (R : Fin 33024) (hR : R.val = 31744 + 256 * t.val + r.val) :
    iblk m c 0 t (ix2 r j) = m ((c.tc : Thread nD τ).loc main_arg0) (ix2 R j) := by
  blk_ext [iblk, V, idx t]
theorem blk1 (c : Dev nD) (t : Fin cfg0.N) (k : Fin 4) (b : Fin 2) (r l : Fin 256) (R : Fin 1280) (hR : R.val = 256 * t.val + r.val) :
    iblk m c 1 t (ix4 k b r l) = m ((c.tc : Thread nD τ).loc main_arg1) (ix4 k b R l) := by
  blk_ext [iblk, V, idx t]
theorem blk2 (c : Dev nD) (t : Fin cfg0.N) (r : Fin 256) (j : Fin 128) (R : Fin 33024) (hR : R.val = 31744 + 256 * t.val + r.val) :
    iblk m c 2 t (ix2 r j) = m ((c.tc : Thread nD τ).loc main_arg2) (ix2 R j) := by
  blk_ext [iblk, V, idx t]
theorem blk3 (c : Dev nD) (t : Fin cfg0.N) (j : Fin 1024) :
    iblk m c 3 t (ix2 0 j) = m ((c.tc : Thread nD τ).loc main_arg3) (ix1 j) := by
  blk_ext! [iblk, V, idx t]
theorem blk4 (c : Dev nD) (t : Fin cfg0.N) (j : Fin 1024) :
    iblk m c 4 t (ix2 0 j) = m ((c.tc : Thread nD τ).loc main_arg4) (ix1 j) := by
  blk_ext! [iblk, V, idx t]

/-- A point's block is the reference's rows of that block. -/
theorem outAt_apply (c : Dev nD) (t : Fin cfg0.N) (r : Fin 256) (j : Fin 1024) (R : Fin 1280) (hR : R.val = 256 * t.val + r.val) :
    outAt m c t (ix2 r j) = rows m c (ix2 R j) := by
  have ht := N5 t
  unfold outAt pay rows
  rw [pay13_eq, rowX_eq, rowX_eq, lnK_apply, lnR_apply]
  have hz : ∀ k : Fin 1024, _ := z_eq (iblk m c 0 t) (iblk m c 1 t) (iblk m c 2 t) (m ((c.tc : Thread nD τ).loc main_arg0)) (m ((c.tc : Thread nD τ).loc main_arg1)) (m ((c.tc : Thread nD τ).loc main_arg2))
    r R ⟨31744 + R.val, by omega⟩ rfl (fun j => blk0 m c t r j _ (by show 31744 + R.val = _; omega)) (fun k b l => blk1 m c t k b r l R hR) (fun k => blk2 m c t r k _ (by show 31744 + R.val = _; omega))
  rw [funext hz, blk3 m c t j, blk4 m c t j]

attribute [local irreducible] rows outAt

/-! ## The result arrays -/

/-- What the sample's result array holds: the reference's last rows. -/
def sample (c : Dev nD) : FVec Ideal ⟨2, ![256, 1024]⟩ .f32 := fun i =>
  rows m c (ix2 ⟨1024 + (i 0).val, by have : (i 0).val < 256 := (i 0).isLt; omega⟩ (i 1))

/-- What the prompt's result array holds: the reference's rows from row 31744 on, and what it was given before. -/
def prompt (c : Dev nD) : FVec Ideal ⟨2, ![32768, 1024]⟩ .f32 := fun i =>
  if h : 31744 ≤ (i 0).val then rows m c (ix2 ⟨(i 0).val - 31744, by have : (i 0).val < 32768 := (i 0).isLt; omega⟩ (i 1)) else m ((c.tc : Thread nD τ).loc main_arg5) i

theorem emb6 (t : Fin cfg0.N) (r : Fin 256) (j : Fin 1024) : (win0_6.blk t).view.emb (ix2 r j) = ix2 r j := by
  blk_ext [idx6 t]

theorem emb5 (t : Fin cfg0.N) (r : Fin 256) (j : Fin 1024) (R : Fin 32768) (hR : R.val = min (124 + t.val) 127 * 256 + r.val) :
    (win0_5.blk t).view.emb (ix2 r j) = ix2 R j := by
  blk_ext [idx5 t]

theorem exists_ix2 (y : (⟨2, ![256, 1024]⟩ : Shape).Idx) : ∃ (r : Fin 256) (j : Fin 1024), y = ix2 r j :=
  ⟨y 0, y 1, by funext a; fin_cases a <;> rfl⟩

theorem point6 (c : Dev nD) (t : Fin cfg0.N) (ht : t.val = 4) (y : (⟨2, ![256, 1024]⟩ : Shape).Idx) :
    outAt m c t y = sample m c ((win0_6.blk t).view.emb y) := by
  obtain ⟨r, j, rfl⟩ := exists_ix2 y
  have e := congrArg (sample m c) (emb6 t r j)
  refine Eq.trans ?_ e.symm
  exact outAt_apply m c t r j ⟨1024 + r.val, by omega⟩ (by show 1024 + r.val = _; omega)

theorem point5 (c : Dev nD) (t : Fin cfg0.N) (y : (⟨2, ![256, 1024]⟩ : Shape).Idx) :
    outAt m c (lastPrompt t) y = prompt m c ((win0_5.blk t).view.emb y) := by
  obtain ⟨r, j, rfl⟩ := exists_ix2 y
  have ht := N5 t
  have hl : (lastPrompt t).val = min t.val 3 := by
    by_cases h : t.val < 4
    · rw [lastPrompt_of_lt h]; omega
    · rw [lastPrompt_of_not h]; show 3 = _; omega
  have e := congrArg (prompt m c) (emb5 t r j ⟨min (124 + t.val) 127 * 256 + r.val, by omega⟩ rfl)
  refine Eq.trans ?_ e.symm
  unfold prompt
  have h : 31744 ≤ min (124 + t.val) 127 * 256 + r.val := by omega
  refine Eq.trans ?_ (dif_pos h).symm
  exact outAt_apply m c (lastPrompt t) r j _ (by show min (124 + t.val) 127 * 256 + r.val - 31744 = _; omega)

theorem final6 (c : Dev nD) : (dats m 0 c).arrAt 6 cfg0.N = sample m c := by
  refine (dats m 0 c).arrAt_eq_of_covers 6 _ (by decide +kernel) fun t hf y => ?_
  blk_simp
  rw [after0_6]
  have ht : t.val = 4 := by
    have h4 := N5 t
    have h := (flush6 t).symm.trans hf
    simp only [Bool.not_eq_true', decide_eq_false_iff_not] at h
    omega
  exact point6 m c t ht y

theorem entry5 (c : Dev nD) : (dats m 0 c).A 5 = m ((c.tc : Thread nD τ).loc main_arg5) := by
  refine (A_eq m c 5).trans ?_
  show V m c main_v2_0 = _
  entry_read
  rfl

theorem final5 (c : Dev nD) : (dats m 0 c).arrAt 5 cfg0.N = prompt m c := by
  have key : (dats m 0 c).arrAt 5 cfg0.N = fun i : (⟨2, ![32768, 1024]⟩ : Shape).Idx => if 31744 ≤ (i 0).val then prompt m c i else (dats m 0 c).A 5 i := by
    refine (dats m 0 c).arrAt_eq_of_coversWhere 5 (prompt m c) (fun β => 124 ≤ β (0 : Fin 2)) (by decide +kernel) (fun t hf y => ?_) (fun j => by blk_simp [Pipeline.Window.cell_apply]; omega)
    blk_simp
    rw [after0_5]
    exact point5 m c t y
  rw [key, entry5]
  funext i
  by_cases h : 31744 ≤ (i 0).val
  · exact if_pos h
  · refine (if_neg h).trans ?_
    unfold prompt
    rw [dif_neg h]

/-- The run: the two results, and the arguments unchanged. -/
theorem run : θ_run defs (onTc (τ := τ) (main (F := Ideal))) ⟨m, fun _ => 0, ρ⟩ (fun r => ∀ c : Dev nD,
      r.2.mem ((c.tc : Thread nD τ).loc main_v2_0) = prompt m c
      ∧ r.2.mem ((c.tc : Thread nD τ).loc main_v2_1) = sample m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨(((h.1 c).1 5).trans (final5 m c) : _), (((h.1 c).1 6).trans (final6 m c) : _), h.2.1 c⟩)
    (θ_run_and (run_main m ρ) (frame m ρ))

end Cert.CombineIdeal.Hand

namespace Cert.CombineReferenceIdeal.Hand

open Idealize.ShloMosaic Idealize.ShloMosaic.TcCoe Idealize.SL.Sem
open Cert.CombineReferenceIdeal

theorem slice_sample (X : FVec Ideal S1280x1024 .f32) (h) (i : S256x1024.Idx) :
    extractStridedSlice S256x1024 ![1024, 0] X h i = X (ix2 ⟨1024 + (i 0).val, by have : (i 0).val < 256 := (i 0).isLt; omega⟩ (i 1)) := by
  obtain ⟨r, j, rfl⟩ : ∃ (r : Fin 256) (j : Fin 1024), i = ix2 r j := ⟨i 0, i 1, by funext a; fin_cases a <;> rfl⟩
  pointwise

theorem concat_prompt (X : FVec Ideal S1280x1024 .f32) (A : FVec Ideal S32768x1024 .f32) (h h' h'') (i : S32768x1024.Idx) :
    concatenate S32768x1024 0 [⟨S31744x1024, extractStridedSlice S31744x1024 ![0, 0] A h⟩, ⟨S1024x1024, extractStridedSlice S1024x1024 ![0, 0] X h'⟩] h'' i
      = if h : 31744 ≤ (i 0).val then X (ix2 ⟨(i 0).val - 31744, by have : (i 0).val < 32768 := (i 0).isLt; omega⟩ (i 1)) else A i := by
  obtain ⟨r, j, rfl⟩ : ∃ (r : Fin 32768) (j : Fin 1024), i = ix2 r j := ⟨i 0, i 1, by funext a; fin_cases a <;> rfl⟩
  by_cases hr : 31744 ≤ r.val
  · refine Eq.trans ?_ (dif_pos hr).symm
    have hlt : r.val - 31744 < 1024 := by omega
    refine (concatenate_pair_apply_right (t := S32768x1024) (s₁ := S31744x1024) (s₂ := S1024x1024) 0 _ _ h'' (ix2 r j) rfl rfl (ix2 ⟨r.val - 31744, hlt⟩ j) (fun b hb => ?_) ?_).trans ?_
    · fin_cases b
      · exact absurd rfl hb
      · rfl
    · show r.val - 31744 + 31744 = r.val
      omega
    · refine congrArg X ?_
      funext a
      fin_cases a
      · exact Fin.ext (Nat.zero_add _)
      · exact Fin.ext (Nat.zero_add _)
  · refine Eq.trans ?_ (dif_neg hr).symm
    have hlt : r.val < 31744 := by omega
    refine (concatenate_pair_apply_left (t := S32768x1024) (s₁ := S31744x1024) (s₂ := S1024x1024) 0 _ _ h'' (ix2 r j) rfl (ix2 ⟨r.val, hlt⟩ j) (fun b => ?_)).trans ?_
    · fin_cases b <;> rfl
    · refine congrArg A ?_
      funext a
      fin_cases a
      · exact Fin.ext (Nat.zero_add _)
      · exact Fin.ext (Nat.zero_add _)

end Cert.CombineReferenceIdeal.Hand

end
-- ==== Proof.Combine.lean ====
/- The last piece's combine call against plain mathematics, over the reals. -/
module

public import proofs.«01_k».proof.Defs
public import proofs.«01_k».proof.Proof.Gen.Combine
public import proofs.«01_k».proof.Proof.CombineValue
public import Idealize.ShloMosaic.Lib.Quiescent

@[expose] public section

set_option maxRecDepth 16384

noncomputable section

open Idealize.ShloMosaic Idealize.ShloMosaic.TcCoe Idealize.SL.Sem

/-! ## The kernel's own frame

The call and its reading over the reals have the same text: the run of the one, at bits, is the run of the other. -/

namespace Cert.Combine.Hand

variable {F : FTy → Type} [FloatOps F]

theorem bodies_eq : Combine.defs₀ (F := F) = CombineIdeal.defs₀ := by
  unfold Combine.defs₀ CombineIdeal.defs₀
  refine congrArg Defs.onTc ?_
  funext l x
  match l, x with
  | ⟨0, _⟩, (t, s) => rfl

theorem defs_eq : Combine.defs (F := F) = CombineIdeal.defs :=
  congrArg (Pipeline.defs (CombineIdeal.pcfgs (F := F))) bodies_eq

/-- The call runs to its end, leaves its arguments and drains its semaphores. -/
theorem frame : Cert.quiescent_Combine := fun m ρ _ => by
  have h := Cert.CombineIdeal.Hand.frame (F := Bits) m ρ
  rw [← defs_eq] at h
  exact h

end Cert.Combine.Hand

/-! ## The reference's frame -/

namespace Cert.CombineReferenceIdeal.Hand

open Cert.CombineReferenceIdeal

/-- The reference is host code alone: it runs to its end, leaves its arguments, and has no semaphore. -/
theorem frame : Cert.quiescent_CombineReferenceIdeal := fun m ρ _ =>
  (θ_run Cert.CombineReferenceIdeal.defs _ _).mono (fun r h => ⟨fun c => (h c).2.2, Idealize.ShloMosaic.sem_eq_zero_of_no_sems (by decide) r.2⟩)
    (Cert.CombineReferenceIdeal.Value.run (F := Ideal) m ρ)

end Cert.CombineReferenceIdeal.Hand

/-! ## The two results -/

namespace Cert.CombineIdeal.Hand

open Cert.CombineReferenceIdeal.Hand (res_sample res_prompt slice_sample concat_prompt)

attribute [local irreducible] Cert.CombineReferenceIdeal.Hand.lnR Cert.CombineReferenceIdeal.Hand.zR

/-- Over the reals both results of the call are the plain mathematics. -/
theorem algebraic : Cert.algebraic_CombineIdeal_CombineReferenceIdeal := by
  intro m ρ m' ρ' _ hagree
  refine ⟨fun c => prompt m c, fun c => sample m c, run m ρ, ?_⟩
  refine (θ_run Cert.CombineReferenceIdeal.defs _ _).mono (fun _ h c => ⟨(h c).1.trans ?_, (h c).2.1.trans ?_, (h c).2.2⟩)
    (Cert.CombineReferenceIdeal.Value.run (F := Ideal) m' ρ')
  · rw [res_prompt, (hagree c).1, (hagree c).2.1, (hagree c).2.2.1, (hagree c).2.2.2.1, (hagree c).2.2.2.2.1, (hagree c).2.2.2.2.2]
    funext i
    refine (concat_prompt _ _ _ _ _ i).trans ?_
    unfold prompt rows
    rfl
  · rw [res_sample, (hagree c).1, (hagree c).2.1, (hagree c).2.2.1, (hagree c).2.2.2.1, (hagree c).2.2.2.2.1]
    funext i
    refine (slice_sample _ _ i).trans ?_
    unfold sample rows
    rfl

end Cert.CombineIdeal.Hand

end
-- ==== Proof.LayoutValue.lean ====
/- The rows of the layout by expert: what the kernel's call leaves in its result. -/
module

public import proofs.«01_k».proof.Proof.Gen.Layout.Frame
public import Idealize.ShloMosaic.Lib.Pipeline.ValueKit
public import Idealize.ShloMosaic.Lib.Pipeline.Covers
public import Idealize.ShloMosaic.Lib.Claim
public import Idealize.ShloMosaic.Lib.Pointwise

@[expose] public section

set_option maxRecDepth 16384

noncomputable section

namespace Cert.Layout.Hand

open Idealize.ShloMosaic Idealize.ShloMosaic.TcCoe Idealize.SL.Sem
open Idealize.ShloMosaic.Pipeline (Dat Cfg Window cellOf)
open Cert.Layout Cert.Layout.Gen

variable {F : FTy → Type} [FloatOps F]
variable (m : (ℓ : Loc nD τ sig) → Buf (Elt F) ℓ) (ρ : Dev nD → PrngReg)

theorem ok : Ok m := trivial

theorem idx0 : ∀ t : Fin (cfgM m (ok m)).N, ((cfgM m (ok m)).win 0).index t = ![0, 0] :=
  (by decide +kernel : ∀ t : Fin grid0.N, cc0_transform_0 (grid0.coords t) = ![0, 0])

theorem N2 (t : Fin (cfgM m (ok m)).N) : t.val < 2 := by
  have h : (cfgM m (ok m)).N = 2 := by show grid0.N = 2; decide
  have := t.isLt
  omega

/-- The routing words the call is given. -/
abbrev words (c : Dev nD) : IVec ⟨2, ![8, 33024]⟩ 32 := m ((c.tc : Thread nD τ).loc main_arg0)

theorem blk0 (c : Dev nD) (t : Fin (cfgM m (ok m)).N) (k : Fin 8) (j : Fin 33024) : iblk m (ok m) c 0 t (ix2 k j) = words m c (ix2 k j) := by
  unfold words
  rw [← V_main_arg0 m c]
  blk_ext [iblk, idx0 m t]

/-- The first row of each expert's block, as the call's table holds it. -/
abbrev starts : IVec ⟨1, ![32]⟩ 32 := tbl m 0

/-- The kernel's sum over the experts: each expert's word where the choice is that expert, else zero, onto `x`. -/
def picks (a : BitVec 32) (w : Fin 32 → BitVec 32) (x : BitVec 32) : BitVec 32 :=
  List.foldl (fun s n => IntOp.addi s (Scalar.select (IntOp.cmpi .eq a (BitVec.ofNat 32 n.val)) (w n) 0#32)) x
    [0, 1, 2, 3, 4, 5, 6, 7, 8, 9, 10, 11, 12, 13, 14, 15, 16, 17, 18, 19, 20, 21, 22, 23, 24, 25, 26, 27, 28, 29, 30, 31]

/-- One term of that sum. -/
theorem term (e n : Fin 32) (w s : BitVec 32) :
    IntOp.addi s (Scalar.select (IntOp.cmpi .eq (BitVec.ofNat 32 e.val) (BitVec.ofNat 32 n.val)) w 0#32) = if e = n then s + w else s := by
  have h : (BitVec.ofNat 32 e.val = BitVec.ofNat 32 n.val) ↔ e = n := by
    refine ⟨fun h => Fin.ext ?_, fun h => by rw [h]⟩
    have := congrArg BitVec.toNat h
    simp only [BitVec.toNat_ofNat] at this
    omega
  by_cases hn : e = n
  · subst hn; simp [IntOp.addi, IntOp.cmpi, Scalar.select]
  · have := mt h.1 hn
    simp [IntOp.addi, IntOp.cmpi, Scalar.select, hn, beq_eq_false_iff_ne.2 this]

/-- A choice that names an expert leaves that expert's word alone in the sum. -/
theorem picks_eq (e : Fin 32) (w : Fin 32 → BitVec 32) (x : BitVec 32) : picks (BitVec.ofNat 32 e.val) w x = x + w e := by
  unfold picks
  simp only [List.foldl, term]
  fin_cases e <;> simp

/-- A point's block: the position, the half's first row, and the table's word of the chosen expert. -/
theorem out_apply (c : Dev nD) (i : grid0.Coords) (a1 : Memref sig .tc .vmem S8x33024 .i32) (h1 : a1.IsWhole) (a2 : Memref sig .tc .vmem S4x33024 .i32) (h2 : a2.IsWhole)
    (x : Vec F S8x33024 .i32) (T : Vec F S32 .i32) (k : Fin 4) (j : Fin 33024) :
    out0_A_1 c i a1 h1 a2 h2 x T (ix2 k j) = picks (x (ix2 ⟨k.val, by omega⟩ j)) (fun e => T (ix1 e)) (IntOp.addi (x (ix2 ⟨4 + k.val, by omega⟩ j)) (Scalar.muli (BitVec.ofNat 32 (i 0).val) 140288#32)) := by
  frame_out
  pointwise [k0_pay1, k0_pay2, k0_pay3, k0_pay4, k0_pay5, k0_pay6, k0_pay7, k0_pay8, k0_pay9, k0_pay10, k0_pay11, k0_pay12,
    k0_pay13, k0_pay14, k0_pay15, k0_pay16, k0_pay17, k0_pay18, k0_pay19, k0_pay20, k0_pay21]
  rfl

/-- What the result array holds: in half `i 1 / 33024`, the row of copy `i 0` of token `i 1 % 33024`. -/
def dest (c : Dev nD) : IVec ⟨2, ![4, 66048]⟩ 32 := fun i =>
  picks (words m c (ix2 ⟨(i 0).val, by have : (i 0).val < 4 := (i 0).isLt; omega⟩ ⟨(i 1).val % 33024, Nat.mod_lt _ (by omega)⟩)) (fun e => starts m (ix1 e))
    (IntOp.addi (words m c (ix2 ⟨4 + (i 0).val, by have : (i 0).val < 4 := (i 0).isLt; omega⟩ ⟨(i 1).val % 33024, Nat.mod_lt _ (by omega)⟩))
      (Scalar.muli (BitVec.ofNat 32 ((i 1).val / 33024)) 140288#32))

theorem idx1 : ∀ t : Fin (cfgM m (ok m)).N, ((cfgM m (ok m)).win 1).index t = ![0, t.val] :=
  (by decide +kernel : ∀ t : Fin grid0.N, cc0_transform_1 (grid0.coords t) = ![0, t.val])

theorem coord (t : Fin (cfgM m (ok m)).N) : (grid0.coords t 0).val = t.val :=
  (by decide +kernel : ∀ t : Fin grid0.N, (grid0.coords t 0).val = t.val) t

theorem emb1 (t : Fin (cfgM m (ok m)).N) (k : Fin 4) (j : Fin 33024) (J : Fin 66048) (hJ : J.val = t.val * 33024 + j.val) :
    (((cfgM m (ok m)).win 1).blk t).view.emb (ix2 k j) = ix2 k J := by
  blk_ext [idx1 m t]

theorem exists_ix2 (y : (⟨2, ![4, 33024]⟩ : Shape).Idx) : ∃ (r : Fin 4) (j : Fin 33024), y = ix2 r j :=
  ⟨y 0, y 1, by funext a; fin_cases a <;> rfl⟩

theorem point (c : Dev nD) (t : Fin (cfgM m (ok m)).N) (y : (⟨2, ![4, 33024]⟩ : Shape).Idx) :
    outsAt0 m (ok m) c t y = dest m c ((((cfgM m (ok m)).win 1).blk t).view.emb y) := by
  obtain ⟨k, j, rfl⟩ := exists_ix2 y
  have ht := N2 m t
  refine Eq.trans ?_ (congrArg (dest m c) (emb1 m t k j ⟨t.val * 33024 + j.val, by omega⟩ rfl)).symm
  refine (out_apply c (grid0.coords t) _ _ _ _ _ _ k j).trans ?_
  have hm : (⟨(t.val * 33024 + j.val) % 33024, Nat.mod_lt _ (by omega)⟩ : Fin 33024) = j := Fin.ext (by show (t.val * 33024 + j.val) % 33024 = j.val; omega)
  have hd : (t.val * 33024 + j.val) / 33024 = t.val := by omega
  rw [coord m t]
  show picks _ _ (IntOp.addi _ (Scalar.muli (BitVec.ofNat 32 t.val) 140288#32)) = picks (words m c (ix2 _ ⟨(t.val * 33024 + j.val) % 33024, _⟩)) _
    (IntOp.addi (words m c (ix2 _ ⟨(t.val * 33024 + j.val) % 33024, _⟩)) (Scalar.muli (BitVec.ofNat 32 ((t.val * 33024 + j.val) / 33024)) 140288#32))
  rw [hm, hd]
  exact congr (congrArg (fun a => picks a _) (blk0 m c t _ j)) (congrArg (fun a => IntOp.addi a _) (blk0 m c t _ j))

theorem covers : ((cfgM m (ok m)).win 1).Covers := by
  have n0 : ((cfgM m (ok m)).win 1).nblk (0 : Fin 2) = 1 := (by decide +kernel : (4 + 4 - 1) / 4 = 1)
  have n1 : ((cfgM m (ok m)).win 1).nblk (1 : Fin 2) = 2 := (by decide +kernel : (66048 + 33024 - 1) / 33024 = 2)
  have h : ∀ b : Fin 2, ∃ t : Fin grid0.N, t.val = b.val := by decide
  refine Pipeline.Window.covers_of_index_surj _ rfl (fun a => ?_) fun β => ?_
  · exact (by decide : ∀ a : Fin 2, 0 < S4x33024.size a) a
  · have h0 : (β (0 : Fin 2)).val < 1 := Nat.lt_of_lt_of_eq (β (0 : Fin 2)).isLt n0
    obtain ⟨t, ht⟩ := h ((β (1 : Fin 2)).cast n1)
    refine ⟨t, fun a => ?_⟩
    rw [idx1 m t]
    match a with
    | ⟨0, _⟩ => exact (Nat.lt_one_iff.1 h0).symm
    | ⟨1, _⟩ => exact ht

theorem final1 (c : Dev nD) : (dats m (ok m) 0 c).arrAt 1 (cfgM m (ok m)).N = dest m c := by
  refine (dats m (ok m) 0 c).arrAt_eq_of_covers 1 _ (covers m) fun t hf y => ?_
  blk_simp
  rw [after0_1]
  exact point m c t y

/-- The run: the result, and the arguments unchanged. -/
theorem run : θ_run defs (onTc (τ := τ) (main (F := F))) ⟨m, fun _ => 0, ρ⟩ (fun r => ∀ c : Dev nD,
      r.2.mem ((c.tc : Thread nD τ).loc main_v12) = dest m c
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => ⟨(((h.1 c).1 1).trans (final1 m c) : _), h.2.1 c⟩)
    (θ_run_and (run_main m ρ (ok m)) (frame m ρ (ok m)))

end Cert.Layout.Hand

end
-- ==== Proof.LayoutMath.lean ====
/- The rows of the layout by expert: the reference's result, read at an index. -/
module

public import proofs.«01_k».proof.Proof.Gen.LayoutReference.Run
public import Idealize.ShloMosaic.Lib.ValueIdxCore
public import Idealize.ShloMosaic.Lib.Pointwise

@[expose] public section

set_option maxRecDepth 16384

noncomputable section

namespace Cert.LayoutReference.Hand

open Idealize.ShloMosaic Idealize.ShloMosaic.TcCoe Idealize.SL.Sem
open Cert.LayoutReference Cert.LayoutReference.Gen

variable {F : FTy → Type} [FloatOps F]

/-- The reference's rows of its table and its routing words, as printed. -/
def destR (T : IVec S32 32) (x : IVec S8x33024 32) : IVec S4x66048 32 :=
  shapeCast _ (addi (broadcastInDim S4x2x33024 ![0, 1, 2] bcast_S4x1x33024_S4x2x33024_0_1_2 (broadcastInDim S4x1x33024 ![0, 2] bcast_S4x33024_S4x1x33024_0_2 (addi (Host.gather gather_S32_S4x33024x1_S4x33024_n_0_n_n_0_2_1 T (broadcastInDim S4x33024x1 ![0, 1] bcast_S4x33024_S4x33024x1_0_1 (extractStridedSlice S4x33024 ![0, 0] x slices_S8x33024_S4x33024_0_0))) (extractStridedSlice S4x33024 ![4, 0] x slices_S8x33024_S4x33024_4_0)))) (broadcastInDim S4x2x33024 ![0, 1, 2] bcast_S1x2x1_S4x2x33024_0_1_2 (broadcastInDim S1x2x1 ![1] bcast_S2_S1x2x1_1 (muli (broadcastInDim S2 ![] bcast_S_S2 (constantI S_ 32 140288#32)) (iotaInDim S2 32 0))))) shapeCasts_S4x2x33024_S4x66048

/-- The gather reads the table at the choice, kept inside it. -/
theorem take_apply (T : IVec S32 32) (idx : IVec S4x33024x1 32) (k : Fin 4) (j : Fin 33024) :
    Host.gather gather_S32_S4x33024x1_S4x33024_n_0_n_n_0_2_1 T idx (ix2 k j) = T (ix1 ⟨min (idx (ix3 k j 0)).toInt.toNat 31, by omega⟩) := by
  refine (ValueIdx.gather_take_apply (N := 32) (R := 4) (C := 33024) (by omega) _ T idx (ix2 k j)).trans ?_
  have e : ValueIdx.takeIdx (ix2 k j) = ix3 k j (0 : Fin 1) := by funext a; fin_cases a <;> rfl
  refine congrArg T ?_
  funext a
  fin_cases a
  refine Fin.ext ?_
  show min (idx (ValueIdx.takeIdx (ix2 k j))).toInt.toNat 31 = min (idx (ix3 k j 0)).toInt.toNat 31
  rw [e]

/-- The reference's row of copy `k` of token `j` in half `h`, where the choice names expert `e`. -/
theorem destR_apply (T : IVec S32 32) (x : IVec S8x33024 32) (k : Fin 4) (h : Fin 2) (j : Fin 33024) (J : Fin 66048) (hJ : J.val = h.val * 33024 + j.val)
    (e : Fin 32) (he : x (ix2 ⟨k.val, by omega⟩ j) = BitVec.ofNat 32 e.val) :
    destR T x (ix2 k J) = x (ix2 ⟨4 + k.val, by omega⟩ j) + BitVec.ofNat 32 h.val * 140288#32 + T (ix1 e) := by
  have hx : ∀ i : Fin 32, BitVec.toInt (BitVec.ofNat 32 i.val) = i.val := by decide
  unfold destR
  refine (shapeCast_apply _ _ _ (ix3 k h j) ?_).trans ?_
  · rw [Shape.rowMajor_val_three, Shape.rowMajor_val_two]
    show (k.val * 2 + h.val) * 33024 + j.val = k.val * 66048 + J.val
    omega
  pointwise []
  rw [take_apply]
  pointwise []
  have hi : (⟨min (x (ix2 ⟨k.val, by omega⟩ j)).toInt.toNat 31, by omega⟩ : Fin 32) = e := by
    refine Fin.ext ?_
    show min (x (ix2 ⟨k.val, by omega⟩ j)).toInt.toNat 31 = e.val
    rw [he, hx]
    have := e.isLt
    omega
  refine (congrArg (fun i => IntOp.addi (IntOp.addi (T (ix1 i)) (x (ix2 ⟨4 + k.val, by omega⟩ j))) (IntOp.muli (140288#32) (BitVec.ofNat 32 h.val))) hi).trans ?_
  show T (ix1 e) + x (ix2 ⟨4 + k.val, by omega⟩ j) + 140288#32 * BitVec.ofNat 32 h.val = _
  rw [BitVec.mul_comm (140288#32), BitVec.add_comm (T (ix1 e)), BitVec.add_assoc, BitVec.add_comm (T (ix1 e)), ← BitVec.add_assoc]

end Cert.LayoutReference.Hand

end
-- ==== Proof.Layout.lean ====
/- The rows of the layout by expert: the kernel's call against the table's look-up. -/
module

public import proofs.«01_k».proof.Defs
public import proofs.«01_k».proof.Proof.Gen.Layout
public import proofs.«01_k».proof.Proof.Gen.LayoutReference.Run
public import proofs.«01_k».proof.Proof.Gen.Pre_experts
public import proofs.«01_k».proof.Proof.LayoutValue
public import proofs.«01_k».proof.Proof.LayoutMath

@[expose] public section

set_option maxRecDepth 16384

noncomputable section

namespace Cert.Layout.Hand

open Idealize.ShloMosaic Idealize.ShloMosaic.TcCoe Idealize.SL.Sem
open Cert.Layout Cert.Layout.Gen
open Cert.LayoutReference.Hand (destR destR_apply)

variable {F : FTy → Type} [FloatOps F]

/-- Where the precondition holds each choice names an expert. -/
theorem expert_of (x : IVec ⟨2, ![8, 33024]⟩ 32) (a : FVec Bits ⟨2, ![32, 128]⟩ .f32)
    (h : haveI := Cert.Pre_experts.Gen.facts; Cert.Pre_experts.fn (F := Bits) x a = fun _ => 1#1) (k : Fin 4) (j : Fin 33024) :
    ∃ e : Fin 32, x (ix2 ⟨k.val, by omega⟩ j) = BitVec.ofNat 32 e.val := by
  have hj := congrFun h (ix2 k j)
  unfold Cert.Pre_experts.fn at hj
  pointwise [] at hj
  have and_one : ∀ a b : Bool, BitVec.ofBool a &&& BitVec.ofBool b = 1#1 → a = true ∧ b = true := by decide
  generalize x (ix2 ⟨k.val, by omega⟩ j) = v at hj ⊢
  obtain ⟨h0, h1⟩ := and_one _ _ hj
  simp only [BitVec.sle, BitVec.slt, decide_eq_true_eq] at h0 h1
  have z : (0#32).toInt = 0 := by decide
  have y : (32#32).toInt = 32 := by decide
  rw [z] at h0
  rw [y] at h1
  have hv : v.toNat < 32 := by
    rw [BitVec.toInt_eq_toNat_cond] at h0 h1
    have := v.isLt
    split at h0 <;> omega
  exact ⟨⟨v.toNat, hv⟩, by simp⟩

/-- The table the call is given is the one the reference looks up. -/
theorem table_eq (m : (ℓ : Loc nD τ sig) → Buf (Elt F) ℓ) (m' : (ℓ : Loc Cert.LayoutReference.nD Cert.LayoutReference.τ Cert.LayoutReference.sig) → Buf (Elt F) ℓ) (c : Dev nD)
    (h : m' ((c.tc : Thread Cert.LayoutReference.nD Cert.LayoutReference.τ).loc Cert.LayoutReference.main_arg1) = m ((c.tc : Thread nD τ).loc main_arg1)) :
    Cert.LayoutReference.Value.res_main_v24 m' c = destR (starts m) (m' ((c.tc : Thread Cert.LayoutReference.nD Cert.LayoutReference.τ).loc Cert.LayoutReference.main_arg0)) := by
  obtain rfl : c = 0 := Subsingleton.elim _ _
  have e : starts m = V m 0 main_v11 := rfl
  rw [e]
  unfold Cert.LayoutReference.Value.res_main_v24 V
  rw [h]
  simp only [hostOps0, hostOps0_1, hostOps0_2, hostOps0_3, hostOps0_4, List.flatten_cons, List.flatten_nil, List.append_nil, List.cons_append, List.nil_append,
    StableHlo.TRef.binary, StableHlo.TRef.nullary, StableHlo.TRef.ternary, StableHlo.TRef.unary, StableHlo.TRef.toBuf, StableHlo.TRef.ofBuf, cast_eq]
  after_results_simp
  rfl

theorem exists_ix2_whole (y : (⟨2, ![4, 66048]⟩ : Shape).Idx) :
    ∃ (k : Fin 4) (h : Fin 2) (j : Fin 33024) (J : Fin 66048), J.val = h.val * 33024 + j.val ∧ y = ix2 k J := by
  have hy : (y 1).val < 66048 := (y 1).isLt
  refine ⟨y 0, ⟨(y 1).val / 33024, by omega⟩, ⟨(y 1).val % 33024, by omega⟩, y 1, ?_, by funext a; fin_cases a <;> rfl⟩
  show (y 1).val = (y 1).val / 33024 * 33024 + (y 1).val % 33024
  omega

/-- The kernel's row of copy `k` of token `j` in half `h`, where the choice names expert `e`. -/
theorem dest_apply (m : (ℓ : Loc nD τ sig) → Buf (Elt F) ℓ) (c : Dev nD) (k : Fin 4) (h : Fin 2) (j : Fin 33024) (J : Fin 66048) (hJ : J.val = h.val * 33024 + j.val)
    (e : Fin 32) (he : words m c (ix2 ⟨k.val, by omega⟩ j) = BitVec.ofNat 32 e.val) :
    dest m c (ix2 k J) = words m c (ix2 ⟨4 + k.val, by omega⟩ j) + BitVec.ofNat 32 h.val * 140288#32 + starts m (ix1 e) := by
  have hm : (⟨J.val % 33024, Nat.mod_lt _ (by omega)⟩ : Fin 33024) = j := Fin.ext (by show J.val % 33024 = j.val; omega)
  have hd : J.val / 33024 = h.val := by omega
  unfold dest
  show picks (words m c (ix2 _ ⟨J.val % 33024, _⟩)) _ (IntOp.addi (words m c (ix2 _ ⟨J.val % 33024, _⟩)) (Scalar.muli (BitVec.ofNat 32 (J.val / 33024)) 140288#32)) = _
  rw [hm, hd]
  refine (congrArg (fun a => picks a _ _) he).trans ?_
  exact picks_eq e _ _

/-- Both programs leave the same rows. -/
theorem bitexact : haveI := Cert.Layout.Gen.facts; haveI := Cert.LayoutReference.Gen.facts; haveI := Cert.Pre_experts.Gen.facts
    Cert.bitexact_Layout_LayoutReference_pre_experts := by
  intro m ρ m' ρ' hpre hagree
  refine ⟨fun c => dest m c, run m ρ, ?_⟩
  refine (θ_run Cert.LayoutReference.defs _ _).mono (fun _ h c => ⟨(h c).1.trans ?_, (h c).2⟩) (Cert.LayoutReference.Value.run (F := Bits) m' ρ')
  rw [table_eq m m' c (hagree c).2, (hagree c).1]
  funext y
  obtain ⟨k, h, j, J, hJ, rfl⟩ := exists_ix2_whole y
  obtain ⟨e, he⟩ := expert_of _ _ (hpre c) k j
  exact (destR_apply (starts m) _ k h j J hJ e he).trans (dest_apply m c k h j J hJ e he).symm

end Cert.Layout.Hand

/-! ## The reference's frame -/

namespace Cert.LayoutReference.Hand

open Idealize.ShloMosaic Idealize.SL.Sem
open Cert.LayoutReference

/-- The reference is host code alone: it runs to its end, leaves its arguments, and has no semaphore. -/
theorem frame (m : (ℓ : Loc nD τ sig) → Buf (Elt Bits) ℓ) (ρ : Dev nD → PrngReg) :
    θ_run defs (onTc (τ := τ) (main (F := Bits))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun r h => ⟨fun c => (h c).2, Idealize.ShloMosaic.sem_eq_zero_of_no_sems (by decide) r.2⟩)
    (Cert.LayoutReference.Value.run (F := Bits) m ρ)

end Cert.LayoutReference.Hand

end
-- ==== Proof.lean ====
module

public import proofs.«01_k».proof.Defs
public import proofs.«01_k».proof.Proof.Gen.Kernel
public import proofs.«01_k».proof.Proof.Gen.Reference
public import proofs.«01_k».proof.Proof.Gen.Reference.Frame
public import proofs.«01_k».proof.Proof.Gen.Pre_routed
public import proofs.«01_k».proof.Proof.Gen.Reference.Value
public import proofs.«01_k».proof.Proof.Gen.On_blocks_in_use
public import proofs.«01_k».proof.Proof.Frame
public import proofs.«01_k».proof.Proof.Exact
public import proofs.«01_k».proof.Proof.Combine
public import proofs.«01_k».proof.Proof.Layout

@[expose] public section

noncomputable section

namespace Cert.Proof

theorem claim : Cert.Claim := ⟨Cert.Kernel.Gen.facts, Cert.Reference.Gen.facts, Cert.Combine.Gen.facts, Cert.CombineIdeal.Gen.facts,
  Cert.CombineReferenceIdeal.Gen.facts, Cert.Layout.Gen.facts, Cert.LayoutReference.Gen.facts,
  Cert.Pre_routed.Gen.facts, Cert.Pre_experts.Gen.facts, Cert.On_blocks_in_use.Gen.facts,
  Cert.Kernel.Hand.frame, fun m ρ _ => Cert.Reference.Gen.frame m ρ, fun m ρ _ => Cert.Reference.Gen.frame m ρ,
  Cert.Combine.Hand.frame, fun m ρ _ => Cert.CombineIdeal.Hand.frame m ρ, Cert.CombineReferenceIdeal.Hand.frame,
  fun m ρ _ => Cert.Layout.Gen.frame m ρ (Cert.Layout.Hand.ok m), fun m ρ _ => Cert.Layout.Gen.frame m ρ (Cert.Layout.Hand.ok m),
  fun m ρ _ => Cert.LayoutReference.Hand.frame m ρ, fun m ρ _ => Cert.LayoutReference.Hand.frame m ρ,
  Cert.Exact.bitexact, trivial, Cert.CombineIdeal.Hand.algebraic, Cert.Layout.Hand.bitexact⟩

end Cert.Proof

end
